-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_inputs [hPre_finite_inputs : Cert.Pre_finite_inputs.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_inputs.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_inputs [hPre_finite_inputs : Cert.Pre_finite_inputs.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_inputs.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_gate_bounds [hPre_gate_bounds : Cert.Pre_gate_bounds.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_gate_bounds.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_gate_bounds [hPre_gate_bounds : Cert.Pre_gate_bounds.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_gate_bounds.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 [hPre_is_half : Cert.Pre_is_half.Facts] (m : (ℓ : Loc Cert.Kernel10.nD Cert.Kernel10.τ Cert.Kernel10.sig) → Buf (Elt Bits) ℓ) : Prop :=
  ∀ c : Dev Cert.Kernel10.nD,
    (Cert.Pre_is_half.fn (F := Bits) (m ((c.tc : Thread Cert.Kernel10.nD Cert.Kernel10.τ).loc Cert.Kernel10.main_arg0)) (m ((c.tc : Thread Cert.Kernel10.nD Cert.Kernel10.τ).loc Cert.Kernel10.main_arg1)) (m ((c.tc : Thread Cert.Kernel10.nD Cert.Kernel10.τ).loc Cert.Kernel10.main_arg2))) = (fun _ => 1#1)

def Pre_Kernel10Ideal [hPre_is_half : Cert.Pre_is_half.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_is_half.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_is_half [hPre_is_half : Cert.Pre_is_half.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_is_half.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite_inputs [hKernel5Ideal : Cert.Kernel5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_inputs m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite_inputs [hReference5Ideal : Cert.Reference5Ideal.Facts] [hPre_finite_inputs : Cert.Pre_finite_inputs.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_inputs m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_gate_bounds [hKernel7Ideal : Cert.Kernel7Ideal.Facts] [hPre_gate_bounds : Cert.Pre_gate_bounds.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_gate_bounds m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_gate_bounds [hReference7Ideal : Cert.Reference7Ideal.Facts] [hPre_gate_bounds : Cert.Pre_gate_bounds.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_gate_bounds m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] [hPre_is_half : Cert.Pre_is_half.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] [hPre_is_half : Cert.Pre_is_half.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_is_half [hReference10Ideal : Cert.Reference10Ideal.Facts] [hPre_is_half : Cert.Pre_is_half.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_is_half m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v59) = v2 c
          ∧ r.2.mem ((c.tc : Thread Cert.ReferenceIdeal.nD Cert.ReferenceIdeal.τ).loc Cert.ReferenceIdeal.main_v55) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v37) = v0 c
          ∧ r.2.mem ((c.tc : Thread Cert.Reference2Ideal.nD Cert.Reference2Ideal.τ).loc Cert.Reference2Ideal.main_v38) = v1 c
          ∧ r.2.mem ((c.tc : Thread Cert.Reference2Ideal.nD Cert.Reference2Ideal.τ).loc Cert.Reference2Ideal.main_v40) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v2_0)) (v2 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v2_0) = v1 c
          ∧ r.2.mem ((c.tc : Thread Cert.Kernel3Ideal.nD Cert.Kernel3Ideal.τ).loc Cert.Kernel3Ideal.main_v2_1) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_v41) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v57_0)) (v1 : (c : Dev Cert.Kernel4Ideal.nD) → Buf (Elt Ideal) ((c.tc : Thread Cert.Kernel4Ideal.nD Cert.Kernel4Ideal.τ).loc Cert.Kernel4Ideal.main_v57_1)) (v2 : (c : Dev Cert.Kernel4Ideal.nD) → Buf (Elt Ideal) ((c.tc : Thread Cert.Kernel4Ideal.nD Cert.Kernel4Ideal.τ).loc Cert.Kernel4Ideal.main_v57_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v57_0) = v0 c
          ∧ r.2.mem ((c.tc : Thread Cert.Kernel4Ideal.nD Cert.Kernel4Ideal.τ).loc Cert.Kernel4Ideal.main_v57_1) = v1 c
          ∧ r.2.mem ((c.tc : Thread Cert.Kernel4Ideal.nD Cert.Kernel4Ideal.τ).loc Cert.Kernel4Ideal.main_v57_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v158) = v0 c
          ∧ r.2.mem ((c.tc : Thread Cert.Reference4Ideal.nD Cert.Reference4Ideal.τ).loc Cert.Reference4Ideal.main_v159) = v1 c
          ∧ r.2.mem ((c.tc : Thread Cert.Reference4Ideal.nD Cert.Reference4Ideal.τ).loc Cert.Reference4Ideal.main_v162) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "mask" .f32 0xF149F2CA#32 ⊥

def algebraic_Kernel5Ideal_Reference5Ideal_pre_finite_inputs [hKernel5Ideal : Cert.Kernel5Ideal.Facts] [hReference5Ideal : Cert.Reference5Ideal.Facts] [hPre_finite_inputs : Cert.Pre_finite_inputs.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_inputs m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v93) = v0 c
          ∧ r.2.mem ((c.tc : Thread Cert.Reference5Ideal.nD Cert.Reference5Ideal.τ).loc Cert.Reference5Ideal.main_v95) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v21) = v0 c
          ∧ r.2.mem ((c.tc : Thread Cert.Reference6Ideal.nD Cert.Reference6Ideal.τ).loc Cert.Reference6Ideal.main_v22) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal_pre_gate_bounds [hKernel7Ideal : Cert.Kernel7Ideal.Facts] [hReference7Ideal : Cert.Reference7Ideal.Facts] [hPre_gate_bounds : Cert.Pre_gate_bounds.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_gate_bounds m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v62) = v0 c
          ∧ r.2.mem ((c.tc : Thread Cert.Reference7Ideal.nD Cert.Reference7Ideal.τ).loc Cert.Reference7Ideal.main_v41) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v23) = v0 c
          ∧ r.2.mem ((c.tc : Thread Cert.Reference8Ideal.nD Cert.Reference8Ideal.τ).loc Cert.Reference8Ideal.main_v4) = v1 c
          ∧ r.2.mem ((c.tc : Thread Cert.Reference8Ideal.nD Cert.Reference8Ideal.τ).loc Cert.Reference8Ideal.main_v10) = v2 c
          ∧ r.2.mem ((c.tc : Thread Cert.Reference8Ideal.nD Cert.Reference8Ideal.τ).loc Cert.Reference8Ideal.main_arg1) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] [hPre_is_half : Cert.Pre_is_half.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v11) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_finite : Cert.Pre_finite.Facts) (hPre_finite_inputs : Cert.Pre_finite_inputs.Facts) (hPre_gate_bounds : Cert.Pre_gate_bounds.Facts) (hPre_is_half : Cert.Pre_is_half.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Kernel5Ideal_pre_finite_inputs (hKernel5Ideal := hKernel5Ideal) (hPre_finite_inputs := hPre_finite_inputs)
    ∧ quiescent_Reference5Ideal (hReference5Ideal := hReference5Ideal)
    ∧ quiescent_Reference5Ideal_pre_finite_inputs (hReference5Ideal := hReference5Ideal) (hPre_finite_inputs := hPre_finite_inputs)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_gate_bounds (hKernel7Ideal := hKernel7Ideal) (hPre_gate_bounds := hPre_gate_bounds)
    ∧ quiescent_Reference7Ideal (hReference7Ideal := hReference7Ideal)
    ∧ quiescent_Reference7Ideal_pre_gate_bounds (hReference7Ideal := hReference7Ideal) (hPre_gate_bounds := hPre_gate_bounds)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10) (hPre_is_half := hPre_is_half)
    ∧ quiescent_Kernel10Ideal (hKernel10Ideal := hKernel10Ideal) (hPre_is_half := hPre_is_half)
    ∧ quiescent_Reference10Ideal (hReference10Ideal := hReference10Ideal)
    ∧ quiescent_Reference10Ideal_pre_is_half (hReference10Ideal := hReference10Ideal) (hPre_is_half := hPre_is_half)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal_pre_finite_inputs (hKernel5Ideal := hKernel5Ideal) (hReference5Ideal := hReference5Ideal) (hPre_finite_inputs := hPre_finite_inputs)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_gate_bounds (hKernel7Ideal := hKernel7Ideal) (hReference7Ideal := hReference7Ideal) (hPre_gate_bounds := hPre_gate_bounds)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal) (hPre_is_half := hPre_is_half)
-- ==== Pre_finite.lean ====
abbrev S128x256x16 : Shape := ⟨3, ![128, 256, 16]⟩
abbrev S1x16 : Shape := ⟨2, ![1, 16]⟩
abbrev S4096x1024 : Shape := ⟨2, ![4096, 1024]⟩
abbrev S4096x10752 : Shape := ⟨2, ![4096, 10752]⟩
abbrev S_ : Shape := ⟨0, ![]⟩
abbrev S4096x2560 : Shape := ⟨2, ![4096, 2560]⟩

class Facts : Prop where
  bcast_S_S128x256x16 : S_.BroadcastsInDim S128x256x16 (![] : Fin 0 → Fin S128x256x16.rank)
  reducesTo_S128x256x16_S_d0_1_2 : S128x256x16.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  slices_S4096x10752_S4096x2560_0_0 : S4096x10752.Slices ![0, 0] S4096x2560
  bcast_S_S4096x2560 : S_.BroadcastsInDim S4096x2560 (![] : Fin 0 → Fin S4096x2560.rank)
  reducesTo_S4096x2560_S_d0_1 : S4096x2560.ReducesTo [0, 1] S_

variable [Facts]

def fn_part1 {F : FTy → Type} [FloatOps F] (main_v14 : IVec S_ 1) (main_v16 : FVec F S4096x2560 .f32) (main_cst_4 : FVec F S_ .f32) : IVec S_ 1 :=
  let main_v17 : FVec F S4096x2560 .f32 := broadcastInDim S4096x2560 ![] bcast_S_S4096x2560 main_cst_4
  let main_v18 : IVec S4096x2560 1 := cmpf .olt main_v16 main_v17
  let main_c_5 : IVec S_ 1 := constantI S_ 1 1#1
  let main_v19 : IVec S_ 1 := (fun x v => Host.reduce IntOp.andi x v reducesTo_S4096x2560_S_d0_1 h_S_) main_v18 main_c_5
  let main_v20 : IVec S_ 1 := andi main_v14 main_v19
  main_v20

def fn {F : FTy → Type} [FloatOps F] (main_arg0 : FVec F S128x256x16 .f32) (main_arg1 : FVec F S1x16 .f32) (main_arg2 : FVec F S4096x1024 .bf16) (main_arg3 : FVec F S4096x10752 .f32) : IVec S_ 1 :=
  let main_v0 : FVec F S128x256x16 .f32 := Host.absf main_arg0
  let main_cst : FVec F S_ .f32 := constant S_ .f32 0x7F800000#32
  let main_v1 : FVec F S128x256x16 .f32 := broadcastInDim S128x256x16 ![] bcast_S_S128x256x16 main_cst
  let main_v2 : IVec S128x256x16 1 := cmpf .olt main_v0 main_v1
  let main_c : IVec S_ 1 := constantI S_ 1 1#1
  let main_v3 : IVec S_ 1 := (fun x v => Host.reduce IntOp.andi x v reducesTo_S128x256x16_S_d0_1_2 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  let main_v15 : FVec F S4096x2560 .f32 := (extractStridedSlice S4096x2560 ![0, 0] · slices_S4096x10752_S4096x2560_0_0) main_arg3
  let main_v16 : FVec F S4096x2560 .f32 := Host.absf main_v15
  let main_cst_4 : FVec F S_ .f32 := constant S_ .f32 0x7F800000#32
  fn_part1 (F := F) main_v14 main_v16 main_cst_4
-- ==== Pre_finite_inputs.lean ====
abbrev S128x256x16 : Shape := ⟨3, ![128, 256, 16]⟩
abbrev S1x16 : Shape := ⟨2, ![1, 16]⟩
abbrev S4096x10752 : Shape := ⟨2, ![4096, 10752]⟩
abbrev S_ : Shape := ⟨0, ![]⟩
abbrev S4096x2560 : Shape := ⟨2, ![4096, 2560]⟩

class Facts : Prop where
  bcast_S_S128x256x16 : S_.BroadcastsInDim S128x256x16 (![] : Fin 0 → Fin S128x256x16.rank)
  reducesTo_S128x256x16_S_d0_1_2 : S128x256x16.ReducesTo [0, 1, 2] S_
  h_S_ : 0 < S_.numel
  bcast_S_S1x16 : S_.BroadcastsInDim S1x16 (![] : Fin 0 → Fin S1x16.rank)
  reducesTo_S1x16_S_d0_1 : S1x16.ReducesTo [0, 1] S_
  slices_S4096x10752_S4096x2560_0_0 : S4096x10752.Slices ![0, 0] S4096x2560
  bcast_S_S4096x2560 : S_.BroadcastsInDim S4096x2560 (![] : Fin 0 → Fin S4096x2560.rank)
  reducesTo_S4096x2560_S_d0_1 : S4096x2560.ReducesTo [0, 1] S_

variable [Facts]

def fn {F : FTy → Type} [FloatOps F] (main_arg0 : FVec F S128x256x16 .f32) (main_arg1 : FVec F S1x16 .f32) (main_arg2 : FVec F S4096x10752 .f32) : IVec S_ 1 :=
  let main_v0 : FVec F S128x256x16 .f32 := Host.absf main_arg0
  let main_cst : FVec F S_ .f32 := constant S_ .f32 0x7F800000#32
  let main_v1 : FVec F S128x256x16 .f32 := broadcastInDim S128x256x16 ![] bcast_S_S128x256x16 main_cst
  let main_v2 : IVec S128x256x16 1 := cmpf .olt main_v0 main_v1
  let main_c : IVec S_ 1 := constantI S_ 1 1#1
  let main_v3 : IVec S_ 1 := (fun x v => Host.reduce IntOp.andi x v reducesTo_S128x256x16_S_d0_1_2 h_S_) main_v2 main_c
  let main_v4 : FVec F S1x16 .f32 := Host.absf main_arg1
  let main_cst_0 : FVec F S_ .f32 := constant S_ .f32 0x7F800000#32
  let main_v5 : FVec F S1x16 .f32 := broadcastInDim S1x16 ![] bcast_S_S1x16 main_cst_0
  let main_v6 : IVec S1x16 1 := cmpf .olt main_v4 main_v5
  let main_c_1 : IVec S_ 1 := constantI S_ 1 1#1
  let main_v7 : IVec S_ 1 := (fun x v => Host.reduce IntOp.andi x v reducesTo_S1x16_S_d0_1 h_S_) main_v6 main_c_1
  let main_v8 : IVec S_ 1 := andi main_v3 main_v7
  let main_v9 : FVec F S4096x2560 .f32 := (extractStridedSlice S4096x2560 ![0, 0] · slices_S4096x10752_S4096x2560_0_0) main_arg2
  let main_v10 : FVec F S4096x2560 .f32 := Host.absf main_v9
  let main_cst_2 : FVec F S_ .f32 := constant S_ .f32 0x7F800000#32
  let main_v11 : FVec F S4096x2560 .f32 := broadcastInDim S4096x2560 ![] bcast_S_S4096x2560 main_cst_2
  let main_v12 : IVec S4096x2560 1 := cmpf .olt main_v10 main_v11
  let main_c_3 : IVec S_ 1 := constantI S_ 1 1#1
  let main_v13 : IVec S_ 1 := (fun x v => Host.reduce IntOp.andi x v reducesTo_S4096x2560_S_d0_1 h_S_) main_v12 main_c_3
  let main_v14 : IVec S_ 1 := andi main_v8 main_v13
  main_v14
-- ==== Pre_gate_bounds.lean ====
abbrev S4096x10752 : Shape := ⟨2, ![4096, 10752]⟩
abbrev S1x1024 : Shape := ⟨2, ![1, 1024]⟩
abbrev S1x8x128 : Shape := ⟨3, ![1, 8, 128]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel

variable [Facts]

def fn {F : FTy → Type} [FloatOps F] (main_arg0 : FVec F S4096x10752 .f32) (main_arg1 : FVec F S1x1024 .f32) (main_arg2 : FVec F S1x8x128 .f32) : IVec S_ 1 :=
  let main_cst : FVec F S_ .f32 := constant S_ .f32 0x00000000#32
  let main_v0 : FVec F S1x1024 .f32 := broadcastInDim S1x1024 ![] bcast_S_S1x1024 main_cst
  let main_v1 : IVec S1x1024 1 := cmpf .ogt main_arg1 main_v0
  let main_cst_0 : FVec F S_ .f32 := constant S_ .f32 0x3F800000#32
  let main_v2 : FVec F S1x1024 .f32 := broadcastInDim S1x1024 ![] bcast_S_S1x1024 main_cst_0
  let main_v3 : IVec S1x1024 1 := cmpf .ole main_arg1 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  main_v5
-- ==== Pre_is_half.lean ====
abbrev S4096x2048 : Shape := ⟨2, ![4096, 2048]⟩
abbrev S4096x10752 : Shape := ⟨2, ![4096, 10752]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4096x2048 .bf16) (main_arg1 : FVec F S4096x10752 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== Kernel.lean ====
abbrev S4096x2048 : Shape := ⟨2, ![4096, 2048]⟩
abbrev S2x2048x2048 : Shape := ⟨3, ![2, 2048, 2048]⟩
abbrev S1x2048 : Shape := ⟨2, ![1, 2048]⟩
abbrev S1x1 : Shape := ⟨2, ![1, 1]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S2048 : Shape := ⟨1, ![2048]⟩

abbrev nBuf : Space → Nat
  | .hbm => 10
  | .vmem => 13
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .f32⟩
  | .hbm, ⟨2, _⟩ => ⟨S2x2048x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S4096x2048, .bf16⟩
  | .hbm, ⟨7, _⟩ => ⟨S4096x2048, .f32⟩
  | .hbm, ⟨8, _⟩ => ⟨S1x1, .f32⟩
  | .hbm, ⟨9, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S1x1, .f32⟩
  | .local _ .vmem, ⟨12, _⟩ => ⟨S1x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x2048 : Shape := ⟨2, ![4096, 2048]⟩
abbrev S2x2048x2048 : Shape := ⟨3, ![2, 2048, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩
abbrev S1x1 : Shape := ⟨2, ![1, 1]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x2048x2048, .f32⟩
  | .hbm, ⟨2, _⟩ => ⟨S2x2048x2048, .f32⟩
  | .hbm, ⟨3, _⟩ => ⟨S1x2048, .f32⟩
  | .hbm, ⟨4, _⟩ => ⟨S4096x2048, .f32⟩
  | .hbm, ⟨5, _⟩ => ⟨S2x2048x2048, .f32⟩
  | .hbm, ⟨6, _⟩ => ⟨S2048, .f32⟩
  | .hbm, ⟨7, _⟩ => ⟨S2x2048x2048, .f32⟩
  | .hbm, ⟨8, _⟩ => ⟨S_, .f32⟩
  | .hbm, ⟨9, _⟩ => ⟨S2x2048, .f32⟩
  | .hbm, ⟨10, _⟩ => ⟨S2x2048x1, .f32⟩
  | .hbm, ⟨11, _⟩ => ⟨S_, .f32⟩
  | .hbm, ⟨12, _⟩ => ⟨S2x2048x1, .f32⟩
  | .hbm, ⟨13, _⟩ => ⟨S2x2048x1, .f32⟩
  | .hbm, ⟨14, _⟩ => ⟨S_, .f32⟩
  | .hbm, ⟨15, _⟩ => ⟨S2x2048x1, .f32⟩
  | .hbm, ⟨16, _⟩ => ⟨S2x2048x1, .f32⟩
  | .hbm, ⟨17, _⟩ => ⟨S2x2048x1, .f32⟩
  | .hbm, ⟨18, _⟩ => ⟨S2x2048x1, .f32⟩
  | .hbm, ⟨19, _⟩ => ⟨S_, .f32⟩
  | .hbm, ⟨20, _⟩ => ⟨S2x2048x1, .f32⟩
  | .hbm, ⟨21, _⟩ => ⟨S2x2048x1, .f32⟩
  | .hbm, ⟨22, _⟩ => ⟨S2x2048x2048, .f32⟩
  | .hbm, ⟨23, _⟩ => ⟨S2x2048x2048, .f32⟩
  | .hbm, ⟨24, _⟩ => ⟨S1x1x2048, .f32⟩
  | .hbm, ⟨25, _⟩ => ⟨S2x2048x2048, .f32⟩
  | .hbm, ⟨26, _⟩ => ⟨S2x2048x2048, .f32⟩
  | .hbm, ⟨27, _⟩ => ⟨S2x2048x2048, .f32⟩
  | .hbm, ⟨28, _⟩ => ⟨S2x2048x2048, .f32⟩
  | .hbm, ⟨29, _⟩ => ⟨S2x2048x2048, .f32⟩
  | .hbm, ⟨30, _⟩ => ⟨S_, .f32⟩
  | .hbm, ⟨31, _⟩ => ⟨S2x2048x2048, .f32⟩
  | .hbm, ⟨32, _⟩ => ⟨S2x2048x2048, .f32⟩
  | .hbm, ⟨33, _⟩ => ⟨S_, .f32⟩
  | .hbm, ⟨34, _⟩ => ⟨S2x2048, .f32⟩
  | .hbm, ⟨35, _⟩ => ⟨S_, .f32⟩
  | .hbm, ⟨36, _⟩ => ⟨S2x2048, .f32⟩
  | .hbm, ⟨37, _⟩ => ⟨S2x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2x2048, .f32⟩
  | .hbm, ⟨46, _⟩ => ⟨S_, .f32⟩
  | .hbm, ⟨47, _⟩ => ⟨S2x2048, .f32⟩
  | .hbm, ⟨48, _⟩ => ⟨S2x2048, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S_, .f32⟩
  | .hbm, ⟨53, _⟩ => ⟨S2048, .f32⟩
  | .hbm, ⟨54, _⟩ => ⟨S1x1x2048, .f32⟩
  | .hbm, ⟨55, _⟩ => ⟨S2x2048x2048, .f32⟩
  | .hbm, ⟨56, _⟩ => ⟨S2x2048x2048, .f32⟩
  | .hbm, ⟨57, _⟩ => ⟨S_, .f32⟩
  | .hbm, ⟨58, _⟩ => ⟨S2048, .f32⟩
  | .hbm, ⟨59, _⟩ => ⟨S2x2048x2048, .f32⟩
  | .hbm, ⟨60, _⟩ => ⟨S_, .f32⟩
  | .hbm, ⟨61, _⟩ => ⟨S2x2048, .f32⟩
  | .hbm, ⟨62, _⟩ => ⟨S2x2048x1, .f32⟩
  | .hbm, ⟨63, _⟩ => ⟨S2x2048x2048, .f32⟩
  | .hbm, ⟨64, _⟩ => ⟨S2x2048x2048, .f32⟩
  | .hbm, ⟨65, _⟩ => ⟨S2x2048x1, .f32⟩
  | .hbm, ⟨66, _⟩ => ⟨S_, .f32⟩
  | .hbm, ⟨67, _⟩ => ⟨S2x2048x1, .f32⟩
  | .hbm, ⟨68, _⟩ => ⟨S2x2048x1, .f32⟩
  | .hbm, ⟨69, _⟩ => ⟨S_, .f32⟩
  | .hbm, ⟨70, _⟩ => ⟨S2x2048, .f32⟩
  | .hbm, ⟨71, _⟩ => ⟨S2x2048x2048, .f32⟩
  | .hbm, ⟨72, _⟩ => ⟨S2x2048x2048, .f32⟩
  | .hbm, ⟨73, _⟩ => ⟨S2x2048x2048, .f32⟩
  | .hbm, ⟨74, _⟩ => ⟨S2x2048x2048, .f32⟩
  | .hbm, ⟨75, _⟩ => ⟨S2x2048x2048, .f32⟩
  | .hbm, ⟨76, _⟩ => ⟨S1x2048, .f32⟩
  | .hbm, ⟨77, _⟩ => ⟨S4096x2048, .f32⟩
  | .hbm, ⟨78, _⟩ => ⟨S4096x2048, .bf16⟩
  | .hbm, ⟨79, _⟩ => ⟨S4096x2048, .f32⟩
  | .hbm, ⟨80, _⟩ => ⟨S1x1, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩
abbrev main_cst_8 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_cst_10 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_11 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_cst_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_14 : Ref sig .tc := ⟨.hbm, 66, rfl⟩
abbrev main_v47 : Ref sig .tc := ⟨.hbm, 67, rfl⟩
abbrev main_v48 : Ref sig .tc := ⟨.hbm, 68, rfl⟩
abbrev main_cst_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩

abbrev nD : Nat := 1
abbrev τ : Topo := Topo.v7x

variable {F : FTy → Type} [FloatOps F]
-- ==== Kernel2.lean ====
abbrev S4096x10752 : Shape := ⟨2, ![4096, 10752]⟩
abbrev S4096x2048 : Shape := ⟨2, ![4096, 2048]⟩
abbrev S4096x1024 : Shape := ⟨2, ![4096, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S2048x2048 : Shape := ⟨2, ![2048, 2048]⟩
abbrev S4096x4096 : Shape := ⟨2, ![4096, 4096]⟩
abbrev S512x2048 : Shape := ⟨2, ![512, 2048]⟩
abbrev S512x1024 : Shape := ⟨2, ![512, 1024]⟩
abbrev S512x4096 : Shape := ⟨2, ![512, 4096]⟩

abbrev nBuf : Space → Nat
  | .hbm => 15
  | .vmem => 18
  | .smem => 0
  | _ => 0

abbrev bufTy : (tb : Table) → Fin (tcTables nBuf tb) → BufTy
  | .hbm, ⟨0, _⟩ => ⟨S4096x10752, .f32⟩
  | .hbm, ⟨1, _⟩ => ⟨S4096x2048, .bf16⟩
  | .hbm, ⟨2, _⟩ => ⟨S4096x1024, .bf16⟩
  | .hbm, ⟨3, _⟩ => ⟨S1x1024x2048, .f32⟩
  | .hbm, ⟨4, _⟩ => ⟨S4096x2048, .bf16⟩
  | .hbm, ⟨5, _⟩ => ⟨S1x2048x2048, .f32⟩
  | .hbm, ⟨6, _⟩ => ⟨S1024x2048, .f32⟩
  | .hbm, ⟨7, _⟩ => ⟨S1024x2048, .bf16⟩
  | .hbm, ⟨8, _⟩ => ⟨S4096x2048, .f32⟩
  | .hbm, ⟨9, _⟩ => ⟨S4096x2048, .bf16⟩
  | .hbm, ⟨10, _⟩ => ⟨S2048x2048, .f32⟩
  | .hbm, ⟨11, _⟩ => ⟨S2048x2048, .bf16⟩
  | .hbm, ⟨12, _⟩ => ⟨S4096x2048, .bf16⟩
  | .hbm, ⟨13, _⟩ => ⟨S4096x2048, .bf16⟩
  | .hbm, ⟨14, _⟩ => ⟨S4096x4096, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v1 : BitVec 32 := Scalar.muli arg1 c1024_i32
  let v2 : BitVec 32 := Scalar.addi c6656_i32 v1
  v2
def k0_mult2 (i : grid0.Coords) : BitVec 32 :=
  let c8704_i32 : BitVec 32 := 8704#32
  let arg1 : BitVec 32 := BitVec.ofNat 32 (i 1).val
  let c1024_i32 : BitVec 32 := 1024#32
  let v1 : BitVec 32 := Scalar.muli arg1 c1024_i32
  let v2 : BitVec 32 := Scalar.addi c8704_i32 v1
  v2
def k0_cond1 (i : grid0.Coords) : BitVec 1 :=
  let arg1 : BitVec 32 := BitVec.ofNat 32 (i 1).val
  let c0_i32 : BitVec 32 := 0#32
  let v31 : BitVec 1 := Scalar.cmpi .eq arg1 c0_i32
  let v32 : BitVec 32 := Scalar.extui v31
  let c0_i32_17 : BitVec 32 := 0#32
  let v33 : BitVec 1 := Scalar.cmpi .ne v32 c0_i32_17
  v33

def k0_cond2 (i : grid0.Coords) : BitVec 1 :=
  let arg1 : BitVec 32 := BitVec.ofNat 32 (i 1).val
  let c0_i32_18 : BitVec 32 := 0#32
  let v34 : BitVec 1 := Scalar.cmpi .eq arg1 c0_i32_18
  let v35 : BitVec 32 := Scalar.extui v34
  let c0_i32_19 : BitVec 32 := 0#32
  let v36 : BitVec 1 := Scalar.cmpi .ne v35 c0_i32_19
  v36

def k0_cond3 (i : grid0.Coords) : BitVec 1 :=
  let arg1 : BitVec 32 := BitVec.ofNat 32 (i 1).val
  let c1_i32 : BitVec 32 := 1#32
  let v37 : BitVec 1 := Scalar.cmpi .eq arg1 c1_i32
  let v38 : BitVec 32 := Scalar.extui v37
  let c0_i32_20 : BitVec 32 := 0#32
  let v39 : BitVec 1 := Scalar.cmpi .ne v38 c0_i32_20
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c6656_i32 : BitVec 32 := 6656#32
  let v2 : BitVec 32 := Scalar.addi c6656_i32 v1
  let v3 : BitVec 32 := v2
  let c0_i32 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c8704_i32 : BitVec 32 := 8704#32
  let v2 : BitVec 32 := Scalar.addi c8704_i32 v1
  let v3 : BitVec 32 := v2
  let c0_i32 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x10752 : Shape := ⟨2, ![4096, 10752]⟩
abbrev S4096x2048 : Shape := ⟨2, ![4096, 2048]⟩
abbrev S4096x1024 : Shape := ⟨2, ![4096, 1024]⟩
abbrev S1x1024x2048 : Shape := ⟨3, ![1, 1024, 2048]⟩
abbrev S1x2048x2048 : Shape := ⟨3, ![1, 2048, 2048]⟩
abbrev S1024x2048 : Shape := ⟨2, ![1024, 2048]⟩
abbrev S_ : Shape := ⟨0, ![]⟩
abbrev S2048x2048 : Shape := ⟨2, ![2048, 2048]⟩
abbrev S4096x4096 : Shape := ⟨2, ![4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4096x2048, .bf16⟩
  | .hbm, ⟨2, _⟩ => ⟨S4096x1024, .bf16⟩
  | .hbm, ⟨3, _⟩ => ⟨S1x1024x2048, .f32⟩
  | .hbm, ⟨4, _⟩ => ⟨S4096x2048, .bf16⟩
  | .hbm, ⟨5, _⟩ => ⟨S1x2048x2048, .f32⟩
  | .hbm, ⟨6, _⟩ => ⟨S4096x2048, .f32⟩
  | .hbm, ⟨7, _⟩ => ⟨S4096x2048, .f32⟩
  | .hbm, ⟨8, _⟩ => ⟨S4096x1024, .f32⟩
  | .hbm, ⟨9, _⟩ => ⟨S1024x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S_, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S2048x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .bf16⟩
  | .hbm, ⟨50, _⟩ => ⟨S4096x2048, .bf16⟩
  | .hbm, ⟨51, _⟩ => ⟨S4096x4096, .f32⟩
  | .hbm, ⟨52, _⟩ => ⟨S4096x4096, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩

abbrev nD : Nat := 1
abbrev τ : Topo := Topo.v7x

variable {F : FTy → Type} [FloatOps F]
-- ==== Kernel3.lean ====
abbrev S2x2048x2048 : Shape := ⟨3, ![2, 2048, 2048]⟩
abbrev S1x2048 : Shape := ⟨2, ![1, 2048]⟩
abbrev S4096x2048 : Shape := ⟨2, ![4096, 2048]⟩
abbrev S4096x1 : Shape := ⟨2, ![4096, 1]⟩
abbrev S256x2048 : Shape := ⟨2, ![256, 2048]⟩
abbrev S256x1 : Shape := ⟨2, ![256, 1]⟩
abbrev S256 : Shape := ⟨1, ![256]⟩
abbrev S2048 : Shape := ⟨1, ![2048]⟩

abbrev nBuf : Space → Nat
  | .hbm => 9
  | .vmem => 19
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x1, .f32⟩
  | .hbm, ⟨7, _⟩ => ⟨S4096x2048, .f32⟩
  | .hbm, ⟨8, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | .local _ .vmem, ⟨5, _⟩ => ⟨S256x1, .f32⟩
  | .local _ .vmem, ⟨6, _⟩ => ⟨S256x1, .f32⟩
  | .local _ .vmem, ⟨7, _⟩ => ⟨S256x2048, .bf16⟩
  | .local _ .vmem, ⟨8, _⟩ => ⟨S256x2048, .bf16⟩
  | .local _ .vmem, ⟨9, _⟩ => ⟨S256x2048, .f32⟩
  | .local _ .vmem, ⟨10, _⟩ => ⟨S256x2048, .f32⟩
  | .local _ .vmem, ⟨11, _⟩ => ⟨S256x1, .f32⟩
  | .local _ .vmem, ⟨12, _⟩ => ⟨S256x1, .f32⟩
  | .local _ .vmem, ⟨13, _⟩ => ⟨S1x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | .local _ .vmem, ⟨18, _⟩ => ⟨S1x2048, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]
-- ==== Reference3Ideal.lean ====
abbrev S2x2048x2048 : Shape := ⟨3, ![2, 2048, 2048]⟩
abbrev S1x2048 : Shape := ⟨2, ![1, 2048]⟩
abbrev S4096x2048 : Shape := ⟨2, ![4096, 2048]⟩
abbrev S2048 : Shape := ⟨1, ![2048]⟩
abbrev S_ : Shape := ⟨0, ![]⟩
abbrev S2x2048 : Shape := ⟨2, ![2, 2048]⟩
abbrev S2x2048x1 : Shape := ⟨3, ![2, 2048, 1]⟩
abbrev S1x1x2048 : Shape := ⟨3, ![1, 1, 2048]⟩

abbrev nBuf : Space → Nat
  | .hbm => 58
  | .vmem => 0
  | .smem => 0
  | _ => 0

abbrev bufTy : (tb : Table) → Fin (tcTables nBuf tb) → BufTy
  | .hbm, ⟨0, _⟩ => ⟨S2x2048x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S2x2048x2048, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S_, .f32⟩
  | .hbm, ⟨13, _⟩ => ⟨S2x2048x1, .f32⟩
  | .hbm, ⟨14, _⟩ => ⟨S2x2048x1, .f32⟩
  | .hbm, ⟨15, _⟩ => ⟨S2x2048x1, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S2x2048x2048, .f32⟩
  | .hbm, ⟨21, _⟩ => ⟨S2x2048x2048, .f32⟩
  | .hbm, ⟨22, _⟩ => ⟨S1x1x2048, .f32⟩
  | .hbm, ⟨23, _⟩ => ⟨S2x2048x2048, .f32⟩
  | .hbm, ⟨24, _⟩ => ⟨S2x2048x2048, .f32⟩
  | .hbm, ⟨25, _⟩ => ⟨S2x2048x2048, .f32⟩
  | .hbm, ⟨26, _⟩ => ⟨S4096x2048, .f32⟩
  | .hbm, ⟨27, _⟩ => ⟨S2x2048x2048, .f32⟩
  | .hbm, ⟨28, _⟩ => ⟨S2x2048x2048, .f32⟩
  | .hbm, ⟨29, _⟩ => ⟨S_, .f32⟩
  | .hbm, ⟨30, _⟩ => ⟨S2048, .f32⟩
  | .hbm, ⟨31, _⟩ => ⟨S1x1x2048, .f32⟩
  | .hbm, ⟨32, _⟩ => ⟨S2x2048x2048, .f32⟩
  | .hbm, ⟨33, _⟩ => ⟨S2x2048x2048, .f32⟩
  | .hbm, ⟨34, _⟩ => ⟨S_, .f32⟩
  | .hbm, ⟨35, _⟩ => ⟨S2048, .f32⟩
  | .hbm, ⟨36, _⟩ => ⟨S2x2048x2048, .f32⟩
  | .hbm, ⟨37, _⟩ => ⟨S_, .f32⟩
  | .hbm, ⟨38, _⟩ => ⟨S2x2048, .f32⟩
  | .hbm, ⟨39, _⟩ => ⟨S2x2048x1, .f32⟩
  | .hbm, ⟨40, _⟩ => ⟨S2x2048x2048, .f32⟩
  | .hbm, ⟨41, _⟩ => ⟨S2x2048x2048, .f32⟩
  | .hbm, ⟨42, _⟩ => ⟨S2x2048x2048, .f32⟩
  | .hbm, ⟨43, _⟩ => ⟨S2x2048x1, .f32⟩
  | .hbm, ⟨44, _⟩ => ⟨S_, .f32⟩
  | .hbm, ⟨45, _⟩ => ⟨S2x2048x1, .f32⟩
  | .hbm, ⟨46, _⟩ => ⟨S2x2048x1, .f32⟩
  | .hbm, ⟨47, _⟩ => ⟨S_, .f32⟩
  | .hbm, ⟨48, _⟩ => ⟨S2x2048, .f32⟩
  | .hbm, ⟨49, _⟩ => ⟨S2x2048x2048, .f32⟩
  | .hbm, ⟨50, _⟩ => ⟨S2x2048x2048, .f32⟩
  | .hbm, ⟨51, _⟩ => ⟨S2x2048x2048, .f32⟩
  | .hbm, ⟨52, _⟩ => ⟨S2x2048x2048, .f32⟩
  | .hbm, ⟨53, _⟩ => ⟨S2x2048x2048, .f32⟩
  | .hbm, ⟨54, _⟩ => ⟨S1x2048, .f32⟩
  | .hbm, ⟨55, _⟩ => ⟨S4096x2048, .f32⟩
  | .hbm, ⟨56, _⟩ => ⟨S4096x2048, .bf16⟩
  | .hbm, ⟨57, _⟩ => ⟨S4096x2048, .f32⟩
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_cst_7 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel4.lean ====
abbrev S128x256x16 : Shape := ⟨3, ![128, 256, 16]⟩
abbrev S1x16 : Shape := ⟨2, ![1, 16]⟩
abbrev S4096x1024 : Shape := ⟨2, ![4096, 1024]⟩
abbrev S4096x10752 : Shape := ⟨2, ![4096, 10752]⟩
abbrev S16 : Shape := ⟨1, ![16]⟩
abbrev S2x16x128x4x4x64 : Shape := ⟨6, ![2, 16, 128, 4, 4, 64]⟩
abbrev S4096x256 : Shape := ⟨2, ![4096, 256]⟩
abbrev S2x2048x4x64 : Shape := ⟨4, ![2, 2048, 4, 64]⟩
abbrev S_ : Shape := ⟨0, ![]⟩
abbrev S2x128x4x64 : Shape := ⟨4, ![2, 128, 4, 64]⟩
abbrev S2x2176x4x64 : Shape := ⟨4, ![2, 2176, 4, 64]⟩
abbrev S2x17x128x4x64 : Shape := ⟨5, ![2, 17, 128, 4, 64]⟩
abbrev S2x16x128x4x64 : Shape := ⟨5, ![2, 16, 128, 4, 64]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S16x128x256 : Shape := ⟨3, ![16, 128, 256]⟩
abbrev S4x4x1x128x256 : Shape := ⟨5, ![4, 4, 1, 128, 256]⟩
abbrev S1x4x4x1x128x256 : Shape := ⟨6, ![1, 4, 4, 1, 128, 256]⟩
abbrev S4x4x1x1x1 : Shape := ⟨5, ![4, 4, 1, 1, 1]⟩
abbrev S2x4x4x16x128 : Shape := ⟨5, ![2, 4, 4, 16, 128]⟩
abbrev S2x4x4x16x128x1 : Shape := ⟨6, ![2, 4, 4, 16, 128, 1]⟩
abbrev S1x4x4x1x1x1 : Shape := ⟨6, ![1, 4, 4, 1, 1, 1]⟩
abbrev S2x16x128x4x4x256 : Shape := ⟨6, ![2, 16, 128, 4, 4, 256]⟩
abbrev S4096x4096 : Shape := ⟨2, ![4096, 4096]⟩
abbrev S4096x2560 : Shape := ⟨2, ![4096, 2560]⟩
abbrev S16x8x128 : Shape := ⟨3, ![16, 8, 128]⟩
abbrev S128x512 : Shape := ⟨2, ![128, 512]⟩
abbrev S128x128 : Shape := ⟨2, ![128, 128]⟩
abbrev S128x2048 : Shape := ⟨2, ![128, 2048]⟩
abbrev S128x2560 : Shape := ⟨2, ![128, 2560]⟩
abbrev S2x128x128 : Shape := ⟨3, ![2, 128, 128]⟩
abbrev S128x64 : Shape := ⟨2, ![128, 64]⟩
abbrev S256x64 : Shape := ⟨2, ![256, 64]⟩
abbrev S512x64 : Shape := ⟨2, ![512, 64]⟩
abbrev S128x256 : Shape := ⟨2, ![128, 256]⟩
abbrev S512x256 : Shape := ⟨2, ![512, 256]⟩
abbrev S512x1 : Shape := ⟨2, ![512, 1]⟩
abbrev S512 : Shape := ⟨1, ![512]⟩
abbrev S128x1 : Shape := ⟨2, ![128, 1]⟩
abbrev S1 : Shape := ⟨1, ![1]⟩
abbrev S1x1 : Shape := ⟨2, ![1, 1]⟩
abbrev S8x128 : Shape := ⟨2, ![8, 128]⟩
abbrev S1x128x64 : Shape := ⟨3, ![1, 128, 64]⟩
abbrev S1x128x256 : Shape := ⟨3, ![1, 128, 256]⟩
abbrev S1x8x128 : Shape := ⟨3, ![1, 8, 128]⟩

abbrev nBuf : Space → Nat
  | .hbm => 79
  | .vmem => 22
  | .smem => 0
  | _ => 0

abbrev bufTy : (tb : Table) → Fin (tcTables nBuf tb) → BufTy
  | .hbm, ⟨0, _⟩ => ⟨S128x256x16, .f32⟩
  | .hbm, ⟨1, _⟩ => ⟨S1x16, .f32⟩
  | .hbm, ⟨2, _⟩ => ⟨S4096x1024, .bf16⟩
  | .hbm, ⟨3, _⟩ => ⟨S4096x10752, .f32⟩
  | .hbm, ⟨4, _⟩ => ⟨S16, .f32⟩
  | .hbm, ⟨5, _⟩ => ⟨S4096x1024, .f32⟩
  | .hbm, ⟨6, _⟩ => ⟨S2x16x128x4x4x64, .f32⟩
  | .hbm, ⟨7, _⟩ => ⟨S4096x256, .f32⟩
  | .hbm, ⟨8, _⟩ => ⟨S2x2048x4x64, .f32⟩
  | .hbm, ⟨9, _⟩ => ⟨S_, .f32⟩
  | .hbm, ⟨10, _⟩ => ⟨S2x128x4x64, .f32⟩
  | .hbm, ⟨11, _⟩ => ⟨S2x2176x4x64, .f32⟩
  | .hbm, ⟨12, _⟩ => ⟨S2x17x128x4x64, .f32⟩
  | .hbm, ⟨13, _⟩ => ⟨S2x16x128x4x64, .f32⟩
  | .hbm, ⟨14, _⟩ => ⟨S2x16x128x4x64, .f32⟩
  | .hbm, ⟨15, _⟩ => ⟨S2x16x256x4x64, .f32⟩
  | .hbm, ⟨16, _⟩ => ⟨S2x4x16x256x128x4, .f32⟩
  | .hbm, ⟨17, _⟩ => ⟨S2x4x4x16x128x256, .f32⟩
  | .hbm, ⟨18, _⟩ => ⟨S_, .f32⟩
  | .hbm, ⟨19, _⟩ => ⟨S2x4x4x16x128x256, .f32⟩
  | .hbm, ⟨20, _⟩ => ⟨S2x4x4x16x128x256, .f32⟩
  | .hbm, ⟨21, _⟩ => ⟨S16x128x256, .f32⟩
  | .hbm, ⟨22, _⟩ => ⟨S4x4x1x128x256, .f32⟩
  | .hbm, ⟨23, _⟩ => ⟨S16x128x256, .i32⟩
  | .hbm, ⟨24, _⟩ => ⟨S16x128x256, .i32⟩
  | .hbm, ⟨25, _⟩ => ⟨S16x128x256, .i32⟩
  | .hbm, ⟨26, _⟩ => ⟨S_, .i32⟩
  | .hbm, ⟨27, _⟩ => ⟨S16x128x256, .i32⟩
  | .hbm, ⟨28, _⟩ => ⟨S16x128x256, .i32⟩
  | .hbm, ⟨29, _⟩ => ⟨S16x128x256, .i32⟩
  | .hbm, ⟨30, _⟩ => ⟨S_, .i32⟩
  | .hbm, ⟨31, _⟩ => ⟨S16x128x256, .i32⟩
  | .hbm, ⟨32, _⟩ => ⟨S16x128x256, .i1⟩
  | .hbm, ⟨33, _⟩ => ⟨S_, .i32⟩
  | .hbm, ⟨34, _⟩ => ⟨S16x128x256, .i32⟩
  | .hbm, ⟨35, _⟩ => ⟨S16x128x256, .i1⟩
  | .hbm, ⟨36, _⟩ => ⟨S16x128x256, .i1⟩
  | .hbm, ⟨37, _⟩ => ⟨S_, .i32⟩
  | .hbm, ⟨38, _⟩ => ⟨S16x128x256, .i32⟩
  | .hbm, ⟨39, _⟩ => ⟨S16x128x256, .i1⟩
  | .hbm, ⟨40, _⟩ => ⟨S_, .i32⟩
  | .hbm, ⟨41, _⟩ => ⟨S16x128x256, .i32⟩
  | .hbm, ⟨42, _⟩ => ⟨S16x128x256, .i1⟩
  | .hbm, ⟨43, _⟩ => ⟨S16x128x256, .i1⟩
  | .hbm, ⟨44, _⟩ => ⟨S16x128x256, .i1⟩
  | .hbm, ⟨45, _⟩ => ⟨S1x4x4x1x128x256, .f32⟩
  | .hbm, ⟨46, _⟩ => ⟨S2x4x4x16x128x256, .f32⟩
  | .hbm, ⟨47, _⟩ => ⟨S2x4x4x16x128x256, .f32⟩
  | .hbm, ⟨48, _⟩ => ⟨S_, .f32⟩
  | .hbm, ⟨49, _⟩ => ⟨S_, .f32⟩
  | .hbm, ⟨50, _⟩ => ⟨S2x4x4x16x128x256, .i1⟩
  | .hbm, ⟨51, _⟩ => ⟨S2x4x4x16x128x256, .f32⟩
  | .hbm, ⟨52, _⟩ => ⟨S2x4x4x16x128x256, .f32⟩
  | .hbm, ⟨53, _⟩ => ⟨S4x4x1x1x1, .f32⟩
  | .hbm, ⟨54, _⟩ => ⟨S_, .f32⟩
  | .hbm, ⟨55, _⟩ => ⟨S2x4x4x16x128, .f32⟩
  | .hbm, ⟨56, _⟩ => ⟨S2x4x4x16x128x1, .f32⟩
  | .hbm, ⟨57, _⟩ => ⟨S1x4x4x1x1x1, .f32⟩
  | .hbm, ⟨58, _⟩ => ⟨S2x4x4x16x128x1, .f32⟩
  | .hbm, ⟨59, _⟩ => ⟨S2x4x4x16x128x1, .f32⟩
  | .hbm, ⟨60, _⟩ => ⟨S_, .i32⟩
  | .hbm, ⟨61, _⟩ => ⟨S16x128x256, .i32⟩
  | .hbm, ⟨62, _⟩ => ⟨S16x128x256, .i1⟩
  | .hbm, ⟨63, _⟩ => ⟨S1x4x4x1x1x1, .f32⟩
  | .hbm, ⟨64, _⟩ => ⟨S2x4x4x16x128x1, .f32⟩
  | .hbm, ⟨65, _⟩ => ⟨S2x4x4x16x128x1, .f32⟩
  | .hbm, ⟨66, _⟩ => ⟨S2x4x4x16x128x1, .f32⟩
  | .hbm, ⟨67, _⟩ => ⟨S2x4x4x16x128x256, .f32⟩
  | .hbm, ⟨68, _⟩ => ⟨S2x4x4x16x128x256, .f32⟩
  | .hbm, ⟨69, _⟩ => ⟨S2x4x4x16x128x256, .f32⟩
  | .hbm, ⟨70, _⟩ => ⟨S2x4x4x16x128x256, .i1⟩
  | .hbm, ⟨71, _⟩ => ⟨S2x4x4x16x128x256, .f32⟩
  | .hbm, ⟨72, _⟩ => ⟨S2x4x4x16x128x256, .f32⟩
  | .hbm, ⟨73, _⟩ => ⟨S2x16x128x4x4x256, .f32⟩
  | .hbm, ⟨74, _⟩ => ⟨S4096x4096, .f32⟩
  | .hbm, ⟨75, _⟩ => ⟨S4096x4096, .bf16⟩
  | .hbm, ⟨76, _⟩ => ⟨S4096x2560, .bf16⟩
  | .hbm, ⟨77, _⟩ => ⟨S16x128x256, .f32⟩
  | .hbm, ⟨78, _⟩ => ⟨S16x8x128, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x512, .f32⟩
  | .local _ .vmem, ⟨11, _⟩ => ⟨S128x512, .f32⟩
  | .local _ .vmem, ⟨12, _⟩ => ⟨S128x2048, .bf16⟩
  | .local _ .vmem, ⟨13, _⟩ => ⟨S128x2048, .bf16⟩
  | .local _ .vmem, ⟨14, _⟩ => ⟨S128x512, .bf16⟩
  | .local _ .vmem, ⟨15, _⟩ => ⟨S128x512, .bf16⟩
  | .local _ .vmem, ⟨16, _⟩ => ⟨S128x2560, .bf16⟩
  | .local _ .vmem, ⟨17, _⟩ => ⟨S128x2560, .bf16⟩
  | .local _ .vmem, ⟨18, _⟩ => ⟨S16x128x256, .f32⟩
  | .local _ .vmem, ⟨19, _⟩ => ⟨S16x8x128, .f32⟩
  | .local _ .vmem, ⟨20, _⟩ => ⟨S2x128x128, .f32⟩
  | .local _ .vmem, ⟨21, _⟩ => ⟨S2x128x128, .f32⟩
  | _, _ => ⟨S128x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_c_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_c_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_call1_v0 : Ref sig .tc := ⟨.hbm, 70, rfl⟩
abbrev main_call1_v1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19

abbrev nD : Nat := 1
abbrev τ : Topo := Topo.v7x

variable {F : FTy → Type} [FloatOps F]

abbrev grid0 : Pipeline.Grid := ⟨3, ![2, 16, 2], ![false, false, false]⟩

def k0_mult1 (i : grid0.Coords) : BitVec 32 :=
  let c0_i32_1 : BitVec 32 := 0#32
  let arg2 : BitVec 32 := BitVec.ofNat 32 (i 2).val
  let c512_i32 : BitVec 32 := 512#32
  let v6 : BitVec 32 := Scalar.muli arg2 c512_i32
  let v7 : BitVec 32 := Scalar.addi c0_i32_1 v6
  v7
def k0_mult2 (i : grid0.Coords) : BitVec 32 :=
  let c1024_i32 : BitVec 32 := 1024#32
  let arg2 : BitVec 32 := BitVec.ofNat 32 (i 2).val
  let c128_i32_1 : BitVec 32 := 128#32
  let v6 : BitVec 32 := Scalar.muli arg2 c128_i32_1
  let v7 : BitVec 32 := Scalar.addi c1024_i32 v6
  v7
def k0_mult3 (i : grid0.Coords) : BitVec 32 :=
  let c1024_i32 : BitVec 32 := 1024#32
  let arg2 : BitVec 32 := BitVec.ofNat 32 (i 2).val
  let c128_i32_0 : BitVec 32 := 128#32
  let v6 : BitVec 32 := Scalar.muli arg2 c128_i32_0
  let v7 : BitVec 32 := Scalar.addi c1024_i32 v6
  v7
def k0_mult4 (i : grid0.Coords) : BitVec 32 :=
  let c1280_i32 : BitVec 32 := 1280#32
  let arg2 : BitVec 32 := BitVec.ofNat 32 (i 2).val
  let c128_i32_1 : BitVec 32 := 128#32
  let v6 : BitVec 32 := Scalar.muli arg2 c128_i32_1
  let v7 : BitVec 32 := Scalar.addi c1280_i32 v6
  v7
def k0_mult5 (i : grid0.Coords) : BitVec 32 :=
  let c1280_i32 : BitVec 32 := 1280#32
  let arg2 : BitVec 32 := BitVec.ofNat 32 (i 2).val
  let c128_i32_0 : BitVec 32 := 128#32
  let v6 : BitVec 32 := Scalar.muli arg2 c128_i32_0
  let v7 : BitVec 32 := Scalar.addi c1280_i32 v6
  v7
def k0_mult6 (i : grid0.Coords) : BitVec 32 :=
  let c1536_i32 : BitVec 32 := 1536#32
  let arg2 : BitVec 32 := BitVec.ofNat 32 (i 2).val
  let c512_i32 : BitVec 32 := 512#32
  let v6 : BitVec 32 := Scalar.muli arg2 c512_i32
  let v7 : BitVec 32 := Scalar.addi c1536_i32 v6
  v7
def k0_cond3 (i : grid0.Coords) : BitVec 1 :=
  let arg2 : BitVec 32 := BitVec.ofNat 32 (i 2).val
  let c0_i32_109 : BitVec 32 := 0#32
  let v270 : BitVec 1 := Scalar.cmpi .eq arg2 c0_i32_109
  let v271 : BitVec 32 := Scalar.extui v270
  let c0_i32_110 : BitVec 32 := 0#32
  let v272 : BitVec 1 := Scalar.cmpi .ne v271 c0_i32_110
  v272

def k0_cond4 (i : grid0.Coords) : BitVec 1 :=
  let arg2 : BitVec 32 := BitVec.ofNat 32 (i 2).val
  let c1_i32 : BitVec 32 := 1#32
  let v273 : BitVec 1 := Scalar.cmpi .eq arg2 c1_i32
  let v274 : BitVec 32 := Scalar.extui v273
  let c0_i32_111 : BitVec 32 := 0#32
  let v275 : BitVec 1 := Scalar.cmpi .ne v274 c0_i32_111
  v275

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let arg2 : BitVec 32 := BitVec.ofNat 32 (i 2).val
  let c0_i32_1 : BitVec 32 := 0#32
  let v3 : BitVec 1 := Scalar.cmpi .eq arg2 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c0_i32 : BitVec 32 := 0#32
  let v2 : BitVec 32 := Scalar.subi v1 c0_i32
  let c0_i32_0 : BitVec 32 := 0#32
  let v3 : BitVec 32 := Scalar.maxsi v2 c0_i32_0
  let v4 : BitVec 32 := Scalar.addi v0 v3
  let c128_i32 : BitVec 32 := 128#32
  let v5 : BitVec 32 := Scalar.muli v4 c128_i32
  let c512_i32 : BitVec 32 := 512#32
  let v6 : BitVec 32 := Scalar.muli arg2 c512_i32
  let c0_i32_1 : BitVec 32 := 0#32
  let v7 : BitVec 32 := Scalar.addi c0_i32_1 v6
  let v8 : BitVec 32 := v7
  let c0_i32_2 : BitVec 32 := 0#32
  ![v5.toNat, v8.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c0_i32 : BitVec 32 := 0#32
  let v2 : BitVec 32 := Scalar.subi v1 c0_i32
  let c0_i32_0 : BitVec 32 := 0#32
  let v3 : BitVec 32 := Scalar.maxsi v2 c0_i32_0
  let v4 : BitVec 32 := Scalar.addi v0 v3
  let c128_i32 : BitVec 32 := 128#32
  let v5 : BitVec 32 := Scalar.muli v4 c128_i32
  let c128_i32_1 : BitVec 32 := 128#32
  let v6 : BitVec 32 := Scalar.muli arg2 c128_i32_1
  let c1024_i32 : BitVec 32 := 1024#32
  let v7 : BitVec 32 := Scalar.addi c1024_i32 v6
  let v8 : BitVec 32 := v7
  let c0_i32_2 : BitVec 32 := 0#32
  ![v5.toNat, v8.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c128_i32 : BitVec 32 := 128#32
  let v5 : BitVec 32 := Scalar.muli v4 c128_i32
  let c128_i32_0 : BitVec 32 := 128#32
  let v6 : BitVec 32 := Scalar.muli arg2 c128_i32_0
  let c1024_i32 : BitVec 32 := 1024#32
  let v7 : BitVec 32 := Scalar.addi c1024_i32 v6
  let v8 : BitVec 32 := v7
  let c0_i32_1 : BitVec 32 := 0#32
  ![v5.toNat, v8.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c0_i32 : BitVec 32 := 0#32
  let v2 : BitVec 32 := Scalar.subi v1 c0_i32
  let c0_i32_0 : BitVec 32 := 0#32
  let v3 : BitVec 32 := Scalar.maxsi v2 c0_i32_0
  let v4 : BitVec 32 := Scalar.addi v0 v3
  let c128_i32 : BitVec 32 := 128#32
  let v5 : BitVec 32 := Scalar.muli v4 c128_i32
  let c128_i32_1 : BitVec 32 := 128#32
  let v6 : BitVec 32 := Scalar.muli arg2 c128_i32_1
  let c1280_i32 : BitVec 32 := 1280#32
  let v7 : BitVec 32 := Scalar.addi c1280_i32 v6
  let v8 : BitVec 32 := v7
  let c0_i32_2 : BitVec 32 := 0#32
  ![v5.toNat, v8.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c128_i32 : BitVec 32 := 128#32
  let v5 : BitVec 32 := Scalar.muli v4 c128_i32
  let c128_i32_0 : BitVec 32 := 128#32
  let v6 : BitVec 32 := Scalar.muli arg2 c128_i32_0
  let c1280_i32 : BitVec 32 := 1280#32
  let v7 : BitVec 32 := Scalar.addi c1280_i32 v6
  let v8 : BitVec 32 := v7
  let c0_i32_1 : BitVec 32 := 0#32
  ![v5.toNat, v8.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c15_i32 : BitVec 32 := 15#32
  let v1 : BitVec 32 := Scalar.subi c15_i32 arg1
  let c0_i32 : BitVec 32 := 0#32
  let v2 : BitVec 32 := Scalar.subi v1 c0_i32
  let c0_i32_0 : BitVec 32 := 0#32
  let v3 : BitVec 32 := Scalar.maxsi v2 c0_i32_0
  let v4 : BitVec 32 := Scalar.addi v0 v3
  let c128_i32 : BitVec 32 := 128#32
  let v5 : BitVec 32 := Scalar.muli v4 c128_i32
  let c512_i32 : BitVec 32 := 512#32
  let v6 : BitVec 32 := Scalar.muli arg2 c512_i32
  let c1536_i32 : BitVec 32 := 1536#32
  let v7 : BitVec 32 := Scalar.addi c1536_i32 v6
  let v8 : BitVec 32 := v7
  let c0_i32_1 : BitVec 32 := 0#32
  ![v5.toNat, v8.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  ![v3.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  ![v3.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c16_i32_0 : BitVec 32 := 16#32
  let v1 : BitVec 32 := Scalar.addi v0 c16_i32_0
  let c1_i32 : BitVec 32 := 1#32
  let v2 : BitVec 32 := Scalar.subi v1 c1_i32
  let v3 : BitVec 32 := Scalar.subi v2 arg1
  let c0_i32 : BitVec 32 := 0#32
  let c0_i32_1 : BitVec 32 := 0#32
  ![v3.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S128x2560 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S16x128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S16x8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference4Ideal.lean ====
abbrev S128x256x16 : Shape := ⟨3, ![128, 256, 16]⟩
abbrev S1x16 : Shape := ⟨2, ![1, 16]⟩
abbrev S4096x1024 : Shape := ⟨2, ![4096, 1024]⟩
abbrev S4096x10752 : Shape := ⟨2, ![4096, 10752]⟩
abbrev S4096x2560 : Shape := ⟨2, ![4096, 2560]⟩
abbrev S2x2048x2560 : Shape := ⟨3, ![2, 2048, 2560]⟩
abbrev S2x2048x1024 : Shape := ⟨3, ![2, 2048, 1024]⟩
abbrev S2x2048x256 : Shape := ⟨3, ![2, 2048, 256]⟩
abbrev S16 : Shape := ⟨1, ![16]⟩
abbrev S2x16x128x4x4x64 : Shape := ⟨6, ![2, 16, 128, 4, 4, 64]⟩
abbrev S2x2048x4x64 : Shape := ⟨4, ![2, 2048, 4, 64]⟩
abbrev S_ : Shape := ⟨0, ![]⟩
abbrev S2x128x4x64 : Shape := ⟨4, ![2, 128, 4, 64]⟩
abbrev S2x2176x4x64 : Shape := ⟨4, ![2, 2176, 4, 64]⟩
abbrev S2x17x128x4x64 : Shape := ⟨5, ![2, 17, 128, 4, 64]⟩
abbrev S2x16x128x4x64 : Shape := ⟨5, ![2, 16, 128, 4, 64]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S4x4x1x128x256 : Shape := ⟨5, ![4, 4, 1, 128, 256]⟩
abbrev S1x4x4x1x128x256 : Shape := ⟨6, ![1, 4, 4, 1, 128, 256]⟩
abbrev S4x4x1x1x1 : Shape := ⟨5, ![4, 4, 1, 1, 1]⟩
abbrev S2x4x4x16x128 : Shape := ⟨5, ![2, 4, 4, 16, 128]⟩
abbrev S2x4x4x16x128x1 : Shape := ⟨6, ![2, 4, 4, 16, 128, 1]⟩
abbrev S1x4x4x1x1x1 : Shape := ⟨6, ![1, 4, 4, 1, 1, 1]⟩
abbrev S2x16x4x64x4x128 : Shape := ⟨6, ![2, 16, 4, 64, 4, 128]⟩
abbrev S2x16x4x4x128x256 : Shape := ⟨6, ![2, 16, 4, 4, 128, 256]⟩
abbrev S2x16x4x64x256 : Shape := ⟨5, ![2, 16, 4, 64, 256]⟩
abbrev S4x4 : Shape := ⟨2, ![4, 4]⟩
abbrev S4x4x1 : Shape := ⟨3, ![4, 4, 1]⟩
abbrev S4x4x128x256 : Shape := ⟨4, ![4, 4, 128, 256]⟩
abbrev S2x4x16x128x4x64 : Shape := ⟨6, ![2, 4, 16, 128, 4, 64]⟩
abbrev S2x4x16x256x64 : Shape := ⟨5, ![2, 4, 16, 256, 64]⟩
abbrev S16x1x1 : Shape := ⟨3, ![16, 1, 1]⟩
abbrev S16x8x128 : Shape := ⟨3, ![16, 8, 128]⟩

abbrev nBuf : Space → Nat
  | .hbm => 215
  | .vmem => 0
  | .smem => 0
  | _ => 0

abbrev hbmTy0_0 (i : Nat) : BufTy := match i % 128 with
  | 0 => ⟨S128x256x16, .f32⟩
  | 1 => ⟨S1x16, .f32⟩
  | 2 => ⟨S4096x1024, .bf16⟩
  | 3 => ⟨S4096x10752, .f32⟩
  | 4 => ⟨S4096x2560, .f32⟩
  | 5 => ⟨S2x2048x2560, .f32⟩
  | 6 => ⟨S2x2048x1024, .f32⟩
  | 7 => ⟨S2x2048x256, .f32⟩
  | 8 => ⟨S2x2048x256, .f32⟩
  | 9 => ⟨S2x2048x1024, .f32⟩
  | 10 => ⟨S4096x1024, .f32⟩
  | 11 => ⟨S2x2048x1024, .f32⟩
  | 12 => ⟨S16, .f32⟩
  | 13 => ⟨S2x16x128x4x4x64, .f32⟩
  | 14 => ⟨S2x2048x4x64, .f32⟩
  | 15 => ⟨S_, .f32⟩
  | 16 => ⟨S2x128x4x64, .f32⟩
  | 17 => ⟨S2x2176x4x64, .f32⟩
  | 18 => ⟨S_, .f32⟩
  | 19 => ⟨S2x128x4x64, .f32⟩
  | 20 => ⟨S2x17x128x4x64, .f32⟩
  | 21 => ⟨S2x16x128x4x64, .f32⟩
  | 22 => ⟨S2x16x128x4x64, .f32⟩
  | 23 => ⟨S2x16x256x4x64, .f32⟩
  | 24 => ⟨S2x2048x4x64, .f32⟩
  | 25 => ⟨S_, .f32⟩
  | 26 => ⟨S2x128x4x64, .f32⟩
  | 27 => ⟨S2x2176x4x64, .f32⟩
  | 28 => ⟨S_, .f32⟩
  | 29 => ⟨S2x128x4x64, .f32⟩
  | 30 => ⟨S2x17x128x4x64, .f32⟩
  | 31 => ⟨S2x16x128x4x64, .f32⟩
  | 32 => ⟨S2x16x128x4x64, .f32⟩
  | 33 => ⟨S2x16x256x4x64, .f32⟩
  | 34 => ⟨S2x4x16x256x128x4, .f32⟩
  | 35 => ⟨S2x4x4x16x128x256, .f32⟩
  | 36 => ⟨S_, .f32⟩
  | 37 => ⟨S2x4x4x16x128x256, .f32⟩
  | 38 => ⟨S2x4x4x16x128x256, .f32⟩
  | 39 => ⟨S128, .i32⟩
  | 40 => ⟨S128x1, .i32⟩
  | 41 => ⟨S256, .i32⟩
  | 42 => ⟨S1x256, .i32⟩
  | 43 => ⟨S_, .i32⟩
  | 44 => ⟨S128x1, .i32⟩
  | 45 => ⟨S128x1, .i32⟩
  | 46 => ⟨S128x256, .i32⟩
  | 47 => ⟨S128x256, .i32⟩
  | 48 => ⟨S128x256, .i32⟩
  | 49 => ⟨S_, .i32⟩
  | 50 => ⟨S128x256, .i32⟩
  | 51 => ⟨S128x256, .i1⟩
  | 52 => ⟨S_, .i32⟩
  | 53 => ⟨S128x256, .i32⟩
  | 54 => ⟨S128x256, .i1⟩
  | 55 => ⟨S128x256, .i1⟩
  | 56 => ⟨S16, .i32⟩
  | 57 => ⟨S16x1, .i32⟩
  | 58 => ⟨S_, .i32⟩
  | 59 => ⟨S16x1, .i32⟩
  | 60 => ⟨S16x1, .i32⟩
  | 61 => ⟨S_, .i32⟩
  | 62 => ⟨S16x1, .i32⟩
  | 63 => ⟨S16x1, .i32⟩
  | 64 => ⟨S256, .i32⟩
  | 65 => ⟨S1x256, .i32⟩
  | 66 => ⟨S16x256, .i32⟩
  | 67 => ⟨S16x256, .i32⟩
  | 68 => ⟨S16x256, .i32⟩
  | 69 => ⟨S1x128x256, .i1⟩
  | 70 => ⟨S_, .i32⟩
  | 71 => ⟨S16x256, .i32⟩
  | 72 => ⟨S16x256, .i1⟩
  | 73 => ⟨S16x1x256, .i1⟩
  | 74 => ⟨S16x128x256, .i1⟩
  | 75 => ⟨S16x128x256, .i1⟩
  | 76 => ⟨S16x128x256, .i1⟩
  | 77 => ⟨S16x128x256, .f32⟩
  | 78 => ⟨S4x4x1x128x256, .f32⟩
  | 79 => ⟨S1x4x4x1x128x256, .f32⟩
  | 80 => ⟨S2x4x4x16x128x256, .f32⟩
  | 81 => ⟨S2x4x4x16x128x256, .f32⟩
  | 82 => ⟨S_, .f32⟩
  | 83 => ⟨S_, .f32⟩
  | 84 => ⟨S2x4x4x16x128x256, .i1⟩
  | 85 => ⟨S2x4x4x16x128x256, .f32⟩
  | 86 => ⟨S2x4x4x16x128x256, .f32⟩
  | 87 => ⟨S_, .f32⟩
  | 88 => ⟨S2x4x4x16x128x256, .f32⟩
  | 89 => ⟨S4x4x1x1x1, .f32⟩
  | 90 => ⟨S_, .f32⟩
  | 91 => ⟨S2x4x4x16x128, .f32⟩
  | 92 => ⟨S2x4x4x16x128x1, .f32⟩
  | 93 => ⟨S1x4x4x1x1x1, .f32⟩
  | 94 => ⟨S2x4x4x16x128x1, .f32⟩
  | 95 => ⟨S2x4x4x16x128x1, .f32⟩
  | 96 => ⟨S2x4x4x16x128x256, .f32⟩
  | 97 => ⟨S2x4x4x16x128x256, .f32⟩
  | 98 => ⟨S2x4x4x16x128x256, .f32⟩
  | 99 => ⟨S1x4x4x1x1x1, .f32⟩
  | 100 => ⟨S2x4x4x16x128x1, .f32⟩
  | 101 => ⟨S2x4x4x16x128x1, .f32⟩
  | 102 => ⟨S2x4x4x16x128x1, .f32⟩
  | 103 => ⟨S_, .f32⟩
  | 104 => ⟨S2x4x4x16x128, .f32⟩
  | 105 => ⟨S2x4x4x16x128x1, .f32⟩
  | 106 => ⟨S2x4x4x16x128x1, .f32⟩
  | 107 => ⟨S2x4x4x16x128x256, .f32⟩
  | 108 => ⟨S2x4x4x16x128x256, .f32⟩
  | 109 => ⟨S2x4x4x16x128x1, .f32⟩
  | 110 => ⟨S_, .f32⟩
  | 111 => ⟨S2x4x4x16x128x1, .f32⟩
  | 112 => ⟨S2x4x4x16x128x1, .f32⟩
  | 113 => ⟨S2x16x4x64x4x128, .f32⟩
  | 114 => ⟨S2x16x128x4x4x64, .f32⟩
  | 115 => ⟨S2x2048x1024, .f32⟩
  | 116 => ⟨S2x2048x1024, .f32⟩
  | 117 => ⟨S2x2048x1024, .f32⟩
  | 118 => ⟨S_, .f32⟩
  | 119 => ⟨S2x2048x1024, .f32⟩
  | 120 => ⟨S2x2048x1024, .f32⟩
  | 121 => ⟨S_, .f32⟩
  | 122 => ⟨S2x2048x1024, .f32⟩
  | 123 => ⟨S2x2048x1024, .f32⟩
  | 124 => ⟨S_, .f32⟩
  | 125 => ⟨S2x2048x1024, .f32⟩
  | 126 => ⟨S2x2048x1024, .f32⟩
  | 127 => ⟨S2x2048x1024, .f32⟩
  | _ => ⟨S128x256x16, .f32⟩

abbrev hbmTy0_1 (i : Nat) : BufTy := match i % 128 with
  | 0 => ⟨S2x2048x1024, .f32⟩
  | 1 => ⟨S2x2048x1024, .f32⟩
  | 2 => ⟨S2x2048x1024, .f32⟩
  | 3 => ⟨S2x2048x1024, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x16x128x4x4x64, .f32⟩
  | 9 => ⟨S2x16x4x64x4x128, .f32⟩
  | 10 => ⟨S2x16x4x4x128x256, .f32⟩
  | 11 => ⟨S2x4x4x16x128x256, .f32⟩
  | 12 => ⟨S2x16x4x64x256, .f32⟩
  | 13 => ⟨S2x16x256x4x64, .f32⟩
  | 14 => ⟨S2x4x4x16x128x256, .f32⟩
  | 15 => ⟨S2x4x4x16x128x256, .f32⟩
  | 16 => ⟨S2x4x4x16x128x256, .f32⟩
  | 17 => ⟨S_, .f32⟩
  | 18 => ⟨S2x4x4x16x128, .f32⟩
  | 19 => ⟨S2x4x4x16x128x1, .f32⟩
  | 20 => ⟨S2x4x4x16x128x1, .f32⟩
  | 21 => ⟨S2x4x4x16x128x256, .f32⟩
  | 22 => ⟨S2x4x4x16x128x256, .f32⟩
  | 23 => ⟨S_, .f32⟩
  | 24 => ⟨S2x4x4x16x128, .f32⟩
  | 25 => ⟨S2x4x4x16x128x256, .f32⟩
  | 26 => ⟨S2x4x4x16x128x256, .f32⟩
  | 27 => ⟨S2x4x4x16x128x1, .f32⟩
  | 28 => ⟨S_, .f32⟩
  | 29 => ⟨S4x4, .f32⟩
  | 30 => ⟨S4x4x1, .f32⟩
  | 31 => ⟨S1x4x4x1x1x1, .f32⟩
  | 32 => ⟨S_, .f32⟩
  | 33 => ⟨S4x4, .f32⟩
  | 34 => ⟨S4x4x1x1x1, .f32⟩
  | 35 => ⟨S2x4x4x16x128x256, .f32⟩
  | 36 => ⟨S16, .f32⟩
  | 37 => ⟨S_, .f32⟩
  | 38 => ⟨S2x4x4x16x128x256, .f32⟩
  | 39 => ⟨S2x4x4x16x128x256, .f32⟩
  | 40 => ⟨S_, .f32⟩
  | 41 => ⟨S4x4x128x256, .f32⟩
  | 42 => ⟨S1x4x4x1x128x256, .f32⟩
  | 43 => ⟨S_, .f32⟩
  | 44 => ⟨S4x4x128x256, .f32⟩
  | 45 => ⟨S4x4x1x128x256, .f32⟩
  | 46 => ⟨S16x128x256, .f32⟩
  | 47 => ⟨S128x256x16, .f32⟩
  | 48 => ⟨S_, .f32⟩
  | 49 => ⟨S2x4x4x16x128x256, .f32⟩
  | 50 => ⟨S2x4x4x16x128x256, .f32⟩
  | 51 => ⟨S2x4x16x256x128x4, .f32⟩
  | 52 => ⟨S2x4x16x128x4x64, .f32⟩
  | 53 => ⟨S2x16x128x4x4x64, .f32⟩
  | 54 => ⟨S2x4x16x256x64, .f32⟩
  | 55 => ⟨S2x16x256x4x64, .f32⟩
  | 56 => ⟨S2x16x128x4x64, .f32⟩
  | 57 => ⟨S2x16x128x4x64, .f32⟩
  | 58 => ⟨S_, .f32⟩
  | 59 => ⟨S2x17x128x4x64, .f32⟩
  | 60 => ⟨S_, .f32⟩
  | 61 => ⟨S2x17x128x4x64, .f32⟩
  | 62 => ⟨S2x17x128x4x64, .f32⟩
  | 63 => ⟨S2x2176x4x64, .f32⟩
  | 64 => ⟨S2x128x4x64, .f32⟩
  | 65 => ⟨S2x2048x4x64, .f32⟩
  | 66 => ⟨S2x2048x256, .f32⟩
  | 67 => ⟨S2x16x128x4x64, .f32⟩
  | 68 => ⟨S2x16x128x4x64, .f32⟩
  | 69 => ⟨S_, .f32⟩
  | 70 => ⟨S2x17x128x4x64, .f32⟩
  | 71 => ⟨S_, .f32⟩
  | 72 => ⟨S2x17x128x4x64, .f32⟩
  | 73 => ⟨S2x17x128x4x64, .f32⟩
  | 74 => ⟨S2x2176x4x64, .f32⟩
  | 75 => ⟨S2x128x4x64, .f32⟩
  | 76 => ⟨S2x2048x4x64, .f32⟩
  | 77 => ⟨S2x2048x256, .f32⟩
  | 78 => ⟨S2x2048x1024, .f32⟩
  | 79 => ⟨S1x16, .f32⟩
  | 80 => ⟨S2x2048x2560, .f32⟩
  | 81 => ⟨S4096x2560, .f32⟩
  | 82 => ⟨S4096x2560, .bf16⟩
  | 83 => ⟨S16x128x256, .f32⟩
  | 84 => ⟨S16, .f32⟩
  | 85 => ⟨S16x1x1, .f32⟩
  | 86 => ⟨S16x8x128, .f32⟩
  | _ => ⟨S128x256x16, .f32⟩

abbrev hbmTy (i : Nat) : BufTy := match i / 128 with
  | 0 => hbmTy0_0 i
  | 1 => hbmTy0_1 i
  | _ => ⟨S128x256x16, .f32⟩

abbrev bufTy : (tb : Table) → Fin (tcTables nBuf tb) → BufTy
  | .hbm, ⟨i, _⟩ => hbmTy i
  | _, _ => ⟨S128x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_c : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_c_6 : Ref sig .tc := ⟨.hbm, 58, rfl⟩
abbrev main_v46 : Ref sig .tc := ⟨.hbm, 59, rfl⟩
abbrev main_v47 : Ref sig .tc := ⟨.hbm, 60, rfl⟩
abbrev main_c_7 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_9 : Ref sig .tc := ⟨.hbm, 82, rfl⟩
abbrev main_call0_v0 : Ref sig .tc := ⟨.hbm, 83, rfl⟩
abbrev main_v67_1 : Ref sig .tc := ⟨.hbm, 84, rfl⟩
abbrev main_call0_v2 : Ref sig .tc := ⟨.hbm, 85, rfl⟩
abbrev main_v67_0 : Ref sig .tc := ⟨.hbm, 86, rfl⟩
abbrev main_call0_cst : Ref sig .tc := ⟨.hbm, 87, rfl⟩
abbrev main_v67_2 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_11 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_12 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_call1_v0 : Ref sig .tc := ⟨.hbm, 116, rfl⟩
abbrev main_call1_v1 : Ref sig .tc := ⟨.hbm, 117, rfl⟩
abbrev main_call1_cst : Ref sig .tc := ⟨.hbm, 118, rfl⟩
abbrev main_call1_v2 : Ref sig .tc := ⟨.hbm, 119, rfl⟩
abbrev main_call1_v3 : Ref sig .tc := ⟨.hbm, 120, rfl⟩
abbrev main_call1_cst_0 : Ref sig .tc := ⟨.hbm, 121, rfl⟩
abbrev main_call1_v4 : Ref sig .tc := ⟨.hbm, 122, rfl⟩
abbrev main_v92_2 : Ref sig .tc := ⟨.hbm, 123, rfl⟩
abbrev main_call1_cst_1 : Ref sig .tc := ⟨.hbm, 124, rfl⟩
abbrev main_call1_v6 : Ref sig .tc := ⟨.hbm, 125, rfl⟩
abbrev main_call1_v7 : Ref sig .tc := ⟨.hbm, 126, rfl⟩
abbrev main_v92_1 : Ref sig .tc := ⟨.hbm, 127, rfl⟩
abbrev main_v92_0 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_call2_v0 : Ref sig .tc := ⟨.hbm, 132, rfl⟩
abbrev main_call2_v1 : Ref sig .tc := ⟨.hbm, 133, rfl⟩
abbrev main_call2_v2 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_13 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_14 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_cst_15 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_cst_16 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_call3_cst : Ref sig .tc := ⟨.hbm, 165, rfl⟩
abbrev main_call3_v0 : Ref sig .tc := ⟨.hbm, 166, rfl⟩
abbrev main_v122 : Ref sig .tc := ⟨.hbm, 167, rfl⟩
abbrev main_cst_17 : Ref sig .tc := ⟨.hbm, 168, rfl⟩
abbrev main_v123 : Ref sig .tc := ⟨.hbm, 169, rfl⟩
abbrev main_v124 : Ref sig .tc := ⟨.hbm, 170, rfl⟩
abbrev main_cst_18 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_19 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_cst_20 : Ref sig .tc := ⟨.hbm, 186, rfl⟩
abbrev main_v138 : Ref sig .tc := ⟨.hbm, 187, rfl⟩
abbrev main_cst_21 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_cst_22 : Ref sig .tc := ⟨.hbm, 197, rfl⟩
abbrev main_v147 : Ref sig .tc := ⟨.hbm, 198, rfl⟩
abbrev main_cst_23 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩

abbrev nD : Nat := 1
abbrev τ : Topo := Topo.v7x

variable {F : FTy → Type} [FloatOps F]
-- ==== Kernel5.lean ====
abbrev S128x256x16 : Shape := ⟨3, ![128, 256, 16]⟩
abbrev S1x16 : Shape := ⟨2, ![1, 16]⟩
abbrev S4096x10752 : Shape := ⟨2, ![4096, 10752]⟩
abbrev S16x128x256 : Shape := ⟨3, ![16, 128, 256]⟩
abbrev S16 : Shape := ⟨1, ![16]⟩
abbrev S16x1x1 : Shape := ⟨3, ![16, 1, 1]⟩
abbrev S16x8x128 : Shape := ⟨3, ![16, 8, 128]⟩
abbrev S4096x1024 : Shape := ⟨2, ![4096, 1024]⟩
abbrev S4096x4096 : Shape := ⟨2, ![4096, 4096]⟩
abbrev S128x1024 : Shape := ⟨2, ![128, 1024]⟩
abbrev S128x256 : Shape := ⟨2, ![128, 256]⟩
abbrev S128x4096 : Shape := ⟨2, ![128, 4096]⟩
abbrev S128x64 : Shape := ⟨2, ![128, 64]⟩
abbrev S256x64 : Shape := ⟨2, ![256, 64]⟩
abbrev S512x64 : Shape := ⟨2, ![512, 64]⟩
abbrev S1x128x256 : Shape := ⟨3, ![1, 128, 256]⟩
abbrev S512x256 : Shape := ⟨2, ![512, 256]⟩
abbrev S1x1x1 : Shape := ⟨3, ![1, 1, 1]⟩
abbrev S1x1 : Shape := ⟨2, ![1, 1]⟩
abbrev S128x1 : Shape := ⟨2, ![128, 1]⟩
abbrev S512x1 : Shape := ⟨2, ![512, 1]⟩
abbrev S512 : Shape := ⟨1, ![512]⟩

abbrev nBuf : Space → Nat
  | .hbm => 9
  | .vmem => 18
  | .smem => 0
  | _ => 0

abbrev bufTy : (tb : Table) → Fin (tcTables nBuf tb) → BufTy
  | .hbm, ⟨0, _⟩ => ⟨S128x256x16, .f32⟩
  | .hbm, ⟨1, _⟩ => ⟨S1x16, .f32⟩
  | .hbm, ⟨2, _⟩ => ⟨S4096x10752, .f32⟩
  | .hbm, ⟨3, _⟩ => ⟨S16x128x256, .f32⟩
  | .hbm, ⟨4, _⟩ => ⟨S16, .f32⟩
  | .hbm, ⟨5, _⟩ => ⟨S16x1x1, .f32⟩
  | .hbm, ⟨6, _⟩ => ⟨S16x8x128, .f32⟩
  | .hbm, ⟨7, _⟩ => ⟨S4096x1024, .bf16⟩
  | .hbm, ⟨8, _⟩ => ⟨S4096x4096, .bf16⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x1024, .f32⟩
  | .local _ .vmem, ⟨11, _⟩ => ⟨S128x1024, .f32⟩
  | .local _ .vmem, ⟨12, _⟩ => ⟨S16x128x256, .f32⟩
  | .local _ .vmem, ⟨13, _⟩ => ⟨S16x8x128, .f32⟩
  | .local _ .vmem, ⟨14, _⟩ => ⟨S128x1024, .bf16⟩
  | .local _ .vmem, ⟨15, _⟩ => ⟨S128x1024, .bf16⟩
  | .local _ .vmem, ⟨16, _⟩ => ⟨S128x4096, .bf16⟩
  | .local _ .vmem, ⟨17, _⟩ => ⟨S128x4096, .bf16⟩
  | _, _ => ⟨S128x256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c128_i32 : BitVec 32 := 128#32
  let v4 : BitVec 32 := Scalar.muli v3 c128_i32
  let c0_i32_1 : BitVec 32 := 0#32
  let c0_i32_2 : BitVec 32 := 0#32
  ![v4.toNat, c0_i32_1.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c128_i32 : BitVec 32 := 128#32
  let v4 : BitVec 32 := Scalar.muli v3 c128_i32
  let c1024_i32 : BitVec 32 := 1024#32
  let c0_i32_1 : BitVec 32 := 0#32
  ![v4.toNat, c1024_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c128_i32 : BitVec 32 := 128#32
  let v4 : BitVec 32 := Scalar.muli v3 c128_i32
  let c1024_i32 : BitVec 32 := 1024#32
  let c0_i32_0 : BitVec 32 := 0#32
  ![v4.toNat, c1024_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c128_i32 : BitVec 32 := 128#32
  let v4 : BitVec 32 := Scalar.muli v3 c128_i32
  let c1280_i32 : BitVec 32 := 1280#32
  let c0_i32_1 : BitVec 32 := 0#32
  ![v4.toNat, c1280_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c128_i32 : BitVec 32 := 128#32
  let v4 : BitVec 32 := Scalar.muli v3 c128_i32
  let c1280_i32 : BitVec 32 := 1280#32
  let c0_i32_0 : BitVec 32 := 0#32
  ![v4.toNat, c1280_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.subi arg1 c0_i32
  let c0_i32_0 : BitVec 32 := 0#32
  let v2 : BitVec 32 := Scalar.maxsi v1 c0_i32_0
  let v3 : BitVec 32 := Scalar.addi v0 v2
  let c128_i32 : BitVec 32 := 128#32
  let v4 : BitVec 32 := Scalar.muli v3 c128_i32
  let c1536_i32 : BitVec 32 := 1536#32
  let c0_i32_1 : BitVec 32 := 0#32
  ![v4.toNat, c1536_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S16x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S16x8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "mask" => some ⊥
  | _ => none
-- ==== Reference5Ideal.lean ====
abbrev S128x256x16 : Shape := ⟨3, ![128, 256, 16]⟩
abbrev S1x16 : Shape := ⟨2, ![1, 16]⟩
abbrev S4096x10752 : Shape := ⟨2, ![4096, 10752]⟩
abbrev S4096x2560 : Shape := ⟨2, ![4096, 2560]⟩
abbrev S2x2048x2560 : Shape := ⟨3, ![2, 2048, 2560]⟩
abbrev S2x2048x1024 : Shape := ⟨3, ![2, 2048, 1024]⟩
abbrev S2x2048x256 : Shape := ⟨3, ![2, 2048, 256]⟩
abbrev S16 : Shape := ⟨1, ![16]⟩
abbrev S2x16x128x4x4x64 : Shape := ⟨6, ![2, 16, 128, 4, 4, 64]⟩
abbrev S2x2048x4x64 : Shape := ⟨4, ![2, 2048, 4, 64]⟩
abbrev S_ : Shape := ⟨0, ![]⟩
abbrev S2x128x4x64 : Shape := ⟨4, ![2, 128, 4, 64]⟩
abbrev S2x2176x4x64 : Shape := ⟨4, ![2, 2176, 4, 64]⟩
abbrev S2x17x128x4x64 : Shape := ⟨5, ![2, 17, 128, 4, 64]⟩
abbrev S2x16x128x4x64 : Shape := ⟨5, ![2, 16, 128, 4, 64]⟩
abbrev S2x16x256x4x64 : Shape := ⟨5, ![2, 16, 256, 4, 64]⟩
abbrev S2x4x16x256x128x4 : Shape := ⟨6, ![2, 4, 16, 256, 128, 4]⟩
abbrev S2x4x4x16x128x256 : Shape := ⟨6, ![2, 4, 4, 16, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S4x4x1x128x256 : Shape := ⟨5, ![4, 4, 1, 128, 256]⟩
abbrev S1x4x4x1x128x256 : Shape := ⟨6, ![1, 4, 4, 1, 128, 256]⟩
abbrev S4x4x1x1x1 : Shape := ⟨5, ![4, 4, 1, 1, 1]⟩
abbrev S2x4x4x16x128 : Shape := ⟨5, ![2, 4, 4, 16, 128]⟩
abbrev S2x4x4x16x128x1 : Shape := ⟨6, ![2, 4, 4, 16, 128, 1]⟩
abbrev S1x4x4x1x1x1 : Shape := ⟨6, ![1, 4, 4, 1, 1, 1]⟩
abbrev S2x16x4x64x4x128 : Shape := ⟨6, ![2, 16, 4, 64, 4, 128]⟩
abbrev S2x16x128x4x4x256 : Shape := ⟨6, ![2, 16, 128, 4, 4, 256]⟩
abbrev S4096x1024 : Shape := ⟨2, ![4096, 1024]⟩
abbrev S4096x4096 : Shape := ⟨2, ![4096, 4096]⟩

abbrev nBuf : Space → Nat
  | .hbm => 125
  | .vmem => 0
  | .smem => 0
  | _ => 0

abbrev bufTy : (tb : Table) → Fin (tcTables nBuf tb) → BufTy
  | .hbm, ⟨0, _⟩ => ⟨S128x256x16, .f32⟩
  | .hbm, ⟨1, _⟩ => ⟨S1x16, .f32⟩
  | .hbm, ⟨2, _⟩ => ⟨S4096x10752, .f32⟩
  | .hbm, ⟨3, _⟩ => ⟨S4096x2560, .f32⟩
  | .hbm, ⟨4, _⟩ => ⟨S2x2048x2560, .f32⟩
  | .hbm, ⟨5, _⟩ => ⟨S2x2048x1024, .f32⟩
  | .hbm, ⟨6, _⟩ => ⟨S2x2048x256, .f32⟩
  | .hbm, ⟨7, _⟩ => ⟨S2x2048x256, .f32⟩
  | .hbm, ⟨8, _⟩ => ⟨S2x2048x1024, .f32⟩
  | .hbm, ⟨9, _⟩ => ⟨S16, .f32⟩
  | .hbm, ⟨10, _⟩ => ⟨S2x16x128x4x4x64, .f32⟩
  | .hbm, ⟨11, _⟩ => ⟨S2x2048x4x64, .f32⟩
  | .hbm, ⟨12, _⟩ => ⟨S_, .f32⟩
  | .hbm, ⟨13, _⟩ => ⟨S2x128x4x64, .f32⟩
  | .hbm, ⟨14, _⟩ => ⟨S2x2176x4x64, .f32⟩
  | .hbm, ⟨15, _⟩ => ⟨S2x17x128x4x64, .f32⟩
  | .hbm, ⟨16, _⟩ => ⟨S2x16x128x4x64, .f32⟩
  | .hbm, ⟨17, _⟩ => ⟨S2x16x128x4x64, .f32⟩
  | .hbm, ⟨18, _⟩ => ⟨S2x16x256x4x64, .f32⟩
  | .hbm, ⟨19, _⟩ => ⟨S2x2048x4x64, .f32⟩
  | .hbm, ⟨20, _⟩ => ⟨S_, .f32⟩
  | .hbm, ⟨21, _⟩ => ⟨S2x128x4x64, .f32⟩
  | .hbm, ⟨22, _⟩ => ⟨S2x2176x4x64, .f32⟩
  | .hbm, ⟨23, _⟩ => ⟨S2x17x128x4x64, .f32⟩
  | .hbm, ⟨24, _⟩ => ⟨S2x16x128x4x64, .f32⟩
  | .hbm, ⟨25, _⟩ => ⟨S2x16x128x4x64, .f32⟩
  | .hbm, ⟨26, _⟩ => ⟨S2x16x256x4x64, .f32⟩
  | .hbm, ⟨27, _⟩ => ⟨S2x4x16x256x128x4, .f32⟩
  | .hbm, ⟨28, _⟩ => ⟨S2x4x4x16x128x256, .f32⟩
  | .hbm, ⟨29, _⟩ => ⟨S_, .f32⟩
  | .hbm, ⟨30, _⟩ => ⟨S2x4x4x16x128x256, .f32⟩
  | .hbm, ⟨31, _⟩ => ⟨S2x4x4x16x128x256, .f32⟩
  | .hbm, ⟨32, _⟩ => ⟨S128, .i32⟩
  | .hbm, ⟨33, _⟩ => ⟨S128x1, .i32⟩
  | .hbm, ⟨34, _⟩ => ⟨S256, .i32⟩
  | .hbm, ⟨35, _⟩ => ⟨S1x256, .i32⟩
  | .hbm, ⟨36, _⟩ => ⟨S_, .i32⟩
  | .hbm, ⟨37, _⟩ => ⟨S128x1, .i32⟩
  | .hbm, ⟨38, _⟩ => ⟨S128x1, .i32⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i1⟩
  | .hbm, ⟨49, _⟩ => ⟨S16, .i32⟩
  | .hbm, ⟨50, _⟩ => ⟨S16x1, .i32⟩
  | .hbm, ⟨51, _⟩ => ⟨S_, .i32⟩
  | .hbm, ⟨52, _⟩ => ⟨S16x1, .i32⟩
  | .hbm, ⟨53, _⟩ => ⟨S16x1, .i32⟩
  | .hbm, ⟨54, _⟩ => ⟨S_, .i32⟩
  | .hbm, ⟨55, _⟩ => ⟨S16x1, .i32⟩
  | .hbm, ⟨56, _⟩ => ⟨S16x1, .i32⟩
  | .hbm, ⟨57, _⟩ => ⟨S256, .i32⟩
  | .hbm, ⟨58, _⟩ => ⟨S1x256, .i32⟩
  | .hbm, ⟨59, _⟩ => ⟨S16x256, .i32⟩
  | .hbm, ⟨60, _⟩ => ⟨S16x256, .i32⟩
  | .hbm, ⟨61, _⟩ => ⟨S16x256, .i32⟩
  | .hbm, ⟨62, _⟩ => ⟨S1x128x256, .i1⟩
  | .hbm, ⟨63, _⟩ => ⟨S_, .i32⟩
  | .hbm, ⟨64, _⟩ => ⟨S16x256, .i32⟩
  | .hbm, ⟨65, _⟩ => ⟨S16x256, .i1⟩
  | .hbm, ⟨66, _⟩ => ⟨S16x1x256, .i1⟩
  | .hbm, ⟨67, _⟩ => ⟨S16x128x256, .i1⟩
  | .hbm, ⟨68, _⟩ => ⟨S16x128x256, .i1⟩
  | .hbm, ⟨69, _⟩ => ⟨S16x128x256, .i1⟩
  | .hbm, ⟨70, _⟩ => ⟨S16x128x256, .f32⟩
  | .hbm, ⟨71, _⟩ => ⟨S4x4x1x128x256, .f32⟩
  | .hbm, ⟨72, _⟩ => ⟨S1x4x4x1x128x256, .f32⟩
  | .hbm, ⟨73, _⟩ => ⟨S2x4x4x16x128x256, .f32⟩
  | .hbm, ⟨74, _⟩ => ⟨S2x4x4x16x128x256, .f32⟩
  | .hbm, ⟨75, _⟩ => ⟨S_, .f32⟩
  | .hbm, ⟨76, _⟩ => ⟨S_, .f32⟩
  | .hbm, ⟨77, _⟩ => ⟨S2x4x4x16x128x256, .i1⟩
  | .hbm, ⟨78, _⟩ => ⟨S2x4x4x16x128x256, .f32⟩
  | .hbm, ⟨79, _⟩ => ⟨S2x4x4x16x128x256, .f32⟩
  | .hbm, ⟨80, _⟩ => ⟨S4x4x1x1x1, .f32⟩
  | .hbm, ⟨81, _⟩ => ⟨S_, .f32⟩
  | .hbm, ⟨82, _⟩ => ⟨S2x4x4x16x128, .f32⟩
  | .hbm, ⟨83, _⟩ => ⟨S2x4x4x16x128x1, .f32⟩
  | .hbm, ⟨84, _⟩ => ⟨S1x4x4x1x1x1, .f32⟩
  | .hbm, ⟨85, _⟩ => ⟨S2x4x4x16x128x1, .f32⟩
  | .hbm, ⟨86, _⟩ => ⟨S2x4x4x16x128x1, .f32⟩
  | .hbm, ⟨87, _⟩ => ⟨S2x4x4x16x128x256, .f32⟩
  | .hbm, ⟨88, _⟩ => ⟨S2x4x4x16x128x256, .f32⟩
  | .hbm, ⟨89, _⟩ => ⟨S2x4x4x16x128x256, .f32⟩
  | .hbm, ⟨90, _⟩ => ⟨S1x4x4x1x1x1, .f32⟩
  | .hbm, ⟨91, _⟩ => ⟨S2x4x4x16x128x1, .f32⟩
  | .hbm, ⟨92, _⟩ => ⟨S2x4x4x16x128x1, .f32⟩
  | .hbm, ⟨93, _⟩ => ⟨S2x4x4x16x128x1, .f32⟩
  | .hbm, ⟨94, _⟩ => ⟨S_, .f32⟩
  | .hbm, ⟨95, _⟩ => ⟨S2x4x4x16x128, .f32⟩
  | .hbm, ⟨96, _⟩ => ⟨S2x4x4x16x128x1, .f32⟩
  | .hbm, ⟨97, _⟩ => ⟨S2x4x4x16x128x1, .f32⟩
  | .hbm, ⟨98, _⟩ => ⟨S2x4x4x16x128x256, .f32⟩
  | .hbm, ⟨99, _⟩ => ⟨S2x4x4x16x128x256, .f32⟩
  | .hbm, ⟨100, _⟩ => ⟨S2x16x4x64x4x128, .f32⟩
  | .hbm, ⟨101, _⟩ => ⟨S2x16x128x4x4x64, .f32⟩
  | .hbm, ⟨102, _⟩ => ⟨S2x2048x1024, .f32⟩
  | .hbm, ⟨103, _⟩ => ⟨S256, .i32⟩
  | .hbm, ⟨104, _⟩ => ⟨S_, .i32⟩
  | .hbm, ⟨105, _⟩ => ⟨S256, .i32⟩
  | .hbm, ⟨106, _⟩ => ⟨S256, .i1⟩
  | .hbm, ⟨107, _⟩ => ⟨S2x4x4x16x128x256, .i1⟩
  | .hbm, ⟨108, _⟩ => ⟨S2x4x4x16x128x256, .f32⟩
  | .hbm, ⟨109, _⟩ => ⟨S2x4x4x16x128x256, .f32⟩
  | .hbm, ⟨110, _⟩ => ⟨S2x16x128x4x4x256, .f32⟩
  | .hbm, ⟨111, _⟩ => ⟨S2x2048x1024, .f32⟩
  | .hbm, ⟨112, _⟩ => ⟨S2x2048x1024, .f32⟩
  | .hbm, ⟨113, _⟩ => ⟨S_, .f32⟩
  | .hbm, ⟨114, _⟩ => ⟨S2x2048x1024, .f32⟩
  | .hbm, ⟨115, _⟩ => ⟨S2x2048x1024, .f32⟩
  | .hbm, ⟨116, _⟩ => ⟨S_, .f32⟩
  | .hbm, ⟨117, _⟩ => ⟨S2x2048x1024, .f32⟩
  | .hbm, ⟨118, _⟩ => ⟨S2x2048x1024, .f32⟩
  | .hbm, ⟨119, _⟩ => ⟨S2x2048x1024, .f32⟩
  | .hbm, ⟨120, _⟩ => ⟨S2x2048x1024, .f32⟩
  | .hbm, ⟨121, _⟩ => ⟨S4096x1024, .f32⟩
  | .hbm, ⟨122, _⟩ => ⟨S4096x1024, .bf16⟩
  | .hbm, ⟨123, _⟩ => ⟨S4096x4096, .f32⟩
  | .hbm, ⟨124, _⟩ => ⟨S4096x4096, .bf16⟩
  | _, _ => ⟨S128x256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_c : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_c_2 : Ref sig .tc := ⟨.hbm, 42, rfl⟩
abbrev main_v35 : Ref sig .tc := ⟨.hbm, 43, rfl⟩
abbrev main_v36 : Ref sig .tc := ⟨.hbm, 44, rfl⟩
abbrev main_c_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_c_4 : Ref sig .tc := ⟨.hbm, 51, rfl⟩
abbrev main_v42 : Ref sig .tc := ⟨.hbm, 52, rfl⟩
abbrev main_v43 : Ref sig .tc := ⟨.hbm, 53, rfl⟩
abbrev main_c_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_6 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_cst_7 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v63 : Ref sig .tc := ⟨.hbm, 79, rfl⟩
abbrev main_v64 : Ref sig .tc := ⟨.hbm, 80, rfl⟩
abbrev main_cst_8 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_c_10 : Ref sig .tc := ⟨.hbm, 104, rfl⟩
abbrev main_v86 : Ref sig .tc := ⟨.hbm, 105, rfl⟩
abbrev main_v87 : Ref sig .tc := ⟨.hbm, 106, rfl⟩
abbrev main_call1_v0 : Ref sig .tc := ⟨.hbm, 107, rfl⟩
abbrev main_call1_v1 : Ref sig .tc := ⟨.hbm, 108, rfl⟩
abbrev main_v88 : Ref sig .tc := ⟨.hbm, 109, rfl⟩
abbrev main_v89 : Ref sig .tc := ⟨.hbm, 110, rfl⟩
abbrev main_call2_v0 : Ref sig .tc := ⟨.hbm, 111, rfl⟩
abbrev main_call2_v1 : Ref sig .tc := ⟨.hbm, 112, rfl⟩
abbrev main_call2_cst : Ref sig .tc := ⟨.hbm, 113, rfl⟩
abbrev main_call2_v2 : Ref sig .tc := ⟨.hbm, 114, rfl⟩
abbrev main_call2_v3 : Ref sig .tc := ⟨.hbm, 115, rfl⟩
abbrev main_call2_cst_0 : Ref sig .tc := ⟨.hbm, 116, rfl⟩
abbrev main_call2_v4 : Ref sig .tc := ⟨.hbm, 117, rfl⟩
abbrev main_call2_v5 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Kernel6.lean ====
abbrev S4096x10752 : Shape := ⟨2, ![4096, 10752]⟩
abbrev S4096x2048 : Shape := ⟨2, ![4096, 2048]⟩
abbrev S4096x1024 : Shape := ⟨2, ![4096, 1024]⟩
abbrev S1x1024x2048 : Shape := ⟨3, ![1, 1024, 2048]⟩
abbrev S1024x2048 : Shape := ⟨2, ![1024, 2048]⟩
abbrev S512x1024 : Shape := ⟨2, ![512, 1024]⟩
abbrev S1024x1024 : Shape := ⟨2, ![1024, 1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x10752, .f32⟩
  | .hbm, ⟨1, _⟩ => ⟨S4096x2048, .bf16⟩
  | .hbm, ⟨2, _⟩ => ⟨S4096x1024, .bf16⟩
  | .hbm, ⟨3, _⟩ => ⟨S1x1024x2048, .f32⟩
  | .hbm, ⟨4, _⟩ => ⟨S1024x2048, .f32⟩
  | .hbm, ⟨5, _⟩ => ⟨S1024x2048, .bf16⟩
  | .hbm, ⟨6, _⟩ => ⟨S4096x2048, .bf16⟩
  | .hbm, ⟨7, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def k0_mult1 (i : grid0.Coords) : BitVec 32 :=
  let c6656_i32 : BitVec 32 := 6656#32
  let arg1 : BitVec 32 := BitVec.ofNat 32 (i 1).val
  let c1024_i32 : BitVec 32 := 1024#32
  let v1 : BitVec 32 := Scalar.muli arg1 c1024_i32
  let v2 : BitVec 32 := Scalar.addi c6656_i32 v1
  v2
def k0_mult2 (i : grid0.Coords) : BitVec 32 :=
  let c8704_i32 : BitVec 32 := 8704#32
  let arg1 : BitVec 32 := BitVec.ofNat 32 (i 1).val
  let c1024_i32 : BitVec 32 := 1024#32
  let v1 : BitVec 32 := Scalar.muli arg1 c1024_i32
  let v2 : BitVec 32 := Scalar.addi c8704_i32 v1
  v2
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c6656_i32 : BitVec 32 := 6656#32
  let v2 : BitVec 32 := Scalar.addi c6656_i32 v1
  let v3 : BitVec 32 := v2
  let c0_i32 : BitVec 32 := 0#32
  ![v0.toNat, v3.toNat]

def cc0_transform_3 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c1024_i32 : BitVec 32 := 1024#32
  let v1 : BitVec 32 := Scalar.muli arg1 c1024_i32
  let c8704_i32 : BitVec 32 := 8704#32
  let v2 : BitVec 32 := Scalar.addi c8704_i32 v1
  let v3 : BitVec 32 := v2
  let c0_i32 : BitVec 32 := 0#32
  ![v0.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4096x10752 : Shape := ⟨2, ![4096, 10752]⟩
abbrev S4096x2048 : Shape := ⟨2, ![4096, 2048]⟩
abbrev S4096x1024 : Shape := ⟨2, ![4096, 1024]⟩
abbrev S1x1024x2048 : Shape := ⟨3, ![1, 1024, 2048]⟩
abbrev S1024x2048 : Shape := ⟨2, ![1024, 2048]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x10752, .f32⟩
  | .hbm, ⟨1, _⟩ => ⟨S4096x2048, .bf16⟩
  | .hbm, ⟨2, _⟩ => ⟨S4096x1024, .bf16⟩
  | .hbm, ⟨3, _⟩ => ⟨S1x1024x2048, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S1024x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .bf16⟩
  | .hbm, ⟨30, _⟩ => ⟨S4096x2048, .bf16⟩
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel7.lean ====
abbrev S4096x10752 : Shape := ⟨2, ![4096, 10752]⟩
abbrev S1x1024 : Shape := ⟨2, ![1, 1024]⟩
abbrev S1x8x128 : Shape := ⟨3, ![1, 8, 128]⟩
abbrev S8x128 : Shape := ⟨2, ![8, 128]⟩
abbrev S4096x1024 : Shape := ⟨2, ![4096, 1024]⟩
abbrev S2x32x8x128x128 : Shape := ⟨5, ![2, 32, 8, 128, 128]⟩
abbrev S64x1024 : Shape := ⟨2, ![64, 1024]⟩
abbrev S1x1x8x128x128 : Shape := ⟨5, ![1, 1, 8, 128, 128]⟩
abbrev S8x128x128 : Shape := ⟨3, ![8, 128, 128]⟩
abbrev S64x64 : Shape := ⟨2, ![64, 64]⟩
abbrev S64x256 : Shape := ⟨2, ![64, 256]⟩
abbrev S1x128x128 : Shape := ⟨3, ![1, 128, 128]⟩
abbrev S128x128 : Shape := ⟨2, ![128, 128]⟩
abbrev S1x1x1x128x128 : Shape := ⟨5, ![1, 1, 1, 128, 128]⟩
abbrev S64x128 : Shape := ⟨2, ![64, 128]⟩
abbrev S256x128 : Shape := ⟨2, ![256, 128]⟩
abbrev S64 : Shape := ⟨1, ![64]⟩
abbrev S64x1 : Shape := ⟨2, ![64, 1]⟩
abbrev S1x128 : Shape := ⟨2, ![1, 128]⟩

abbrev nBuf : Space → Nat
  | .hbm => 7
  | .vmem => 16
  | .smem => 0
  | _ => 0

abbrev bufTy : (tb : Table) → Fin (tcTables nBuf tb) → BufTy
  | .hbm, ⟨0, _⟩ => ⟨S4096x10752, .f32⟩
  | .hbm, ⟨1, _⟩ => ⟨S1x1024, .f32⟩
  | .hbm, ⟨2, _⟩ => ⟨S1x8x128, .f32⟩
  | .hbm, ⟨3, _⟩ => ⟨S8x128, .f32⟩
  | .hbm, ⟨4, _⟩ => ⟨S1x1024, .f32⟩
  | .hbm, ⟨5, _⟩ => ⟨S4096x1024, .bf16⟩
  | .hbm, ⟨6, _⟩ => ⟨S2x32x8x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .bf16⟩
  | .local _ .vmem, ⟨11, _⟩ => ⟨S64x1024, .bf16⟩
  | .local _ .vmem, ⟨12, _⟩ => ⟨S1x1x8x128x128, .f32⟩
  | .local _ .vmem, ⟨13, _⟩ => ⟨S1x1x8x128x128, .f32⟩
  | .local _ .vmem, ⟨14, _⟩ => ⟨S8x128x128, .f32⟩
  | .local _ .vmem, ⟨15, _⟩ => ⟨S64x1024, .f32⟩
  | _, _ => ⟨S4096x10752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.muli v1 c64_i32
  let c2560_i32 : BitVec 32 := 2560#32
  let c0_i32 : BitVec 32 := 0#32
  ![v2.toNat, c2560_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.muli v1 c64_i32
  let c3584_i32 : BitVec 32 := 3584#32
  let c0_i32 : BitVec 32 := 0#32
  ![v2.toNat, c3584_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.muli v1 c64_i32
  let c4608_i32 : BitVec 32 := 4608#32
  let c0_i32 : BitVec 32 := 0#32
  ![v2.toNat, c4608_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c64_i32 : BitVec 32 := 64#32
  let v2 : BitVec 32 := Scalar.muli v1 c64_i32
  let c5632_i32 : BitVec 32 := 5632#32
  let c0_i32 : BitVec 32 := 0#32
  ![v2.toNat, c5632_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S4096x10752 : Shape := ⟨2, ![4096, 10752]⟩
abbrev S1x1024 : Shape := ⟨2, ![1, 1024]⟩
abbrev S1x8x128 : Shape := ⟨3, ![1, 8, 128]⟩
abbrev S4096x3072 : Shape := ⟨2, ![4096, 3072]⟩
abbrev S2x2048x3072 : Shape := ⟨3, ![2, 2048, 3072]⟩
abbrev S2x2048x1024 : Shape := ⟨3, ![2, 2048, 1024]⟩
abbrev S1024 : Shape := ⟨1, ![1024]⟩
abbrev S_ : Shape := ⟨0, ![]⟩
abbrev S1x1x1024 : Shape := ⟨3, ![1, 1, 1024]⟩
abbrev S2x32x64x8x128 : Shape := ⟨5, ![2, 32, 64, 8, 128]⟩
abbrev S32x2x8x64x128 : Shape := ⟨5, ![32, 2, 8, 64, 128]⟩
abbrev S64x64 : Shape := ⟨2, ![64, 64]⟩
abbrev S2x8x128x128 : Shape := ⟨4, ![2, 8, 128, 128]⟩
abbrev S32x2x8x128x128 : Shape := ⟨5, ![32, 2, 8, 128, 128]⟩
abbrev S1x2x8x64x128 : Shape := ⟨5, ![1, 2, 8, 64, 128]⟩
abbrev S2x8x64x128 : Shape := ⟨4, ![2, 8, 64, 128]⟩
abbrev S2x8x64x1x128 : Shape := ⟨5, ![2, 8, 64, 1, 128]⟩
abbrev S2x8x1x64x128 : Shape := ⟨5, ![2, 8, 1, 64, 128]⟩
abbrev S2x8x64x64x128 : Shape := ⟨5, ![2, 8, 64, 64, 128]⟩
abbrev S64x64x1 : Shape := ⟨3, ![64, 64, 1]⟩
abbrev S2x8x64x64 : Shape := ⟨4, ![2, 8, 64, 64]⟩
abbrev S2x8x1x128 : Shape := ⟨4, ![2, 8, 1, 128]⟩
abbrev S2x8x128 : Shape := ⟨3, ![2, 8, 128]⟩
abbrev S2x8x128x1 : Shape := ⟨4, ![2, 8, 128, 1]⟩
abbrev S1x2x8x128x128 : Shape := ⟨5, ![1, 2, 8, 128, 128]⟩
abbrev S2x2048x8x128 : Shape := ⟨4, ![2, 2048, 8, 128]⟩
abbrev S2x32x8x128x128 : Shape := ⟨5, ![2, 32, 8, 128, 128]⟩
abbrev S4096x1024 : Shape := ⟨2, ![4096, 1024]⟩
abbrev S2x2048x8 : Shape := ⟨3, ![2, 2048, 8]⟩
abbrev S2x2048x8x1 : Shape := ⟨4, ![2, 2048, 8, 1]⟩
abbrev S8x128 : Shape := ⟨2, ![8, 128]⟩
abbrev S1x1x8x128 : Shape := ⟨4, ![1, 1, 8, 128]⟩

abbrev nBuf : Space → Nat
  | .hbm => 189
  | .vmem => 0
  | .smem => 0
  | _ => 0

abbrev hbmTy0_0 (i : Nat) : BufTy := match i % 128 with
  | 0 => ⟨S4096x10752, .f32⟩
  | 1 => ⟨S1x1024, .f32⟩
  | 2 => ⟨S1x8x128, .f32⟩
  | 3 => ⟨S4096x3072, .f32⟩
  | 4 => ⟨S2x2048x3072, .f32⟩
  | 5 => ⟨S2x2048x1024, .f32⟩
  | 6 => ⟨S2x2048x1024, .f32⟩
  | 7 => ⟨S2x2048x1024, .f32⟩
  | 8 => ⟨S1024, .f32⟩
  | 9 => ⟨S_, .f32⟩
  | 10 => ⟨S1024, .f32⟩
  | 11 => ⟨S1024, .f32⟩
  | 12 => ⟨S2x2048x1024, .f32⟩
  | 13 => ⟨S2x2048x1024, .f32⟩
  | 14 => ⟨S_, .f32⟩
  | 15 => ⟨S2x2048x1024, .f32⟩
  | 16 => ⟨S2x2048x1024, .f32⟩
  | 17 => ⟨S_, .f32⟩
  | 18 => ⟨S2x2048x1024, .f32⟩
  | 19 => ⟨S2x2048x1024, .f32⟩
  | 20 => ⟨S1x1x1024, .f32⟩
  | 21 => ⟨S2x2048x1024, .f32⟩
  | 22 => ⟨S2x2048x1024, .f32⟩
  | 23 => ⟨S1x1x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S_, .f32⟩
  | 29 => ⟨S2x2048x1024, .f32⟩
  | 30 => ⟨S2x2048x1024, .f32⟩
  | 31 => ⟨S_, .f32⟩
  | 32 => ⟨S2x2048x1024, .f32⟩
  | 33 => ⟨S2x2048x1024, .f32⟩
  | 34 => ⟨S2x2048x1024, .f32⟩
  | 35 => ⟨S2x32x64x8x128, .f32⟩
  | 36 => ⟨S32x2x8x64x128, .f32⟩
  | 37 => ⟨S_, .f32⟩
  | 38 => ⟨S2x2048x1024, .f32⟩
  | 39 => ⟨S2x2048x1024, .f32⟩
  | 40 => ⟨S2x32x64x8x128, .f32⟩
  | 41 => ⟨S32x2x8x64x128, .f32⟩
  | 42 => ⟨S2x32x64x8x128, .f32⟩
  | 43 => ⟨S32x2x8x64x128, .f32⟩
  | 44 => ⟨S2x2048x1024, .f32⟩
  | 45 => ⟨S2x32x64x8x128, .f32⟩
  | 46 => ⟨S32x2x8x64x128, .f32⟩
  | 47 => ⟨S_, .f32⟩
  | 48 => ⟨S_, .f32⟩
  | 49 => ⟨S32x2x8x64x128, .f32⟩
  | 50 => ⟨S_, .i1⟩
  | 51 => ⟨S64x64, .i1⟩
  | 52 => ⟨S64x64, .i32⟩
  | 53 => ⟨S_, .i32⟩
  | 54 => ⟨S64x64, .i32⟩
  | 55 => ⟨S64x64, .i32⟩
  | 56 => ⟨S64x64, .i32⟩
  | 57 => ⟨S64x64, .i1⟩
  | 58 => ⟨S_, .i1⟩
  | 59 => ⟨S64x64, .i1⟩
  | 60 => ⟨S64x64, .i1⟩
  | 61 => ⟨S_, .f32⟩
  | 62 => ⟨S2x8x128x128, .f32⟩
  | 63 => ⟨S_, .f32⟩
  | 64 => ⟨S32x2x8x64x128, .f32⟩
  | 65 => ⟨S_, .f32⟩
  | 66 => ⟨S32x2x8x128x128, .f32⟩
  | 67 => ⟨S_, .i32⟩
  | 68 => ⟨S32x2x8x64x128, .f32⟩
  | 69 => ⟨S32x2x8x64x128, .f32⟩
  | 70 => ⟨S32x2x8x64x128, .f32⟩
  | 71 => ⟨S32x2x8x64x128, .f32⟩
  | 72 => ⟨S64x64, .i1⟩
  | 73 => ⟨S_, .i32⟩
  | 74 => ⟨S2x8x128x128, .f32⟩
  | 75 => ⟨S32x2x8x64x128, .f32⟩
  | 76 => ⟨S32x2x8x128x128, .f32⟩
  | 77 => ⟨S_, .i32⟩
  | 78 => ⟨S_, .i1⟩
  | 79 => ⟨S_, .i32⟩
  | 80 => ⟨S_, .i32⟩
  | 81 => ⟨S_, .i32⟩
  | 82 => ⟨S_, .i32⟩
  | 83 => ⟨S1x2x8x64x128, .f32⟩
  | 84 => ⟨S2x8x64x128, .f32⟩
  | 85 => ⟨S_, .i32⟩
  | 86 => ⟨S_, .i32⟩
  | 87 => ⟨S_, .i32⟩
  | 88 => ⟨S_, .i32⟩
  | 89 => ⟨S1x2x8x64x128, .f32⟩
  | 90 => ⟨S2x8x64x128, .f32⟩
  | 91 => ⟨S_, .i32⟩
  | 92 => ⟨S_, .i32⟩
  | 93 => ⟨S_, .i32⟩
  | 94 => ⟨S_, .i32⟩
  | 95 => ⟨S1x2x8x64x128, .f32⟩
  | 96 => ⟨S2x8x64x128, .f32⟩
  | 97 => ⟨S_, .i32⟩
  | 98 => ⟨S_, .i32⟩
  | 99 => ⟨S_, .i32⟩
  | 100 => ⟨S_, .i32⟩
  | 101 => ⟨S1x2x8x64x128, .f32⟩
  | 102 => ⟨S2x8x64x128, .f32⟩
  | 103 => ⟨S2x8x64x128, .f32⟩
  | 104 => ⟨S2x8x64x128, .f32⟩
  | 105 => ⟨S2x8x64x128, .f32⟩
  | 106 => ⟨S2x8x64x1x128, .f32⟩
  | 107 => ⟨S2x8x1x64x128, .f32⟩
  | 108 => ⟨S2x8x64x64x128, .f32⟩
  | 109 => ⟨S2x8x64x64x128, .f32⟩
  | 110 => ⟨S2x8x64x64x128, .f32⟩
  | 111 => ⟨S64x64x1, .i1⟩
  | 112 => ⟨S_, .f32⟩
  | 113 => ⟨S2x8x64x64x128, .i1⟩
  | 114 => ⟨S2x8x64x64x128, .f32⟩
  | 115 => ⟨S2x8x64x64x128, .f32⟩
  | 116 => ⟨S2x8x64x64x128, .f32⟩
  | 117 => ⟨S2x8x64x1x128, .f32⟩
  | 118 => ⟨S2x8x1x64x128, .f32⟩
  | 119 => ⟨S2x8x64x64x128, .f32⟩
  | 120 => ⟨S2x8x64x64x128, .f32⟩
  | 121 => ⟨S2x8x64x64x128, .f32⟩
  | 122 => ⟨S2x8x64x64x128, .f32⟩
  | 123 => ⟨S_, .f32⟩
  | 124 => ⟨S2x8x64x64, .f32⟩
  | 125 => ⟨S2x8x64x128, .f32⟩
  | 126 => ⟨S2x8x1x128, .f32⟩
  | 127 => ⟨S2x8x128, .f32⟩
  | _ => ⟨S4096x10752, .f32⟩

abbrev hbmTy0_1 (i : Nat) : BufTy := match i % 128 with
  | 0 => ⟨S2x8x1x128, .f32⟩
  | 1 => ⟨S2x8x64x128, .f32⟩
  | 2 => ⟨S2x8x64x128, .f32⟩
  | 3 => ⟨S2x8x64x128, .f32⟩
  | 4 => ⟨S2x8x64x128, .f32⟩
  | 5 => ⟨S2x8x128, .f32⟩
  | 6 => ⟨S2x8x128x1, .f32⟩
  | 7 => ⟨S2x8x128x128, .f32⟩
  | 8 => ⟨S2x8x128x128, .f32⟩
  | 9 => ⟨S2x8x128x128, .f32⟩
  | 10 => ⟨S2x8x128x128, .f32⟩
  | 11 => ⟨S2x8x64x128, .f32⟩
  | 12 => ⟨S1x2x8x64x128, .f32⟩
  | 13 => ⟨S_, .i32⟩
  | 14 => ⟨S_, .i32⟩
  | 15 => ⟨S_, .i32⟩
  | 16 => ⟨S_, .i32⟩
  | 17 => ⟨S32x2x8x64x128, .f32⟩
  | 18 => ⟨S1x2x8x128x128, .f32⟩
  | 19 => ⟨S_, .i32⟩
  | 20 => ⟨S_, .i32⟩
  | 21 => ⟨S_, .i32⟩
  | 22 => ⟨S_, .i32⟩
  | 23 => ⟨S32x2x8x128x128, .f32⟩
  | 24 => ⟨S_, .i32⟩
  | 25 => ⟨S_, .i32⟩
  | 26 => ⟨S2x32x64x8x128, .f32⟩
  | 27 => ⟨S2x2048x8x128, .f32⟩
  | 28 => ⟨S2x32x8x128x128, .f32⟩
  | 29 => ⟨S4096x1024, .f32⟩
  | 30 => ⟨S2x2048x1024, .f32⟩
  | 31 => ⟨S2x2048x8x128, .f32⟩
  | 32 => ⟨S_, .f32⟩
  | 33 => ⟨S2x2048x8, .f32⟩
  | 34 => ⟨S2x2048x8x1, .f32⟩
  | 35 => ⟨S_, .f32⟩
  | 36 => ⟨S2x2048x8x1, .f32⟩
  | 37 => ⟨S2x2048x8x1, .f32⟩
  | 38 => ⟨S_, .f32⟩
  | 39 => ⟨S2x2048x8x1, .f32⟩
  | 40 => ⟨S2x2048x8x1, .f32⟩
  | 41 => ⟨S2x2048x8x1, .f32⟩
  | 42 => ⟨S2x2048x8x128, .f32⟩
  | 43 => ⟨S2x2048x8x128, .f32⟩
  | 44 => ⟨S8x128, .f32⟩
  | 45 => ⟨S1x1x8x128, .f32⟩
  | 46 => ⟨S2x2048x8x128, .f32⟩
  | 47 => ⟨S2x2048x8x128, .f32⟩
  | 48 => ⟨S2x2048x1024, .f32⟩
  | 49 => ⟨S2x2048x1024, .f32⟩
  | 50 => ⟨S2x2048x1024, .f32⟩
  | 51 => ⟨S_, .f32⟩
  | 52 => ⟨S2x2048x1024, .f32⟩
  | 53 => ⟨S2x2048x1024, .f32⟩
  | 54 => ⟨S_, .f32⟩
  | 55 => ⟨S2x2048x1024, .f32⟩
  | 56 => ⟨S2x2048x1024, .f32⟩
  | 57 => ⟨S2x2048x1024, .f32⟩
  | 58 => ⟨S2x2048x1024, .f32⟩
  | 59 => ⟨S4096x1024, .f32⟩
  | 60 => ⟨S4096x1024, .bf16⟩
  | _ => ⟨S4096x10752, .f32⟩

abbrev hbmTy (i : Nat) : BufTy := match i / 128 with
  | 0 => hbmTy0_0 i
  | 1 => hbmTy0_1 i
  | _ => ⟨S4096x10752, .f32⟩

abbrev bufTy : (tb : Table) → Fin (tcTables nBuf tb) → BufTy
  | .hbm, ⟨i, _⟩ => hbmTy i
  | _, _ => ⟨S4096x10752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_call1_call0_cst : Ref sig .tc := ⟨.hbm, 47, rfl⟩
abbrev main_call1_call0_v0 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_0 : Ref sig .tc := ⟨.hbm, 58, rfl⟩
abbrev main_call2_v5 : Ref sig .tc := ⟨.hbm, 59, rfl⟩
abbrev main_v34 : Ref sig .tc := ⟨.hbm, 60, rfl⟩
abbrev main_cst_3 : Ref sig .tc := ⟨.hbm, 61, rfl⟩
abbrev main_v35 : Ref sig .tc := ⟨.hbm, 62, rfl⟩
abbrev main_cst_4 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_c_6 : Ref sig .tc := ⟨.hbm, 67, rfl⟩
abbrev main_v38_0 : Ref sig .tc := ⟨.hbm, 68, rfl⟩
abbrev main_v38_1 : Ref sig .tc := ⟨.hbm, 69, rfl⟩
abbrev main_v38_2 : Ref sig .tc := ⟨.hbm, 70, rfl⟩
abbrev main_v38_3 : Ref sig .tc := ⟨.hbm, 71, rfl⟩
abbrev main_v38_4 : Ref sig .tc := ⟨.hbm, 72, rfl⟩
abbrev main_v38_5 : Ref sig .tc := ⟨.hbm, 73, rfl⟩
abbrev main_v38_6 : Ref sig .tc := ⟨.hbm, 74, rfl⟩
abbrev main_v38_7 : Ref sig .tc := ⟨.hbm, 75, rfl⟩
abbrev main_v38_8 : Ref sig .tc := ⟨.hbm, 76, rfl⟩
abbrev main_while0c_c_18 : Ref sig .tc := ⟨.hbm, 77, rfl⟩
abbrev main_while0c_v63 : Ref sig .tc := ⟨.hbm, 78, rfl⟩
abbrev main_while0b_call3_c : Ref sig .tc := ⟨.hbm, 79, rfl⟩
abbrev main_while0b_call3_c_0 : Ref sig .tc := ⟨.hbm, 80, rfl⟩
abbrev main_while0b_call3_c_1 : Ref sig .tc := ⟨.hbm, 81, rfl⟩
abbrev main_while0b_call3_c_2 : Ref sig .tc := ⟨.hbm, 82, rfl⟩
abbrev main_while0b_call3_v0 : Ref sig .tc := ⟨.hbm, 83, rfl⟩
abbrev main_while0b_v63 : Ref sig .tc := ⟨.hbm, 84, rfl⟩
abbrev main_while0b_call4_c : Ref sig .tc := ⟨.hbm, 85, rfl⟩
abbrev main_while0b_call4_c_0 : Ref sig .tc := ⟨.hbm, 86, rfl⟩
abbrev main_while0b_call4_c_1 : Ref sig .tc := ⟨.hbm, 87, rfl⟩
abbrev main_while0b_call4_c_2 : Ref sig .tc := ⟨.hbm, 88, rfl⟩
abbrev main_while0b_call4_v0 : Ref sig .tc := ⟨.hbm, 89, rfl⟩
abbrev main_while0b_v64 : Ref sig .tc := ⟨.hbm, 90, rfl⟩
abbrev main_while0b_call5_c : Ref sig .tc := ⟨.hbm, 91, rfl⟩
abbrev main_while0b_call5_c_0 : Ref sig .tc := ⟨.hbm, 92, rfl⟩
abbrev main_while0b_call5_c_1 : Ref sig .tc := ⟨.hbm, 93, rfl⟩
abbrev main_while0b_call5_c_2 : Ref sig .tc := ⟨.hbm, 94, rfl⟩
abbrev main_while0b_call5_v0 : Ref sig .tc := ⟨.hbm, 95, rfl⟩
abbrev main_while0b_v65 : Ref sig .tc := ⟨.hbm, 96, rfl⟩
abbrev main_while0b_call6_c : Ref sig .tc := ⟨.hbm, 97, rfl⟩
abbrev main_while0b_call6_c_0 : Ref sig .tc := ⟨.hbm, 98, rfl⟩
abbrev main_while0b_call6_c_1 : Ref sig .tc := ⟨.hbm, 99, rfl⟩
abbrev main_while0b_call6_c_2 : Ref sig .tc := ⟨.hbm, 100, rfl⟩
abbrev main_while0b_call6_v0 : Ref sig .tc := ⟨.hbm, 101, rfl⟩
abbrev main_while0b_v66 : Ref sig .tc := ⟨.hbm, 102, rfl⟩
abbrev main_while0b_v67 : Ref sig .tc := ⟨.hbm, 103, rfl⟩
abbrev main_while0b_v68 : Ref sig .tc := ⟨.hbm, 104, rfl⟩
abbrev main_while0b_v69 : Ref sig .tc := ⟨.hbm, 105, rfl⟩
abbrev main_while0b_v70 : Ref sig .tc := ⟨.hbm, 106, rfl⟩
abbrev main_while0b_v71 : Ref sig .tc := ⟨.hbm, 107, rfl⟩
abbrev main_while0b_v72 : Ref sig .tc := ⟨.hbm, 108, rfl⟩
abbrev main_while0b_v73 : Ref sig .tc := ⟨.hbm, 109, rfl⟩
abbrev main_while0b_v74 : Ref sig .tc := ⟨.hbm, 110, rfl⟩
abbrev main_while0b_v75 : Ref sig .tc := ⟨.hbm, 111, rfl⟩
abbrev main_while0b_cst_18 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_v76 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_cst_19 : Ref sig .tc := ⟨.hbm, 123, rfl⟩
abbrev main_while0b_v84 : Ref sig .tc := ⟨.hbm, 124, rfl⟩
abbrev main_while0b_v85 : Ref sig .tc := ⟨.hbm, 125, rfl⟩
abbrev main_while0b_v86 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_v96 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_call8_v0 : Ref sig .tc := ⟨.hbm, 140, rfl⟩
abbrev main_while0b_call8_c : Ref sig .tc := ⟨.hbm, 141, rfl⟩
abbrev main_while0b_call8_c_0 : Ref sig .tc := ⟨.hbm, 142, rfl⟩
abbrev main_while0b_call8_c_1 : Ref sig .tc := ⟨.hbm, 143, rfl⟩
abbrev main_while0b_call8_c_2 : Ref sig .tc := ⟨.hbm, 144, rfl⟩
abbrev main_while0b_v100 : Ref sig .tc := ⟨.hbm, 145, rfl⟩
abbrev main_while0b_call9_v0 : Ref sig .tc := ⟨.hbm, 146, rfl⟩
abbrev main_while0b_call9_c : Ref sig .tc := ⟨.hbm, 147, rfl⟩
abbrev main_while0b_call9_c_0 : Ref sig .tc := ⟨.hbm, 148, rfl⟩
abbrev main_while0b_call9_c_1 : Ref sig .tc := ⟨.hbm, 149, rfl⟩
abbrev main_while0b_call9_c_2 : Ref sig .tc := ⟨.hbm, 150, rfl⟩
abbrev main_while0b_v101 : Ref sig .tc := ⟨.hbm, 151, rfl⟩
abbrev main_while0b_c_20 : Ref sig .tc := ⟨.hbm, 152, rfl⟩
abbrev main_while0b_v102 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev main_v44 : Ref sig .tc := ⟨.hbm, 159, rfl⟩
abbrev main_cst_7 : Ref sig .tc := ⟨.hbm, 160, rfl⟩
abbrev main_v45 : Ref sig .tc := ⟨.hbm, 161, rfl⟩
abbrev main_v46 : Ref sig .tc := ⟨.hbm, 162, rfl⟩
abbrev main_cst_8 : Ref sig .tc := ⟨.hbm, 163, rfl⟩
abbrev main_v47 : Ref sig .tc := ⟨.hbm, 164, rfl⟩
abbrev main_v48 : Ref sig .tc := ⟨.hbm, 165, rfl⟩
abbrev main_cst_9 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_call10_v0 : Ref sig .tc := ⟨.hbm, 177, rfl⟩
abbrev main_call10_v1 : Ref sig .tc := ⟨.hbm, 178, rfl⟩
abbrev main_call10_cst : Ref sig .tc := ⟨.hbm, 179, rfl⟩
abbrev main_call10_v2 : Ref sig .tc := ⟨.hbm, 180, rfl⟩
abbrev main_call10_v3 : Ref sig .tc := ⟨.hbm, 181, rfl⟩
abbrev main_call10_cst_0 : Ref sig .tc := ⟨.hbm, 182, rfl⟩
abbrev main_call10_v4 : Ref sig .tc := ⟨.hbm, 183, rfl⟩
abbrev main_call10_v5 : Ref sig .tc := ⟨.hbm, 184, rfl⟩
abbrev main_v59 : Ref sig .tc := ⟨.hbm, 185, rfl⟩
abbrev main_v60 : Ref sig .tc := ⟨.hbm, 186, rfl⟩
abbrev main_v61 : Ref sig .tc := ⟨.hbm, 187, rfl⟩
abbrev main_v62 : Ref sig .tc := ⟨.hbm, 188, rfl⟩

abbrev nD : Nat := 1
abbrev τ : Topo := Topo.v7x

variable {F : FTy → Type} [FloatOps F]

abbrev main_while0_count : Scf.Loop 32 := ⟨0#32, 32#32, 1#32⟩
-- ==== Kernel8.lean ====
abbrev S2048x2688 : Shape := ⟨2, ![2048, 2688]⟩
abbrev S128x2688 : Shape := ⟨2, ![128, 2688]⟩

abbrev nBuf : Space → Nat
  | .hbm => 8
  | .vmem => 16
  | .smem => 0
  | _ => 0

abbrev bufTy : (tb : Table) → Fin (tcTables nBuf tb) → BufTy
  | .hbm, ⟨0, _⟩ => ⟨S2048x2688, .f32⟩
  | .hbm, ⟨1, _⟩ => ⟨S2048x2688, .f32⟩
  | .hbm, ⟨2, _⟩ => ⟨S2048x2688, .f32⟩
  | .hbm, ⟨3, _⟩ => ⟨S2048x2688, .f32⟩
  | .hbm, ⟨4, _⟩ => ⟨S2048x2688, .f32⟩
  | .hbm, ⟨5, _⟩ => ⟨S2048x2688, .f32⟩
  | .hbm, ⟨6, _⟩ => ⟨S2048x2688, .f32⟩
  | .hbm, ⟨7, _⟩ => ⟨S2048x2688, .f32⟩
  | .local _ .vmem, ⟨0, _⟩ => ⟨S128x2688, .f32⟩
  | .local _ .vmem, ⟨1, _⟩ => ⟨S128x2688, .f32⟩
  | .local _ .vmem, ⟨2, _⟩ => ⟨S128x2688, .f32⟩
  | .local _ .vmem, ⟨3, _⟩ => ⟨S128x2688, .f32⟩
  | .local _ .vmem, ⟨4, _⟩ => ⟨S128x2688, .f32⟩
  | .local _ .vmem, ⟨5, _⟩ => ⟨S128x2688, .f32⟩
  | .local _ .vmem, ⟨6, _⟩ => ⟨S128x2688, .f32⟩
  | .local _ .vmem, ⟨7, _⟩ => ⟨S128x2688, .f32⟩
  | .local _ .vmem, ⟨8, _⟩ => ⟨S128x2688, .f32⟩
  | .local _ .vmem, ⟨9, _⟩ => ⟨S128x2688, .f32⟩
  | .local _ .vmem, ⟨10, _⟩ => ⟨S128x2688, .f32⟩
  | .local _ .vmem, ⟨11, _⟩ => ⟨S128x2688, .f32⟩
  | .local _ .vmem, ⟨12, _⟩ => ⟨S128x2688, .f32⟩
  | .local _ .vmem, ⟨13, _⟩ => ⟨S128x2688, .f32⟩
  | .local _ .vmem, ⟨14, _⟩ => ⟨S128x2688, .f32⟩
  | .local _ .vmem, ⟨15, _⟩ => ⟨S128x2688, .f32⟩
  | _, _ => ⟨S2048x2688, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2688 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2688 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2688 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2688 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2688 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2688 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference8Ideal.lean ====
abbrev S2048x2688 : Shape := ⟨2, ![2048, 2688]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2688, .f32⟩
  | .hbm, ⟨1, _⟩ => ⟨S2048x2688, .f32⟩
  | .hbm, ⟨2, _⟩ => ⟨S2048x2688, .f32⟩
  | .hbm, ⟨3, _⟩ => ⟨S2048x2688, .f32⟩
  | .hbm, ⟨4, _⟩ => ⟨S_, .f32⟩
  | .hbm, ⟨5, _⟩ => ⟨S2048x2688, .f32⟩
  | .hbm, ⟨6, _⟩ => ⟨S2048x2688, .f32⟩
  | .hbm, ⟨7, _⟩ => ⟨S_, .f32⟩
  | .hbm, ⟨8, _⟩ => ⟨S2048x2688, .f32⟩
  | .hbm, ⟨9, _⟩ => ⟨S2048x2688, .f32⟩
  | .hbm, ⟨10, _⟩ => ⟨S2048x2688, .f32⟩
  | .hbm, ⟨11, _⟩ => ⟨S_, .f32⟩
  | .hbm, ⟨12, _⟩ => ⟨S2048x2688, .f32⟩
  | .hbm, ⟨13, _⟩ => ⟨S2048x2688, .f32⟩
  | .hbm, ⟨14, _⟩ => ⟨S2048x2688, .f32⟩
  | .hbm, ⟨15, _⟩ => ⟨S_, .f32⟩
  | .hbm, ⟨16, _⟩ => ⟨S2048x2688, .f32⟩
  | .hbm, ⟨17, _⟩ => ⟨S2048x2688, .f32⟩
  | .hbm, ⟨18, _⟩ => ⟨S2048x2688, .f32⟩
  | .hbm, ⟨19, _⟩ => ⟨S_, .f32⟩
  | .hbm, ⟨20, _⟩ => ⟨S2048x2688, .f32⟩
  | .hbm, ⟨21, _⟩ => ⟨S2048x2688, .f32⟩
  | .hbm, ⟨22, _⟩ => ⟨S_, .f32⟩
  | .hbm, ⟨23, _⟩ => ⟨S2048x2688, .f32⟩
  | .hbm, ⟨24, _⟩ => ⟨S2048x2688, .f32⟩
  | .hbm, ⟨25, _⟩ => ⟨S2048x2688, .f32⟩
  | .hbm, ⟨26, _⟩ => ⟨S_, .f32⟩
  | .hbm, ⟨27, _⟩ => ⟨S2048x2688, .f32⟩
  | .hbm, ⟨28, _⟩ => ⟨S2048x2688, .f32⟩
  | .hbm, ⟨29, _⟩ => ⟨S2048x2688, .f32⟩
  | .hbm, ⟨30, _⟩ => ⟨S_, .f32⟩
  | .hbm, ⟨31, _⟩ => ⟨S2048x2688, .f32⟩
  | .hbm, ⟨32, _⟩ => ⟨S2048x2688, .f32⟩
  | .hbm, ⟨33, _⟩ => ⟨S2048x2688, .f32⟩
  | .hbm, ⟨34, _⟩ => ⟨S_, .f32⟩
  | .hbm, ⟨35, _⟩ => ⟨S2048x2688, .f32⟩
  | .hbm, ⟨36, _⟩ => ⟨S2048x2688, .f32⟩
  | _, _ => ⟨S2048x2688, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S4096x10752 : Shape := ⟨2, ![4096, 10752]⟩
abbrev S2048x10752 : Shape := ⟨2, ![2048, 10752]⟩
abbrev S8x128 : Shape := ⟨2, ![8, 128]⟩
abbrev S4096x2048 : Shape := ⟨2, ![4096, 2048]⟩
abbrev S1024x3584 : Shape := ⟨2, ![1024, 3584]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S8x128, .f32⟩
  | .hbm, ⟨3, _⟩ => ⟨S4096x2048, .bf16⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x10752 : Shape := ⟨2, ![4096, 10752]⟩
abbrev S2048x10752 : Shape := ⟨2, ![2048, 10752]⟩
abbrev S8x128 : Shape := ⟨2, ![8, 128]⟩
abbrev S10752x2048 : Shape := ⟨2, ![10752, 2048]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x10752, .bf16⟩
  | .hbm, ⟨1, _⟩ => ⟨S2048x10752, .bf16⟩
  | .hbm, ⟨2, _⟩ => ⟨S8x128, .f32⟩
  | .hbm, ⟨3, _⟩ => ⟨S4096x10752, .f32⟩
  | .hbm, ⟨4, _⟩ => ⟨S2048x10752, .f32⟩
  | .hbm, ⟨5, _⟩ => ⟨S10752x2048, .f32⟩
  | .hbm, ⟨6, _⟩ => ⟨S4096x2048, .f32⟩
  | .hbm, ⟨7, _⟩ => ⟨S4096x2048, .bf16⟩
  | _, _ => ⟨S4096x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S4096x10752 : Shape := ⟨2, ![4096, 10752]⟩
abbrev S1 : Shape := ⟨1, ![1]⟩
abbrev S4x1024x2688 : Shape := ⟨3, ![4, 1024, 2688]⟩
abbrev S4096x1024 : Shape := ⟨2, ![4096, 1024]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 3
  | .vmem => 5
  | .smem => 1
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S4x1024x2688, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .bf16⟩
  | .local _ .vmem, ⟨4, _⟩ => ⟨S1x1024x896, .bf16⟩
  | .local _ .smem, ⟨0, _⟩ => ⟨S1, .i32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference10Ideal.lean ====
abbrev S4096x2048 : Shape := ⟨2, ![4096, 2048]⟩
abbrev S4096x10752 : Shape := ⟨2, ![4096, 10752]⟩
abbrev S1 : Shape := ⟨1, ![1]⟩
abbrev S2048x4096 : Shape := ⟨2, ![2048, 4096]⟩
abbrev S2048x10752 : Shape := ⟨2, ![2048, 10752]⟩
abbrev S_ : Shape := ⟨0, ![]⟩
abbrev S1024x10752 : Shape := ⟨2, ![1024, 10752]⟩
abbrev S1024x4x2688 : Shape := ⟨3, ![1024, 4, 2688]⟩
abbrev S4x1024x2688 : Shape := ⟨3, ![4, 1024, 2688]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x10752, .bf16⟩
  | .hbm, ⟨2, _⟩ => ⟨S1, .i32⟩
  | .hbm, ⟨3, _⟩ => ⟨S4096x2048, .f32⟩
  | .hbm, ⟨4, _⟩ => ⟨S2048x4096, .f32⟩
  | .hbm, ⟨5, _⟩ => ⟨S4096x10752, .f32⟩
  | .hbm, ⟨6, _⟩ => ⟨S2048x10752, .f32⟩
  | .hbm, ⟨7, _⟩ => ⟨S2048x10752, .bf16⟩
  | .hbm, ⟨8, _⟩ => ⟨S_, .i32⟩
  | .hbm, ⟨9, _⟩ => ⟨S_, .i32⟩
  | .hbm, ⟨10, _⟩ => ⟨S_, .i1⟩
  | .hbm, ⟨11, _⟩ => ⟨S1024x10752, .bf16⟩
  | .hbm, ⟨12, _⟩ => ⟨S1024x10752, .bf16⟩
  | .hbm, ⟨13, _⟩ => ⟨S1024x10752, .bf16⟩
  | .hbm, ⟨14, _⟩ => ⟨S1024x4x2688, .bf16⟩
  | .hbm, ⟨15, _⟩ => ⟨S4x1024x2688, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Proof.PostKernel.lean ====
/- What the post-norm loss kernel's body leaves in its output blocks, as functions of the rows of its input blocks. -/
module

public import proofs.«01_k».proof.Proof.Gen.KernelIdeal.Value
public import Idealize.ShloMosaic.Lib.Pointwise

@[expose] public section

set_option maxRecDepth 16384

noncomputable section

/-! ## The step's row functions -/

namespace Cert.Post

open Idealize.ShloMosaic

/-- A row of 2048 extended reals. -/
abbrev Row := Fin 2048 → EReal

/-- The reciprocal root mean square of a row. -/
def inv (y : Row) : EReal :=
  Ideal.rsqrt (Ideal.div (∑ k, y k * y k) (Ideal.ofBits .f32 0x45000000#32) + Ideal.ofBits .f32 0x358637BD#32)

/-- The residual stream's error: `x + norm(y) g - target`. -/
def err (y x t g : Row) (j : Fin 2048) : EReal := (x j + y j * inv y * g j) - t j

/-- The loss gradient in the stream. -/
def dz (y x t g : Row) (j : Fin 2048) : EReal := Ideal.div (err y x t g j) (Ideal.ofBits .f32 0x45000000#32)

/-- The loss gradient in the normed branch, projected. -/
def dy (y x t g : Row) (j : Fin 2048) : EReal :=
  inv y * (dz y x t g j * g j - (y j * inv y)
    * Ideal.div (∑ k, dz y x t g k * g k * (y k * inv y)) (Ideal.ofBits .f32 0x45000000#32))

/-- A row's share of the gain's gradient. -/
def gain (y x t g : Row) (j : Fin 2048) : EReal := dz y x t g j * (y j * inv y)

/-- A row's mean squared error. -/
def mse (y x t g : Row) : EReal :=
  Ideal.div (∑ k, err y x t g k * err y x t g k) (Ideal.ofBits .f32 0x45000000#32)

end Cert.Post

namespace Cert.KernelIdeal.Post

open Cert.KernelIdeal Cert.KernelIdeal.Gen Idealize.ShloMosaic Idealize.ShloMosaic.TcCoe Idealize.SL.Sem
open Idealize.ShloMosaic.Pipeline (Dat)
open Cert.Post

theorem hz : (![0, 0] : Fin 2 → Nat) = fun _ => 0 := funext fun a => by fin_cases a <;> rfl

/-- Row `r` of a 256-row block. -/
abbrev brow (b : S256x2048.Idx → EReal) (r : Fin 256) : Row := fun k => b (ix2 r k)

/-- The one row of a gain. -/
abbrev grow (g : S1x2048.Idx → EReal) : Row := fun k => g (ix2 (0 : Fin 1) k)

/-! ## The payloads at an index -/

theorem pay7_apply (v3 : Vec Ideal S256x2048 .bf16) (r : Fin 256) (z : Fin 1) : k0_pay7 (F := Ideal) v3 (ix2 r z) = inv (brow v3 r) := by
  pointwise [k0_pay7, k0_pay6]
  rfl

theorem pay8_apply (v3 : Vec Ideal S256x2048 .bf16) (r : Fin 256) (l : Fin 2048) :
    k0_pay8 (F := Ideal) v3 (ix2 r l) = v3 (ix2 r l) * inv (brow v3 r) := by
  unfold k0_pay8
  pointwise [k0_pay6, pay7_apply]

theorem pay9_apply (v3 : Vec Ideal S256x2048 .bf16) (v15 : Vec Ideal S256x2048 .f32) (v17 : Vec Ideal S1x2048 .f32) (v21 : Vec Ideal S256x2048 .f32)
    (r : Fin 256) (l : Fin 2048) :
    k0_pay9 (F := Ideal) v3 v15 v17 v21 (ix2 r l) = err (brow v3 r) (brow v15 r) (brow v21 r) (grow v17) l := by
  unfold k0_pay9
  pointwise [pay8_apply]
  rfl

/-- The gain gradient's block over what it held: plus the sum of its 256 rows' shares. -/
abbrev gainOver (v3 : Vec Ideal S256x2048 .bf16) (v15 v21 : Vec Ideal S256x2048 .f32) (v17 : Vec Ideal S1x2048 .f32)
    (p : Vec Ideal S1x2048 .f32) : Vec Ideal S1x2048 .f32 :=
  fun i => p i + ∑ r : Fin 256, gain (brow v3 r) (brow v15 r) (brow v21 r) (grow v17) (i 1)

/-- The loss over what it held: plus half the sum of its 256 rows' mean squares. -/
abbrev lossOver (v3 : Vec Ideal S256x2048 .bf16) (v15 v21 : Vec Ideal S256x2048 .f32) (v17 : Vec Ideal S1x2048 .f32)
    (p : Vec Ideal S1x1 .f32) : Vec Ideal S1x1 .f32 :=
  fun i => p i + Ideal.ofBits .f32 0x3F000000#32 * ∑ r : Fin 256, mse (brow v3 r) (brow v15 r) (brow v21 r) (grow v17)

theorem pay2_eq (v3 : Vec Ideal S256x2048 .bf16) (v15 v21 : Vec Ideal S256x2048 .f32) (v17 p : Vec Ideal S1x2048 .f32) :
    k0_pay2 (F := Ideal) (k0_pay8 v3) (k0_pay9 v3 v15 v17 v21) p = gainOver v3 v15 v21 v17 p := by
  funext i
  idx_vars i
  obtain rfl : i0 = 0 := Subsingleton.elim _ _
  unfold k0_pay2
  pointwise [k0_pay1, pay8_apply, pay9_apply]
  rfl

theorem pay10_eq (v3 : Vec Ideal S256x2048 .bf16) (v15 v21 : Vec Ideal S256x2048 .f32) (v17 : Vec Ideal S1x2048 .f32) (p : Vec Ideal S1x1 .f32) :
    k0_pay10 (F := Ideal) v3 v15 v17 v21 p = lossOver v3 v15 v21 v17 p := by
  funext i
  idx_vars i
  obtain rfl : i0 = 0 := Subsingleton.elim _ _
  obtain rfl : i1 = 0 := Subsingleton.elim _ _
  unfold k0_pay10
  pointwise [pay9_apply]
  rfl

/-- The block of the stream's gradient. -/
abbrev dzBlk (v3 : Vec Ideal S256x2048 .bf16) (v15 v21 : Vec Ideal S256x2048 .f32) (v17 : Vec Ideal S1x2048 .f32) : Vec Ideal S256x2048 .f32 :=
  fun i => dz (brow v3 (i 0)) (brow v15 (i 0)) (brow v21 (i 0)) (grow v17) (i 1)

/-- The block of the branch's gradient. -/
abbrev dyBlk (v3 : Vec Ideal S256x2048 .bf16) (v15 v21 : Vec Ideal S256x2048 .f32) (v17 : Vec Ideal S1x2048 .f32) : Vec Ideal S256x2048 .bf16 :=
  fun i => dy (brow v3 (i 0)) (brow v15 (i 0)) (brow v21 (i 0)) (grow v17) (i 1)

theorem pay1_eq (v3 : Vec Ideal S256x2048 .bf16) (v15 v21 : Vec Ideal S256x2048 .f32) (v17 : Vec Ideal S1x2048 .f32) :
    k0_pay1 (F := Ideal) (k0_pay9 v3 v15 v17 v21) = dzBlk v3 v15 v21 v17 := by
  funext i
  idx_vars i
  unfold k0_pay1
  pointwise [pay9_apply]
  rfl

theorem pay3_eq (v3 : Vec Ideal S256x2048 .bf16) (v15 v21 : Vec Ideal S256x2048 .f32) (v17 : Vec Ideal S1x2048 .f32) :
    k0_pay3 (F := Ideal) (k0_pay7 v3) (k0_pay8 v3) (k0_pay9 v3 v15 v17 v21) v17 = dyBlk v3 v15 v21 v17 := by
  funext i
  idx_vars i
  unfold k0_pay3
  pointwise [k0_pay1, pay7_apply, pay8_apply, pay9_apply]
  rfl

/-! ## What each case leaves -/

section outs
variable (c : Dev nD) (i : grid0.Coords) (a1 : Memref sig .tc .vmem S256x2048 .bf16) (h1 : a1.IsWhole)
  (a2 : Memref sig .tc .vmem S256x2048 .f32) (h2 : a2.IsWhole) (a3 : Memref sig .tc .vmem S256x2048 .f32) (h3 : a3.IsWhole)
  (a4 : Memref sig .tc .vmem S1x2048 .f32) (h4 : a4.IsWhole) (a5 : Memref sig .tc .vmem S256x2048 .bf16) (h5 : a5.IsWhole)
  (a6 : Memref sig .tc .vmem S256x2048 .f32) (h6 : a6.IsWhole) (a7 : Memref sig .tc .vmem S1x1 .f32) (h7 : a7.IsWhole)
  (a8 : Memref sig .tc .vmem S1x2048 .f32) (h8 : a8.IsWhole)
  (x0 : Vec Ideal S256x2048 .bf16) (x1 x2 : Vec Ideal S256x2048 .f32) (x3 : Vec Ideal S1x2048 .f32)
  (p6 : Vec Ideal S1x1 .f32) (p7 : Vec Ideal S1x2048 .f32)

theorem out_B_4 (hc : ¬cond0_0 i) :
    out0_B_4 c i a1 h1 a2 h2 a3 h3 a4 h4 a5 h5 a6 h6 a7 h7 a8 h8 hc x0 x1 x2 x3 p6 p7 = dyBlk x0 x1 x2 x3 := by
  unfold out0_B_4
  rw [View.read_writes_eq_canon _ _ _ (cover0_B_4 c i a1 h1 a2 h2 a3 h3 a4 h4 a5 h5 a6 h6 a7 h7 a8 h8 hc x0 x1 x2 x3 p6 p7)]
  unfold kernelRun0_B
  dsimp only
  sl_unfold_words
  rw [View.canon_unit_zero hz]
  simp only [View.readAt_eq_ld, h1.read_unread, h2.read_unread, h3.read_unread, h4.read_unread,
    View.ld_unit_zero (S := S256x2048) hz, View.ld_unit_zero (S := S1x2048) hz, pay3_eq]

theorem out_A_4 (hc : cond0_0 i) :
    out0_A_4 c i a1 h1 a2 h2 a3 h3 a4 h4 a5 h5 a6 h6 a7 h7 a8 h8 hc x0 x1 x2 x3 = dyBlk x0 x1 x2 x3 := by
  unfold out0_A_4
  rw [View.read_writes_eq_canon _ _ _ (cover0_A_4 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S256x2048) hz, View.ld_unit_zero (S := S1x2048) hz, pay3_eq]

theorem out_B_5 (hc : ¬cond0_0 i) :
    out0_B_5 c i a1 h1 a2 h2 a3 h3 a4 h4 a5 h5 a6 h6 a7 h7 a8 h8 hc x0 x1 x2 x3 p6 p7 = dzBlk x0 x1 x2 x3 := by
  unfold out0_B_5
  rw [View.read_writes_eq_canon _ _ _ (cover0_B_5 c i a1 h1 a2 h2 a3 h3 a4 h4 a5 h5 a6 h6 a7 h7 a8 h8 hc x0 x1 x2 x3 p6 p7)]
  unfold kernelRun0_B
  dsimp only
  sl_unfold_words
  rw [View.canon_unit_zero hz]
  simp only [View.readAt_eq_ld, h1.read_unread, h2.read_unread, h3.read_unread, h4.read_unread,
    View.ld_unit_zero (S := S256x2048) hz, View.ld_unit_zero (S := S1x2048) hz, pay1_eq]

theorem out_A_5 (hc : cond0_0 i) :
    out0_A_5 c i a1 h1 a2 h2 a3 h3 a4 h4 a5 h5 a6 h6 a7 h7 a8 h8 hc x0 x1 x2 x3 = dzBlk x0 x1 x2 x3 := by
  unfold out0_A_5
  rw [View.read_writes_eq_canon _ _ _ (cover0_A_5 c i a1 h1 a2 h2 a3 h3 a4 h4 a5 h5 a6 h6 a7 h7 a8 h8 hc x0 x1 x2 x3)]
  unfold kernelRun0_A
  dsimp only
  sl_unfold_words
  rw [View.canon_unit_zero hz]
  simp only [View.readAt_eq_ld, h1.read_unread, h2.read_unread, h3.read_unread, h4.read_unread,
    View.ld_unit_zero (S := S256x2048) hz, View.ld_unit_zero (S := S1x2048) hz, pay1_eq]

theorem out_B_6 (hc : ¬cond0_0 i) :
    out0_B_6 c i a1 h1 a2 h2 a3 h3 a4 h4 a5 h5 a6 h6 a7 h7 a8 h8 hc x0 x1 x2 x3 p6 p7 = lossOver x0 x1 x2 x3 p6 := by
  unfold out0_B_6
  rw [View.read_writes_eq_canon _ _ _ (cover0_B_6 c i a1 h1 a2 h2 a3 h3 a4 h4 a5 h5 a6 h6 a7 h7 a8 h8 hc x0 x1 x2 x3 p6 p7)]
  unfold kernelRun0_B
  dsimp only
  sl_unfold_words
  rw [View.canon_unit_zero hz]
  simp only [View.readAt_eq_ld, h1.read_unread, h2.read_unread, h3.read_unread, h4.read_unread, h7.read_unread,
    View.ld_unit_zero (S := S256x2048) hz, View.ld_unit_zero (S := S1x2048) hz, View.ld_unit_zero (S := S1x1) hz, pay10_eq]

theorem out_A_6 (hc : cond0_0 i) :
    out0_A_6 c i a1 h1 a2 h2 a3 h3 a4 h4 a5 h5 a6 h6 a7 h7 a8 h8 hc x0 x1 x2 x3 = lossOver x0 x1 x2 x3 (k0_pay5 (F := Ideal)) := by
  unfold out0_A_6
  rw [View.read_writes_eq_canon _ _ _ (cover0_A_6 c i a1 h1 a2 h2 a3 h3 a4 h4 a5 h5 a6 h6 a7 h7 a8 h8 hc x0 x1 x2 x3)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S256x2048) hz, View.ld_unit_zero (S := S1x2048) hz, View.ld_unit_zero (S := S1x1) hz, pay10_eq]

theorem out_B_7 (hc : ¬cond0_0 i) :
    out0_B_7 c i a1 h1 a2 h2 a3 h3 a4 h4 a5 h5 a6 h6 a7 h7 a8 h8 hc x0 x1 x2 x3 p6 p7 = gainOver x0 x1 x2 x3 p7 := by
  unfold out0_B_7
  rw [View.read_writes_eq_canon _ _ _ (cover0_B_7 c i a1 h1 a2 h2 a3 h3 a4 h4 a5 h5 a6 h6 a7 h7 a8 h8 hc x0 x1 x2 x3 p6 p7)]
  unfold kernelRun0_B
  dsimp only
  sl_unfold_words
  rw [View.canon_unit_zero hz]
  simp only [View.readAt_eq_ld, h1.read_unread, h2.read_unread, h3.read_unread, h4.read_unread, h8.read_unread,
    View.ld_unit_zero (S := S256x2048) hz, View.ld_unit_zero (S := S1x2048) hz, pay2_eq]

theorem out_A_7 (hc : cond0_0 i) :
    out0_A_7 c i a1 h1 a2 h2 a3 h3 a4 h4 a5 h5 a6 h6 a7 h7 a8 h8 hc x0 x1 x2 x3 = gainOver x0 x1 x2 x3 (k0_pay4 (F := Ideal)) := by
  unfold out0_A_7
  rw [View.read_writes_eq_canon _ _ _ (cover0_A_7 c i a1 h1 a2 h2 a3 h3 a4 h4 a5 h5 a6 h6 a7 h7 a8 h8 hc x0 x1 x2 x3)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread,
    View.ld_unit_zero (S := S256x2048) hz, View.ld_unit_zero (S := S1x2048) hz, pay2_eq]

end outs

end Cert.KernelIdeal.Post

end
-- ==== Proof.Alg.lean ====
/- Extended-real algebra the value claims need: a nonnegative real factor through a sum, and the gradient of the
   root-mean-square norm in the two spellings. -/
module

public import Idealize.ShloMosaic.PureOps.Ideal.Laws

@[expose] public section

noncomputable section

namespace Cert.Alg

open Idealize.ShloMosaic

/-- A nonnegative real factor goes through a finite sum of extended reals. -/
theorem coe_mul_sum {ι : Type*} (s : Finset ι) {r : ℝ} (hr : 0 ≤ r) (f : ι → EReal) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- Twice an extended real. -/
theorem add_self (x : EReal) : x + x = ((2 : ℝ) : EReal) * x := by
  induction x using EReal.rec with
  | bot => rw [EReal.coe_mul_bot_of_pos (by norm_num)]; rfl
  | coe a => rw [← EReal.coe_mul, ← EReal.coe_add]; congr 1; ring
  | top => rw [EReal.coe_mul_top_of_pos (by norm_num)]; rfl

/-- The square of an extended real is nonnegative. -/
theorem mul_self_nonneg' (x : EReal) : 0 ≤ x * x := by
  induction x using EReal.rec with
  | bot => simp
  | coe a => exact_mod_cast mul_self_nonneg a
  | top => simp

/-- The reciprocal root of a row's mean square plus `e`: zero where an element is infinite, a positive real where none is. -/
theorem inv_cases {n : ℕ} (y : Fin n → EReal) {N e : ℝ} (hN : 0 < N) (he : 0 < e) :
    (Ideal.div (∑ k, y k * y k) N + e = ⊤) ∨
      ∃ v : ℝ, 0 < v ∧ Ideal.div (∑ k, y k * y k) N + e = (v : EReal) ∧ ∀ k, ∃ a : ℝ, y k = a := by
  rw [Ideal.div_coe hN.ne']
  have h0 : 0 ≤ ∑ k, y k * y k := Finset.sum_nonneg fun k _ => mul_self_nonneg' _
  rcases eq_or_ne (∑ k, y k * y k) ⊤ with h | h
  · left
    rw [h, EReal.top_mul_coe_of_pos (by positivity), EReal.top_add_coe]
  · right
    have hb : (∑ k, y k * y k) ≠ ⊥ := fun hb => absurd (hb ▸ h0) (by simp)
    obtain ⟨s, hs⟩ : ∃ s : ℝ, (∑ k, y k * y k) = s := ⟨_, (EReal.coe_toReal h hb).symm⟩
    have hs0 : 0 ≤ s := by rw [hs] at h0; exact_mod_cast h0
    refine ⟨s * (1 / N) + e, by positivity, by rw [hs]; push_cast; rfl, fun k => ?_⟩
    have hk : y k * y k ≤ s := hs ▸ Finset.single_le_sum (f := fun k => y k * y k) (fun k _ => mul_self_nonneg' _) (Finset.mem_univ k)
    rcases eq_or_ne (y k) ⊤ with hy | hy
    · rw [hy] at hk; simp at hk
    rcases eq_or_ne (y k) ⊥ with hy' | hy'
    · rw [hy'] at hk; simp at hk
    exact ⟨_, (EReal.coe_toReal hy hy').symm⟩

/-- THE GRADIENT OF THE NORM: with `r` the reciprocal root of the mean square plus `e`, the projected form
    `r * (d - (y r) * mean(d * (y r)))` is the chain rule's `d r + y s + s y`, `s` the derivative through the mean
    square — at every extended real: an infinite element makes `r` zero and both sides with it. -/
theorem rms_grad {n : ℕ} (y d : Fin n → EReal) {N e : ℝ} (hN : 0 < N) (he : 0 < e) (j : Fin n) :
    Ideal.rsqrt (Ideal.div (∑ k, y k * y k) N + e)
        * (d j - (y j * Ideal.rsqrt (Ideal.div (∑ k, y k * y k) N + e))
          * Ideal.div (∑ k, d k * (y k * Ideal.rsqrt (Ideal.div (∑ k, y k * y k) N + e))) N)
      = (d j * Ideal.rsqrt (Ideal.div (∑ k, y k * y k) N + e)
          + y j * Ideal.div ((∑ k, y k * d k) * (((-(1 / 2) : ℝ) : EReal)
              * Ideal.div (Ideal.rsqrt (Ideal.div (∑ k, y k * y k) N + e)) (Ideal.div (∑ k, y k * y k) N + e))) N)
        + Ideal.div ((∑ k, y k * d k) * (((-(1 / 2) : ℝ) : EReal)
              * Ideal.div (Ideal.rsqrt (Ideal.div (∑ k, y k * y k) N + e)) (Ideal.div (∑ k, y k * y k) N + e))) N * y j := by
  rcases inv_cases y hN he with h | ⟨v, hv, h, hy⟩
  · rw [h]
    have h0 : Ideal.div 0 ⊤ = 0 := by simp [Ideal.div]
    have h1 : Ideal.div 0 (N : EReal) = 0 := by rw [Ideal.div_coe hN.ne', zero_mul]
    simp only [Ideal.rsqrt_top, h0, h1, mul_zero, zero_mul, add_zero]
  · rw [h]
    have hsv : 0 < Real.sqrt v := Real.sqrt_pos.mpr hv
    have hr : Ideal.rsqrt (v : EReal) = (((Real.sqrt v)⁻¹ : ℝ) : EReal) := by
      rw [Ideal.rsqrt_coe, if_neg (not_lt.mpr hv.le), if_neg hv.ne']
    rw [hr]
    set r : ℝ := (Real.sqrt v)⁻¹ with hrd
    have hr0 : 0 ≤ r := by positivity
    have hv' : 1 / v = r * r := by
      rw [hrd, ← mul_inv, Real.mul_self_sqrt hv.le, one_div]
    obtain ⟨a, ha⟩ := hy j
    have hsum : (∑ k, d k * (y k * (r : EReal))) = (r : EReal) * ∑ k, y k * d k := by
      rw [coe_mul_sum _ hr0]
      exact Finset.sum_congr rfl fun k _ => by rw [mul_comm (d k), mul_comm (y k), mul_assoc]
    rw [hsum, Ideal.div_coe hv.ne', hv', Ideal.div_coe hN.ne', Ideal.div_coe hN.ne', ha]
    generalize (∑ k, y k * d k) = S
    rw [sub_eq_add_neg, EReal.left_distrib_of_nonneg_of_ne_top (by exact_mod_cast hr0) (EReal.coe_ne_top r), add_assoc,
      mul_comm (r : EReal) (d j)]
    congr 1
    have hA : (r : EReal) * -(((a : EReal) * r) * ((r * S) * ((1 / N : ℝ) : EReal))) = ((-(a * r * r * r * (1 / N)) : ℝ) : EReal) * S := by
      push_cast
      simp only [mul_neg, neg_mul]
      congr 1
      ac_rfl
    have hB : (a : EReal) * (S * (((-(1 / 2) : ℝ) : EReal) * ((r : EReal) * ((r * r : ℝ) : EReal))) * ((1 / N : ℝ) : EReal))
        = ((-(1 / 2) * a * r * r * r * (1 / N) : ℝ) : EReal) * S := by
      push_cast
      ac_rfl
    rw [hA, mul_comm _ (a : EReal), hB, add_self, ← mul_assoc, ← EReal.coe_mul]
    congr 2
    ring

end Cert.Alg

end
-- ==== Proof.Consts.lean ====
/- The f32 constants of the programs, as extended reals. -/
module

public import Idealize.ShloMosaic.PureOps.Ideal.Laws

@[expose] public section

noncomputable section

namespace Cert.Consts

open Idealize.ShloMosaic

theorem ofBits_2048 : Ideal.ofBits .f32 0x45000000#32 = ((2048 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The norm's epsilon, a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

end Cert.Consts

end
-- ==== Proof.PostArrays.lean ====
/- What the post-norm loss kernel's run leaves in its four result arrays. -/
module

public import proofs.«01_k».proof.Proof.PostKernel
public import proofs.«01_k».proof.Proof.Alg
public import proofs.«01_k».proof.Proof.Consts
public import Idealize.ShloMosaic.Lib.Tactic

@[expose] public section

set_option maxRecDepth 16384

noncomputable section

namespace Cert.KernelIdeal.Post

open Cert.KernelIdeal Cert.KernelIdeal.Gen Cert.KernelIdeal.Value Idealize.ShloMosaic Idealize.ShloMosaic.TcCoe Idealize.SL.Sem
open Idealize.ShloMosaic.Pipeline (Dat)
open Cert.Post

variable (m : (ℓ : Loc nD τ sig) → Buf (Elt Ideal) ℓ) (ρ : Dev nD → PrngReg)

/-- Row `i` of an array of 4096 rows. -/
abbrev arow (b : S4096x2048.Idx → EReal) (i : Fin 4096) : Row := fun k => b (ix2 i k)

/-- The stream, flattened to rows. -/
abbrev flat (x : S2x2048x2048.Idx → EReal) : S4096x2048.Idx → EReal := shapeCast S4096x2048 x shapeCasts_S2x2048x2048_S4096x2048

theorem V_main_v0 (c : Dev nD) : V m c main_v0 = flat (m ((c : Thread nD τ).loc main_arg1)) := by
  show StableHlo.after hostOps0 (fun b => m (c, b)) (Proc.devRef .tc main_v0) = _
  after_results
  rfl

theorem V_main_v1 (c : Dev nD) : V m c main_v1 = flat (m ((c : Thread nD τ).loc main_arg2)) := by
  show StableHlo.after hostOps0 (fun b => m (c, b)) (Proc.devRef .tc main_v1) = _
  after_results
  rfl

/-- The row of the array that row `r` of block `t` is. -/
def rowOf (t : Fin cfg0.N) (r : Fin 256) : Fin 4096 :=
  ⟨256 * t.val + r.val, by have := Nat.lt_of_lt_of_eq t.isLt N_0; omega⟩

theorem index0 (t : Fin cfg0.N) : win0_0.index t 0 = t.val ∧ win0_0.index t 1 = 0 :=
  (by decide +kernel : ∀ t : Fin grid0.N, win0_0.index t 0 = t.val ∧ win0_0.index t 1 = 0) t
theorem index1 (t : Fin cfg0.N) : win0_1.index t 0 = t.val ∧ win0_1.index t 1 = 0 :=
  (by decide +kernel : ∀ t : Fin grid0.N, win0_1.index t 0 = t.val ∧ win0_1.index t 1 = 0) t
theorem index2 (t : Fin cfg0.N) : win0_2.index t 0 = t.val ∧ win0_2.index t 1 = 0 :=
  (by decide +kernel : ∀ t : Fin grid0.N, win0_2.index t 0 = t.val ∧ win0_2.index t 1 = 0) t
theorem index3 (t : Fin cfg0.N) : win0_3.index t 0 = 0 ∧ win0_3.index t 1 = 0 :=
  (by decide +kernel : ∀ t : Fin grid0.N, win0_3.index t 0 = 0 ∧ win0_3.index t 1 = 0) t
theorem index4 (t : Fin cfg0.N) : win0_4.index t 0 = t.val ∧ win0_4.index t 1 = 0 :=
  (by decide +kernel : ∀ t : Fin grid0.N, win0_4.index t 0 = t.val ∧ win0_4.index t 1 = 0) t
theorem index5 (t : Fin cfg0.N) : win0_5.index t 0 = t.val ∧ win0_5.index t 1 = 0 :=
  (by decide +kernel : ∀ t : Fin grid0.N, win0_5.index t 0 = t.val ∧ win0_5.index t 1 = 0) t

theorem row0 (c : Dev nD) (t : Fin cfg0.N) (r : Fin 256) :
    brow (iblk m c 0 t : Vec Ideal S256x2048 .bf16) r = arow (m ((c : Thread nD τ).loc main_arg0)) (rowOf t r) := by
  funext k
  unfold iblk
  show ((cfg0.win 0).blk t).view.read (Elt Ideal) (V m c main_arg0) (ix2 r k) = _
  rw [View.read_apply, V_main_arg0]
  show m _ _ = m _ _
  congr 1
  funext a
  apply Fin.ext
  match a with
  | ⟨0, _⟩ => show win0_0.index t 0 * 256 + 1 * r.val = 256 * t.val + r.val; rw [(index0 t).1]; omega
  | ⟨1, _⟩ => show win0_0.index t 1 * 2048 + 1 * k.val = k.val; rw [(index0 t).2]; omega

theorem row1 (c : Dev nD) (t : Fin cfg0.N) (r : Fin 256) :
    brow (iblk m c 1 t : Vec Ideal S256x2048 .f32) r = arow (flat (m ((c : Thread nD τ).loc main_arg1))) (rowOf t r) := by
  funext k
  unfold iblk
  show ((cfg0.win 1).blk t).view.read (Elt Ideal) (V m c main_v0) (ix2 r k) = _
  rw [View.read_apply, V_main_v0]
  show flat _ _ = flat _ _
  congr 1
  funext a
  apply Fin.ext
  match a with
  | ⟨0, _⟩ => show win0_1.index t 0 * 256 + 1 * r.val = 256 * t.val + r.val; rw [(index1 t).1]; omega
  | ⟨1, _⟩ => show win0_1.index t 1 * 2048 + 1 * k.val = k.val; rw [(index1 t).2]; omega

theorem row2 (c : Dev nD) (t : Fin cfg0.N) (r : Fin 256) :
    brow (iblk m c 2 t : Vec Ideal S256x2048 .f32) r = arow (flat (m ((c : Thread nD τ).loc main_arg2))) (rowOf t r) := by
  funext k
  unfold iblk
  show ((cfg0.win 2).blk t).view.read (Elt Ideal) (V m c main_v1) (ix2 r k) = _
  rw [View.read_apply, V_main_v1]
  show flat _ _ = flat _ _
  congr 1
  funext a
  apply Fin.ext
  match a with
  | ⟨0, _⟩ => show win0_2.index t 0 * 256 + 1 * r.val = 256 * t.val + r.val; rw [(index2 t).1]; omega
  | ⟨1, _⟩ => show win0_2.index t 1 * 2048 + 1 * k.val = k.val; rw [(index2 t).2]; omega

theorem row3 (c : Dev nD) (t : Fin cfg0.N) :
    grow (iblk m c 3 t : Vec Ideal S1x2048 .f32) = grow (m ((c : Thread nD τ).loc main_arg3)) := by
  funext k
  unfold iblk
  show ((cfg0.win 3).blk t).view.read (Elt Ideal) (V m c main_arg3) (ix2 (0 : Fin 1) k) = _
  rw [View.read_apply, V_main_arg3]
  show m _ _ = m _ _
  congr 1
  funext a
  apply Fin.ext
  match a with
  | ⟨0, _⟩ => show win0_3.index t 0 * 1 + 1 * 0 = 0; rw [(index3 t).1]
  | ⟨1, _⟩ => show win0_3.index t 1 * 2048 + 1 * k.val = k.val; rw [(index3 t).2]; omega

/-! ## The two gradient arrays written block by block -/

/-- The branch's gradient, of the arguments. -/
def dyArr (y : S4096x2048.Idx → EReal) (x t : S2x2048x2048.Idx → EReal) (g : S1x2048.Idx → EReal) : S4096x2048.Idx → EReal :=
  fun i => dy (arow y (i 0)) (arow (flat x) (i 0)) (arow (flat t) (i 0)) (grow g) (i 1)

/-- The stream's gradient, of the arguments. -/
def dzArr (y : S4096x2048.Idx → EReal) (x t : S2x2048x2048.Idx → EReal) (g : S1x2048.Idx → EReal) : S4096x2048.Idx → EReal :=
  fun i => dz (arow y (i 0)) (arow (flat x) (i 0)) (arow (flat t) (i 0)) (grow g) (i 1)

theorem outs4 (c : Dev nD) (t : Fin cfg0.N) :
    (outsAt0 m c t.val t.isLt).1 = dyBlk (iblk m c 0 t) (iblk m c 1 t) (iblk m c 2 t) (iblk m c 3 t) := by
  by_cases h : t.val % 16 = 0
  · rw [outsAt0_A m c t h]; dsimp only; rw [out_A_4]
  · rw [outsAt0_B m c t h]; dsimp only; rw [out_B_4]

theorem outs5 (c : Dev nD) (t : Fin cfg0.N) :
    (outsAt0 m c t.val t.isLt).2.1 = dzBlk (iblk m c 0 t) (iblk m c 1 t) (iblk m c 2 t) (iblk m c 3 t) := by
  by_cases h : t.val % 16 = 0
  · rw [outsAt0_A m c t h]; dsimp only; rw [out_A_5]
  · rw [outsAt0_B m c t h]; dsimp only; rw [out_B_5]

/-- The block index an array row is in, and its place there. -/
theorem split (i : Fin 4096) : ∃ (t : Fin cfg0.N) (r : Fin 256), rowOf t r = i := by
  refine ⟨⟨i.val / 256, ?_⟩, ⟨i.val % 256, Nat.mod_lt _ (by decide)⟩, Fin.ext ?_⟩
  · have : cfg0.N = 16 := N_0
    omega
  · show 256 * (i.val / 256) + i.val % 256 = i.val; omega

theorem final4 (c : Dev nD) : (dats m 0 c).arrAt 4 cfg0.N = dyArr (m ((c : Thread nD τ).loc main_arg0)) (m ((c : Thread nD τ).loc main_arg1)) (m ((c : Thread nD τ).loc main_arg2)) (m ((c : Thread nD τ).loc main_arg3)) := by
  funext i
  obtain ⟨t, r, hr⟩ := split (i 0)
  have hb := congrFun (blocks4 m c t (flush0_4 t)) (ix2 r (i 1))
  rw [View.read_apply, flushed4, outs4] at hb
  have hi : ((cfg0.win 4).blk t).view.emb (ix2 r (i 1)) = i := by
    funext a
    apply Fin.ext
    match a with
    | ⟨0, _⟩ => show win0_4.index t 0 * 256 + 1 * r.val = (i 0).val; rw [(index4 t).1, ← hr]; show _ = 256 * t.val + r.val; omega
    | ⟨1, _⟩ => show win0_4.index t 1 * 2048 + 1 * (i 1).val = (i 1).val; rw [(index4 t).2]; omega
  rw [hi] at hb
  refine hb.trans ?_
  show dy (brow (iblk m c 0 t) r) (brow (iblk m c 1 t) r) (brow (iblk m c 2 t) r) (grow (iblk m c 3 t)) (i 1) = _
  rw [row0, row1, row2, row3, hr]
  rfl

theorem final5 (c : Dev nD) : (dats m 0 c).arrAt 5 cfg0.N = dzArr (m ((c : Thread nD τ).loc main_arg0)) (m ((c : Thread nD τ).loc main_arg1)) (m ((c : Thread nD τ).loc main_arg2)) (m ((c : Thread nD τ).loc main_arg3)) := by
  funext i
  obtain ⟨t, r, hr⟩ := split (i 0)
  have hb := congrFun (blocks5 m c t (flush0_5 t)) (ix2 r (i 1))
  rw [View.read_apply, flushed5, outs5] at hb
  have hi : ((cfg0.win 5).blk t).view.emb (ix2 r (i 1)) = i := by
    funext a
    apply Fin.ext
    match a with
    | ⟨0, _⟩ => show win0_5.index t 0 * 256 + 1 * r.val = (i 0).val; rw [(index5 t).1, ← hr]; show _ = 256 * t.val + r.val; omega
    | ⟨1, _⟩ => show win0_5.index t 1 * 2048 + 1 * (i 1).val = (i 1).val; rw [(index5 t).2]; omega
  rw [hi] at hb
  refine hb.trans ?_
  show dz (brow (iblk m c 0 t) r) (brow (iblk m c 1 t) r) (brow (iblk m c 2 t) r) (grow (iblk m c 3 t)) (i 1) = _
  rw [row0, row1, row2, row3, hr]
  rfl

/-! ## The two accumulated arrays -/

/-- A function of the rows by number. -/
def byNo (f : Fin 4096 → EReal) (k : ℕ) : EReal := if h : k < 4096 then f ⟨k, h⟩ else 0

theorem byNo_rowOf (f : Fin 4096 → EReal) (t : Fin cfg0.N) (r : Fin 256) : f (rowOf t r) = byNo f (256 * t.val + r.val) := by
  show f (rowOf t r) = byNo f (rowOf t r).val
  unfold byNo
  rw [dif_pos (rowOf t r).isLt]

theorem sum_byNo (f : Fin 4096 → EReal) : ∑ k ∈ Finset.range 4096, byNo f k = ∑ k : Fin 4096, f k := by
  rw [← Fin.sum_univ_eq_sum_range]
  refine Finset.sum_congr rfl fun k _ => ?_
  unfold byNo
  rw [dif_pos k.isLt]

/-- A block's rows, summed, by number. -/
theorem block_sum (f : Fin 4096 → EReal) (t : Fin cfg0.N) :
    ∑ r : Fin 256, f (rowOf t r) = ∑ r ∈ Finset.range 256, byNo f (256 * t.val + r) := by
  rw [← Fin.sum_univ_eq_sum_range (fun r => byNo f (256 * t.val + r))]
  exact Finset.sum_congr rfl fun r _ => byNo_rowOf f t r

/-- A row's share of the gain's gradient at lane `l`, of the arguments. -/
def gainAt (y : S4096x2048.Idx → EReal) (x t : S2x2048x2048.Idx → EReal) (g : S1x2048.Idx → EReal) (l : Fin 2048) (k : Fin 4096) : EReal :=
  gain (arow y k) (arow (flat x) k) (arow (flat t) k) (grow g) l

/-- A row's mean square, of the arguments. -/
def mseAt (y : S4096x2048.Idx → EReal) (x t : S2x2048x2048.Idx → EReal) (g : S1x2048.Idx → EReal) (k : Fin 4096) : EReal :=
  mse (arow y k) (arow (flat x) k) (arow (flat t) k) (grow g)

/-- The gain's gradient, of the arguments. -/
def gainArr (y : S4096x2048.Idx → EReal) (x t : S2x2048x2048.Idx → EReal) (g : S1x2048.Idx → EReal) : S1x2048.Idx → EReal :=
  fun i => ∑ k : Fin 4096, gainAt y x t g (i 1) k

/-- The loss, of the arguments. -/
def lossArr (y : S4096x2048.Idx → EReal) (x t : S2x2048x2048.Idx → EReal) (g : S1x2048.Idx → EReal) : S1x1.Idx → EReal :=
  fun _ => Ideal.ofBits .f32 0x3F000000#32 * ∑ k : Fin 4096, mseAt y x t g k

theorem gain_block (c : Dev nD) (t : Fin cfg0.N) (p : Vec Ideal S1x2048 .f32) (l : Fin 2048) :
    gainOver (iblk m c 0 t) (iblk m c 1 t) (iblk m c 2 t) (iblk m c 3 t) p (ix2 (0 : Fin 1) l)
      = p (ix2 (0 : Fin 1) l) + ∑ r ∈ Finset.range 256, byNo (gainAt (m ((c : Thread nD τ).loc main_arg0)) (m ((c : Thread nD τ).loc main_arg1)) (m ((c : Thread nD τ).loc main_arg2)) (m ((c : Thread nD τ).loc main_arg3)) l) (256 * t.val + r) := by
  rw [← block_sum]
  show p _ + ∑ r : Fin 256, gain (brow (iblk m c 0 t) r) (brow (iblk m c 1 t) r) (brow (iblk m c 2 t) r) (grow (iblk m c 3 t)) l = p _ + _
  refine congrArg (p _ + ·) (Finset.sum_congr rfl fun r _ => ?_)
  rw [row0, row1, row2, row3]
  rfl

theorem loss_block (c : Dev nD) (t : Fin cfg0.N) (p : Vec Ideal S1x1 .f32) (i : S1x1.Idx) :
    lossOver (iblk m c 0 t) (iblk m c 1 t) (iblk m c 2 t) (iblk m c 3 t) p i
      = p i + Ideal.ofBits .f32 0x3F000000#32 * ∑ r ∈ Finset.range 256, byNo (mseAt (m ((c : Thread nD τ).loc main_arg0)) (m ((c : Thread nD τ).loc main_arg1)) (m ((c : Thread nD τ).loc main_arg2)) (m ((c : Thread nD τ).loc main_arg3))) (256 * t.val + r) := by
  rw [← block_sum]
  show p i + Ideal.ofBits .f32 0x3F000000#32 * ∑ r : Fin 256, mse (brow (iblk m c 0 t) r) (brow (iblk m c 1 t) r) (brow (iblk m c 2 t) r) (grow (iblk m c 3 t)) = p i + Ideal.ofBits .f32 0x3F000000#32 * _
  refine congrArg (fun z => p i + Ideal.ofBits .f32 0x3F000000#32 * z) (Finset.sum_congr rfl fun r _ => ?_)
  rw [row0, row1, row2, row3]
  rfl

theorem outs7 (c : Dev nD) (l : Fin 2048) : ∀ (n : ℕ) (hn : n < cfg0.N),
    (outsAt0 m c n hn).2.2.2 (ix2 (0 : Fin 1) l) = ∑ k ∈ Finset.range (256 * (n + 1)), byNo (gainAt (m ((c : Thread nD τ).loc main_arg0)) (m ((c : Thread nD τ).loc main_arg1)) (m ((c : Thread nD τ).loc main_arg2)) (m ((c : Thread nD τ).loc main_arg3)) l) k
  | 0, hn => by
    rw [show outsAt0 m c 0 hn = _ from outsAt0_A m c ⟨0, hn⟩ rfl]
    dsimp only
    rw [out_A_7, gain_block]
    show Ideal.ofBits .f32 0x00000000#32 + _ = _
    rw [Ideal.ofBits_zero_f32, zero_add]
    simp only [Nat.mul_zero, Nat.zero_add, Nat.mul_one]
  | n + 1, hn => by
    have hN : cfg0.N = 16 := N_0
    have hB : ¬(⟨n + 1, hn⟩ : Fin cfg0.N).val % 16 = 0 := by dsimp only; omega
    rw [show outsAt0 m c (n + 1) hn = _ from outsAt0_B m c ⟨n + 1, hn⟩ hB]
    dsimp only
    rw [out_B_7, gain_block, show 256 * (n + 1 + 1) = 256 * (n + 1) + 256 from rfl, Finset.sum_range_add]
    congr 1
    exact outs7 c l n _

theorem outs6 (c : Dev nD) (i : S1x1.Idx) : ∀ (n : ℕ) (hn : n < cfg0.N),
    (outsAt0 m c n hn).2.2.1 i = Ideal.ofBits .f32 0x3F000000#32 * ∑ k ∈ Finset.range (256 * (n + 1)), byNo (mseAt (m ((c : Thread nD τ).loc main_arg0)) (m ((c : Thread nD τ).loc main_arg1)) (m ((c : Thread nD τ).loc main_arg2)) (m ((c : Thread nD τ).loc main_arg3))) k
  | 0, hn => by
    rw [show outsAt0 m c 0 hn = _ from outsAt0_A m c ⟨0, hn⟩ rfl]
    dsimp only
    rw [out_A_6, loss_block]
    show Ideal.ofBits .f32 0x00000000#32 + _ = _
    rw [Ideal.ofBits_zero_f32, zero_add]
    simp only [Nat.mul_zero, Nat.zero_add, Nat.mul_one]
  | n + 1, hn => by
    have hN : cfg0.N = 16 := N_0
    have hB : ¬(⟨n + 1, hn⟩ : Fin cfg0.N).val % 16 = 0 := by dsimp only; omega
    rw [show outsAt0 m c (n + 1) hn = _ from outsAt0_B m c ⟨n + 1, hn⟩ hB]
    dsimp only
    rw [out_B_6, loss_block, show 256 * (n + 1 + 1) = 256 * (n + 1) + 256 from rfl, Finset.sum_range_add, Cert.Consts.ofBits_half,
      EReal.left_distrib_of_nonneg_of_ne_top (by exact_mod_cast (by norm_num : (0 : ℝ) ≤ 1 / 2)) (EReal.coe_ne_top _), ← Cert.Consts.ofBits_half]
    congr 1
    exact outs6 c i n _

theorem final7 (c : Dev nD) : (dats m 0 c).arrAt 7 cfg0.N = gainArr (m ((c : Thread nD τ).loc main_arg0)) (m ((c : Thread nD τ).loc main_arg1)) (m ((c : Thread nD τ).loc main_arg2)) (m ((c : Thread nD τ).loc main_arg3)) := by
  refine (dats m 0 c).arrAt_eq_of_cover 7 (gainArr (m ((c : Thread nD τ).loc main_arg0)) (m ((c : Thread nD τ).loc main_arg1)) (m ((c : Thread nD τ).loc main_arg2)) (m ((c : Thread nD τ).loc main_arg3))) (fun t hf => ?_) (fun i => ?_)
  · have h15 : t = t0_15 := Fin.ext (by have := (flush0_7 t).mp hf; have := Nat.lt_of_lt_of_eq t.isLt N_0; show t.val = 15; omega)
    subst h15
    rw [flushed7]
    have hz' : (fun a => win0_7.index t0_15 a * main_v2_3.ty.shape.size a) = fun _ => 0 := funext fun a => by fin_cases a <;> decide
    refine Eq.trans ?_ (Memref.read_access_unit_zero (Elt Ideal) main_v2_3 hz' (fun a => by rw [congrFun hz' a]; simp) (gainArr (m ((c : Thread nD τ).loc main_arg0)) (m ((c : Thread nD τ).loc main_arg1)) (m ((c : Thread nD τ).loc main_arg2)) (m ((c : Thread nD τ).loc main_arg3)))).symm
    funext (i : S1x2048.Idx)
    show (outsAt0 m c 15 _).2.2.2 i = _
    have hi : i = ix2 (0 : Fin 1) (i 1) := by
      funext a
      match a with
      | ⟨0, _⟩ => exact Subsingleton.elim (α := Fin 1) _ _
      | ⟨1, _⟩ => rfl
    rw [hi]
    refine (outs7 m c (i 1) 15 _).trans ?_
    rw [show 256 * (15 + 1) = 4096 from rfl, sum_byNo]
    rfl
  · refine ⟨t0_15, (flush0_7 t0_15).mpr rfl, ?_⟩
    show i ∈ ((View.whole main_v2_3).slice (win0_7.rect t0_15)).set
    rw [View.set_slice_whole, Rect.mem_set_unit]
    intro a
    have h0 : (i 0 : Nat) < 1 := (i 0).isLt
    have h1 : (i 1 : Nat) < 2048 := (i 1).isLt
    match a with
    | ⟨0, _⟩ => show win0_7.index t0_15 0 * win0_7.size 0 ≤ (i 0 : Nat) ∧ (i 0 : Nat) < win0_7.index t0_15 0 * win0_7.size 0 + win0_7.xsize (grid0.coords t0_15) 0
                rw [show win0_7.index t0_15 0 * win0_7.size 0 = 0 from by decide +kernel, show win0_7.xsize (grid0.coords t0_15) 0 = 1 from by decide +kernel]; omega
    | ⟨1, _⟩ => show win0_7.index t0_15 1 * win0_7.size 1 ≤ (i 1 : Nat) ∧ (i 1 : Nat) < win0_7.index t0_15 1 * win0_7.size 1 + win0_7.xsize (grid0.coords t0_15) 1
                rw [show win0_7.index t0_15 1 * win0_7.size 1 = 0 from by decide +kernel, show win0_7.xsize (grid0.coords t0_15) 1 = 2048 from by decide +kernel]; omega

theorem final6 (c : Dev nD) : (dats m 0 c).arrAt 6 cfg0.N = lossArr (m ((c : Thread nD τ).loc main_arg0)) (m ((c : Thread nD τ).loc main_arg1)) (m ((c : Thread nD τ).loc main_arg2)) (m ((c : Thread nD τ).loc main_arg3)) := by
  refine (dats m 0 c).arrAt_eq_of_cover 6 (lossArr (m ((c : Thread nD τ).loc main_arg0)) (m ((c : Thread nD τ).loc main_arg1)) (m ((c : Thread nD τ).loc main_arg2)) (m ((c : Thread nD τ).loc main_arg3))) (fun t hf => ?_) (fun i => ?_)
  · have h15 : t = t0_15 := Fin.ext (by have := (flush0_6 t).mp hf; have := Nat.lt_of_lt_of_eq t.isLt N_0; show t.val = 15; omega)
    subst h15
    rw [flushed6]
    have hz' : (fun a => win0_6.index t0_15 a * main_v2_2.ty.shape.size a) = fun _ => 0 := funext fun a => by fin_cases a <;> decide
    refine Eq.trans ?_ (Memref.read_access_unit_zero (Elt Ideal) main_v2_2 hz' (fun a => by rw [congrFun hz' a]; simp) (lossArr (m ((c : Thread nD τ).loc main_arg0)) (m ((c : Thread nD τ).loc main_arg1)) (m ((c : Thread nD τ).loc main_arg2)) (m ((c : Thread nD τ).loc main_arg3)))).symm
    funext (i : S1x1.Idx)
    show (outsAt0 m c 15 _).2.2.1 i = _
    refine (outs6 m c i 15 _).trans ?_
    rw [show 256 * (15 + 1) = 4096 from rfl, sum_byNo]
    rfl
  · refine ⟨t0_15, (flush0_6 t0_15).mpr rfl, ?_⟩
    show i ∈ ((View.whole main_v2_2).slice (win0_6.rect t0_15)).set
    rw [View.set_slice_whole, Rect.mem_set_unit]
    intro a
    have h0 : (i 0 : Nat) < 1 := (i 0).isLt
    have h1 : (i 1 : Nat) < 1 := (i 1).isLt
    match a with
    | ⟨0, _⟩ => show win0_6.index t0_15 0 * win0_6.size 0 ≤ (i 0 : Nat) ∧ (i 0 : Nat) < win0_6.index t0_15 0 * win0_6.size 0 + win0_6.xsize (grid0.coords t0_15) 0
                rw [show win0_6.index t0_15 0 * win0_6.size 0 = 0 from by decide +kernel, show win0_6.xsize (grid0.coords t0_15) 0 = 1 from by decide +kernel]; omega
    | ⟨1, _⟩ => show win0_6.index t0_15 1 * win0_6.size 1 ≤ (i 1 : Nat) ∧ (i 1 : Nat) < win0_6.index t0_15 1 * win0_6.size 1 + win0_6.xsize (grid0.coords t0_15) 1
                rw [show win0_6.index t0_15 1 * win0_6.size 1 = 0 from by decide +kernel, show win0_6.xsize (grid0.coords t0_15) 1 = 1 from by decide +kernel]; omega

end Cert.KernelIdeal.Post

end
-- ==== Proof.Sums.lean ====
/- Sums over two leading axes, and over the rows of a two-sequence batch. -/
module

public import Idealize.ShloMosaic.Lib.Pointwise

@[expose] public section

noncomputable section

namespace Cert.Sums

open Idealize.ShloMosaic Idealize.ShloMosaic.TcCoe

section lead
variable {a b n : Nat} (h : (⟨3, ![a, b, n]⟩ : Shape).ReducesTo [0, 1] ⟨1, ![n]⟩)

/-- An index keeps its last coordinate when its two leading axes are summed away. -/
theorem drop_lead (k : Fin n) (i : (⟨3, ![a, b, n]⟩ : Shape).Idx) :
    h.drop i = ix1 k ↔ ∃ p : Fin a × Fin b, ix3 p.1 p.2 k = i := by
  constructor
  · intro e
    refine ⟨(i 0, i 1), ?_⟩
    funext q; apply Fin.ext
    match q with
    | ⟨0, _⟩ => rfl
    | ⟨1, _⟩ => rfl
    | ⟨2, _⟩ => exact (congrArg Fin.val (congrFun e (0 : Fin 1))).symm
  · rintro ⟨p, rfl⟩
    funext q
    apply Fin.ext
    match q with
    | ⟨0, _⟩ => rfl

/-- The host's sum over the two leading axes. -/
theorem hostReduceAdd_lead (v : (⟨3, ![a, b, n]⟩ : Shape).Idx → EReal) (init : EReal) (k : Fin n) :
    Ideal.hostReduceAdd h v init (ix1 k) = init + ∑ p : Fin a, ∑ q : Fin b, v (ix3 p q k) := by
  refine congrArg (init + ·) ((Finset.sum_filter_eq_sum_of_fiber _ (fun p : Fin a × Fin b => ix3 p.1 p.2 k)
    (fun _ _ e => Prod.ext (congrFun e 0) (congrFun e 1)) (drop_lead h k) v).trans ?_)
  simp only [Fintype.sum_prod_type]

end lead

/-- The number of row `s` of sequence `b`. -/
def no (b : Fin 2) (s : Fin 2048) : Fin 4096 := ⟨b.val * 2048 + s.val, by omega⟩

/-- Every row has a sequence and a place in it. -/
theorem no_div_mod (r : Fin 4096) : no ⟨r.val / 2048, by omega⟩ ⟨r.val % 2048, by omega⟩ = r :=
  Fin.ext (Nat.div_add_mod' r.val 2048)

/-- The rows of the two sequences are the 4096 rows. -/
theorem sum_no {M : Type*} [AddCommMonoid M] (f : Fin 4096 → M) : ∑ b : Fin 2, ∑ s : Fin 2048, f (no b s) = ∑ r : Fin 4096, f r := by
  rw [← Fintype.sum_prod_type']
  refine Fintype.sum_equiv (finProdFinEquiv (m := 2) (n := 2048)) _ _ fun p => congrArg f (Fin.ext ?_)
  show p.1.val * 2048 + p.2.val = p.2.val + 2048 * p.1.val
  omega

end Cert.Sums

end
-- ==== Proof.PostReference.lean ====
/- What the post-norm loss reference computes, in the kernel's row functions. -/
module

public import proofs.«01_k».proof.Proof.PostArrays
public import proofs.«01_k».proof.Proof.Sums
public import proofs.«01_k».proof.Proof.Gen.ReferenceIdeal.Read

@[expose] public section

set_option maxRecDepth 16384

noncomputable section

namespace Cert.ReferenceIdeal.Post

open Cert.ReferenceIdeal Cert.ReferenceIdeal.Gen Cert.ReferenceIdeal.Read Idealize.ShloMosaic Idealize.ShloMosaic.TcCoe Idealize.SL.Sem
open Cert.Post Cert.Sums
open Cert.KernelIdeal.Post (arow grow flat dyArr dzArr gainArr lossArr gainAt mseAt)

variable (y : S4096x2048.Idx → EReal) (x t : S2x2048x2048.Idx → EReal) (g : S1x2048.Idx → EReal)

theorem flat_no (b : Fin 2) (s k : Fin 2048) : flat x (ix2 (no b s) k) = x (ix3 b s k) :=
  shapeCast_apply x _ (ix2 (no b s) k) (ix3 b s k) (by
    rw [Shape.rowMajor_val_two, Shape.rowMajor_val_three]; rfl)

/-- A row of the stream. -/
abbrev srow (x : S2x2048x2048.Idx → EReal) (b : Fin 2) (s : Fin 2048) : Row := fun k => x (ix3 b s k)

theorem arow_flat (b : Fin 2) (s : Fin 2048) : arow (flat x) (no b s) = srow x b s := funext fun k => flat_no x b s k

theorem v1_at (b : Fin 2) (s k : Fin 2048) : val_main_v1 (F := Ideal) y (ix3 b s k) = y (ix2 (no b s) k) :=
  (shapeCast_apply (val_main_v0 (F := Ideal) y) _ (ix3 b s k) (ix2 (no b s) k) (by
    rw [Shape.rowMajor_val_two, Shape.rowMajor_val_three]; rfl))

theorem v10_at (b : Fin 2) (s : Fin 2048) (z : Fin 1) : val_main_v10 (F := Ideal) y (ix3 b s z) = inv (arow y (no b s)) := by
  pointwise [val_main_v10, val_main_v9, val_main_v8, val_main_v7, val_main_v6, val_main_v5, val_main_v4, val_main_v3, v1_at, val_main_cst_1, val_main_cst_0, val_main_cst]
  rfl

theorem v15_at (b : Fin 2) (s k : Fin 2048) :
    val_main_v15 (F := Ideal) y (ix3 b s k) = arow y (no b s) k * inv (arow y (no b s)) := by
  pointwise [val_main_v15, val_main_v14, v10_at, v1_at]

theorem v16_at (z w : Fin 1) (k : Fin 2048) : val_main_v16 (F := Ideal) g (ix3 z w k) = grow g k := by
  pointwise [val_main_v16, val_main_v2]

theorem v20_at (b : Fin 2) (s k : Fin 2048) :
    val_main_v20 (F := Ideal) y x t g (ix3 b s k) = err (arow y (no b s)) (srow x b s) (srow t b s) (grow g) k := by
  pointwise [val_main_v20, val_main_v19, val_main_v18, val_main_v17, v15_at, v16_at]
  rfl

theorem v34_at (b : Fin 2) (s k : Fin 2048) :
    val_main_v34 (F := Ideal) y x t g (ix3 b s k) = dz (arow y (no b s)) (srow x b s) (srow t b s) (grow g) k := by
  pointwise [val_main_v34, val_main_v33, val_main_v32, val_main_v31, val_main_v30, val_main_v29, val_main_v23, val_main_v22, v20_at,
    val_main_cst_3, val_main_cst_8, val_main_cst_9, val_main_cst_10]
  unfold dz
  generalize err _ _ _ _ _ = e
  rw [Cert.Consts.ofBits_2048, Cert.Consts.ofBits_half, Cert.Consts.ofBits_two,
    Ideal.div_coe (by norm_num), Ideal.div_coe (by norm_num), ← EReal.coe_mul, ← mul_assoc, ← EReal.coe_mul, mul_comm e]
  congr 2
  norm_num

theorem v39_at (b : Fin 2) (s k : Fin 2048) :
    val_main_v39 (F := Ideal) y x t g (ix3 b s k) = dz (arow y (no b s)) (srow x b s) (srow t b s) (grow g) k * grow g k := by
  pointwise [val_main_v39, val_main_v38, v34_at, v16_at]

theorem v54_at (b : Fin 2) (s k : Fin 2048) :
    val_main_v54 (F := Ideal) y x t g (ix3 b s k) = dy (arow y (no b s)) (srow x b s) (srow t b s) (grow g) k := by
  obtain ⟨e, he, hE⟩ := Cert.Consts.ofBits_eps
  pointwise [val_main_v54, val_main_v53, val_main_v52, val_main_v51, val_main_v50, val_main_v49, val_main_v48, val_main_v47, val_main_v46,
    val_main_v45, val_main_v44, val_main_v43, val_main_v42, val_main_v41, v39_at, v1_at, v10_at, val_main_v13, val_main_v12, val_main_v11,
    val_main_v9, val_main_v8, val_main_v7, val_main_v6, val_main_v5, val_main_v4, val_main_v3,
    val_main_cst_15, val_main_cst_14, val_main_cst_13, val_main_cst_2, val_main_cst_1, val_main_cst_0, val_main_cst]
  simp only [Finset.univ_unique, Finset.sum_singleton]
  unfold dy
  have hi : inv (arow y (no b s)) = Ideal.rsqrt (Ideal.div (∑ k, arow y (no b s) k * arow y (no b s) k) ((2048 : ℝ) : EReal) + (e : EReal)) := by
    unfold Cert.Post.inv; rw [Cert.Consts.ofBits_2048, hE]
  rw [Cert.Consts.ofBits_2048, Cert.Consts.ofBits_neg_half, hE, hi]
  exact (Cert.Alg.rms_grad (arow y (no b s)) (fun k => dz (arow y (no b s)) (srow x b s) (srow t b s) (grow g) k * grow g k) (by norm_num) he k).symm

theorem v36_at (k : Fin 2048) :
    val_main_v36 (F := Ideal) y x t g (ix1 k) = ∑ b : Fin 2, ∑ s : Fin 2048, gain (arow y (no b s)) (srow x b s) (srow t b s) (grow g) k := by
  unfold val_main_v36
  simp only [Host.reduceAdd, Ideal.hostReduceAdd_def]
  rw [hostReduceAdd_lead]
  pointwise [val_main_v35, v15_at, v34_at, val_main_cst_11]
  refine Finset.sum_congr rfl fun b _ => Finset.sum_congr rfl fun s _ => mul_comm _ _

theorem v28_at :
    val_main_v28 (F := Ideal) y x t g ix0 = Ideal.ofBits .f32 0x3F000000#32 * ∑ b : Fin 2, ∑ s : Fin 2048, mse (arow y (no b s)) (srow x b s) (srow t b s) (grow g) := by
  pointwise [val_main_v28, val_main_v27, val_main_v26, val_main_v25, val_main_v24, val_main_v21, v20_at, val_main_cst_4, val_main_cst_5, val_main_cst_6, val_main_cst_7]
  rfl

theorem v40_at (k : Fin 2048) :
    val_main_v40 (F := Ideal) y x t g (ix1 k) = ∑ b : Fin 2, ∑ s : Fin 2048, gain (arow y (no b s)) (srow x b s) (srow t b s) (grow g) k := by
  unfold val_main_v40
  simp only [Host.reduceAdd, Ideal.hostReduceAdd_def]
  rw [hostReduceAdd_lead]
  pointwise [val_main_v37, v36_at, val_main_cst_12]
  simp only [Finset.univ_unique, Finset.sum_singleton]

/-! ## The four results -/

theorem dy_eq : val_main_v57 (F := Ideal) y x t g = dyArr y x t g := by
  funext i
  idx_vars i
  pointwise [val_main_v57]
  unfold val_main_v56
  rw [shapeCast_apply _ _ (ix2 i0 i1) (ix3 (⟨i0.val / 2048, by omega⟩ : Fin 2) (⟨i0.val % 2048, by omega⟩ : Fin 2048) i1) (by
    rw [Shape.rowMajor_val_two, Shape.rowMajor_val_three]
    exact congrArg (· * 2048 + i1.val) (Nat.div_add_mod' i0.val 2048)), v54_at]
  simp only [← arow_flat, no_div_mod]
  rfl

theorem dz_eq : val_main_v58 (F := Ideal) y x t g = dzArr y x t g := by
  funext i
  idx_vars i
  unfold val_main_v58
  rw [shapeCast_apply _ _ (ix2 i0 i1) (ix3 (⟨i0.val / 2048, by omega⟩ : Fin 2) (⟨i0.val % 2048, by omega⟩ : Fin 2048) i1) (by
    rw [Shape.rowMajor_val_two, Shape.rowMajor_val_three]
    exact congrArg (· * 2048 + i1.val) (Nat.div_add_mod' i0.val 2048)), v34_at]
  simp only [← arow_flat, no_div_mod]
  rfl

theorem loss_eq : val_main_v59 (F := Ideal) y x t g = lossArr y x t g := by
  funext i
  unfold val_main_v59
  rw [shapeCast_apply _ _ i ix0 (by
    rw [Shape.rowMajor_val_two]
    have h0 : (i 0).val < 1 := (i 0).isLt
    have h1 : (i 1).val < 1 := (i 1).isLt
    show 0 = (i 0).val * 1 + (i 1).val
    omega), v28_at]
  simp only [← arow_flat]
  rw [sum_no (fun r => mse (arow y r) (arow (flat x) r) (arow (flat t) r) (grow g))]
  rfl

theorem gain_eq : val_main_v55 (F := Ideal) y x t g = gainArr y x t g := by
  funext i
  idx_vars i
  pointwise [val_main_v55, v40_at]
  simp only [← arow_flat]
  rw [sum_no (fun r => gain (arow y r) (arow (flat x) r) (arow (flat t) r) (grow g) i1)]
  rfl

end Cert.ReferenceIdeal.Post

end
-- ==== Proof.PostClaims.lean ====
/- The claims about the post-norm loss and its gradient. -/
module

public import proofs.«01_k».proof.Defs
public import proofs.«01_k».proof.Proof.PostReference
public import proofs.«01_k».proof.Proof.Gen.Kernel.Frame
public import proofs.«01_k».proof.Proof.Gen.KernelIdeal.Frame
public import Idealize.ShloMosaic.Lib.Quiescent

@[expose] public section

set_option maxRecDepth 16384

noncomputable section

namespace Cert.Proof

open Idealize.ShloMosaic Idealize.ShloMosaic.TcCoe Idealize.SL.Sem

/-- The reference runs, keeps its arguments, and leaves every semaphore at zero. -/
theorem post_reference_frame : Cert.quiescent_ReferenceIdeal (hReferenceIdeal := Cert.ReferenceIdeal.Gen.facts) :=
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ)

/-- The kernel's four results are the reference's. -/
theorem post_algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, _, _, _, Cert.KernelIdeal.Value.run_blocks m ρ, ?_⟩
  refine (θ_run Cert.ReferenceIdeal.defs _ _).mono
    (fun _ h c => ⟨(h c).1.trans ((Cert.ReferenceIdeal.Read.val_main_v57_eq m' c).trans ?_),
      (h c).2.1.trans ((Cert.ReferenceIdeal.Read.val_main_v58_eq _ _ _ _).trans ?_),
      (h c).2.2.1.trans ((Cert.ReferenceIdeal.Read.val_main_v59_eq _ _ _ _).trans ?_),
      (h c).2.2.2.1.trans ((Cert.ReferenceIdeal.Read.val_main_v55_eq _ _ _ _).trans ?_), (h c).2.2.2.2⟩)
    (Cert.ReferenceIdeal.Value.run (F := Ideal) m' ρ')
  · rw [(hagree c).1, (hagree c).2.1, (hagree c).2.2.1, (hagree c).2.2.2]
    exact (Cert.ReferenceIdeal.Post.dy_eq _ _ _ _).trans (Cert.KernelIdeal.Post.final4 m c).symm
  · rw [(hagree c).1, (hagree c).2.1, (hagree c).2.2.1, (hagree c).2.2.2]
    exact (Cert.ReferenceIdeal.Post.dz_eq _ _ _ _).trans (Cert.KernelIdeal.Post.final5 m c).symm
  · rw [(hagree c).1, (hagree c).2.1, (hagree c).2.2.1, (hagree c).2.2.2]
    exact (Cert.ReferenceIdeal.Post.loss_eq _ _ _ _).trans (Cert.KernelIdeal.Post.final6 m c).symm
  · rw [(hagree c).1, (hagree c).2.1, (hagree c).2.2.1, (hagree c).2.2.2]
    exact (Cert.ReferenceIdeal.Post.gain_eq _ _ _ _).trans (Cert.KernelIdeal.Post.final7 m c).symm

end Cert.Proof

end
-- ==== Proof.MergeKernel.lean ====
/- What the merge's backward kernel leaves in its output blocks, as functions of its input blocks. -/
module

public import proofs.«01_k».proof.Proof.Gen.Kernel2Ideal.Value
public import Idealize.ShloMosaic.Lib.Pointwise
public import Idealize.ShloMosaic.Lib.WritesUnit

@[expose] public section

set_option maxRecDepth 16384

noncomputable section

/-! ## The step's scalar functions -/

namespace Cert.Merge

open Idealize.ShloMosaic

/-- The gradient of a branch, from the merged gradient `d` and the branch's gate. -/
def branch (d gate : EReal) : EReal := d * Ideal.logistic gate

/-- The gradient of a gate, from the merged gradient `d`, the gate and the branch. -/
def gateGrad (d gate u : EReal) : EReal :=
  d * u * Ideal.logistic gate * (1 - Ideal.logistic gate)

/-- The merged gradient: a row of the output's gradient against a row of the output's weight. -/
def merged (y w : Fin 2048 → EReal) : EReal := ∑ k, y k * w k

end Cert.Merge

namespace Cert.Kernel2Ideal.Merge

open Cert.Kernel2Ideal Cert.Kernel2Ideal.Gen Idealize.ShloMosaic Idealize.ShloMosaic.TcCoe Idealize.SL.Sem
open Idealize.ShloMosaic.Pipeline (Dat)
open Cert.Merge

theorem hz : (![0, 0] : Fin 2 → Nat) = fun _ => 0 := funext fun a => by fin_cases a <;> rfl

/-- A place of a matrix, from its coordinates. -/
theorem place {A B : ℕ} (i : (⟨2, ![A, B]⟩ : Shape).Idx) (r : Fin A) (k : Fin B) (h0 : (i 0).val = r.val) (h1 : (i 1).val = k.val) : i = ix2 r k := by
  funext a
  apply Fin.ext
  match a with
  | ⟨0, _⟩ => exact h0
  | ⟨1, _⟩ => exact h1

/-- The merged gradient at an element of the block. -/
abbrev mg (x0 : S512x2048.Idx → EReal) (x1 : S1024x2048.Idx → EReal) (r : Fin 512) (l : Fin 1024) : EReal :=
  merged (fun k => x0 (ix2 r k)) (fun k => x1 (ix2 l k))

/-! ## The payloads at an index -/

theorem pay1_apply (x0 : Vec Ideal S512x2048 .bf16) (x1 : Vec Ideal S1024x2048 .bf16) (r : Fin 512) (l : Fin 1024) :
    k0_pay1 (F := Ideal) x0 x1 (ix2 r l) = mg x0 x1 r l := by
  unfold k0_pay1
  pointwise
  rfl

theorem pay4_eq (x0 : Vec Ideal S512x2048 .bf16) (x1 : Vec Ideal S1024x2048 .bf16) (x2 : Vec Ideal S512x1024 .f32) :
    k0_pay4 (F := Ideal) x0 x1 x2 = fun i => branch (mg x0 x1 (i 0) (i 1)) (x2 i) := by
  funext i
  idx_vars i
  unfold k0_pay4
  pointwise [pay1_apply, k0_pay2]
  rfl

theorem pay5_eq (x0 : Vec Ideal S512x2048 .bf16) (x1 : Vec Ideal S1024x2048 .bf16) (x3 : Vec Ideal S512x1024 .f32) :
    k0_pay5 (F := Ideal) x0 x1 x3 = fun i => branch (mg x0 x1 (i 0) (i 1)) (x3 i) := by
  funext i
  idx_vars i
  unfold k0_pay5
  pointwise [pay1_apply, k0_pay3]
  rfl

theorem pay6_apply (x0 : Vec Ideal S512x2048 .bf16) (x1 : Vec Ideal S1024x2048 .bf16) (x2 : Vec Ideal S512x1024 .f32)
    (x4 : Vec Ideal S512x1024 .bf16) (r : Fin 512) (l : Fin 1024) :
    k0_pay6 (F := Ideal) x0 x1 x2 x4 (ix2 r l) = gateGrad (mg x0 x1 r l) (x2 (ix2 r l)) (x4 (ix2 r l)) := by
  unfold k0_pay6
  pointwise [pay1_apply, k0_pay2]
  rfl

theorem pay7_apply (x0 : Vec Ideal S512x2048 .bf16) (x1 : Vec Ideal S1024x2048 .bf16) (x3 : Vec Ideal S512x1024 .f32)
    (x5 : Vec Ideal S512x1024 .bf16) (r : Fin 512) (l : Fin 1024) :
    k0_pay7 (F := Ideal) x0 x1 x3 x5 (ix2 r l) = gateGrad (mg x0 x1 r l) (x3 (ix2 r l)) (x5 (ix2 r l)) := by
  unfold k0_pay7
  pointwise [pay1_apply, k0_pay3]
  rfl

/-! ## What each case leaves -/

section outs
variable (c : Dev nD) (i : grid0.Coords) (a2 : Memref sig .tc .vmem S512x2048 .bf16) (h2 : a2.IsWhole)
  (a3 : Memref sig .tc .vmem S1024x2048 .bf16) (h3 : a3.IsWhole) (a4 : Memref sig .tc .vmem S512x1024 .f32) (h4 : a4.IsWhole)
  (a5 : Memref sig .tc .vmem S512x1024 .f32) (h5 : a5.IsWhole) (a6 : Memref sig .tc .vmem S512x1024 .bf16) (h6 : a6.IsWhole)
  (a7 : Memref sig .tc .vmem S512x1024 .bf16) (h7 : a7.IsWhole) (a8 : Memref sig .tc .vmem S512x1024 .bf16) (h8 : a8.IsWhole)
  (a9 : Memref sig .tc .vmem S512x1024 .bf16) (h9 : a9.IsWhole) (a10 : Memref sig .tc .vmem S512x4096 .bf16) (h10 : a10.IsWhole)
  (x0 : Vec Ideal S512x2048 .bf16) (x1 : Vec Ideal S1024x2048 .bf16) (x2 x3 : Vec Ideal S512x1024 .f32)
  (x4 x5 : Vec Ideal S512x1024 .bf16) (p8 : Vec Ideal S512x4096 .bf16)

theorem out_A_6 (hc0 : cond0_0 i) (hc1 : cond0_1 i) (hc2 : ¬cond0_2 i) :
    out0_A_6 c i a2 h2 a3 h3 a4 h4 a5 h5 a6 h6 a7 h7 a8 h8 a9 h9 a10 h10 hc0 hc1 hc2 x0 x1 x2 x3 x4 x5
      = fun i => branch (mg x0 x1 (i 0) (i 1)) (x2 i) := by
  unfold out0_A_6
  rw [View.read_writes_eq_canon _ _ _ (cover0_A_6 c i a2 h2 a3 h3 a4 h4 a5 h5 a6 h6 a7 h7 a8 h8 a9 h9 a10 h10 hc0 hc1 hc2 x0 x1 x2 x3 x4 x5)]
  unfold kernelRun0_A
  dsimp only
  sl_unfold_words
  rw [View.canon_unit_zero hz]
  simp only [View.readAt_eq_ld, h2.read_unread, h3.read_unread, h4.read_unread,
    View.ld_unit_zero (S := S512x2048) hz, View.ld_unit_zero (S := S1024x2048) hz, View.ld_unit_zero (S := S512x1024) hz, pay4_eq]

theorem out_A_7 (hc0 : cond0_0 i) (hc1 : cond0_1 i) (hc2 : ¬cond0_2 i) :
    out0_A_7 c i a2 h2 a3 h3 a4 h4 a5 h5 a6 h6 a7 h7 a8 h8 a9 h9 a10 h10 hc0 hc1 hc2 x0 x1 x2 x3 x4 x5
      = fun i => branch (mg x0 x1 (i 0) (i 1)) (x3 i) := by
  unfold out0_A_7
  rw [View.read_writes_eq_canon _ _ _ (cover0_A_7 c i a2 h2 a3 h3 a4 h4 a5 h5 a6 h6 a7 h7 a8 h8 a9 h9 a10 h10 hc0 hc1 hc2 x0 x1 x2 x3 x4 x5)]
  unfold kernelRun0_A
  dsimp only
  sl_unfold_words
  rw [View.canon_unit_zero hz]
  simp only [View.readAt_eq_ld, h2.read_unread, h3.read_unread, h5.read_unread,
    View.ld_unit_zero (S := S512x2048) hz, View.ld_unit_zero (S := S1024x2048) hz, View.ld_unit_zero (S := S512x1024) hz, pay5_eq]

theorem out_B_6 (hc0 : ¬cond0_0 i) (hc1 : ¬cond0_1 i) (hc2 : cond0_2 i) :
    out0_B_6 c i a2 h2 a3 h3 a4 h4 a5 h5 a6 h6 a7 h7 a8 h8 a9 h9 a10 h10 hc0 hc1 hc2 x0 x1 x2 x3 x4 x5 p8
      = fun i => branch (mg x0 x1 (i 0) (i 1)) (x2 i) := by
  unfold out0_B_6
  rw [View.read_writes_eq_canon _ _ _ (cover0_B_6 c i a2 h2 a3 h3 a4 h4 a5 h5 a6 h6 a7 h7 a8 h8 a9 h9 a10 h10 hc0 hc1 hc2 x0 x1 x2 x3 x4 x5 p8)]
  unfold kernelRun0_B
  dsimp only
  sl_unfold_words
  rw [View.canon_unit_zero hz]
  simp only [View.readAt_eq_ld, h2.read_unread, h3.read_unread, h4.read_unread,
    View.ld_unit_zero (S := S512x2048) hz, View.ld_unit_zero (S := S1024x2048) hz, View.ld_unit_zero (S := S512x1024) hz, pay4_eq]

theorem out_B_7 (hc0 : ¬cond0_0 i) (hc1 : ¬cond0_1 i) (hc2 : cond0_2 i) :
    out0_B_7 c i a2 h2 a3 h3 a4 h4 a5 h5 a6 h6 a7 h7 a8 h8 a9 h9 a10 h10 hc0 hc1 hc2 x0 x1 x2 x3 x4 x5 p8
      = fun i => branch (mg x0 x1 (i 0) (i 1)) (x3 i) := by
  unfold out0_B_7
  rw [View.read_writes_eq_canon _ _ _ (cover0_B_7 c i a2 h2 a3 h3 a4 h4 a5 h5 a6 h6 a7 h7 a8 h8 a9 h9 a10 h10 hc0 hc1 hc2 x0 x1 x2 x3 x4 x5 p8)]
  unfold kernelRun0_B
  dsimp only
  sl_unfold_words
  rw [View.canon_unit_zero hz]
  simp only [View.readAt_eq_ld, h2.read_unread, h3.read_unread, h5.read_unread,
    View.ld_unit_zero (S := S512x2048) hz, View.ld_unit_zero (S := S1024x2048) hz, View.ld_unit_zero (S := S512x1024) hz, pay5_eq]

/-- The gates' gradient block, after the even point: the first half of each gate's columns. -/
theorem out_A_8 (hc0 : cond0_0 i) (hc1 : cond0_1 i) (hc2 : ¬cond0_2 i) (r : Fin 512) (l : Fin 1024) (j : Fin 4096) :
    (j.val = l.val → out0_A_8 c i a2 h2 a3 h3 a4 h4 a5 h5 a6 h6 a7 h7 a8 h8 a9 h9 a10 h10 hc0 hc1 hc2 x0 x1 x2 x3 x4 x5 (ix2 r j)
      = gateGrad (mg x0 x1 r l) (x2 (ix2 r l)) (x4 (ix2 r l)))
    ∧ (j.val = 2048 + l.val → out0_A_8 c i a2 h2 a3 h3 a4 h4 a5 h5 a6 h6 a7 h7 a8 h8 a9 h9 a10 h10 hc0 hc1 hc2 x0 x1 x2 x3 x4 x5 (ix2 r j)
      = gateGrad (mg x0 x1 r l) (x3 (ix2 r l)) (x5 (ix2 r l))) := by
  unfold out0_A_8
  unfold kernelRun0_A
  dsimp only
  sl_unfold_words
  have hl := l.isLt
  constructor
  · intro hj
    refine (View.read_writes_cons_unit_of_not_mem (s := S512x4096) _ _ _ _ _ _ rfl 1 (Or.inl ?_)).trans ?_
    · show j.val < 2048
      omega
    refine (View.read_writes_cons_unit_of_mem (s := S512x4096) _ _ _ _ _ _ (ix2 r l) rfl ?_).trans ?_
    · intro a
      match a with
      | ⟨0, _⟩ => show r.val = 0 + r.val; omega
      | ⟨1, _⟩ => show j.val = 0 + l.val; omega
    simp only [View.readAt_eq_ld, h2.read_unread, h3.read_unread, h4.read_unread, h6.read_unread,
      View.ld_unit_zero (S := S512x2048) hz, View.ld_unit_zero (S := S1024x2048) hz, View.ld_unit_zero (S := S512x1024) hz]
    exact pay6_apply _ _ _ _ r l
  · intro hj
    refine (View.read_writes_cons_unit_of_mem (s := S512x4096) _ _ _ _ _ _ (ix2 r l) rfl ?_).trans ?_
    · intro a
      match a with
      | ⟨0, _⟩ => show r.val = 0 + r.val; omega
      | ⟨1, _⟩ => show j.val = 2048 + l.val; omega
    simp only [View.readAt_eq_ld, h2.read_unread, h3.read_unread, h5.read_unread, h7.read_unread,
      View.ld_unit_zero (S := S512x2048) hz, View.ld_unit_zero (S := S1024x2048) hz, View.ld_unit_zero (S := S512x1024) hz]
    exact pay7_apply _ _ _ _ r l

/-- The gates' gradient block, after the odd point: the second half of each gate's columns is written, the first kept. -/
theorem out_B_8 (hc0 : ¬cond0_0 i) (hc1 : ¬cond0_1 i) (hc2 : cond0_2 i) (r : Fin 512) (l : Fin 1024) (j : Fin 4096) :
    (j.val = 1024 + l.val → out0_B_8 c i a2 h2 a3 h3 a4 h4 a5 h5 a6 h6 a7 h7 a8 h8 a9 h9 a10 h10 hc0 hc1 hc2 x0 x1 x2 x3 x4 x5 p8 (ix2 r j)
      = gateGrad (mg x0 x1 r l) (x2 (ix2 r l)) (x4 (ix2 r l)))
    ∧ (j.val = 3072 + l.val → out0_B_8 c i a2 h2 a3 h3 a4 h4 a5 h5 a6 h6 a7 h7 a8 h8 a9 h9 a10 h10 hc0 hc1 hc2 x0 x1 x2 x3 x4 x5 p8 (ix2 r j)
      = gateGrad (mg x0 x1 r l) (x3 (ix2 r l)) (x5 (ix2 r l)))
    ∧ (j.val = l.val ∨ j.val = 2048 + l.val → out0_B_8 c i a2 h2 a3 h3 a4 h4 a5 h5 a6 h6 a7 h7 a8 h8 a9 h9 a10 h10 hc0 hc1 hc2 x0 x1 x2 x3 x4 x5 p8 (ix2 r j)
      = p8 (ix2 r j)) := by
  unfold out0_B_8
  unfold kernelRun0_B
  dsimp only
  sl_unfold_words
  have hl := l.isLt
  refine ⟨fun hj => ?_, fun hj => ?_, fun hj => ?_⟩
  · refine (View.read_writes_cons_unit_of_not_mem (s := S512x4096) _ _ _ _ _ _ rfl 1 (Or.inl ?_)).trans ?_
    · show j.val < 3072
      omega
    refine (View.read_writes_cons_unit_of_mem (s := S512x4096) _ _ _ _ _ _ (ix2 r l) rfl ?_).trans ?_
    · intro a
      match a with
      | ⟨0, _⟩ => show r.val = 0 + r.val; omega
      | ⟨1, _⟩ => show j.val = 1024 + l.val; omega
    simp only [View.readAt_eq_ld, h2.read_unread, h3.read_unread, h4.read_unread, h6.read_unread,
      View.ld_unit_zero (S := S512x2048) hz, View.ld_unit_zero (S := S1024x2048) hz, View.ld_unit_zero (S := S512x1024) hz]
    exact pay6_apply _ _ _ _ r l
  · refine (View.read_writes_cons_unit_of_mem (s := S512x4096) _ _ _ _ _ _ (ix2 r l) rfl ?_).trans ?_
    · intro a
      match a with
      | ⟨0, _⟩ => show r.val = 0 + r.val; omega
      | ⟨1, _⟩ => show j.val = 3072 + l.val; omega
    simp only [View.readAt_eq_ld, h2.read_unread, h3.read_unread, h5.read_unread, h7.read_unread,
      View.ld_unit_zero (S := S512x2048) hz, View.ld_unit_zero (S := S1024x2048) hz, View.ld_unit_zero (S := S512x1024) hz]
    exact pay7_apply _ _ _ _ r l
  · refine (View.read_writes_cons_unit_of_not_mem (s := S512x4096) _ _ _ _ _ _ rfl 1 (Or.inl ?_)).trans ?_
    · show j.val < 3072
      omega
    refine (View.read_writes_cons_unit_of_not_mem (s := S512x4096) _ _ _ _ _ _ rfl 1 ?_).trans ?_
    · show j.val < 1024 ∨ 1024 + 1024 ≤ j.val
      omega
    exact congrFun (h10.read_unread p8) _

end outs

end Cert.Kernel2Ideal.Merge

end
-- ==== Proof.MergeArrays.lean ====
/- What the merge's backward kernel leaves in its three result arrays. -/
module

public import proofs.«01_k».proof.Proof.MergeKernel
public import Idealize.ShloMosaic.Lib.Tactic

@[expose] public section

set_option maxRecDepth 16384

noncomputable section

namespace Cert.Kernel2Ideal.Merge

open Cert.Kernel2Ideal Cert.Kernel2Ideal.Gen Cert.Kernel2Ideal.Value Idealize.ShloMosaic Idealize.ShloMosaic.TcCoe Idealize.SL.Sem
open Idealize.ShloMosaic.Pipeline (Dat)
open Cert.Merge

variable (m : (ℓ : Loc nD τ sig) → Buf (Elt Ideal) ℓ) (ρ : Dev nD → PrngReg)

/-- The recurrent branch projected: its rows against the columns of its weight. -/
def uhArr (yh : S4096x1024.Idx → EReal) (w : S1x1024x2048.Idx → EReal) : S4096x2048.Idx → EReal :=
  fun i => ∑ k : Fin 1024, yh (ix2 (i 0) k) * w (ix3 (0 : Fin 1) k (i 1))

/-- The merged gradient, of the arguments. -/
def mgArr (y : S4096x2048.Idx → EReal) (w : S1x2048x2048.Idx → EReal) (i : Fin 4096) (j : Fin 2048) : EReal :=
  merged (fun k => y (ix2 i k)) (fun k => w (ix3 (0 : Fin 1) j k))

theorem V_main_v3 (c : Dev nD) : (V m c main_v3 : S4096x2048.Idx → EReal)
    = uhArr (m ((c : Thread nD τ).loc main_arg2)) (m ((c : Thread nD τ).loc main_arg3)) := by
  have h : V m c main_v3 = truncf .bf16 (Host.dotGeneral (F := Ideal) (φ₁ := .bf16) (φ₂ := .bf16) dot_S4096x1024_S1024x2048_S4096x2048_1_0_0_1_n_n none
      (m ((c : Thread nD τ).loc main_arg2) : S4096x1024.Idx → EReal)
      (truncf .bf16 (shapeCast S1024x2048 (m ((c : Thread nD τ).loc main_arg3) : S1x1024x2048.Idx → EReal) shapeCasts_S1x1024x2048_S1024x2048) bitsLt_bf16_f32 : FVec Ideal S1024x2048 .bf16) : FVec Ideal S4096x2048 .f32) bitsLt_bf16_f32 := by
    show StableHlo.after hostOps0 (fun b => m (c, b)) (Proc.devRef .tc main_v3) = _
    after_results
    rfl
  rw [h]
  have hs : ∀ (k : Fin 1024) (j : Fin 2048), shapeCast S1024x2048 (m ((c : Thread nD τ).loc main_arg3) : S1x1024x2048.Idx → EReal) shapeCasts_S1x1024x2048_S1024x2048 (ix2 k j)
      = (m ((c : Thread nD τ).loc main_arg3) : S1x1024x2048.Idx → EReal) (ix3 (0 : Fin 1) k j) := fun k j => by
    refine shapeCast_apply _ _ _ (ix3 (0 : Fin 1) k j) ?_
    rw [Shape.rowMajor_val_two, Shape.rowMajor_val_three]
    show (0 * 1024 + k.val) * 2048 + j.val = k.val * 2048 + j.val
    omega
  revert hs
  generalize shapeCast S1024x2048 (m ((c : Thread nD τ).loc main_arg3) : S1x1024x2048.Idx → EReal) shapeCasts_S1x1024x2048_S1024x2048 = s
  intro hs
  funext i
  idx_vars i
  pointwise [hs]
  rfl

theorem V_main_v5 (c : Dev nD) (j k : Fin 2048) : (V m c main_v5 : S2048x2048.Idx → EReal) (ix2 j k)
    = (m ((c : Thread nD τ).loc main_arg5) : S1x2048x2048.Idx → EReal) (ix3 (0 : Fin 1) j k) := by
  have h : V m c main_v5 = (truncf .bf16 (shapeCast S2048x2048 (m ((c : Thread nD τ).loc main_arg5) : S1x2048x2048.Idx → EReal) shapeCasts_S1x2048x2048_S2048x2048) bitsLt_bf16_f32 : FVec Ideal S2048x2048 .bf16) := by
    show StableHlo.after hostOps0 (fun b => m (c, b)) (Proc.devRef .tc main_v5) = _
    after_results
    rfl
  rw [h]
  show shapeCast S2048x2048 _ _ (ix2 j k) = _
  refine shapeCast_apply _ _ _ (ix3 (0 : Fin 1) j k) ?_
  rw [Shape.rowMajor_val_two, Shape.rowMajor_val_three]
  show (0 * 2048 + j.val) * 2048 + k.val = j.val * 2048 + k.val
  omega

/-! ## The blocks -/

/-- The row of the arrays that row `r` of point `t`'s blocks is. -/
def rowOf (t : Fin cfg0.N) (r : Fin 512) : Fin 4096 :=
  ⟨512 * (t.val / 2) + r.val, by have := Nat.lt_of_lt_of_eq t.isLt N_0; omega⟩

/-- The column of a branch that column `l` of point `t`'s blocks is. -/
def colOf (t : Fin cfg0.N) (l : Fin 1024) : Fin 2048 := ⟨1024 * (t.val % 2) + l.val, by omega⟩

/-- Column `o + j` of the projection. -/
def pcol (o : ℕ) (ho : o + 2048 ≤ 10752) (j : Fin 2048) : Fin 10752 := ⟨o + j.val, by omega⟩

theorem index0 (t : Fin cfg0.N) : win0_0.index t 0 = t.val / 2 ∧ win0_0.index t 1 = 0 :=
  (by decide +kernel : ∀ t : Fin grid0.N, win0_0.index t 0 = t.val / 2 ∧ win0_0.index t 1 = 0) t
theorem index1 (t : Fin cfg0.N) : win0_1.index t 0 = t.val % 2 ∧ win0_1.index t 1 = 0 :=
  (by decide +kernel : ∀ t : Fin grid0.N, win0_1.index t 0 = t.val % 2 ∧ win0_1.index t 1 = 0) t
theorem index2 (t : Fin cfg0.N) : win0_2.index t 0 = 512 * (t.val / 2) ∧ win0_2.index t 1 = 6656 + 1024 * (t.val % 2) :=
  (by decide +kernel : ∀ t : Fin grid0.N, win0_2.index t 0 = 512 * (t.val / 2) ∧ win0_2.index t 1 = 6656 + 1024 * (t.val % 2)) t
theorem index3 (t : Fin cfg0.N) : win0_3.index t 0 = 512 * (t.val / 2) ∧ win0_3.index t 1 = 8704 + 1024 * (t.val % 2) :=
  (by decide +kernel : ∀ t : Fin grid0.N, win0_3.index t 0 = 512 * (t.val / 2) ∧ win0_3.index t 1 = 8704 + 1024 * (t.val % 2)) t
theorem index4 (t : Fin cfg0.N) : win0_4.index t 0 = t.val / 2 ∧ win0_4.index t 1 = t.val % 2 :=
  (by decide +kernel : ∀ t : Fin grid0.N, win0_4.index t 0 = t.val / 2 ∧ win0_4.index t 1 = t.val % 2) t
theorem index5 (t : Fin cfg0.N) : win0_5.index t 0 = t.val / 2 ∧ win0_5.index t 1 = t.val % 2 :=
  (by decide +kernel : ∀ t : Fin grid0.N, win0_5.index t 0 = t.val / 2 ∧ win0_5.index t 1 = t.val % 2) t
theorem index6 (t : Fin cfg0.N) : win0_6.index t 0 = t.val / 2 ∧ win0_6.index t 1 = t.val % 2 :=
  (by decide +kernel : ∀ t : Fin grid0.N, win0_6.index t 0 = t.val / 2 ∧ win0_6.index t 1 = t.val % 2) t
theorem index7 (t : Fin cfg0.N) : win0_7.index t 0 = t.val / 2 ∧ win0_7.index t 1 = t.val % 2 :=
  (by decide +kernel : ∀ t : Fin grid0.N, win0_7.index t 0 = t.val / 2 ∧ win0_7.index t 1 = t.val % 2) t
theorem index8 (t : Fin cfg0.N) : win0_8.index t 0 = t.val / 2 ∧ win0_8.index t 1 = 0 :=
  (by decide +kernel : ∀ t : Fin grid0.N, win0_8.index t 0 = t.val / 2 ∧ win0_8.index t 1 = 0) t

theorem blk0 (c : Dev nD) (t : Fin cfg0.N) (r : Fin 512) (k : Fin 2048) :
    (iblk m c 0 t : S512x2048.Idx → EReal) (ix2 r k) = (m ((c : Thread nD τ).loc main_arg4) : S4096x2048.Idx → EReal) (ix2 (rowOf t r) k) := by
  unfold iblk
  show ((cfg0.win 0).blk t).view.read (Elt Ideal) (V m c main_arg4) (ix2 r k) = _
  rw [View.read_apply, V_main_arg4]
  show m _ _ = m _ _
  congr 1
  funext a
  apply Fin.ext
  match a with
  | ⟨0, _⟩ => show win0_0.index t 0 * 512 + 1 * r.val = 512 * (t.val / 2) + r.val; rw [(index0 t).1]; omega
  | ⟨1, _⟩ => show win0_0.index t 1 * 2048 + 1 * k.val = k.val; rw [(index0 t).2]; omega

theorem blk1 (c : Dev nD) (t : Fin cfg0.N) (l : Fin 1024) (k : Fin 2048) :
    (iblk m c 1 t : S1024x2048.Idx → EReal) (ix2 l k) = (m ((c : Thread nD τ).loc main_arg5) : S1x2048x2048.Idx → EReal) (ix3 (0 : Fin 1) (colOf t l) k) := by
  unfold iblk
  show ((cfg0.win 1).blk t).view.read (Elt Ideal) (V m c main_v5) (ix2 l k) = _
  rw [View.read_apply]
  refine Eq.trans ?_ (V_main_v5 m c (colOf t l) k)
  show V m c main_v5 _ = V m c main_v5 _
  congr 1
  funext a
  apply Fin.ext
  match a with
  | ⟨0, _⟩ => show win0_1.index t 0 * 1024 + 1 * l.val = 1024 * (t.val % 2) + l.val; rw [(index1 t).1]; omega
  | ⟨1, _⟩ => show win0_1.index t 1 * 2048 + 1 * k.val = k.val; rw [(index1 t).2]; omega

theorem blk2 (c : Dev nD) (t : Fin cfg0.N) (r : Fin 512) (l : Fin 1024) :
    (iblk m c 2 t : S512x1024.Idx → EReal) (ix2 r l) = (m ((c : Thread nD τ).loc main_arg0) : S4096x10752.Idx → EReal) (ix2 (rowOf t r) (pcol 6656 (by decide) (colOf t l))) := by
  unfold iblk
  show ((cfg0.win 2).blk t).view.read (Elt Ideal) (V m c main_arg0) (ix2 r l) = _
  rw [View.read_apply, V_main_arg0]
  show m _ _ = m _ _
  congr 1
  funext a
  apply Fin.ext
  match a with
  | ⟨0, _⟩ => show win0_2.index t 0 + 1 * r.val = 512 * (t.val / 2) + r.val; rw [(index2 t).1]; omega
  | ⟨1, _⟩ => show win0_2.index t 1 + 1 * l.val = 6656 + (1024 * (t.val % 2) + l.val); rw [(index2 t).2]; omega

theorem blk3 (c : Dev nD) (t : Fin cfg0.N) (r : Fin 512) (l : Fin 1024) :
    (iblk m c 3 t : S512x1024.Idx → EReal) (ix2 r l) = (m ((c : Thread nD τ).loc main_arg0) : S4096x10752.Idx → EReal) (ix2 (rowOf t r) (pcol 8704 (by decide) (colOf t l))) := by
  unfold iblk
  show ((cfg0.win 3).blk t).view.read (Elt Ideal) (V m c main_arg0) (ix2 r l) = _
  rw [View.read_apply, V_main_arg0]
  show m _ _ = m _ _
  congr 1
  funext a
  apply Fin.ext
  match a with
  | ⟨0, _⟩ => show win0_3.index t 0 + 1 * r.val = 512 * (t.val / 2) + r.val; rw [(index3 t).1]; omega
  | ⟨1, _⟩ => show win0_3.index t 1 + 1 * l.val = 8704 + (1024 * (t.val % 2) + l.val); rw [(index3 t).2]; omega

theorem blk4 (c : Dev nD) (t : Fin cfg0.N) (r : Fin 512) (l : Fin 1024) :
    (iblk m c 4 t : S512x1024.Idx → EReal) (ix2 r l) = (m ((c : Thread nD τ).loc main_arg1) : S4096x2048.Idx → EReal) (ix2 (rowOf t r) (colOf t l)) := by
  unfold iblk
  show ((cfg0.win 4).blk t).view.read (Elt Ideal) (V m c main_arg1) (ix2 r l) = _
  rw [View.read_apply, V_main_arg1]
  show m _ _ = m _ _
  congr 1
  funext a
  apply Fin.ext
  match a with
  | ⟨0, _⟩ => show win0_4.index t 0 * 512 + 1 * r.val = 512 * (t.val / 2) + r.val; rw [(index4 t).1]; omega
  | ⟨1, _⟩ => show win0_4.index t 1 * 1024 + 1 * l.val = 1024 * (t.val % 2) + l.val; rw [(index4 t).2]; omega

theorem blk5 (c : Dev nD) (t : Fin cfg0.N) (r : Fin 512) (l : Fin 1024) :
    (iblk m c 5 t : S512x1024.Idx → EReal) (ix2 r l) = uhArr (m ((c : Thread nD τ).loc main_arg2)) (m ((c : Thread nD τ).loc main_arg3)) (ix2 (rowOf t r) (colOf t l)) := by
  unfold iblk
  show ((cfg0.win 5).blk t).view.read (Elt Ideal) (V m c main_v3) (ix2 r l) = _
  rw [View.read_apply, ← V_main_v3]
  show V m c main_v3 _ = V m c main_v3 _
  congr 1
  funext a
  apply Fin.ext
  match a with
  | ⟨0, _⟩ => show win0_5.index t 0 * 512 + 1 * r.val = 512 * (t.val / 2) + r.val; rw [(index5 t).1]; omega
  | ⟨1, _⟩ => show win0_5.index t 1 * 1024 + 1 * l.val = 1024 * (t.val % 2) + l.val; rw [(index5 t).2]; omega

theorem mg_blk (c : Dev nD) (t : Fin cfg0.N) (r : Fin 512) (l : Fin 1024) :
    mg (iblk m c 0 t) (iblk m c 1 t) r l
      = mgArr (m ((c : Thread nD τ).loc main_arg4)) (m ((c : Thread nD τ).loc main_arg5)) (rowOf t r) (colOf t l) := by
  have h0 : (fun k : Fin 2048 => (iblk m c 0 t : S512x2048.Idx → EReal) (ix2 r k)) = _ := funext fun k => blk0 m c t r k
  have h1 : (fun k : Fin 2048 => (iblk m c 1 t : S1024x2048.Idx → EReal) (ix2 l k)) = _ := funext fun k => blk1 m c t l k
  show merged (fun k : Fin 2048 => (iblk m c 0 t : S512x2048.Idx → EReal) (ix2 r k)) (fun k : Fin 2048 => (iblk m c 1 t : S1024x2048.Idx → EReal) (ix2 l k)) = _
  rw [h0, h1]
  rfl

/-! ## The result arrays -/

/-- A branch's gradient, of the arguments: its gate begins at column `o` of the projection. -/
def branchArr (o : ℕ) (ho : o + 2048 ≤ 10752) (p : S4096x10752.Idx → EReal) (y : S4096x2048.Idx → EReal) (w : S1x2048x2048.Idx → EReal) :
    S4096x2048.Idx → EReal :=
  fun i => branch (mgArr y w (i 0) (i 1)) (p (ix2 (i 0) (pcol o ho (i 1))))

/-- A gate's gradient, of the arguments and the branch `u`. -/
def gateArr (o : ℕ) (ho : o + 2048 ≤ 10752) (p : S4096x10752.Idx → EReal) (y : S4096x2048.Idx → EReal) (w : S1x2048x2048.Idx → EReal)
    (u : S4096x2048.Idx → EReal) : S4096x2048.Idx → EReal :=
  fun i => gateGrad (mgArr y w (i 0) (i 1)) (p (ix2 (i 0) (pcol o ho (i 1)))) (u i)

/-- Both gates' gradients, side by side. -/
def gatesArr (p : S4096x10752.Idx → EReal) (y : S4096x2048.Idx → EReal) (w : S1x2048x2048.Idx → EReal) (ua uh : S4096x2048.Idx → EReal) :
    S4096x4096.Idx → EReal :=
  fun i => if h : (i 1).val < 2048 then gateArr 6656 (by decide) p y w ua (ix2 (i 0) (⟨(i 1).val, h⟩ : Fin 2048))
    else gateArr 8704 (by decide) p y w uh (ix2 (i 0) (⟨(i 1).val - 2048, by have : (i 1).val < 4096 := (i 1).isLt; omega⟩ : Fin 2048))

theorem case (t : Fin cfg0.N) : (t.val % 2 = 0 ∧ ¬ t.val % 2 = 1) ∨ (¬ t.val % 2 = 0 ∧ t.val % 2 = 1) := by omega

theorem outs6 (c : Dev nD) (t : Fin cfg0.N) :
    (outsAt0 m c t.val t.isLt).1 = fun i : S512x1024.Idx => branch (mg (iblk m c 0 t) (iblk m c 1 t) (i 0) (i 1)) ((iblk m c 2 t : S512x1024.Idx → EReal) i) := by
  rcases case t with ⟨h, h'⟩ | ⟨h, h'⟩
  · rw [outsAt0_A m c t h h h']; dsimp only; rw [out_A_6]
  · rw [outsAt0_B m c t h h h']; dsimp only; rw [out_B_6]

theorem outs7 (c : Dev nD) (t : Fin cfg0.N) :
    (outsAt0 m c t.val t.isLt).2.1 = fun i : S512x1024.Idx => branch (mg (iblk m c 0 t) (iblk m c 1 t) (i 0) (i 1)) ((iblk m c 3 t : S512x1024.Idx → EReal) i) := by
  rcases case t with ⟨h, h'⟩ | ⟨h, h'⟩
  · rw [outsAt0_A m c t h h h']; dsimp only; rw [out_A_7]
  · rw [outsAt0_B m c t h h h']; dsimp only; rw [out_B_7]

/-- The point and the place in its block of an element of a branch's gradient. -/
theorem split (i : Fin 4096) (j : Fin 2048) : ∃ (t : Fin cfg0.N) (r : Fin 512) (l : Fin 1024), rowOf t r = i ∧ colOf t l = j := by
  have hN : cfg0.N = 16 := N_0
  have hi := i.isLt
  have hj := j.isLt
  refine ⟨⟨2 * (i.val / 512) + j.val / 1024, by omega⟩, ⟨i.val % 512, Nat.mod_lt _ (by decide)⟩, ⟨j.val % 1024, Nat.mod_lt _ (by decide)⟩, Fin.ext ?_, Fin.ext ?_⟩
  · show 512 * ((2 * (i.val / 512) + j.val / 1024) / 2) + i.val % 512 = i.val; omega
  · show 1024 * ((2 * (i.val / 512) + j.val / 1024) % 2) + j.val % 1024 = j.val; omega

theorem final6 (c : Dev nD) : (dats m 0 c).arrAt 6 cfg0.N
    = branchArr 6656 (by decide) (m ((c : Thread nD τ).loc main_arg0)) (m ((c : Thread nD τ).loc main_arg4)) (m ((c : Thread nD τ).loc main_arg5)) := by
  funext i
  obtain ⟨t, r, l, hr, hl⟩ := split (i 0) (i 1)
  have hb := congrFun (blocks6 m c t (flush0_6 t)) (ix2 r l)
  rw [View.read_apply, flushed6, outs6] at hb
  have hi : ((cfg0.win 6).blk t).view.emb (ix2 r l) = i := by
    funext a
    apply Fin.ext
    match a with
    | ⟨0, _⟩ => show win0_6.index t 0 * 512 + 1 * r.val = (i 0).val; rw [(index6 t).1, ← hr]; show _ = 512 * (t.val / 2) + r.val; omega
    | ⟨1, _⟩ => show win0_6.index t 1 * 1024 + 1 * l.val = (i 1).val; rw [(index6 t).2, ← hl]; show _ = 1024 * (t.val % 2) + l.val; omega
  rw [hi] at hb
  refine hb.trans ?_
  show branch (mg (iblk m c 0 t) (iblk m c 1 t) r l) ((iblk m c 2 t : S512x1024.Idx → EReal) (ix2 r l)) = _
  rw [mg_blk, blk2, hr, hl]
  rfl

theorem final7 (c : Dev nD) : (dats m 0 c).arrAt 7 cfg0.N
    = branchArr 8704 (by decide) (m ((c : Thread nD τ).loc main_arg0)) (m ((c : Thread nD τ).loc main_arg4)) (m ((c : Thread nD τ).loc main_arg5)) := by
  funext i
  obtain ⟨t, r, l, hr, hl⟩ := split (i 0) (i 1)
  have hb := congrFun (blocks7 m c t (flush0_7 t)) (ix2 r l)
  rw [View.read_apply, flushed7, outs7] at hb
  have hi : ((cfg0.win 7).blk t).view.emb (ix2 r l) = i := by
    funext a
    apply Fin.ext
    match a with
    | ⟨0, _⟩ => show win0_7.index t 0 * 512 + 1 * r.val = (i 0).val; rw [(index7 t).1, ← hr]; show _ = 512 * (t.val / 2) + r.val; omega
    | ⟨1, _⟩ => show win0_7.index t 1 * 1024 + 1 * l.val = (i 1).val; rw [(index7 t).2, ← hl]; show _ = 1024 * (t.val % 2) + l.val; omega
  rw [hi] at hb
  refine hb.trans ?_
  show branch (mg (iblk m c 0 t) (iblk m c 1 t) r l) ((iblk m c 3 t : S512x1024.Idx → EReal) (ix2 r l)) = _
  rw [mg_blk, blk3, hr, hl]
  rfl

/-- The gates' gradients at an element whose column lies in the first gate, … -/
theorem gates_lo (p : S4096x10752.Idx → EReal) (y : S4096x2048.Idx → EReal) (w : S1x2048x2048.Idx → EReal) (ua uh : S4096x2048.Idx → EReal)
    (i : Fin 4096) (j : Fin 4096) (k : Fin 2048) (h : j.val = k.val) :
    gatesArr p y w ua uh (ix2 i j) = gateArr 6656 (by decide) p y w ua (ix2 i k) := by
  have hk := k.isLt
  have hj : (⟨j.val, by omega⟩ : Fin 2048) = k := Fin.ext h
  show (if h : j.val < 2048 then _ else _) = _
  rw [dif_pos (by omega)]
  exact congrArg (fun z : Fin 2048 => gateArr 6656 (by decide) p y w ua (ix2 i z)) hj

/-- … and in the second. -/
theorem gates_hi (p : S4096x10752.Idx → EReal) (y : S4096x2048.Idx → EReal) (w : S1x2048x2048.Idx → EReal) (ua uh : S4096x2048.Idx → EReal)
    (i : Fin 4096) (j : Fin 4096) (k : Fin 2048) (h : j.val = 2048 + k.val) :
    gatesArr p y w ua uh (ix2 i j) = gateArr 8704 (by decide) p y w uh (ix2 i k) := by
  have hk := k.isLt
  have hj : (⟨j.val - 2048, by omega⟩ : Fin 2048) = k := Fin.ext (by show j.val - 2048 = k.val; omega)
  show (if h : j.val < 2048 then _ else _) = _
  rw [dif_neg (by omega)]
  exact congrArg (fun z : Fin 2048 => gateArr 8704 (by decide) p y w uh (ix2 i z)) hj

/-- Both gates' gradients, of the memory the run starts from. -/
abbrev gatesAt (c : Dev nD) : S4096x4096.Idx → EReal :=
  gatesArr (m ((c : Thread nD τ).loc main_arg0)) (m ((c : Thread nD τ).loc main_arg4)) (m ((c : Thread nD τ).loc main_arg5))
    (m ((c : Thread nD τ).loc main_arg1)) (uhArr (m ((c : Thread nD τ).loc main_arg2)) (m ((c : Thread nD τ).loc main_arg3)))

theorem gate_blk_lo (c : Dev nD) (t : Fin cfg0.N) (r : Fin 512) (l : Fin 1024) (j : Fin 4096) (hj : j.val = 1024 * (t.val % 2) + l.val) :
    gateGrad (mg (iblk m c 0 t) (iblk m c 1 t) r l) ((iblk m c 2 t : S512x1024.Idx → EReal) (ix2 r l)) ((iblk m c 4 t : S512x1024.Idx → EReal) (ix2 r l))
      = gatesAt m c (ix2 (rowOf t r) j) := by
  rw [mg_blk, blk2, blk4]
  exact (gates_lo _ _ _ _ _ (rowOf t r) j (colOf t l) hj).symm

theorem gate_blk_hi (c : Dev nD) (t : Fin cfg0.N) (r : Fin 512) (l : Fin 1024) (j : Fin 4096) (hj : j.val = 2048 + (1024 * (t.val % 2) + l.val)) :
    gateGrad (mg (iblk m c 0 t) (iblk m c 1 t) r l) ((iblk m c 3 t : S512x1024.Idx → EReal) (ix2 r l)) ((iblk m c 5 t : S512x1024.Idx → EReal) (ix2 r l))
      = gatesAt m c (ix2 (rowOf t r) j) := by
  rw [mg_blk, blk3, blk5]
  exact (gates_hi _ _ _ _ _ (rowOf t r) j (colOf t l) hj).symm

/-- After an odd point the gates' block is its rows of both gates' gradients. -/
theorem outs8 (c : Dev nD) (t : Fin cfg0.N) (h : t.val % 2 = 1) (r : Fin 512) (j : Fin 4096) :
    (outsAt0 m c t.val t.isLt).2.2 (ix2 r j) = gatesAt m c (ix2 (rowOf t r) j) := by
  have h0 : ¬ t.val % 2 = 0 := by omega
  have hlt := t.isLt
  have hj := j.isLt
  rw [outsAt0_B m c t h0 h0 h]
  dsimp only
  by_cases hq : j.val / 1024 = 1
  · refine ((out_B_8 _ _ _ _ _ _ _ _ _ _ _ _ _ _ _ _ _ _ _ _ _ _ _ _ _ _ _ _ _ _ r ⟨j.val - 1024, by omega⟩ j).1 (by show j.val = 1024 + (j.val - 1024); omega)).trans ?_
    exact gate_blk_lo m c t r _ j (by show j.val = 1024 * (t.val % 2) + (j.val - 1024); omega)
  by_cases hq' : j.val / 1024 = 3
  · refine ((out_B_8 _ _ _ _ _ _ _ _ _ _ _ _ _ _ _ _ _ _ _ _ _ _ _ _ _ _ _ _ _ _ r ⟨j.val - 3072, by omega⟩ j).2.1 (by show j.val = 3072 + (j.val - 3072); omega)).trans ?_
    exact gate_blk_hi m c t r _ j (by show j.val = 2048 + (1024 * (t.val % 2) + (j.val - 3072)); omega)
  refine ((out_B_8 _ _ _ _ _ _ _ _ _ _ _ _ _ _ _ _ _ _ _ _ _ _ _ _ _ _ _ _ _ _ r ⟨j.val % 1024, Nat.mod_lt _ (by decide)⟩ j).2.2 (by
    show j.val = j.val % 1024 ∨ j.val = 2048 + j.val % 1024; omega)).trans ?_
  have e0 : (t.val - 1) % 2 = 0 := by omega
  have e1 : ¬ (t.val - 1) % 2 = 1 := by omega
  have hrow : rowOf ⟨t.val - 1, Nat.lt_of_le_of_lt (Nat.sub_le _ _) t.isLt⟩ r = rowOf t r := Fin.ext (by
    show 512 * ((t.val - 1) / 2) + r.val = 512 * (t.val / 2) + r.val; omega)
  rw [show outsAt0 m c (t.val - 1) _ = _ from outsAt0_A m c ⟨t.val - 1, Nat.lt_of_le_of_lt (Nat.sub_le _ _) t.isLt⟩ e0 e0 e1]
  dsimp only
  by_cases hp : j.val < 1024
  · refine ((out_A_8 _ _ _ _ _ _ _ _ _ _ _ _ _ _ _ _ _ _ _ _ _ _ _ _ _ _ _ _ _ r ⟨j.val, hp⟩ j).1 rfl).trans ?_
    rw [← hrow]
    exact gate_blk_lo m c _ r _ j (by show j.val = 1024 * ((t.val - 1) % 2) + j.val; omega)
  · refine ((out_A_8 _ _ _ _ _ _ _ _ _ _ _ _ _ _ _ _ _ _ _ _ _ _ _ _ _ _ _ _ _ r ⟨j.val - 2048, by omega⟩ j).2 (by show j.val = 2048 + (j.val - 2048); omega)).trans ?_
    rw [← hrow]
    exact gate_blk_hi m c _ r _ j (by show j.val = 2048 + (1024 * ((t.val - 1) % 2) + (j.val - 2048)); omega)

theorem final8 (c : Dev nD) : (dats m 0 c).arrAt 8 cfg0.N = gatesAt m c := by
  refine (dats m 0 c).arrAt_eq_of_cover 8 (gatesAt m c) (fun t hf => ?_) (fun i => ?_)
  · have h := (flush0_8 t).mp hf
    rw [flushed8]
    funext i
    idx_vars i
    show (outsAt0 m c t.val t.isLt).2.2 (ix2 i0 i1) = ((cfg0.win 8).blk t).view.read (Elt Ideal) (gatesAt m c) (ix2 i0 i1)
    rw [outs8 m c t h, View.read_apply]
    show gatesAt m c _ = gatesAt m c _
    congr 1
    funext a
    apply Fin.ext
    match a with
    | ⟨0, _⟩ => show 512 * (t.val / 2) + i0.val = win0_8.index t 0 * 512 + 1 * i0.val; rw [(index8 t).1]; omega
    | ⟨1, _⟩ => show i1.val = win0_8.index t 1 * 4096 + 1 * i1.val; rw [(index8 t).2]; omega
  · have h0 : (i 0 : Nat) < 4096 := (i 0).isLt
    have h1 : (i 1 : Nat) < 4096 := (i 1).isLt
    have hN : cfg0.N = 16 := N_0
    obtain ⟨t, ht⟩ : ∃ t : Fin cfg0.N, t.val = 2 * ((i 0 : Nat) / 512) + 1 := ⟨⟨2 * ((i 0 : Nat) / 512) + 1, by omega⟩, rfl⟩
    refine ⟨t, (flush0_8 t).mpr (by omega), ?_⟩
    show i ∈ ((View.whole main_v6_2).slice (win0_8.rect t)).set
    rw [View.set_slice_whole, Rect.mem_set_unit]
    intro a
    match a with
    | ⟨0, _⟩ => show win0_8.index t 0 * 512 ≤ (i 0 : Nat) ∧ (i 0 : Nat) < win0_8.index t 0 * 512 + 512
                rw [(index8 t).1]; omega
    | ⟨1, _⟩ => show win0_8.index t 1 * 4096 ≤ (i 1 : Nat) ∧ (i 1 : Nat) < win0_8.index t 1 * 4096 + 4096
                rw [(index8 t).2]; omega

end Cert.Kernel2Ideal.Merge

end
-- ==== Proof.MergeReference.lean ====
/- What the merge's backward reference computes, in the kernel's functions. -/
module

public import proofs.«01_k».proof.Proof.MergeArrays
public import proofs.«01_k».proof.Proof.Gen.Reference2Ideal.Run
public import proofs.«01_k».proof.Proof.Gen.Reference2Ideal.Read

@[expose] public section

set_option maxRecDepth 16384

noncomputable section

namespace Cert.Reference2Ideal.Merge

open Cert.Reference2Ideal Cert.Reference2Ideal.Read Idealize.ShloMosaic Idealize.ShloMosaic.TcCoe Idealize.SL.Sem
open Cert.Merge
open Cert.Kernel2Ideal.Merge (uhArr mgArr branchArr gateArr gatesArr pcol)

variable (p : S4096x10752.Idx → EReal) (ua : S4096x2048.Idx → EReal) (yh : S4096x1024.Idx → EReal)
  (wb : S1x1024x2048.Idx → EReal) (y : S4096x2048.Idx → EReal) (w : S1x2048x2048.Idx → EReal)

theorem uh_eq : val_main_v4 (F := Ideal) yh wb = uhArr yh wb := by
  funext i
  idx_vars i
  rw [val_main_v4_apply]
  refine Finset.sum_congr rfl fun k _ => ?_
  rw [val_main_v3_apply]
  have hk := k.isLt
  have h1 := i1.isLt
  refine congr (congrArg HMul.hMul (congrArg yh (funext fun a => ?_))) (congrArg wb (funext fun a => Fin.ext ?_))
  · match a with
    | ⟨0, _⟩ => rfl
    | ⟨1, _⟩ => rfl
  · match a with
    | ⟨0, _⟩ => rfl
    | ⟨1, _⟩ => show (k.val * 2048 + i1.val) / 2048 % 1024 = k.val; omega
    | ⟨2, _⟩ => show (k.val * 2048 + i1.val) % 2048 = i1.val; omega

theorem merged_apply (i : Fin 4096) (j : Fin 2048) : val_main_v30 (F := Ideal) y w (ix2 i j) = mgArr y w i j := by
  rw [val_main_v30_apply]
  show _ = ∑ k : Fin 2048, y (ix2 i k) * w (ix3 (0 : Fin 1) j k)
  refine Finset.sum_congr rfl fun k _ => ?_
  rw [val_main_v27_apply]
  have hk := k.isLt
  have hj := j.isLt
  refine congr (congrArg HMul.hMul (congrArg y (funext fun a => ?_))) (congrArg w (funext fun a => Fin.ext ?_))
  · match a with
    | ⟨0, _⟩ => rfl
    | ⟨1, _⟩ => rfl
  · match a with
    | ⟨0, _⟩ => rfl
    | ⟨1, _⟩ => show (j.val * 2048 + k.val) / 2048 % 2048 = j.val; omega
    | ⟨2, _⟩ => show (j.val * 2048 + k.val) % 2048 = k.val; omega

theorem sigA_apply (i : Fin 4096) (j : Fin 2048) :
    val_main_v11 (F := Ideal) p (ix2 i j) = Ideal.logistic (p (ix2 i (pcol 6656 (by decide) j))) := by
  have h0 : val_main_v0 (F := Ideal) p (ix2 i j) = p (ix2 i (pcol 6656 (by decide) j)) := by
    rw [val_main_v0_apply]
    refine congrArg p (funext fun a => ?_)
    match a with
    | ⟨0, _⟩ => rfl
    | ⟨1, _⟩ => rfl
  rw [val_main_v11_apply, val_main_v9_apply, val_main_v7_apply, val_main_v6_apply, h0]
  show Ideal.div (Ideal.ofBits .f32 0x3F800000#32) (Ideal.ofBits .f32 0x3F800000#32 + _) = Ideal.div 1 (1 + _)
  rw [Ideal.ofBits_one_f32]
  rfl

theorem sigH_apply (i : Fin 4096) (j : Fin 2048) :
    val_main_v21 (F := Ideal) p (ix2 i j) = Ideal.logistic (p (ix2 i (pcol 8704 (by decide) j))) := by
  have h0 : val_main_v1 (F := Ideal) p (ix2 i j) = p (ix2 i (pcol 8704 (by decide) j)) := by
    rw [val_main_v1_apply]
    refine congrArg p (funext fun a => ?_)
    match a with
    | ⟨0, _⟩ => rfl
    | ⟨1, _⟩ => rfl
  rw [val_main_v21_apply, val_main_v19_apply, val_main_v17_apply, val_main_v16_apply, h0]
  show Ideal.div (Ideal.ofBits .f32 0x3F800000#32) (Ideal.ofBits .f32 0x3F800000#32 + _) = Ideal.div 1 (1 + _)
  rw [Ideal.ofBits_one_f32]
  rfl

theorem da_eq : val_main_v37 (F := Ideal) p y w = branchArr 6656 (by decide) p y w := by
  funext i
  idx_vars i
  rw [val_main_v37_apply, val_main_v34_apply, sigA_apply, merged_apply]
  exact mul_comm _ _

theorem dh_eq : val_main_v38 (F := Ideal) p y w = branchArr 8704 (by decide) p y w := by
  funext i
  idx_vars i
  rw [val_main_v38_apply, val_main_v31_apply, sigH_apply, merged_apply]
  exact mul_comm _ _

theorem gateA_eq : val_main_v36 (F := Ideal) p ua y w = gateArr 6656 (by decide) p y w ua := by
  funext i
  idx_vars i
  rw [val_main_v36_apply, val_main_v35_apply, val_main_v14_apply, val_main_v13_apply, sigA_apply, merged_apply]
  show mgArr y w i0 i1 * ua (ix2 i0 i1) * (_ * (Ideal.ofBits .f32 0x3F800000#32 - _)) = mgArr y w i0 i1 * ua (ix2 i0 i1) * _ * (1 - _)
  rw [Ideal.ofBits_one_f32, mul_assoc (mgArr y w i0 i1 * ua (ix2 i0 i1))]
  rfl

theorem gateH_eq : val_main_v33 (F := Ideal) p yh wb y w = gateArr 8704 (by decide) p y w (uhArr yh wb) := by
  funext i
  idx_vars i
  rw [val_main_v33_apply, val_main_v32_apply, val_main_v24_apply, val_main_v23_apply, sigH_apply, merged_apply, uh_eq]
  show mgArr y w i0 i1 * uhArr yh wb (ix2 i0 i1) * (_ * (Ideal.ofBits .f32 0x3F800000#32 - _)) = mgArr y w i0 i1 * uhArr yh wb (ix2 i0 i1) * _ * (1 - _)
  rw [Ideal.ofBits_one_f32, mul_assoc (mgArr y w i0 i1 * uhArr yh wb (ix2 i0 i1))]
  rfl

theorem gates_eq : val_main_v40 (F := Ideal) p ua yh wb y w = gatesArr p y w ua (uhArr yh wb) := by
  funext i
  idx_vars i
  rw [val_main_v40_apply]
  show val_main_v39 (F := Ideal) p ua yh wb y w (ix2 i0 i1) = _
  unfold val_main_v39
  rw [gateA_eq, gateH_eq]
  have h1 := i1.isLt
  by_cases h : i1.val < 2048
  · refine (concatenate_pair_apply_left (t := S4096x4096) (s₁ := S4096x2048) (s₂ := S4096x2048) 1 _ _ _ (ix2 i0 i1) rfl (ix2 i0 (⟨i1.val, h⟩ : Fin 2048)) ?_).trans ?_
    · intro a
      match a with
      | ⟨0, _⟩ => rfl
      | ⟨1, _⟩ => rfl
    · exact (Cert.Kernel2Ideal.Merge.gates_lo p y w ua (uhArr yh wb) i0 i1 _ rfl).symm
  · refine (concatenate_pair_apply_right (t := S4096x4096) (s₁ := S4096x2048) (s₂ := S4096x2048) 1 _ _ _ (ix2 i0 i1) rfl rfl (ix2 i0 (⟨i1.val - 2048, by omega⟩ : Fin 2048)) ?_ ?_).trans ?_
    · intro a ha
      match a with
      | ⟨0, _⟩ => rfl
      | ⟨1, _⟩ => exact absurd rfl ha
    · show i1.val - 2048 + 2048 = i1.val
      omega
    · exact (Cert.Kernel2Ideal.Merge.gates_hi p y w ua (uhArr yh wb) i0 i1 _ (by show i1.val = 2048 + (i1.val - 2048); omega)).symm

end Cert.Reference2Ideal.Merge

end
-- ==== Proof.MergeClaims.lean ====
/- The claims about the output projection's and the merge's gradient. -/
module

public import proofs.«01_k».proof.Defs
public import proofs.«01_k».proof.Proof.MergeReference
public import proofs.«01_k».proof.Proof.Gen.Kernel2.Frame
public import proofs.«01_k».proof.Proof.Gen.Kernel2Ideal.Frame
public import Idealize.ShloMosaic.Lib.Quiescent

@[expose] public section

set_option maxRecDepth 16384

noncomputable section

namespace Cert.Proof

open Idealize.ShloMosaic Idealize.ShloMosaic.TcCoe Idealize.SL.Sem

/-- The reference runs, keeps its arguments, and leaves every semaphore at zero. -/
theorem merge_reference_frame : Cert.quiescent_Reference2Ideal (hReference2Ideal := Cert.Reference2Ideal.Gen.facts) :=
  fun m ρ _ => (θ_run Cert.Reference2Ideal.defs _ _).mono
    (fun r h => ⟨fun c => (h c).2.2.2, Idealize.ShloMosaic.sem_eq_zero_of_no_sems (by decide) r.2⟩)
    (Cert.Reference2Ideal.Value.run (F := Ideal) m ρ)

/-- The kernel's three results are the reference's. -/
theorem merge_algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨_, _, _, Cert.Kernel2Ideal.Value.run_blocks m ρ, ?_⟩
  refine (θ_run Cert.Reference2Ideal.defs _ _).mono
    (fun _ h c => ⟨(h c).1.trans ((Cert.Reference2Ideal.Read.val_main_v37_eq _ _ _).trans ?_),
      (h c).2.1.trans ((Cert.Reference2Ideal.Read.val_main_v38_eq _ _ _).trans ?_),
      (h c).2.2.1.trans ((Cert.Reference2Ideal.Read.val_main_v40_eq _ _ _ _ _ _).trans ?_), (h c).2.2.2⟩)
    (Cert.Reference2Ideal.Value.run (F := Ideal) m' ρ')
  · rw [(hagree c).1, (hagree c).2.2.2.2.1, (hagree c).2.2.2.2.2]
    exact (Cert.Reference2Ideal.Merge.da_eq _ _ _).trans (Cert.Kernel2Ideal.Merge.final6 m c).symm
  · rw [(hagree c).1, (hagree c).2.2.2.2.1, (hagree c).2.2.2.2.2]
    exact (Cert.Reference2Ideal.Merge.dh_eq _ _ _).trans (Cert.Kernel2Ideal.Merge.final7 m c).symm
  · rw [(hagree c).1, (hagree c).2.1, (hagree c).2.2.1, (hagree c).2.2.2.1, (hagree c).2.2.2.2.1, (hagree c).2.2.2.2.2]
    exact (Cert.Reference2Ideal.Merge.gates_eq _ _ _ _ _ _).trans (Cert.Kernel2Ideal.Merge.final8 m c).symm

end Cert.Proof

end
-- ==== Proof.RmsKernel.lean ====
/- What the two kernels of the pre-norm (its forward and its backward call) leave in their output blocks, as functions of
   the rows of their input blocks. -/
module

public import proofs.«01_k».proof.Proof.PostArrays
public import proofs.«01_k».proof.Proof.Gen.Kernel3Ideal.Frame

@[expose] public section

set_option maxRecDepth 16384

noncomputable section

/-! ## The norm's row functions -/

namespace Cert.Rms

open Idealize.ShloMosaic
open Cert.Post (Row)

/-- The normed row, under its gain. -/
def normed (x g : Row) (j : Fin 2048) : EReal := x j * Cert.Post.inv x * g j

/-- The stream's gradient: what arrives past the norm, plus the norm's own, with `s` the row's reciprocal root mean square. -/
def gx (s : EReal) (x d o g : Row) (j : Fin 2048) : EReal :=
  o j + s * (d j * g j - (x j * s) * Ideal.div (∑ k, d k * g k * (x k * s)) (Ideal.ofBits .f32 0x45000000#32))

/-- A row's share of the gain's gradient. -/
def gn (s : EReal) (x d : Row) (j : Fin 2048) : EReal := d j * (x j * s)

end Cert.Rms

namespace Cert.Kernel3Ideal.Rms

open Cert.Kernel3Ideal Cert.Kernel3Ideal.Gen Idealize.ShloMosaic Idealize.ShloMosaic.TcCoe Idealize.SL.Sem
open Idealize.ShloMosaic.Pipeline (Dat)
open Cert.Rms
open Cert.KernelIdeal.Post (brow grow hz)

/-! ## The payloads at an index -/

theorem inv_apply (x : Vec Ideal S256x2048 .f32) (r : Fin 256) (z : Fin 1) :
    k0_pay2 (F := Ideal) x (ix2 r z) = Cert.Post.inv (brow x r) := by
  pointwise [k0_pay2, k0_pay1]
  rfl

/-- The block of the normed rows. -/
abbrev hBlk (x : Vec Ideal S256x2048 .f32) (g : Vec Ideal S1x2048 .f32) : Vec Ideal S256x2048 .bf16 :=
  fun i => normed (brow x (i 0)) (grow g) (i 1)

/-- The block of the reciprocal root mean squares. -/
abbrev invBlk (x : Vec Ideal S256x2048 .f32) : Vec Ideal S256x1 .f32 := fun i => Cert.Post.inv (brow x (i 0))

theorem h_eq (x : Vec Ideal S256x2048 .f32) (g : Vec Ideal S1x2048 .f32) : k0_pay3 (F := Ideal) x g = hBlk x g := by
  funext i
  idx_vars i
  unfold k0_pay3
  pointwise [k0_pay1, inv_apply]
  rfl

theorem inv_eq (x : Vec Ideal S256x2048 .f32) : k0_pay2 (F := Ideal) x = invBlk x := by
  funext i
  idx_vars i
  exact inv_apply x i0 i1

/-- The block of the stream's gradient. -/
abbrev gxBlk (d : Vec Ideal S256x2048 .bf16) (x : Vec Ideal S256x2048 .f32) (s : Vec Ideal S256x1 .f32) (g : Vec Ideal S1x2048 .f32)
    (o : Vec Ideal S256x2048 .f32) : Vec Ideal S256x2048 .f32 :=
  fun i => gx (s (ix2 (i 0) (0 : Fin 1))) (brow x (i 0)) (brow d (i 0)) (brow o (i 0)) (grow g) (i 1)

/-- The gain gradient's block over what it held: plus the sum of its 256 rows' shares. -/
abbrev gnOver (d : Vec Ideal S256x2048 .bf16) (x : Vec Ideal S256x2048 .f32) (s : Vec Ideal S256x1 .f32) (p : Vec Ideal S1x2048 .f32) :
    Vec Ideal S1x2048 .f32 :=
  fun i => p i + ∑ r : Fin 256, gn (s (ix2 r (0 : Fin 1))) (brow x r) (brow d r) (i 1)

theorem gx_eq (d : Vec Ideal S256x2048 .bf16) (x : Vec Ideal S256x2048 .f32) (s : Vec Ideal S256x1 .f32) (g : Vec Ideal S1x2048 .f32)
    (o : Vec Ideal S256x2048 .f32) : k1_pay4 (F := Ideal) x s d g o s = gxBlk d x s g o := by
  funext i
  idx_vars i
  unfold k1_pay4
  pointwise [k1_pay2, k1_pay3]
  rfl

theorem gn_eq (d : Vec Ideal S256x2048 .bf16) (x : Vec Ideal S256x2048 .f32) (s : Vec Ideal S256x1 .f32) (p : Vec Ideal S1x2048 .f32) :
    k1_pay5 (F := Ideal) x s d p = gnOver d x s p := by
  funext i
  idx_vars i
  obtain rfl : i0 = 0 := Subsingleton.elim _ _
  unfold k1_pay5
  pointwise [k1_pay2, k1_pay3]
  rfl

/-! ## What the forward body leaves -/

theorem out0_2_eq (x : Vec Ideal S256x2048 .f32) (g : Vec Ideal S1x2048 .f32) : out0_2 (F := Ideal) x g = hBlk x g := by
  unfold out0_2
  rw [View.canon_unit_zero hz]
  rw [View.ld_unit_zero (S := S256x2048) hz, View.ld_unit_zero (S := S1x2048) hz, h_eq]

theorem out0_3_eq (x : Vec Ideal S256x2048 .f32) (g : Vec Ideal S1x2048 .f32) : out0_3 (F := Ideal) x g = invBlk x := by
  unfold out0_3
  rw [View.canon_unit_zero hz]
  rw [View.ld_unit_zero (S := S256x2048) hz, inv_eq]

/-! ## What each case of the backward body leaves -/

section outs
variable (c : Dev nD) (i : grid1.Coords) (a1 : Memref sig .tc .vmem S256x2048 .bf16) (h1 : a1.IsWhole)
  (a2 : Memref sig .tc .vmem S256x2048 .f32) (h2 : a2.IsWhole) (a3 : Memref sig .tc .vmem S256x1 .f32) (h3 : a3.IsWhole)
  (a4 : Memref sig .tc .vmem S1x2048 .f32) (h4 : a4.IsWhole) (a5 : Memref sig .tc .vmem S256x2048 .f32) (h5 : a5.IsWhole)
  (a6 : Memref sig .tc .vmem S256x2048 .f32) (h6 : a6.IsWhole) (a7 : Memref sig .tc .vmem S1x2048 .f32) (h7 : a7.IsWhole)
  (x0 : Vec Ideal S256x2048 .bf16) (x1 : Vec Ideal S256x2048 .f32) (x2 : Vec Ideal S256x1 .f32) (x3 : Vec Ideal S1x2048 .f32)
  (x4 : Vec Ideal S256x2048 .f32) (p6 : Vec Ideal S1x2048 .f32)

theorem out_A_5 (hc : cond1_0 i) :
    out1_A_5 c i a1 h1 a2 h2 a3 h3 a4 h4 a5 h5 a6 h6 a7 h7 hc x0 x1 x2 x3 x4 = gxBlk x0 x1 x2 x3 x4 := by
  unfold out1_A_5
  rw [View.read_writes_eq_canon _ _ _ (cover1_A_5 c i a1 h1 a2 h2 a3 h3 a4 h4 a5 h5 a6 h6 a7 h7 hc x0 x1 x2 x3 x4)]
  unfold kernelRun1_A
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S1x2048) hz, View.ld_unit_zero (S := S256x1) hz, gx_eq]

theorem out_B_5 (hc : ¬cond1_0 i) :
    out1_B_5 c i a1 h1 a2 h2 a3 h3 a4 h4 a5 h5 a6 h6 a7 h7 hc x0 x1 x2 x3 x4 p6 = gxBlk x0 x1 x2 x3 x4 := by
  unfold out1_B_5
  rw [View.read_writes_eq_canon _ _ _ (cover1_B_5 c i a1 h1 a2 h2 a3 h3 a4 h4 a5 h5 a6 h6 a7 h7 hc x0 x1 x2 x3 x4 p6)]
  unfold kernelRun1_B
  dsimp only
  sl_unfold_words
  rw [View.canon_unit_zero hz]
  simp only [View.readAt_eq_ld, h1.read_unread, h2.read_unread, h3.read_unread, h4.read_unread, h5.read_unread,
    View.ld_unit_zero (S := S256x2048) hz, View.ld_unit_zero (S := S1x2048) hz, View.ld_unit_zero (S := S256x1) hz, gx_eq]

theorem out_B_6 (hc : ¬cond1_0 i) :
    out1_B_6 c i a1 h1 a2 h2 a3 h3 a4 h4 a5 h5 a6 h6 a7 h7 hc x0 x1 x2 x3 x4 p6 = gnOver x0 x1 x2 p6 := by
  unfold out1_B_6
  rw [View.read_writes_eq_canon _ _ _ (cover1_B_6 c i a1 h1 a2 h2 a3 h3 a4 h4 a5 h5 a6 h6 a7 h7 hc x0 x1 x2 x3 x4 p6)]
  unfold kernelRun1_B
  dsimp only
  sl_unfold_words
  rw [View.canon_unit_zero hz]
  simp only [View.readAt_eq_ld, h1.read_unread, h2.read_unread, h3.read_unread, h4.read_unread, h7.read_unread,
    View.ld_unit_zero (S := S256x2048) hz, View.ld_unit_zero (S := S1x2048) hz, View.ld_unit_zero (S := S256x1) hz, gn_eq]

theorem out_A_6 (hc : cond1_0 i) :
    out1_A_6 c i a1 h1 a2 h2 a3 h3 a4 h4 a5 h5 a6 h6 a7 h7 hc x0 x1 x2 x3 x4 = gnOver x0 x1 x2 (k1_pay1 (F := Ideal)) := by
  unfold out1_A_6
  rw [View.read_writes_eq_canon _ _ _ (cover1_A_6 c i a1 h1 a2 h2 a3 h3 a4 h4 a5 h5 a6 h6 a7 h7 hc x0 x1 x2 x3 x4)]
  unfold kernelRun1_A
  dsimp only
  sl_unfold_words
  rw [View.canon_cons_unit_zero (S := S1x2048) hz, View.readCov_unit_zero (S := S1x2048) _ hz]
  simp only [View.readAt_eq_ld, h1.read_unread, h2.read_unread, h3.read_unread, h4.read_unread,
    View.ld_unit_zero (S := S256x2048) hz, View.ld_unit_zero (S := S1x2048) hz, View.ld_unit_zero (S := S256x1) hz, gn_eq]

end outs

end Cert.Kernel3Ideal.Rms

end
-- ==== Proof.RmsReference.lean ====
/- What the pre-norm's reference computes, in the kernel's row functions. -/
module

public import proofs.«01_k».proof.Proof.RmsKernel
public import proofs.«01_k».proof.Proof.PostReference
public import proofs.«01_k».proof.Proof.Gen.Reference3Ideal.Read

@[expose] public section

set_option maxRecDepth 16384

noncomputable section

namespace Cert.Rms

open Idealize.ShloMosaic
open Cert.Post (Row inv)
open Cert.KernelIdeal.Post (arow grow flat)
open Cert.KernelIdeal (S4096x2048 S2x2048x2048 S1x2048)

/-- The normed rows, of the rows and the gain. -/
def hArr (x : S4096x2048.Idx → EReal) (g : S1x2048.Idx → EReal) : S4096x2048.Idx → EReal :=
  fun i => normed (arow x (i 0)) (grow g) (i 1)

/-- The stream's gradient, of the rows, the gain and the two cotangents. -/
def gxArr (x : S4096x2048.Idx → EReal) (g : S1x2048.Idx → EReal) (d o : S4096x2048.Idx → EReal) : S4096x2048.Idx → EReal :=
  fun i => gx (inv (arow x (i 0))) (arow x (i 0)) (arow d (i 0)) (arow o (i 0)) (grow g) (i 1)

/-- A row's share of the gain's gradient at lane `l`. -/
def gnAt (x d : S4096x2048.Idx → EReal) (l : Fin 2048) (k : Fin 4096) : EReal :=
  gn (inv (arow x k)) (arow x k) (arow d k) l

/-- The gain's gradient. -/
def gnArr (x d : S4096x2048.Idx → EReal) : S1x2048.Idx → EReal := fun i => ∑ k : Fin 4096, gnAt x d (i 1) k

end Cert.Rms

namespace Cert.Reference3Ideal.Rms

open Cert.Reference3Ideal Cert.Reference3Ideal.Gen Cert.Reference3Ideal.Read Idealize.ShloMosaic Idealize.ShloMosaic.TcCoe Idealize.SL.Sem
open Cert.Rms Cert.Sums
open Cert.Post (inv)
open Cert.KernelIdeal.Post (arow grow flat)
open Cert.ReferenceIdeal.Post (srow arow_flat)

variable (x : S2x2048x2048.Idx → EReal) (g : S1x2048.Idx → EReal) (d o : S4096x2048.Idx → EReal)

theorem v8_at (b : Fin 2) (s : Fin 2048) (z : Fin 1) : val_main_v8 (F := Ideal) x (ix3 b s z) = inv (srow x b s) := by
  pointwise [val_main_v8, val_main_v7, val_main_v6, val_main_v5, val_main_v4, val_main_v3, val_main_v2, val_main_v1, val_main_cst_1, val_main_cst_0, val_main_cst]
  rfl

theorem v13_at (b : Fin 2) (s k : Fin 2048) : val_main_v13 (F := Ideal) x (ix3 b s k) = x (ix3 b s k) * inv (srow x b s) := by
  pointwise [val_main_v13, val_main_v12, v8_at]

theorem v14_at (z w : Fin 1) (k : Fin 2048) : val_main_v14 (F := Ideal) g (ix3 z w k) = grow g k := by
  pointwise [val_main_v14, val_main_v0]

theorem v16_at (b : Fin 2) (s k : Fin 2048) : val_main_v16 (F := Ideal) x g (ix3 b s k) = normed (srow x b s) (grow g) k := by
  pointwise [val_main_v16, val_main_v15, v13_at, v14_at]
  rfl

theorem v17_at (b : Fin 2) (s k : Fin 2048) : val_main_v17 (F := Ideal) o (ix3 b s k) = arow o (no b s) k :=
  (shapeCast_apply o _ (ix3 b s k) (ix2 (no b s) k) (by
    rw [Shape.rowMajor_val_two, Shape.rowMajor_val_three]; rfl))

theorem v19_at (b : Fin 2) (s k : Fin 2048) : val_main_v19 (F := Ideal) d (ix3 b s k) = arow d (no b s) k :=
  (shapeCast_apply (val_main_v18 (F := Ideal) d) _ (ix3 b s k) (ix2 (no b s) k) (by
    rw [Shape.rowMajor_val_two, Shape.rowMajor_val_three]; rfl))

theorem v24_at (b : Fin 2) (s k : Fin 2048) : val_main_v24 (F := Ideal) g d (ix3 b s k) = arow d (no b s) k * grow g k := by
  pointwise [val_main_v24, val_main_v23, v19_at, v14_at]

theorem v21_at (k : Fin 2048) :
    val_main_v21 (F := Ideal) x d (ix1 k) = ∑ b : Fin 2, ∑ s : Fin 2048, gn (inv (srow x b s)) (srow x b s) (arow d (no b s)) k := by
  unfold val_main_v21
  simp only [Host.reduceAdd, Ideal.hostReduceAdd_def]
  rw [hostReduceAdd_lead]
  pointwise [val_main_v20, v13_at, v19_at, val_main_cst_3]
  refine Finset.sum_congr rfl fun b _ => Finset.sum_congr rfl fun s _ => mul_comm _ _

theorem v25_at (k : Fin 2048) :
    val_main_v25 (F := Ideal) x d (ix1 k) = ∑ b : Fin 2, ∑ s : Fin 2048, gn (inv (srow x b s)) (srow x b s) (arow d (no b s)) k := by
  unfold val_main_v25
  simp only [Host.reduceAdd, Ideal.hostReduceAdd_def]
  rw [hostReduceAdd_lead]
  pointwise [val_main_v22, v21_at, val_main_cst_4]
  simp only [Finset.univ_unique, Finset.sum_singleton]

theorem v40_at (b : Fin 2) (s k : Fin 2048) :
    val_main_v40 (F := Ideal) x g d o (ix3 b s k)
      = gx (inv (srow x b s)) (srow x b s) (arow d (no b s)) (arow o (no b s)) (grow g) k := by
  obtain ⟨e, he, hE⟩ := Cert.Consts.ofBits_eps
  pointwise [val_main_v40, val_main_v39, val_main_v38, val_main_v37, val_main_v36, val_main_v35, val_main_v34, val_main_v33, val_main_v32,
    val_main_v31, val_main_v30, val_main_v29, val_main_v28, val_main_v27, val_main_v26, v24_at, v17_at, v8_at, val_main_v11, val_main_v10, val_main_v9,
    val_main_v7, val_main_v6, val_main_v5, val_main_v4, val_main_v3, val_main_v2, val_main_v1,
    val_main_cst_7, val_main_cst_6, val_main_cst_5, val_main_cst_2, val_main_cst_1, val_main_cst_0, val_main_cst]
  simp only [Finset.univ_unique, Finset.sum_singleton]
  unfold gx
  have hi : inv (srow x b s) = Ideal.rsqrt (Ideal.div (∑ k, srow x b s k * srow x b s k) ((2048 : ℝ) : EReal) + (e : EReal)) := by
    unfold Cert.Post.inv; rw [Cert.Consts.ofBits_2048, hE]
  rw [Cert.Consts.ofBits_2048, Cert.Consts.ofBits_neg_half, hE, hi, add_assoc, add_assoc, ← add_assoc _ _ (_ * _)]
  exact congrArg (arow o (no b s) k + ·) (Cert.Alg.rms_grad (srow x b s) (fun k => arow d (no b s) k * grow g k) (by norm_num) he k).symm

/-! ## The three results -/

theorem h_eq : val_main_v43 (F := Ideal) x g = hArr (flat x) g := by
  funext i
  idx_vars i
  pointwise [val_main_v43]
  unfold val_main_v42
  rw [shapeCast_apply _ _ (ix2 i0 i1) (ix3 (⟨i0.val / 2048, by omega⟩ : Fin 2) (⟨i0.val % 2048, by omega⟩ : Fin 2048) i1) (by
    rw [Shape.rowMajor_val_two, Shape.rowMajor_val_three]
    exact congrArg (· * 2048 + i1.val) (Nat.div_add_mod' i0.val 2048)), v16_at]
  simp only [← arow_flat, no_div_mod]
  rfl

theorem gx_eq : val_main_v44 (F := Ideal) x g d o = gxArr (flat x) g d o := by
  funext i
  idx_vars i
  unfold val_main_v44
  rw [shapeCast_apply _ _ (ix2 i0 i1) (ix3 (⟨i0.val / 2048, by omega⟩ : Fin 2) (⟨i0.val % 2048, by omega⟩ : Fin 2048) i1) (by
    rw [Shape.rowMajor_val_two, Shape.rowMajor_val_three]
    exact congrArg (· * 2048 + i1.val) (Nat.div_add_mod' i0.val 2048)), v40_at]
  simp only [← arow_flat, no_div_mod]
  rfl

theorem gn_eq : val_main_v41 (F := Ideal) x d = gnArr (flat x) d := by
  funext i
  idx_vars i
  pointwise [val_main_v41, v25_at]
  simp only [← arow_flat]
  rw [sum_no (fun r => gn (inv (arow (flat x) r)) (arow (flat x) r) (arow d r) i1)]
  rfl

end Cert.Reference3Ideal.Rms

end
-- ==== Proof.RmsArrays.lean ====
/- What the pre-norm's two kernels leave in their result arrays: each region's final arrays as functions of the arrays it
   enters with, then the whole run's. -/
module

public import proofs.«01_k».proof.Proof.RmsReference
public import Idealize.ShloMosaic.Lib.Pipeline.Value

@[expose] public section

set_option maxRecDepth 16384

noncomputable section

namespace Cert.Kernel3Ideal.Rms

open Cert.Kernel3Ideal Cert.Kernel3Ideal.Gen Idealize.ShloMosaic Idealize.ShloMosaic.TcCoe Idealize.SL.Sem
open Idealize.ShloMosaic.Pipeline (Dat)
open Cert.Rms
open Cert.Post (inv)
open Cert.KernelIdeal.Post (brow grow arow flat byNo sum_byNo)

/-- The row of the array that row `r` of block `n` is. -/
def rowAt (n : ℕ) (hn : n < 16) (r : Fin 256) : Fin 4096 := ⟨256 * n + r.val, by omega⟩

theorem block_sum (f : Fin 4096 → EReal) (n : ℕ) (hn : n < 16) :
    ∑ r : Fin 256, f (rowAt n hn r) = ∑ r ∈ Finset.range 256, byNo f (256 * n + r) := by
  rw [← Fin.sum_univ_eq_sum_range (fun r => byNo f (256 * n + r))]
  refine Finset.sum_congr rfl fun r _ => ?_
  show f (rowAt n hn r) = byNo f (rowAt n hn r).val
  unfold byNo
  rw [dif_pos (rowAt n hn r).isLt]

theorem lt0 (t : Fin cfg0.N) : t.val < 16 := Nat.lt_of_lt_of_eq t.isLt N_0
theorem lt1 (t : Fin cfg1.N) : t.val < 16 := Nat.lt_of_lt_of_eq t.isLt N_1

/-- Every row is in a block. -/
theorem rows (i : Fin 4096) : rowAt (i.val / 256) (by omega) ⟨i.val % 256, Nat.mod_lt _ (by decide)⟩ = i :=
  Fin.ext (by show 256 * (i.val / 256) + i.val % 256 = i.val; omega)

variable (V : (c : Dev nD) → (b : Ref sig .tc) → Buf (Elt Ideal) ((c : Thread nD τ).loc b)) (c : Dev nD)

/-! ## The forward region's blocks -/

theorem index0_0 (t : Fin cfg0.N) : win0_0.index t 0 = t.val ∧ win0_0.index t 1 = 0 :=
  (by decide +kernel : ∀ t : Fin grid0.N, win0_0.index t 0 = t.val ∧ win0_0.index t 1 = 0) t

theorem row0_0 (t : Fin cfg0.N) (r : Fin 256) :
    brow (iblk0 V c 0 t : Vec Ideal S256x2048 .f32) r = arow (V c main_v0) (rowAt t.val (lt0 t) r) := by
  funext l
  unfold iblk0
  show ((cfg0.win 0).blk t).view.read (Elt Ideal) (V c main_v0) (ix2 r l) = _
  rw [View.read_apply]
  show V c main_v0 _ = V c main_v0 _
  congr 1
  funext a
  apply Fin.ext
  match a with
  | ⟨0, _⟩ => show win0_0.index t 0 * 256 + 1 * r.val = 256 * t.val + r.val; rw [(index0_0 t).1]; omega
  | ⟨1, _⟩ => show win0_0.index t 1 * 2048 + 1 * l.val = l.val; rw [(index0_0 t).2]; omega

theorem index0_1 (t : Fin cfg0.N) : win0_1.index t 0 = 0 ∧ win0_1.index t 1 = 0 :=
  (by decide +kernel : ∀ t : Fin grid0.N, win0_1.index t 0 = 0 ∧ win0_1.index t 1 = 0) t

theorem gain0 (t : Fin cfg0.N) : grow (iblk0 V c 1 t : Vec Ideal S1x2048 .f32) = grow (V c main_arg1) := by
  funext l
  unfold iblk0
  show ((cfg0.win 1).blk t).view.read (Elt Ideal) (V c main_arg1) (ix2 (0 : Fin 1) l) = _
  rw [View.read_apply]
  show V c main_arg1 _ = V c main_arg1 _
  congr 1
  funext a
  apply Fin.ext
  match a with
  | ⟨0, _⟩ => show win0_1.index t 0 * 1 + 1 * 0 = 0; rw [(index0_1 t).1]
  | ⟨1, _⟩ => show win0_1.index t 1 * 2048 + 1 * l.val = l.val; rw [(index0_1 t).2]; omega

theorem index0_2 (t : Fin cfg0.N) : win0_2.index t 0 = t.val ∧ win0_2.index t 1 = 0 :=
  (by decide +kernel : ∀ t : Fin grid0.N, win0_2.index t 0 = t.val ∧ win0_2.index t 1 = 0) t
theorem index0_3 (t : Fin cfg0.N) : win0_3.index t 0 = t.val ∧ win0_3.index t 1 = 0 :=
  (by decide +kernel : ∀ t : Fin grid0.N, win0_3.index t 0 = t.val ∧ win0_3.index t 1 = 0) t
theorem idx_inj0_2 : ∀ t t' : Fin cfg0.N, win0_2.index t = win0_2.index t' → t = t' :=
  (by decide +kernel : ∀ t t' : Fin grid0.N, win0_2.index t = win0_2.index t' → t = t')

theorem blocks0_2 (t : Fin cfg0.N) :
    ((cfg0.win 2).blk t).view.read (Elt Ideal) ((dat0 V c).arrAt 2 cfg0.N) = (dat0 V c).flushed 2 t :=
  (dat0 V c).read_blk_arrAt_eq_flushed 2 (fun t t' _ _ hne => (cfg0.win 2).disjoint_blk fun h => hne (idx_inj0_2 t t' h))
    cfg0.N t t.isLt (flush0_2 t)

theorem idx_inj0_3 : ∀ t t' : Fin cfg0.N, win0_3.index t = win0_3.index t' → t = t' :=
  (by decide +kernel : ∀ t t' : Fin grid0.N, win0_3.index t = win0_3.index t' → t = t')

theorem blocks0_3 (t : Fin cfg0.N) :
    ((cfg0.win 3).blk t).view.read (Elt Ideal) ((dat0 V c).arrAt 3 cfg0.N) = (dat0 V c).flushed 3 t :=
  (dat0 V c).read_blk_arrAt_eq_flushed 3 (fun t t' _ _ hne => (cfg0.win 3).disjoint_blk fun h => hne (idx_inj0_3 t t' h))
    cfg0.N t t.isLt (flush0_3 t)

theorem final0_2 : (dat0 V c).arrAt 2 cfg0.N = hArr (V c main_v0) (V c main_arg1) := by
  funext i
  obtain ⟨t, r, hr⟩ : ∃ (t : Fin cfg0.N) (r : Fin 256), rowAt t.val (lt0 t) r = i 0 :=
    ⟨⟨(i 0).val / 256, by have h : cfg0.N = 16 := N_0; have h' : (i 0).val < 4096 := (i 0).isLt; omega⟩, ⟨(i 0).val % 256, Nat.mod_lt _ (by decide)⟩, rows (i 0)⟩
  have hb := congrFun (blocks0_2 V c t) (ix2 r (i 1))
  rw [View.read_apply] at hb
  have hi : ((cfg0.win 2).blk t).view.emb (ix2 r (i 1)) = i := by
    funext a
    apply Fin.ext
    match a with
    | ⟨0, _⟩ => show win0_2.index t 0 * 256 + 1 * r.val = (i 0).val; rw [(index0_2 t).1, ← hr]; show _ = 256 * t.val + r.val; omega
    | ⟨1, _⟩ => show win0_2.index t 1 * 2048 + 1 * (i 1).val = (i 1).val; rw [(index0_2 t).2]; omega
  rw [hi] at hb
  refine hb.trans ?_
  show (cfg0.win 2).cut (grid0.coords t) ((dat0 V c).after 2 t) (ix2 r (i 1)) = _
  rw [after0_2]
  refine (congrFun (out0_2_eq (iblk0 V c 0 t) (iblk0 V c 1 t)) (ix2 r (i 1))).trans ?_
  show normed (brow (iblk0 V c 0 t) r) (grow (iblk0 V c 1 t)) (i 1) = _
  rw [row0_0, gain0, hr]
  rfl

/-- The rows' reciprocal root mean squares. -/
def invArr (x : S4096x2048.Idx → EReal) : S4096x1.Idx → EReal := fun i => inv (arow x (i 0))

theorem final0_3 : (dat0 V c).arrAt 3 cfg0.N = invArr (V c main_v0) := by
  funext i
  obtain ⟨t, r, hr⟩ : ∃ (t : Fin cfg0.N) (r : Fin 256), rowAt t.val (lt0 t) r = i 0 :=
    ⟨⟨(i 0).val / 256, by have h : cfg0.N = 16 := N_0; have h' : (i 0).val < 4096 := (i 0).isLt; omega⟩, ⟨(i 0).val % 256, Nat.mod_lt _ (by decide)⟩, rows (i 0)⟩
  have hb := congrFun (blocks0_3 V c t) (ix2 r (i 1))
  rw [View.read_apply] at hb
  have hi : ((cfg0.win 3).blk t).view.emb (ix2 r (i 1)) = i := by
    funext a
    apply Fin.ext
    match a with
    | ⟨0, _⟩ => show win0_3.index t 0 * 256 + 1 * r.val = (i 0).val; rw [(index0_3 t).1, ← hr]; show _ = 256 * t.val + r.val; omega
    | ⟨1, _⟩ => show win0_3.index t 1 * 1 + 1 * (i 1).val = (i 1).val; rw [(index0_3 t).2]; omega
  rw [hi] at hb
  refine hb.trans ?_
  show (cfg0.win 3).cut (grid0.coords t) ((dat0 V c).after 3 t) (ix2 r (i 1)) = _
  rw [after0_3]
  refine (congrFun (out0_3_eq (iblk0 V c 0 t) (iblk0 V c 1 t)) (ix2 r (i 1))).trans ?_
  show inv (brow (iblk0 V c 0 t) r) = _
  rw [row0_0, hr]
  rfl

/-! ## The backward region's blocks -/

theorem index1_0 (t : Fin cfg1.N) : win1_0.index t 0 = t.val ∧ win1_0.index t 1 = 0 :=
  (by decide +kernel : ∀ t : Fin grid1.N, win1_0.index t 0 = t.val ∧ win1_0.index t 1 = 0) t

theorem row1_0 (t : Fin cfg1.N) (r : Fin 256) :
    brow (iblk1 V c 0 t : Vec Ideal S256x2048 .bf16) r = arow (V c main_arg2) (rowAt t.val (lt1 t) r) := by
  funext l
  unfold iblk1
  show ((cfg1.win 0).blk t).view.read (Elt Ideal) (V c main_arg2) (ix2 r l) = _
  rw [View.read_apply]
  show V c main_arg2 _ = V c main_arg2 _
  congr 1
  funext a
  apply Fin.ext
  match a with
  | ⟨0, _⟩ => show win1_0.index t 0 * 256 + 1 * r.val = 256 * t.val + r.val; rw [(index1_0 t).1]; omega
  | ⟨1, _⟩ => show win1_0.index t 1 * 2048 + 1 * l.val = l.val; rw [(index1_0 t).2]; omega

theorem index1_1 (t : Fin cfg1.N) : win1_1.index t 0 = t.val ∧ win1_1.index t 1 = 0 :=
  (by decide +kernel : ∀ t : Fin grid1.N, win1_1.index t 0 = t.val ∧ win1_1.index t 1 = 0) t

theorem row1_1 (t : Fin cfg1.N) (r : Fin 256) :
    brow (iblk1 V c 1 t : Vec Ideal S256x2048 .f32) r = arow (V c main_v0) (rowAt t.val (lt1 t) r) := by
  funext l
  unfold iblk1
  show ((cfg1.win 1).blk t).view.read (Elt Ideal) (V c main_v0) (ix2 r l) = _
  rw [View.read_apply]
  show V c main_v0 _ = V c main_v0 _
  congr 1
  funext a
  apply Fin.ext
  match a with
  | ⟨0, _⟩ => show win1_1.index t 0 * 256 + 1 * r.val = 256 * t.val + r.val; rw [(index1_1 t).1]; omega
  | ⟨1, _⟩ => show win1_1.index t 1 * 2048 + 1 * l.val = l.val; rw [(index1_1 t).2]; omega

theorem index1_3 (t : Fin cfg1.N) : win1_3.index t 0 = 0 ∧ win1_3.index t 1 = 0 :=
  (by decide +kernel : ∀ t : Fin grid1.N, win1_3.index t 0 = 0 ∧ win1_3.index t 1 = 0) t

theorem gain1 (t : Fin cfg1.N) : grow (iblk1 V c 3 t : Vec Ideal S1x2048 .f32) = grow (V c main_arg1) := by
  funext l
  unfold iblk1
  show ((cfg1.win 3).blk t).view.read (Elt Ideal) (V c main_arg1) (ix2 (0 : Fin 1) l) = _
  rw [View.read_apply]
  show V c main_arg1 _ = V c main_arg1 _
  congr 1
  funext a
  apply Fin.ext
  match a with
  | ⟨0, _⟩ => show win1_3.index t 0 * 1 + 1 * 0 = 0; rw [(index1_3 t).1]
  | ⟨1, _⟩ => show win1_3.index t 1 * 2048 + 1 * l.val = l.val; rw [(index1_3 t).2]; omega

theorem index1_4 (t : Fin cfg1.N) : win1_4.index t 0 = t.val ∧ win1_4.index t 1 = 0 :=
  (by decide +kernel : ∀ t : Fin grid1.N, win1_4.index t 0 = t.val ∧ win1_4.index t 1 = 0) t

theorem row1_4 (t : Fin cfg1.N) (r : Fin 256) :
    brow (iblk1 V c 4 t : Vec Ideal S256x2048 .f32) r = arow (V c main_arg3) (rowAt t.val (lt1 t) r) := by
  funext l
  unfold iblk1
  show ((cfg1.win 4).blk t).view.read (Elt Ideal) (V c main_arg3) (ix2 r l) = _
  rw [View.read_apply]
  show V c main_arg3 _ = V c main_arg3 _
  congr 1
  funext a
  apply Fin.ext
  match a with
  | ⟨0, _⟩ => show win1_4.index t 0 * 256 + 1 * r.val = 256 * t.val + r.val; rw [(index1_4 t).1]; omega
  | ⟨1, _⟩ => show win1_4.index t 1 * 2048 + 1 * l.val = l.val; rw [(index1_4 t).2]; omega

theorem index1_2 (t : Fin cfg1.N) : win1_2.index t 0 = t.val ∧ win1_2.index t 1 = 0 :=
  (by decide +kernel : ∀ t : Fin grid1.N, win1_2.index t 0 = t.val ∧ win1_2.index t 1 = 0) t

theorem inv1 (hs : V c main_v1_1 = invArr (V c main_v0)) (t : Fin cfg1.N) (r : Fin 256) :
    (iblk1 V c 2 t : Vec Ideal S256x1 .f32) (ix2 r (0 : Fin 1)) = inv (arow (V c main_v0) (rowAt t.val (lt1 t) r)) := by
  unfold iblk1
  show ((cfg1.win 2).blk t).view.read (Elt Ideal) (V c main_v1_1) (ix2 r (0 : Fin 1)) = _
  rw [View.read_apply, hs]
  show inv (arow (V c main_v0) _) = _
  refine congrArg (fun k => inv (arow (V c main_v0) k)) (Fin.ext ?_)
  show win1_2.index t 0 * 256 + 1 * r.val = 256 * t.val + r.val
  rw [(index1_2 t).1]; omega

theorem index1_5 (t : Fin cfg1.N) : win1_5.index t 0 = t.val ∧ win1_5.index t 1 = 0 :=
  (by decide +kernel : ∀ t : Fin grid1.N, win1_5.index t 0 = t.val ∧ win1_5.index t 1 = 0) t

theorem outs5 (t : Fin cfg1.N) :
    (outsAt1 V c t.val t.isLt).1 = gxBlk (iblk1 V c 0 t) (iblk1 V c 1 t) (iblk1 V c 2 t) (iblk1 V c 3 t) (iblk1 V c 4 t) := by
  by_cases h : t.val % 16 = 0
  · rw [outsAt1_A V c t h]; dsimp only; rw [out_A_5]
  · rw [outsAt1_B V c t h]; dsimp only; rw [out_B_5]

theorem idx_inj1_5 : ∀ t t' : Fin cfg1.N, win1_5.index t = win1_5.index t' → t = t' :=
  (by decide +kernel : ∀ t t' : Fin grid1.N, win1_5.index t = win1_5.index t' → t = t')

theorem blocks1_5 (t : Fin cfg1.N) :
    ((cfg1.win 5).blk t).view.read (Elt Ideal) ((dat1 V c).arrAt 5 cfg1.N) = (dat1 V c).flushed 5 t :=
  (dat1 V c).read_blk_arrAt_eq_flushed 5 (fun t t' _ _ hne => (cfg1.win 5).disjoint_blk fun h => hne (idx_inj1_5 t t' h))
    cfg1.N t t.isLt (flush1_5 t)

theorem final1_5 (hs : V c main_v1_1 = invArr (V c main_v0)) :
    (dat1 V c).arrAt 5 cfg1.N = gxArr (V c main_v0) (V c main_arg1) (V c main_arg2) (V c main_arg3) := by
  funext i
  obtain ⟨t, r, hr⟩ : ∃ (t : Fin cfg1.N) (r : Fin 256), rowAt t.val (lt1 t) r = i 0 :=
    ⟨⟨(i 0).val / 256, by have h : cfg1.N = 16 := N_1; have h' : (i 0).val < 4096 := (i 0).isLt; omega⟩, ⟨(i 0).val % 256, Nat.mod_lt _ (by decide)⟩, rows (i 0)⟩
  have hb := congrFun (blocks1_5 V c t) (ix2 r (i 1))
  rw [View.read_apply] at hb
  have hi : ((cfg1.win 5).blk t).view.emb (ix2 r (i 1)) = i := by
    funext a
    apply Fin.ext
    match a with
    | ⟨0, _⟩ => show win1_5.index t 0 * 256 + 1 * r.val = (i 0).val; rw [(index1_5 t).1, ← hr]; show _ = 256 * t.val + r.val; omega
    | ⟨1, _⟩ => show win1_5.index t 1 * 2048 + 1 * (i 1).val = (i 1).val; rw [(index1_5 t).2]; omega
  rw [hi] at hb
  refine hb.trans ?_
  show (cfg1.win 5).cut (grid1.coords t) ((dat1 V c).after 5 t) (ix2 r (i 1)) = _
  rw [after1_5, outs5]
  show gx ((iblk1 V c 2 t : Vec Ideal S256x1 .f32) (ix2 r (0 : Fin 1))) (brow (iblk1 V c 1 t) r) (brow (iblk1 V c 0 t) r) (brow (iblk1 V c 4 t) r) (grow (iblk1 V c 3 t)) (i 1) = _
  rw [inv1 V c hs, row1_0, row1_1, row1_4, gain1, hr]
  rfl

theorem gn_block (hs : V c main_v1_1 = invArr (V c main_v0)) (t : Fin cfg1.N) (p : Vec Ideal S1x2048 .f32) (l : Fin 2048) :
    gnOver (iblk1 V c 0 t) (iblk1 V c 1 t) (iblk1 V c 2 t) p (ix2 (0 : Fin 1) l)
      = p (ix2 (0 : Fin 1) l) + ∑ r ∈ Finset.range 256, byNo (gnAt (V c main_v0) (V c main_arg2) l) (256 * t.val + r) := by
  rw [← block_sum _ t.val (lt1 t)]
  show p _ + ∑ r : Fin 256, gn ((iblk1 V c 2 t : Vec Ideal S256x1 .f32) (ix2 r (0 : Fin 1))) (brow (iblk1 V c 1 t) r) (brow (iblk1 V c 0 t) r) l = p _ + _
  refine congrArg (p _ + ·) (Finset.sum_congr rfl fun r _ => ?_)
  rw [inv1 V c hs, row1_0, row1_1]
  rfl

theorem outs6 (hs : V c main_v1_1 = invArr (V c main_v0)) (l : Fin 2048) : ∀ (n : ℕ) (hn : n < cfg1.N),
    (outsAt1 V c n hn).2 (ix2 (0 : Fin 1) l) = ∑ k ∈ Finset.range (256 * (n + 1)), byNo (gnAt (V c main_v0) (V c main_arg2) l) k
  | 0, hn => by
    rw [show outsAt1 V c 0 hn = _ from outsAt1_A V c ⟨0, hn⟩ rfl]
    dsimp only
    rw [out_A_6, gn_block V c hs]
    show Ideal.ofBits .f32 0x00000000#32 + _ = _
    rw [Ideal.ofBits_zero_f32, zero_add]
    simp only [Nat.mul_zero, Nat.zero_add, Nat.mul_one]
  | n + 1, hn => by
    have hN : cfg1.N = 16 := N_1
    have hB : ¬(⟨n + 1, hn⟩ : Fin cfg1.N).val % 16 = 0 := by dsimp only; omega
    rw [show outsAt1 V c (n + 1) hn = _ from outsAt1_B V c ⟨n + 1, hn⟩ hB]
    dsimp only
    rw [out_B_6, gn_block V c hs, show 256 * (n + 1 + 1) = 256 * (n + 1) + 256 from rfl, Finset.sum_range_add]
    congr 1
    exact outs6 hs l n _

theorem final1_6 (hs : V c main_v1_1 = invArr (V c main_v0)) :
    (dat1 V c).arrAt 6 cfg1.N = gnArr (V c main_v0) (V c main_arg2) := by
  refine (dat1 V c).arrAt_eq_of_cover 6 (gnArr (V c main_v0) (V c main_arg2)) (fun t hf => ?_) (fun i => ?_)
  · have h15 : t = t1_15 := Fin.ext (by have := (flush1_6 t).mp hf; have := lt1 t; show t.val = 15; omega)
    subst h15
    show (cfg1.win 6).cut (grid1.coords t1_15) ((dat1 V c).after 6 t1_15) = _
    rw [after1_6]
    have hz' : (fun a => win1_6.index t1_15 a * main_v2_1.ty.shape.size a) = fun _ => 0 := funext fun a => by fin_cases a <;> decide
    refine Eq.trans ?_ (Memref.read_access_unit_zero (Elt Ideal) main_v2_1 hz' (fun a => by rw [congrFun hz' a]; simp) (gnArr (V c main_v0) (V c main_arg2))).symm
    funext (i : S1x2048.Idx)
    show (outsAt1 V c 15 _).2 i = _
    have hi : i = ix2 (0 : Fin 1) (i 1) := by
      funext a
      match a with
      | ⟨0, _⟩ => exact Subsingleton.elim (α := Fin 1) _ _
      | ⟨1, _⟩ => rfl
    rw [hi]
    refine (outs6 V c hs (i 1) 15 _).trans ?_
    rw [show 256 * (15 + 1) = 4096 from rfl, sum_byNo]
    rfl
  · refine ⟨t1_15, (flush1_6 t1_15).mpr rfl, ?_⟩
    show i ∈ ((View.whole main_v2_1).slice (win1_6.rect t1_15)).set
    rw [View.set_slice_whole, Rect.mem_set_unit]
    intro a
    have h0 : (i 0 : Nat) < 1 := (i 0).isLt
    have h1 : (i 1 : Nat) < 2048 := (i 1).isLt
    match a with
    | ⟨0, _⟩ => show win1_6.index t1_15 0 * win1_6.size 0 ≤ (i 0 : Nat) ∧ (i 0 : Nat) < win1_6.index t1_15 0 * win1_6.size 0 + win1_6.xsize (grid1.coords t1_15) 0
                rw [show win1_6.index t1_15 0 * win1_6.size 0 = 0 from by decide +kernel, show win1_6.xsize (grid1.coords t1_15) 0 = 1 from by decide +kernel]; omega
    | ⟨1, _⟩ => show win1_6.index t1_15 1 * win1_6.size 1 ≤ (i 1 : Nat) ∧ (i 1 : Nat) < win1_6.index t1_15 1 * win1_6.size 1 + win1_6.xsize (grid1.coords t1_15) 1
                rw [show win1_6.index t1_15 1 * win1_6.size 1 = 0 from by decide +kernel, show win1_6.xsize (grid1.coords t1_15) 1 = 2048 from by decide +kernel]; omega

end Cert.Kernel3Ideal.Rms

end
-- ==== Proof.RmsRun.lean ====
/- The pre-norm program's run: both regions, and what every buffer the launch names holds when they are done. -/
module

public import proofs.«01_k».proof.Proof.RmsArrays

@[expose] public section

set_option maxRecDepth 16384

noncomputable section

namespace Cert.Kernel3Ideal.Rms

open Cert.Kernel3Ideal Cert.Kernel3Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Rms
open Cert.KernelIdeal.Post (flat)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every fair run of the two regions ends with each unscoped buffer at the last boundary's contents. -/
theorem run_mem : θ_run defs (onTc (τ := τ) (main (F := Ideal))) ⟨m, fun _ => 0, ρ⟩
    (fun r => ∀ c : Dev nD, ∀ b ∈ Pipeline.ucRefs τ sig, r.2.mem ((c : Thread nD τ).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => h)

/-- The arrays of the forward region's entry: the stream flattened, and the arguments. -/
theorem V1_main_v0 (c : Dev nD) : V1 m ρ c main_v0 = flat (m ((c : Thread nD τ).loc main_arg0)) := by
  show StableHlo.after hostOps0 (fun b => m (c, b)) (Proc.devRef .tc main_v0) = _
  after_results
  rfl

theorem V1_main_arg1 (c : Dev nD) : V1 m ρ c main_arg1 = m ((c : Thread nD τ).loc main_arg1) :=
  W1_args m ρ c main_arg1 (by decide)

/-! The arrays of the backward region's entry: the forward region's, its two results written. -/

theorem V2_main_v0 (c : Dev nD) : V2 m ρ c main_v0 = flat (m ((c : Thread nD τ).loc main_arg0)) :=
  (W2_of m ρ c main_v0 (by decide)).trans (V1_main_v0 m ρ c)

theorem V2_arg (c : Dev nD) (a : Ref sig .tc) (h : a ∈ argRefs) : V2 m ρ c a = m ((c : Thread nD τ).loc a) := W2_args m ρ c a h

theorem V2_inv (c : Dev nD) : V2 m ρ c main_v1_1 = invArr (V2 m ρ c main_v0) := by
  rw [V2_main_v0, ← V1_main_v0 m ρ c]
  exact (W2_arr m ρ c 3).trans (final0_3 (V1 m ρ) c)

/-- The three results, of the launch's arguments. -/
theorem run_values : θ_run defs (onTc (τ := τ) (main (F := Ideal))) ⟨m, fun _ => 0, ρ⟩ (fun r => ∀ c : Dev nD,
      r.2.mem ((c.tc : Thread nD τ).loc main_v1_0) = hArr (flat (m ((c.tc : Thread nD τ).loc main_arg0))) (m ((c.tc : Thread nD τ).loc main_arg1))
      ∧ r.2.mem ((c.tc : Thread nD τ).loc main_v2_0) = gxArr (flat (m ((c.tc : Thread nD τ).loc main_arg0))) (m ((c.tc : Thread nD τ).loc main_arg1))
          (m ((c.tc : Thread nD τ).loc main_arg2)) (m ((c.tc : Thread nD τ).loc main_arg3))
      ∧ r.2.mem ((c.tc : Thread nD τ).loc main_v2_1) = gnArr (flat (m ((c.tc : Thread nD τ).loc main_arg0))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ⟨?_, ?_, ?_,
    (h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c)⟩) (run_mem m ρ)
  · refine ((h c _ (mem_uc main_v1_0 (by decide))).trans (W3_of m ρ c main_v1_0 (by decide))).trans ((W2_arr m ρ c 2).trans ?_)
    refine (final0_2 (V1 m ρ) c).trans ?_
    rw [V1_main_v0, V1_main_arg1]
  · refine (h c _ (mem_uc main_v2_0 (by decide))).trans ((W3_arr m ρ c 5).trans ?_)
    refine (final1_5 (V2 m ρ) c (V2_inv m ρ c)).trans ?_
    rw [V2_main_v0, V2_arg m ρ c main_arg1 (by decide), V2_arg m ρ c main_arg2 (by decide), V2_arg m ρ c main_arg3 (by decide)]
  · refine (h c _ (mem_uc main_v2_1 (by decide))).trans ((W3_arr m ρ c 6).trans ?_)
    refine (final1_6 (V2 m ρ) c (V2_inv m ρ c)).trans ?_
    rw [V2_main_v0, V2_arg m ρ c main_arg2 (by decide)]

end Cert.Kernel3Ideal.Rms

end
-- ==== Proof.RmsClaims.lean ====
/- The claims about the pre-norm, forward and backward. -/
module

public import proofs.«01_k».proof.Defs
public import proofs.«01_k».proof.Proof.RmsRun
public import proofs.«01_k».proof.Proof.Gen.Reference3Ideal.Run
public import proofs.«01_k».proof.Proof.Gen.Kernel3.Frame
public import Idealize.ShloMosaic.Lib.Quiescent

@[expose] public section

set_option maxRecDepth 16384

noncomputable section

namespace Cert.Proof

open Idealize.ShloMosaic Idealize.ShloMosaic.TcCoe Idealize.SL.Sem

/-- The reference runs, keeps its arguments, and leaves every semaphore at zero. -/
theorem rms_reference_frame : Cert.quiescent_Reference3Ideal (hReference3Ideal := Cert.Reference3Ideal.Gen.facts) :=
  fun m ρ _ => (θ_run Cert.Reference3Ideal.defs _ _).mono
    (fun r h => ⟨fun c => (h c).2.2.2, Idealize.ShloMosaic.sem_eq_zero_of_no_sems (by decide) r.2⟩)
    (Cert.Reference3Ideal.Value.run (F := Ideal) m ρ)

/-- The kernels' three results are the reference's. -/
theorem rms_algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨_, _, _, Cert.Kernel3Ideal.Rms.run_values m ρ, ?_⟩
  refine (θ_run Cert.Reference3Ideal.defs _ _).mono
    (fun _ h c => ⟨(h c).1.trans ((Cert.Reference3Ideal.Read.val_main_v43_eq _ _).trans ?_),
      (h c).2.1.trans ((Cert.Reference3Ideal.Read.val_main_v44_eq m' c).trans ?_),
      (h c).2.2.1.trans ((Cert.Reference3Ideal.Read.val_main_v41_eq _ _).trans ?_), (h c).2.2.2⟩)
    (Cert.Reference3Ideal.Value.run (F := Ideal) m' ρ')
  · rw [(hagree c).1, (hagree c).2.1]
    exact Cert.Reference3Ideal.Rms.h_eq _ _
  · rw [(hagree c).1, (hagree c).2.1, (hagree c).2.2.1, (hagree c).2.2.2]
    exact Cert.Reference3Ideal.Rms.gx_eq _ _ _ _
  · rw [(hagree c).1, (hagree c).2.2.1]
    exact Cert.Reference3Ideal.Rms.gn_eq _ _

end Cert.Proof

end
-- ==== Proof.AttnStep.lean ====
/-
The run of the attention call's gradient, by hand. The grid has 64 points: a batch, a query block taken from the last to the
first, and a pair of key heads. A point stores 64 columns at a time into the query-key-value-gate block, adds its part to
the two small gradients (held in their buffers over the whole grid) and keeps in two scratch arrays what the next point owes
to the keys and values of its own block. There are four kinds of points. The body's run of each kind is the generated one;
here the four are brought to one form — the body takes what the five buffers hold to `step` of it —, and the launch
follows from that form alone.
-/
module

public import proofs.«01_k».proof.Proof.Gen.Kernel4Ideal.Frame.RunD
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the five buffers the body writes hold: the block of the query, key, value and gate gradients, the bias
    gradient, the sink gradient, and the two scratch arrays carried from a block to the one before it. -/
abbrev Held (F : FTy → Type) [FloatOps F] : Type :=
  Vec F S128x2560 .bf16 × Vec F S16x128x256 .f32 × Vec F S16x8x128 .f32 × Vec F S2x128x128 .f32 × Vec F S2x128x128 .f32

/-! ## The four kinds of points -/

/-- The body's run at the first point of all, over the blocks its windows show. -/
def runA (c : Dev nD) (t : Fin cfg0.N) (h : conds0_A (grid0.coords t)) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2
    (iblk m c 0 t) (iblk m c 1 t) (iblk m c 2 t) (iblk m c 3 t) (iblk m c 4 t) (iblk m c 5 t) (iblk m c 6 t) (iblk m c 7 t)

/-- What it leaves in the five buffers. -/
def leavesA (c : Dev nD) (t : Fin cfg0.N) (h : conds0_A (grid0.coords t)) : Held F :=
  (VO0_8.read (Elt F) (VO0_8.writes (Elt F) VO0_8.junk (runA m c t h).1),
    VO0_9.read (Elt F) (VO0_9.writes (Elt F) VO0_9.junk (runA m c t h).2.1),
    VO0_10.read (Elt F) (VO0_10.writes (Elt F) VO0_10.junk (runA m c t h).2.2.1),
    VS0_0.read (Elt F) (VS0_0.writes (Elt F) VS0_0.junk (runA m c t h).2.2.2.1),
    VS0_1.read (Elt F) (VS0_1.writes (Elt F) VS0_1.junk (runA m c t h).2.2.2.2.1))

/-- Its stores reach all of the block. -/
theorem coverA_0 (c : Dev nD) (t : Fin cfg0.N) (h : conds0_A (grid0.coords t)) (y) :
    ∃ pc ∈ (runA m c t h).1, y ∈ pc.1.set :=
  View.cover_of_tiledBy _ ![128, 64] (by sl_kernel_rfl) y

/-- Its stores reach all of the bias gradient. -/
theorem coverA_1 (c : Dev nD) (t : Fin cfg0.N) (h : conds0_A (grid0.coords t)) (y) :
    ∃ pc ∈ (runA m c t h).2.1, y ∈ pc.1.set :=
  View.cover_of_tiledBy _ ![1, 128, 256] (by sl_kernel_rfl) y

/-- Its stores reach all of the sink gradient. -/
theorem coverA_2 (c : Dev nD) (t : Fin cfg0.N) (h : conds0_A (grid0.coords t)) (y) :
    ∃ pc ∈ (runA m c t h).2.2.1, y ∈ pc.1.set :=
  View.cover_of_tiledBy _ ![1, 8, 128] (by sl_kernel_rfl) y

/-- Its stores reach all of the first scratch array. -/
theorem coverA_3 (c : Dev nD) (t : Fin cfg0.N) (h : conds0_A (grid0.coords t)) (y) :
    ∃ pc ∈ (runA m c t h).2.2.2.1, y ∈ pc.1.set :=
  View.cover_of_wholeMem _ (by sl_whole_mem) y

/-- Its stores reach all of the second scratch array. -/
theorem coverA_4 (c : Dev nD) (t : Fin cfg0.N) (h : conds0_A (grid0.coords t)) (y) :
    ∃ pc ∈ (runA m c t h).2.2.2.2.1, y ∈ pc.1.set :=
  View.cover_of_wholeMem _ (by sl_whole_mem) y

/-- The body's run at a point of the second pair of groups, over the blocks its windows show. -/
def runB (c : Dev nD) (t : Fin cfg0.N) (h : conds0_B (grid0.coords t)) (p : Held F):=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2
    (iblk m c 0 t) (iblk m c 1 t) (iblk m c 2 t) (iblk m c 3 t) (iblk m c 4 t) (iblk m c 5 t) (iblk m c 6 t) (iblk m c 7 t) p.1 p.2.1 p.2.2.1 p.2.2.2.1 p.2.2.2.2

/-- What it leaves in the five buffers. -/
def leavesB (c : Dev nD) (t : Fin cfg0.N) (h : conds0_B (grid0.coords t)) (p : Held F): Held F :=
  ((ms0_8 t).view.read (Elt F) ((ms0_8 t).view.writes (Elt F) ((hs0_8 t).unread p.1) (runB m c t h p).1),
    (ms0_9 t).view.read (Elt F) ((ms0_9 t).view.writes (Elt F) ((hs0_9 t).unread p.2.1) (runB m c t h p).2.1),
    (ms0_10 t).view.read (Elt F) ((ms0_10 t).view.writes (Elt F) ((hs0_10 t).unread p.2.2.1) (runB m c t h p).2.2.1),
    scM0_0.view.read (Elt F) (scM0_0.view.writes (Elt F) ((Memref.isWhole_whole _ : scM0_0.IsWhole).unread p.2.2.2.1) (runB m c t h p).2.2.2.1),
    scM0_1.view.read (Elt F) (scM0_1.view.writes (Elt F) ((Memref.isWhole_whole _ : scM0_1.IsWhole).unread p.2.2.2.2) (runB m c t h p).2.2.2.2.1))

/-- The body's run at a point of the first pair that opens no sequence, over the blocks its windows show. -/
def runC (c : Dev nD) (t : Fin cfg0.N) (h : conds0_C (grid0.coords t)) (p : Held F):=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2
    (iblk m c 0 t) (iblk m c 1 t) (iblk m c 2 t) (iblk m c 3 t) (iblk m c 4 t) (iblk m c 5 t) (iblk m c 6 t) (iblk m c 7 t) p.2.1 p.2.2.1 p.2.2.2.1 p.2.2.2.2

/-- What it leaves in the five buffers. -/
def leavesC (c : Dev nD) (t : Fin cfg0.N) (h : conds0_C (grid0.coords t)) (p : Held F): Held F :=
  (VO0_8.read (Elt F) (VO0_8.writes (Elt F) VO0_8.junk (runC m c t h p).1),
    (ms0_9 t).view.read (Elt F) ((ms0_9 t).view.writes (Elt F) ((hs0_9 t).unread p.2.1) (runC m c t h p).2.1),
    (ms0_10 t).view.read (Elt F) ((ms0_10 t).view.writes (Elt F) ((hs0_10 t).unread p.2.2.1) (runC m c t h p).2.2.1),
    scM0_0.view.read (Elt F) (scM0_0.view.writes (Elt F) ((Memref.isWhole_whole _ : scM0_0.IsWhole).unread p.2.2.2.1) (runC m c t h p).2.2.2.1),
    scM0_1.view.read (Elt F) (scM0_1.view.writes (Elt F) ((Memref.isWhole_whole _ : scM0_1.IsWhole).unread p.2.2.2.2) (runC m c t h p).2.2.2.2.1))

/-- Its stores reach all of the block. -/
theorem coverC_0 (c : Dev nD) (t : Fin cfg0.N) (h : conds0_C (grid0.coords t)) (p : Held F)(y) :
    ∃ pc ∈ (runC m c t h p).1, y ∈ pc.1.set :=
  View.cover_of_tiledBy _ ![128, 64] (by sl_kernel_rfl) y

/-- The body's run at a point of the first pair that opens a later sequence, over the blocks its windows show. -/
def runD (c : Dev nD) (t : Fin cfg0.N) (h : conds0_D (grid0.coords t)) (p : Held F):=
  kernelRun0_D (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) h.1 h.2.1 h.2.2.1 h.2.2.2
    (iblk m c 0 t) (iblk m c 1 t) (iblk m c 2 t) (iblk m c 3 t) (iblk m c 4 t) (iblk m c 5 t) (iblk m c 6 t) (iblk m c 7 t) p.2.1 p.2.2.1

/-- What it leaves in the five buffers. -/
def leavesD (c : Dev nD) (t : Fin cfg0.N) (h : conds0_D (grid0.coords t)) (p : Held F): Held F :=
  (VO0_8.read (Elt F) (VO0_8.writes (Elt F) VO0_8.junk (runD m c t h p).1),
    (ms0_9 t).view.read (Elt F) ((ms0_9 t).view.writes (Elt F) ((hs0_9 t).unread p.2.1) (runD m c t h p).2.1),
    (ms0_10 t).view.read (Elt F) ((ms0_10 t).view.writes (Elt F) ((hs0_10 t).unread p.2.2.1) (runD m c t h p).2.2.1),
    VS0_0.read (Elt F) (VS0_0.writes (Elt F) VS0_0.junk (runD m c t h p).2.2.2.1),
    VS0_1.read (Elt F) (VS0_1.writes (Elt F) VS0_1.junk (runD m c t h p).2.2.2.2.1))

/-- Its stores reach all of the block. -/
theorem coverD_0 (c : Dev nD) (t : Fin cfg0.N) (h : conds0_D (grid0.coords t)) (p : Held F)(y) :
    ∃ pc ∈ (runD m c t h p).1, y ∈ pc.1.set :=
  View.cover_of_tiledBy _ ![128, 64] (by sl_kernel_rfl) y

/-- Its stores reach all of the first scratch array. -/
theorem coverD_3 (c : Dev nD) (t : Fin cfg0.N) (h : conds0_D (grid0.coords t)) (p : Held F)(y) :
    ∃ pc ∈ (runD m c t h p).2.2.2.1, y ∈ pc.1.set :=
  View.cover_of_wholeMem _ (by sl_whole_mem) y

/-- Its stores reach all of the second scratch array. -/
theorem coverD_4 (c : Dev nD) (t : Fin cfg0.N) (h : conds0_D (grid0.coords t)) (p : Held F)(y) :
    ∃ pc ∈ (runD m c t h p).2.2.2.2.1, y ∈ pc.1.set :=
  View.cover_of_wholeMem _ (by sl_whole_mem) y

/-- The eight input buffers at their blocks. -/
def blocks (c : Dev nD) (t : Fin cfg0.N) : sProp 𝕄 :=
  iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t))

/-- The five buffers the body writes, at given contents. -/
def holds (c : Dev nD) (t : Fin cfg0.N) (p : Held F) : sProp 𝕄 :=
  iprop(owns (c : Thread nD τ) (ms0_8 t) fullShare p.1 ∗ owns (c : Thread nD τ) (ms0_9 t) fullShare p.2.1 ∗ owns (c : Thread nD τ) (ms0_10 t) fullShare p.2.2.1 ∗ owns (c : Thread nD τ) scM0_0 fullShare p.2.2.2.1 ∗ owns (c : Thread nD τ) scM0_1 fullShare p.2.2.2.2)

/-! ## Each kind's run in one form -/

set_option maxHeartbeats 8000000 in
/-- The body at the first point of all: from the blocks and any contents of the five buffers to what it leaves. -/
theorem tripleA (c : Dev nD) (t : Fin cfg0.N) (h : conds0_A (grid0.coords t)) (p : Held F) (K : PUnit → sProp 𝕄) :
    iprop(blocks m c t ∗ holds c t p ∗ (iprop(blocks m c t ∗ holds c t (leavesA m c t h)) -∗ K ⟨⟩))
      ⊢ wp frame (wpE (defs₀ (F := F)) Variants.none c none) Set.univ (bodyAt0 t) K := by
  unfold blocks holds leavesA bodyAt0
  dsimp only
  iintro ⟨⟨H0, H1, H2, H3, H4, H5, H6, H7⟩, ⟨H8, H9, H10, HS0, HS1⟩, Hk⟩
  iapply ((runA m c t h).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [HS0]; · iexists _; iexact HS0
  isplitl [HS1]; · iexists _; iexact HS1
  iintro ⟨H0, H1, H2, H3, H4, H5, H6, H7, ⟨%e0, H8⟩, ⟨%e1, H9⟩, ⟨%e2, H10⟩, ⟨%e3, HS0⟩, ⟨%e4, HS1⟩⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; exact View.read_writes_of_cover _ _ _ _ _ (coverA_0 m c t h)
  isplitl [H9]
  · unfold owns; iexists _; isplitr
    swap; · iexact H9
    ipureintro; exact View.read_writes_of_cover _ _ _ _ _ (coverA_1 m c t h)
  isplitl [H10]
  · unfold owns; iexists _; isplitr
    swap; · iexact H10
    ipureintro; exact View.read_writes_of_cover _ _ _ _ _ (coverA_2 m c t h)
  isplitl [HS0]
  · unfold owns; iexists _; isplitr
    swap; · iexact HS0
    ipureintro; exact View.read_writes_of_cover _ _ _ _ _ (coverA_3 m c t h)
  unfold owns; iexists _; isplitr
  swap; · iexact HS1
  ipureintro; exact View.read_writes_of_cover _ _ _ _ _ (coverA_4 m c t h)

set_option maxHeartbeats 8000000 in
/-- The body at a point of the second pair of groups: from the blocks and any contents of the five buffers to what it leaves. -/
theorem tripleB (c : Dev nD) (t : Fin cfg0.N) (h : conds0_B (grid0.coords t)) (p : Held F) (K : PUnit → sProp 𝕄) :
    iprop(blocks m c t ∗ holds c t p ∗ (iprop(blocks m c t ∗ holds c t (leavesB m c t h p)) -∗ K ⟨⟩))
      ⊢ wp frame (wpE (defs₀ (F := F)) Variants.none c none) Set.univ (bodyAt0 t) K := by
  unfold blocks holds leavesB bodyAt0
  dsimp only
  iintro ⟨⟨H0, H1, H2, H3, H4, H5, H6, H7⟩, ⟨H8, H9, H10, HS0, HS1⟩, Hk⟩
  iapply ((runB m c t h p).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HS0]; · iexact HS0
  isplitl [HS1]; · iexact HS1
  iintro ⟨H0, H1, H2, H3, H4, H5, H6, H7, H8, H9, H10, HS0, HS1⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; rfl
  isplitl [H9]
  · unfold owns; iexists _; isplitr
    swap; · iexact H9
    ipureintro; rfl
  isplitl [H10]
  · unfold owns; iexists _; isplitr
    swap; · iexact H10
    ipureintro; rfl
  isplitl [HS0]
  · unfold owns; iexists _; isplitr
    swap; · iexact HS0
    ipureintro; rfl
  unfold owns; iexists _; isplitr
  swap; · iexact HS1
  ipureintro; rfl

set_option maxHeartbeats 8000000 in
/-- The body at a point of the first pair that opens no sequence: from the blocks and any contents of the five buffers to what it leaves. -/
theorem tripleC (c : Dev nD) (t : Fin cfg0.N) (h : conds0_C (grid0.coords t)) (p : Held F) (K : PUnit → sProp 𝕄) :
    iprop(blocks m c t ∗ holds c t p ∗ (iprop(blocks m c t ∗ holds c t (leavesC m c t h p)) -∗ K ⟨⟩))
      ⊢ wp frame (wpE (defs₀ (F := F)) Variants.none c none) Set.univ (bodyAt0 t) K := by
  unfold blocks holds leavesC bodyAt0
  dsimp only
  iintro ⟨⟨H0, H1, H2, H3, H4, H5, H6, H7⟩, ⟨H8, H9, H10, HS0, HS1⟩, Hk⟩
  iapply ((runC m c t h p).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexact HS0
  isplitl [HS1]; · iexact HS1
  iintro ⟨H0, H1, H2, H3, H4, H5, H6, H7, ⟨%e0, H8⟩, H9, H10, HS0, HS1⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; exact View.read_writes_of_cover _ _ _ _ _ (coverC_0 m c t h p)
  isplitl [H9]
  · unfold owns; iexists _; isplitr
    swap; · iexact H9
    ipureintro; rfl
  isplitl [H10]
  · unfold owns; iexists _; isplitr
    swap; · iexact H10
    ipureintro; rfl
  isplitl [HS0]
  · unfold owns; iexists _; isplitr
    swap; · iexact HS0
    ipureintro; rfl
  unfold owns; iexists _; isplitr
  swap; · iexact HS1
  ipureintro; rfl

set_option maxHeartbeats 8000000 in
/-- The body at a point of the first pair that opens a later sequence: from the blocks and any contents of the five buffers to what it leaves. -/
theorem tripleD (c : Dev nD) (t : Fin cfg0.N) (h : conds0_D (grid0.coords t)) (p : Held F) (K : PUnit → sProp 𝕄) :
    iprop(blocks m c t ∗ holds c t p ∗ (iprop(blocks m c t ∗ holds c t (leavesD m c t h p)) -∗ K ⟨⟩))
      ⊢ wp frame (wpE (defs₀ (F := F)) Variants.none c none) Set.univ (bodyAt0 t) K := by
  unfold blocks holds leavesD bodyAt0
  dsimp only
  iintro ⟨⟨H0, H1, H2, H3, H4, H5, H6, H7⟩, ⟨H8, H9, H10, HS0, HS1⟩, Hk⟩
  iapply ((runD m c t h p).2.2.2.2.2 Set.univ K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexact H9
  isplitl [H10]; · iexact H10
  isplitl [HS0]; · iexists _; iexact HS0
  isplitl [HS1]; · iexists _; iexact HS1
  iintro ⟨H0, H1, H2, H3, H4, H5, H6, H7, ⟨%e0, H8⟩, H9, H10, ⟨%e3, HS0⟩, ⟨%e4, HS1⟩⟩
  iapply Hk
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]
  · unfold owns; iexists _; isplitr
    swap; · iexact H8
    ipureintro; exact View.read_writes_of_cover _ _ _ _ _ (coverD_0 m c t h p)
  isplitl [H9]
  · unfold owns; iexists _; isplitr
    swap; · iexact H9
    ipureintro; rfl
  isplitl [H10]
  · unfold owns; iexists _; isplitr
    swap; · iexact H10
    ipureintro; rfl
  isplitl [HS0]
  · unfold owns; iexists _; isplitr
    swap; · iexact HS0
    ipureintro; exact View.read_writes_of_cover _ _ _ _ _ (coverD_3 m c t h p)
  unfold owns; iexists _; isplitr
  swap; · iexact HS1
  ipureintro; exact View.read_writes_of_cover _ _ _ _ _ (coverD_4 m c t h p)

/-! ## The body as one step -/

/-- A point is of one of the four kinds. -/
theorem kind (t : Fin cfg0.N) : conds0_A (grid0.coords t) ∨ conds0_B (grid0.coords t) ∨ conds0_C (grid0.coords t) ∨ conds0_D (grid0.coords t) := by
  have hN : t.val < 64 := lt_of_lt_of_eq t.isLt (show cfg0.N = 64 from N_0)
  unfold conds0_A conds0_B conds0_C conds0_D
  rw [hcond0_0 t, hcond0_1 t, hcond0_2 t, hcond0_3 t]
  omega

open Classical in
/-- What the body leaves in the five buffers, from what they held. -/
def step (c : Dev nD) (t : Fin cfg0.N) (p : Held F) : Held F :=
  if h : conds0_A (grid0.coords t) then leavesA m c t h
  else if h : conds0_B (grid0.coords t) then leavesB m c t h p
  else if h : conds0_C (grid0.coords t) then leavesC m c t h p
  else if h : conds0_D (grid0.coords t) then leavesD m c t h p
  else p

theorem step_A (c : Dev nD) (t : Fin cfg0.N) (p : Held F) (h : conds0_A (grid0.coords t)) : step m c t p = leavesA m c t h := by
  unfold step; rw [dif_pos h]

theorem step_B (c : Dev nD) (t : Fin cfg0.N) (p : Held F) (h : conds0_B (grid0.coords t)) : step m c t p = leavesB m c t h p := by
  unfold step; rw [dif_neg (fun g => h.1 g.1), dif_pos h]

theorem step_C (c : Dev nD) (t : Fin cfg0.N) (p : Held F) (h : conds0_C (grid0.coords t)) : step m c t p = leavesC m c t h p := by
  unfold step; rw [dif_neg (fun g => h.1 g.1), dif_neg (fun g => g.2.2.1 h.2.2.1), dif_pos h]

theorem step_D (c : Dev nD) (t : Fin cfg0.N) (p : Held F) (h : conds0_D (grid0.coords t)) : step m c t p = leavesD m c t h p := by
  unfold step; rw [dif_neg (fun g => h.1 g.1), dif_neg (fun g => g.2.1 h.2.1), dif_neg (fun g => g.2.1 h.2.1), dif_pos h]

/-- The body takes the five buffers to their step, at every point. -/
theorem triple (c : Dev nD) (t : Fin cfg0.N) (p q : Held F) (hq : step m c t p = q) (K : PUnit → sProp 𝕄) :
    iprop(blocks m c t ∗ holds c t p ∗ (iprop(blocks m c t ∗ holds c t q) -∗ K ⟨⟩))
      ⊢ wp frame (wpE (defs₀ (F := F)) Variants.none c none) Set.univ (bodyAt0 t) K := by
  subst hq
  rcases kind t with h | h | h | h
  · rw [step_A m c t p h]; exact tripleA m c t h p K
  · rw [step_B m c t p h]; exact tripleB m c t h p K
  · rw [step_C m c t p h]; exact tripleC m c t h p K
  · rw [step_D m c t p h]; exact tripleD m c t h p K

/-- What the five buffers hold after each point. -/
def outs (c : Dev nD) : (n : ℕ) → n < cfg0.N → Held F
  | 0, h => step m c ⟨0, h⟩ (VO0_8.read (Elt F) VO0_8.junk, VO0_9.read (Elt F) VO0_9.junk, VO0_10.read (Elt F) VO0_10.junk,
      VS0_0.read (Elt F) VS0_0.junk, VS0_1.read (Elt F) VS0_1.junk)
  | n + 1, h => step m c ⟨n + 1, h⟩ (outs c n (Nat.lt_of_succ_lt h))

/-- After a point that is not the first: the step of what the point before left. -/
theorem outs_pos (c : Dev nD) (t : Fin cfg0.N) (h0 : t.val ≠ 0) :
    outs m c t.val t.isLt = step m c t (outs m c (t.val - 1) (by omega)) := by
  obtain ⟨n, hn⟩ := t
  cases n with
  | zero => exact absurd rfl h0
  | succ n => rfl

/-- After the first point nothing is left of what the buffers held before. -/
theorem outs_A (c : Dev nD) (t : Fin cfg0.N) (h : conds0_A (grid0.coords t)) : outs m c t.val t.isLt = leavesA m c t h := by
  have h0 := (hcond0_0 t).mp h.1
  have hN : t.val < 64 := lt_of_lt_of_eq t.isLt (show cfg0.N = 64 from N_0)
  obtain ⟨n, hn⟩ := t
  cases n with
  | zero => exact step_A m c _ _ h
  | succ n =>
    exfalso
    dsimp only at h0 hN
    omega

/-- A step depends only on what is still the point before's: the scratch, and the outputs not yet written back. -/
theorem step_outs (c : Dev nD) (t : Fin cfg0.N) (p : Held F)
    (h8 : ∀ h0 : t.val ≠ 0, cfg0.fresh 8 t.val = false → p.1 = (outs m c (t.val - 1) (by omega)).1)
    (h9 : ∀ h0 : t.val ≠ 0, cfg0.fresh 9 t.val = false → p.2.1 = (outs m c (t.val - 1) (by omega)).2.1)
    (h10 : ∀ h0 : t.val ≠ 0, cfg0.fresh 10 t.val = false → p.2.2.1 = (outs m c (t.val - 1) (by omega)).2.2.1)
    (hs : ∀ h0 : t.val ≠ 0, p.2.2.2 = (outs m c (t.val - 1) (by omega)).2.2.2) :
    step m c t p = outs m c t.val t.isLt := by
  rcases kind t with h | h | h | h
  · rw [step_A m c t p h, outs_A m c t h]
  all_goals
    have h0 : t.val ≠ 0 := fun e => h.1 ((hcond0_0 t).mpr (by rw [e]))
    rw [outs_pos m c t h0]
    specialize hs h0
  · have e8 := h8 h0 (notFresh0_8_B t h.1 h.2.1 h.2.2.1 h.2.2.2)
    have e9 := h9 h0 (notFresh0_9_B t h.1 h.2.1 h.2.2.1 h.2.2.2)
    have e10 := h10 h0 (notFresh0_10_B t h.1 h.2.1 h.2.2.1 h.2.2.2)
    rw [show p = outs m c (t.val - 1) (by omega) from Prod.ext e8 (Prod.ext e9 (Prod.ext e10 hs))]
  · have e9 := h9 h0 (notFresh0_9_C t h.1 h.2.1 h.2.2.1 h.2.2.2)
    have e10 := h10 h0 (notFresh0_10_C t h.1 h.2.1 h.2.2.1 h.2.2.2)
    rw [step_C m c t _ h, step_C m c t _ h]
    obtain ⟨p1, p2⟩ := p
    have e : p2 = (outs m c (t.val - 1) (by omega)).2 := Prod.ext e9 (Prod.ext e10 hs)
    subst e
    rfl
  · have e9 := h9 h0 (notFresh0_9_D t h.1 h.2.1 h.2.2.1 h.2.2.2)
    have e10 := h10 h0 (notFresh0_10_D t h.1 h.2.1 h.2.2.1 h.2.2.2)
    rw [step_D m c t _ h, step_D m c t _ h]
    obtain ⟨p1, p2, p3, p4⟩ := p
    dsimp only at e9 e10
    subst e9 e10
    rfl

end Cert.Attn

end
-- ==== Proof.AttnFrame.lean ====
/-
The launch of the attention call's gradient over the body's step (Proof/AttnStep.lean): the proof data, the body's obligation,
and the run of the whole program — every array of the grid at what the steps leave, every counter at zero.
-/
module

public import proofs.«01_k».proof.Proof.AttnStep

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch between points: at anything before the first, at what the last point left after it. -/
def between (c : Dev nD) : (n : ℕ) → n ≤ cfg0.N → sProp 𝕄
  | 0, _ => Pipeline.ΦA spec0 c
  | n + 1, hn => iprop(iprop(owns (c : Thread nD τ) scM0_0 fullShare (outs m c n hn).2.2.2.1
      ∗ owns (c : Thread nD τ) scM0_1 fullShare (outs m c n hn).2.2.2.2) ∗ (∃ r, prngReg c r))

theorem between_pos (c : Dev nD) (n : ℕ) (h : n ≤ cfg0.N) (hz : n ≠ 0) :
    between m c n h = iprop(iprop(owns (c : Thread nD τ) scM0_0 fullShare (outs m c (n - 1) (by omega)).2.2.2.1
      ∗ owns (c : Thread nD τ) scM0_1 fullShare (outs m c (n - 1) (by omega)).2.2.2.2) ∗ (∃ r, prngReg c r)) := by
  cases n with
  | zero => exact absurd rfl hz
  | succ n => rfl

/-- The launch's proof data: the inputs' buffers at their blocks, the outputs' at what the steps leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outs m c t.val t.isLt).1
    | ⟨9, _⟩ => (outs m c t.val t.isLt).2.1
    | ⟨10, _⟩ => (outs m c t.val t.isLt).2.2.1
  Φ t := between m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem between_castSucc (c : Dev nD) (t : Fin cfg0.N) :
    (dats m 0 c).Φ t.castSucc = between m c t.val (Nat.le_of_lt t.isLt) := by
  dsimp only [dats]; exact Pipeline.Dat.Φ_castSucc (between m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = (outs m c t.val t.isLt).1 := by dsimp only [dats]
theorem after_9 (c : Dev nD) (t : Fin cfg0.N) : (dats m 0 c).after 9 t = (outs m c t.val t.isLt).2.1 := by dsimp only [dats]
theorem after_10 (c : Dev nD) (t : Fin cfg0.N) : (dats m 0 c).after 10 t = (outs m c t.val t.isLt).2.2.1 := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The outputs' buffers between points -/

/-- No point leaves an output window idle. -/
theorem live_8 (t : Fin cfg0.N) : cfg0.idle 8 (grid0.coords t) = false := by
  rcases kind t with h | h | h | h
  · exact liveAt0_8_A t h.1 h.2.1 h.2.2.1 h.2.2.2
  · exact liveAt0_8_B t h.1 h.2.1 h.2.2.1 h.2.2.2
  · exact liveAt0_8_C t h.1 h.2.1 h.2.2.1 h.2.2.2
  · exact liveAt0_8_D t h.1 h.2.1 h.2.2.1 h.2.2.2

theorem live_9 (t : Fin cfg0.N) : cfg0.idle 9 (grid0.coords t) = false := by
  rcases kind t with h | h | h | h
  · exact liveAt0_9_A t h.1 h.2.1 h.2.2.1 h.2.2.2
  · exact liveAt0_9_B t h.1 h.2.1 h.2.2.1 h.2.2.2
  · exact liveAt0_9_C t h.1 h.2.1 h.2.2.1 h.2.2.2
  · exact liveAt0_9_D t h.1 h.2.1 h.2.2.1 h.2.2.2

theorem live_10 (t : Fin cfg0.N) : cfg0.idle 10 (grid0.coords t) = false := by
  rcases kind t with h | h | h | h
  · exact liveAt0_10_A t h.1 h.2.1 h.2.2.1 h.2.2.2
  · exact liveAt0_10_B t h.1 h.2.1 h.2.2.1 h.2.2.2
  · exact liveAt0_10_C t h.1 h.2.1 h.2.2.1 h.2.2.2
  · exact liveAt0_10_D t h.1 h.2.1 h.2.2.1 h.2.2.2

/-- An output's buffer not written back since holds what the point before left. -/
theorem before_8 (c : Dev nD) (t : Fin cfg0.N) (h0 : t.val ≠ 0) (hf : cfg0.fresh 8 t.val = false) (d) :
    (dats m 0 c).before 8 t d = (outs m c (t.val - 1) (by omega)).1 := by
  rw [Dat.before_out_traj _ 8 rfl (fun _ _ => rfl) (fun t _ hi _ => absurd ((live_8 t).symm.trans hi) Bool.false_ne_true) t.val t rfl d,
    if_neg (by rw [hf]; exact Bool.false_ne_true)]
  dsimp only [dats]

/-- An output's buffer not written back since holds what the point before left. -/
theorem before_9 (c : Dev nD) (t : Fin cfg0.N) (h0 : t.val ≠ 0) (hf : cfg0.fresh 9 t.val = false) (d) :
    (dats m 0 c).before 9 t d = (outs m c (t.val - 1) (by omega)).2.1 := by
  rw [Dat.before_out_traj _ 9 rfl (fun _ _ => rfl) (fun t _ hi _ => absurd ((live_9 t).symm.trans hi) Bool.false_ne_true) t.val t rfl d,
    if_neg (by rw [hf]; exact Bool.false_ne_true)]
  dsimp only [dats]

/-- An output's buffer not written back since holds what the point before left. -/
theorem before_10 (c : Dev nD) (t : Fin cfg0.N) (h0 : t.val ≠ 0) (hf : cfg0.fresh 10 t.val = false) (d) :
    (dats m 0 c).before 10 t d = (outs m c (t.val - 1) (by omega)).2.2.1 := by
  rw [Dat.before_out_traj _ 10 rfl (fun _ _ => rfl) (fun t _ hi _ => absurd ((live_10 t).symm.trans hi) Bool.false_ne_true) t.val t rfl d,
    if_neg (by rw [hf]; exact Bool.false_ne_true)]
  dsimp only [dats]

/-! ## The body's obligation -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-! Handing a window back is handing back its buffer. -/

theorem leaves_0 (c : Dev nD) (t : Fin cfg0.N) : (dats m 0 c).leavesExact 0 t = owns (c : Thread nD τ) (ms0_0 t) fullShare (iblk m c 0 t) := by
  rw [show (dats m 0 c).leavesExact 0 t = owns (c : Thread nD τ) (ms0_0 t) fullShare ((dats m 0 c).after 0 t) from by
      unfold Dat.leavesExact; rw [liveAt0_0 t], after_0]

theorem leaves_1 (c : Dev nD) (t : Fin cfg0.N) : (dats m 0 c).leavesExact 1 t = owns (c : Thread nD τ) (ms0_1 t) fullShare (iblk m c 1 t) := by
  rw [show (dats m 0 c).leavesExact 1 t = owns (c : Thread nD τ) (ms0_1 t) fullShare ((dats m 0 c).after 1 t) from by
      unfold Dat.leavesExact; rw [liveAt0_1 t], after_1]

theorem leaves_2 (c : Dev nD) (t : Fin cfg0.N) : (dats m 0 c).leavesExact 2 t = owns (c : Thread nD τ) (ms0_2 t) fullShare (iblk m c 2 t) := by
  rw [show (dats m 0 c).leavesExact 2 t = owns (c : Thread nD τ) (ms0_2 t) fullShare ((dats m 0 c).after 2 t) from by
      unfold Dat.leavesExact; rw [liveAt0_2 t], after_2]

theorem leaves_3 (c : Dev nD) (t : Fin cfg0.N) : (dats m 0 c).leavesExact 3 t = owns (c : Thread nD τ) (ms0_3 t) fullShare (iblk m c 3 t) := by
  rw [show (dats m 0 c).leavesExact 3 t = owns (c : Thread nD τ) (ms0_3 t) fullShare ((dats m 0 c).after 3 t) from by
      unfold Dat.leavesExact; rw [liveAt0_3 t], after_3]

theorem leaves_4 (c : Dev nD) (t : Fin cfg0.N) : (dats m 0 c).leavesExact 4 t = owns (c : Thread nD τ) (ms0_4 t) fullShare (iblk m c 4 t) := by
  rw [show (dats m 0 c).leavesExact 4 t = owns (c : Thread nD τ) (ms0_4 t) fullShare ((dats m 0 c).after 4 t) from by
      unfold Dat.leavesExact; rw [liveAt0_4 t], after_4]

theorem leaves_5 (c : Dev nD) (t : Fin cfg0.N) : (dats m 0 c).leavesExact 5 t = owns (c : Thread nD τ) (ms0_5 t) fullShare (iblk m c 5 t) := by
  rw [show (dats m 0 c).leavesExact 5 t = owns (c : Thread nD τ) (ms0_5 t) fullShare ((dats m 0 c).after 5 t) from by
      unfold Dat.leavesExact; rw [liveAt0_5 t], after_5]

theorem leaves_6 (c : Dev nD) (t : Fin cfg0.N) : (dats m 0 c).leavesExact 6 t = owns (c : Thread nD τ) (ms0_6 t) fullShare (iblk m c 6 t) := by
  rw [show (dats m 0 c).leavesExact 6 t = owns (c : Thread nD τ) (ms0_6 t) fullShare ((dats m 0 c).after 6 t) from by
      unfold Dat.leavesExact; rw [liveAt0_6 t], after_6]

theorem leaves_7 (c : Dev nD) (t : Fin cfg0.N) : (dats m 0 c).leavesExact 7 t = owns (c : Thread nD τ) (ms0_7 t) fullShare (iblk m c 7 t) := by
  rw [show (dats m 0 c).leavesExact 7 t = owns (c : Thread nD τ) (ms0_7 t) fullShare ((dats m 0 c).after 7 t) from by
      unfold Dat.leavesExact; rw [liveAt0_7 t], after_7]

theorem leaves_8 (c : Dev nD) (t : Fin cfg0.N) : (dats m 0 c).leavesExact 8 t = owns (c : Thread nD τ) (ms0_8 t) fullShare (outs m c t.val t.isLt).1 := by
  rw [show (dats m 0 c).leavesExact 8 t = owns (c : Thread nD τ) (ms0_8 t) fullShare ((dats m 0 c).after 8 t) from by
      unfold Dat.leavesExact; rw [live_8 t], after_8]

theorem leaves_9 (c : Dev nD) (t : Fin cfg0.N) : (dats m 0 c).leavesExact 9 t = owns (c : Thread nD τ) (ms0_9 t) fullShare (outs m c t.val t.isLt).2.1 := by
  rw [show (dats m 0 c).leavesExact 9 t = owns (c : Thread nD τ) (ms0_9 t) fullShare ((dats m 0 c).after 9 t) from by
      unfold Dat.leavesExact; rw [live_9 t], after_9]

theorem leaves_10 (c : Dev nD) (t : Fin cfg0.N) : (dats m 0 c).leavesExact 10 t = owns (c : Thread nD τ) (ms0_10 t) fullShare (outs m c t.val t.isLt).2.2.1 := by
  rw [show (dats m 0 c).leavesExact 10 t = owns (c : Thread nD τ) (ms0_10 t) fullShare ((dats m 0 c).after 10 t) from by
      unfold Dat.leavesExact; rw [live_10 t], after_10]

set_option maxHeartbeats 4000000 in
/-- The body at any point, from the windows' buffers and the scratch to the windows' buffers and the scratch. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7]
  rw [show (dats m 0 c).owesAt () t.succ = (dats m 0 c).owesAt () t.castSucc from rfl]
  rw [show (dats m 0 c).Φ t.succ = between m c (t.val + 1) t.isLt from rfl, between_castSucc m c t]
  by_cases hz : t.val = 0
  · rw [show between m c t.val (Nat.le_of_lt t.isLt) = Pipeline.ΦA spec0 c from by obtain ⟨n, hn⟩ := t; dsimp only at hz; subst hz; rfl, PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (triple m c t ((dats m 0 c).before 8 t d8, (dats m 0 c).before 9 t d9, (dats m 0 c).before 10 t d10, s0, s1) (outs m c t.val t.isLt)
      (step_outs m c t _ (fun h => absurd hz h) (fun h => absurd hz h) (fun h => absurd hz h) (fun h => absurd hz h)) _)
    unfold blocks holds
    dsimp only
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 HS0 HS1]
    · isplitl [H8]; · iexact H8
      isplitl [H9]; · iexact H9
      isplitl [H10]; · iexact H10
      isplitl [HS0]; · iexact HS0
      iexact HS1
    iintro ⟨⟨H0, H1, H2, H3, H4, H5, H6, H7⟩, ⟨H8, H9, H10, HS0, HS1⟩⟩
    isplitl [HS0 HS1 Hg]
    · rw [show between m c (t.val + 1) t.isLt = iprop(iprop(owns (c : Thread nD τ) scM0_0 fullShare (outs m c t.val t.isLt).2.2.2.1
          ∗ owns (c : Thread nD τ) scM0_1 fullShare (outs m c t.val t.isLt).2.2.2.2) ∗ (∃ r, prngReg c r)) from rfl]
      isplitl [HS0 HS1]
      · isplitl [HS0]; · iexact HS0
        iexact HS1
      iexact Hg
    isplitl [Ho]; · iexact Ho
    isplitl [H0]; · rw [leaves_0 m c t]; iexact H0
    isplitl [H1]; · rw [leaves_1 m c t]; iexact H1
    isplitl [H2]; · rw [leaves_2 m c t]; iexact H2
    isplitl [H3]; · rw [leaves_3 m c t]; iexact H3
    isplitl [H4]; · rw [leaves_4 m c t]; iexact H4
    isplitl [H5]; · rw [leaves_5 m c t]; iexact H5
    isplitl [H6]; · rw [leaves_6 m c t]; iexact H6
    isplitl [H7]; · rw [leaves_7 m c t]; iexact H7
    isplitl [H8]; · rw [leaves_8 m c t]; iexact H8
    isplitl [H9]; · rw [leaves_9 m c t]; iexact H9
    rw [leaves_10 m c t]; iexact H10
  · rw [between_pos m c _ _ hz]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (triple m c t ((dats m 0 c).before 8 t d8, (dats m 0 c).before 9 t d9, (dats m 0 c).before 10 t d10, (outs m c (t.val - 1) (by omega)).2.2.2) (outs m c t.val t.isLt)
      (step_outs m c t _ (fun h hf => before_8 m c t h hf d8) (fun h hf => before_9 m c t h hf d9) (fun h hf => before_10 m c t h hf d10) (fun h => rfl)) _)
    unfold blocks holds
    dsimp only
    isplitl [H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8 H9 H10 HS0 HS1]
    · isplitl [H8]; · iexact H8
      isplitl [H9]; · iexact H9
      isplitl [H10]; · iexact H10
      isplitl [HS0]; · iexact HS0
      iexact HS1
    iintro ⟨⟨H0, H1, H2, H3, H4, H5, H6, H7⟩, ⟨H8, H9, H10, HS0, HS1⟩⟩
    isplitl [HS0 HS1 Hg]
    · rw [show between m c (t.val + 1) t.isLt = iprop(iprop(owns (c : Thread nD τ) scM0_0 fullShare (outs m c t.val t.isLt).2.2.2.1
          ∗ owns (c : Thread nD τ) scM0_1 fullShare (outs m c t.val t.isLt).2.2.2.2) ∗ (∃ r, prngReg c r)) from rfl]
      isplitl [HS0 HS1]
      · isplitl [HS0]; · iexact HS0
        iexact HS1
      iexact Hg
    isplitl [Ho]; · iexact Ho
    isplitl [H0]; · rw [leaves_0 m c t]; iexact H0
    isplitl [H1]; · rw [leaves_1 m c t]; iexact H1
    isplitl [H2]; · rw [leaves_2 m c t]; iexact H2
    isplitl [H3]; · rw [leaves_3 m c t]; iexact H3
    isplitl [H4]; · rw [leaves_4 m c t]; iexact H4
    isplitl [H5]; · rw [leaves_5 m c t]; iexact H5
    isplitl [H6]; · rw [leaves_6 m c t]; iexact H6
    isplitl [H7]; · rw [leaves_7 m c t]; iexact H7
    isplitl [H8]; · rw [leaves_8 m c t]; iexact H8
    isplitl [H9]; · rw [leaves_9 m c t]; iexact H9
    rw [leaves_10 m c t]; iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem out_pos (c : Dev nD) (t : Fin (cfg0.N + 1)) (ht : t.val ≠ 0) : (dats m 0 c).Φ t ⊢ Pipeline.ΦA spec0 c := by
  rw [show (dats m 0 c).Φ t = between m c t.val (Nat.le_of_lt_succ t.isLt) from rfl, between_pos m c _ _ ht, PhiA0_eq]
  iintro ⟨⟨HS0, HS1⟩, Hg⟩
  isplitl [HS0 HS1]
  · isplitl [HS0]
    · iexists _; iexact HS0
    iexists _; iexact HS1
  iexact Hg

theorem hout (c : Dev nD) : (dats m 0 c).Φ (Fin.last cfg0.N) ⊢ Pipeline.ΦA spec0 c :=
  out_pos m c _ (by rw [Fin.val_last]; have : cfg0.N = 64 := N_0; omega)

/-! ## The run and the frame -/

set_option backward.isDefEq.respectTransparency.types false in
/-- The program's run: every array of the grid at what the steps leave, every counter at zero. -/
theorem run : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run m ρ)))
    ((θ_run defs _ _).mono (fun _ h => h.2) (run m ρ))

end Cert.Attn

end
-- ==== Proof.AttnClaims.lean ====
/-
The claims of the attention call's gradient: the kernel's frame at both value types, from the one run of Proof/AttnFrame.lean,
and the reference's.
-/
module

public import proofs.«01_k».proof.Proof.AttnFrame
public import proofs.«01_k».proof.Proof.Gen.Kernel4
public import proofs.«01_k».proof.Proof.Gen.Reference4Ideal.Run
public import proofs.«01_k».proof.Defs

@[expose] public section

noncomputable section

namespace Cert.Proof

open Idealize.ShloMosaic Idealize.SL.Sem

theorem attn_frame_bits : Cert.quiescent_Kernel4 (hKernel4 := Cert.Kernel4.Gen.facts) := fun m ρ _ => by
  have h := Cert.Attn.frame (F := Bits) m ρ
  exact Eq.mpr (by sl_kernel_rfl) h

theorem attn_frame_ideal : Cert.quiescent_Kernel4Ideal (hKernel4Ideal := Cert.Kernel4Ideal.Gen.facts) := fun m ρ _ => Cert.Attn.frame m ρ

theorem attn_reference_frame : Cert.quiescent_Reference4Ideal (hReference4Ideal := Cert.Reference4Ideal.Gen.facts) :=
  fun m ρ _ => (θ_run Cert.Reference4Ideal.defs _ _).mono
    (fun r h => ⟨fun c => (h c).2.2.2, Idealize.ShloMosaic.sem_eq_zero_of_no_sems (by decide) r.2⟩)
    (Cert.Reference4Ideal.Value.run (F := Ideal) m ρ)

end Cert.Proof

end
-- ==== Proof.AttnGroup.lean ====
/- What the attention's gradient stores at a point into the block of the query and gate gradients, as functions of the
blocks it reads. -/
module

public import proofs.«01_k».proof.Proof.AttnStep
public import Idealize.ShloMosaic.Lib.Pointwise
public import Idealize.ShloMosaic.Lib.Pipeline.ValueKit.Tiles
public import Idealize.ShloMosaic.Lib.WritesUnit

@[expose] public section

set_option maxRecDepth 16384

noncomputable section

namespace Cert.Attn

open Cert.Kernel4Ideal Cert.Kernel4Ideal.Gen Idealize.ShloMosaic Idealize.ShloMosaic.TcCoe Idealize.SL.Sem

/-! ## A group of four heads that share a key head -/

/-- The `w` columns from column `o` on. -/
def cols {n : ℕ} {α : Type} (w : ℕ) (x : (⟨2, ![128, n]⟩ : Shape).Idx → α) (o : ℕ) (h : o + w ≤ n) :
    (⟨2, ![128, w]⟩ : Shape).Idx → α :=
  fun i => x (ix2 (i 0) ⟨o + (i 1).val, Nat.lt_of_lt_of_le (Nat.add_lt_add_left (i 1).isLt o) h⟩)

/-- The blocks a point reads. -/
structure Seen where
  q : Vec Ideal S128x512 .f32
  kc : Vec Ideal S128x128 .f32
  kp : Vec Ideal S128x128 .f32
  vc : Vec Ideal S128x128 .f32
  vp : Vec Ideal S128x128 .f32
  ag : Vec Ideal S128x512 .f32
  pr : Vec Ideal S128x2048 .bf16
  dy : Vec Ideal S128x512 .bf16

variable (A : Seen) (j : Fin 2)

theorem at64 (g : Fin 4) : j.val * 256 + g.val * 64 + 64 ≤ 512 := by omega
theorem at256 (g : Fin 4) : j.val * 1024 + g.val * 256 + 256 ≤ 2048 := by omega
theorem atKey : j.val * 64 + 64 ≤ 128 := by omega

/-- Keys of the block before and of the block itself. -/
def keys : Vec Ideal S256x64 .f32 := k0_pay74 (F := Ideal) (cols 64 A.kp (j.val * 64) (atKey j)) (cols 64 A.kc (j.val * 64) (atKey j))
def vals : Vec Ideal S256x64 .f32 := k0_pay75 (F := Ideal) (cols 64 A.vp (j.val * 64) (atKey j)) (cols 64 A.vc (j.val * 64) (atKey j))
def hd {α : Type} (x : S128x512.Idx → α) (g : Fin 4) : S128x64.Idx → α :=
  cols 64 x (j.val * 256 + g.val * 64) (at64 j g)
def pr4 (g : Fin 4) : Vec Ideal S128x256 .bf16 := cols 256 A.pr (j.val * 1024 + g.val * 256) (at256 j g)
def gates : Vec Ideal S512x64 .f32 := k0_pay77 (F := Ideal) (hd j A.ag 0) (hd j A.ag 1) (hd j A.ag 2) (hd j A.ag 3)
def douts : Vec Ideal S512x64 .f32 := k0_pay78 (F := Ideal) (hd j A.dy 0) (hd j A.dy 1) (hd j A.dy 2) (hd j A.dy 3)
def qs : Vec Ideal S512x64 .f32 := k0_pay76 (F := Ideal) (hd j A.q 0) (hd j A.q 1) (hd j A.q 2) (hd j A.q 3)
def pbs : Vec Ideal S512x256 .bf16 := k0_pay81 (F := Ideal) (pr4 A j 0) (pr4 A j 1) (pr4 A j 2) (pr4 A j 3)
def pfs : Vec Ideal S512x256 .f32 := k0_pay82 (F := Ideal) (pr4 A j 0) (pr4 A j 1) (pr4 A j 2) (pr4 A j 3)
def rdens : Vec Ideal S512x1 .f32 := k0_pay83 (F := Ideal) (pr4 A j 0) (pr4 A j 1) (pr4 A j 2) (pr4 A j 3)
def esinks : Vec Ideal S512x1 .f32 := k0_pay80 (F := Ideal) (pr4 A j 0) (pr4 A j 1) (pr4 A j 2) (pr4 A j 3)
def pvs : Vec Ideal S512x64 .f32 := k0_pay87 (F := Ideal) (vals A j) (pr4 A j 0) (pr4 A j 1) (pr4 A j 2) (pr4 A j 3)
def dss : Vec Ideal S512x256 .f32 :=
  k0_pay93 (F := Ideal) (gates A j) (douts A j) (pfs A j) (rdens A j) (k0_pay86 (F := Ideal) (vals A j)) (pvs A j)
def dqs : Vec Ideal S512x64 .f32 :=
  k0_pay95 (F := Ideal) (gates A j) (douts A j) (pfs A j) (rdens A j) (k0_pay85 (F := Ideal) (keys A j)) (k0_pay86 (F := Ideal) (vals A j)) (pvs A j)
def dags : Vec Ideal S512x64 .f32 := k0_pay91 (F := Ideal) (gates A j) (douts A j) (rdens A j) (pvs A j)
def dks : Vec Ideal S256x64 .f32 :=
  k0_pay96 (F := Ideal) (gates A j) (douts A j) (pfs A j) (rdens A j) (k0_pay84 (F := Ideal) (qs A j)) (k0_pay86 (F := Ideal) (vals A j)) (pvs A j)
def dvs : Vec Ideal S256x64 .f32 := k0_pay97 (F := Ideal) (gates A j) (douts A j) (pbs A j) (rdens A j)
def dsinks : Vec Ideal S512x1 .f32 := k0_pay98 (F := Ideal) (gates A j) (douts A j) (esinks A j) (rdens A j) (pvs A j)

theorem sliceAt (g : Fin 4) : S512x64.Slices ![g.val * 128, 0] S128x64 := by
  rcases g with ⟨g, hg⟩
  interval_cases g
  · exact slices_S512x64_o0_0_S128x64
  · exact slices_S512x64_o128_0_S128x64
  · exact slices_S512x64_o256_0_S128x64
  · exact slices_S512x64_o384_0_S128x64

/-- Head `g`'s rows of a stack of four. -/
def strip (x : Vec Ideal S512x64 .f32) (g : Fin 4) : Vec Ideal S128x64 .bf16 :=
  truncf (F := Ideal) .bf16 (extractStridedSlice S128x64 ![g.val * 128, 0] x (sliceAt g)) bitsLt_bf16_f32

/-- What a point stores, strip by strip in the order of the stores: the key and value gradients `kv`, then query and
gate gradients of each head. -/
def strips (kv : Fin 4 → Vec Ideal S128x64 .bf16) (k : Fin 20) : Vec Ideal S128x64 .bf16 :=
  if h : k.val < 4 then kv ⟨k.val, h⟩
  else strip (if k.val % 2 = 0 then dqs A ⟨(k.val - 4) / 8, by omega⟩ else dags A ⟨(k.val - 4) / 8, by omega⟩)
    ⟨(k.val - 4) / 2 % 4, by omega⟩

/-- The 64 columns from column `o` on of part `p` of the scratch array `X`. -/
def carriedAt (X : Vec Ideal S2x128x128 .f32) (p o : ℕ) (hp : p + 1 ≤ 2) (ho : o + 64 ≤ 128) : Vec Ideal S1x128x64 .f32 :=
  fun i => X (ix3 ⟨p, hp⟩ (i 1) ⟨o + (i 2).val, Nat.lt_of_lt_of_le (Nat.add_lt_add_left (i 2).isLt _) ho⟩)

/-- What the scratch array `X` holds for key head `j` of pair `p`. -/
def carried (X : Vec Ideal S2x128x128 .f32) (p j : Fin 2) : Vec Ideal S1x128x64 .f32 :=
  carriedAt X p.val (j.val * 64) p.isLt (atKey j)

/-- The key and value gradients of the block: what the point itself gives and what the block after it left. -/
def kvs (p : Fin 2) (X Y : Vec Ideal S2x128x128 .f32) : Fin 4 → Vec Ideal S128x64 .bf16 :=
  ![k0_pay21 (F := Ideal) (dks A 0) (carried X p 0), k0_pay22 (F := Ideal) (dvs A 0) (carried Y p 0),
    k0_pay21 (F := Ideal) (dks A 1) (carried X p 1), k0_pay22 (F := Ideal) (dvs A 1) (carried Y p 1)]

/-- Where they go: the columns of strip `k` at pair `p`. -/
def stripCol (p : ℕ) (k : Fin 20) : ℕ :=
  if k.val < 4 then 1024 + k.val % 2 * 256 + p * 128 + k.val / 2 * 64
  else k.val % 2 * 1536 + p * 512 + (k.val - 4) / 2 * 64

theorem stripInb (p : ℕ) (hp : p < 2) (k : Fin 20) :
    ∀ a, (![0, stripCol p k] : Fin 2 → ℕ) a + (![128, 64] : Fin 2 → ℕ) a ≤ S128x2560.size a := by
  intro a
  fin_cases a
  · exact Nat.le_refl 128
  · show stripCol p k + 64 ≤ 2560
    have := k.isLt
    unfold stripCol
    split <;> omega

variable (m : (ℓ : Loc nD τ sig) → Buf (Elt Ideal) ℓ)

/-- The blocks point `t` reads. -/
def seen (c : Dev nD) (t : Fin cfg0.N) : Seen :=
  ⟨iblk m c 0 t, iblk m c 1 t, iblk m c 2 t, iblk m c 3 t, iblk m c 4 t, iblk m c 5 t, iblk m c 6 t, iblk m c 7 t⟩

/-- A load of columns of a whole buffer. -/
theorem load_cols {sig : RefSig} {n w : ℕ} {e : EltTy} {κ : Kind} {M : Memref sig κ .vmem ⟨2, ![128, n]⟩ e} (hM : M.IsWhole)
    (x : (⟨2, ![128, n]⟩ : Shape).Idx → Elt Ideal e) (o : ℕ)
    (inb : ∀ a, (![0, o] : Fin 2 → ℕ) a + (![128, w] : Fin 2 → ℕ) a ≤ (⟨2, ![128, n]⟩ : Shape).size a) :
    View.readAt (Elt Ideal) M.view (Rect.unit (s := ⟨2, ![128, n]⟩) ![0, o] ![128, w] inb).toLoadRect (hM.unread x)
      = cols w x o (inb 1) := by
  rw [View.readAt_eq_ld, hM.read_unread]
  funext i
  rw [View.ld_unit_apply_of x ![0, o] ![128, w] inb i (ix2 (i 0) ⟨o + (i 1).val, Nat.lt_of_lt_of_le (Nat.add_lt_add_left (i 1).isLt o) (inb 1)⟩) (by
    intro a
    fin_cases a
    · exact (Nat.zero_add _).symm
    · rfl)]
  rfl

/-- A load of one key head of a whole scratch array. -/
theorem load_carried {κ : Kind} {M : Memref sig κ .vmem S2x128x128 .f32} (hM : M.IsWhole)
    (x : Vec Ideal S2x128x128 .f32) (p o : ℕ)
    (inb : ∀ a, (![p, 0, o] : Fin 3 → ℕ) a + (![1, 128, 64] : Fin 3 → ℕ) a ≤ S2x128x128.size a) :
    View.readAt (Elt Ideal) M.view (Rect.unit (s := S2x128x128) ![p, 0, o] ![1, 128, 64] inb).toLoadRect (hM.unread x)
      = carriedAt x p o (inb 0) (inb 2) := by
  rw [View.readAt_eq_ld, hM.read_unread]
  funext i
  rw [View.ld_unit_apply_of x _ _ inb i (ix3 ⟨p, inb 0⟩ (i 1) ⟨o + (i 2).val, Nat.lt_of_lt_of_le (Nat.add_lt_add_left (i 2).isLt _) (inb 2)⟩) (by
    intro a
    fin_cases a
    · have : (i 0).val < 1 := (i 0).isLt
      show p = p + (i 0).val
      omega
    · exact (Nat.zero_add _).symm
    · rfl)]
  rfl

/-- The same of the first scratch array, over its whole view. -/
theorem load_carried0 (x : Vec Ideal S2x128x128 .f32) (p o : ℕ)
    (inb : ∀ a, (![p, 0, o] : Fin 3 → ℕ) a + (![1, 128, 64] : Fin 3 → ℕ) a ≤ S2x128x128.size a) :
    View.readAt (Elt Ideal) (View.whole cc0_scratch0) (Rect.unit (s := S2x128x128) ![p, 0, o] ![1, 128, 64] inb).toLoadRect
        ((Memref.isWhole_whole cc0_scratch0 : scM0_0.IsWhole).unread x) = carriedAt x p o (inb 0) (inb 2) :=
  load_carried _ x p o inb

/-- The same of the second scratch array, over its whole view. -/
theorem load_carried1 (x : Vec Ideal S2x128x128 .f32) (p o : ℕ)
    (inb : ∀ a, (![p, 0, o] : Fin 3 → ℕ) a + (![1, 128, 64] : Fin 3 → ℕ) a ≤ S2x128x128.size a) :
    View.readAt (Elt Ideal) (View.whole cc0_scratch1) (Rect.unit (s := S2x128x128) ![p, 0, o] ![1, 128, 64] inb).toLoadRect
        ((Memref.isWhole_whole cc0_scratch1 : scM0_1.IsWhole).unread x) = carriedAt x p o (inb 0) (inb 2) :=
  load_carried _ x p o inb

/-- What a load of part 0 finds in a scratch array just filled with `Z`. -/
theorem load_filled {v : View sig .tc .vmem S2x128x128 .f32} (Z : Vec Ideal S2x128x128 .f32) (o : ℕ)
    (inb : ∀ a, (![0, 0, 0] : Fin 3 → ℕ) a + (![2, 128, 128] : Fin 3 → ℕ) a ≤ S2x128x128.size a)
    (inb' : ∀ a, (![0, 0, o] : Fin 3 → ℕ) a + (![1, 128, 64] : Fin 3 → ℕ) a ≤ S2x128x128.size a) :
    v.readCov (Val := Elt Ideal) [⟨Rect.unit (s := S2x128x128) ![0, 0, 0] ![2, 128, 128] inb, Z⟩]
        (Rect.unit (s := S2x128x128) ![0, 0, o] ![1, 128, 64] inb').toLoadRect
      = carriedAt Z 0 o (Nat.le_of_ble_eq_true rfl) (inb' 2) := by
  funext i
  have h0 : (i 0).val < 1 := (i 0).isLt
  refine View.read_writes_cons_unit_of_mem (s := S2x128x128) v _ inb Z _ _
    (ix3 ⟨0, by omega⟩ (i 1) ⟨o + (i 2).val, Nat.lt_of_lt_of_le (Nat.add_lt_add_left (i 2).isLt _) (inb' 2)⟩) rfl fun a => ?_
  fin_cases a
  · show 0 + 1 * (i 0).val = 0 + 0
    omega
  · show 0 + 1 * (i 1).val = 0 + (i 1).val
    omega
  · show o + 1 * (i 2).val = 0 + (o + (i 2).val)
    omega

/-- The same after the first key head's columns were stored, of the second key head's. -/
theorem load_filled' {v : View sig .tc .vmem S2x128x128 .f32} (Z : Vec Ideal S2x128x128 .f32) (w : Vec Ideal S1x128x64 .f32)
    (inb : ∀ a, (![0, 0, 0] : Fin 3 → ℕ) a + (![2, 128, 128] : Fin 3 → ℕ) a ≤ S2x128x128.size a)
    (inb₁ : ∀ a, (![0, 0, 0] : Fin 3 → ℕ) a + (![1, 128, 64] : Fin 3 → ℕ) a ≤ S2x128x128.size a)
    (inb' : ∀ a, (![0, 0, 64] : Fin 3 → ℕ) a + (![1, 128, 64] : Fin 3 → ℕ) a ≤ S2x128x128.size a) :
    v.readCov (Val := Elt Ideal) [⟨Rect.unit (s := S2x128x128) ![0, 0, 0] ![1, 128, 64] inb₁, w⟩,
          ⟨Rect.unit (s := S2x128x128) ![0, 0, 0] ![2, 128, 128] inb, Z⟩]
        (Rect.unit (s := S2x128x128) ![0, 0, 64] ![1, 128, 64] inb').toLoadRect
      = carriedAt Z 0 64 (Nat.le_of_ble_eq_true rfl) (Nat.le_of_ble_eq_true rfl) := by
  refine Eq.trans ?_ (load_filled (v := v) Z 64 inb inb')
  funext i
  refine View.read_writes_cons_unit_of_not_mem (s := S2x128x128) v _ inb₁ w _ _ rfl 2 (Or.inr ?_)
  show 0 + 64 ≤ 64 + 1 * (i 2).val
  omega

/-- The strips a point of kind C stores. -/
theorem strips_C (c : Dev nD) (t : Fin cfg0.N) (h : conds0_C (grid0.coords t)) (p : Held Ideal) :
    (runC (F := Ideal) m c t h p).1
      = View.tilePieces (s := S128x2560) ![128, 64] (fun k => ![0, stripCol 0 k]) (stripInb 0 (by omega))
          (strips (seen m c t) (kvs (seen m c t) 0 p.2.2.2.1 p.2.2.2.2)) 20 (le_refl 20) ++ [⟨Rect.unit ![0, 0] ![128, 2560] inb_S128x2560_S128x2560_0_0, k0_pay20 (F := Ideal)⟩] := by
  unfold runC kernelRun0_C
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  sl_kernel_rfl

/-- The strips a point of kind B stores. -/
theorem strips_B (c : Dev nD) (t : Fin cfg0.N) (h : conds0_B (grid0.coords t)) (p : Held Ideal) :
    (runB (F := Ideal) m c t h p).1
      = View.tilePieces (s := S128x2560) ![128, 64] (fun k => ![0, stripCol 1 k]) (stripInb 1 (by omega))
          (strips (seen m c t) (kvs (seen m c t) 1 p.2.2.2.1 p.2.2.2.2)) 20 (le_refl 20) := by
  unfold runB kernelRun0_B
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  sl_kernel_rfl

/-- The strips a point of kind A stores. -/
theorem strips_A (c : Dev nD) (t : Fin cfg0.N) (h : conds0_A (grid0.coords t)) :
    (runA (F := Ideal) m c t h).1
      = View.tilePieces (s := S128x2560) ![128, 64] (fun k => ![0, stripCol 0 k]) (stripInb 0 (by omega))
          (strips (seen m c t) (kvs (seen m c t) 0 (k0_pay72 (F := Ideal)) (k0_pay73 (F := Ideal)))) 20 (le_refl 20) ++ [⟨Rect.unit ![0, 0] ![128, 2560] inb_S128x2560_S128x2560_0_0, k0_pay20 (F := Ideal)⟩] := by
  unfold runA kernelRun0_A
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  sl_kernel_rfl

/-- The strips a point of kind D stores. -/
theorem strips_D (c : Dev nD) (t : Fin cfg0.N) (h : conds0_D (grid0.coords t)) (p : Held Ideal) :
    (runD (F := Ideal) m c t h p).1
      = View.tilePieces (s := S128x2560) ![128, 64] (fun k => ![0, stripCol 0 k]) (stripInb 0 (by omega))
          (strips (seen m c t) (kvs (seen m c t) 0 (k0_pay72 (F := Ideal)) (k0_pay73 (F := Ideal)))) 20 (le_refl 20) ++ [⟨Rect.unit ![0, 0] ![128, 2560] inb_S128x2560_S128x2560_0_0, k0_pay20 (F := Ideal)⟩] := by
  unfold runD kernelRun0_D
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  sl_kernel_rfl

end Cert.Attn
end
-- ==== Proof.AttnRow.lean ====
/- One query's row of the attention's gradient, and the reading of the stacked arrays row by row. -/
module

public import proofs.«01_k».proof.Proof.AttnGroup

@[expose] public section

set_option maxRecDepth 16384

noncomputable section

namespace Cert.Attn

open Cert.Kernel4Ideal Cert.Kernel4Ideal.Gen Idealize.ShloMosaic Idealize.ShloMosaic.TcCoe Idealize.SL.Sem

/-! ## The gradient of one query of one head -/

/-- What the gradient of one query of one head needs: the kept exponentials (the sink's in place 0), the keys and values
    of its window, its query, gate and the gradient of its gated output. -/
structure Row where
  e : Fin 256 → EReal
  k : Fin 256 → Fin 64 → EReal
  v : Fin 256 → Fin 64 → EReal
  ag : Fin 64 → EReal
  dy : Fin 64 → EReal

namespace Row

variable (w : Row)

/-- The exponentials of the keys. -/
def p (s : Fin 256) : EReal := if s.val = 0 then 0 else w.e s
/-- One over the softmax's denominator. -/
def rden : EReal := Ideal.div 1 ((∑ s, w.p s) + w.e 0)
/-- The attention's output. -/
def o (d : Fin 64) : EReal := (∑ s, w.p s * w.v s d) * w.rden
/-- The gradient of the attention's output. -/
def dO (d : Fin 64) : EReal := w.dy d * (w.ag d * Ideal.logistic (w.ag d))
/-- The gradient of the gate. -/
def dag (d : Fin 64) : EReal :=
  w.dy d * w.o d * (Ideal.logistic (w.ag d) * (1 + w.ag d * (1 - Ideal.logistic (w.ag d))))
/-- The product of output and its gradient. -/
def drow : EReal := ∑ d, w.dO d * w.o d
/-- The gradient of the scores. -/
def ds (s : Fin 256) : EReal := w.p s * w.rden * ((∑ d, w.dO d * w.v s d) - w.drow)
/-- The gradient of the query. -/
def dq (d : Fin 64) : EReal := (∑ s, w.ds s * w.k s d) * Ideal.ofBits .f32 0x3E000000#32
/-- The gradient of the sink. -/
def dsink : EReal := 0 - w.e 0 * w.rden * w.drow

end Row

/-! ## The stacked arrays at a row -/

variable (A : Seen) (j : Fin 2)

/-- The kept exponentials of the four heads, stacked. -/
def kept : Vec Ideal S512x256 .bf16 := k0_pay79 (F := Ideal) (pr4 A j 0) (pr4 A j 1) (pr4 A j 2) (pr4 A j 3)

/-- Row `R` of the stack. -/
def row (R : Fin 512) : Row :=
  ⟨fun s => kept A j (ix2 R s), fun s d => keys A j (ix2 s d), fun s d => vals A j (ix2 s d),
    fun d => gates A j (ix2 R d), fun d => douts A j (ix2 R d)⟩

theorem pbs_apply (R : Fin 512) (s : Fin 256) : pbs A j (ix2 R s) = (row A j R).p s := by
  unfold pbs k0_pay81
  pointwise
  unfold Row.p
  by_cases h : s.val = 0
  · rw [if_pos h, h]
    rfl
  · rw [if_neg h]
    have : (BitVec.ofNat 32 s.val == 0#32) = false := by
      have hs := s.isLt
      rw [beq_eq_false_iff_ne]
      intro hc
      have := congrArg BitVec.toNat hc
      simp only [BitVec.toNat_ofNat] at this
      omega
    show Scalar.select (BitVec.ofBool (BitVec.ofNat 32 s.val == 0#32)) _ _ = _
    rw [this]
    rfl

theorem rdens_apply (R : Fin 512) (l : Fin 1) : rdens A j (ix2 R l) = (row A j R).rden := by
  unfold rdens k0_pay83
  pointwise
  have e : ∀ x : Fin 256, k0_pay82 (F := Ideal) (pr4 A j 0) (pr4 A j 1) (pr4 A j 2) (pr4 A j 3) (ix2 R x) = (row A j R).p x :=
    pbs_apply A j R
  simp only [e]
  obtain rfl : l = 0 := Subsingleton.elim _ _
  have e0 : k0_pay80 (F := Ideal) (pr4 A j 0) (pr4 A j 1) (pr4 A j 2) (pr4 A j 3) (ix2 R 0) = (row A j R).e 0 := by
    unfold k0_pay80
    pointwise
    rfl
  rw [e0]
  rfl

theorem pvs_apply (R : Fin 512) (d : Fin 64) : pvs A j (ix2 R d) = ∑ s, (row A j R).p s * (row A j R).v s d := by
  unfold pvs k0_pay87
  pointwise
  exact Finset.sum_congr rfl fun s _ => congrArg (· * (row A j R).v s d) (pbs_apply A j R s)

theorem dags_apply (R : Fin 512) (d : Fin 64) : dags A j (ix2 R d) = (row A j R).dag d := by
  unfold dags k0_pay91 k0_pay88 k0_pay89
  pointwise
  rw [pvs_apply, rdens_apply]
  rfl

theorem drow_apply (R : Fin 512) (l : Fin 1) :
    k0_pay92 (F := Ideal) (gates A j) (douts A j) (rdens A j) (pvs A j) (ix2 R l) = (row A j R).drow := by
  unfold k0_pay92 k0_pay90 k0_pay88 k0_pay89
  pointwise
  simp only [pvs_apply, rdens_apply]
  rfl

theorem dss_apply (R : Fin 512) (s : Fin 256) : dss A j (ix2 R s) = (row A j R).ds s := by
  unfold dss k0_pay93 k0_pay90 k0_pay89
  pointwise
  rw [drow_apply, rdens_apply]
  exact congrArg₂ (· * ·) (congrArg (· * (row A j R).rden) (pbs_apply A j R s)) rfl

theorem dqs_apply (R : Fin 512) (d : Fin 64) : dqs A j (ix2 R d) = (row A j R).dq d := by
  unfold dqs k0_pay95 k0_pay94
  pointwise
  exact congrArg (· * Ideal.ofBits .f32 0x3E000000#32)
    (Finset.sum_congr rfl fun s _ => congrArg (· * (row A j R).k s d) (dss_apply A j R s))

theorem rowOf_lt (g : Fin 4) (r : Fin 128) : g.val * 128 + r.val < 512 := by omega

/-- Head `g`'s strip of a stack at an element. -/
theorem strip_apply (x : Vec Ideal S512x64 .f32) (g : Fin 4) (r : Fin 128) (d : Fin 64) :
    strip x g (ix2 r d) = x (ix2 ⟨g.val * 128 + r.val, rowOf_lt g r⟩ d) := by
  unfold strip
  pointwise

/-- Four arrays of 128 rows stacked, at an element. -/
theorem four_apply {n : ℕ} (a : Fin 4 → (⟨2, ![128, n]⟩ : Shape).Idx → EReal) (hc) (g : Fin 4) (r : Fin 128) (d : Fin n) :
    concatenate (⟨2, ![512, n]⟩ : Shape) 0 [⟨⟨2, ![128, n]⟩, a 0⟩, ⟨⟨2, ![128, n]⟩, a 1⟩, ⟨⟨2, ![128, n]⟩, a 2⟩, ⟨⟨2, ![128, n]⟩, a 3⟩] hc
        (ix2 ⟨g.val * 128 + r.val, rowOf_lt g r⟩ d) = a g (ix2 r d) := by
  refine concatenate_ofFn_apply (t := ⟨2, ![512, n]⟩) (s₁ := ⟨2, ![128, n]⟩) 0 a hc rfl 128 rfl _ g ?_ (ix2 r d) ?_ ?_
  · show (g.val * 128 + r.val) / 128 = g.val
    omega
  · show r.val = (g.val * 128 + r.val) % 128
    omega
  · intro b hb
    fin_cases b
    · exact absurd rfl hb
    · rfl

theorem hd_apply {α : Type} (x : S128x512.Idx → α) (g : Fin 4) (r : Fin 128) (d : Fin 64) :
    hd j x g (ix2 r d) = x (ix2 r ⟨(j.val * 4 + g.val) * 64 + d.val, by omega⟩) :=
  congrArg (fun l => x (ix2 r l)) (Fin.ext (by show j.val * 256 + g.val * 64 + d.val = (j.val * 4 + g.val) * 64 + d.val; omega))

theorem pr4_apply (g : Fin 4) (r : Fin 128) (s : Fin 256) :
    pr4 A j g (ix2 r s) = A.pr (ix2 r ⟨(j.val * 4 + g.val) * 256 + s.val, by omega⟩) :=
  congrArg (fun l => A.pr (ix2 r l)) (Fin.ext (by show j.val * 1024 + g.val * 256 + s.val = (j.val * 4 + g.val) * 256 + s.val; omega))

theorem key_apply (x : S128x128.Idx → EReal) (r : Fin 128) (d : Fin 64) :
    cols 64 x (j.val * 64) (atKey j) (ix2 r d) = x (ix2 r ⟨j.val * 64 + d.val, by omega⟩) := rfl

/-- The window's keys or values: the block before in places 0 to 127, the block itself after. -/
def both (x y : S128x128.Idx → EReal) (s : Fin 256) (l : Fin 128) : EReal :=
  if h : s.val < 128 then x (ix2 ⟨s.val, h⟩ l) else y (ix2 ⟨s.val - 128, by omega⟩ l)

theorem keys_apply (s : Fin 256) (d : Fin 64) : keys A j (ix2 s d) = both A.kp A.kc s ⟨j.val * 64 + d.val, by omega⟩ := by
  unfold keys k0_pay74
  pointwise
  rfl

theorem vals_apply (s : Fin 256) (d : Fin 64) : vals A j (ix2 s d) = both A.vp A.vc s ⟨j.val * 64 + d.val, by omega⟩ := by
  unfold vals k0_pay75
  pointwise
  rfl

/-- The row of query `r` of head `g` of key head `j`, from the blocks. -/
def headRow (g : Fin 4) (r : Fin 128) : Row :=
  ⟨fun s => A.pr (ix2 r ⟨(j.val * 4 + g.val) * 256 + s.val, by omega⟩),
    fun s d => both A.kp A.kc s ⟨j.val * 64 + d.val, by omega⟩, fun s d => both A.vp A.vc s ⟨j.val * 64 + d.val, by omega⟩,
    fun d => A.ag (ix2 r ⟨(j.val * 4 + g.val) * 64 + d.val, by omega⟩),
    fun d => A.dy (ix2 r ⟨(j.val * 4 + g.val) * 64 + d.val, by omega⟩)⟩

theorem row_eq (g : Fin 4) (r : Fin 128) : row A j ⟨g.val * 128 + r.val, rowOf_lt g r⟩ = headRow A j g r := by
  unfold row headRow
  congr 1
  · funext s
    show kept A j _ = _
    unfold kept k0_pay79
    simp only [shapeCast_self]
    exact (four_apply (fun g => pr4 A j g) _ g r s).trans (pr4_apply A j g r s)
  · funext s d
    exact keys_apply A j s d
  · funext s d
    exact vals_apply A j s d
  · funext d
    show gates A j _ = _
    unfold gates k0_pay77
    exact (four_apply (fun g => hd j A.ag g) _ g r d).trans (hd_apply j A.ag g r d)
  · funext d
    show douts A j _ = _
    unfold douts k0_pay78
    exact (four_apply (fun g => hd j A.dy g) _ g r d).trans (hd_apply j A.dy g r d)

end Cert.Attn
end
-- ==== Proof.AttnBlock.lean ====
/- What the block of the query, key, value and gate gradients holds after a point, element by element. -/
module

public import proofs.«01_k».proof.Proof.AttnRow
public import proofs.«01_k».proof.Proof.AttnFrame

@[expose] public section

set_option maxRecDepth 16384

noncomputable section

namespace Cert.Attn

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- What the five buffers hold after point `n`. -/
def now (n : ℕ) (hn : n < 64) : Held Ideal := outs m c n (Nat.lt_of_lt_of_eq hn N_0.symm)

/-- Point number `n`. -/
def pt (n : ℕ) (hn : n < 64) : Fin cfg0.N := ⟨n, Nat.lt_of_lt_of_eq hn N_0.symm⟩

/-- What the two carried arrays hold as point `n` takes them up. -/
def taken (n : ℕ) (hn : n < 64) : Vec Ideal S2x128x128 .f32 × Vec Ideal S2x128x128 .f32 :=
  if n % 32 = 0 then (k0_pay72 (F := Ideal), k0_pay73 (F := Ideal)) else (now m c (n - 1) (by omega)).2.2.2

/-- The strips point `n` stores. -/
def stored (p : Fin 2) (n : ℕ) (hn : n < 64) (k : Fin 20) : Vec Ideal S128x64 .bf16 :=
  strips (seen m c (pt n hn)) (kvs (seen m c (pt n hn)) p (taken m c n hn).1 (taken m c n hn).2) k

/-- Column `d` of strip `k` of pair `p`. -/
def colOf (p : Fin 2) (k : Fin 20) (d : Fin 64) : Fin 2560 :=
  ⟨stripCol p.val k + d.val, by have := stripInb p.val p.isLt k 1; have h : stripCol p.val k + 64 ≤ 2560 := this; omega⟩

theorem apart (p p' : Fin 2) (k k' : Fin 20) (h : ¬(p = p' ∧ k = k')) :
    stripCol p.val k + 64 ≤ stripCol p'.val k' ∨ stripCol p'.val k' + 64 ≤ stripCol p.val k :=
  (by decide +kernel : ∀ (p p' : Fin 2) (k k' : Fin 20), ¬(p = p' ∧ k = k') →
    stripCol p.val k + 64 ≤ stripCol p'.val k' ∨ stripCol p'.val k' + 64 ≤ stripCol p.val k) p p' k k' h

theorem strips_hit {v : View sig .tc .vmem S128x2560 .bf16} (f : v.ty.Contents (Elt Ideal)) (p : Fin 2) (P : Fin 20 → Vec Ideal S128x64 .bf16)
    (L : List (View.Piece (Elt Ideal) S128x2560 .bf16)) (k : Fin 20) (r : Fin 128) (d : Fin 64) :
    v.read (Elt Ideal) (v.writes (Elt Ideal) f (View.tilePieces (s := S128x2560) ![128, 64] (fun k => ![0, stripCol p.val k])
      (stripInb p.val p.isLt) P 20 (le_refl 20) ++ L)) (ix2 r (colOf p k d)) = P k (ix2 r d) := by
  rw [View.writes_append]
  refine View.read_tilePieces v _ _ _ _ P 20 _ _ k k.isLt (ix2 r d) (fun a => ?_) 1 (fun i hi => ?_)
  · match a with
    | ⟨0, _⟩ => exact (Nat.zero_add _).symm
    | ⟨1, _⟩ => rfl
  · show stripCol p.val k + d.val < stripCol p.val i ∨ stripCol p.val i + 64 ≤ stripCol p.val k + d.val
    have := apart p p k i (fun e => hi e.2.symm)
    have := d.isLt
    omega

theorem strips_miss {v : View sig .tc .vmem S128x2560 .bf16} (f : v.ty.Contents (Elt Ideal)) (p p' : Fin 2) (hp : p' ≠ p) (P : Fin 20 → Vec Ideal S128x64 .bf16)
    (k : Fin 20) (r : Fin 128) (d : Fin 64) :
    v.read (Elt Ideal) (v.writes (Elt Ideal) f (View.tilePieces (s := S128x2560) ![128, 64] (fun k => ![0, stripCol p.val k])
      (stripInb p.val p.isLt) P 20 (le_refl 20))) (ix2 r (colOf p' k d)) = v.read (Elt Ideal) f (ix2 r (colOf p' k d)) := by
  refine View.read_tilePieces_miss v _ _ _ _ P 20 _ _ 1 (fun i _ => ?_)
  show stripCol p'.val k + d.val < stripCol p.val i ∨ stripCol p.val i + 64 ≤ stripCol p'.val k + d.val
  have := apart p' p k i (fun e => hp e.1)
  have := d.isLt
  omega

theorem fst_D (t : Fin cfg0.N) (h : conds0_D (grid0.coords t)) (q : Held Ideal) :
    (leavesD m c t h q).1 = VO0_8.read (Elt Ideal) (VO0_8.writes (Elt Ideal) VO0_8.junk
      (View.tilePieces (s := S128x2560) ![128, 64] (fun k => ![0, stripCol 0 k]) (stripInb 0 (by omega))
          (strips (seen m c t) (kvs (seen m c t) 0 (k0_pay72 (F := Ideal)) (k0_pay73 (F := Ideal)))) 20 (le_refl 20) ++ [⟨Rect.unit ![0, 0] ![128, 2560] inb_S128x2560_S128x2560_0_0, k0_pay20 (F := Ideal)⟩])) := by
  have e := strips_D m c t h q
  unfold leavesD
  show VO0_8.read (Elt Ideal) (VO0_8.writes (Elt Ideal) VO0_8.junk (runD m c t h q).1) = _
  rw [e]

/-- After a point of the first pair. -/
theorem first (n : ℕ) (hn : n < 64) (he : n % 2 = 0) (k : Fin 20) (r : Fin 128) (d : Fin 64) :
    (now m c n hn).1 (ix2 r (colOf 0 k d)) = stored m c 0 n hn k (ix2 r d) := by
  have hB : ¬conds0_B (grid0.coords (pt n hn)) := fun h => by
    have := h.2.2.1
    rw [hcond0_2] at this
    exact this he
  rcases kind (pt n hn) with h | h | h | h
  · have h32 : n % 32 = 0 := (hcond0_1 _).mp h.2.1
    rw [show now m c n hn = _ from outs_A m c (pt n hn) h]
    unfold stored taken
    rw [if_pos h32]
    exact (congrArg (fun L => VO0_8.read (Elt Ideal) (VO0_8.writes (Elt Ideal) VO0_8.junk L) (ix2 r (colOf 0 k d))) (strips_A m c _ h)).trans
      (strips_hit _ 0 _ _ k r d)
  · exact absurd h hB
  · have h32 : ¬n % 32 = 0 := fun e => h.2.1 ((hcond0_1 (pt n hn)).mpr e)
    rw [show now m c n hn = _ from outs_pos m c (pt n hn) (fun e => h32 (by have : n = 0 := e; omega)), step_C _ _ _ _ h]
    unfold stored taken
    rw [if_neg h32]
    exact (congrArg (fun L => VO0_8.read (Elt Ideal) (VO0_8.writes (Elt Ideal) VO0_8.junk L) (ix2 r (colOf 0 k d))) (strips_C m c _ h _)).trans
      (strips_hit _ 0 _ _ k r d)
  · have h32 : n % 32 = 0 := (hcond0_1 _).mp h.2.1
    have h64 : ¬n % 64 = 0 := fun e => h.1 ((hcond0_0 (pt n hn)).mpr e)
    rw [show now m c n hn = _ from outs_pos m c (pt n hn) (fun e => h64 (by have : n = 0 := e; omega)), step_D _ _ _ _ h]
    unfold stored taken
    rw [if_pos h32]
    rw [fst_D]
    exact strips_hit _ 0 _ _ k r d

theorem now_second (n : ℕ) (hn : n < 64) (ho : n % 2 = 1) :
    ∃ h : conds0_B (grid0.coords (pt n hn)), now m c n hn = leavesB m c (pt n hn) h (now m c (n - 1) (by omega)) := by
  have h : conds0_B (grid0.coords (pt n hn)) := by
    rcases kind (pt n hn) with h | h | h | h
    · have := (hcond0_2 (pt n hn)).mp h.2.2.1; have : n % 2 = 0 := this; omega
    · exact h
    · have := (hcond0_2 (pt n hn)).mp h.2.2.1; have : n % 2 = 0 := this; omega
    · have := (hcond0_2 (pt n hn)).mp h.2.2.1; have : n % 2 = 0 := this; omega
  exact ⟨h, (outs_pos m c (pt n hn) (fun e => by have : n = 0 := e; omega)).trans (step_B _ _ _ _ h)⟩

/-- After a point of the second pair, both pairs' strips. -/
theorem second (n : ℕ) (hn : n < 64) (ho : n % 2 = 1) (p : Fin 2) (k : Fin 20) (r : Fin 128) (d : Fin 64) :
    (now m c n hn).1 (ix2 r (colOf p k d)) = stored m c p (n - 1 + p.val) (by omega) k (ix2 r d) := by
  obtain ⟨h, e⟩ := now_second m c n hn ho
  rw [e]
  refine (congrArg (fun L => (ms0_8 (pt n hn)).view.read (Elt Ideal) ((ms0_8 (pt n hn)).view.writes (Elt Ideal)
    ((hs0_8 (pt n hn)).unread (now m c (n - 1) (by omega)).1) L) (ix2 r (colOf p k d))) (strips_B m c _ h _)).trans ?_
  rcases p with ⟨p, hp⟩
  interval_cases p
  · refine (strips_miss _ 1 0 (by decide) _ k r d).trans ?_
    refine (congrFun ((hs0_8 _).read_unread _) _).trans ?_
    exact first m c (n - 1) (by omega) (by omega) k r d
  · have e1 : n - 1 + 1 = n := by omega
    have ht : taken m c n hn = (now m c (n - 1) (by omega)).2.2.2 := if_neg (by omega)
    have hl := strips_hit (v := (ms0_8 (pt n hn)).view) ((hs0_8 (pt n hn)).unread (now m c (n - 1) (by omega)).1) 1
      (strips (seen m c (pt n hn)) (kvs (seen m c (pt n hn)) 1 (now m c (n - 1) (by omega)).2.2.2.1 (now m c (n - 1) (by omega)).2.2.2.2)) [] k r d
    rw [List.append_nil] at hl
    refine hl.trans ?_
    show _ = stored m c 1 (n - 1 + 1) _ k (ix2 r d)
    simp only [e1]
    unfold stored
    rw [ht]

/-- The point of sequence `b`, block `w`, pair `p`. -/
def ptOf (b : Fin 2) (w : Fin 16) (p : Fin 2) : ℕ := 2 * (16 * b.val + (15 - w.val)) + p.val

theorem ptOf_lt (b : Fin 2) (w : Fin 16) (p : Fin 2) : ptOf b w p < 64 := by unfold ptOf; omega

/-- The blocks of sequence `b`, block `w`, pair `p`. -/
def seenAt (b : Fin 2) (w : Fin 16) (p : Fin 2) : Seen := seen m c (pt (ptOf b w p) (ptOf_lt b w p))

/-- Row `r` of block `w` of sequence `b`. -/
def tok (b : Fin 2) (w : Fin 16) (r : Fin 128) : Fin 4096 := ⟨(16 * b.val + w.val) * 128 + r.val, by omega⟩

theorem index8 (t : Fin cfg0.N) : win0_8.index t 0 = t.val / 32 * 16 + (15 - t.val % 32 / 2) ∧ win0_8.index t 1 = 0 :=
  (by decide +kernel : ∀ t : Fin grid0.N, win0_8.index t 0 = t.val / 32 * 16 + (15 - t.val % 32 / 2) ∧ win0_8.index t 1 = 0) t

theorem idx_inj8 : ∀ t t' : Fin cfg0.N, (cfg0.win 8).flush t = true → (cfg0.win 8).flush t' = true → win0_8.index t = win0_8.index t' → t = t' := by
  intro t t' h h' e
  rw [flush0_8] at h h'
  have h0 := congrFun e 0
  rw [(index8 t).1, (index8 t').1] at h0
  have := Nat.lt_of_lt_of_eq t.isLt N_0
  have := Nat.lt_of_lt_of_eq t'.isLt N_0
  exact Fin.ext (by omega)

theorem blocks8 (t : Fin cfg0.N) (ht : t.val % 2 = 1) :
    ((cfg0.win 8).blk t).view.read (Elt Ideal) ((dats m 0 c).arrAt 8 cfg0.N) = (dats m 0 c).flushed 8 t :=
  (dats m 0 c).read_blk_arrAt_eq_flushed 8 (fun t t' h h' hne => (cfg0.win 8).disjoint_blk fun e => hne (idx_inj8 t t' h h' e))
    cfg0.N t t.isLt ((flush0_8 t).mpr ht)

/-- The final array, strip by strip. -/
theorem final8 (b : Fin 2) (w : Fin 16) (p : Fin 2) (r : Fin 128) (k : Fin 20) (d : Fin 64) :
    (dats m 0 c).arrAt 8 cfg0.N (ix2 (tok b w r) (colOf p k d)) = stored m c p (ptOf b w p) (ptOf_lt b w p) k (ix2 r d) := by
  have ho : ptOf b w 1 % 2 = 1 := by unfold ptOf; show (_ + 1) % 2 = 1; omega
  have hv : (pt (ptOf b w 1) (ptOf_lt b w 1)).val = 2 * (16 * b.val + (15 - w.val)) + 1 := rfl
  have hb := congrFun (blocks8 m c (pt (ptOf b w 1) (ptOf_lt b w 1)) ho) (ix2 r (colOf p k d))
  rw [View.read_apply] at hb
  have hi : ((cfg0.win 8).blk (pt (ptOf b w 1) (ptOf_lt b w 1))).view.emb (ix2 r (colOf p k d)) = ix2 (tok b w r) (colOf p k d) := by
    funext a
    apply Fin.ext
    match a with
    | ⟨0, _⟩ =>
      show win0_8.index _ 0 * 128 + 1 * r.val = (16 * b.val + w.val) * 128 + r.val
      rw [(index8 _).1, hv]
      omega
    | ⟨1, _⟩ =>
      show win0_8.index _ 1 * 2560 + 1 * (colOf p k d).val = (colOf p k d).val
      rw [(index8 _).2]
      omega
  rw [hi] at hb
  refine hb.trans ?_
  show (cfg0.win 8).cut (grid0.coords _) ((dats m 0 c).after 8 _) (ix2 r (colOf p k d)) = _
  rw [after_8]
  refine (second m c (ptOf b w 1) (ptOf_lt b w 1) ho p k r d).trans ?_
  have e : ptOf b w 1 - 1 + p.val = ptOf b w p := by unfold ptOf; show _ + 1 - 1 + _ = _; omega
  simp only [e]

end Cert.Attn
end
-- ==== Proof.AttnProbs.lean ====
/- The kept exponentials the attention's backward kernel is given, in terms of the reference's softmax. -/
module

public import proofs.«01_k».proof.Proof.AttnBlock
public import proofs.«01_k».proof.Proof.Gen.Reference4Ideal.Read
public import Idealize.ShloMosaic.Lib.ValueIdxRank6
public import Idealize.ShloMosaic.Lib.Tactic

@[expose] public section

set_option maxRecDepth 16384

noncomputable section

namespace Cert.Attn

open Cert.Kernel4Ideal Cert.Kernel4Ideal.Gen Idealize.ShloMosaic Idealize.ShloMosaic.TcCoe Idealize.SL.Sem
open Cert.Reference4Ideal.Read

variable (m : (ℓ : Loc nD τ sig) → Buf (Elt Ideal) ℓ) (c : Dev nD)

abbrev biasOf : S128x256x16.Idx → EReal := m ((c : Thread nD τ).loc main_arg0)
abbrev sinkOf : S1x16.Idx → EReal := m ((c : Thread nD τ).loc main_arg1)
abbrev dyaOf : S4096x1024.Idx → EReal := m ((c : Thread nD τ).loc main_arg2)
abbrev projOf : S4096x10752.Idx → EReal := m ((c : Thread nD τ).loc main_arg3)

/-- The buffers after the host's lines up to the masked scores' parts. -/
def host1 : Valuation τ sig (Elt Ideal) := StableHlo.after hostOps0 (fun b => m (c, b))
def host2 : Valuation τ sig (Elt Ideal) := StableHlo.after hostOps0_1 (host1 m c)
def host3 : Valuation τ sig (Elt Ideal) := StableHlo.after hostOps0_2 (host2 m c)
def host4 : Valuation τ sig (Elt Ideal) := StableHlo.after hostOps0_3 (host3 m c)

theorem after_two (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons a l ih => exact ih _

theorem V_host (b : Ref sig .tc) : V m c b = StableHlo.after hostOps0_4 (host4 m c) (Proc.devRef .tc b) := by
  show StableHlo.after (hostOps0 ++ (hostOps0_1 ++ (hostOps0_2 ++ (hostOps0_3 ++ (hostOps0_4 ++ []))))) (fun b => m (c, b)) (Proc.devRef .tc b) = _
  rw [after_two, after_two, after_two, after_two, List.append_nil]
  rfl

theorem host1_v0 : host1 m c (Proc.devRef .tc main_v0) = val_main_v8 (F := Ideal) (sinkOf m c) := by
  unfold host1
  after_results
  rfl

theorem host1_v19 : host1 m c (Proc.devRef .tc main_v19) = iotaInDim S16x128x256 32 2 := by
  unfold host1
  after_results

theorem host1_cst : host1 m c (Proc.devRef .tc main_cst_5) = constant (F := Ideal) S_ .f32 0xFF800000#32 := by
  unfold host1
  after_results

/-- The reference's queries, at an element of the projection. -/
theorem queriesOf (x : S4096x10752.Idx → EReal) (b : Fin 2) (n : Fin 16) (q : Fin 128) (h g : Fin 4) (d : Fin 64) :
    val_main_v9 (F := Ideal) x (ix6 b n q h g d) = x (ix2 (tok b n q) ⟨(h.val * 4 + g.val) * 64 + d.val, by omega⟩) := by
  unfold val_main_v9
  refine (shapeCast_apply _ _ _ (ix3 b ⟨n.val * 128 + q.val, by omega⟩ (⟨(h.val * 4 + g.val) * 64 + d.val, by omega⟩ : Fin 1024)) ?_).trans ?_
  · rw [Shape.rowMajor_val_six, Shape.rowMajor_val_three]
    show (b.val * 2048 + (n.val * 128 + q.val)) * 1024 + ((h.val * 4 + g.val) * 64 + d.val)
      = ((((b.val * 16 + n.val) * 128 + q.val) * 4 + h.val) * 4 + g.val) * 64 + d.val
    omega
  · rw [val_main_v2_apply, val_main_v1_apply, val_main_v0_apply]
    refine congrArg x (funext fun a => Fin.ext ?_)
    match a with
    | ⟨0, _⟩ =>
      show ((b.val * 2048 + (n.val * 128 + q.val)) * 2560 + ((h.val * 4 + g.val) * 64 + d.val)) / 2560 = (16 * b.val + n.val) * 128 + q.val
      omega
    | ⟨1, _⟩ =>
      show ((b.val * 2048 + (n.val * 128 + q.val)) * 2560 + ((h.val * 4 + g.val) * 64 + d.val)) % 2560 = (h.val * 4 + g.val) * 64 + d.val
      omega

/-- The reference's keys, at an element of the projection. -/
theorem keyOf (x : S4096x10752.Idx → EReal) (b : Fin 2) (t : Fin 2048) (h : Fin 4) (d : Fin 64) :
    val_main_v10 (F := Ideal) x (ix4 b t h d) = x (ix2 ⟨b.val * 2048 + t.val, by omega⟩ ⟨1024 + h.val * 64 + d.val, by omega⟩) := by
  rw [val_main_v10_apply, val_main_v3_apply, val_main_v1_apply, val_main_v0_apply]
  refine congrArg x (funext fun a => Fin.ext ?_)
  have e : (((b.val * 2048 + t.val) * 4 + h.val) * 64 + d.val) / 524288 = b.val := by omega
  have e' : (((b.val * 2048 + t.val) * 4 + h.val) * 64 + d.val) / 256 % 2048 = t.val := by omega
  have e'' : (((b.val * 2048 + t.val) * 4 + h.val) * 64 + d.val) % 256 = h.val * 64 + d.val := by omega
  match a with
  | ⟨0, _⟩ =>
    show ((((((b.val * 2048 + t.val) * 4 + h.val) * 64 + d.val) / 524288) * 2048 + ((((b.val * 2048 + t.val) * 4 + h.val) * 64 + d.val) / 256 % 2048)) * 2560 + (1024 + (((b.val * 2048 + t.val) * 4 + h.val) * 64 + d.val) % 256)) / 2560 = b.val * 2048 + t.val
    rw [e, e', e'']
    omega
  | ⟨1, _⟩ =>
    show ((((((b.val * 2048 + t.val) * 4 + h.val) * 64 + d.val) / 524288) * 2048 + ((((b.val * 2048 + t.val) * 4 + h.val) * 64 + d.val) / 256 % 2048)) * 2560 + (1024 + (((b.val * 2048 + t.val) * 4 + h.val) * 64 + d.val) % 256)) % 2560 = 1024 + h.val * 64 + d.val
    rw [e, e', e'']
    omega

/-- Whether key place `s` is within the window of query `q`. -/
def band (q : Fin 128) (s : Fin 256) : BitVec 1 :=
  IntOp.andi (IntOp.cmpi .sge (IntOp.subi (IntOp.addi (BitVec.ofNat 32 q.val) 128#32) (BitVec.ofNat 32 s.val)) 0#32)
    (IntOp.cmpi .slt (IntOp.subi (IntOp.addi (BitVec.ofNat 32 q.val) 128#32) (BitVec.ofNat 32 s.val)) 128#32)

/-- Whether block `n` has a key in place `s`. -/
def side (n : Fin 16) (s : Fin 256) : BitVec 1 :=
  IntOp.cmpi .sge (IntOp.addi (IntOp.subi (IntOp.muli (BitVec.ofNat 32 n.val) 128#32) 128#32) (BitVec.ofNat 32 s.val)) 0#32

theorem side_eq (n : Fin 16) (s : Fin 256) :
    IntOp.ori (IntOp.cmpi .sge (BitVec.ofNat 32 s.val) 128#32) (IntOp.cmpi .sgt (BitVec.ofNat 32 n.val) 0#32) = side n s :=
  (by decide +kernel : ∀ (n : Fin 16) (s : Fin 256),
    IntOp.ori (IntOp.cmpi .sge (BitVec.ofNat 32 s.val) 128#32) (IntOp.cmpi .sgt (BitVec.ofNat 32 n.val) 0#32) = side n s) n s

/-- The reference's mask. -/
theorem maskOf (n : Fin 16) (q : Fin 128) (s : Fin 256) : val_main_v61 (F := Ideal) (ix3 n q s) = IntOp.andi (band q s) (side n s) := by
  unfold val_main_v61 val_main_v59 val_main_v60 val_main_v55 val_main_v58 val_main_v43 val_main_v57 val_main_v40 val_main_v42
    val_main_v54 val_main_v56 val_main_v53 val_main_v52 val_main_v51 val_main_v50 val_main_v49 val_main_v48 val_main_v47 val_main_v46
    val_main_v45 val_main_v44 val_main_v41 val_main_v39 val_main_v38 val_main_v37 val_main_v36 val_main_v35 val_main_v34 val_main_v33
    val_main_v32 val_main_v31 val_main_v30
  pointwise
  rfl

/-- The queries, sliced out of the projection and split into heads. -/
theorem queries (x : S4096x10752.Idx → EReal) :
    shapeCast S2x16x128x4x4x64 (extractStridedSlice S4096x1024 ![0, 0] x slices_S4096x10752_S4096x1024_0_0) shapeCasts_S4096x1024_S2x16x128x4x4x64
      = val_main_v9 (F := Ideal) x := by
  funext i
  obtain ⟨b, n, q, h, g, d, rfl⟩ : ∃ (b : Fin 2) (n : Fin 16) (q : Fin 128) (h g : Fin 4) (d : Fin 64), i = ix6 b n q h g d :=
    ⟨i 0, i 1, i 2, i 3, i 4, i 5, eq_ix6 i⟩
  rw [queriesOf]
  refine (shapeCast_apply _ _ _ (ix2 (tok b n q) ⟨(h.val * 4 + g.val) * 64 + d.val, by omega⟩) ?_).trans ?_
  · rw [Shape.rowMajor_val_six, Shape.rowMajor_val_two]
    show ((16 * b.val + n.val) * 128 + q.val) * 1024 + ((h.val * 4 + g.val) * 64 + d.val)
      = ((((b.val * 16 + n.val) * 128 + q.val) * 4 + h.val) * 4 + g.val) * 64 + d.val
    omega
  · pointwise

/-- The keys, sliced out of the projection and split into heads. -/
theorem keysIn (x : S4096x10752.Idx → EReal) :
    shapeCast S2x2048x4x64 (extractStridedSlice S4096x256 ![0, 1024] x slices_S4096x10752_S4096x256_0_1024) shapeCasts_S4096x256_S2x2048x4x64
      = val_main_v10 (F := Ideal) x := by
  funext i
  obtain ⟨b, t, h, d, rfl⟩ : ∃ (b : Fin 2) (t : Fin 2048) (h : Fin 4) (d : Fin 64), i = ix4 b t h d :=
    ⟨i 0, i 1, i 2, i 3, eq_ix4 i⟩
  rw [keyOf]
  refine (shapeCast_apply _ _ _ (ix2 (⟨b.val * 2048 + t.val, by omega⟩ : Fin 4096) (⟨h.val * 64 + d.val, by omega⟩ : Fin 256)) ?_).trans ?_
  · rw [Shape.rowMajor_val_four, Shape.rowMajor_val_two]
    show (b.val * 2048 + t.val) * 256 + (h.val * 64 + d.val) = ((b.val * 2048 + t.val) * 4 + h.val) * 64 + d.val
    omega
  · pointwise
    exact congrArg x (congrArg₂ ix2 rfl (Fin.ext (by show 1024 + (h.val * 64 + d.val) = 1024 + h.val * 64 + d.val; omega)))

/-- Scores of queries against windows of keys, with the bias. -/
def scored (k : S2x2048x4x64.Idx → EReal) (q : S2x16x128x4x4x64.Idx → EReal) (bias : S128x256x16.Idx → EReal) : S2x4x4x16x128x256.Idx → EReal :=
  let k' := shapeCast S2x17x128x4x64 (concatenate S2x2176x4x64 1 [⟨S2x128x4x64, broadcastInDim S2x128x4x64 ![] bcast_S_S2x128x4x64 (constant (F := Ideal) S_ .f32 0x00000000#32)⟩, ⟨S2x2048x4x64, k⟩] concatenates_S2x128x4x64_S2x2048x4x64_S2x2176x4x64_d1) shapeCasts_S2x2176x4x64_S2x17x128x4x64
  addf (F := Ideal) (φ := .f32) (mulf (F := Ideal) (φ := .f32) (transpose S2x4x4x16x128x256 [0, 1, 5, 2, 4, 3]
      (Host.dotGeneral (F := Ideal) (φ₁ := .f32) (φ₂ := .f32) dot_S2x16x256x4x64_S2x16x128x4x4x64_S2x4x16x256x128x4_4_5_2_24_031_031 none
        (concatenate S2x16x256x4x64 2 [⟨S2x16x128x4x64, extractStridedSlice S2x16x128x4x64 ![0, 0, 0, 0, 0] k' slices_S2x17x128x4x64_S2x16x128x4x64_0_0_0_0_0⟩,
          ⟨S2x16x128x4x64, extractStridedSlice S2x16x128x4x64 ![0, 1, 0, 0, 0] k' slices_S2x17x128x4x64_S2x16x128x4x64_0_1_0_0_0⟩] concatenates_S2x16x128x4x64_S2x16x128x4x64_S2x16x256x4x64_d2) q)
      transposes_S2x4x16x256x128x4_S2x4x4x16x128x256_0_1_5_2_4_3) (broadcastInDim S2x4x4x16x128x256 ![] bcast_S_S2x4x4x16x128x256 (constant (F := Ideal) S_ .f32 0x3E000000#32)))
    (broadcastInDim S2x4x4x16x128x256 ![0, 1, 2, 3, 4, 5] bcast_S1x4x4x1x128x256_S2x4x4x16x128x256_0_1_2_3_4_5
      (broadcastInDim S1x4x4x1x128x256 ![1, 2, 3, 4, 5] bcast_S4x4x1x128x256_S1x4x4x1x128x256_1_2_3_4_5
        (shapeCast S4x4x1x128x256 (transpose S16x128x256 [2, 0, 1] bias transposes_S128x256x16_S16x128x256_2_0_1) shapeCasts_S16x128x256_S4x4x1x128x256)))

theorem host1_v36 : host1 m c (Proc.devRef .tc main_v36) = val_main_v66 (F := Ideal) (biasOf m c) (projOf m c) := by
  unfold host1
  after_results
  exact (show _ = scored _ _ _ from rfl).trans ((congrArg₂ (fun k q => scored k q (biasOf m c)) (keysIn _) (queries _)).trans rfl)

theorem host1_v33 : host1 m c (Proc.devRef .tc main_v33) = val_main_v61 (F := Ideal) := by
  unfold host1
  after_results
  funext i
  idx_vars i
  rw [maskOf]
  pointwise
  exact congrArg (IntOp.andi _) (side_eq _ _)

theorem host2_v37 : host2 m c (Proc.devRef .tc main_v37) = val_main_v67_0 (F := Ideal) (biasOf m c) (projOf m c) := by
  have e1 := host1_v36 m c
  have e2 := host1_v33 m c
  have e3 := host1_cst m c
  unfold host2
  revert e1 e2 e3
  generalize host1 m c = W
  intro e1 e2 e3
  after_results
  rw [e1, e2]
  refine Eq.trans ?_ (congrArg (fun z : S_.Idx → EReal => select (val_main_v67_1 (F := Ideal)) (val_main_v66 (F := Ideal) (biasOf m c) (projOf m c)) (broadcastInDim S2x4x4x16x128x256 ![] bcast_S_S2x4x4x16x128x256 z)) e3)
  rfl

theorem host3_v52 : host3 m c (Proc.devRef .tc main_v52) = val_main_v76 (F := Ideal) (biasOf m c) (sinkOf m c) (projOf m c) := by
  have e1 := host2_v37 m c
  have e2 : host2 m c (Proc.devRef .tc main_v0) = val_main_v8 (F := Ideal) (sinkOf m c) := by
    rw [← host1_v0]
    unfold host2
    after_results
  unfold host3
  revert e1 e2
  generalize host2 m c = W
  intro e1 e2
  after_results
  rw [e1, e2]
  rfl

theorem host3_v49 : host3 m c (Proc.devRef .tc main_v49) = val_main_v80 (F := Ideal) (biasOf m c) (sinkOf m c) (projOf m c) := by
  have e1 := host2_v37 m c
  have e2 : host2 m c (Proc.devRef .tc main_v0) = val_main_v8 (F := Ideal) (sinkOf m c) := by
    rw [← host1_v0]
    unfold host2
    after_results
  unfold host3
  revert e1 e2
  generalize host2 m c = W
  intro e1 e2
  after_results
  rw [e1, e2]
  rfl

theorem host3_v45 : host3 m c (Proc.devRef .tc main_v45) = cmpi .eq (iotaInDim S16x128x256 32 2) (broadcastInDim S16x128x256 ![] bcast_S_S16x128x256 (constantI S_ 32 0#32)) := by
  have e1 : host2 m c (Proc.devRef .tc main_v19) = iotaInDim S16x128x256 32 2 := by
    rw [← host1_v19 m c]
    unfold host2
    after_results
  unfold host3
  revert e1
  generalize host2 m c = W
  intro e1
  after_results
  rw [e1]

theorem V_probs : (V m c main_v56 : S4096x4096.Idx → EReal)
    = shapeCast S4096x4096 (transpose S2x16x128x4x4x256 [0, 3, 4, 1, 2, 5]
        (select (broadcastInDim S2x4x4x16x128x256 ![3, 4, 5] bcast_S16x128x256_S2x4x4x16x128x256_3_4_5
            (cmpi .eq (iotaInDim S16x128x256 32 2) (broadcastInDim S16x128x256 ![] bcast_S_S16x128x256 (constantI S_ 32 0#32))))
          (broadcastInDim S2x4x4x16x128x256 ![0, 1, 2, 3, 4, 5] bcast_S2x4x4x16x128x1_S2x4x4x16x128x256_0_1_2_3_4_5
            (val_main_v80 (F := Ideal) (biasOf m c) (sinkOf m c) (projOf m c)))
          (val_main_v76 (F := Ideal) (biasOf m c) (sinkOf m c) (projOf m c)))
        transposes_S2x4x4x16x128x256_S2x16x128x4x4x256_0_3_4_1_2_5) shapeCasts_S2x16x128x4x4x256_S4096x4096 := by
  have e1 := host3_v52 m c
  have e2 := host3_v49 m c
  have e3 := host3_v45 m c
  rw [V_host]
  unfold host4
  revert e1 e2 e3
  generalize host3 m c = W
  intro e1 e2 e3
  after_results
  rw [e1, e2, e3]
  rfl

/-- The kept exponentials, element by element. -/
theorem probs_apply (b : Fin 2) (n : Fin 16) (q : Fin 128) (h g : Fin 4) (s : Fin 256) :
    (V m c main_v56 : S4096x4096.Idx → EReal) (ix2 (tok b n q) ⟨(h.val * 4 + g.val) * 256 + s.val, by omega⟩)
      = if s.val = 0 then val_main_v80 (F := Ideal) (biasOf m c) (sinkOf m c) (projOf m c) (ix6 b h g n q (0 : Fin 1))
        else val_main_v76 (F := Ideal) (biasOf m c) (sinkOf m c) (projOf m c) (ix6 b h g n q s) := by
  rw [V_probs]
  generalize val_main_v80 (F := Ideal) (biasOf m c) (sinkOf m c) (projOf m c) = z
  generalize val_main_v76 (F := Ideal) (biasOf m c) (sinkOf m c) (projOf m c) = e
  refine (shapeCast_apply _ _ _ (ix6 b n q h g s) ?_).trans ?_
  · rw [Shape.rowMajor_val_six, Shape.rowMajor_val_two]
    show ((((b.val * 16 + n.val) * 128 + q.val) * 4 + h.val) * 4 + g.val) * 256 + s.val
      = ((16 * b.val + n.val) * 128 + q.val) * 4096 + ((h.val * 4 + g.val) * 256 + s.val)
    omega
  · pointwise
    have hs := s.isLt
    by_cases h0 : s.val = 0
    · rw [if_pos h0, h0]
      rfl
    · rw [if_neg h0]
      have : (BitVec.ofNat 32 s.val == 0#32) = false := by
        rw [beq_eq_false_iff_ne]
        intro hc
        have := congrArg BitVec.toNat hc
        simp only [BitVec.toNat_ofNat] at this
        omega
      show Scalar.select (BitVec.ofBool (BitVec.ofNat 32 s.val == 0#32)) _ _ = _
      rw [this]
      rfl

end Cert.Attn
end
-- ==== Proof.AttnMath.lean ====
/- The gradient of one query of one head over the reals: the kernel's spelling and the reference's. -/
module

public import proofs.«01_k».proof.Proof.AttnRow

@[expose] public section

set_option maxRecDepth 16384

noncomputable section

namespace Cert.Attn

open Idealize.ShloMosaic

theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The logistic function of a real. -/
def sig (x : ℝ) : ℝ := 1 / (1 + Real.exp (-x))

theorem div_real (x : ℝ) {y : ℝ} (h : y ≠ 0) : Ideal.div (x : EReal) (y : EReal) = ((x / y : ℝ) : EReal) := by
  rw [Ideal.div_coe h, ← EReal.coe_mul]
  congr 1
  ring

theorem logistic_real (x : ℝ) : Ideal.logistic (x : EReal) = (sig x : EReal) := by
  have h : (1 + Real.exp (-x)) ≠ 0 := by positivity
  show Ideal.div 1 (1 + Ideal.exp (-(x : EReal))) = _
  rw [← EReal.coe_neg]
  show Ideal.div 1 (1 + ((Real.exp (-x) : ℝ) : EReal)) = _
  rw [← EReal.coe_one, ← EReal.coe_add, div_real _ h]
  rfl

theorem eighth : Ideal.ofBits .f32 0x3E000000#32 = ((1 / 8 : ℝ) : EReal) := by
  simp [Ideal.ofBits, Ideal.ieee, -EReal.coe_mul]; norm_num

/-- One query of one head over the reals: the exponentials of the keys and the sink's, keys, values, gate and gradient. -/
structure RRow where
  e : Fin 256 → ℝ
  z : ℝ
  k : Fin 256 → Fin 64 → ℝ
  v : Fin 256 → Fin 64 → ℝ
  ag : Fin 64 → ℝ
  dy : Fin 64 → ℝ

namespace RRow

variable (w : RRow)

def den : ℝ := (∑ s, w.e s) + w.z
def o (d : Fin 64) : ℝ := (∑ s, w.e s * w.v s d) / w.den
def dO (d : Fin 64) : ℝ := w.dy d * (w.ag d * sig (w.ag d))
def D (s : Fin 256) : ℝ := ∑ d, w.dO d * w.v s d
def drow : ℝ := ∑ d, w.dO d * w.o d
def ds (s : Fin 256) : ℝ := w.e s / w.den * (w.D s - w.drow)
def dq (d : Fin 64) : ℝ := (∑ s, w.ds s * w.k s d) / 8
def dag (d : Fin 64) : ℝ := w.dy d * w.o d * (sig (w.ag d) * (1 + w.ag d * (1 - sig (w.ag d))))
def dsink : ℝ := -(w.z / w.den * w.drow)

/-- What an exponential and the sink's satisfy. -/
structure Good : Prop where
  z_pos : 0 < w.z
  e_nonneg : ∀ s, 0 ≤ w.e s
  e_zero : w.e 0 = 0

theorem Good.den_pos {w : RRow} (h : w.Good) : 0 < w.den :=
  add_pos_of_nonneg_of_pos (Finset.sum_nonneg fun s _ => h.e_nonneg s) h.z_pos

/-- The kernel's row: the sink's exponential in place 0. -/
def row : Row :=
  ⟨fun s => if s.val = 0 then (w.z : EReal) else (w.e s : EReal), fun s d => (w.k s d : EReal), fun s d => (w.v s d : EReal),
    fun d => (w.ag d : EReal), fun d => (w.dy d : EReal)⟩

variable {w} (h : w.Good)
include h

theorem row_p (s : Fin 256) : w.row.p s = (w.e s : EReal) := by
  show (if s.val = 0 then (0 : EReal) else if s.val = 0 then (w.z : EReal) else (w.e s : EReal)) = _
  by_cases hs : s.val = 0
  · rw [if_pos hs, show s = 0 from Fin.ext hs, h.e_zero, EReal.coe_zero]
  · rw [if_neg hs, if_neg hs]

omit h in
theorem row_e0 : w.row.e 0 = (w.z : EReal) := by
  show (if (0 : Fin 256).val = 0 then (w.z : EReal) else (w.e 0 : EReal)) = _
  rw [if_pos (show (0 : Fin 256).val = 0 from rfl)]

theorem row_rden : w.row.rden = ((1 / w.den : ℝ) : EReal) := by
  unfold Row.rden
  simp only [row_p h]
  rw [coe_sum, row_e0, ← EReal.coe_add, ← EReal.coe_one]
  exact div_real 1 h.den_pos.ne'

theorem row_o (d : Fin 64) : w.row.o d = (w.o d : EReal) := by
  unfold Row.o
  simp only [row_p h, row_rden h]
  show (∑ s, (w.e s : EReal) * (w.v s d : EReal)) * _ = _
  simp only [← EReal.coe_mul]
  rw [coe_sum, ← EReal.coe_mul]
  congr 1
  unfold RRow.o
  ring

omit h in
theorem row_dO (d : Fin 64) : w.row.dO d = (w.dO d : EReal) := by
  unfold Row.dO
  show (w.dy d : EReal) * ((w.ag d : EReal) * Ideal.logistic (w.ag d : EReal)) = _
  rw [logistic_real, ← EReal.coe_mul, ← EReal.coe_mul]
  rfl

theorem row_drow : w.row.drow = (w.drow : EReal) := by
  unfold Row.drow
  simp only [row_o h, row_dO, ← EReal.coe_mul]
  rw [coe_sum]
  rfl

theorem row_ds (s : Fin 256) : w.row.ds s = (w.ds s : EReal) := by
  unfold Row.ds
  simp only [row_p h, row_rden h, row_drow h, row_dO]
  show _ * _ * ((∑ d, (w.dO d : EReal) * (w.v s d : EReal)) - _) = _
  simp only [← EReal.coe_mul]
  rw [coe_sum, ← EReal.coe_sub, ← EReal.coe_mul]
  congr 1
  unfold RRow.ds RRow.D
  ring

theorem row_dq (d : Fin 64) : w.row.dq d = (w.dq d : EReal) := by
  unfold Row.dq
  simp only [row_ds h]
  show (∑ s, (w.ds s : EReal) * (w.k s d : EReal)) * _ = _
  simp only [← EReal.coe_mul]
  rw [coe_sum, eighth, ← EReal.coe_mul]
  congr 1
  unfold RRow.dq
  ring

theorem row_dag (d : Fin 64) : w.row.dag d = (w.dag d : EReal) := by
  unfold Row.dag
  rw [row_o h]
  show (w.dy d : EReal) * _ * (Ideal.logistic (w.ag d : EReal) * (1 + (w.ag d : EReal) * (1 - Ideal.logistic (w.ag d : EReal)))) = _
  rw [logistic_real, ← EReal.coe_one, ← EReal.coe_sub, ← EReal.coe_mul, ← EReal.coe_mul, ← EReal.coe_add, ← EReal.coe_mul, ← EReal.coe_mul]
  rfl

theorem row_dsink : w.row.dsink = (w.dsink : EReal) := by
  unfold Row.dsink
  rw [row_rden h, row_drow h, row_e0, ← EReal.coe_mul, ← EReal.coe_mul, ← EReal.coe_zero, ← EReal.coe_sub]
  congr 1
  unfold RRow.dsink
  ring

omit h

/-! ## Values that carry no weight do not matter -/

theorem dots {w w' : RRow} (he : w'.e = w.e) (hv : ∀ s d, w.e s ≠ 0 → w'.v s d = w.v s d) (d : Fin 64) :
    ∑ s, w'.e s * w'.v s d = ∑ s, w.e s * w.v s d :=
  Finset.sum_congr rfl fun s _ => by
    rw [he]
    by_cases h0 : w.e s = 0
    · rw [h0, zero_mul, zero_mul]
    · rw [hv s d h0]

/-- Two rows that agree wherever an exponential is positive. -/
structure Same (w w' : RRow) : Prop where
  e : w'.e = w.e
  z : w'.z = w.z
  v : ∀ s d, w.e s ≠ 0 → w'.v s d = w.v s d
  k : ∀ s d, w.e s ≠ 0 → w'.k s d = w.k s d
  ag : w'.ag = w.ag
  dy : w'.dy = w.dy

variable {w w' : RRow} (hs : Same w w')
include hs

theorem Same.den : w'.den = w.den := by unfold RRow.den; rw [hs.e, hs.z]
theorem Same.o (d : Fin 64) : w'.o d = w.o d := by unfold RRow.o; rw [dots hs.e hs.v, hs.den]
theorem Same.dO (d : Fin 64) : w'.dO d = w.dO d := by unfold RRow.dO; rw [hs.ag, hs.dy]
theorem Same.drow : w'.drow = w.drow := by unfold RRow.drow; simp only [hs.dO, hs.o]
theorem Same.dag (d : Fin 64) : w'.dag d = w.dag d := by unfold RRow.dag; rw [hs.ag, hs.dy, hs.o]
theorem Same.dsink : w'.dsink = w.dsink := by unfold RRow.dsink; rw [hs.drow, hs.den, hs.z]
theorem Same.ds (s : Fin 256) : w'.ds s = w.ds s := by
  unfold RRow.ds RRow.D
  rw [hs.e, hs.den, hs.drow]
  by_cases h0 : w.e s = 0
  · rw [h0, zero_div, zero_mul, zero_mul]
  · simp only [hs.dO, hs.v s _ h0]
theorem Same.dq (d : Fin 64) : w'.dq d = w.dq d := by
  unfold RRow.dq
  congr 1
  refine Finset.sum_congr rfl fun s _ => ?_
  rw [hs.ds]
  by_cases h0 : w.e s = 0
  · unfold RRow.ds
    rw [h0, zero_div, zero_mul, zero_mul, zero_mul]
  · rw [hs.k s d h0]

omit hs

/-! ## The reference's spelling -/

/-- The gradient of the normaliser, as the reference sums it. -/
theorem sum_D : ∑ s, w.D s * (1 / (w.den * w.den)) * w.e s = w.drow / w.den := by
  unfold RRow.D RRow.drow RRow.o
  simp only [Finset.sum_mul, Finset.sum_div, Finset.mul_sum]
  rw [Finset.sum_comm]
  refine Finset.sum_congr rfl fun d _ => Finset.sum_congr rfl fun s _ => ?_
  ring

theorem ds_ref (s : Fin 256) : (w.D s / w.den + -(w.drow / w.den)) * w.e s = w.ds s := by
  unfold RRow.ds
  ring

end RRow

end Cert.Attn
end
-- ==== Proof.AttnWindows.lean ====
/- The reference's windows of keys and values, at elements of the projection. -/
module

public import proofs.«01_k».proof.Proof.AttnProbs
public import proofs.«01_k».proof.Proof.AttnMath
public import Idealize.ShloMosaic.Lib.Pointwise

@[expose] public section

set_option maxRecDepth 16384

noncomputable section

namespace Cert.Attn

open Cert.Reference4Ideal Cert.Reference4Ideal.Gen Cert.Reference4Ideal.Read Idealize.ShloMosaic Idealize.ShloMosaic.TcCoe

variable (x0 : S128x256x16.Idx → EReal) (x1 : S1x16.Idx → EReal) (x2 : S4096x1024.Idx → EReal) (x3 : S4096x10752.Idx → EReal)

/-! ## Windows -/

/-- The reference's values, at an element of the projection. -/
theorem valueOf (b : Fin 2) (t : Fin 2048) (h : Fin 4) (d : Fin 64) :
    val_main_v18 (F := Ideal) x3 (ix4 b t h d) = x3 (ix2 ⟨b.val * 2048 + t.val, by omega⟩ ⟨1280 + h.val * 64 + d.val, by omega⟩) := by
  rw [val_main_v18_apply, val_main_v4_apply, val_main_v1_apply, val_main_v0_apply]
  refine congrArg x3 (funext fun a => Fin.ext ?_)
  have e : (((b.val * 2048 + t.val) * 4 + h.val) * 64 + d.val) / 524288 = b.val := by omega
  have e' : (((b.val * 2048 + t.val) * 4 + h.val) * 64 + d.val) / 256 % 2048 = t.val := by omega
  have e'' : (((b.val * 2048 + t.val) * 4 + h.val) * 64 + d.val) % 256 = h.val * 64 + d.val := by omega
  match a with
  | ⟨0, _⟩ =>
    show ((((((b.val * 2048 + t.val) * 4 + h.val) * 64 + d.val) / 524288) * 2048 + ((((b.val * 2048 + t.val) * 4 + h.val) * 64 + d.val) / 256 % 2048)) * 2560 + (1280 + (((b.val * 2048 + t.val) * 4 + h.val) * 64 + d.val) % 256)) / 2560 = b.val * 2048 + t.val
    rw [e, e', e'']
    omega
  | ⟨1, _⟩ =>
    show ((((((b.val * 2048 + t.val) * 4 + h.val) * 64 + d.val) / 524288) * 2048 + ((((b.val * 2048 + t.val) * 4 + h.val) * 64 + d.val) / 256 % 2048)) * 2560 + (1280 + (((b.val * 2048 + t.val) * 4 + h.val) * 64 + d.val) % 256)) % 2560 = 1280 + h.val * 64 + d.val
    rw [e, e', e'']
    omega

/-- The windows of an array of tokens: two blocks of 128 places each, the first one block earlier. -/
def windows (y : S2x2048x4x64.Idx → EReal) : S2x16x256x4x64.Idx → EReal :=
  let z := shapeCast S2x17x128x4x64 (concatenate S2x2176x4x64 1 [⟨S2x128x4x64, broadcastInDim S2x128x4x64 ![] bcast_S_S2x128x4x64 (constant (F := Ideal) S_ .f32 0x00000000#32)⟩, ⟨S2x2048x4x64, y⟩] concatenates_S2x128x4x64_S2x2048x4x64_S2x2176x4x64_d1) shapeCasts_S2x2176x4x64_S2x17x128x4x64
  concatenate S2x16x256x4x64 2 [⟨S2x16x128x4x64, extractStridedSlice S2x16x128x4x64 ![0, 0, 0, 0, 0] z slices_S2x17x128x4x64_S2x16x128x4x64_0_0_0_0_0⟩,
    ⟨S2x16x128x4x64, extractStridedSlice S2x16x128x4x64 ![0, 1, 0, 0, 0] z slices_S2x17x128x4x64_S2x16x128x4x64_0_1_0_0_0⟩] concatenates_S2x16x128x4x64_S2x16x128x4x64_S2x16x256x4x64_d2

theorem windows_apply (y : S2x2048x4x64.Idx → EReal) (b : Fin 2) (n : Fin 16) (s : Fin 256) (h : Fin 4) (d : Fin 64) :
    windows y (ix5 b n s h d) = if ht : n.val * 128 + s.val < 128 then 0 else y (ix4 b ⟨n.val * 128 + s.val - 128, by omega⟩ h d) := by
  have blocks : ∀ (y' : S2x2176x4x64.Idx → EReal) (n : Fin 17) (s : Fin 128),
      shapeCast S2x17x128x4x64 y' shapeCasts_S2x2176x4x64_S2x17x128x4x64 (ix5 b n s h d) = y' (ix4 b ⟨n.val * 128 + s.val, by omega⟩ h d) := by
    intro y' n s
    refine shapeCast_apply _ _ _ _ ?_
    rw [Shape.rowMajor_val_four, Shape.rowMajor_val_five]
    show ((b.val * 2176 + (n.val * 128 + s.val)) * 4 + h.val) * 64 + d.val = (((b.val * 17 + n.val) * 128 + s.val) * 4 + h.val) * 64 + d.val
    omega
  unfold windows
  pointwise [blocks]
  by_cases h1 : s.val < 128
  · rw [dif_pos h1]
  · rw [dif_neg h1]
    have e : (1 + n.val) * 128 + (s.val - 128) = n.val * 128 + s.val := by omega
    simp only [e]

theorem keys_eq : val_main_v17 (F := Ideal) x3 = windows (val_main_v10 (F := Ideal) x3) := rfl
theorem values_eq : val_main_v25 (F := Ideal) x3 = windows (val_main_v18 (F := Ideal) x3) := rfl

end Cert.Attn
end
-- ==== Proof.AttnSoftmax.lean ====
/- The reference's softmax: which entries are real, and which vanish. -/
module

public import proofs.«01_k».proof.Proof.AttnWindows

@[expose] public section

set_option maxRecDepth 16384

noncomputable section

namespace Cert.Attn

open Cert.Reference4Ideal Cert.Reference4Ideal.Gen Cert.Reference4Ideal.Read Idealize.ShloMosaic Idealize.ShloMosaic.TcCoe

/-- A finite value. -/
def IsR (x : EReal) : Prop := ∃ r : ℝ, x = (r : EReal)

theorem IsR.add {x y : EReal} : IsR x → IsR y → IsR (x + y) := fun ⟨r, hr⟩ ⟨s, hs⟩ => ⟨r + s, by rw [hr, hs, EReal.coe_add]⟩
theorem IsR.mul {x y : EReal} : IsR x → IsR y → IsR (x * y) := fun ⟨r, hr⟩ ⟨s, hs⟩ => ⟨r * s, by rw [hr, hs, EReal.coe_mul]⟩
theorem IsR.sum {ι : Type*} (s : Finset ι) (f : ι → EReal) (h : ∀ i, IsR (f i)) : IsR (∑ i ∈ s, f i) := by
  choose g hg using h
  exact ⟨∑ i ∈ s, g i, by simp only [hg]; exact coe_sum s g⟩
theorem IsR.coe {x : EReal} : IsR x → x = (x.toReal : EReal) := fun ⟨r, hr⟩ => by rw [hr, EReal.toReal_coe]

/-- The arguments the claim is about: finite, and of the projection the columns the attention reads. -/
structure Finite4 (x0 : S128x256x16.Idx → EReal) (x1 : S1x16.Idx → EReal) (x2 : S4096x1024.Idx → EReal) (x3 : S4096x10752.Idx → EReal) : Prop where
  bias : ∀ i, IsR (x0 i)
  sink : ∀ i, IsR (x1 i)
  dya : ∀ i, IsR (x2 i)
  proj : ∀ (t : Fin 4096) (l : Fin 10752), l.val < 2560 → IsR (x3 (ix2 t l))

variable {x0 : S128x256x16.Idx → EReal} {x1 : S1x16.Idx → EReal} {x2 : S4096x1024.Idx → EReal} {x3 : S4096x10752.Idx → EReal}

section
variable (hf : Finite4 x0 x1 x2 x3)
include hf

theorem window_real (y : S2x2048x4x64.Idx → EReal) (hy : ∀ b t h d, IsR (y (ix4 b t h d))) (i : S2x16x256x4x64.Idx) : IsR (windows y i) := by
  obtain ⟨b, n, s, h, d, rfl⟩ : ∃ (b : Fin 2) (n : Fin 16) (s : Fin 256) (h : Fin 4) (d : Fin 64), i = ix5 b n s h d :=
    ⟨i 0, i 1, i 2, i 3, i 4, eq_ix5 i⟩
  rw [windows_apply]
  split
  · exact ⟨0, EReal.coe_zero.symm⟩
  · exact hy _ _ _ _

theorem keys_real (i : S2x16x256x4x64.Idx) : IsR (val_main_v17 (F := Ideal) x3 i) :=
  window_real hf _ (fun b t h d => by rw [keyOf]; exact hf.proj _ _ (by show 1024 + h.val * 64 + d.val < 2560; omega)) i

theorem values_real (i : S2x16x256x4x64.Idx) : IsR (val_main_v25 (F := Ideal) x3 i) :=
  window_real hf _ (fun b t h d => by rw [valueOf]; exact hf.proj _ _ (by show 1280 + h.val * 64 + d.val < 2560; omega)) i

theorem queries_real (i : S2x16x128x4x4x64.Idx) : IsR (val_main_v9 (F := Ideal) x3 i) := by
  obtain ⟨b, n, q, h, g, d, rfl⟩ : ∃ (b : Fin 2) (n : Fin 16) (q : Fin 128) (h g : Fin 4) (d : Fin 64), i = ix6 b n q h g d :=
    ⟨i 0, i 1, i 2, i 3, i 4, i 5, eq_ix6 i⟩
  rw [queriesOf]
  exact hf.proj _ _ (by show (h.val * 4 + g.val) * 64 + d.val < 2560; omega)

theorem scores_real (i : S2x4x4x16x128x256.Idx) : IsR (val_main_v66 (F := Ideal) x0 x3 i) := by
  rw [val_main_v66_apply, val_main_v29_apply, val_main_v27_apply, val_main_v26_apply, val_main_v28_apply, val_main_v65_apply,
    val_main_v64_apply, val_main_v63_apply, val_main_v62_apply]
  refine IsR.add (IsR.mul (IsR.sum _ _ fun k => IsR.mul (keys_real hf _) (queries_real hf _)) ⟨1 / 8, eighth⟩) (hf.bias _)

/-- A score is finite, or masked off. -/
theorem masked_real (i : S2x4x4x16x128x256.Idx) :
    IsR (val_main_v67_0 (F := Ideal) x0 x3 i) ∨ val_main_v67_0 (F := Ideal) x0 x3 i = ⊥ := by
  rw [val_main_v67_0_apply]
  unfold Scalar.select
  split
  · exact Or.inl (scores_real hf i)
  · refine Or.inr ?_
    rw [val_main_call0_v2_apply]
    show Ideal.ofBits .f32 0xFF800000#32 = ⊥
    simp [Ideal.ofBits, Ideal.ieee]

omit hf in
theorem masked_off {i : S2x4x4x16x128x256.Idx} (h : val_main_v67_1 (F := Ideal) i = 0#1) : val_main_v67_0 (F := Ideal) x0 x3 i = ⊥ := by
  rw [val_main_v67_0_apply, h, val_main_call0_v2_apply]
  show Ideal.ofBits .f32 0xFF800000#32 = ⊥
  simp [Ideal.ofBits, Ideal.ieee]

theorem sinks_real (i : S4x4x1x1x1.Idx) : IsR (val_main_v68 (F := Ideal) x1 i) := by
  rw [val_main_v68_apply]
  unfold val_main_v8
  exact hf.sink _

theorem rowmax_lt (j : S2x4x4x16x128.Idx) : val_main_v69 (F := Ideal) x0 x3 j < ⊤ := by
  unfold val_main_v69
  rw [Host.reduce_eq_fold_single FloatOps.maximumf _ _ reducesTo_S2x4x4x16x128x256_S2x4x4x16x128_d5 (by decide) h_S_ j]
  refine (Finset.fold_max_lt (β := EReal) (b := _) (f := _) (s := Finset.univ) ⊤).2 ⟨?_, fun k _ => ?_⟩
  · show Ideal.ofBits .f32 0xFF800000#32 < ⊤
    simp [Ideal.ofBits, Ideal.ieee]
  · show val_main_v67_0 (F := Ideal) x0 x3 _ < ⊤
    rcases masked_real hf ((Shape.Reduces.lift (a := 5) (by decide) j) k) with ⟨r, hr⟩ | hr
    · rw [hr]
      exact EReal.coe_lt_top r
    · rw [hr]
      exact bot_lt_top

/-- The largest score and the sink's bound every score, and are finite. -/
theorem top_real (i : S2x4x4x16x128x1.Idx) : IsR (val_main_v73 (F := Ideal) x0 x1 x3 i) := by
  rw [val_main_v73_apply, val_main_v70_apply, val_main_v72_apply, val_main_v71_apply]
  obtain ⟨z, hz⟩ := sinks_real hf (idx_main_v71 (idx_main_v72 i))
  have hlt := rowmax_lt hf (idx_main_v70 i)
  rw [hz]
  show IsR (max _ _)
  generalize val_main_v69 (F := Ideal) x0 x3 (idx_main_v70 i) = t at hlt ⊢
  induction t using EReal.rec with
  | bot => exact ⟨z, max_eq_right bot_le⟩
  | coe r => exact ⟨max r z, (EReal.coe_strictMono.monotone.map_max).symm⟩
  | top => exact absurd hlt (lt_irrefl _)

/-- The exponential of a score is a nonnegative real. -/
theorem exp_real (i : S2x4x4x16x128x256.Idx) : ∃ r : ℝ, 0 ≤ r ∧ val_main_v76 (F := Ideal) x0 x1 x3 i = (r : EReal) := by
  rw [val_main_v76_apply, val_main_v75_apply, val_main_v74_apply]
  obtain ⟨t, ht⟩ := top_real hf (idx_main_v74 i)
  rw [ht]
  rcases masked_real hf i with ⟨r, hr⟩ | hr
  · rw [hr]
    exact ⟨Real.exp (r - t), (Real.exp_pos _).le, by show Ideal.exp ((r : EReal) - (t : EReal)) = _; rw [← EReal.coe_sub]; rfl⟩
  · rw [hr]
    exact ⟨0, le_rfl, by show Ideal.exp (⊥ - (t : EReal)) = _; rw [EReal.bot_sub]; rfl⟩

/-- The exponential of a score that is masked off vanishes. -/
theorem exp_off {i : S2x4x4x16x128x256.Idx} (h : val_main_v67_1 (F := Ideal) i = 0#1) : val_main_v76 (F := Ideal) x0 x1 x3 i = 0 := by
  rw [val_main_v76_apply, val_main_v75_apply, val_main_v74_apply, masked_off h]
  obtain ⟨t, ht⟩ := top_real hf (idx_main_v74 i)
  rw [ht]
  show Ideal.exp (⊥ - (t : EReal)) = _
  rw [EReal.bot_sub]
  rfl

/-- The sink's exponential is a positive real. -/
theorem sink_real (i : S2x4x4x16x128x1.Idx) : ∃ r : ℝ, 0 < r ∧ val_main_v80 (F := Ideal) x0 x1 x3 i = (r : EReal) := by
  rw [val_main_v80_apply, val_main_v79_apply, val_main_v78_apply, val_main_v77_apply]
  obtain ⟨t, ht⟩ := top_real hf i
  obtain ⟨z, hz⟩ := sinks_real hf (idx_main_v77 (idx_main_v78 i))
  rw [ht, hz]
  exact ⟨Real.exp (z - t), Real.exp_pos _, by show Ideal.exp ((z : EReal) - (t : EReal)) = _; rw [← EReal.coe_sub]; rfl⟩

end

/-! ## The mask -/

theorem mask_at (b : Fin 2) (h g : Fin 4) (n : Fin 16) (q : Fin 128) (s : Fin 256) :
    val_main_v67_1 (F := Ideal) (ix6 b h g n q s) = IntOp.andi (band q s) (side n s) := by
  rw [val_main_v67_1_apply, ← maskOf]
  exact congrArg _ (eq_ix3 _)

theorem band_zero (q : Fin 128) : band q 0 = 0#1 := (by decide +kernel : ∀ q : Fin 128, band q 0 = 0#1) q
theorem side_zero (s : Fin 256) (h : s.val < 128) : side 0 s = 0#1 := (by decide +kernel : ∀ s : Fin 256, s.val < 128 → side 0 s = 0#1) s h

/-! ## The rows -/

variable (x0 x1 x2 x3)

/-- The row of query `q` of block `n`, head `4h+g`. -/
def refRow (b : Fin 2) (n : Fin 16) (q : Fin 128) (h g : Fin 4) : RRow where
  e s := (val_main_v76 (F := Ideal) x0 x1 x3 (ix6 b h g n q s)).toReal
  z := (val_main_v80 (F := Ideal) x0 x1 x3 (ix6 b h g n q (0 : Fin 1))).toReal
  k s d := (val_main_v17 (F := Ideal) x3 (ix5 b n s h d)).toReal
  v s d := (val_main_v25 (F := Ideal) x3 (ix5 b n s h d)).toReal
  ag d := (x3 (ix2 (tok b n q) ⟨1536 + ((h.val * 4 + g.val) * 64 + d.val), by omega⟩)).toReal
  dy d := (x2 (ix2 (tok b n q) ⟨(h.val * 4 + g.val) * 64 + d.val, by omega⟩)).toReal

variable {x0 x1 x2 x3}
variable (hf : Finite4 x0 x1 x2 x3)
include hf

theorem refRow_e (b : Fin 2) (n : Fin 16) (q : Fin 128) (h g : Fin 4) (s : Fin 256) :
    val_main_v76 (F := Ideal) x0 x1 x3 (ix6 b h g n q s) = ((refRow x0 x1 x2 x3 b n q h g).e s : EReal) :=
  IsR.coe (let ⟨r, _, hr⟩ := exp_real hf _; ⟨r, hr⟩)

theorem refRow_z (b : Fin 2) (n : Fin 16) (q : Fin 128) (h g : Fin 4) :
    val_main_v80 (F := Ideal) x0 x1 x3 (ix6 b h g n q (0 : Fin 1)) = ((refRow x0 x1 x2 x3 b n q h g).z : EReal) :=
  IsR.coe (let ⟨r, _, hr⟩ := sink_real hf _; ⟨r, hr⟩)

theorem refRow_off (b : Fin 2) (n : Fin 16) (q : Fin 128) (h g : Fin 4) (s : Fin 256) (hm : IntOp.andi (band q s) (side n s) = 0#1) :
    (refRow x0 x1 x2 x3 b n q h g).e s = 0 := by
  show (val_main_v76 (F := Ideal) x0 x1 x3 (ix6 b h g n q s)).toReal = 0
  rw [exp_off hf ((mask_at b h g n q s).trans hm), EReal.toReal_zero]

theorem refRow_first (b : Fin 2) (q : Fin 128) (h g : Fin 4) (s : Fin 256) (hs : s.val < 128) : (refRow x0 x1 x2 x3 b 0 q h g).e s = 0 :=
  refRow_off hf b 0 q h g s (by rw [side_zero s hs]; exact (by decide : ∀ x : BitVec 1, IntOp.andi x 0#1 = 0#1) _)

theorem refRow_good (b : Fin 2) (n : Fin 16) (q : Fin 128) (h g : Fin 4) : (refRow x0 x1 x2 x3 b n q h g).Good where
  z_pos := by
    obtain ⟨r, hr, he⟩ := sink_real hf (ix6 b h g n q (0 : Fin 1))
    show 0 < (val_main_v80 (F := Ideal) x0 x1 x3 _).toReal
    rw [he, EReal.toReal_coe]
    exact hr
  e_nonneg s := by
    obtain ⟨r, hr, he⟩ := exp_real hf (ix6 b h g n q s)
    show 0 ≤ (val_main_v76 (F := Ideal) x0 x1 x3 _).toReal
    rw [he, EReal.toReal_coe]
    exact hr
  e_zero := refRow_off hf b n q h g 0 (by rw [band_zero]; exact (by decide : ∀ x : BitVec 1, IntOp.andi 0#1 x = 0#1) _)

theorem refRow_k (b : Fin 2) (n : Fin 16) (q : Fin 128) (h g : Fin 4) (s : Fin 256) (d : Fin 64) :
    val_main_v17 (F := Ideal) x3 (ix5 b n s h d) = ((refRow x0 x1 x2 x3 b n q h g).k s d : EReal) := IsR.coe (keys_real hf _)

theorem refRow_v (b : Fin 2) (n : Fin 16) (q : Fin 128) (h g : Fin 4) (s : Fin 256) (d : Fin 64) :
    val_main_v25 (F := Ideal) x3 (ix5 b n s h d) = ((refRow x0 x1 x2 x3 b n q h g).v s d : EReal) := IsR.coe (values_real hf _)

theorem refRow_ag (b : Fin 2) (n : Fin 16) (q : Fin 128) (h g : Fin 4) (d : Fin 64) :
    x3 (ix2 (tok b n q) ⟨1536 + ((h.val * 4 + g.val) * 64 + d.val), by omega⟩) = ((refRow x0 x1 x2 x3 b n q h g).ag d : EReal) :=
  IsR.coe (hf.proj _ _ (by show 1536 + ((h.val * 4 + g.val) * 64 + d.val) < 2560; omega))

theorem refRow_dy (b : Fin 2) (n : Fin 16) (q : Fin 128) (h g : Fin 4) (d : Fin 64) :
    x2 (ix2 (tok b n q) ⟨(h.val * 4 + g.val) * 64 + d.val, by omega⟩) = ((refRow x0 x1 x2 x3 b n q h g).dy d : EReal) :=
  IsR.coe (hf.dya _)

end Cert.Attn
end
-- ==== Proof.AttnFinite.lean ====
/- The attention call's precondition, read off the printed predicate: every element the step uses is a real number. -/
module

public import proofs.«01_k».proof.Pre_finite
public import proofs.«01_k».proof.Proof.AttnSoftmax
public import Idealize.ShloMosaic.Lib.ReduceAll

@[expose] public section

noncomputable section

namespace Cert.Attn

open Idealize.ShloMosaic

/-- The predicate's shape relations. -/
instance finiteFacts : Cert.Pre_finite.Facts where
  bcast_S_S128x256x16 := by decide
  reducesTo_S128x256x16_S_d0_1_2 := by decide
  h_S_ := by decide
  bcast_S_S1x16 := by decide
  reducesTo_S1x16_S_d0_1 := by decide
  bitsLt_bf16_f32 := by decide
  bcast_S_S4096x1024 := by decide
  reducesTo_S4096x1024_S_d0_1 := by decide
  slices_S4096x10752_S4096x2560_0_0 := by decide
  bcast_S_S4096x2560 := by decide
  reducesTo_S4096x2560_S_d0_1 := by decide

theorem word_top : Ideal.ofBits .f32 0x7F800000#32 = ⊤ := by simp [Ideal.ofBits, Ideal.ieee]

/-- What lies under the top in absolute value is a real number. -/
theorem real_of_lt (x : EReal) (h : FloatOps.cmpf (F := Ideal) (φ := .f32) .olt (FloatOps.hostAbsf (F := Ideal) (φ := .f32) x) (Ideal.ofBits .f32 0x7F800000#32) = 1#1) : IsR x := by
  rw [word_top] at h
  have h' : max x (-x) < ⊤ := by
    by_contra hn
    have e : FloatOps.cmpf (F := Ideal) (φ := .f32) .olt (FloatOps.hostAbsf (F := Ideal) (φ := .f32) x) (⊤ : EReal) = BitVec.ofBool (decide (max x (-x) < ⊤)) := rfl
    rw [e, decide_eq_false hn] at h
    exact absurd h (by decide)
  induction x with
  | bot => simp at h'
  | coe r => exact ⟨r, rfl⟩
  | top => simp at h'

/-- An array compared below the top in all its elements, the comparisons joined, holds reals. -/
theorem real_of_all {s t u z : Shape} [Subsingleton t.Idx] {axes : List (Fin s.rank)} (x : FVec Ideal s .f32) (init : u.Idx → BitVec 1)
    (h : s.ReducesTo axes t) (hu : 0 < u.numel) {dims : Fin z.rank → Fin s.rank} (hb : z.BroadcastsInDim s dims) (j : t.Idx)
    (e : Host.reduce IntOp.andi (cmpf .olt (Host.absf x) (broadcastInDim s dims hb (constant (F := Ideal) z .f32 0x7F800000#32))) init h hu j = 1#1)
    (i : s.Idx) : IsR (x i) :=
  real_of_lt (x i) (Host.reduce_andi_all _ init h hu j e i)

theorem two_ones {a b : BitVec 1} (h : a &&& b = 1#1) : a = 1#1 ∧ b = 1#1 := by revert a b; decide

instance : Subsingleton Cert.Pre_finite.S_.Idx := ⟨fun a b => funext fun k => k.elim0⟩

/-- The precondition says what the proof needs of the arguments. -/
theorem finite_real (x0 : FVec Ideal Cert.Pre_finite.S128x256x16 .f32) (x1 : FVec Ideal Cert.Pre_finite.S1x16 .f32)
    (x2 : FVec Ideal Cert.Pre_finite.S4096x1024 .bf16) (x3 : FVec Ideal Cert.Pre_finite.S4096x10752 .f32)
    (h : Cert.Pre_finite.fn (F := Ideal) x0 x1 x2 x3 = fun _ => 1#1) : Finite4 x0 x1 x2 x3 := by
  have e := congrFun h (fun k => k.elim0)
  obtain ⟨e, e3⟩ := two_ones e
  obtain ⟨e, e2⟩ := two_ones e
  obtain ⟨e0, e1⟩ := two_ones e
  refine ⟨real_of_all _ _ _ _ _ _ e0, real_of_all _ _ _ _ _ _ e1, real_of_all (extf .f32 x2 (by decide)) _ _ _ _ _ e2, fun t l hl => ?_⟩
  obtain ⟨y, hy⟩ := real_of_all _ _ _ _ _ _ e3 (ix2 t ⟨l.val, hl⟩)
  refine ⟨y, Eq.trans ?_ hy⟩
  pointwise

end Cert.Attn
end
-- ==== Proof.AttnCarry.lean ====
/- What a point stores into the two scratch arrays that carry key and value gradients to the block before. -/
module

public import proofs.«01_k».proof.Proof.AttnBlock

@[expose] public section

set_option maxRecDepth 16384

noncomputable section

namespace Cert.Attn

open Cert.Kernel4Ideal Cert.Kernel4Ideal.Gen Idealize.ShloMosaic Idealize.ShloMosaic.TcCoe Idealize.SL.Sem

theorem laneInb (p : Fin 2) (j : Fin 2) :
    ∀ a, (![p.val, 0, j.val * 64] : Fin 3 → ℕ) a + (![1, 128, 64] : Fin 3 → ℕ) a ≤ S2x128x128.size a := by
  intro a
  fin_cases a
  · exact p.isLt
  · exact Nat.le_refl 128
  · exact atKey j

/-- The two stores of pair `p`, a key head each. -/
abbrev lanes (p : Fin 2) (Q : Fin 2 → Vec Ideal S1x128x64 .f32) : List (View.Piece (Elt Ideal) S2x128x128 .f32) :=
  View.tilePieces (s := S2x128x128) ![1, 128, 64] (fun j : Fin 2 => ![p.val, 0, j.val * 64]) (laneInb p) Q 2 (le_refl 2)

/-- The key gradients a point hands on, and the value gradients. -/
def handK (A : Seen) (j : Fin 2) : Vec Ideal S1x128x64 .f32 := k0_pay23 (F := Ideal) (dks A j)
def handV (A : Seen) (j : Fin 2) : Vec Ideal S1x128x64 .f32 := k0_pay24 (F := Ideal) (dvs A j)

variable (m : (ℓ : Loc nD τ sig) → Buf (Elt Ideal) ℓ) (c : Dev nD)

/-- A point of kind C. -/
theorem hands_C (t : Fin cfg0.N) (h : conds0_C (grid0.coords t)) (p : Held Ideal) :
    (runC (F := Ideal) m c t h p).2.2.2.1 = lanes 0 (handK (seen m c t)) ∧ (runC (F := Ideal) m c t h p).2.2.2.2.1 = lanes 0 (handV (seen m c t)) := by
  unfold runC kernelRun0_C
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  constructor <;> sl_kernel_rfl

/-- A point of kind B. -/
theorem hands_B (t : Fin cfg0.N) (h : conds0_B (grid0.coords t)) (p : Held Ideal) :
    (runB (F := Ideal) m c t h p).2.2.2.1 = lanes 1 (handK (seen m c t)) ∧ (runB (F := Ideal) m c t h p).2.2.2.2.1 = lanes 1 (handV (seen m c t)) := by
  unfold runB kernelRun0_B
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  constructor <;> sl_kernel_rfl

/-- The filling of a scratch array. -/
abbrev filling (Z : Vec Ideal S2x128x128 .f32) : List (View.Piece (Elt Ideal) S2x128x128 .f32) :=
  [⟨Rect.unit ![0, 0, 0] ![2, 128, 128] inb_S2x128x128_S2x128x128_0_0_0, Z⟩]

/-- A point of kind A. -/
theorem hands_A (t : Fin cfg0.N) (h : conds0_A (grid0.coords t)) :
    (runA (F := Ideal) m c t h).2.2.2.1 = lanes 0 (handK (seen m c t)) ++ filling (k0_pay72 (F := Ideal))
      ∧ (runA (F := Ideal) m c t h).2.2.2.2.1 = lanes 0 (handV (seen m c t)) ++ filling (k0_pay73 (F := Ideal)) := by
  unfold runA kernelRun0_A
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  constructor <;> sl_kernel_rfl

/-- A point of kind D. -/
theorem hands_D (t : Fin cfg0.N) (h : conds0_D (grid0.coords t)) (p : Held Ideal) :
    (runD (F := Ideal) m c t h p).2.2.2.1 = lanes 0 (handK (seen m c t)) ++ filling (k0_pay72 (F := Ideal))
      ∧ (runD (F := Ideal) m c t h p).2.2.2.2.1 = lanes 0 (handV (seen m c t)) ++ filling (k0_pay73 (F := Ideal)) := by
  unfold runD kernelRun0_D
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_carried0, load_carried1, load_filled, load_filled']
  constructor <;> sl_kernel_rfl

/-! ## What the arrays hold -/

/-- Part `p` of a scratch array holds the two key heads' `Q`. -/
def Has (X : Vec Ideal S2x128x128 .f32) (p : Fin 2) (Q : Fin 2 → Vec Ideal S1x128x64 .f32) : Prop :=
  ∀ (j : Fin 2) (r : Fin 128) (d : Fin 64), X (ix3 p r ⟨j.val * 64 + d.val, by omega⟩) = Q j (ix3 0 r d)

theorem lanes_hit {v : View sig .tc .vmem S2x128x128 .f32} (f : v.ty.Contents (Elt Ideal)) (p : Fin 2) (Q : Fin 2 → Vec Ideal S1x128x64 .f32)
    (L : List (View.Piece (Elt Ideal) S2x128x128 .f32)) : Has (v.read (Elt Ideal) (v.writes (Elt Ideal) f (lanes p Q ++ L))) p Q := by
  intro j r d
  rw [View.writes_append]
  refine View.read_tilePieces v _ _ _ _ Q 2 _ _ j j.isLt (ix3 0 r d) (fun a => ?_) 2 (fun i hi => ?_)
  · match a with
    | ⟨0, _⟩ => rfl
    | ⟨1, _⟩ => exact (Nat.zero_add _).symm
    | ⟨2, _⟩ => rfl
  · show j.val * 64 + d.val < i.val * 64 ∨ i.val * 64 + 64 ≤ j.val * 64 + d.val
    have : i.val ≠ j.val := fun e => hi (Fin.ext e)
    have := d.isLt
    omega

theorem lanes_miss {v : View sig .tc .vmem S2x128x128 .f32} (f : v.ty.Contents (Elt Ideal)) (p p' : Fin 2) (hp : p' ≠ p) (Q : Fin 2 → Vec Ideal S1x128x64 .f32)
    (L : List (View.Piece (Elt Ideal) S2x128x128 .f32)) (r l : Fin 128) :
    v.read (Elt Ideal) (v.writes (Elt Ideal) f (lanes p Q ++ L)) (ix3 p' r l) = v.read (Elt Ideal) (v.writes (Elt Ideal) f L) (ix3 p' r l) := by
  rw [View.writes_append]
  refine View.read_tilePieces_miss v _ _ _ _ Q 2 _ _ 0 (fun i _ => ?_)
  show p'.val < p.val ∨ p.val + 1 ≤ p'.val
  have : p'.val ≠ p.val := fun e => hp (Fin.ext e)
  omega

theorem lanes_keep {v : View sig .tc .vmem S2x128x128 .f32} (f : v.ty.Contents (Elt Ideal)) (p p' : Fin 2) (hp : p' ≠ p) (Q R : Fin 2 → Vec Ideal S1x128x64 .f32)
    (h : Has (v.read (Elt Ideal) f) p' R) : Has (v.read (Elt Ideal) (v.writes (Elt Ideal) f (lanes p Q))) p' R := by
  intro j r d
  have e := lanes_miss (v := v) f p p' hp Q [] r ⟨j.val * 64 + d.val, by omega⟩
  rw [List.append_nil] at e
  exact e.trans (h j r d)

theorem lanes_set {v : View sig .tc .vmem S2x128x128 .f32} (f : v.ty.Contents (Elt Ideal)) (p : Fin 2) (Q : Fin 2 → Vec Ideal S1x128x64 .f32) :
    Has (v.read (Elt Ideal) (v.writes (Elt Ideal) f (lanes p Q))) p Q := by
  have e := lanes_hit (v := v) f p Q []
  rw [List.append_nil] at e
  exact e

theorem filled {v : View sig .tc .vmem S2x128x128 .f32} (f : v.ty.Contents (Elt Ideal)) (Z : Vec Ideal S2x128x128 .f32) (p r l) :
    v.read (Elt Ideal) (v.writes (Elt Ideal) f (filling Z)) (ix3 p r l) = Z (ix3 p r l) := by
  refine View.read_writes_cons_unit_of_mem (s := S2x128x128) v _ _ Z _ _ (ix3 p r l) rfl fun a => ?_
  match a with
  | ⟨0, _⟩ => exact (Nat.zero_add _).symm
  | ⟨1, _⟩ => exact (Nat.zero_add _).symm
  | ⟨2, _⟩ => exact (Nat.zero_add _).symm

/-- What the first block of all finds: nothing carried. -/
def nothing : Fin 2 → Vec Ideal S1x128x64 .f32 := fun _ _ => Ideal.ofBits .f32 0x00000000#32

theorem zeroK (p : Fin 2) : Has (k0_pay72 (F := Ideal)) p nothing := fun j r d => rfl
theorem zeroV (p : Fin 2) : Has (k0_pay73 (F := Ideal)) p nothing := fun j r d => rfl

theorem lanes_zero {v : View sig .tc .vmem S2x128x128 .f32} (f : v.ty.Contents (Elt Ideal)) (p p' : Fin 2) (hp : p' ≠ p) (Q : Fin 2 → Vec Ideal S1x128x64 .f32)
    (Z : Vec Ideal S2x128x128 .f32) (hZ : Has Z p' nothing) : Has (v.read (Elt Ideal) (v.writes (Elt Ideal) f (lanes p Q ++ filling Z))) p' nothing := by
  intro j r d
  exact (lanes_miss f p p' hp Q _ r _).trans ((filled f Z _ _ _).trans (hZ j r d))

theorem Has.of_eq {X Y : Vec Ideal S2x128x128 .f32} {p : Fin 2} {Q : Fin 2 → Vec Ideal S1x128x64 .f32} (e : X = Y) (h : Has Y p Q) : Has X p Q := by
  rw [e]; exact h

/-- The two arrays in a state of the buffers. -/
def HasBoth (H : Held Ideal) (p : Fin 2) (Q R : Fin 2 → Vec Ideal S1x128x64 .f32) : Prop := Has H.2.2.2.1 p Q ∧ Has H.2.2.2.2 p R

/-! ## What each kind of point leaves -/

/-- A scratch array after the stores `L` into it, from anything or from `X`. -/
abbrev new0 (L : List (View.Piece (Elt Ideal) S2x128x128 .f32)) : Vec Ideal S2x128x128 .f32 :=
  VS0_0.read (Elt Ideal) (VS0_0.writes (Elt Ideal) VS0_0.junk L)
abbrev new1 (L : List (View.Piece (Elt Ideal) S2x128x128 .f32)) : Vec Ideal S2x128x128 .f32 :=
  VS0_1.read (Elt Ideal) (VS0_1.writes (Elt Ideal) VS0_1.junk L)
abbrev over0 (X : Vec Ideal S2x128x128 .f32) (L : List (View.Piece (Elt Ideal) S2x128x128 .f32)) : Vec Ideal S2x128x128 .f32 :=
  scM0_0.view.read (Elt Ideal) (scM0_0.view.writes (Elt Ideal) ((Memref.isWhole_whole _ : scM0_0.IsWhole).unread X) L)
abbrev over1 (X : Vec Ideal S2x128x128 .f32) (L : List (View.Piece (Elt Ideal) S2x128x128 .f32)) : Vec Ideal S2x128x128 .f32 :=
  scM0_1.view.read (Elt Ideal) (scM0_1.view.writes (Elt Ideal) ((Memref.isWhole_whole _ : scM0_1.IsWhole).unread X) L)

set_option maxHeartbeats 2000000 in
theorem after_A (t : Fin cfg0.N) (h : conds0_A (grid0.coords t)) :
    HasBoth (leavesA m c t h) 0 (handK (seen m c t)) (handV (seen m c t)) ∧ HasBoth (leavesA m c t h) 1 nothing nothing := by
  have e0 : (leavesA m c t h).2.2.2.1 = new0 (lanes 0 (handK (seen m c t)) ++ filling (k0_pay72 (F := Ideal))) := by
    have e := (hands_A m c t h).1
    unfold leavesA
    show new0 (runA m c t h).2.2.2.1 = _
    rw [e]
  have e1 : (leavesA m c t h).2.2.2.2 = new1 (lanes 0 (handV (seen m c t)) ++ filling (k0_pay73 (F := Ideal))) := by
    have e := (hands_A m c t h).2
    unfold leavesA
    show new1 (runA m c t h).2.2.2.2.1 = _
    rw [e]
  exact ⟨⟨.of_eq e0 (lanes_hit _ _ _ _), .of_eq e1 (lanes_hit _ _ _ _)⟩,
    .of_eq e0 (lanes_zero _ 0 1 (by decide) _ _ (zeroK 1)), .of_eq e1 (lanes_zero _ 0 1 (by decide) _ _ (zeroV 1))⟩

set_option maxHeartbeats 2000000 in
theorem after_D (t : Fin cfg0.N) (h : conds0_D (grid0.coords t)) (H : Held Ideal) :
    HasBoth (leavesD m c t h H) 0 (handK (seen m c t)) (handV (seen m c t)) ∧ HasBoth (leavesD m c t h H) 1 nothing nothing := by
  have e0 : (leavesD m c t h H).2.2.2.1 = new0 (lanes 0 (handK (seen m c t)) ++ filling (k0_pay72 (F := Ideal))) := by
    have e := (hands_D m c t h H).1
    unfold leavesD
    show new0 (runD m c t h H).2.2.2.1 = _
    rw [e]
  have e1 : (leavesD m c t h H).2.2.2.2 = new1 (lanes 0 (handV (seen m c t)) ++ filling (k0_pay73 (F := Ideal))) := by
    have e := (hands_D m c t h H).2
    unfold leavesD
    show new1 (runD m c t h H).2.2.2.2.1 = _
    rw [e]
  exact ⟨⟨.of_eq e0 (lanes_hit _ _ _ _), .of_eq e1 (lanes_hit _ _ _ _)⟩,
    .of_eq e0 (lanes_zero _ 0 1 (by decide) _ _ (zeroK 1)), .of_eq e1 (lanes_zero _ 0 1 (by decide) _ _ (zeroV 1))⟩

/-- What a scratch array held, under the stores of one pair: its own part is set, the other kept. -/
theorem kept0 (X : Vec Ideal S2x128x128 .f32) (p p' : Fin 2) (hp : p' ≠ p) (Q R : Fin 2 → Vec Ideal S1x128x64 .f32) (h : Has X p' R) :
    Has (scM0_0.view.read (Elt Ideal) (scM0_0.view.writes (Elt Ideal) ((Memref.isWhole_whole _ : scM0_0.IsWhole).unread X) (lanes p Q))) p' R :=
  lanes_keep _ p p' hp _ _ (.of_eq ((Memref.isWhole_whole _ : scM0_0.IsWhole).read_unread X) h)

theorem kept1 (X : Vec Ideal S2x128x128 .f32) (p p' : Fin 2) (hp : p' ≠ p) (Q R : Fin 2 → Vec Ideal S1x128x64 .f32) (h : Has X p' R) :
    Has (scM0_1.view.read (Elt Ideal) (scM0_1.view.writes (Elt Ideal) ((Memref.isWhole_whole _ : scM0_1.IsWhole).unread X) (lanes p Q))) p' R :=
  lanes_keep _ p p' hp _ _ (.of_eq ((Memref.isWhole_whole _ : scM0_1.IsWhole).read_unread X) h)

set_option maxHeartbeats 2000000 in
theorem after_C (t : Fin cfg0.N) (h : conds0_C (grid0.coords t)) (H : Held Ideal) :
    HasBoth (leavesC m c t h H) 0 (handK (seen m c t)) (handV (seen m c t))
      ∧ ∀ Q R, HasBoth H 1 Q R → HasBoth (leavesC m c t h H) 1 Q R := by
  have e0 : (leavesC m c t h H).2.2.2.1 = over0 H.2.2.2.1 (lanes 0 (handK (seen m c t))) := by
    have e := (hands_C m c t h H).1
    unfold leavesC
    show over0 H.2.2.2.1 (runC m c t h H).2.2.2.1 = _
    rw [e]
  have e1 : (leavesC m c t h H).2.2.2.2 = over1 H.2.2.2.2 (lanes 0 (handV (seen m c t))) := by
    have e := (hands_C m c t h H).2
    unfold leavesC
    show over1 H.2.2.2.2 (runC m c t h H).2.2.2.2.1 = _
    rw [e]
  exact ⟨⟨.of_eq e0 (lanes_set _ _ _), .of_eq e1 (lanes_set _ _ _)⟩, fun Q R hQ =>
    ⟨.of_eq e0 (kept0 _ 0 1 (by decide) _ _ hQ.1), .of_eq e1 (kept1 _ 0 1 (by decide) _ _ hQ.2)⟩⟩

set_option maxHeartbeats 2000000 in
theorem after_B (t : Fin cfg0.N) (h : conds0_B (grid0.coords t)) (H : Held Ideal) :
    HasBoth (leavesB m c t h H) 1 (handK (seen m c t)) (handV (seen m c t))
      ∧ ∀ Q R, HasBoth H 0 Q R → HasBoth (leavesB m c t h H) 0 Q R := by
  have e0 : (leavesB m c t h H).2.2.2.1 = over0 H.2.2.2.1 (lanes 1 (handK (seen m c t))) := by
    have e := (hands_B m c t h H).1
    unfold leavesB
    show over0 H.2.2.2.1 (runB m c t h H).2.2.2.1 = _
    rw [e]
  have e1 : (leavesB m c t h H).2.2.2.2 = over1 H.2.2.2.2 (lanes 1 (handV (seen m c t))) := by
    have e := (hands_B m c t h H).2
    unfold leavesB
    show over1 H.2.2.2.2 (runB m c t h H).2.2.2.2.1 = _
    rw [e]
  exact ⟨⟨.of_eq e0 (lanes_set _ _ _), .of_eq e1 (lanes_set _ _ _)⟩, fun Q R hQ =>
    ⟨.of_eq e0 (kept0 _ 1 0 (by decide) _ _ hQ.1), .of_eq e1 (kept1 _ 1 0 (by decide) _ _ hQ.2)⟩⟩

/-! ## After point `n` -/

theorem now_opens (n : ℕ) (hn : n < 64) (h32 : n % 32 = 0) :
    HasBoth (now m c n hn) 0 (handK (seen m c (pt n hn))) (handV (seen m c (pt n hn))) ∧ HasBoth (now m c n hn) 1 nothing nothing := by
  rcases kind (pt n hn) with h | h | h | h
  · rw [show now m c n hn = _ from outs_A m c (pt n hn) h]
    exact after_A m c _ h
  · exact absurd ((hcond0_1 (pt n hn)).mpr h32) h.2.1
  · exact absurd ((hcond0_1 (pt n hn)).mpr h32) h.2.1
  · have h64 : ¬n % 64 = 0 := fun e => h.1 ((hcond0_0 (pt n hn)).mpr e)
    rw [show now m c n hn = _ from outs_pos m c (pt n hn) (fun e => h64 (by have : n = 0 := e; omega)), step_D _ _ _ _ h]
    exact after_D m c _ h _

theorem now_even (n : ℕ) (hn : n < 64) (he : n % 2 = 0) (h32 : ¬n % 32 = 0) :
    HasBoth (now m c n hn) 0 (handK (seen m c (pt n hn))) (handV (seen m c (pt n hn)))
      ∧ ∀ Q R, HasBoth (now m c (n - 1) (by omega)) 1 Q R → HasBoth (now m c n hn) 1 Q R := by
  have h : conds0_C (grid0.coords (pt n hn)) := by
    rcases kind (pt n hn) with h | h | h | h
    · exact absurd ((hcond0_1 _).mp h.2.1) h32
    · exact absurd he (by have := h.2.2.1; rw [hcond0_2] at this; exact this)
    · exact h
    · exact absurd ((hcond0_1 _).mp h.2.1) h32
  rw [show now m c n hn = _ from outs_pos m c (pt n hn) (fun e => h32 (by have : n = 0 := e; omega)), step_C _ _ _ _ h]
  exact after_C m c _ h _

theorem now_odd (n : ℕ) (hn : n < 64) (ho : n % 2 = 1) :
    HasBoth (now m c n hn) 1 (handK (seen m c (pt n hn))) (handV (seen m c (pt n hn)))
      ∧ ∀ Q R, HasBoth (now m c (n - 1) (by omega)) 0 Q R → HasBoth (now m c n hn) 0 Q R := by
  obtain ⟨h, e⟩ := now_second m c n hn ho
  rw [e]
  exact after_B m c _ h _

theorem now_even_sets (n : ℕ) (hn : n < 64) (he : n % 2 = 0) :
    HasBoth (now m c n hn) 0 (handK (seen m c (pt n hn))) (handV (seen m c (pt n hn))) := by
  by_cases h32 : n % 32 = 0
  · exact (now_opens m c n hn h32).1
  · exact (now_even m c n hn he h32).1

/-! ## What a point takes up -/

/-- Two points on, pair by pair. -/
theorem taken_step (n : ℕ) (hn : n + 2 < 64) (h32 : ¬(n + 2) % 32 = 0) (h31 : ¬(n + 1) % 32 = 0) (p : Fin 2) (hp : n % 2 = p.val) :
    Has (taken m c (n + 2) hn).1 p (handK (seen m c (pt n (by omega)))) ∧ Has (taken m c (n + 2) hn).2 p (handV (seen m c (pt n (by omega)))) := by
  unfold taken
  rw [if_neg h32]
  rcases p with ⟨p, hp'⟩
  interval_cases p
  · have hp : n % 2 = 0 := hp
    exact (now_odd m c (n + 1) (by omega) (by omega)).2 _ _ (now_even_sets m c n (by omega) hp)
  · have hp : n % 2 = 1 := hp
    exact (now_even m c (n + 1) (by omega) (by omega) h31).2 _ _ (now_odd m c n (by omega) hp).1

/-- The last block of a sequence, taken first, finds nothing. -/
theorem taken_last (b p : Fin 2) : Has (taken m c (ptOf b 15 p) (ptOf_lt b 15 p)).1 p nothing ∧ Has (taken m c (ptOf b 15 p) (ptOf_lt b 15 p)).2 p nothing := by
  have hv : ptOf b 15 p = 32 * b.val + p.val := by unfold ptOf; show 2 * (16 * b.val + (15 - 15)) + p.val = _; omega
  unfold taken
  rcases p with ⟨p, hp⟩
  interval_cases p
  · rw [if_pos (by rw [hv]; show (32 * b.val + 0) % 32 = 0; omega)]
    exact ⟨zeroK 0, zeroV 0⟩
  · rw [if_neg (by rw [hv]; show ¬(32 * b.val + 1) % 32 = 0; omega)]
    exact (now_opens m c (ptOf b 15 1 - 1) _ (by rw [show ptOf b 15 1 = 32 * b.val + 1 from hv]; omega)).2

/-- Any other block finds what the block after it left. -/
theorem taken_other (b p : Fin 2) (w : Fin 16) (hw : w.val < 15) :
    Has (taken m c (ptOf b w p) (ptOf_lt b w p)).1 p (handK (seenAt m c b ⟨w.val + 1, by omega⟩ p))
      ∧ Has (taken m c (ptOf b w p) (ptOf_lt b w p)).2 p (handV (seenAt m c b ⟨w.val + 1, by omega⟩ p)) := by
  have hv : ptOf b w p = ptOf b ⟨w.val + 1, by omega⟩ p + 2 := by
    unfold ptOf
    show 2 * (16 * b.val + (15 - w.val)) + p.val = 2 * (16 * b.val + (15 - (w.val + 1))) + p.val + 2
    omega
  have h32 : ¬ptOf b w p % 32 = 0 := by unfold ptOf; omega
  have h31 : ¬(ptOf b w p - 1) % 32 = 0 := by unfold ptOf; omega
  have hpar : ptOf b w p % 2 = p.val := by unfold ptOf; omega
  have hlt := ptOf_lt b w p
  unfold seenAt
  simp only [hv] at h32 hpar hlt h31 ⊢
  exact taken_step m c _ hlt h32 h31 p (by omega)

end Cert.Attn
end
-- ==== Proof.AttnReference.lean ====
/- The reference's gradient of one query of one head, entry by entry. -/
module

public import proofs.«01_k».proof.Proof.AttnSoftmax

@[expose] public section

set_option maxRecDepth 16384

noncomputable section

namespace Cert.Attn

open Cert.Reference4Ideal Cert.Reference4Ideal.Gen Cert.Reference4Ideal.Read Idealize.ShloMosaic Idealize.ShloMosaic.TcCoe

theorem word_zero : Ideal.ofBits .f32 0x00000000#32 = 0 := by simp [Ideal.ofBits, Ideal.ieee]
theorem word_one : Ideal.ofBits .f32 0x3F800000#32 = 1 := by
  simp [Ideal.ofBits, Ideal.ieee, -EReal.coe_mul]
  norm_num

variable {x0 : S128x256x16.Idx → EReal} {x1 : S1x16.Idx → EReal} {x2 : S4096x1024.Idx → EReal} {x3 : S4096x10752.Idx → EReal}

/-- Token `q` of block `n` within its sequence, and element `d` of head `4h+g`. -/
abbrev place (n : Fin 16) (q : Fin 128) : Fin 2048 := ⟨n.val * 128 + q.val, by omega⟩
abbrev elt (h g : Fin 4) (d : Fin 64) : Fin 1024 := ⟨(h.val * 4 + g.val) * 64 + d.val, by omega⟩

theorem gate_at (b : Fin 2) (n : Fin 16) (q : Fin 128) (h g : Fin 4) (d : Fin 64) :
    val_main_v5 (F := Ideal) x3 (ix3 b (place n q) (elt h g d)) = x3 (ix2 (tok b n q) ⟨1536 + ((h.val * 4 + g.val) * 64 + d.val), by omega⟩) := by
  rw [val_main_v5_apply, val_main_v1_apply, val_main_v0_apply]
  refine congrArg x3 (funext fun a => Fin.ext ?_)
  match a with
  | ⟨0, _⟩ =>
    show ((b.val * 2048 + (n.val * 128 + q.val)) * 2560 + (1536 + ((h.val * 4 + g.val) * 64 + d.val))) / 2560 = (16 * b.val + n.val) * 128 + q.val
    omega
  | ⟨1, _⟩ =>
    show ((b.val * 2048 + (n.val * 128 + q.val)) * 2560 + (1536 + ((h.val * 4 + g.val) * 64 + d.val))) % 2560 = 1536 + ((h.val * 4 + g.val) * 64 + d.val)
    omega

theorem dy_at (b : Fin 2) (n : Fin 16) (q : Fin 128) (h g : Fin 4) (d : Fin 64) :
    val_main_v7 (F := Ideal) x2 (ix3 b (place n q) (elt h g d)) = x2 (ix2 (tok b n q) (elt h g d)) := by
  rw [val_main_v7_apply, val_main_v6_apply]
  refine congrArg x2 (funext fun a => Fin.ext ?_)
  match a with
  | ⟨0, _⟩ =>
    show ((b.val * 2048 + (n.val * 128 + q.val)) * 1024 + ((h.val * 4 + g.val) * 64 + d.val)) / 1024 = (16 * b.val + n.val) * 128 + q.val
    omega
  | ⟨1, _⟩ =>
    show ((b.val * 2048 + (n.val * 128 + q.val)) * 1024 + ((h.val * 4 + g.val) * 64 + d.val)) % 1024 = (h.val * 4 + g.val) * 64 + d.val
    omega

variable (hf : Finite4 x0 x1 x2 x3) (b : Fin 2) (n : Fin 16) (q : Fin 128) (h g : Fin 4)
include hf

theorem den_at : val_main_v83 (F := Ideal) x0 x1 x3 (ix6 b h g n q (0 : Fin 1)) = ((refRow x0 x1 x2 x3 b n q h g).den : EReal) := by
  rw [val_main_v83_apply, val_main_v82_apply, refRow_z hf,
    (congrArg _ (eq_ix5 _) : val_main_v81 (F := Ideal) x0 x1 x3 (idx_main_v82 (ix6 b h g n q (0 : Fin 1))) = val_main_v81 (F := Ideal) x0 x1 x3 (ix5 b h g n q)),
    val_main_v81_apply]
  have e : ∀ s : Fin 256, val_main_v76 (F := Ideal) x0 x1 x3 (idx_main_v81 (ix5 b h g n q) s) = ((refRow x0 x1 x2 x3 b n q h g).e s : EReal) :=
    fun s => (congrArg _ (eq_ix6 _)).trans (refRow_e hf b n q h g s)
  simp only [e]
  show (Ideal.ofBits .f32 0x00000000#32 + _) + _ = _
  rw [word_zero, zero_add, coe_sum, ← EReal.coe_add]
  rfl

theorem prob_at (s : Fin 256) : val_main_v85 (F := Ideal) x0 x1 x3 (ix6 b h g n q s)
    = (((refRow x0 x1 x2 x3 b n q h g).e s / (refRow x0 x1 x2 x3 b n q h g).den : ℝ) : EReal) := by
  rw [val_main_v85_apply, val_main_v84_apply, refRow_e hf,
    (congrArg _ (eq_ix6 _) : val_main_v83 (F := Ideal) x0 x1 x3 (idx_main_v84 (ix6 b h g n q s)) = val_main_v83 (F := Ideal) x0 x1 x3 (ix6 b h g n q (0 : Fin 1))),
    den_at hf]
  exact div_real _ (refRow_good hf b n q h g).den_pos.ne'

theorem square_at : val_main_v88 (F := Ideal) x0 x1 x3 (ix6 b h g n q (0 : Fin 1))
    = ((1 / ((refRow x0 x1 x2 x3 b n q h g).den * (refRow x0 x1 x2 x3 b n q h g).den) : ℝ) : EReal) := by
  have hp := (refRow_good hf b n q h g).den_pos.ne'
  rw [val_main_v88_apply, val_main_v86_apply, den_at hf]
  show Ideal.div (Ideal.ofBits .f32 0x3F800000#32) (_ * _) = _
  rw [word_one, ← EReal.coe_mul, ← EReal.coe_one]
  exact div_real _ (mul_ne_zero hp hp)

theorem out_at (d : Fin 64) : val_main_v90 (F := Ideal) x0 x1 x3 (ix6 b n q h g d) = ((refRow x0 x1 x2 x3 b n q h g).o d : EReal) := by
  rw [val_main_v90_apply, val_main_v89_apply]
  have e : ∀ s : Fin 256, val_main_v25 (F := Ideal) x3 (lidx_main_v89 (idx_main_v90 (ix6 b n q h g d)) s) * val_main_v85 (F := Ideal) x0 x1 x3 (ridx_main_v89 (idx_main_v90 (ix6 b n q h g d)) s)
      = (((refRow x0 x1 x2 x3 b n q h g).v s d * ((refRow x0 x1 x2 x3 b n q h g).e s / (refRow x0 x1 x2 x3 b n q h g).den) : ℝ) : EReal) := by
    intro s
    rw [EReal.coe_mul, ← prob_at hf, ← refRow_v hf]
    exact congrArg₂ _ (congrArg _ (eq_ix5 _)) (congrArg _ (eq_ix6 _))
  simp only [e]
  rw [coe_sum]
  congr 1
  unfold RRow.o
  rw [Finset.sum_div]
  exact Finset.sum_congr rfl fun s _ => by ring

theorem merged_at (d : Fin 64) : val_main_v91 (F := Ideal) x0 x1 x3 (ix3 b (place n q) (elt h g d)) = ((refRow x0 x1 x2 x3 b n q h g).o d : EReal) := by
  rw [← out_at hf]
  unfold val_main_v91
  refine shapeCast_apply _ _ _ _ ?_
  rw [Shape.rowMajor_val_six, Shape.rowMajor_val_three]
  show ((((b.val * 16 + n.val) * 128 + q.val) * 4 + h.val) * 4 + g.val) * 64 + d.val = (b.val * 2048 + (n.val * 128 + q.val)) * 1024 + ((h.val * 4 + g.val) * 64 + d.val)
  omega

theorem sig_at (d : Fin 64) : val_main_v92_2 (F := Ideal) x3 (ix3 b (place n q) (elt h g d)) = (sig ((refRow x0 x1 x2 x3 b n q h g).ag d) : EReal) := by
  rw [val_main_v92_2_apply, val_main_call1_v3_apply, val_main_call1_v1_apply, val_main_call1_v0_apply, gate_at, refRow_ag hf, ← logistic_real,
    val_main_call1_v4_apply, val_main_call1_v2_apply]
  show Ideal.div (Ideal.ofBits .f32 0x3F800000#32) (Ideal.ofBits .f32 0x3F800000#32 + _) = Ideal.div 1 (1 + _)
  rw [word_one]
  rfl

theorem gated_at (d : Fin 64) : val_main_v95 (F := Ideal) x2 x3 (ix3 b (place n q) (elt h g d)) = ((refRow x0 x1 x2 x3 b n q h g).dO d : EReal) := by
  rw [val_main_v95_apply, val_main_v92_0_apply, gate_at, dy_at, refRow_ag hf, refRow_dy hf, sig_at hf]
  show _ * (_ * _) = _
  rw [← EReal.coe_mul, ← EReal.coe_mul]
  rfl

/-- The gradient of the gate. -/
theorem dag_at (d : Fin 64) : val_main_v96 (F := Ideal) x0 x1 x2 x3 (ix3 b (place n q) (elt h g d)) = ((refRow x0 x1 x2 x3 b n q h g).dag d : EReal) := by
  rw [val_main_v96_apply, val_main_call2_v1_apply, val_main_call2_v2_apply, val_main_call2_v0_apply, val_main_v94_apply, val_main_v92_1_apply,
    val_main_call1_v7_apply, gate_at, dy_at, merged_at hf, refRow_ag hf, refRow_dy hf, sig_at hf]
  show (_ * _) * _ + (_ * (_ * _)) * (_ * (Ideal.ofBits .f32 0x3F800000#32 - _)) = _
  rw [word_one, ← EReal.coe_one]
  simp only [← EReal.coe_mul, ← EReal.coe_sub, ← EReal.coe_add]
  congr 1
  unfold RRow.dag
  ring

/-- The gradient of the attention's output. -/
theorem dO_at (d : Fin 64) : val_main_v98 (F := Ideal) x2 x3 (ix6 b n h d g q) = ((refRow x0 x1 x2 x3 b n q h g).dO d : EReal) := by
  rw [val_main_v98_apply, ← gated_at hf]
  refine (congrArg _ (eq_ix6 _)).trans ?_
  unfold val_main_v97
  refine shapeCast_apply _ _ _ _ ?_
  rw [Shape.rowMajor_val_six, Shape.rowMajor_val_three]
  show (b.val * 2048 + (n.val * 128 + q.val)) * 1024 + ((h.val * 4 + g.val) * 64 + d.val) = ((((b.val * 16 + n.val) * 128 + q.val) * 4 + h.val) * 4 + g.val) * 64 + d.val
  omega

theorem D_at (s : Fin 256) : val_main_v100 (F := Ideal) x2 x3 (ix6 b h g n q s) = ((refRow x0 x1 x2 x3 b n q h g).D s : EReal) := by
  rw [val_main_v100_apply, val_main_v99_apply]
  have e : ∀ d : Fin 64, val_main_v98 (F := Ideal) x2 x3 (lidx_main_v99 (idx_main_v100 (ix6 b h g n q s)) d) * val_main_v25 (F := Ideal) x3 (ridx_main_v99 (idx_main_v100 (ix6 b h g n q s)) d)
      = (((refRow x0 x1 x2 x3 b n q h g).dO d * (refRow x0 x1 x2 x3 b n q h g).v s d : ℝ) : EReal) := by
    intro d
    rw [EReal.coe_mul, ← dO_at hf, ← refRow_v hf]
    exact congrArg₂ _ (congrArg _ (eq_ix6 _)) (congrArg _ (eq_ix5 _))
  simp only [e]
  rw [coe_sum]
  rfl

theorem drow_at : val_main_v108 (F := Ideal) x0 x1 x2 x3 (ix6 b h g n q (0 : Fin 1))
    = ((-((refRow x0 x1 x2 x3 b n q h g).drow / (refRow x0 x1 x2 x3 b n q h g).den) : ℝ) : EReal) := by
  have e : ∀ s : Fin 256, val_main_v105 (F := Ideal) x0 x1 x2 x3 (idx_main_v106 (ix5 b h g n q) s)
      = (((refRow x0 x1 x2 x3 b n q h g).D s * (1 / ((refRow x0 x1 x2 x3 b n q h g).den * (refRow x0 x1 x2 x3 b n q h g).den)) * (refRow x0 x1 x2 x3 b n q h g).e s : ℝ) : EReal) := by
    intro s
    rw [(congrArg _ (eq_ix6 _) : val_main_v105 (F := Ideal) x0 x1 x2 x3 (idx_main_v106 (ix5 b h g n q) s) = val_main_v105 (F := Ideal) x0 x1 x2 x3 (ix6 b h g n q s)),
      val_main_v105_apply, val_main_v104_apply, val_main_v103_apply, D_at hf, refRow_e hf,
      (congrArg _ (eq_ix6 _) : val_main_v88 (F := Ideal) x0 x1 x3 (idx_main_v103 (ix6 b h g n q s)) = val_main_v88 (F := Ideal) x0 x1 x3 (ix6 b h g n q (0 : Fin 1))),
      square_at hf]
    show _ * _ * _ = _
    rw [← EReal.coe_mul, ← EReal.coe_mul]
  rw [val_main_v108_apply, ← RRow.sum_D, EReal.coe_neg, ← coe_sum]
  refine congrArg (fun z : EReal => -z) ?_
  have c : val_main_v107 (F := Ideal) x0 x1 x2 x3 (ix6 b h g n q (0 : Fin 1)) = val_main_v106 (F := Ideal) x0 x1 x2 x3 (ix5 b h g n q) := by
    unfold val_main_v107
    refine shapeCast_apply _ _ _ _ ?_
    rw [Shape.rowMajor_val_six, Shape.rowMajor_val_five]
    show (((b.val * 4 + h.val) * 4 + g.val) * 16 + n.val) * 128 + q.val = ((((b.val * 4 + h.val) * 4 + g.val) * 16 + n.val) * 128 + q.val) * 1 + 0
    omega
  rw [c, val_main_v106_apply]
  simp only [e]
  show Ideal.ofBits .f32 0x00000000#32 + _ = _
  rw [word_zero, zero_add]

/-- The gradient of a score. -/
theorem ds_at (s : Fin 256) : val_main_v122 (F := Ideal) x0 x1 x2 x3 (ix6 b h g n q s) = ((refRow x0 x1 x2 x3 b n q h g).ds s : EReal) := by
  have e1 : val_main_v111 (F := Ideal) x0 x1 x2 x3 (idx_main_v112 (ix6 b h g n q s))
      = ((-((refRow x0 x1 x2 x3 b n q h g).drow / (refRow x0 x1 x2 x3 b n q h g).den) : ℝ) : EReal) := by
    rw [val_main_v111_apply, Fintype.sum_unique, ← drow_at hf]
    show Ideal.ofBits .f32 0x00000000#32 + _ = _
    rw [word_zero, zero_add]
    exact congrArg _ (eq_ix6 _)
  have e : val_main_v120 (F := Ideal) x0 x1 x2 x3 (ix6 b h g n q s) = ((refRow x0 x1 x2 x3 b n q h g).ds s : EReal) := by
    rw [val_main_v120_apply, val_main_v113_apply, val_main_v112_apply, val_main_v110_apply, val_main_v109_apply, D_at hf, refRow_e hf, e1,
      (congrArg _ (eq_ix6 _) : val_main_v83 (F := Ideal) x0 x1 x3 (idx_main_v109 (ix6 b h g n q s)) = val_main_v83 (F := Ideal) x0 x1 x3 (ix6 b h g n q (0 : Fin 1))),
      den_at hf, ← RRow.ds_ref]
    show (Ideal.div _ _ + _) * _ = _
    rw [div_real _ (refRow_good hf b n q h g).den_pos.ne', ← EReal.coe_add, ← EReal.coe_mul]
  rw [val_main_v122_apply, e]
  by_cases hm : val_main_v67_1 (F := Ideal) (ix6 b h g n q s) = 1#1
  · rw [hm]
    rfl
  · rw [show val_main_v67_1 (F := Ideal) (ix6 b h g n q s) = 0#1 from (by decide : ∀ x : BitVec 1, x ≠ 1#1 → x = 0#1) _ hm]
    show Ideal.ofBits .f32 0x00000000#32 = _
    rw [word_zero]
    unfold RRow.ds
    rw [refRow_off hf b n q h g s ((mask_at b h g n q s).symm.trans ((by decide : ∀ x : BitVec 1, x ≠ 1#1 → x = 0#1) _ hm)), zero_div, zero_mul, EReal.coe_zero]

/-- The scaled gradient of a score. -/
theorem scaled_at (s : Fin 256) : val_main_v131 (F := Ideal) x0 x1 x2 x3 (ix6 b h n s q g) = (((refRow x0 x1 x2 x3 b n q h g).ds s * (1 / 8) : ℝ) : EReal) := by
  rw [val_main_v131_apply, EReal.coe_mul, ← ds_at hf, ← eighth]
  refine (congrArg _ (eq_ix6 _)).trans (val_main_v130_apply ..)

/-- The gradient of a query. -/
theorem dq_at (d : Fin 64) : val_main_v154 (F := Ideal) x0 x1 x2 x3 (ix3 b (place n q) (elt h g d)) = ((refRow x0 x1 x2 x3 b n q h g).dq d : EReal) := by
  have c : val_main_v154 (F := Ideal) x0 x1 x2 x3 (ix3 b (place n q) (elt h g d)) = val_main_v133 (F := Ideal) x0 x1 x2 x3 (ix6 b n q h g d) := by
    unfold val_main_v154
    refine shapeCast_apply _ _ _ _ ?_
    rw [Shape.rowMajor_val_six, Shape.rowMajor_val_three]
    show ((((b.val * 16 + n.val) * 128 + q.val) * 4 + h.val) * 4 + g.val) * 64 + d.val = (b.val * 2048 + (n.val * 128 + q.val)) * 1024 + ((h.val * 4 + g.val) * 64 + d.val)
    omega
  rw [c, val_main_v133_apply, val_main_v132_apply]
  have e : ∀ s : Fin 256, val_main_v131 (F := Ideal) x0 x1 x2 x3 (lidx_main_v132 (idx_main_v133 (ix6 b n q h g d)) s) * val_main_v17 (F := Ideal) x3 (ridx_main_v132 (idx_main_v133 (ix6 b n q h g d)) s)
      = (((refRow x0 x1 x2 x3 b n q h g).ds s * (1 / 8) * (refRow x0 x1 x2 x3 b n q h g).k s d : ℝ) : EReal) := by
    intro s
    rw [EReal.coe_mul, ← scaled_at hf, ← refRow_k hf]
    exact congrArg₂ _ (congrArg _ (eq_ix6 _)) (congrArg _ (eq_ix5 _))
  simp only [e]
  rw [coe_sum]
  congr 1
  unfold RRow.dq
  rw [Finset.sum_div]
  exact Finset.sum_congr rfl fun s _ => by ring

end Cert.Attn
end
-- ==== Proof.AttnArrays.lean ====
/- The blocks a point of the attention's backward kernel reads, as entries of the arguments. -/
module

public import proofs.«01_k».proof.Proof.AttnProbs

@[expose] public section

set_option maxRecDepth 16384

noncomputable section

namespace Cert.Attn

open Cert.Kernel4Ideal Cert.Kernel4Ideal.Gen Idealize.ShloMosaic Idealize.ShloMosaic.TcCoe Idealize.SL.Sem
open Cert.Reference4Ideal.Read

variable (m : (ℓ : Loc nD τ sig) → Buf (Elt Ideal) ℓ) (c : Dev nD)

/-- The block before, or the first block itself. -/
def prev (w : Fin 16) : Fin 16 := ⟨w.val - 1, by omega⟩

/-- Row number of block `t` of the grid. -/
def rowAt (t : Fin cfg0.N) : ℕ := (t.val / 32 * 16 + (15 - t.val % 32 / 2)) * 128
def rowBefore (t : Fin cfg0.N) : ℕ := (t.val / 32 * 16 + (15 - t.val % 32 / 2 - 1)) * 128

theorem rowAt_pt (b : Fin 2) (w : Fin 16) (p : Fin 2) : rowAt (pt (ptOf b w p) (ptOf_lt b w p)) = (16 * b.val + w.val) * 128 := by
  show ((2 * (16 * b.val + (15 - w.val)) + p.val) / 32 * 16 + (15 - (2 * (16 * b.val + (15 - w.val)) + p.val) % 32 / 2)) * 128 = _
  omega

theorem rowBefore_pt (b : Fin 2) (w : Fin 16) (p : Fin 2) : rowBefore (pt (ptOf b w p) (ptOf_lt b w p)) = (16 * b.val + (w.val - 1)) * 128 := by
  show ((2 * (16 * b.val + (15 - w.val)) + p.val) / 32 * 16 + (15 - (2 * (16 * b.val + (15 - w.val)) + p.val) % 32 / 2 - 1)) * 128 = _
  omega

theorem pair_pt (b : Fin 2) (w : Fin 16) (p : Fin 2) : (pt (ptOf b w p) (ptOf_lt b w p)).val % 2 = p.val := by
  show (2 * (16 * b.val + (15 - w.val)) + p.val) % 2 = _
  omega

theorem index0 (t : Fin cfg0.N) : win0_0.index t 0 = rowAt t ∧ win0_0.index t 1 = t.val % 2 * 512 :=
  (by decide +kernel : ∀ t : Fin grid0.N, win0_0.index t 0 = rowAt t ∧ win0_0.index t 1 = t.val % 2 * 512) t

theorem seen_q (b : Fin 2) (w : Fin 16) (p : Fin 2) (r : Fin 128) (l : Fin 512) :
    (seenAt m c b w p).q (ix2 r l) = projOf m c (ix2 (tok b w r) ⟨p.val * 512 + l.val, by omega⟩) := by
  show iblk m c 0 (pt (ptOf b w p) (ptOf_lt b w p)) (ix2 r l) = _
  unfold iblk
  show ((cfg0.win 0).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_0.index _ 0 + 1 * r.val = (16 * b.val + w.val) * 128 + r.val
    rw [(index0 _).1, rowAt_pt]
    omega
  | ⟨1, _⟩ =>
    show win0_0.index _ 1 + 1 * l.val = p.val * 512 + l.val
    rw [(index0 _).2, pair_pt]
    omega

theorem index1 (t : Fin cfg0.N) : win0_1.index t 0 = rowAt t ∧ win0_1.index t 1 = 1024 + t.val % 2 * 128 :=
  (by decide +kernel : ∀ t : Fin grid0.N, win0_1.index t 0 = rowAt t ∧ win0_1.index t 1 = 1024 + t.val % 2 * 128) t

theorem seen_kc (b : Fin 2) (w : Fin 16) (p : Fin 2) (r : Fin 128) (l : Fin 128) :
    (seenAt m c b w p).kc (ix2 r l) = projOf m c (ix2 (tok b w r) ⟨1024 + (p.val * 128 + l.val), by omega⟩) := by
  show iblk m c 1 (pt (ptOf b w p) (ptOf_lt b w p)) (ix2 r l) = _
  unfold iblk
  show ((cfg0.win 1).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_1.index _ 0 + 1 * r.val = (16 * b.val + w.val) * 128 + r.val
    rw [(index1 _).1, rowAt_pt]
    omega
  | ⟨1, _⟩ =>
    show win0_1.index _ 1 + 1 * l.val = 1024 + (p.val * 128 + l.val)
    rw [(index1 _).2, pair_pt]
    omega

theorem index2 (t : Fin cfg0.N) : win0_2.index t 0 = rowBefore t ∧ win0_2.index t 1 = 1024 + t.val % 2 * 128 :=
  (by decide +kernel : ∀ t : Fin grid0.N, win0_2.index t 0 = rowBefore t ∧ win0_2.index t 1 = 1024 + t.val % 2 * 128) t

theorem seen_kp (b : Fin 2) (w : Fin 16) (p : Fin 2) (r : Fin 128) (l : Fin 128) :
    (seenAt m c b w p).kp (ix2 r l) = projOf m c (ix2 (tok b (prev w) r) ⟨1024 + (p.val * 128 + l.val), by omega⟩) := by
  show iblk m c 2 (pt (ptOf b w p) (ptOf_lt b w p)) (ix2 r l) = _
  unfold iblk
  show ((cfg0.win 2).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_2.index _ 0 + 1 * r.val = (16 * b.val + (w.val - 1)) * 128 + r.val
    rw [(index2 _).1, rowBefore_pt]
    omega
  | ⟨1, _⟩ =>
    show win0_2.index _ 1 + 1 * l.val = 1024 + (p.val * 128 + l.val)
    rw [(index2 _).2, pair_pt]
    omega

theorem index3 (t : Fin cfg0.N) : win0_3.index t 0 = rowAt t ∧ win0_3.index t 1 = 1280 + t.val % 2 * 128 :=
  (by decide +kernel : ∀ t : Fin grid0.N, win0_3.index t 0 = rowAt t ∧ win0_3.index t 1 = 1280 + t.val % 2 * 128) t

theorem seen_vc (b : Fin 2) (w : Fin 16) (p : Fin 2) (r : Fin 128) (l : Fin 128) :
    (seenAt m c b w p).vc (ix2 r l) = projOf m c (ix2 (tok b w r) ⟨1280 + (p.val * 128 + l.val), by omega⟩) := by
  show iblk m c 3 (pt (ptOf b w p) (ptOf_lt b w p)) (ix2 r l) = _
  unfold iblk
  show ((cfg0.win 3).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_3.index _ 0 + 1 * r.val = (16 * b.val + w.val) * 128 + r.val
    rw [(index3 _).1, rowAt_pt]
    omega
  | ⟨1, _⟩ =>
    show win0_3.index _ 1 + 1 * l.val = 1280 + (p.val * 128 + l.val)
    rw [(index3 _).2, pair_pt]
    omega

theorem index4 (t : Fin cfg0.N) : win0_4.index t 0 = rowBefore t ∧ win0_4.index t 1 = 1280 + t.val % 2 * 128 :=
  (by decide +kernel : ∀ t : Fin grid0.N, win0_4.index t 0 = rowBefore t ∧ win0_4.index t 1 = 1280 + t.val % 2 * 128) t

theorem seen_vp (b : Fin 2) (w : Fin 16) (p : Fin 2) (r : Fin 128) (l : Fin 128) :
    (seenAt m c b w p).vp (ix2 r l) = projOf m c (ix2 (tok b (prev w) r) ⟨1280 + (p.val * 128 + l.val), by omega⟩) := by
  show iblk m c 4 (pt (ptOf b w p) (ptOf_lt b w p)) (ix2 r l) = _
  unfold iblk
  show ((cfg0.win 4).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_4.index _ 0 + 1 * r.val = (16 * b.val + (w.val - 1)) * 128 + r.val
    rw [(index4 _).1, rowBefore_pt]
    omega
  | ⟨1, _⟩ =>
    show win0_4.index _ 1 + 1 * l.val = 1280 + (p.val * 128 + l.val)
    rw [(index4 _).2, pair_pt]
    omega

theorem index5 (t : Fin cfg0.N) : win0_5.index t 0 = rowAt t ∧ win0_5.index t 1 = 1536 + t.val % 2 * 512 :=
  (by decide +kernel : ∀ t : Fin grid0.N, win0_5.index t 0 = rowAt t ∧ win0_5.index t 1 = 1536 + t.val % 2 * 512) t

theorem seen_ag (b : Fin 2) (w : Fin 16) (p : Fin 2) (r : Fin 128) (l : Fin 512) :
    (seenAt m c b w p).ag (ix2 r l) = projOf m c (ix2 (tok b w r) ⟨1536 + (p.val * 512 + l.val), by omega⟩) := by
  show iblk m c 5 (pt (ptOf b w p) (ptOf_lt b w p)) (ix2 r l) = _
  unfold iblk
  show ((cfg0.win 5).blk (pt (ptOf b w p) (ptOf_lt b w p))).view.read (Elt Ideal) (V m c main_arg3) (ix2 r l) = _
  rw [View.read_apply, V_main_arg3]
  refine congrArg (projOf m c) (funext fun a => Fin.ext ?_)
  match a with
  | ⟨0, _⟩ =>
    show win0_5.index _ 0 + 1 * r.val = (16 * b.val + w.val) * 128 + r.val
    rw [(index5 _).1, rowAt_pt]
    omega
  | ⟨1, _⟩ =>
    show win0_5.index _ 1 + 1 * l.val = 1536 + (p.val * 512 + l.val)
    rw [(index5 _).2, pair_pt]
    omega

theorem index6 (t : Fin cfg0.N) : win0_6.index t 0 = rowAt t / 128 ∧ win0_6.index t 1 = t.val % 2 :=
  (by decide +kernel : ∀ t : Fin grid0.N, win0_6.index t 0 = rowAt t / 128 ∧ win0_6.index t 1 = t.val % 2) t

theorem seen_pr (b : Fin 2) (w : Fin 16) (p : Fin 2) (r : Fin 128) (l : Fin 2048) :
    (seenAt m c b w p).pr (ix2 r l) = (V m c main_v56 : S4096x4096.Idx → EReal) (ix2 (tok b w r) ⟨p.val * 2048 + l.val, by omega⟩) := by
  show iblk m c 6 (pt (ptOf b w p) (ptOf_lt b w p)) (ix2 r l) = _
  unfold iblk
  show ((cfg0.win 6).blk (pt (ptOf b w p) (ptOf_lt b w p))).view.read (Elt Ideal) (V m c main_v56) (ix2 r l) = _
  rw [View.read_apply]
  refine congrArg ((V m c main_v56 : S4096x4096.Idx → EReal)) (funext fun a => Fin.ext ?_)
  match a with
  | ⟨0, _⟩ =>
    show win0_6.index _ 0 * 128 + 1 * r.val = (16 * b.val + w.val) * 128 + r.val
    rw [(index6 _).1, rowAt_pt]
    omega
  | ⟨1, _⟩ =>
    show win0_6.index _ 1 * 2048 + 1 * l.val = p.val * 2048 + l.val
    rw [(index6 _).2, pair_pt]
    omega

theorem index7 (t : Fin cfg0.N) : win0_7.index t 0 = rowAt t / 128 ∧ win0_7.index t 1 = t.val % 2 :=
  (by decide +kernel : ∀ t : Fin grid0.N, win0_7.index t 0 = rowAt t / 128 ∧ win0_7.index t 1 = t.val % 2) t

theorem seen_dy (b : Fin 2) (w : Fin 16) (p : Fin 2) (r : Fin 128) (l : Fin 512) :
    (seenAt m c b w p).dy (ix2 r l) = dyaOf m c (ix2 (tok b w r) ⟨p.val * 512 + l.val, by omega⟩) := by
  show iblk m c 7 (pt (ptOf b w p) (ptOf_lt b w p)) (ix2 r l) = _
  unfold iblk
  show ((cfg0.win 7).blk (pt (ptOf b w p) (ptOf_lt b w p))).view.read (Elt Ideal) (V m c main_arg2) (ix2 r l) = _
  rw [View.read_apply, V_main_arg2]
  refine congrArg (dyaOf m c) (funext fun a => Fin.ext ?_)
  match a with
  | ⟨0, _⟩ =>
    show win0_7.index _ 0 * 128 + 1 * r.val = (16 * b.val + w.val) * 128 + r.val
    rw [(index7 _).1, rowAt_pt]
    omega
  | ⟨1, _⟩ =>
    show win0_7.index _ 1 * 512 + 1 * l.val = p.val * 512 + l.val
    rw [(index7 _).2, pair_pt]
    omega

end Cert.Attn
end
-- ==== Proof.AttnHead.lean ====
/- What the kernel computes at a point for one query of one head, and for a key head, is what the reference's rows give. -/
module

public import proofs.«01_k».proof.Proof.AttnReference
public import proofs.«01_k».proof.Proof.AttnArrays

@[expose] public section

set_option maxRecDepth 16384

noncomputable section

namespace Cert.Attn

open Cert.Kernel4Ideal Cert.Kernel4Ideal.Gen Idealize.ShloMosaic Idealize.ShloMosaic.TcCoe Idealize.SL.Sem
open Cert.Reference4Ideal.Read

/-! ## Sums over a key head's queries -/

section
variable (x0 : S128x256x16.Idx → EReal) (x1 : S1x16.Idx → EReal) (x2 : S4096x1024.Idx → EReal) (x3 : S4096x10752.Idx → EReal)

/-- A query's entry. -/
def queryAt (b : Fin 2) (n : Fin 16) (q : Fin 128) (h g : Fin 4) (d : Fin 64) : ℝ :=
  (x3 (ix2 (tok b n q) ⟨(h.val * 4 + g.val) * 64 + d.val, by omega⟩)).toReal

/-- What block `n`'s queries give to the key in place `s` of its window. -/
def dkAt (b : Fin 2) (n : Fin 16) (s : Fin 256) (h : Fin 4) (d : Fin 64) : ℝ :=
  ∑ g : Fin 4, ∑ q : Fin 128, (refRow x0 x1 x2 x3 b n q h g).ds s * queryAt x3 b n q h g d / 8

/-- What they give to the value there. -/
def dvAt (b : Fin 2) (n : Fin 16) (s : Fin 256) (h : Fin 4) (d : Fin 64) : ℝ :=
  ∑ g : Fin 4, ∑ q : Fin 128, (refRow x0 x1 x2 x3 b n q h g).e s / (refRow x0 x1 x2 x3 b n q h g).den * (refRow x0 x1 x2 x3 b n q h g).dO d
end

theorem queryAt_coe {x0 : S128x256x16.Idx → EReal} {x1 : S1x16.Idx → EReal} {x2 : S4096x1024.Idx → EReal} {x3 : S4096x10752.Idx → EReal}
    (hf : Finite4 x0 x1 x2 x3) (b : Fin 2) (n : Fin 16) (q : Fin 128) (h g : Fin 4) (d : Fin 64) :
    x3 (ix2 (tok b n q) ⟨(h.val * 4 + g.val) * 64 + d.val, by omega⟩) = (queryAt x3 b n q h g d : EReal) :=
  IsR.coe (hf.proj _ _ (by show (h.val * 4 + g.val) * 64 + d.val < 2560; omega))

/-- The 512 stacked rows are four heads' 128 queries. -/
theorem sum_stack {M : Type*} [AddCommMonoid M] (f : Fin 512 → M) :
    ∑ R : Fin 512, f R = ∑ g : Fin 4, ∑ r : Fin 128, f ⟨g.val * 128 + r.val, rowOf_lt g r⟩ := by
  rw [← Fintype.sum_prod_type']
  refine (Fintype.sum_equiv (finProdFinEquiv (m := 4) (n := 128)) _ _ fun p => congrArg f (Fin.ext ?_)).symm
  show p.1.val * 128 + p.2.val = p.2.val + 128 * p.1.val
  omega

/-! ## The kernel's rows -/

variable (m : (ℓ : Loc nD τ Cert.Kernel4Ideal.sig) → Buf (Elt Ideal) ℓ) (c : Dev nD)

/-- Key head `j` of pair `p`. -/
def keyHead (p j : Fin 2) : Fin 4 := ⟨p.val * 2 + j.val, by omega⟩

/-- The reference's row at the kernel's arguments. -/
abbrev refAt (b : Fin 2) (w : Fin 16) (r : Fin 128) (h g : Fin 4) : RRow :=
  refRow (biasOf m c) (sinkOf m c) (dyaOf m c) (projOf m c) b w r h g

/-- The row the kernel sees: at a sequence's first block the window's first half shows the block itself. -/
def kerRow (b : Fin 2) (w : Fin 16) (r : Fin 128) (p j : Fin 2) (g : Fin 4) : RRow :=
  { refAt m c b w r (keyHead p j) g with
    k := fun s d => (both (seenAt m c b w p).kp (seenAt m c b w p).kc s ⟨j.val * 64 + d.val, by omega⟩).toReal
    v := fun s d => (both (seenAt m c b w p).vp (seenAt m c b w p).vc s ⟨j.val * 64 + d.val, by omega⟩).toReal }

variable (hf : Finite4 (biasOf m c) (sinkOf m c) (dyaOf m c) (projOf m c))
include hf

theorem window_of (b : Fin 2) (w : Fin 16) (s : Fin 256) (h : ¬w.val * 128 + s.val < 128) (hs : s.val < 128) :
    (tok b (prev w) ⟨s.val, hs⟩) = (⟨b.val * 2048 + (w.val * 128 + s.val - 128), by omega⟩ : Fin 4096) :=
  Fin.ext (by show (16 * b.val + (w.val - 1)) * 128 + s.val = b.val * 2048 + (w.val * 128 + s.val - 128); omega)

theorem both_real (x y : S128x128.Idx → EReal) (hx : ∀ r l, IsR (x (ix2 r l))) (hy : ∀ r l, IsR (y (ix2 r l))) (s : Fin 256) (l : Fin 128) :
    IsR (both x y s l) := by
  unfold both
  split
  · exact hx _ _
  · exact hy _ _

theorem ker_k (b : Fin 2) (w : Fin 16) (r : Fin 128) (p j : Fin 2) (g : Fin 4) (s : Fin 256) (d : Fin 64) :
    both (seenAt m c b w p).kp (seenAt m c b w p).kc s ⟨j.val * 64 + d.val, by omega⟩ = ((kerRow m c b w r p j g).k s d : EReal) :=
  IsR.coe (both_real m c hf _ _ (fun r l => by rw [seen_kp]; exact hf.proj _ _ (by show 1024 + (p.val * 128 + l.val) < 2560; omega))
    (fun r l => by rw [seen_kc]; exact hf.proj _ _ (by show 1024 + (p.val * 128 + l.val) < 2560; omega)) s _)

theorem ker_v (b : Fin 2) (w : Fin 16) (r : Fin 128) (p j : Fin 2) (g : Fin 4) (s : Fin 256) (d : Fin 64) :
    both (seenAt m c b w p).vp (seenAt m c b w p).vc s ⟨j.val * 64 + d.val, by omega⟩ = ((kerRow m c b w r p j g).v s d : EReal) :=
  IsR.coe (both_real m c hf _ _ (fun r l => by rw [seen_vp]; exact hf.proj _ _ (by show 1280 + (p.val * 128 + l.val) < 2560; omega))
    (fun r l => by rw [seen_vc]; exact hf.proj _ _ (by show 1280 + (p.val * 128 + l.val) < 2560; omega)) s _)

/-- Where the weight is positive the kernel's window is the reference's. -/
theorem ker_same (b : Fin 2) (w : Fin 16) (r : Fin 128) (p j : Fin 2) (g : Fin 4) :
    RRow.Same (refAt m c b w r (keyHead p j) g) (kerRow m c b w r p j g) where
  e := rfl
  z := rfl
  ag := rfl
  dy := rfl
  k s d he := by
    have h0 : ¬w.val * 128 + s.val < 128 := fun h => he (by
      obtain rfl : w = 0 := Fin.ext (by show w.val = 0; omega)
      exact refRow_first hf b r _ g s (by omega))
    show (both _ _ s _).toReal = (val_main_v17 (F := Ideal) (projOf m c) (ix5 b w s (keyHead p j) d)).toReal
    rw [keys_eq, windows_apply, dif_neg h0, keyOf]
    unfold both
    by_cases hs : s.val < 128
    · rw [dif_pos hs, seen_kp, window_of m c hf b w s h0 hs]
      exact congrArg (fun l => (projOf m c (ix2 _ l)).toReal) (Fin.ext (by show 1024 + (p.val * 128 + (j.val * 64 + d.val)) = 1024 + (p.val * 2 + j.val) * 64 + d.val; omega))
    · rw [dif_neg hs, seen_kc]
      exact congrArg EReal.toReal (congrArg₂ (fun t l => projOf m c (ix2 t l)) (Fin.ext (by show (16 * b.val + w.val) * 128 + (s.val - 128) = b.val * 2048 + (w.val * 128 + s.val - 128); omega))
        (Fin.ext (by show 1024 + (p.val * 128 + (j.val * 64 + d.val)) = 1024 + (p.val * 2 + j.val) * 64 + d.val; omega)))
  v s d he := by
    have h0 : ¬w.val * 128 + s.val < 128 := fun h => he (by
      obtain rfl : w = 0 := Fin.ext (by show w.val = 0; omega)
      exact refRow_first hf b r _ g s (by omega))
    show (both _ _ s _).toReal = (val_main_v25 (F := Ideal) (projOf m c) (ix5 b w s (keyHead p j) d)).toReal
    rw [values_eq, windows_apply, dif_neg h0, valueOf]
    unfold both
    by_cases hs : s.val < 128
    · rw [dif_pos hs, seen_vp, window_of m c hf b w s h0 hs]
      exact congrArg (fun l => (projOf m c (ix2 _ l)).toReal) (Fin.ext (by show 1280 + (p.val * 128 + (j.val * 64 + d.val)) = 1280 + (p.val * 2 + j.val) * 64 + d.val; omega))
    · rw [dif_neg hs, seen_vc]
      exact congrArg EReal.toReal (congrArg₂ (fun t l => projOf m c (ix2 t l)) (Fin.ext (by show (16 * b.val + w.val) * 128 + (s.val - 128) = b.val * 2048 + (w.val * 128 + s.val - 128); omega))
        (Fin.ext (by show 1280 + (p.val * 128 + (j.val * 64 + d.val)) = 1280 + (p.val * 2 + j.val) * 64 + d.val; omega)))

theorem ker_good (b : Fin 2) (w : Fin 16) (r : Fin 128) (p j : Fin 2) (g : Fin 4) : (kerRow m c b w r p j g).Good where
  z_pos := (refRow_good hf b w r (keyHead p j) g).z_pos
  e_nonneg := (refRow_good hf b w r (keyHead p j) g).e_nonneg
  e_zero := (refRow_good hf b w r (keyHead p j) g).e_zero

/-- The kernel's row, from its blocks. -/
theorem head_row (b : Fin 2) (w : Fin 16) (r : Fin 128) (p j : Fin 2) (g : Fin 4) :
    headRow (seenAt m c b w p) j g r = (kerRow m c b w r p j g).row := by
  unfold headRow RRow.row
  congr 1
  · funext s
    have e : (⟨p.val * 2048 + ((j.val * 4 + g.val) * 256 + s.val), by omega⟩ : Fin 4096)
        = ⟨((keyHead p j).val * 4 + g.val) * 256 + s.val, by have := (keyHead p j).isLt; omega⟩ :=
      Fin.ext (by show p.val * 2048 + ((j.val * 4 + g.val) * 256 + s.val) = ((p.val * 2 + j.val) * 4 + g.val) * 256 + s.val; omega)
    rw [seen_pr, e, probs_apply]
    split
    · exact refRow_z hf ..
    · exact refRow_e hf ..
  · funext s d
    exact ker_k m c hf ..
  · funext s d
    exact ker_v m c hf ..
  · funext d
    refine Eq.trans ?_ (refRow_ag hf b w r (keyHead p j) g d)
    rw [seen_ag]
    exact congrArg (fun l => projOf m c (ix2 _ l)) (Fin.ext (by
      show 1536 + (p.val * 512 + ((j.val * 4 + g.val) * 64 + d.val)) = 1536 + (((p.val * 2 + j.val) * 4 + g.val) * 64 + d.val); omega))
  · funext d
    refine Eq.trans ?_ (refRow_dy hf b w r (keyHead p j) g d)
    rw [seen_dy]
    exact congrArg (fun l => dyaOf m c (ix2 _ l)) (Fin.ext (by
      show p.val * 512 + ((j.val * 4 + g.val) * 64 + d.val) = ((p.val * 2 + j.val) * 4 + g.val) * 64 + d.val; omega))

variable (b : Fin 2) (w : Fin 16) (p j : Fin 2)

theorem stack_row (g : Fin 4) (r : Fin 128) :
    row (seenAt m c b w p) j ⟨g.val * 128 + r.val, rowOf_lt g r⟩ = (kerRow m c b w r p j g).row :=
  (row_eq _ j g r).trans (head_row m c hf b w r p j g)

theorem dq_ker (g : Fin 4) (r : Fin 128) (d : Fin 64) :
    dqs (seenAt m c b w p) j (ix2 ⟨g.val * 128 + r.val, rowOf_lt g r⟩ d) = ((refAt m c b w r (keyHead p j) g).dq d : EReal) := by
  rw [dqs_apply, stack_row m c hf, RRow.row_dq (ker_good m c hf ..), RRow.Same.dq (ker_same m c hf ..)]

theorem dag_ker (g : Fin 4) (r : Fin 128) (d : Fin 64) :
    dags (seenAt m c b w p) j (ix2 ⟨g.val * 128 + r.val, rowOf_lt g r⟩ d) = ((refAt m c b w r (keyHead p j) g).dag d : EReal) := by
  rw [dags_apply, stack_row m c hf, RRow.row_dag (ker_good m c hf ..), RRow.Same.dag (ker_same m c hf ..)]

theorem ds_ker (g : Fin 4) (r : Fin 128) (s : Fin 256) :
    dss (seenAt m c b w p) j (ix2 ⟨g.val * 128 + r.val, rowOf_lt g r⟩ s) = ((refAt m c b w r (keyHead p j) g).ds s : EReal) := by
  rw [dss_apply, stack_row m c hf, RRow.row_ds (ker_good m c hf ..), RRow.Same.ds (ker_same m c hf ..)]

theorem query_ker (g : Fin 4) (r : Fin 128) (d : Fin 64) :
    qs (seenAt m c b w p) j (ix2 ⟨g.val * 128 + r.val, rowOf_lt g r⟩ d) = (queryAt (projOf m c) b w r (keyHead p j) g d : EReal) := by
  rw [← queryAt_coe hf]
  unfold qs k0_pay76
  refine ((four_apply (fun g => hd j (seenAt m c b w p).q g) _ g r d).trans (hd_apply j _ g r d)).trans ?_
  rw [seen_q]
  exact congrArg (fun l => projOf m c (ix2 _ l)) (Fin.ext (by
    show p.val * 512 + ((j.val * 4 + g.val) * 64 + d.val) = ((p.val * 2 + j.val) * 4 + g.val) * 64 + d.val; omega))

theorem dk_ker (s : Fin 256) (d : Fin 64) :
    dks (seenAt m c b w p) j (ix2 s d) = (dkAt (biasOf m c) (sinkOf m c) (dyaOf m c) (projOf m c) b w s (keyHead p j) d : EReal) := by
  have e : dks (seenAt m c b w p) j (ix2 s d)
      = (∑ R : Fin 512, dss (seenAt m c b w p) j (ix2 R s) * qs (seenAt m c b w p) j (ix2 R d)) * Ideal.ofBits .f32 0x3E000000#32 := by
    unfold dks k0_pay96 k0_pay94
    pointwise
    rfl
  rw [e, sum_stack, eighth]
  simp only [ds_ker m c hf, query_ker m c hf, ← EReal.coe_mul, coe_sum]
  congr 1
  unfold dkAt
  simp only [Finset.sum_mul]
  exact Finset.sum_congr rfl fun g _ => Finset.sum_congr rfl fun q _ => by ring

theorem dv_ker (s : Fin 256) (d : Fin 64) :
    dvs (seenAt m c b w p) j (ix2 s d) = (dvAt (biasOf m c) (sinkOf m c) (dyaOf m c) (projOf m c) b w s (keyHead p j) d : EReal) := by
  have e : dvs (seenAt m c b w p) j (ix2 s d)
      = ∑ R : Fin 512, (row (seenAt m c b w p) j R).p s * ((row (seenAt m c b w p) j R).dO d * (row (seenAt m c b w p) j R).rden) := by
    unfold dvs k0_pay97 k0_pay90 k0_pay89
    pointwise
    refine Finset.sum_congr rfl fun R _ => ?_
    rw [pbs_apply, rdens_apply]
    rfl
  rw [e, sum_stack]
  have e' : ∀ (g : Fin 4) (r : Fin 128), (row (seenAt m c b w p) j ⟨g.val * 128 + r.val, rowOf_lt g r⟩).p s
      * ((row (seenAt m c b w p) j ⟨g.val * 128 + r.val, rowOf_lt g r⟩).dO d * (row (seenAt m c b w p) j ⟨g.val * 128 + r.val, rowOf_lt g r⟩).rden)
      = (((refAt m c b w r (keyHead p j) g).e s / (refAt m c b w r (keyHead p j) g).den * (refAt m c b w r (keyHead p j) g).dO d : ℝ) : EReal) := by
    intro g r
    rw [stack_row m c hf, RRow.row_p (ker_good m c hf ..), RRow.row_dO, RRow.row_rden (ker_good m c hf ..), RRow.Same.dO (ker_same m c hf ..),
      RRow.Same.den (ker_same m c hf ..), RRow.Same.e (ker_same m c hf ..), ← EReal.coe_mul, ← EReal.coe_mul]
    congr 1
    ring
  simp only [e', coe_sum]
  rfl

/-- The gradient of the sinks, row by row. -/
theorem dsink_ker (g : Fin 4) (r : Fin 128) (l : Fin 1) :
    dsinks (seenAt m c b w p) j (ix2 ⟨g.val * 128 + r.val, rowOf_lt g r⟩ l) = ((refAt m c b w r (keyHead p j) g).dsink : EReal) := by
  rw [← RRow.Same.dsink (ker_same m c hf b w r p j g), ← RRow.row_dsink (ker_good m c hf ..), ← stack_row m c hf]
  generalize (⟨g.val * 128 + r.val, rowOf_lt g r⟩ : Fin 512) = R
  unfold dsinks k0_pay98
  pointwise
  rw [drow_apply, rdens_apply]
  obtain rfl : l = 0 := Subsingleton.elim _ _
  have e0 : esinks (seenAt m c b w p) j (ix2 R 0) = (row (seenAt m c b w p) j R).e 0 := by
    unfold esinks k0_pay80
    pointwise
    rfl
  rw [e0]
  rfl

end Cert.Attn
end
-- ==== Proof.AttnFinal.lean ====
/- The first array the kernel leaves, entry by entry: query, key, value and gate gradients. -/
module

public import proofs.«01_k».proof.Proof.AttnCarry
public import proofs.«01_k».proof.Proof.AttnHead

@[expose] public section

set_option maxRecDepth 16384

noncomputable section

namespace Cert.Attn

open Cert.Kernel4Ideal Cert.Kernel4Ideal.Gen Idealize.ShloMosaic Idealize.ShloMosaic.TcCoe Idealize.SL.Sem

/-! ## Strips -/

section
variable (A : Seen) (kv : Fin 4 → Vec Ideal S128x64 .bf16) (k : Fin 20) (r : Fin 128) (d : Fin 64)

theorem strips_query (j : Fin 2) (g : Fin 4) (h4 : 4 ≤ k.val) (he : k.val % 2 = 0) (hj : (k.val - 4) / 8 = j.val) (hg : (k.val - 4) / 2 % 4 = g.val) :
    strips A kv k (ix2 r d) = dqs A j (ix2 ⟨g.val * 128 + r.val, rowOf_lt g r⟩ d) := by
  have b8 : (k.val - 4) / 8 < 2 := by have := k.isLt; clear hj hg; omega
  have b4 : (k.val - 4) / 2 % 4 < 4 := by clear hj hg; omega
  obtain rfl : j = ⟨(k.val - 4) / 8, b8⟩ := Fin.ext hj.symm
  obtain rfl : g = ⟨(k.val - 4) / 2 % 4, b4⟩ := Fin.ext hg.symm
  unfold strips
  rw [dif_neg (by omega), strip_apply, if_pos he]

theorem strips_gate (j : Fin 2) (g : Fin 4) (h4 : 4 ≤ k.val) (he : k.val % 2 = 1) (hj : (k.val - 4) / 8 = j.val) (hg : (k.val - 4) / 2 % 4 = g.val) :
    strips A kv k (ix2 r d) = dags A j (ix2 ⟨g.val * 128 + r.val, rowOf_lt g r⟩ d) := by
  have b8 : (k.val - 4) / 8 < 2 := by have := k.isLt; clear hj hg; omega
  have b4 : (k.val - 4) / 2 % 4 < 4 := by clear hj hg; omega
  obtain rfl : j = ⟨(k.val - 4) / 8, b8⟩ := Fin.ext hj.symm
  obtain rfl : g = ⟨(k.val - 4) / 2 % 4, b4⟩ := Fin.ext hg.symm
  unfold strips
  rw [dif_neg (by omega), strip_apply, if_neg (by omega)]

theorem add_key (x : Vec Ideal S256x64 .f32) (y : Vec Ideal S1x128x64 .f32) :
    k0_pay21 (F := Ideal) x y (ix2 r d) = x (ix2 ⟨128 + r.val, by omega⟩ d) + y (ix3 0 r d) := by
  unfold k0_pay21
  pointwise

theorem add_value (x : Vec Ideal S256x64 .f32) (y : Vec Ideal S1x128x64 .f32) :
    k0_pay22 (F := Ideal) x y (ix2 r d) = x (ix2 ⟨128 + r.val, by omega⟩ d) + y (ix3 0 r d) := add_key r d x y

theorem hand_key (j : Fin 2) : handK A j (ix3 0 r d) = dks A j (ix2 ⟨r.val, by omega⟩ d) := by
  unfold handK k0_pay23
  pointwise

theorem hand_value (j : Fin 2) : handV A j (ix3 0 r d) = dvs A j (ix2 ⟨r.val, by omega⟩ d) := by
  unfold handV k0_pay24
  pointwise

theorem strips_key (p : Fin 2) (X Y : Vec Ideal S2x128x128 .f32) (j : Fin 2) (Q : Fin 2 → Vec Ideal S1x128x64 .f32) (hX : Has X p Q) :
    strips A (kvs A p X Y) ⟨2 * j.val, by omega⟩ (ix2 r d) = dks A j (ix2 ⟨128 + r.val, by omega⟩ d) + Q j (ix3 0 r d) := by
  rw [← hX j r d]
  unfold strips
  rw [dif_pos (show 2 * j.val < 4 by omega)]
  rcases j with ⟨j, hj⟩
  interval_cases j
  · exact add_key r d (dks A 0) _
  · exact add_key r d (dks A 1) _

theorem strips_value (p : Fin 2) (X Y : Vec Ideal S2x128x128 .f32) (j : Fin 2) (Q : Fin 2 → Vec Ideal S1x128x64 .f32) (hY : Has Y p Q) :
    strips A (kvs A p X Y) ⟨2 * j.val + 1, by omega⟩ (ix2 r d) = dvs A j (ix2 ⟨128 + r.val, by omega⟩ d) + Q j (ix3 0 r d) := by
  rw [← hY j r d]
  unfold strips
  rw [dif_pos (show 2 * j.val + 1 < 4 by omega)]
  rcases j with ⟨j, hj⟩
  interval_cases j
  · exact add_value r d (dvs A 0) _
  · exact add_value r d (dvs A 1) _
end

/-! ## The array -/

variable (m : (ℓ : Loc nD τ Cert.Kernel4Ideal.sig) → Buf (Elt Ideal) ℓ) (c : Dev nD)
variable (hf : Finite4 (biasOf m c) (sinkOf m c) (dyaOf m c) (projOf m c))

/-- A key's gradient: what its own block's queries give and what the next block's do. -/
def keySum (b : Fin 2) (w : Fin 16) (r : Fin 128) (h : Fin 4) (d : Fin 64) : ℝ :=
  dkAt (biasOf m c) (sinkOf m c) (dyaOf m c) (projOf m c) b w ⟨128 + r.val, by omega⟩ h d
    + if hw : w.val < 15 then dkAt (biasOf m c) (sinkOf m c) (dyaOf m c) (projOf m c) b ⟨w.val + 1, by omega⟩ ⟨r.val, by omega⟩ h d else 0

/-- A value's gradient. -/
def valueSum (b : Fin 2) (w : Fin 16) (r : Fin 128) (h : Fin 4) (d : Fin 64) : ℝ :=
  dvAt (biasOf m c) (sinkOf m c) (dyaOf m c) (projOf m c) b w ⟨128 + r.val, by omega⟩ h d
    + if hw : w.val < 15 then dvAt (biasOf m c) (sinkOf m c) (dyaOf m c) (projOf m c) b ⟨w.val + 1, by omega⟩ ⟨r.val, by omega⟩ h d else 0

variable (b : Fin 2) (w : Fin 16) (r : Fin 128) (p j : Fin 2) (g : Fin 4) (d : Fin 64)

include hf

theorem final_query :
    (dats m 0 c).arrAt 8 cfg0.N (ix2 (tok b w r) ⟨((keyHead p j).val * 4 + g.val) * 64 + d.val, by have := (keyHead p j).isLt; omega⟩)
      = ((refAt m c b w r (keyHead p j) g).dq d : EReal) := by
  rw [show (⟨((keyHead p j).val * 4 + g.val) * 64 + d.val, by have := (keyHead p j).isLt; omega⟩ : Fin 2560)
      = colOf p ⟨4 + (j.val * 4 + g.val) * 2, by omega⟩ d from Fin.ext (by
    show ((p.val * 2 + j.val) * 4 + g.val) * 64 + d.val = stripCol p.val ⟨4 + (j.val * 4 + g.val) * 2, _⟩ + d.val
    unfold stripCol
    rw [if_neg (by show ¬4 + (j.val * 4 + g.val) * 2 < 4; omega)]
    show ((p.val * 2 + j.val) * 4 + g.val) * 64 + d.val = (4 + (j.val * 4 + g.val) * 2) % 2 * 1536 + p.val * 512 + (4 + (j.val * 4 + g.val) * 2 - 4) / 2 * 64 + d.val
    omega), final8, ← dq_ker m c hf]
  exact strips_query _ _ _ r d j g (by show 4 ≤ 4 + _; omega) (by show (4 + (j.val * 4 + g.val) * 2) % 2 = 0; omega)
    (by show (4 + (j.val * 4 + g.val) * 2 - 4) / 8 = _; omega) (by show (4 + (j.val * 4 + g.val) * 2 - 4) / 2 % 4 = _; omega)

theorem final_gate :
    (dats m 0 c).arrAt 8 cfg0.N (ix2 (tok b w r) ⟨1536 + (((keyHead p j).val * 4 + g.val) * 64 + d.val), by have := (keyHead p j).isLt; omega⟩)
      = ((refAt m c b w r (keyHead p j) g).dag d : EReal) := by
  rw [show (⟨1536 + (((keyHead p j).val * 4 + g.val) * 64 + d.val), by have := (keyHead p j).isLt; omega⟩ : Fin 2560)
      = colOf p ⟨5 + (j.val * 4 + g.val) * 2, by omega⟩ d from Fin.ext (by
    show 1536 + (((p.val * 2 + j.val) * 4 + g.val) * 64 + d.val) = stripCol p.val ⟨5 + (j.val * 4 + g.val) * 2, _⟩ + d.val
    unfold stripCol
    rw [if_neg (by show ¬5 + (j.val * 4 + g.val) * 2 < 4; omega)]
    show 1536 + (((p.val * 2 + j.val) * 4 + g.val) * 64 + d.val) = (5 + (j.val * 4 + g.val) * 2) % 2 * 1536 + p.val * 512 + (5 + (j.val * 4 + g.val) * 2 - 4) / 2 * 64 + d.val
    omega), final8, ← dag_ker m c hf]
  exact strips_gate _ _ _ r d j g (by show 4 ≤ 5 + _; omega) (by show (5 + (j.val * 4 + g.val) * 2) % 2 = 1; omega)
    (by show (5 + (j.val * 4 + g.val) * 2 - 4) / 8 = _; omega) (by show (5 + (j.val * 4 + g.val) * 2 - 4) / 2 % 4 = _; omega)

theorem final_key :
    (dats m 0 c).arrAt 8 cfg0.N (ix2 (tok b w r) ⟨1024 + ((keyHead p j).val * 64 + d.val), by have := (keyHead p j).isLt; omega⟩)
      = (keySum m c b w r (keyHead p j) d : EReal) := by
  rw [show (⟨1024 + ((keyHead p j).val * 64 + d.val), by have := (keyHead p j).isLt; omega⟩ : Fin 2560)
      = colOf p ⟨2 * j.val, by omega⟩ d from Fin.ext (by
    show 1024 + ((p.val * 2 + j.val) * 64 + d.val) = stripCol p.val ⟨2 * j.val, _⟩ + d.val
    unfold stripCol
    rw [if_pos (by show 2 * j.val < 4; omega)]
    show 1024 + ((p.val * 2 + j.val) * 64 + d.val) = 1024 + 2 * j.val % 2 * 256 + p.val * 128 + 2 * j.val / 2 * 64 + d.val
    omega), final8]
  unfold stored keySum
  rw [EReal.coe_add, ← dk_ker m c hf]
  by_cases hw : w.val < 15
  · rw [dif_pos hw, ← dk_ker m c hf, ← hand_key]
    exact strips_key _ r d p _ _ j _ (taken_other m c b p w hw).1
  · obtain rfl : w = 15 := Fin.ext (by show w.val = 15; omega)
    rw [dif_neg hw, EReal.coe_zero, ← word_zero]
    exact strips_key _ r d p _ _ j _ (taken_last m c b p).1

theorem final_value :
    (dats m 0 c).arrAt 8 cfg0.N (ix2 (tok b w r) ⟨1280 + ((keyHead p j).val * 64 + d.val), by have := (keyHead p j).isLt; omega⟩)
      = (valueSum m c b w r (keyHead p j) d : EReal) := by
  rw [show (⟨1280 + ((keyHead p j).val * 64 + d.val), by have := (keyHead p j).isLt; omega⟩ : Fin 2560)
      = colOf p ⟨2 * j.val + 1, by omega⟩ d from Fin.ext (by
    show 1280 + ((p.val * 2 + j.val) * 64 + d.val) = stripCol p.val ⟨2 * j.val + 1, _⟩ + d.val
    unfold stripCol
    rw [if_pos (by show 2 * j.val + 1 < 4; omega)]
    show 1280 + ((p.val * 2 + j.val) * 64 + d.val) = 1024 + (2 * j.val + 1) % 2 * 256 + p.val * 128 + (2 * j.val + 1) / 2 * 64 + d.val
    omega), final8]
  unfold stored valueSum
  rw [EReal.coe_add, ← dv_ker m c hf]
  by_cases hw : w.val < 15
  · rw [dif_pos hw, ← dv_ker m c hf, ← hand_value]
    exact strips_value _ r d p _ _ j _ (taken_other m c b p w hw).2
  · obtain rfl : w = 15 := Fin.ext (by show w.val = 15; omega)
    rw [dif_neg hw, EReal.coe_zero, ← word_zero]
    exact strips_value _ r d p _ _ j _ (taken_last m c b p).2

end Cert.Attn
end
-- ==== Proof.AttnKeyGrad.lean ====
/- The reference's key and value gradients, entry by entry: a sum over a block's queries and the heads that share a key head,
folded over the two blocks that see the key. -/
module

public import proofs.«01_k».proof.Proof.AttnHead
public import Idealize.ShloMosaic.Lib.TwoAxisContraction

@[expose] public section

set_option maxRecDepth 16384

noncomputable section

namespace Cert.Attn

open Cert.Reference4Ideal Cert.Reference4Ideal.Gen Cert.Reference4Ideal.Read Idealize.ShloMosaic Idealize.ShloMosaic.TcCoe Idealize.SL.Sem

/-! ## The two contractions over queries and heads -/

theorem dot_key (x : S2x4x16x256x128x4.Idx → EReal) (y : S2x16x128x4x4x64.Idx → EReal) (b : Fin 2) (h : Fin 4) (n : Fin 16) (s : Fin 256) (d : Fin 64) :
    Host.dotGeneral (F := Ideal) (φ₁ := .f32) (φ₂ := .f32) dot_S2x4x16x256x128x4_S2x16x128x4x4x64_S2x4x16x256x64_45_24_3_5_012_031 none x y (ix5 b h n s d)
      = ∑ q : Fin 128, ∑ g : Fin 4, x (ix6 b h n s q g) * y (ix6 b n q h g d) := by
  simp only [Host.dotGeneral]
  rw [Ideal.dotGeneral_apply, ValueIdx.sum_contr2 dot_S2x4x16x256x128x4_S2x16x128x4x4x64_S2x4x16x256x64_45_24_3_5_012_031 128 4 rfl rfl rfl]
  refine Finset.sum_congr rfl fun q _ => Finset.sum_congr rfl fun g _ => ?_
  refine congrArg₂ _ (congrArg x ?_) (congrArg y ?_)
  · funext a
    fin_cases a <;> exact Fin.ext rfl
  · funext a
    fin_cases a <;> exact Fin.ext rfl

theorem dot_value (x : S2x16x4x64x4x128.Idx → EReal) (y : S2x4x4x16x128x256.Idx → EReal) (b : Fin 2) (h : Fin 4) (n : Fin 16) (s : Fin 256) (d : Fin 64) :
    Host.dotGeneral (F := Ideal) (φ₁ := .f32) (φ₂ := .f32) dot_S2x16x4x64x4x128_S2x4x4x16x128x256_S2x16x4x64x256_45_24_3_5_012_031 none x y (ix5 b n h d s)
      = ∑ g : Fin 4, ∑ q : Fin 128, x (ix6 b n h d g q) * y (ix6 b h g n q s) := by
  simp only [Host.dotGeneral]
  rw [Ideal.dotGeneral_apply, ValueIdx.sum_contr2 dot_S2x16x4x64x4x128_S2x4x4x16x128x256_S2x16x4x64x256_45_24_3_5_012_031 4 128 rfl rfl rfl]
  refine Finset.sum_congr rfl fun g _ => Finset.sum_congr rfl fun q _ => ?_
  refine congrArg₂ _ (congrArg x ?_) (congrArg y ?_)
  · funext a
    fin_cases a <;> exact Fin.ext rfl
  · funext a
    fin_cases a <;> exact Fin.ext rfl

/-! ## One array of gradients by window, folded over the two blocks that see a key -/

/-- What block `n`'s queries give to place `s` of its window, added up per token. -/
def fold (y : S2x16x256x4x64.Idx → EReal) : S2x2048x256.Idx → EReal :=
  shapeCast S2x2048x256 (extractStridedSlice S2x2048x4x64 ![0, 128, 0, 0] (shapeCast S2x2176x4x64
    (addf (F := Ideal) (φ := .f32)
      (pad S2x17x128x4x64 ![0, 1, 0, 0, 0] ![0, 0, 0, 0, 0] ![0, 0, 0, 0, 0]
        (extractStridedSlice S2x16x128x4x64 ![0, 0, 128, 0, 0] y slices_S2x16x256x4x64_S2x16x128x4x64_0_0_128_0_0) (val_main_cst_20 (F := Ideal)) pads_S2x16x128x4x64_S2x17x128x4x64_000_100_000_000_000 h_S_)
      (pad S2x17x128x4x64 ![0, 0, 0, 0, 0] ![0, 1, 0, 0, 0] ![0, 0, 0, 0, 0]
        (extractStridedSlice S2x16x128x4x64 ![0, 0, 0, 0, 0] y slices_S2x16x256x4x64_S2x16x128x4x64_0_0_0_0_0) (val_main_cst_21 (F := Ideal)) pads_S2x16x128x4x64_S2x17x128x4x64_000_010_000_000_000 h_S_))
    shapeCasts_S2x17x128x4x64_S2x2176x4x64) slices_S2x2176x4x64_S2x2048x4x64_0_128_0_0) shapeCasts_S2x2048x4x64_S2x2048x256

theorem fold_apply (y : S2x16x256x4x64.Idx → EReal) (b : Fin 2) (n : Fin 16) (q : Fin 128) (h : Fin 4) (d : Fin 64) :
    fold y (ix3 b (place n q) ⟨h.val * 64 + d.val, by omega⟩)
      = y (ix5 b n ⟨128 + q.val, by omega⟩ h d) + if hn : n.val < 15 then y (ix5 b ⟨n.val + 1, by omega⟩ ⟨q.val, by omega⟩ h d) else 0 := by
  have merge : ∀ y' : S2x2048x4x64.Idx → EReal, shapeCast S2x2048x256 y' shapeCasts_S2x2048x4x64_S2x2048x256 (ix3 b (place n q) ⟨h.val * 64 + d.val, by omega⟩)
      = y' (ix4 b (place n q) h d) := by
    intro y'
    refine shapeCast_apply _ _ _ _ ?_
    rw [Shape.rowMajor_val_four, Shape.rowMajor_val_three]
    show ((b.val * 2048 + (n.val * 128 + q.val)) * 4 + h.val) * 64 + d.val = (b.val * 2048 + (n.val * 128 + q.val)) * 256 + (h.val * 64 + d.val)
    omega
  have blocks : ∀ y' : S2x17x128x4x64.Idx → EReal, shapeCast S2x2176x4x64 y' shapeCasts_S2x17x128x4x64_S2x2176x4x64 (ix4 b ⟨128 + (n.val * 128 + q.val), by omega⟩ h d)
      = y' (ix5 b ⟨n.val + 1, by omega⟩ q h d) := by
    intro y'
    refine shapeCast_apply _ _ _ _ ?_
    rw [Shape.rowMajor_val_four, Shape.rowMajor_val_five]
    show (((b.val * 17 + (n.val + 1)) * 128 + q.val) * 4 + h.val) * 64 + d.val = ((b.val * 2176 + (128 + (n.val * 128 + q.val))) * 4 + h.val) * 64 + d.val
    omega
  unfold fold
  rw [merge]
  pointwise [blocks]
  have e1 : n.val + 1 - 1 = n.val := by omega
  have z0 : val_main_cst_21 (F := Ideal) (Shape.Idx.first h_S_) = 0 := word_zero
  have hn := n.isLt
  simp only [e1, z0]
  rw [dif_pos hn]
  by_cases hw : n.val < 15
  · rw [dif_pos hw, dif_pos (show n.val + 1 < 16 by omega)]
  · rw [dif_neg hw, dif_neg (show ¬n.val + 1 < 16 by omega)]

theorem values_fold (x0 : S128x256x16.Idx → EReal) (x1 : S1x16.Idx → EReal) (x2 : S4096x1024.Idx → EReal) (x3 : S4096x10752.Idx → EReal) :
    val_main_v144 (F := Ideal) x0 x1 x2 x3 = fold (val_main_v102 (F := Ideal) x0 x1 x2 x3) := rfl
theorem keys_fold (x0 : S128x256x16.Idx → EReal) (x1 : S1x16.Idx → EReal) (x2 : S4096x1024.Idx → EReal) (x3 : S4096x10752.Idx → EReal) :
    val_main_v153 (F := Ideal) x0 x1 x2 x3 = fold (val_main_v135 (F := Ideal) x0 x1 x2 x3) := rfl

/-! ## The reference's arrays -/

variable {x0 : S128x256x16.Idx → EReal} {x1 : S1x16.Idx → EReal} {x2 : S4096x1024.Idx → EReal} {x3 : S4096x10752.Idx → EReal}
variable (hf : Finite4 x0 x1 x2 x3) (b : Fin 2) (n : Fin 16) (s : Fin 256) (q : Fin 128) (h : Fin 4) (d : Fin 64)
include hf

theorem dk_at : val_main_v135 (F := Ideal) x0 x1 x2 x3 (ix5 b n s h d) = (dkAt x0 x1 x2 x3 b n s h d : EReal) := by
  rw [val_main_v135_apply]
  refine (congrArg _ (eq_ix5 _)).trans ((dot_key (val_main_v131 (F := Ideal) x0 x1 x2 x3) (val_main_v9 (F := Ideal) x3) b h n s d).trans ?_)
  simp only [scaled_at hf, queriesOf, queryAt_coe hf, ← EReal.coe_mul, coe_sum]
  congr 1
  rw [Finset.sum_comm]
  unfold dkAt
  exact Finset.sum_congr rfl fun g _ => Finset.sum_congr rfl fun q _ => by ring

theorem dv_at : val_main_v102 (F := Ideal) x0 x1 x2 x3 (ix5 b n s h d) = (dvAt x0 x1 x2 x3 b n s h d : EReal) := by
  rw [val_main_v102_apply]
  refine (congrArg _ (eq_ix5 _)).trans ((dot_value (val_main_v98 (F := Ideal) x2 x3) (val_main_v85 (F := Ideal) x0 x1 x3) b h n s d).trans ?_)
  simp only [dO_at hf, prob_at hf, ← EReal.coe_mul, coe_sum]
  congr 1
  unfold dvAt
  exact Finset.sum_congr rfl fun g _ => Finset.sum_congr rfl fun q _ => by ring

end Cert.Attn
end
-- ==== Proof.AttnProject.lean ====
/- The first result: the kernel's array of query, key, value and gate gradients is the reference's. -/
module

public import proofs.«01_k».proof.Proof.AttnFinal
public import proofs.«01_k».proof.Proof.AttnKeyGrad

@[expose] public section

set_option maxRecDepth 16384

noncomputable section

namespace Cert.Attn

open Cert.Reference4Ideal Cert.Reference4Ideal.Gen Cert.Reference4Ideal.Read Idealize.ShloMosaic Idealize.ShloMosaic.TcCoe Idealize.SL.Sem

/-! ## The reference's columns -/

section
variable {x0 : S128x256x16.Idx → EReal} {x1 : S1x16.Idx → EReal} {x2 : S4096x1024.Idx → EReal} {x3 : S4096x10752.Idx → EReal}
variable (hf : Finite4 x0 x1 x2 x3) (b : Fin 2) (n : Fin 16) (q : Fin 128) (h g : Fin 4) (d : Fin 64)

/-- A token's columns lie in its sequence's row. -/
theorem result_row (l : Fin 2560) :
    val_main_v158 (F := Ideal) x0 x1 x2 x3 (ix2 (tok b n q) l) = val_main_v156 (F := Ideal) x0 x1 x2 x3 (ix3 b (place n q) l) := by
  rw [val_main_v158_apply]
  show val_main_v157 (F := Ideal) x0 x1 x2 x3 (ix2 (tok b n q) l) = _
  unfold val_main_v157
  refine shapeCast_apply _ _ _ _ ?_
  rw [Shape.rowMajor_val_two, Shape.rowMajor_val_three]
  show (b.val * 2048 + (n.val * 128 + q.val)) * 2560 + l.val = ((16 * b.val + n.val) * 128 + q.val) * 2560 + l.val
  omega

/-- Piece `k` of the four arrays side by side, from column `pre` on. -/
theorem piece {w : ℕ} (k : ℕ) (pre : ℕ) (x : (⟨3, ![2, 2048, w]⟩ : Shape).Idx → EReal)
    (xs : List ((s : Shape) × (s.Idx → EReal))) (hc) (hk : k < xs.length) (hx : xs[k] = ⟨⟨3, ![2, 2048, w]⟩, x⟩)
    (hpre : (((xs.take k).map (·.1)).map fun s => if h : s.rank = S2x2048x2560.rank then s.size ((2 : Fin S2x2048x2560.rank).cast h.symm) else 0).sum = pre)
    (t : Fin 2048) (l : Fin w) (hl : pre + l.val < 2560) :
    concatenate S2x2048x2560 2 xs hc (ix3 b t ⟨pre + l.val, hl⟩) = x (ix3 b t l) :=
  concatenate_apply_piece (2 : Fin S2x2048x2560.rank) xs hc _ k hk _ x hx rfl pre hpre (ix3 b t l) (fun a ha => by
    match a with
    | ⟨0, _⟩ => rfl
    | ⟨1, _⟩ => rfl
    | ⟨2, _⟩ => exact absurd rfl ha) rfl

include hf

theorem ref_query (l : Fin 2560) (hl : l.val = (h.val * 4 + g.val) * 64 + d.val) :
    val_main_v158 (F := Ideal) x0 x1 x2 x3 (ix2 (tok b n q) l) = ((refRow x0 x1 x2 x3 b n q h g).dq d : EReal) := by
  have hb : 0 + (elt h g d).val < 2560 := by show 0 + ((h.val * 4 + g.val) * 64 + d.val) < 2560; clear hl; omega
  obtain rfl : l = ⟨0 + (elt h g d).val, hb⟩ := Fin.ext (hl.trans (Nat.zero_add _).symm)
  rw [result_row, ← dq_at hf]
  unfold val_main_v156
  exact piece b 0 0 (val_main_v154 (F := Ideal) x0 x1 x2 x3) _ _ (by show 0 < 4; omega) rfl rfl _ _ _

theorem ref_gate (l : Fin 2560) (hl : l.val = 1536 + ((h.val * 4 + g.val) * 64 + d.val)) :
    val_main_v158 (F := Ideal) x0 x1 x2 x3 (ix2 (tok b n q) l) = ((refRow x0 x1 x2 x3 b n q h g).dag d : EReal) := by
  have hb : 1536 + (elt h g d).val < 2560 := by show 1536 + ((h.val * 4 + g.val) * 64 + d.val) < 2560; clear hl; omega
  obtain rfl : l = ⟨1536 + (elt h g d).val, hb⟩ := Fin.ext hl
  rw [result_row, ← dag_at hf]
  unfold val_main_v156
  exact piece b 3 1536 (val_main_v96 (F := Ideal) x0 x1 x2 x3) _ _ (by show 3 < 4; omega) rfl rfl _ _ _

theorem ref_key (l : Fin 2560) (hl : l.val = 1024 + (h.val * 64 + d.val)) :
    val_main_v158 (F := Ideal) x0 x1 x2 x3 (ix2 (tok b n q) l)
      = ((dkAt x0 x1 x2 x3 b n ⟨128 + q.val, by omega⟩ h d + if hw : n.val < 15 then dkAt x0 x1 x2 x3 b ⟨n.val + 1, by omega⟩ ⟨q.val, by omega⟩ h d else 0 : ℝ) : EReal) := by
  have hb' : h.val * 64 + d.val < 256 := by clear hl; omega
  have hb : 1024 + (⟨h.val * 64 + d.val, hb'⟩ : Fin 256).val < 2560 := by show 1024 + (h.val * 64 + d.val) < 2560; clear hl; omega
  obtain rfl : l = ⟨1024 + (⟨h.val * 64 + d.val, hb'⟩ : Fin 256).val, hb⟩ := Fin.ext hl
  rw [result_row]
  unfold val_main_v156
  refine (piece b 1 1024 (val_main_v153 (F := Ideal) x0 x1 x2 x3) _ _ (by show 1 < 4; omega) rfl rfl _ _ _).trans ?_
  rw [keys_fold, fold_apply, dk_at hf, EReal.coe_add]
  by_cases hw : n.val < 15
  · rw [dif_pos hw, dif_pos hw, dk_at hf]
  · rw [dif_neg hw, dif_neg hw, EReal.coe_zero]

theorem ref_value (l : Fin 2560) (hl : l.val = 1280 + (h.val * 64 + d.val)) :
    val_main_v158 (F := Ideal) x0 x1 x2 x3 (ix2 (tok b n q) l)
      = ((dvAt x0 x1 x2 x3 b n ⟨128 + q.val, by omega⟩ h d + if hw : n.val < 15 then dvAt x0 x1 x2 x3 b ⟨n.val + 1, by omega⟩ ⟨q.val, by omega⟩ h d else 0 : ℝ) : EReal) := by
  have hb' : h.val * 64 + d.val < 256 := by clear hl; omega
  have hb : 1280 + (⟨h.val * 64 + d.val, hb'⟩ : Fin 256).val < 2560 := by show 1280 + (h.val * 64 + d.val) < 2560; clear hl; omega
  obtain rfl : l = ⟨1280 + (⟨h.val * 64 + d.val, hb'⟩ : Fin 256).val, hb⟩ := Fin.ext hl
  rw [result_row]
  unfold val_main_v156
  refine (piece b 2 1280 (val_main_v144 (F := Ideal) x0 x1 x2 x3) _ _ (by show 2 < 4; omega) rfl rfl _ _ _).trans ?_
  rw [values_fold, fold_apply, dv_at hf, EReal.coe_add]
  by_cases hw : n.val < 15
  · rw [dif_pos hw, dif_pos hw, dv_at hf]
  · rw [dif_neg hw, dif_neg hw, EReal.coe_zero]
end

/-! ## The two arrays -/

variable (m : (ℓ : Loc Cert.Kernel4Ideal.nD Cert.Kernel4Ideal.τ Cert.Kernel4Ideal.sig) → Buf (Elt Ideal) ℓ) (c : Dev Cert.Kernel4Ideal.nD)
variable (hf : Finite4 (biasOf m c) (sinkOf m c) (dyaOf m c) (projOf m c))
include hf

theorem project_eq : (dats m 0 c).arrAt 8 Cert.Kernel4Ideal.cfg0.N
    = val_main_v158 (F := Ideal) (biasOf m c) (sinkOf m c) (dyaOf m c) (projOf m c) := by
  funext i
  obtain ⟨t, l, rfl⟩ : ∃ (t : Fin 4096) (l : Fin 2560), i = ix2 t l := ⟨i 0, i 1, eq_ix2 i⟩
  obtain ⟨b, n, q, rfl⟩ : ∃ (b : Fin 2) (n : Fin 16) (q : Fin 128), t = tok b n q :=
    ⟨⟨t.val / 2048, by omega⟩, ⟨t.val / 128 % 16, by omega⟩, ⟨t.val % 128, by omega⟩, Fin.ext (by
      show t.val = (16 * (t.val / 2048) + t.val / 128 % 16) * 128 + t.val % 128; omega)⟩
  have split : ∀ h : Fin 4, ∃ p j : Fin 2, h = keyHead p j := fun h =>
    ⟨⟨h.val / 2, by omega⟩, ⟨h.val % 2, by omega⟩, Fin.ext (by show h.val = h.val / 2 * 2 + h.val % 2; omega)⟩
  by_cases h1 : l.val < 1024
  · obtain ⟨h, g, d, e⟩ : ∃ (h g : Fin 4) (d : Fin 64), l.val = (h.val * 4 + g.val) * 64 + d.val :=
      ⟨⟨l.val / 256, by omega⟩, ⟨l.val / 64 % 4, by omega⟩, ⟨l.val % 64, by omega⟩, by
        show l.val = (l.val / 256 * 4 + l.val / 64 % 4) * 64 + l.val % 64; omega⟩
    rw [ref_query hf b n q h g d l e]
    obtain ⟨p, j, rfl⟩ := split h
    have el : l = ⟨((keyHead p j).val * 4 + g.val) * 64 + d.val, by have := (keyHead p j).isLt; omega⟩ := Fin.ext e
    rw [el]
    exact final_query m c hf b n q p j g d
  by_cases h2 : l.val < 1280
  · obtain ⟨h, d, e⟩ : ∃ (h : Fin 4) (d : Fin 64), l.val = 1024 + (h.val * 64 + d.val) :=
      ⟨⟨(l.val - 1024) / 64, by omega⟩, ⟨(l.val - 1024) % 64, by omega⟩, by
        show l.val = 1024 + ((l.val - 1024) / 64 * 64 + (l.val - 1024) % 64); omega⟩
    rw [ref_key hf b n q h d l e]
    obtain ⟨p, j, rfl⟩ := split h
    have el : l = ⟨1024 + ((keyHead p j).val * 64 + d.val), by have := (keyHead p j).isLt; omega⟩ := Fin.ext e
    rw [el]
    exact final_key m c hf b n q p j d
  by_cases h3 : l.val < 1536
  · obtain ⟨h, d, e⟩ : ∃ (h : Fin 4) (d : Fin 64), l.val = 1280 + (h.val * 64 + d.val) :=
      ⟨⟨(l.val - 1280) / 64, by omega⟩, ⟨(l.val - 1280) % 64, by omega⟩, by
        show l.val = 1280 + ((l.val - 1280) / 64 * 64 + (l.val - 1280) % 64); omega⟩
    rw [ref_value hf b n q h d l e]
    obtain ⟨p, j, rfl⟩ := split h
    have el : l = ⟨1280 + ((keyHead p j).val * 64 + d.val), by have := (keyHead p j).isLt; omega⟩ := Fin.ext e
    rw [el]
    exact final_value m c hf b n q p j d
  · obtain ⟨h, g, d, e⟩ : ∃ (h g : Fin 4) (d : Fin 64), l.val = 1536 + ((h.val * 4 + g.val) * 64 + d.val) :=
      ⟨⟨(l.val - 1536) / 256, by omega⟩, ⟨(l.val - 1536) / 64 % 4, by omega⟩, ⟨(l.val - 1536) % 64, by omega⟩, by
        show l.val = 1536 + (((l.val - 1536) / 256 * 4 + (l.val - 1536) / 64 % 4) * 64 + (l.val - 1536) % 64); omega⟩
    rw [ref_gate hf b n q h g d l e]
    obtain ⟨p, j, rfl⟩ := split h
    have el : l = ⟨1536 + (((keyHead p j).val * 4 + g.val) * 64 + d.val), by have := (keyHead p j).isLt; omega⟩ := Fin.ext e
    rw [el]
    exact final_gate m c hf b n q p j g d

end Cert.Attn
end
-- ==== Proof.AttnAccum.lean ====
/- What a point adds to the two blocks that gather bias and sink gradients over the whole launch. -/
module

public import proofs.«01_k».proof.Proof.AttnBlock

@[expose] public section

set_option maxRecDepth 16384

noncomputable section

namespace Cert.Attn

open Cert.Kernel4Ideal Cert.Kernel4Ideal.Gen Idealize.ShloMosaic Idealize.ShloMosaic.TcCoe Idealize.SL.Sem

/-! ## Arrays of sixteen heads -/

section
variable {R C : ℕ}

/-- The block of head `h`. -/
def headAt (X : Vec Ideal ⟨3, ![16, R, C]⟩ .f32) (h : ℕ) (hh : h + 1 ≤ 16) : Vec Ideal ⟨3, ![1, R, C]⟩ .f32 :=
  fun i => X (ix3 ⟨h, hh⟩ (i 1) (i 2))

theorem load_head {κ : Kind} {M : Memref sig κ .vmem ⟨3, ![16, R, C]⟩ .f32} (hM : M.IsWhole) (x : Vec Ideal ⟨3, ![16, R, C]⟩ .f32) (h : ℕ)
    (inb : ∀ a, (![h, 0, 0] : Fin 3 → ℕ) a + (![1, R, C] : Fin 3 → ℕ) a ≤ (⟨3, ![16, R, C]⟩ : Shape).size a) :
    View.readAt (Elt Ideal) M.view (Rect.unit (s := ⟨3, ![16, R, C]⟩) ![h, 0, 0] ![1, R, C] inb).toLoadRect (hM.unread x) = headAt x h (inb 0) := by
  rw [View.readAt_eq_ld, hM.read_unread]
  funext i
  rw [View.ld_unit_apply_of x _ _ inb i (ix3 ⟨h, inb 0⟩ (i 1) (i 2)) (by
    intro a
    fin_cases a
    · have : (i 0).val < 1 := (i 0).isLt
      show h = h + (i 0).val
      omega
    · exact (Nat.zero_add _).symm
    · exact (Nat.zero_add _).symm)]
  rfl

/-- A load passes over the store of another head. -/
theorem load_over {v : View sig .tc .vmem ⟨3, ![16, R, C]⟩ .f32} (k h : ℕ) (hk : k ≠ h) (w : Vec Ideal ⟨3, ![1, R, C]⟩ .f32)
    (inb₁ : ∀ a, (![k, 0, 0] : Fin 3 → ℕ) a + (![1, R, C] : Fin 3 → ℕ) a ≤ (⟨3, ![16, R, C]⟩ : Shape).size a)
    (inb : ∀ a, (![h, 0, 0] : Fin 3 → ℕ) a + (![1, R, C] : Fin 3 → ℕ) a ≤ (⟨3, ![16, R, C]⟩ : Shape).size a)
    (L : List (View.Piece (Elt Ideal) ⟨3, ![16, R, C]⟩ .f32)) :
    v.readCov (Val := Elt Ideal) (⟨Rect.unit (s := ⟨3, ![16, R, C]⟩) ![k, 0, 0] ![1, R, C] inb₁, w⟩ :: L)
        (Rect.unit (s := ⟨3, ![16, R, C]⟩) ![h, 0, 0] ![1, R, C] inb).toLoadRect
      = v.readCov (Val := Elt Ideal) L (Rect.unit (s := ⟨3, ![16, R, C]⟩) ![h, 0, 0] ![1, R, C] inb).toLoadRect := by
  funext i
  refine View.read_writes_cons_unit_of_not_mem (s := ⟨3, ![16, R, C]⟩) v _ inb₁ w _ _ rfl 0 ?_
  have : (i 0).val < 1 := (i 0).isLt
  show h + 1 * (i 0).val < k ∨ k + 1 ≤ h + 1 * (i 0).val
  omega

/-- A load from an array just filled with `Z`. -/
theorem load_whole {v : View sig .tc .vmem ⟨3, ![16, R, C]⟩ .f32} (Z : Vec Ideal ⟨3, ![16, R, C]⟩ .f32) (h : ℕ)
    (inb₁ : ∀ a, (![0, 0, 0] : Fin 3 → ℕ) a + (![16, R, C] : Fin 3 → ℕ) a ≤ (⟨3, ![16, R, C]⟩ : Shape).size a)
    (inb : ∀ a, (![h, 0, 0] : Fin 3 → ℕ) a + (![1, R, C] : Fin 3 → ℕ) a ≤ (⟨3, ![16, R, C]⟩ : Shape).size a) :
    v.readCov (Val := Elt Ideal) [⟨Rect.unit (s := ⟨3, ![16, R, C]⟩) ![0, 0, 0] ![16, R, C] inb₁, Z⟩]
        (Rect.unit (s := ⟨3, ![16, R, C]⟩) ![h, 0, 0] ![1, R, C] inb).toLoadRect = headAt Z h (inb 0) := by
  funext i
  have h0 : (i 0).val < 1 := (i 0).isLt
  refine View.read_writes_cons_unit_of_mem (s := ⟨3, ![16, R, C]⟩) v _ inb₁ Z _ _ (ix3 ⟨h, inb 0⟩ (i 1) (i 2)) rfl fun a => ?_
  fin_cases a
  · show h + 1 * (i 0).val = 0 + h
    omega
  · show 0 + 1 * (i 1).val = 0 + (i 1).val
    omega
  · show 0 + 1 * (i 2).val = 0 + (i 2).val
    omega

theorem headInb (p : Fin 2) (k : Fin 8) :
    ∀ a, (![p.val * 8 + k.val, 0, 0] : Fin 3 → ℕ) a + (![1, R, C] : Fin 3 → ℕ) a ≤ (⟨3, ![16, R, C]⟩ : Shape).size a := by
  intro a
  fin_cases a
  · show p.val * 8 + k.val + 1 ≤ 16
    omega
  · exact Nat.le_of_eq (Nat.zero_add _)
  · exact Nat.le_of_eq (Nat.zero_add _)

/-- The eight stores of pair `p`, a head each. -/
abbrev heads (p : Fin 2) (Q : Fin 8 → Vec Ideal ⟨3, ![1, R, C]⟩ .f32) : List (View.Piece (Elt Ideal) ⟨3, ![16, R, C]⟩ .f32) :=
  View.tilePieces (s := ⟨3, ![16, R, C]⟩) ![1, R, C] (fun k : Fin 8 => ![p.val * 8 + k.val, 0, 0]) (headInb p) Q 8 (le_refl 8)

theorem heads_hit {v : View sig .tc .vmem ⟨3, ![16, R, C]⟩ .f32} (f : v.ty.Contents (Elt Ideal)) (p : Fin 2) (Q : Fin 8 → Vec Ideal ⟨3, ![1, R, C]⟩ .f32)
    (L : List (View.Piece (Elt Ideal) ⟨3, ![16, R, C]⟩ .f32)) (k : Fin 8) (h : Fin 16) (hh : h.val = p.val * 8 + k.val) (r : Fin R) (s : Fin C) :
    v.read (Elt Ideal) (v.writes (Elt Ideal) f (heads p Q ++ L)) (ix3 h r s) = Q k (ix3 0 r s) := by
  rw [View.writes_append]
  refine View.read_tilePieces v _ _ _ _ Q 8 _ _ k k.isLt (ix3 0 r s) (fun a => ?_) 0 (fun i hi => ?_)
  · match a with
    | ⟨0, _⟩ => exact hh
    | ⟨1, _⟩ => exact (Nat.zero_add _).symm
    | ⟨2, _⟩ => exact (Nat.zero_add _).symm
  · show h.val < p.val * 8 + i.val ∨ p.val * 8 + i.val + 1 ≤ h.val
    have : i.val ≠ k.val := fun e => hi (Fin.ext e)
    omega

theorem heads_miss {v : View sig .tc .vmem ⟨3, ![16, R, C]⟩ .f32} (f : v.ty.Contents (Elt Ideal)) (p : Fin 2) (Q : Fin 8 → Vec Ideal ⟨3, ![1, R, C]⟩ .f32)
    (L : List (View.Piece (Elt Ideal) ⟨3, ![16, R, C]⟩ .f32)) (h : Fin 16) (hh : h.val / 8 ≠ p.val) (r : Fin R) (s : Fin C) :
    v.read (Elt Ideal) (v.writes (Elt Ideal) f (heads p Q ++ L)) (ix3 h r s) = v.read (Elt Ideal) (v.writes (Elt Ideal) f L) (ix3 h r s) := by
  rw [View.writes_append]
  refine View.read_tilePieces_miss v _ _ _ _ Q 8 _ _ 0 (fun i _ => ?_)
  show h.val < p.val * 8 + i.val ∨ p.val * 8 + i.val + 1 ≤ h.val
  omega

/-- The filling of the whole array. -/
abbrev whole (hi : ∀ a, (![0, 0, 0] : Fin 3 → ℕ) a + (![16, R, C] : Fin 3 → ℕ) a ≤ (⟨3, ![16, R, C]⟩ : Shape).size a)
    (Z : Vec Ideal ⟨3, ![16, R, C]⟩ .f32) : List (View.Piece (Elt Ideal) ⟨3, ![16, R, C]⟩ .f32) :=
  [⟨Rect.unit (s := ⟨3, ![16, R, C]⟩) ![0, 0, 0] ![16, R, C] hi, Z⟩]

theorem whole_read {v : View sig .tc .vmem ⟨3, ![16, R, C]⟩ .f32} (f : v.ty.Contents (Elt Ideal)) (hi) (Z : Vec Ideal ⟨3, ![16, R, C]⟩ .f32) (h r s) :
    v.read (Elt Ideal) (v.writes (Elt Ideal) f (whole hi Z)) (ix3 h r s) = Z (ix3 h r s) := by
  refine View.read_writes_cons_unit_of_mem (s := ⟨3, ![16, R, C]⟩) v _ hi Z _ _ (ix3 h r s) rfl fun a => ?_
  match a with
  | ⟨0, _⟩ => exact (Nat.zero_add _).symm
  | ⟨1, _⟩ => exact (Nat.zero_add _).symm
  | ⟨2, _⟩ => exact (Nat.zero_add _).symm

/-- Stores that add, head by head of pair `p`, `G` to what the array held as `X`: `X` itself at the other pair's heads. -/
theorem adds {v : View sig .tc .vmem ⟨3, ![16, R, C]⟩ .f32} (f : v.ty.Contents (Elt Ideal)) (p : Fin 2)
    (L : List (View.Piece (Elt Ideal) ⟨3, ![16, R, C]⟩ .f32)) (X : Vec Ideal ⟨3, ![16, R, C]⟩ .f32)
    (hX : ∀ h r s, v.read (Elt Ideal) (v.writes (Elt Ideal) f L) (ix3 h r s) = X (ix3 h r s))
    (Q : Fin 8 → Vec Ideal ⟨3, ![1, R, C]⟩ .f32 → Vec Ideal ⟨3, ![1, R, C]⟩ .f32) (G : Fin 8 → Fin R → Fin C → EReal)
    (hQ : ∀ k x r s, Q k x (ix3 0 r s) = x (ix3 0 r s) + G k r s) (h : Fin 16) (r : Fin R) (s : Fin C) :
    v.read (Elt Ideal) (v.writes (Elt Ideal) f (heads p (fun k => Q k (headAt X (p.val * 8 + k.val) (by omega))) ++ L)) (ix3 h r s)
      = X (ix3 h r s) + if h.val / 8 = p.val then G ⟨h.val % 8, by omega⟩ r s else 0 := by
  by_cases hp : h.val / 8 = p.val
  · have e : h.val = p.val * 8 + h.val % 8 := by omega
    rw [if_pos hp, heads_hit f p _ L ⟨h.val % 8, by omega⟩ h e, hQ]
    refine congrArg (· + _) ?_
    show X (ix3 ⟨p.val * 8 + h.val % 8, _⟩ r s) = _
    simp only [← e]
  · rw [if_neg hp, add_zero, heads_miss f p _ L h hp, hX]

theorem adds_kept {v : View sig .tc .vmem ⟨3, ![16, R, C]⟩ .f32} (f : v.ty.Contents (Elt Ideal)) (p : Fin 2)
    (X : Vec Ideal ⟨3, ![16, R, C]⟩ .f32) (hX : v.read (Elt Ideal) f = X)
    (Q : Fin 8 → Vec Ideal ⟨3, ![1, R, C]⟩ .f32 → Vec Ideal ⟨3, ![1, R, C]⟩ .f32) (G : Fin 8 → Fin R → Fin C → EReal)
    (hQ : ∀ k x r s, Q k x (ix3 0 r s) = x (ix3 0 r s) + G k r s) (h : Fin 16) (r : Fin R) (s : Fin C) :
    v.read (Elt Ideal) (v.writes (Elt Ideal) f (heads p (fun k => Q k (headAt X (p.val * 8 + k.val) (by omega))))) (ix3 h r s)
      = X (ix3 h r s) + if h.val / 8 = p.val then G ⟨h.val % 8, by omega⟩ r s else 0 := by
  have e := adds (v := v) f p [] X (fun h r s => congrFun hX _) Q G hQ h r s
  rw [List.append_nil] at e
  exact e
end

/-! ## A point's additions -/

theorem biasSlice (g : Fin 4) : S512x256.Slices ![g.val * 128, 0] S128x256 := by
  rcases g with ⟨g, hg⟩
  interval_cases g
  · exact slices_S512x256_o0_0_S128x256
  · exact slices_S512x256_o128_0_S128x256
  · exact slices_S512x256_o256_0_S128x256
  · exact slices_S512x256_o384_0_S128x256

theorem sinkSlice (g : Fin 4) : S512x1.Slices ![g.val * 128, 0] S128x1 := by
  rcases g with ⟨g, hg⟩
  interval_cases g
  · exact slices_S512x1_o0_0_S128x1
  · exact slices_S512x1_o128_0_S128x1
  · exact slices_S512x1_o256_0_S128x1
  · exact slices_S512x1_o384_0_S128x1

/-- What a point adds for head `k` of its eight to the bias gradients found as `x`, -/
def addBias (A : Seen) (k : Fin 8) (x : Vec Ideal S1x128x256 .f32) : Vec Ideal S1x128x256 .f32 :=
  k0_pay30 (F := Ideal) (extractStridedSlice S128x256 ![(⟨k.val % 4, by omega⟩ : Fin 4).val * 128, 0] (dss A ⟨k.val / 4, by omega⟩) (biasSlice _)) x

/-- and to the sink gradients. -/
def addSink (A : Seen) (k : Fin 8) (x : Vec Ideal S1x8x128 .f32) : Vec Ideal S1x8x128 .f32 :=
  k0_pay31 (F := Ideal) (broadcastTo S8x128 (shapeCast S1x1 (shapeCast S1x1 (multiReduction (F := Ideal) .add [0] S1
    (extractStridedSlice S128x1 ![(⟨k.val % 4, by omega⟩ : Fin 4).val * 128, 0] (dsinks A ⟨k.val / 4, by omega⟩) (sinkSlice _))
    0x00000000#32 reduces_S128x1_S1 (.inl rfl) rfl) shapeCasts_S1_S1x1) shapeCasts_S1x1_S1x1) broadcasts_S1x1_S8x128) x

theorem load_bias {κ : Kind} {M : Memref sig κ .vmem S16x128x256 .f32} (hM : M.IsWhole) (x : Vec Ideal S16x128x256 .f32) (h : ℕ)
    (inb : ∀ a, (![h, 0, 0] : Fin 3 → ℕ) a + (![1, 128, 256] : Fin 3 → ℕ) a ≤ S16x128x256.size a) :
    View.readAt (Elt Ideal) M.view (Rect.unit (s := S16x128x256) ![h, 0, 0] ![1, 128, 256] inb).toLoadRect (hM.unread x) = headAt x h (inb 0) :=
  load_head hM x h inb

theorem load_sink {κ : Kind} {M : Memref sig κ .vmem S16x8x128 .f32} (hM : M.IsWhole) (x : Vec Ideal S16x8x128 .f32) (h : ℕ)
    (inb : ∀ a, (![h, 0, 0] : Fin 3 → ℕ) a + (![1, 8, 128] : Fin 3 → ℕ) a ≤ S16x8x128.size a) :
    View.readAt (Elt Ideal) M.view (Rect.unit (s := S16x8x128) ![h, 0, 0] ![1, 8, 128] inb).toLoadRect (hM.unread x) = headAt x h (inb 0) :=
  load_head hM x h inb

theorem over_bias {v : View sig .tc .vmem S16x128x256 .f32} (k h : ℕ) (hk : k ≠ h) (w : Vec Ideal S1x128x256 .f32)
    (inb₁ : ∀ a, (![k, 0, 0] : Fin 3 → ℕ) a + (![1, 128, 256] : Fin 3 → ℕ) a ≤ S16x128x256.size a)
    (inb : ∀ a, (![h, 0, 0] : Fin 3 → ℕ) a + (![1, 128, 256] : Fin 3 → ℕ) a ≤ S16x128x256.size a)
    (L : List (View.Piece (Elt Ideal) S16x128x256 .f32)) :
    v.readCov (Val := Elt Ideal) (⟨Rect.unit (s := S16x128x256) ![k, 0, 0] ![1, 128, 256] inb₁, w⟩ :: L)
        (Rect.unit (s := S16x128x256) ![h, 0, 0] ![1, 128, 256] inb).toLoadRect
      = v.readCov (Val := Elt Ideal) L (Rect.unit (s := S16x128x256) ![h, 0, 0] ![1, 128, 256] inb).toLoadRect :=
  load_over k h hk w inb₁ inb L

theorem over_sink {v : View sig .tc .vmem S16x8x128 .f32} (k h : ℕ) (hk : k ≠ h) (w : Vec Ideal S1x8x128 .f32)
    (inb₁ : ∀ a, (![k, 0, 0] : Fin 3 → ℕ) a + (![1, 8, 128] : Fin 3 → ℕ) a ≤ S16x8x128.size a)
    (inb : ∀ a, (![h, 0, 0] : Fin 3 → ℕ) a + (![1, 8, 128] : Fin 3 → ℕ) a ≤ S16x8x128.size a)
    (L : List (View.Piece (Elt Ideal) S16x8x128 .f32)) :
    v.readCov (Val := Elt Ideal) (⟨Rect.unit (s := S16x8x128) ![k, 0, 0] ![1, 8, 128] inb₁, w⟩ :: L)
        (Rect.unit (s := S16x8x128) ![h, 0, 0] ![1, 8, 128] inb).toLoadRect
      = v.readCov (Val := Elt Ideal) L (Rect.unit (s := S16x8x128) ![h, 0, 0] ![1, 8, 128] inb).toLoadRect :=
  load_over k h hk w inb₁ inb L

theorem whole_bias {v : View sig .tc .vmem S16x128x256 .f32} (Z : Vec Ideal S16x128x256 .f32) (h : ℕ)
    (inb₁ : ∀ a, (![0, 0, 0] : Fin 3 → ℕ) a + (![16, 128, 256] : Fin 3 → ℕ) a ≤ S16x128x256.size a)
    (inb : ∀ a, (![h, 0, 0] : Fin 3 → ℕ) a + (![1, 128, 256] : Fin 3 → ℕ) a ≤ S16x128x256.size a) :
    v.readCov (Val := Elt Ideal) [⟨Rect.unit (s := S16x128x256) ![0, 0, 0] ![16, 128, 256] inb₁, Z⟩]
        (Rect.unit (s := S16x128x256) ![h, 0, 0] ![1, 128, 256] inb).toLoadRect = headAt Z h (inb 0) :=
  load_whole Z h inb₁ inb

theorem whole_sink {v : View sig .tc .vmem S16x8x128 .f32} (Z : Vec Ideal S16x8x128 .f32) (h : ℕ)
    (inb₁ : ∀ a, (![0, 0, 0] : Fin 3 → ℕ) a + (![16, 8, 128] : Fin 3 → ℕ) a ≤ S16x8x128.size a)
    (inb : ∀ a, (![h, 0, 0] : Fin 3 → ℕ) a + (![1, 8, 128] : Fin 3 → ℕ) a ≤ S16x8x128.size a) :
    v.readCov (Val := Elt Ideal) [⟨Rect.unit (s := S16x8x128) ![0, 0, 0] ![16, 8, 128] inb₁, Z⟩]
        (Rect.unit (s := S16x8x128) ![h, 0, 0] ![1, 8, 128] inb).toLoadRect = headAt Z h (inb 0) :=
  load_whole Z h inb₁ inb

variable (m : (ℓ : Loc nD τ sig) → Buf (Elt Ideal) ℓ) (c : Dev nD)

/-- The stores of pair `p` that add to an array found as `X`. -/
abbrev biasHeads (A : Seen) (p : Fin 2) (X : Vec Ideal S16x128x256 .f32) : List (View.Piece (Elt Ideal) S16x128x256 .f32) :=
  heads p (fun k => addBias A k (headAt X (p.val * 8 + k.val) (by omega)))
abbrev sinkHeads (A : Seen) (p : Fin 2) (X : Vec Ideal S16x8x128 .f32) : List (View.Piece (Elt Ideal) S16x8x128 .f32) :=
  heads p (fun k => addSink A k (headAt X (p.val * 8 + k.val) (by omega)))

theorem gathers_C (t : Fin cfg0.N) (h : conds0_C (grid0.coords t)) (p : Held Ideal) :
    (runC (F := Ideal) m c t h p).2.1 = biasHeads (seen m c t) 0 p.2.1 ∧ (runC (F := Ideal) m c t h p).2.2.1 = sinkHeads (seen m c t) 0 p.2.2.1 := by
  unfold runC kernelRun0_C
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_bias, load_sink]
  constructor <;> sl_kernel_rfl

theorem gathers_D (t : Fin cfg0.N) (h : conds0_D (grid0.coords t)) (p : Held Ideal) :
    (runD (F := Ideal) m c t h p).2.1 = biasHeads (seen m c t) 0 p.2.1 ∧ (runD (F := Ideal) m c t h p).2.2.1 = sinkHeads (seen m c t) 0 p.2.2.1 := by
  unfold runD kernelRun0_D
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_bias, load_sink]
  constructor <;> sl_kernel_rfl

theorem gathers_B (t : Fin cfg0.N) (h : conds0_B (grid0.coords t)) (p : Held Ideal) :
    (runB (F := Ideal) m c t h p).2.1 = biasHeads (seen m c t) 1 p.2.1 ∧ (runB (F := Ideal) m c t h p).2.2.1 = sinkHeads (seen m c t) 1 p.2.2.1 := by
  unfold runB kernelRun0_B
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), load_bias, load_sink]
  constructor <;> sl_kernel_rfl

theorem gathers_A (t : Fin cfg0.N) (h : conds0_A (grid0.coords t)) :
    (runA (F := Ideal) m c t h).2.1 = biasHeads (seen m c t) 0 (k0_pay70 (F := Ideal)) ++ whole inb_S16x128x256_S16x128x256_0_0_0 (k0_pay70 (F := Ideal))
      ∧ (runA (F := Ideal) m c t h).2.2.1 = sinkHeads (seen m c t) 0 (k0_pay71 (F := Ideal)) ++ whole inb_S16x8x128_S16x8x128_0_0_0 (k0_pay71 (F := Ideal)) := by
  unfold runA kernelRun0_A
  dsimp only
  sl_unfold_words
  simp only [load_cols (hs0_0 t), load_cols (hs0_1 t), load_cols (hs0_2 t), load_cols (hs0_3 t), load_cols (hs0_4 t),
    load_cols (hs0_5 t), load_cols (hs0_6 t), load_cols (hs0_7 t), over_bias, over_sink, whole_bias, whole_sink, ne_eq, reduceCtorEq,
    OfNat.ofNat_ne_zero, OfNat.zero_ne_ofNat, OfNat.ofNat_ne_one, OfNat.one_ne_ofNat, zero_ne_one, one_ne_zero, Nat.reduceEqDiff, not_false_eq_true]
  constructor <;> sl_kernel_rfl

end Cert.Attn
end
-- ==== Proof.AttnGather.lean ====
/- The two arrays the launch gathers bias and sink gradients in, as sums over the points. -/
module

public import proofs.«01_k».proof.Proof.AttnAccum

@[expose] public section

set_option maxRecDepth 16384

noncomputable section

namespace Cert.Attn

open Cert.Kernel4Ideal Cert.Kernel4Ideal.Gen Idealize.ShloMosaic Idealize.ShloMosaic.TcCoe Idealize.SL.Sem

/-- Row `r` of head `k` of eight, in the stack of its key head's four. -/
def rowIn (k : Fin 8) (r : Fin 128) : Fin 512 := ⟨(⟨k.val % 4, by omega⟩ : Fin 4).val * 128 + r.val, rowOf_lt _ r⟩

/-- A point's own part of the bias gradients, -/
def gainBias (A : Seen) (k : Fin 8) (r : Fin 128) (s : Fin 256) : EReal := dss A ⟨k.val / 4, by omega⟩ (ix2 (rowIn k r) s)

/-- and of the sink gradients. -/
def gainSink (A : Seen) (k : Fin 8) (r : Fin 8) (l : Fin 128) : EReal := ∑ q : Fin 128, dsinks A ⟨k.val / 4, by omega⟩ (ix2 (rowIn k q) 0)

theorem addBias_apply (A : Seen) (k : Fin 8) (x : Vec Ideal S1x128x256 .f32) (r : Fin 128) (s : Fin 256) :
    addBias A k x (ix3 0 r s) = x (ix3 0 r s) + gainBias A k r s := by
  unfold addBias k0_pay30 gainBias
  generalize dss A ⟨k.val / 4, by omega⟩ = y
  pointwise
  refine congrArg₂ (· + ·) ?_ ?_
  · exact congrArg x (by funext a; match a with
      | ⟨0, _⟩ => rfl
      | ⟨1, _⟩ => rfl
      | ⟨2, _⟩ => rfl)
  · exact congrArg y (by funext a; match a with
      | ⟨0, _⟩ => exact Fin.ext (by first | rfl | exact Nat.add_comm _ _)
      | ⟨1, _⟩ => exact Fin.ext (by first | rfl | exact Nat.zero_add _))

theorem addSink_apply (A : Seen) (k : Fin 8) (x : Vec Ideal S1x8x128 .f32) (r : Fin 8) (l : Fin 128) :
    addSink A k x (ix3 0 r l) = x (ix3 0 r l) + gainSink A k r l := by
  unfold addSink k0_pay31 gainSink
  generalize dsinks A ⟨k.val / 4, by omega⟩ = y
  pointwise
  rfl

/-- `X'` is `X` and pair `p`'s part `G`. -/
def Adds {R C : ℕ} (X' X : Vec Ideal ⟨3, ![16, R, C]⟩ .f32) (p : ℕ) (G : Fin 8 → Fin R → Fin C → EReal) : Prop :=
  ∀ (h : Fin 16) (r : Fin R) (s : Fin C), X' (ix3 h r s) = X (ix3 h r s) + if h.val / 8 = p then G ⟨h.val % 8, by omega⟩ r s else 0

/-- Both arrays of a state of the buffers. -/
def AddsBoth (H' : Held Ideal) (X : Vec Ideal S16x128x256 .f32) (Y : Vec Ideal S16x8x128 .f32) (p : ℕ) (A : Seen) : Prop :=
  Adds H'.2.1 X p (gainBias A) ∧ Adds H'.2.2.1 Y p (gainSink A)

theorem Adds.of_eq {R C : ℕ} {Y X' X : Vec Ideal ⟨3, ![16, R, C]⟩ .f32} {p : ℕ} {G : Fin 8 → Fin R → Fin C → EReal} (e : Y = X') (h : Adds X' X p G) :
    Adds Y X p G := by rw [e]; exact h

variable (m : (ℓ : Loc nD τ sig) → Buf (Elt Ideal) ℓ) (c : Dev nD)

/-- The buffers of the two arrays after the stores `L` into them, from anything or from `X`. -/
abbrev fresh9 (L : List (View.Piece (Elt Ideal) S16x128x256 .f32)) : Vec Ideal S16x128x256 .f32 :=
  VO0_9.read (Elt Ideal) (VO0_9.writes (Elt Ideal) VO0_9.junk L)
abbrev fresh10 (L : List (View.Piece (Elt Ideal) S16x8x128 .f32)) : Vec Ideal S16x8x128 .f32 :=
  VO0_10.read (Elt Ideal) (VO0_10.writes (Elt Ideal) VO0_10.junk L)
abbrev upon9 (t : Fin cfg0.N) (X : Vec Ideal S16x128x256 .f32) (L : List (View.Piece (Elt Ideal) S16x128x256 .f32)) : Vec Ideal S16x128x256 .f32 :=
  (ms0_9 t).view.read (Elt Ideal) ((ms0_9 t).view.writes (Elt Ideal) ((hs0_9 t).unread X) L)
abbrev upon10 (t : Fin cfg0.N) (X : Vec Ideal S16x8x128 .f32) (L : List (View.Piece (Elt Ideal) S16x8x128 .f32)) : Vec Ideal S16x8x128 .f32 :=
  (ms0_10 t).view.read (Elt Ideal) ((ms0_10 t).view.writes (Elt Ideal) ((hs0_10 t).unread X) L)

theorem upon9_adds (t : Fin cfg0.N) (A : Seen) (p : Fin 2) (X : Vec Ideal S16x128x256 .f32) : Adds (upon9 t X (biasHeads A p X)) X p.val (gainBias A) :=
  fun h r s => adds_kept _ p X ((hs0_9 t).read_unread X) (addBias A) (gainBias A) (addBias_apply A) h r s

theorem upon10_adds (t : Fin cfg0.N) (A : Seen) (p : Fin 2) (X : Vec Ideal S16x8x128 .f32) : Adds (upon10 t X (sinkHeads A p X)) X p.val (gainSink A) :=
  fun h r s => adds_kept _ p X ((hs0_10 t).read_unread X) (addSink A) (gainSink A) (addSink_apply A) h r s

set_option maxHeartbeats 2000000 in
theorem gain_C (t : Fin cfg0.N) (h : conds0_C (grid0.coords t)) (H : Held Ideal) : AddsBoth (leavesC m c t h H) H.2.1 H.2.2.1 0 (seen m c t) := by
  have e0 : (leavesC m c t h H).2.1 = upon9 t H.2.1 (biasHeads (seen m c t) 0 H.2.1) := by
    have e := (gathers_C m c t h H).1
    unfold leavesC
    show upon9 t H.2.1 (runC m c t h H).2.1 = _
    rw [e]
  have e1 : (leavesC m c t h H).2.2.1 = upon10 t H.2.2.1 (sinkHeads (seen m c t) 0 H.2.2.1) := by
    have e := (gathers_C m c t h H).2
    unfold leavesC
    show upon10 t H.2.2.1 (runC m c t h H).2.2.1 = _
    rw [e]
  exact ⟨.of_eq e0 (upon9_adds t _ 0 _), .of_eq e1 (upon10_adds t _ 0 _)⟩

set_option maxHeartbeats 2000000 in
theorem gain_D (t : Fin cfg0.N) (h : conds0_D (grid0.coords t)) (H : Held Ideal) : AddsBoth (leavesD m c t h H) H.2.1 H.2.2.1 0 (seen m c t) := by
  have e0 : (leavesD m c t h H).2.1 = upon9 t H.2.1 (biasHeads (seen m c t) 0 H.2.1) := by
    have e := (gathers_D m c t h H).1
    unfold leavesD
    show upon9 t H.2.1 (runD m c t h H).2.1 = _
    rw [e]
  have e1 : (leavesD m c t h H).2.2.1 = upon10 t H.2.2.1 (sinkHeads (seen m c t) 0 H.2.2.1) := by
    have e := (gathers_D m c t h H).2
    unfold leavesD
    show upon10 t H.2.2.1 (runD m c t h H).2.2.1 = _
    rw [e]
  exact ⟨.of_eq e0 (upon9_adds t _ 0 _), .of_eq e1 (upon10_adds t _ 0 _)⟩

set_option maxHeartbeats 2000000 in
theorem gain_B (t : Fin cfg0.N) (h : conds0_B (grid0.coords t)) (H : Held Ideal) : AddsBoth (leavesB m c t h H) H.2.1 H.2.2.1 1 (seen m c t) := by
  have e0 : (leavesB m c t h H).2.1 = upon9 t H.2.1 (biasHeads (seen m c t) 1 H.2.1) := by
    have e := (gathers_B m c t h H).1
    unfold leavesB
    show upon9 t H.2.1 (runB m c t h H).2.1 = _
    rw [e]
  have e1 : (leavesB m c t h H).2.2.1 = upon10 t H.2.2.1 (sinkHeads (seen m c t) 1 H.2.2.1) := by
    have e := (gathers_B m c t h H).2
    unfold leavesB
    show upon10 t H.2.2.1 (runB m c t h H).2.2.1 = _
    rw [e]
  exact ⟨.of_eq e0 (upon9_adds t _ 1 _), .of_eq e1 (upon10_adds t _ 1 _)⟩

set_option maxHeartbeats 2000000 in
theorem gain_A (t : Fin cfg0.N) (h : conds0_A (grid0.coords t)) : AddsBoth (leavesA m c t h) (k0_pay70 (F := Ideal)) (k0_pay71 (F := Ideal)) 0 (seen m c t) := by
  have e0 : (leavesA m c t h).2.1 = fresh9 (biasHeads (seen m c t) 0 (k0_pay70 (F := Ideal)) ++ whole inb_S16x128x256_S16x128x256_0_0_0 (k0_pay70 (F := Ideal))) := by
    have e := (gathers_A m c t h).1
    unfold leavesA
    show fresh9 (runA m c t h).2.1 = _
    rw [e]
  have e1 : (leavesA m c t h).2.2.1 = fresh10 (sinkHeads (seen m c t) 0 (k0_pay71 (F := Ideal)) ++ whole inb_S16x8x128_S16x8x128_0_0_0 (k0_pay71 (F := Ideal))) := by
    have e := (gathers_A m c t h).2
    unfold leavesA
    show fresh10 (runA m c t h).2.2.1 = _
    rw [e]
  exact ⟨.of_eq e0 fun h r s => adds _ 0 _ _ (whole_read _ _ _) (addBias _) (gainBias _) (addBias_apply _) h r s,
    .of_eq e1 fun h r s => adds _ 0 _ _ (whole_read _ _ _) (addSink _) (gainSink _) (addSink_apply _) h r s⟩

/-! ## After point `n` -/

theorem gain_first (hn : 0 < 64) : AddsBoth (now m c 0 hn) (k0_pay70 (F := Ideal)) (k0_pay71 (F := Ideal)) (0 % 2) (seen m c (pt 0 hn)) := by
  rcases kind (pt 0 hn) with h | h | h | h
  · rw [show now m c 0 hn = _ from outs_A m c (pt 0 hn) h]
    exact gain_A m c _ h
  · exact absurd ((hcond0_0 (pt 0 hn)).mpr rfl) h.1
  · exact absurd ((hcond0_0 (pt 0 hn)).mpr rfl) h.1
  · exact absurd ((hcond0_0 (pt 0 hn)).mpr rfl) h.1

theorem gain_next (n : ℕ) (hn : n + 1 < 64) :
    AddsBoth (now m c (n + 1) hn) (now m c n (by omega)).2.1 (now m c n (by omega)).2.2.1 ((n + 1) % 2) (seen m c (pt (n + 1) hn)) := by
  have e0 : (pt (n + 1) hn).val ≠ 0 := Nat.succ_ne_zero n
  rcases kind (pt (n + 1) hn) with h | h | h | h
  · have h64 := (hcond0_0 _).mp h.1
    have : (n + 1) % 64 = 0 := h64
    omega
  · have h2 := h.2.2.1
    rw [hcond0_2] at h2
    have h2 : ¬(n + 1) % 2 = 0 := h2
    rw [show now m c (n + 1) hn = _ from outs_pos m c (pt (n + 1) hn) e0, step_B _ _ _ _ h, show (n + 1) % 2 = 1 from by omega]
    exact gain_B m c _ h _
  · have h2 : (n + 1) % 2 = 0 := (hcond0_2 _).mp h.2.2.1
    rw [show now m c (n + 1) hn = _ from outs_pos m c (pt (n + 1) hn) e0, step_C _ _ _ _ h, h2]
    exact gain_C m c _ h _
  · have h2 : (n + 1) % 2 = 0 := (hcond0_2 _).mp h.2.2.1
    rw [show now m c (n + 1) hn = _ from outs_pos m c (pt (n + 1) hn) e0, step_D _ _ _ _ h, h2]
    exact gain_D m c _ h _

/-- Point `k`'s part of head `h`. -/
def partOf {R C : ℕ} (G : Seen → Fin 8 → Fin R → Fin C → EReal) (h : Fin 16) (r : Fin R) (s : Fin C) (k : ℕ) : EReal :=
  if hk : k < 64 then if h.val / 8 = k % 2 then G (seen m c (pt k hk)) ⟨h.val % 8, by omega⟩ r s else 0 else 0

theorem partOf_lt {R C : ℕ} (G : Seen → Fin 8 → Fin R → Fin C → EReal) (h : Fin 16) (r : Fin R) (s : Fin C) (k : ℕ) (hk : k < 64) :
    partOf m c G h r s k = if h.val / 8 = k % 2 then G (seen m c (pt k hk)) ⟨h.val % 8, by omega⟩ r s else 0 := by
  unfold partOf
  exact dif_pos hk

theorem gathered (n : ℕ) (hn : n < 64) :
    (∀ h r s, (now m c n hn).2.1 (ix3 h r s) = ∑ k ∈ Finset.range (n + 1), partOf m c gainBias h r s k)
      ∧ ∀ h r s, (now m c n hn).2.2.1 (ix3 h r s) = ∑ k ∈ Finset.range (n + 1), partOf m c gainSink h r s k := by
  induction n with
  | zero =>
    have e := gain_first m c hn
    refine ⟨fun h r s => ?_, fun h r s => ?_⟩
    · rw [Finset.sum_range_one, e.1 h r s]
      refine (congrArg (· + _) (Ideal.ofBits_zero_f32 : k0_pay70 (F := Ideal) (ix3 h r s) = 0)).trans ((zero_add _).trans ?_)
      exact (partOf_lt m c _ h r s 0 hn).symm
    · rw [Finset.sum_range_one, e.2 h r s]
      refine (congrArg (· + _) (Ideal.ofBits_zero_f32 : k0_pay71 (F := Ideal) (ix3 h r s) = 0)).trans ((zero_add _).trans ?_)
      exact (partOf_lt m c _ h r s 0 hn).symm
  | succ n ih =>
    have e := gain_next m c n hn
    refine ⟨fun h r s => ?_, fun h r s => ?_⟩
    · rw [Finset.sum_range_succ, ← (ih (by omega)).1 h r s, e.1 h r s]
      exact congrArg (_ + ·) (partOf_lt m c _ h r s (n + 1) hn).symm
    · rw [Finset.sum_range_succ, ← (ih (by omega)).2 h r s, e.2 h r s]
      exact congrArg (_ + ·) (partOf_lt m c _ h r s (n + 1) hn).symm

/-- The points are the sequences' blocks' pairs. -/
theorem sum_points (f : ℕ → EReal) : ∑ k ∈ Finset.range 64, f k = ∑ b : Fin 2, ∑ w : Fin 16, ∑ p : Fin 2, f (ptOf b w p) := by
  refine Eq.trans ?_ (by simp only [Fintype.sum_prod_type] : ∑ x : (Fin 2 × Fin 16) × Fin 2, f (ptOf x.1.1 x.1.2 x.2) = _)
  refine (Finset.sum_nbij (fun x : (Fin 2 × Fin 16) × Fin 2 => ptOf x.1.1 x.1.2 x.2) (fun x _ => Finset.mem_range.mpr (ptOf_lt _ _ _))
    (fun x _ y _ e => ?_) (fun k hk => ?_) (fun _ _ => rfl)).symm
  · obtain ⟨⟨b, w⟩, p⟩ := x
    obtain ⟨⟨b', w'⟩, p'⟩ := y
    have e : ptOf b w p = ptOf b' w' p' := e
    unfold ptOf at e
    have hb : b = b' := Fin.ext (by omega)
    have hw : w = w' := Fin.ext (by omega)
    have hp : p = p' := Fin.ext (by omega)
    rw [hb, hw, hp]
  · have hk : k < 64 := Finset.mem_range.mp hk
    refine ⟨((⟨k / 32, by omega⟩, ⟨15 - k / 2 % 16, by omega⟩), ⟨k % 2, by omega⟩), Finset.mem_coe.mpr (Finset.mem_univ _), ?_⟩
    show 2 * (16 * (k / 32) + (15 - (15 - k / 2 % 16))) + k % 2 = k
    omega

/-- Of a block's two pairs only a head's own counts. -/
theorem sum_parts {R C : ℕ} (G : Seen → Fin 8 → Fin R → Fin C → EReal) (p : Fin 2) (k : Fin 8) (h : Fin 16) (hh : h.val = p.val * 8 + k.val) (r : Fin R) (s : Fin C) :
    ∑ k ∈ Finset.range 64, partOf m c G h r s k = ∑ b : Fin 2, ∑ w : Fin 16, G (seenAt m c b w p) k r s := by
  rw [sum_points]
  refine Finset.sum_congr rfl fun b _ => Finset.sum_congr rfl fun w _ => ?_
  have hk : (⟨h.val % 8, by omega⟩ : Fin 8) = k := Fin.ext (by show h.val % 8 = k.val; omega)
  have key : ∀ p' : Fin 2, partOf m c G h r s (ptOf b w p') = if p = p' then G (seenAt m c b w p') k r s else 0 := fun p' => by
    rw [partOf_lt m c G h r s _ (ptOf_lt b w p'), hk]
    have hm : ptOf b w p' % 2 = p'.val := by unfold ptOf; omega
    by_cases e : p = p'
    · rw [if_pos e, if_pos (by rw [hm, ← e]; omega)]
      rfl
    · rw [if_neg e, if_neg (by rw [hm]; intro e'; exact e (Fin.ext (by omega)))]
  rw [Finset.sum_congr rfl fun p' _ => key p', Finset.sum_ite_eq, if_pos (Finset.mem_univ p)]

/-! ## The arrays at the end -/

theorem index9 (t : Fin cfg0.N) : ∀ a, win0_9.index t a = 0 := (by decide +kernel : ∀ (t : Fin grid0.N) (a), win0_9.index t a = 0) t
theorem index10 (t : Fin cfg0.N) : ∀ a, win0_10.index t a = 0 := (by decide +kernel : ∀ (t : Fin grid0.N) (a), win0_10.index t a = 0) t

theorem last_lt : 63 < 64 := by omega

theorem only9 (t t' : Fin cfg0.N) (h : (cfg0.win 9).flush t = true) (h' : (cfg0.win 9).flush t' = true) : t = t' := by
  rw [flush0_9] at h h'
  have := Nat.lt_of_lt_of_eq t.isLt N_0
  have := Nat.lt_of_lt_of_eq t'.isLt N_0
  exact Fin.ext (by omega)

theorem only10 (t t' : Fin cfg0.N) (h : (cfg0.win 10).flush t = true) (h' : (cfg0.win 10).flush t' = true) : t = t' := by
  rw [flush0_10] at h h'
  have := Nat.lt_of_lt_of_eq t.isLt N_0
  have := Nat.lt_of_lt_of_eq t'.isLt N_0
  exact Fin.ext (by omega)

theorem block9 (t : Fin cfg0.N) (ht : t.val % 64 = 63) :
    ((cfg0.win 9).blk t).view.read (Elt Ideal) ((dats m 0 c).arrAt 9 cfg0.N) = (dats m 0 c).flushed 9 t :=
  (dats m 0 c).read_blk_arrAt_eq_flushed 9 (fun t t' hf hf' hne => absurd (only9 t t' hf hf') hne) cfg0.N t t.isLt ((flush0_9 t).mpr ht)

theorem final9 (n : ℕ) (hn : n < 64) (hl : n % 64 = 63) (h : Fin 16) (r : Fin 128) (s : Fin 256) :
    (dats m 0 c).arrAt 9 cfg0.N (ix3 h r s) = (now m c n hn).2.1 (ix3 h r s) := by
  have hb := congrFun (block9 m c (pt n hn) hl) (ix3 h r s)
  rw [View.read_apply] at hb
  have hi : ((cfg0.win 9).blk (pt n hn)).view.emb (ix3 h r s) = ix3 h r s := by
    funext a
    apply Fin.ext
    match a with
    | ⟨0, _⟩ =>
      show win0_9.index _ 0 * 16 + 1 * h.val = h.val
      rw [index9]; omega
    | ⟨1, _⟩ =>
      show win0_9.index _ 1 * 128 + 1 * r.val = r.val
      rw [index9]; omega
    | ⟨2, _⟩ =>
      show win0_9.index _ 2 * 256 + 1 * s.val = s.val
      rw [index9]; omega
  rw [hi] at hb
  refine hb.trans ?_
  show (cfg0.win 9).cut (grid0.coords _) ((dats m 0 c).after 9 _) (ix3 h r s) = _
  rw [after_9]
  rfl

theorem block10 (t : Fin cfg0.N) (ht : t.val % 64 = 63) :
    ((cfg0.win 10).blk t).view.read (Elt Ideal) ((dats m 0 c).arrAt 10 cfg0.N) = (dats m 0 c).flushed 10 t :=
  (dats m 0 c).read_blk_arrAt_eq_flushed 10 (fun t t' hf hf' hne => absurd (only10 t t' hf hf') hne) cfg0.N t t.isLt ((flush0_10 t).mpr ht)

theorem final10 (n : ℕ) (hn : n < 64) (hl : n % 64 = 63) (h : Fin 16) (r : Fin 8) (s : Fin 128) :
    (dats m 0 c).arrAt 10 cfg0.N (ix3 h r s) = (now m c n hn).2.2.1 (ix3 h r s) := by
  have hb := congrFun (block10 m c (pt n hn) hl) (ix3 h r s)
  rw [View.read_apply] at hb
  have hi : ((cfg0.win 10).blk (pt n hn)).view.emb (ix3 h r s) = ix3 h r s := by
    funext a
    apply Fin.ext
    match a with
    | ⟨0, _⟩ =>
      show win0_10.index _ 0 * 16 + 1 * h.val = h.val
      rw [index10]; omega
    | ⟨1, _⟩ =>
      show win0_10.index _ 1 * 8 + 1 * r.val = r.val
      rw [index10]; omega
    | ⟨2, _⟩ =>
      show win0_10.index _ 2 * 128 + 1 * s.val = s.val
      rw [index10]; omega
  rw [hi] at hb
  refine hb.trans ?_
  show (cfg0.win 10).cut (grid0.coords _) ((dats m 0 c).after 10 _) (ix3 h r s) = _
  rw [after_10]
  rfl

theorem bias_sum (p : Fin 2) (k : Fin 8) (h : Fin 16) (hh : h.val = p.val * 8 + k.val) (r : Fin 128) (s : Fin 256) :
    (dats m 0 c).arrAt 9 cfg0.N (ix3 h r s) = ∑ b : Fin 2, ∑ w : Fin 16, gainBias (seenAt m c b w p) k r s := by
  rw [final9 m c 63 last_lt rfl, (gathered m c 63 last_lt).1 h r s]
  exact sum_parts m c gainBias p k h hh r s

theorem sink_sum (p : Fin 2) (k : Fin 8) (h : Fin 16) (hh : h.val = p.val * 8 + k.val) (r : Fin 8) (l : Fin 128) :
    (dats m 0 c).arrAt 10 cfg0.N (ix3 h r l) = ∑ b : Fin 2, ∑ w : Fin 16, gainSink (seenAt m c b w p) k r l := by
  rw [final10 m c 63 last_lt rfl, (gathered m c 63 last_lt).2 h r l]
  exact sum_parts m c gainSink p k h hh r l

end Cert.Attn
end
-- ==== Proof.AttnSums.lean ====
/- The reference's bias and sink gradients as sums over sequences, blocks and rows. -/
module

public import proofs.«01_k».proof.Proof.AttnReference

@[expose] public section

set_option maxRecDepth 16384

noncomputable section

namespace Cert.Attn

open Cert.Reference4Ideal Cert.Reference4Ideal.Gen Cert.Reference4Ideal.Read Idealize.ShloMosaic Idealize.ShloMosaic.TcCoe Idealize.SL.Sem

/-! ## Sums over sequences and blocks -/

section blocks
variable {a H G N Q S : ℕ} (hr : (⟨6, ![a, H, G, N, Q, S]⟩ : Shape).ReducesTo [0, 3] ⟨4, ![H, G, Q, S]⟩)

theorem drop_blocks (h : Fin H) (g : Fin G) (q : Fin Q) (s : Fin S) (i : (⟨6, ![a, H, G, N, Q, S]⟩ : Shape).Idx) :
    hr.drop i = ix4 h g q s ↔ ∃ p : Fin a × Fin N, ix6 p.1 h g p.2 q s = i := by
  constructor
  · intro e
    refine ⟨(i 0, i 3), ?_⟩
    funext x; apply Fin.ext
    match x with
    | ⟨0, _⟩ => rfl
    | ⟨1, _⟩ => exact (congrArg Fin.val (congrFun e (0 : Fin 4))).symm
    | ⟨2, _⟩ => exact (congrArg Fin.val (congrFun e (1 : Fin 4))).symm
    | ⟨3, _⟩ => rfl
    | ⟨4, _⟩ => exact (congrArg Fin.val (congrFun e (2 : Fin 4))).symm
    | ⟨5, _⟩ => exact (congrArg Fin.val (congrFun e (3 : Fin 4))).symm
  · rintro ⟨p, rfl⟩
    funext x
    apply Fin.ext
    match x with
    | ⟨0, _⟩ => rfl
    | ⟨1, _⟩ => rfl
    | ⟨2, _⟩ => rfl
    | ⟨3, _⟩ => rfl

theorem sum_blocks (v : (⟨6, ![a, H, G, N, Q, S]⟩ : Shape).Idx → EReal) (init : EReal) (h : Fin H) (g : Fin G) (q : Fin Q) (s : Fin S) :
    Ideal.hostReduceAdd hr v init (ix4 h g q s) = init + ∑ b : Fin a, ∑ n : Fin N, v (ix6 b h g n q s) := by
  refine congrArg (init + ·) ((Finset.sum_filter_eq_sum_of_fiber _ (fun p : Fin a × Fin N => ix6 p.1 h g p.2 q s)
    (fun _ _ e => Prod.ext (congrFun e 0) (congrFun e 3)) (drop_blocks hr h g q s) v).trans ?_)
  simp only [Fintype.sum_prod_type]
end blocks

/-! ## Sums over all rows -/

section rows
variable {a H G N Q S : ℕ} (hr : (⟨6, ![a, H, G, N, Q, S]⟩ : Shape).ReducesTo [0, 3, 4, 5] ⟨2, ![H, G]⟩)

theorem drop_rows (h : Fin H) (g : Fin G) (i : (⟨6, ![a, H, G, N, Q, S]⟩ : Shape).Idx) :
    hr.drop i = ix2 h g ↔ ∃ p : Fin a × Fin N × Fin Q × Fin S, ix6 p.1 h g p.2.1 p.2.2.1 p.2.2.2 = i := by
  constructor
  · intro e
    refine ⟨(i 0, i 3, i 4, i 5), ?_⟩
    funext x; apply Fin.ext
    match x with
    | ⟨0, _⟩ => rfl
    | ⟨1, _⟩ => exact (congrArg Fin.val (congrFun e (0 : Fin 2))).symm
    | ⟨2, _⟩ => exact (congrArg Fin.val (congrFun e (1 : Fin 2))).symm
    | ⟨3, _⟩ => rfl
    | ⟨4, _⟩ => rfl
    | ⟨5, _⟩ => rfl
  · rintro ⟨p, rfl⟩
    funext x
    apply Fin.ext
    match x with
    | ⟨0, _⟩ => rfl
    | ⟨1, _⟩ => rfl

theorem sum_rows (v : (⟨6, ![a, H, G, N, Q, S]⟩ : Shape).Idx → EReal) (init : EReal) (h : Fin H) (g : Fin G) :
    Ideal.hostReduceAdd hr v init (ix2 h g) = init + ∑ b : Fin a, ∑ n : Fin N, ∑ q : Fin Q, ∑ s : Fin S, v (ix6 b h g n q s) := by
  refine congrArg (init + ·) ((Finset.sum_filter_eq_sum_of_fiber _ (fun p : Fin a × Fin N × Fin Q × Fin S => ix6 p.1 h g p.2.1 p.2.2.1 p.2.2.2)
    (fun _ _ e => Prod.ext (congrFun e 0) (Prod.ext (congrFun e 3) (Prod.ext (congrFun e 4) (congrFun e 5)))) (drop_rows hr h g) v).trans ?_)
  simp only [Fintype.sum_prod_type]
end rows

variable {x0 : S128x256x16.Idx → EReal} {x1 : S1x16.Idx → EReal} {x2 : S4096x1024.Idx → EReal} {x3 : S4096x10752.Idx → EReal}
variable (hf : Finite4 x0 x1 x2 x3) (h g : Fin 4)
include hf

/-- The bias gradients of head `h`'s query head `g`. -/
theorem bias_at (H : Fin 16) (hH : H.val = h.val * 4 + g.val) (q : Fin 128) (s : Fin 256) : val_main_v159 (F := Ideal) x0 x1 x2 x3 (ix3 H q s)
    = ∑ b : Fin 2, ∑ n : Fin 16, ((refRow x0 x1 x2 x3 b n q h g).ds s : EReal) := by
  rw [val_main_v159_apply, val_main_v128_apply, val_main_v127_apply, val_main_v126_apply]
  have e : idx_main_v126 (idx_main_v127 (idx_main_v128 (idx_main_v159 (ix3 H q s)))) = ix4 h g q s := by
    funext a
    apply Fin.ext
    match a with
    | ⟨0, _⟩ => show ((H.val * 128 + q.val) * 256 + s.val) / 131072 = h.val; omega
    | ⟨1, _⟩ => show ((H.val * 128 + q.val) * 256 + s.val) / 32768 % 4 = g.val; omega
    | ⟨2, _⟩ => show ((H.val * 128 + q.val) * 256 + s.val) / 256 % 128 = q.val; omega
    | ⟨3, _⟩ => show ((H.val * 128 + q.val) * 256 + s.val) % 256 = s.val; omega
  rw [e]
  refine (sum_blocks reducesTo_S1x4x4x1x128x256_S4x4x128x256_d0_3 (val_main_v124 (F := Ideal) x0 x1 x2 x3) (Ideal.ofBits .f32 0x00000000#32) h g q s).trans ?_
  rw [word_zero, zero_add, Fintype.sum_unique, Fintype.sum_unique]
  have e2 : val_main_v124 (F := Ideal) x0 x1 x2 x3 (ix6 (default : Fin 1) h g (default : Fin 1) q s) = val_main_v123 (F := Ideal) x0 x1 x2 x3 (ix4 h g q s) := by
    unfold val_main_v124
    refine shapeCast_apply _ _ _ _ ?_
    rw [Shape.rowMajor_val_six, Shape.rowMajor_val_four]
    show ((h.val * 4 + g.val) * 128 + q.val) * 256 + s.val = ((((0 * 4 + h.val) * 4 + g.val) * 1 + 0) * 128 + q.val) * 256 + s.val
    omega
  rw [e2]
  refine (sum_blocks reducesTo_S2x4x4x16x128x256_S4x4x128x256_d0_3 (val_main_v122 (F := Ideal) x0 x1 x2 x3) (Ideal.ofBits .f32 0x00000000#32) h g q s).trans ?_
  rw [word_zero, zero_add]
  exact Finset.sum_congr rfl fun b _ => Finset.sum_congr rfl fun n _ => ds_at hf b n q h g s

/-- Its sink gradients. -/
theorem sink_at (H : Fin 16) (hH : H.val = h.val * 4 + g.val) (r : Fin 8) (l : Fin 128) : val_main_v162 (F := Ideal) x0 x1 x2 x3 (ix3 H r l)
    = ∑ b : Fin 2, ∑ n : Fin 16, ∑ q : Fin 128, ((refRow x0 x1 x2 x3 b n q h g).dsink : EReal) := by
  rw [val_main_v162_apply, val_main_v161_apply, val_main_v160_apply, val_main_v155_apply, val_main_v121_apply, val_main_v119_apply]
  have e : idx_main_v119 (idx_main_v121 (idx_main_v155 (idx_main_v160 (idx_main_v161 (idx_main_v162 (ix3 H r l)))))) = ix2 h g := by
    funext a
    apply Fin.ext
    match a with
    | ⟨0, _⟩ => show H.val % 16 / 4 = h.val; omega
    | ⟨1, _⟩ => show H.val % 16 / 1 % 4 = g.val; omega
  rw [e]
  refine (sum_rows reducesTo_S1x4x4x1x1x1_S4x4_d0_3_4_5 (val_main_v117 (F := Ideal) x0 x1 x2 x3) (Ideal.ofBits .f32 0x00000000#32) h g).trans ?_
  rw [word_zero, zero_add, Fintype.sum_unique, Fintype.sum_unique, Fintype.sum_unique, Fintype.sum_unique]
  have e2 : val_main_v117 (F := Ideal) x0 x1 x2 x3 (ix6 (default : Fin 1) h g (default : Fin 1) (default : Fin 1) (default : Fin 1))
      = val_main_v116 (F := Ideal) x0 x1 x2 x3 (ix3 h g (0 : Fin 1)) := by
    unfold val_main_v117
    refine shapeCast_apply _ _ _ _ ?_
    rw [Shape.rowMajor_val_six, Shape.rowMajor_val_three]
    show (h.val * 4 + g.val) * 1 + 0 = ((((0 * 4 + h.val) * 4 + g.val) * 1 + 0) * 1 + 0) * 1 + 0
    omega
  rw [e2, val_main_v116_apply]
  refine (congrArg _ (eq_ix2 _)).trans ?_
  refine (sum_rows reducesTo_S2x4x4x16x128x1_S4x4_d0_3_4_5 (val_main_v114 (F := Ideal) x0 x1 x2 x3) (Ideal.ofBits .f32 0x00000000#32) h g).trans ?_
  rw [word_zero, zero_add]
  refine Finset.sum_congr rfl fun b _ => Finset.sum_congr rfl fun n _ => Finset.sum_congr rfl fun q _ => ?_
  rw [Fintype.sum_unique, val_main_v114_apply, show (default : Fin 1) = 0 from rfl, drow_at hf, refRow_z hf]
  show ((_ : ℝ) : EReal) * ((_ : ℝ) : EReal) = _
  rw [← EReal.coe_mul]
  unfold RRow.dsink
  exact congrArg _ (by ring)

end Cert.Attn
end
-- ==== Proof.AttnTotals.lean ====
/- The second and third results: the kernel's bias and sink gradients are the reference's. -/
module

public import proofs.«01_k».proof.Proof.AttnGather
public import proofs.«01_k».proof.Proof.AttnHead
public import proofs.«01_k».proof.Proof.AttnSums

@[expose] public section

set_option maxRecDepth 16384

noncomputable section

namespace Cert.Attn

open Cert.Kernel4Ideal Cert.Kernel4Ideal.Gen Idealize.ShloMosaic Idealize.ShloMosaic.TcCoe Idealize.SL.Sem

variable (m : (ℓ : Loc nD τ Cert.Kernel4Ideal.sig) → Buf (Elt Ideal) ℓ) (c : Dev nD)
variable (hf : Finite4 (biasOf m c) (sinkOf m c) (dyaOf m c) (projOf m c))

/-- Head `g` of key head `j`, of a pair's eight. -/
def headOf (j : Fin 2) (g : Fin 4) : Fin 8 := ⟨j.val * 4 + g.val, by omega⟩

theorem headOf_div (j : Fin 2) (g : Fin 4) (h : (headOf j g).val / 4 < 2) : (⟨(headOf j g).val / 4, h⟩ : Fin 2) = j :=
  Fin.ext (by show (j.val * 4 + g.val) / 4 = j.val; omega)

theorem headOf_row (j : Fin 2) (g : Fin 4) (r : Fin 128) : rowIn (headOf j g) r = ⟨g.val * 128 + r.val, rowOf_lt g r⟩ :=
  Fin.ext (by show (j.val * 4 + g.val) % 4 * 128 + r.val = g.val * 128 + r.val; omega)

/-- Every head is one of a key head's four of a pair. -/
theorem every_head (H : Fin 16) : ∃ (p j : Fin 2) (g : Fin 4), H.val = p.val * 8 + (headOf j g).val ∧ H.val = (keyHead p j).val * 4 + g.val :=
  ⟨⟨H.val / 8, by omega⟩, ⟨H.val / 4 % 2, by omega⟩, ⟨H.val % 4, by omega⟩,
    by show H.val = H.val / 8 * 8 + (H.val / 4 % 2 * 4 + H.val % 4); omega,
    by show H.val = (H.val / 8 * 2 + H.val / 4 % 2) * 4 + H.val % 4; omega⟩

include hf

theorem gain_bias (b : Fin 2) (w : Fin 16) (p j : Fin 2) (g : Fin 4) (r : Fin 128) (s : Fin 256) :
    gainBias (seenAt m c b w p) (headOf j g) r s = ((refAt m c b w r (keyHead p j) g).ds s : EReal) := by
  unfold gainBias
  rw [headOf_div, headOf_row]
  exact ds_ker m c hf b w p j g r s

theorem gain_sink (b : Fin 2) (w : Fin 16) (p j : Fin 2) (g : Fin 4) (r : Fin 8) (l : Fin 128) :
    gainSink (seenAt m c b w p) (headOf j g) r l = ∑ q : Fin 128, ((refAt m c b w q (keyHead p j) g).dsink : EReal) := by
  unfold gainSink
  refine Finset.sum_congr rfl fun q _ => ?_
  rw [headOf_div, headOf_row]
  exact dsink_ker m c hf b w p j g q 0

theorem bias_eq : (dats m 0 c).arrAt 9 cfg0.N = Cert.Reference4Ideal.Read.val_main_v159 (F := Ideal) (biasOf m c) (sinkOf m c) (dyaOf m c) (projOf m c) := by
  funext i
  obtain ⟨H, r, s, rfl⟩ : ∃ (H : Fin 16) (r : Fin 128) (s : Fin 256), i = ix3 H r s := ⟨i 0, i 1, i 2, eq_ix3 i⟩
  obtain ⟨p, j, g, e, e'⟩ := every_head H
  have h : (∑ b : Fin 2, ∑ w : Fin 16, (gainBias (seenAt m c b w p) (headOf j g) r s : EReal)) = _ :=
    Finset.sum_congr rfl fun b _ => Finset.sum_congr rfl fun w _ => gain_bias m c hf b w p j g r s
  exact (bias_sum m c p (headOf j g) H e r s).trans (h.trans (bias_at hf (keyHead p j) g H e' r s).symm)

theorem sink_eq : (dats m 0 c).arrAt 10 cfg0.N = Cert.Reference4Ideal.Read.val_main_v162 (F := Ideal) (biasOf m c) (sinkOf m c) (dyaOf m c) (projOf m c) := by
  funext i
  obtain ⟨H, r, l, rfl⟩ : ∃ (H : Fin 16) (r : Fin 8) (l : Fin 128), i = ix3 H r l := ⟨i 0, i 1, i 2, eq_ix3 i⟩
  obtain ⟨p, j, g, e, e'⟩ := every_head H
  have h : (∑ b : Fin 2, ∑ w : Fin 16, (gainSink (seenAt m c b w p) (headOf j g) r l : EReal)) = _ :=
    Finset.sum_congr rfl fun b _ => Finset.sum_congr rfl fun w _ => gain_sink m c hf b w p j g r l
  exact (sink_sum m c p (headOf j g) H e r l).trans (h.trans (sink_at hf (keyHead p j) g H e' r l).symm)

end Cert.Attn
end
-- ==== Proof.AttnValueClaims.lean ====
/- The value claim of the attention call's gradient, and its frames under the precondition. -/
module

public import proofs.«01_k».proof.Proof.AttnClaims
public import proofs.«01_k».proof.Proof.AttnFinite
public import proofs.«01_k».proof.Proof.AttnProject
public import proofs.«01_k».proof.Proof.AttnTotals

@[expose] public section

set_option maxRecDepth 16384

noncomputable section

namespace Cert.Proof

open Idealize.ShloMosaic Idealize.ShloMosaic.TcCoe Idealize.SL.Sem

theorem attn_frame_finite : Cert.quiescent_Kernel4Ideal_pre_finite (hKernel4Ideal := Cert.Kernel4Ideal.Gen.facts) (hPre_finite := Cert.Attn.finiteFacts) :=
  fun m ρ _ => Cert.Attn.frame m ρ

theorem attn_reference_frame_finite : Cert.quiescent_Reference4Ideal_pre_finite (hReference4Ideal := Cert.Reference4Ideal.Gen.facts) (hPre_finite := Cert.Attn.finiteFacts) :=
  fun m ρ _ => attn_reference_frame m ρ trivial

open Cert.Kernel4Ideal Cert.Kernel4Ideal.Gen Cert.Attn in
/-- The kernel's run, each result named by what the grid leaves in it. -/
theorem attn_run (m : (ℓ : Loc nD τ Cert.Kernel4Ideal.sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57_0) = (dats m 0 c).arrAt 8 cfg0.N
      ∧ r.2.mem ((c.tc : Thread nD τ).loc main_v57_1) = (dats m 0 c).arrAt 9 cfg0.N
      ∧ r.2.mem ((c.tc : Thread nD τ).loc main_v57_2) = (dats m 0 c).arrAt 10 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 8, (h.1.1 c).1 9, (h.1.1 c).1 10, h.2.1 c⟩) (θ_run_and (Cert.Attn.run m ρ) (Cert.Attn.frame m ρ))

theorem at_equals {A B C D E : Type*} {f : A → B → C → D → E} {a a' : A} {b b' : B} {c c' : C} {d d' : D} (ha : a = a') (hb : b = b') (hc : c = c')
    (hd : d = d') : f a b c d = f a' b' c' d' := by
  rw [ha, hb, hc, hd]

/-- The kernel's three results are the reference's. -/
theorem attn_algebraic : Cert.algebraic_Kernel4Ideal_Reference4Ideal_pre_finite (hKernel4Ideal := Cert.Kernel4Ideal.Gen.facts)
    (hReference4Ideal := Cert.Reference4Ideal.Gen.facts) (hPre_finite := Cert.Attn.finiteFacts) := by
  intro m ρ m' ρ' hpre hagree
  have hf : ∀ c, Cert.Attn.Finite4 (Cert.Attn.biasOf m c) (Cert.Attn.sinkOf m c) (Cert.Attn.dyaOf m c) (Cert.Attn.projOf m c) :=
    fun c => Cert.Attn.finite_real _ _ _ _ (hpre c)
  refine ⟨_, _, _, attn_run m ρ, ?_⟩
  refine (θ_run Cert.Reference4Ideal.defs _ _).mono
    (fun _ h c => ⟨(h c).1.trans ((Cert.Reference4Ideal.Read.val_main_v158_eq _).trans ?_),
      (h c).2.1.trans ((Cert.Reference4Ideal.Read.val_main_v159_eq _).trans ?_),
      (h c).2.2.1.trans ((Cert.Reference4Ideal.Read.val_main_v162_eq _).trans ?_), (h c).2.2.2⟩)
    (Cert.Reference4Ideal.Value.run (F := Ideal) m' ρ')
  · refine Eq.trans ?_ (Cert.Attn.project_eq m c (hf c)).symm
    exact at_equals (f := Cert.Reference4Ideal.Read.val_main_v158 (F := Ideal)) (hagree c).1 (hagree c).2.1 (hagree c).2.2.1 (hagree c).2.2.2
  · refine Eq.trans ?_ (Cert.Attn.bias_eq m c (hf c)).symm
    exact at_equals (f := Cert.Reference4Ideal.Read.val_main_v159 (F := Ideal)) (hagree c).1 (hagree c).2.1 (hagree c).2.2.1 (hagree c).2.2.2
  · refine Eq.trans ?_ (Cert.Attn.sink_eq m c (hf c)).symm
    exact at_equals (f := Cert.Reference4Ideal.Read.val_main_v162 (F := Ideal)) (hagree c).1 (hagree c).2.1 (hagree c).2.2.1 (hagree c).2.2.2

end Cert.Proof

end
-- ==== Proof.FwdGroup.lean ====
/- What the attention's forward kernel stores at a point, as functions of the blocks it reads. -/
module

public import proofs.«01_k».proof.Proof.AttnRow
public import proofs.«01_k».proof.Proof.Gen.Kernel5Ideal.Value
public import Idealize.ShloMosaic.Lib.Pointwise
public import Idealize.ShloMosaic.Lib.Pipeline.ValueKit.Tiles
public import Idealize.ShloMosaic.Lib.WritesUnit

@[expose] public section

set_option maxRecDepth 16384

noncomputable section

namespace Cert.AttnFwd

open Cert.Kernel5Ideal Cert.Kernel5Ideal.Gen Idealize.ShloMosaic Idealize.ShloMosaic.TcCoe Idealize.SL.Sem
open Cert.Attn (cols load_cols)

/-- What a point loads, head by head, and its mask. -/
structure Loads where
  q : Fin 16 → Vec Ideal S128x64 .f32
  kc : Fin 4 → Vec Ideal S128x64 .f32
  kp : Fin 4 → Vec Ideal S128x64 .f32
  vc : Fin 4 → Vec Ideal S128x64 .f32
  vp : Fin 4 → Vec Ideal S128x64 .f32
  ag : Fin 16 → Vec Ideal S128x64 .f32
  bias : Fin 16 → Vec Ideal S1x128x256 .f32
  sink : Fin 16 → Vec Ideal S1x1x1 .f32
  mask : IVec S128x256 1

/-- The first `a` rows and `b` columns of part `p` of a stack of sixteen. -/
def part {α : Type} {a' b' : ℕ} (x : (⟨3, ![16, a', b']⟩ : Shape).Idx → α) (a b p : ℕ) (hp : p + 1 ≤ 16) (ha : 0 + a ≤ a') (hb : 0 + b ≤ b') :
    (⟨3, ![1, a, b]⟩ : Shape).Idx → α :=
  fun i => x (ix3 ⟨p, hp⟩ ⟨0 + (i 1).val, Nat.lt_of_lt_of_le (Nat.add_lt_add_left (i 1).isLt 0) ha⟩
    ⟨0 + (i 2).val, Nat.lt_of_lt_of_le (Nat.add_lt_add_left (i 2).isLt 0) hb⟩)

variable (A : Loads) (j : Fin 4)

/-- Head `g` of the four that share key head `j`. -/
abbrev head (g : Fin 4) : Fin 16 := ⟨j.val * 4 + g.val, by omega⟩

def keys : Vec Ideal S256x64 .f32 := k0_pay4 (F := Ideal) (A.kp j) (A.kc j)
def vals : Vec Ideal S256x64 .f32 := k0_pay5 (F := Ideal) (A.vp j) (A.vc j)
def qs : Vec Ideal S512x64 .f32 := k0_pay6 (F := Ideal) (A.q (head j 0)) (A.q (head j 1)) (A.q (head j 2)) (A.q (head j 3))
def gates : Vec Ideal S512x64 .f32 := k0_pay7 (F := Ideal) (A.ag (head j 0)) (A.ag (head j 1)) (A.ag (head j 2)) (A.ag (head j 3))
def biases : Vec Ideal S512x256 .f32 := k0_pay8 (F := Ideal) (A.bias (head j 0)) (A.bias (head j 1)) (A.bias (head j 2)) (A.bias (head j 3))
def sinks : Vec Ideal S512x1 .f32 := k0_pay9 (F := Ideal) (A.sink (head j 0)) (A.sink (head j 1)) (A.sink (head j 2)) (A.sink (head j 3))
def masks : IVec S512x256 1 := k0_pay10 A.mask
def products : Vec Ideal S512x256 .f32 := k0_pay11 (F := Ideal) (keys A j) (qs A j)
def exps : Vec Ideal S512x256 .bf16 := k0_pay17 (F := Ideal) (biases A j) (sinks A j) (masks A) (products A j) (k0_pay12 (F := Ideal))
def esinks : Vec Ideal S512x1 .bf16 := k0_pay19 (F := Ideal) (biases A j) (sinks A j) (masks A) (products A j) (k0_pay12 (F := Ideal))
def outputs : Vec Ideal S512x64 .f32 :=
  k0_pay18 (F := Ideal) (vals A j) (gates A j) (biases A j) (sinks A j) (masks A) (products A j) (k0_pay12 (F := Ideal))

theorem sliceAt {n : ℕ} (g : Fin 4) : (⟨2, ![512, n]⟩ : Shape).Slices ![g.val * 128, 0] ⟨2, ![128, n]⟩ :=
  ⟨rfl, fun a => by
    fin_cases a
    · show g.val * 128 + 128 ≤ 512
      omega
    · show 0 + n ≤ n
      omega⟩

/-- The four heads' rows of a stack. -/
def strip {n : ℕ} (x : (⟨2, ![512, n]⟩ : Shape).Idx → EReal) (g : Fin 4) : (⟨2, ![128, n]⟩ : Shape).Idx → EReal :=
  extractStridedSlice (⟨2, ![128, n]⟩ : Shape) ![g.val * 128, 0] x (sliceAt g)

abbrev groupOf (k : Fin 16) : Fin 4 := ⟨k.val / 4, by omega⟩
abbrev memberOf (k : Fin 16) : Fin 4 := ⟨k.val % 4, by omega⟩

/-- What is stored of head `k`: the gated output, the exponentials, and the sink's over their first column. -/
def outOf (k : Fin 16) : Vec Ideal S128x64 .bf16 := truncf (F := Ideal) (φ := .f32) .bf16 (strip (outputs A (groupOf k)) (memberOf k)) bitsLt_bf16_f32
def expOf (k : Fin 16) : Vec Ideal S128x256 .bf16 := strip (exps A (groupOf k)) (memberOf k)
def sinkOf (k : Fin 16) : Vec Ideal S128x1 .bf16 := strip (esinks A (groupOf k)) (memberOf k)

theorem outInb (k : Fin 16) : ∀ a, (![0, k.val * 64] : Fin 2 → ℕ) a + (![128, 64] : Fin 2 → ℕ) a ≤ S128x1024.size a := by
  intro a
  fin_cases a
  · exact Nat.le_refl 128
  · show k.val * 64 + 64 ≤ 1024
    omega

theorem keptInb (k : ℕ) (hk : k < 16) (w : ℕ) (hw : w ≤ 256) : ∀ a, (![0, k * 256] : Fin 2 → ℕ) a + (![128, w] : Fin 2 → ℕ) a ≤ S128x4096.size a := by
  intro a
  fin_cases a
  · exact Nat.le_refl 128
  · show k * 256 + w ≤ 4096
    omega

/-- The stores of the first `n` heads' exponentials, each followed by the sink's, the last first. -/
def keptPieces (P : Fin 16 → Vec Ideal S128x256 .bf16) (Z : Fin 16 → Vec Ideal S128x1 .bf16) :
    (n : ℕ) → n ≤ 16 → List (View.Piece (Elt Ideal) S128x4096 .bf16)
  | 0, _ => []
  | n + 1, h => ⟨Rect.unit ![0, n * 256] ![128, 1] (keptInb n h 1 (by omega)), Z ⟨n, h⟩⟩
      :: ⟨Rect.unit ![0, n * 256] ![128, 256] (keptInb n h 256 (by omega)), P ⟨n, h⟩⟩ :: keptPieces P Z n (by omega)

/-- A load of one part of a stack of sixteen. -/
theorem load_part {a' b' a b : ℕ} {κ : Kind} {e : EltTy} {M : Memref sig κ .vmem ⟨3, ![16, a', b']⟩ e} (hM : M.IsWhole)
    (x : (⟨3, ![16, a', b']⟩ : Shape).Idx → Elt Ideal e) (p : ℕ)
    (inb : ∀ d, (![p, 0, 0] : Fin 3 → ℕ) d + (![1, a, b] : Fin 3 → ℕ) d ≤ (⟨3, ![16, a', b']⟩ : Shape).size d) :
    View.readAt (Elt Ideal) M.view (Rect.unit (s := ⟨3, ![16, a', b']⟩) ![p, 0, 0] ![1, a, b] inb).toLoadRect (hM.unread x)
      = part x a b p (inb 0) (inb 1) (inb 2) := by
  rw [View.readAt_eq_ld, hM.read_unread]
  funext i
  rw [View.ld_unit_apply_of x _ _ inb i (ix3 ⟨p, inb 0⟩ ⟨0 + (i 1).val, Nat.lt_of_lt_of_le (Nat.add_lt_add_left (i 1).isLt 0) (inb 1)⟩
    ⟨0 + (i 2).val, Nat.lt_of_lt_of_le (Nat.add_lt_add_left (i 2).isLt 0) (inb 2)⟩) (by
    intro d
    fin_cases d
    · have : (i 0).val < 1 := (i 0).isLt
      show p = p + (i 0).val
      omega
    · rfl
    · rfl)]
  rfl

variable (m : (ℓ : Loc nD τ sig) → Buf (Elt Ideal) ℓ) (c : Dev nD) (t : Fin cfg0.N)

theorem colInb (n : ℕ) (h : Fin n) : ∀ a, (![0, h.val * 64] : Fin 2 → ℕ) a + (![128, 64] : Fin 2 → ℕ) a ≤ (⟨2, ![128, n * 64]⟩ : Shape).size a := by
  have := h.isLt
  intro a
  fin_cases a
  · exact Nat.le_refl 128
  · show h.val * 64 + 64 ≤ n * 64
    omega

theorem biasInb (h : Fin 16) : ∀ a, (![h.val, 0, 0] : Fin 3 → ℕ) a + (![1, 128, 256] : Fin 3 → ℕ) a ≤ S16x128x256.size a := by
  intro a
  fin_cases a
  · exact h.isLt
  · exact Nat.le_refl 128
  · exact Nat.le_refl 256

theorem sinkInb (h : Fin 16) : ∀ a, (![h.val, 0, 0] : Fin 3 → ℕ) a + (![1, 1, 1] : Fin 3 → ℕ) a ≤ S16x8x128.size a := by
  intro a
  fin_cases a
  · exact h.isLt
  · show 0 + 1 ≤ 8
    omega
  · show 0 + 1 ≤ 128
    omega

/-- What point `t` loads. -/
def loads : Loads where
  q h := View.readAt (Elt Ideal) (ms0_0 t).view (Rect.unit (s := S128x1024) ![0, h.val * 64] ![128, 64] (colInb 16 h)).toLoadRect ((hs0_0 t).unread (iblk m c 0 t))
  kc h := View.readAt (Elt Ideal) (ms0_1 t).view (Rect.unit (s := S128x256) ![0, h.val * 64] ![128, 64] (colInb 4 h)).toLoadRect ((hs0_1 t).unread (iblk m c 1 t))
  kp h := View.readAt (Elt Ideal) (ms0_2 t).view (Rect.unit (s := S128x256) ![0, h.val * 64] ![128, 64] (colInb 4 h)).toLoadRect ((hs0_2 t).unread (iblk m c 2 t))
  vc h := View.readAt (Elt Ideal) (ms0_3 t).view (Rect.unit (s := S128x256) ![0, h.val * 64] ![128, 64] (colInb 4 h)).toLoadRect ((hs0_3 t).unread (iblk m c 3 t))
  vp h := View.readAt (Elt Ideal) (ms0_4 t).view (Rect.unit (s := S128x256) ![0, h.val * 64] ![128, 64] (colInb 4 h)).toLoadRect ((hs0_4 t).unread (iblk m c 4 t))
  ag h := View.readAt (Elt Ideal) (ms0_5 t).view (Rect.unit (s := S128x1024) ![0, h.val * 64] ![128, 64] (colInb 16 h)).toLoadRect ((hs0_5 t).unread (iblk m c 5 t))
  bias h := View.readAt (Elt Ideal) (ms0_6 t).view (Rect.unit (s := S16x128x256) ![h.val, 0, 0] ![1, 128, 256] (biasInb h)).toLoadRect ((hs0_6 t).unread (iblk m c 6 t))
  sink h := View.readAt (Elt Ideal) (ms0_7 t).view (Rect.unit (s := S16x8x128) ![h.val, 0, 0] ![1, 1, 1] (sinkInb h)).toLoadRect ((hs0_7 t).unread (iblk m c 7 t))
  mask := k0_pay3 (grid0.coords t)

/-- What the body's run at point `t` stores. -/
abbrev ran := kernelRun0_A (F := Ideal) c (grid0.coords t) (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) (ms0_8 t) (hs0_8 t) (ms0_9 t) (hs0_9 t)
  (iblk m c 0 t) (iblk m c 1 t) (iblk m c 2 t) (iblk m c 3 t) (iblk m c 4 t) (iblk m c 5 t) (iblk m c 6 t) (iblk m c 7 t)

theorem out_pieces : (ran m c t).1
    = View.tilePieces (s := S128x1024) ![128, 64] (fun k => ![0, k.val * 64]) outInb (outOf (loads m c t)) 16 (le_refl 16) := by
  sl_kernel_rfl

theorem kept_pieces : (ran m c t).2.1 = keptPieces (expOf (loads m c t)) (sinkOf (loads m c t)) 16 (le_refl 16) := by
  sl_kernel_rfl

/-! ## The loads at an element -/

theorem load_q (h : Fin 16) (r : Fin 128) (d : Fin 64) : (loads m c t).q h (ix2 r d) = iblk m c 0 t (ix2 r ⟨h.val * 64 + d.val, by omega⟩) :=
  congrFun (load_cols (hs0_0 t) (iblk m c 0 t) (h.val * 64) (colInb 16 h)) (ix2 r d)
theorem load_kc (h : Fin 4) (r : Fin 128) (d : Fin 64) : (loads m c t).kc h (ix2 r d) = iblk m c 1 t (ix2 r ⟨h.val * 64 + d.val, by omega⟩) :=
  congrFun (load_cols (hs0_1 t) (iblk m c 1 t) (h.val * 64) (colInb 4 h)) (ix2 r d)
theorem load_kp (h : Fin 4) (r : Fin 128) (d : Fin 64) : (loads m c t).kp h (ix2 r d) = iblk m c 2 t (ix2 r ⟨h.val * 64 + d.val, by omega⟩) :=
  congrFun (load_cols (hs0_2 t) (iblk m c 2 t) (h.val * 64) (colInb 4 h)) (ix2 r d)
theorem load_vc (h : Fin 4) (r : Fin 128) (d : Fin 64) : (loads m c t).vc h (ix2 r d) = iblk m c 3 t (ix2 r ⟨h.val * 64 + d.val, by omega⟩) :=
  congrFun (load_cols (hs0_3 t) (iblk m c 3 t) (h.val * 64) (colInb 4 h)) (ix2 r d)
theorem load_vp (h : Fin 4) (r : Fin 128) (d : Fin 64) : (loads m c t).vp h (ix2 r d) = iblk m c 4 t (ix2 r ⟨h.val * 64 + d.val, by omega⟩) :=
  congrFun (load_cols (hs0_4 t) (iblk m c 4 t) (h.val * 64) (colInb 4 h)) (ix2 r d)
theorem load_ag (h : Fin 16) (r : Fin 128) (d : Fin 64) : (loads m c t).ag h (ix2 r d) = iblk m c 5 t (ix2 r ⟨h.val * 64 + d.val, by omega⟩) :=
  congrFun (load_cols (hs0_5 t) (iblk m c 5 t) (h.val * 64) (colInb 16 h)) (ix2 r d)
theorem load_bias (h : Fin 16) (r : Fin 128) (s : Fin 256) : (loads m c t).bias h (ix3 0 r s) = iblk m c 6 t (ix3 h r s) := by
  refine (congrFun (load_part (hs0_6 t) (iblk m c 6 t) h.val (biasInb h)) (ix3 0 r s)).trans (congrArg _ (congrArg₂ (ix3 h) ?_ ?_))
  · exact Fin.ext (Nat.zero_add _)
  · exact Fin.ext (Nat.zero_add _)
theorem load_sink (h : Fin 16) : (loads m c t).sink h (ix3 0 0 0) = iblk m c 7 t (ix3 h 0 0) :=
  congrFun (load_part (hs0_7 t) (iblk m c 7 t) h.val (sinkInb h)) (ix3 0 0 0)

end Cert.AttnFwd
end
-- ==== Proof.FwdRow.lean ====
/- One query's row of the attention's forward kernel, read from what a point loads. -/
module

public import proofs.«01_k».proof.Proof.FwdGroup

@[expose] public section

set_option maxRecDepth 16384

noncomputable section

namespace Cert.AttnFwd

open Cert.Kernel5Ideal Cert.Kernel5Ideal.Gen Idealize.ShloMosaic Idealize.ShloMosaic.TcCoe Idealize.SL.Sem
open Cert.Attn (four_apply rowOf_lt)

/-- What the attention of one query of one head needs: its query and gate, the keys and values of its window, its bias, sink and mask. -/
structure Row where
  q : Fin 64 → EReal
  k : Fin 256 → Fin 64 → EReal
  v : Fin 256 → Fin 64 → EReal
  ag : Fin 64 → EReal
  bias : Fin 256 → EReal
  sink : EReal
  mask : Fin 256 → BitVec 1

namespace Row

variable (w : Row)

/-- The masked scores. -/
def score (s : Fin 256) : EReal :=
  Scalar.select (w.mask s) ((∑ d, w.q d * w.k s d) * Ideal.ofBits .f32 0x3E000000#32 + w.bias s) (⊥ : EReal)
/-- The largest of the scores and the sink. -/
def top : EReal := max (Finset.univ.fold max (Ideal.ofBits .f32 0xFF800000#32) w.score) w.sink
/-- The exponentials of the scores. -/
def e (s : Fin 256) : EReal := Ideal.exp (w.score s - w.top)
/-- The exponential of the sink. -/
def z : EReal := Ideal.exp (w.sink - w.top)
/-- The gated output. -/
def out (d : Fin 64) : EReal := (∑ s, w.e s * w.v s d) * Ideal.div (w.ag d * Ideal.logistic (w.ag d)) ((∑ s, w.e s) + w.z)

end Row

variable (A : Loads) (j : Fin 4)

/-- Row `R` of the stack. -/
def row (R : Fin 512) : Row :=
  ⟨fun d => qs A j (ix2 R d), fun s d => keys A j (ix2 s d), fun s d => vals A j (ix2 s d), fun d => gates A j (ix2 R d),
    fun s => biases A j (ix2 R s), sinks A j (ix2 R 0), fun s => masks A (ix2 R s)⟩

/-- The constant the masked scores get denotes the bottom. -/
theorem mask_bot : (Named.named (F := Ideal) κ "mask" (φ := .f32) 0xF149F2CA#32 : EReal) = ⊥ := rfl

theorem score_apply (R : Fin 512) (s : Fin 256) :
    k0_pay13 (F := Ideal) (biases A j) (masks A) (products A j) (k0_pay12 (F := Ideal)) (ix2 R s) = (row A j R).score s := by
  unfold k0_pay13 products k0_pay11 k0_pay12
  pointwise
  rfl

theorem top_apply (R : Fin 512) (l : Fin 1) :
    k0_pay14 (F := Ideal) (biases A j) (sinks A j) (masks A) (products A j) (k0_pay12 (F := Ideal)) (ix2 R l) = (row A j R).top := by
  unfold k0_pay14
  pointwise
  obtain rfl : l = 0 := Subsingleton.elim _ _
  simp only [score_apply]
  rfl

theorem exps_apply (R : Fin 512) (s : Fin 256) : exps A j (ix2 R s) = (row A j R).e s := by
  unfold exps k0_pay17 k0_pay15
  pointwise
  rw [score_apply, top_apply]
  rfl

theorem esinks_apply (R : Fin 512) (l : Fin 1) : esinks A j (ix2 R l) = (row A j R).z := by
  unfold esinks k0_pay19 k0_pay16
  pointwise
  rw [top_apply]
  obtain rfl : l = 0 := Subsingleton.elim _ _
  rfl

theorem outputs_apply (R : Fin 512) (d : Fin 64) : outputs A j (ix2 R d) = (row A j R).out d := by
  unfold outputs k0_pay18
  pointwise
  have e : ∀ s, k0_pay15 (F := Ideal) (biases A j) (sinks A j) (masks A) (products A j) (k0_pay12 (F := Ideal)) (ix2 R s) = (row A j R).e s := exps_apply A j R
  have e' : ∀ s, k0_pay17 (F := Ideal) (biases A j) (sinks A j) (masks A) (products A j) (k0_pay12 (F := Ideal)) (ix2 R s) = (row A j R).e s := exps_apply A j R
  have z : ∀ l, k0_pay16 (F := Ideal) (biases A j) (sinks A j) (masks A) (products A j) (k0_pay12 (F := Ideal)) (ix2 R l) = (row A j R).z := esinks_apply A j R
  simp only [e, e', z]
  rfl

/-- Head `g`'s strip of a stack at an element. -/
theorem strip_apply {n : ℕ} (x : (⟨2, ![512, n]⟩ : Shape).Idx → EReal) (g : Fin 4) (r : Fin 128) (d : Fin n) :
    strip x g (ix2 r d) = x (ix2 ⟨g.val * 128 + r.val, rowOf_lt g r⟩ d) := by
  unfold strip
  pointwise
  refine congrArg x (funext fun a => Fin.ext ?_)
  match a with
  | ⟨0, _⟩ => rfl
  | ⟨1, _⟩ => exact Nat.zero_add _

/-- The row of query `r` of head `g` of key head `j`, from the loads. -/
def headRow (g : Fin 4) (r : Fin 128) : Row :=
  ⟨fun d => A.q (head j g) (ix2 r d),
    fun s d => if h : s.val < 128 then A.kp j (ix2 ⟨s.val, h⟩ d) else A.kc j (ix2 ⟨s.val - 128, by omega⟩ d),
    fun s d => if h : s.val < 128 then A.vp j (ix2 ⟨s.val, h⟩ d) else A.vc j (ix2 ⟨s.val - 128, by omega⟩ d),
    fun d => A.ag (head j g) (ix2 r d), fun s => A.bias (head j g) (ix3 0 r s), A.sink (head j g) (ix3 0 0 0), fun s => A.mask (ix2 r s)⟩

theorem row_eq (g : Fin 4) (r : Fin 128) : row A j ⟨g.val * 128 + r.val, rowOf_lt g r⟩ = headRow A j g r := by
  unfold row headRow
  congr 1
  · funext d
    show qs A j _ = _
    unfold qs k0_pay6
    exact four_apply (fun g => A.q (head j g)) _ g r d
  · funext s d
    show keys A j _ = _
    unfold keys k0_pay4
    pointwise
  · funext s d
    show vals A j _ = _
    unfold vals k0_pay5
    pointwise
  · funext d
    show gates A j _ = _
    unfold gates k0_pay7
    exact four_apply (fun g => A.ag (head j g)) _ g r d
  · funext s
    show biases A j _ = _
    unfold biases k0_pay8
    refine (four_apply (fun g => shapeCast S128x256 (A.bias (head j g)) shapeCasts_S1x128x256_S128x256) _ g r s).trans ?_
    pointwise
  · show sinks A j _ = _
    unfold sinks k0_pay9
    refine (four_apply (fun g => broadcastTo S128x1 (shapeCast S1x1 (shapeCast S1x1 (A.sink (head j g)) shapeCasts_S1x1x1_S1x1) shapeCasts_S1x1_S1x1) broadcasts_S1x1_S128x1) _ g r 0).trans ?_
    pointwise
  · funext s
    show masks A _ = _
    unfold masks k0_pay10
    refine concatenate_ofFn_apply (t := ⟨2, ![512, 256]⟩) (s₁ := ⟨2, ![128, 256]⟩) 0 (fun _ : Fin 4 => A.mask) _ rfl 128 rfl _ g ?_ (ix2 r s) ?_ ?_
    · show (g.val * 128 + r.val) / 128 = g.val
      omega
    · show r.val = (g.val * 128 + r.val) % 128
      omega
    · intro b hb
      fin_cases b
      · exact absurd rfl hb
      · rfl

end Cert.AttnFwd
end
-- ==== Proof.FwdBlock.lean ====
/- The two final arrays of the attention's forward kernel, element by element. -/
module

public import proofs.«01_k».proof.Proof.FwdRow
public import proofs.«01_k».proof.Proof.AttnBlock

@[expose] public section

set_option maxRecDepth 16384

noncomputable section

namespace Cert.AttnFwd

open Cert.Kernel5Ideal Cert.Kernel5Ideal.Gen Idealize.ShloMosaic Idealize.ShloMosaic.TcCoe Idealize.SL.Sem
open Cert.Attn (tok rowOf_lt)

/-! ## Reading the stores back -/

theorem outs_hit {v : View sig .tc .vmem S128x1024 .bf16} (f : v.ty.Contents (Elt Ideal)) (P : Fin 16 → Vec Ideal S128x64 .bf16)
    (k : Fin 16) (r : Fin 128) (d : Fin 64) :
    v.read (Elt Ideal) (v.writes (Elt Ideal) f (View.tilePieces (s := S128x1024) ![128, 64] (fun k => ![0, k.val * 64]) outInb P 16 (le_refl 16)))
      (ix2 r ⟨k.val * 64 + d.val, by omega⟩) = P k (ix2 r d) := by
  refine View.read_tilePieces v _ _ _ _ P 16 _ _ k k.isLt (ix2 r d) (fun a => ?_) 1 (fun i hi => ?_)
  · match a with
    | ⟨0, _⟩ => exact (Nat.zero_add _).symm
    | ⟨1, _⟩ => rfl
  · show k.val * 64 + d.val < i.val * 64 ∨ i.val * 64 + 64 ≤ k.val * 64 + d.val
    have : i.val ≠ k.val := fun e => hi (Fin.ext e)
    have := d.isLt
    omega

theorem kept_hit {v : View sig .tc .vmem S128x4096 .bf16} (f : v.ty.Contents (Elt Ideal)) (P : Fin 16 → Vec Ideal S128x256 .bf16)
    (Z : Fin 16 → Vec Ideal S128x1 .bf16) (k : Fin 16) (r : Fin 128) (s : Fin 256) :
    (n : ℕ) → (hn : n ≤ 16) → k.val < n →
    v.read (Elt Ideal) (v.writes (Elt Ideal) f (keptPieces P Z n hn)) (ix2 r ⟨k.val * 256 + s.val, by omega⟩)
      = if s.val = 0 then Z k (ix2 r 0) else P k (ix2 r s)
  | 0, _, h => absurd h (Nat.not_lt_zero _)
  | n + 1, hn, h => by
    unfold keptPieces
    have hs := s.isLt
    by_cases e : k.val = n
    · obtain rfl : k = ⟨n, hn⟩ := Fin.ext e
      by_cases h0 : s.val = 0
      · rw [if_pos h0]
        refine View.read_writes_cons_unit_of_mem v f _ _ _ _ (ix2 r (0 : Fin 1)) rfl (fun a => ?_)
        match a with
        | ⟨0, _⟩ => exact (Nat.zero_add _).symm
        | ⟨1, _⟩ =>
          show n * 256 + s.val = n * 256 + 0
          rw [h0]
      · rw [if_neg h0]
        refine (View.read_writes_cons_unit_of_not_mem v f _ _ _ _ rfl 1 (Or.inr ?_)).trans ?_
        · show n * 256 + 1 ≤ n * 256 + s.val
          omega
        · refine View.read_writes_cons_unit_of_mem v f _ _ _ _ (ix2 r s) rfl (fun a => ?_)
          match a with
          | ⟨0, _⟩ => exact (Nat.zero_add _).symm
          | ⟨1, _⟩ => rfl
    · have hl : k.val * 256 + s.val < n * 256 := by omega
      refine (View.read_writes_cons_unit_of_not_mem v f _ _ _ _ rfl 1 (Or.inl hl)).trans ?_
      refine (View.read_writes_cons_unit_of_not_mem v f _ _ _ _ rfl 1 (Or.inl hl)).trans ?_
      exact kept_hit f P Z k r s n (by omega) (by omega)

/-! ## The arrays -/

variable (m : (ℓ : Loc nD τ sig) → Buf (Elt Ideal) ℓ) (c : Dev nD)

/-- The point of sequence `b`, block `w`. -/
def pt (b : Fin 2) (w : Fin 16) : Fin cfg0.N := ⟨16 * b.val + w.val, Nat.lt_of_lt_of_eq (by omega : 16 * b.val + w.val < 32) N_0.symm⟩

theorem index8 (t : Fin cfg0.N) : win0_8.index t 0 = t.val ∧ win0_8.index t 1 = 0 :=
  (by decide +kernel : ∀ t : Fin grid0.N, win0_8.index t 0 = t.val ∧ win0_8.index t 1 = 0) t
theorem index9 (t : Fin cfg0.N) : win0_9.index t 0 = t.val ∧ win0_9.index t 1 = 0 :=
  (by decide +kernel : ∀ t : Fin grid0.N, win0_9.index t 0 = t.val ∧ win0_9.index t 1 = 0) t

theorem final8 (b : Fin 2) (w : Fin 16) (r : Fin 128) (k : Fin 16) (d : Fin 64) :
    (dats m 0 c).arrAt 8 cfg0.N (ix2 (tok b w r) ⟨k.val * 64 + d.val, by omega⟩) = outOf (loads m c (pt b w)) k (ix2 r d) := by
  have hb := congrFun (Value.blocks8 m c (pt b w) (flush0_8 _)) (ix2 r ⟨k.val * 64 + d.val, by omega⟩)
  rw [View.read_apply] at hb
  have hi : ((cfg0.win 8).blk (pt b w)).view.emb (ix2 r ⟨k.val * 64 + d.val, by omega⟩) = ix2 (tok b w r) ⟨k.val * 64 + d.val, by omega⟩ := by
    funext a
    apply Fin.ext
    match a with
    | ⟨0, _⟩ =>
      show win0_8.index _ 0 * 128 + 1 * r.val = (16 * b.val + w.val) * 128 + r.val
      rw [(index8 _).1]
      show (16 * b.val + w.val) * 128 + 1 * r.val = (16 * b.val + w.val) * 128 + r.val
      omega
    | ⟨1, _⟩ =>
      show win0_8.index _ 1 * 1024 + 1 * (k.val * 64 + d.val) = k.val * 64 + d.val
      rw [(index8 _).2]
      omega
  rw [hi] at hb
  refine hb.trans ?_
  rw [Value.flushed8_A]
  refine (congrArg (fun L => VO0_8.read (Elt Ideal) (VO0_8.writes (Elt Ideal) VO0_8.junk L) (ix2 r ⟨k.val * 64 + d.val, by omega⟩))
    (out_pieces m c (pt b w))).trans ?_
  exact outs_hit _ _ k r d

theorem final9 (b : Fin 2) (w : Fin 16) (r : Fin 128) (k : Fin 16) (s : Fin 256) :
    (dats m 0 c).arrAt 9 cfg0.N (ix2 (tok b w r) ⟨k.val * 256 + s.val, by omega⟩)
      = if s.val = 0 then sinkOf (loads m c (pt b w)) k (ix2 r 0) else expOf (loads m c (pt b w)) k (ix2 r s) := by
  have hb := congrFun (Value.blocks9 m c (pt b w) (flush0_9 _)) (ix2 r ⟨k.val * 256 + s.val, by omega⟩)
  rw [View.read_apply] at hb
  have hi : ((cfg0.win 9).blk (pt b w)).view.emb (ix2 r ⟨k.val * 256 + s.val, by omega⟩) = ix2 (tok b w r) ⟨k.val * 256 + s.val, by omega⟩ := by
    funext a
    apply Fin.ext
    match a with
    | ⟨0, _⟩ =>
      show win0_9.index _ 0 * 128 + 1 * r.val = (16 * b.val + w.val) * 128 + r.val
      rw [(index9 _).1]
      show (16 * b.val + w.val) * 128 + 1 * r.val = (16 * b.val + w.val) * 128 + r.val
      omega
    | ⟨1, _⟩ =>
      show win0_9.index _ 1 * 4096 + 1 * (k.val * 256 + s.val) = k.val * 256 + s.val
      rw [(index9 _).2]
      omega
  rw [hi] at hb
  refine hb.trans ?_
  rw [Value.flushed9_A]
  refine (congrArg (fun L => VO0_9.read (Elt Ideal) (VO0_9.writes (Elt Ideal) VO0_9.junk L) (ix2 r ⟨k.val * 256 + s.val, by omega⟩))
    (kept_pieces m c (pt b w))).trans ?_
  exact kept_hit _ _ _ k r s 16 (le_refl 16) k.isLt

/-! ## In rows -/

variable (b : Fin 2) (w : Fin 16) (r : Fin 128) (h g : Fin 4)

/-- The row of a query, from what its point loads. -/
abbrev rowAt : Row := headRow (loads m c (pt b w)) h g r

theorem group_head : groupOf (head h g) = h := Fin.ext (by show (h.val * 4 + g.val) / 4 = h.val; omega)
theorem member_head : memberOf (head h g) = g := Fin.ext (by show (h.val * 4 + g.val) % 4 = g.val; omega)

theorem final_out (d : Fin 64) :
    (dats m 0 c).arrAt 8 cfg0.N (ix2 (tok b w r) ⟨(h.val * 4 + g.val) * 64 + d.val, by omega⟩) = (rowAt m c b w r h g).out d := by
  refine (final8 m c b w r (head h g) d).trans ?_
  unfold outOf
  rw [group_head, member_head]
  refine (strip_apply (outputs (loads m c (pt b w)) h) g r d).trans ?_
  rw [outputs_apply, row_eq]

theorem final_kept (s : Fin 256) :
    (dats m 0 c).arrAt 9 cfg0.N (ix2 (tok b w r) ⟨(h.val * 4 + g.val) * 256 + s.val, by omega⟩)
      = if s.val = 0 then (rowAt m c b w r h g).z else (rowAt m c b w r h g).e s := by
  refine (final9 m c b w r (head h g) s).trans ?_
  unfold sinkOf expOf
  rw [group_head, member_head, strip_apply, strip_apply, esinks_apply, exps_apply, row_eq]

end Cert.AttnFwd
end
-- ==== Proof.FwdInputs.lean ====
/- The row of a query of the attention's forward kernel, as entries of the arguments. -/
module

public import proofs.«01_k».proof.Proof.FwdRow
public import proofs.«01_k».proof.Proof.FwdBlock
public import proofs.«01_k».proof.Proof.AttnHead

@[expose] public section

set_option maxRecDepth 16384

noncomputable section

namespace Cert.AttnFwd

open Cert.Kernel5Ideal Cert.Kernel5Ideal.Gen Idealize.ShloMosaic Idealize.ShloMosaic.TcCoe Idealize.SL.Sem
open Cert.Attn (tok prev band side side_eq)

variable (m : (ℓ : Loc nD τ sig) → Buf (Elt Ideal) ℓ) (c : Dev nD)

abbrev biasIn : S128x256x16.Idx → EReal := m ((c : Thread nD τ).loc main_arg0)
abbrev sinkIn : S1x16.Idx → EReal := m ((c : Thread nD τ).loc main_arg1)
abbrev projIn : S4096x10752.Idx → EReal := m ((c : Thread nD τ).loc main_arg2)

/-- Where a point's own rows start, and the rows of the block before. -/
def own (t : Fin cfg0.N) : ℕ := t.val * 128
def before (t : Fin cfg0.N) : ℕ := (t.val / 16 * 16 + (t.val % 16 - 1)) * 128

theorem index0 (t : Fin cfg0.N) : win0_0.index t 0 = own t ∧ win0_0.index t 1 = 0 :=
  (by decide +kernel : ∀ t : Fin grid0.N, win0_0.index t 0 = own t ∧ win0_0.index t 1 = 0) t
theorem index1 (t : Fin cfg0.N) : win0_1.index t 0 = own t ∧ win0_1.index t 1 = 1024 :=
  (by decide +kernel : ∀ t : Fin grid0.N, win0_1.index t 0 = own t ∧ win0_1.index t 1 = 1024) t
theorem index2 (t : Fin cfg0.N) : win0_2.index t 0 = before t ∧ win0_2.index t 1 = 1024 :=
  (by decide +kernel : ∀ t : Fin grid0.N, win0_2.index t 0 = before t ∧ win0_2.index t 1 = 1024) t
theorem index3 (t : Fin cfg0.N) : win0_3.index t 0 = own t ∧ win0_3.index t 1 = 1280 :=
  (by decide +kernel : ∀ t : Fin grid0.N, win0_3.index t 0 = own t ∧ win0_3.index t 1 = 1280) t
theorem index4 (t : Fin cfg0.N) : win0_4.index t 0 = before t ∧ win0_4.index t 1 = 1280 :=
  (by decide +kernel : ∀ t : Fin grid0.N, win0_4.index t 0 = before t ∧ win0_4.index t 1 = 1280) t
theorem index5 (t : Fin cfg0.N) : win0_5.index t 0 = own t ∧ win0_5.index t 1 = 1536 :=
  (by decide +kernel : ∀ t : Fin grid0.N, win0_5.index t 0 = own t ∧ win0_5.index t 1 = 1536) t
theorem index6 (t : Fin cfg0.N) : ∀ a, win0_6.index t a = 0 :=
  (by decide +kernel : ∀ t : Fin grid0.N, ∀ a, win0_6.index t a = 0) t
theorem index7 (t : Fin cfg0.N) : ∀ a, win0_7.index t a = 0 :=
  (by decide +kernel : ∀ t : Fin grid0.N, ∀ a, win0_7.index t a = 0) t

variable (b : Fin 2) (w : Fin 16)

theorem own_pt : own (pt b w) = (16 * b.val + w.val) * 128 := rfl
theorem before_pt : before (pt b w) = (16 * b.val + (prev w).val) * 128 := by
  show ((16 * b.val + w.val) / 16 * 16 + ((16 * b.val + w.val) % 16 - 1)) * 128 = (16 * b.val + (w.val - 1)) * 128
  omega

/-- Places of a block staged at row `o`, column `l`. -/
theorem placed {n : ℕ} (i : S4096x10752.Idx) (W : Fin 16) (r : Fin 128) {p0 p1 : ℕ} (l : ℕ) (x : Fin n) (hx : l + x.val < 10752)
    (h0 : (i 0).val = p0 + 1 * r.val) (e0 : p0 = (16 * b.val + W.val) * 128) (h1 : (i 1).val = p1 + 1 * x.val) (e1 : p1 = l) :
    i = ix2 (tok b W r) ⟨l + x.val, hx⟩ := by
  funext a
  apply Fin.ext
  match a with
  | ⟨0, _⟩ =>
    show (i 0).val = (16 * b.val + W.val) * 128 + r.val
    omega
  | ⟨1, _⟩ =>
    show (i 1).val = l + x.val
    omega

theorem seen_q (r : Fin 128) (l : Fin 1024) : iblk m c 0 (pt b w) (ix2 r l) = projIn m c (ix2 (tok b w r) ⟨0 + l.val, by omega⟩) := by
  unfold iblk
  show ((cfg0.win 0).blk (pt b w)).view.read (Elt Ideal) (V m c main_arg2) (ix2 r l) = _
  rw [View.read_apply, V_main_arg2]
  exact congrArg (projIn m c) (placed b _ w r 0 l (by omega) rfl ((index0 (pt b w)).1.trans (own_pt b w)) rfl (index0 (pt b w)).2)

theorem seen_kc (r : Fin 128) (l : Fin 256) : iblk m c 1 (pt b w) (ix2 r l) = projIn m c (ix2 (tok b w r) ⟨1024 + l.val, by omega⟩) := by
  unfold iblk
  show ((cfg0.win 1).blk (pt b w)).view.read (Elt Ideal) (V m c main_arg2) (ix2 r l) = _
  rw [View.read_apply, V_main_arg2]
  exact congrArg (projIn m c) (placed b _ w r 1024 l (by omega) rfl ((index1 (pt b w)).1.trans (own_pt b w)) rfl (index1 (pt b w)).2)

theorem seen_kp (r : Fin 128) (l : Fin 256) : iblk m c 2 (pt b w) (ix2 r l) = projIn m c (ix2 (tok b (prev w) r) ⟨1024 + l.val, by omega⟩) := by
  unfold iblk
  show ((cfg0.win 2).blk (pt b w)).view.read (Elt Ideal) (V m c main_arg2) (ix2 r l) = _
  rw [View.read_apply, V_main_arg2]
  exact congrArg (projIn m c) (placed b _ (prev w) r 1024 l (by omega) rfl ((index2 (pt b w)).1.trans (before_pt b w)) rfl (index2 (pt b w)).2)

theorem seen_vc (r : Fin 128) (l : Fin 256) : iblk m c 3 (pt b w) (ix2 r l) = projIn m c (ix2 (tok b w r) ⟨1280 + l.val, by omega⟩) := by
  unfold iblk
  show ((cfg0.win 3).blk (pt b w)).view.read (Elt Ideal) (V m c main_arg2) (ix2 r l) = _
  rw [View.read_apply, V_main_arg2]
  exact congrArg (projIn m c) (placed b _ w r 1280 l (by omega) rfl ((index3 (pt b w)).1.trans (own_pt b w)) rfl (index3 (pt b w)).2)

theorem seen_vp (r : Fin 128) (l : Fin 256) : iblk m c 4 (pt b w) (ix2 r l) = projIn m c (ix2 (tok b (prev w) r) ⟨1280 + l.val, by omega⟩) := by
  unfold iblk
  show ((cfg0.win 4).blk (pt b w)).view.read (Elt Ideal) (V m c main_arg2) (ix2 r l) = _
  rw [View.read_apply, V_main_arg2]
  exact congrArg (projIn m c) (placed b _ (prev w) r 1280 l (by omega) rfl ((index4 (pt b w)).1.trans (before_pt b w)) rfl (index4 (pt b w)).2)

theorem seen_ag (r : Fin 128) (l : Fin 1024) : iblk m c 5 (pt b w) (ix2 r l) = projIn m c (ix2 (tok b w r) ⟨1536 + l.val, by omega⟩) := by
  unfold iblk
  show ((cfg0.win 5).blk (pt b w)).view.read (Elt Ideal) (V m c main_arg2) (ix2 r l) = _
  rw [View.read_apply, V_main_arg2]
  exact congrArg (projIn m c) (placed b _ w r 1536 l (by omega) rfl ((index5 (pt b w)).1.trans (own_pt b w)) rfl (index5 (pt b w)).2)

/-- The bias, heads first, as the host lays it out. -/
theorem V_bias : (V m c main_v0 : S16x128x256.Idx → EReal) = transpose S16x128x256 [2, 0, 1] (biasIn m c) transposes_S128x256x16_S16x128x256_2_0_1 := by
  show StableHlo.after hostOps0 (fun b => m (c, b)) (Proc.devRef .tc main_v0) = _
  after_results

theorem V_sink : (V m c main_v3 : S16x8x128.Idx → EReal) = broadcastInDim S16x8x128 ![0, 1, 2] bcast_S16x1x1_S16x8x128_0_1_2
    (broadcastInDim S16x1x1 ![0] bcast_S16_S16x1x1_0 (shapeCast S16 (sinkIn m c) shapeCasts_S1x16_S16)) := by
  show StableHlo.after hostOps0 (fun b => m (c, b)) (Proc.devRef .tc main_v3) = _
  after_results
  rfl

theorem seen_bias (t : Fin cfg0.N) (k : Fin 16) (r : Fin 128) (s : Fin 256) : iblk m c 6 t (ix3 k r s) = biasIn m c (ix3 r s k) := by
  unfold iblk
  show ((cfg0.win 6).blk t).view.read (Elt Ideal) (V m c main_v0) (ix3 k r s) = _
  rw [View.read_apply, V_bias]
  have hi : ((cfg0.win 6).blk t).view.emb (ix3 k r s) = ix3 k r s := by
    funext a
    apply Fin.ext
    match a with
    | ⟨0, _⟩ =>
      show win0_6.index _ 0 * 16 + 1 * k.val = k.val
      rw [index6]
      omega
    | ⟨1, _⟩ =>
      show win0_6.index _ 1 * 128 + 1 * r.val = r.val
      rw [index6]
      omega
    | ⟨2, _⟩ =>
      show win0_6.index _ 2 * 256 + 1 * s.val = s.val
      rw [index6]
      omega
  rw [hi]
  pointwise
  rfl

theorem seen_sink (t : Fin cfg0.N) (k : Fin 16) : iblk m c 7 t (ix3 k 0 0) = sinkIn m c (ix2 0 k) := by
  unfold iblk
  show ((cfg0.win 7).blk t).view.read (Elt Ideal) (V m c main_v3) (ix3 k 0 0) = _
  rw [View.read_apply, V_sink]
  have hi : ((cfg0.win 7).blk t).view.emb (ix3 k 0 0) = ix3 k 0 0 := by
    funext a
    apply Fin.ext
    match a with
    | ⟨0, _⟩ =>
      show win0_7.index _ 0 * 16 + 1 * k.val = k.val
      rw [index7]
      omega
    | ⟨1, _⟩ =>
      show win0_7.index _ 1 * 8 + 1 * 0 = 0
      rw [index7]
    | ⟨2, _⟩ =>
      show win0_7.index _ 2 * 128 + 1 * 0 = 0
      rw [index7]
  rw [hi]
  pointwise
  rfl

theorem coord (t : Fin cfg0.N) : (grid0.coords t 1).val = t.val % 16 :=
  (by decide +kernel : ∀ t : Fin grid0.N, (grid0.coords t 1).val = t.val % 16) t

theorem seen_mask (r : Fin 128) (s : Fin 256) : (loads m c (pt b w)).mask (ix2 r s) = IntOp.andi (band r s) (side w s) := by
  show k0_pay3 (grid0.coords (pt b w)) (ix2 r s) = _
  have e : (grid0.coords (pt b w) 1).val = w.val := (coord _).trans (by show (16 * b.val + w.val) % 16 = w.val; omega)
  unfold k0_pay3
  pointwise
  rw [← side_eq, e]
  rfl

end Cert.AttnFwd
end
-- ==== Proof.FwdEqual.lean ====
/- The two results of the attention's forward kernel are the reference's. -/
module

public import proofs.«01_k».proof.Proof.FwdInputs
public import proofs.«01_k».proof.Proof.Gen.Reference5Ideal.Read

@[expose] public section

set_option maxRecDepth 16384

noncomputable section

namespace Cert.Attn

section
open Cert.Reference4Ideal Cert.Reference4Ideal.Gen Cert.Reference4Ideal.Read Idealize.ShloMosaic Idealize.ShloMosaic.TcCoe

/-- The reference's largest score. -/
theorem rowmax_at (x0 : S128x256x16.Idx → EReal) (x3 : S4096x10752.Idx → EReal) (j : S2x4x4x16x128.Idx) : val_main_v69 (F := Ideal) x0 x3 j
    = Finset.univ.fold max (Ideal.ofBits .f32 0xFF800000#32 : EReal)
        (fun s : Fin 256 => val_main_v67_0 (F := Ideal) x0 x3 (ix6 (j 0) (j 1) (j 2) (j 3) (j 4) s)) := by
  unfold val_main_v69
  rw [Host.reduce_eq_fold_single FloatOps.maximumf _ _ reducesTo_S2x4x4x16x128x256_S2x4x4x16x128_d5 (by decide) h_S_ j]
  refine congrArg (fun f : Fin 256 → EReal => Finset.univ.fold max (Ideal.ofBits .f32 0xFF800000#32 : EReal) f) (funext fun s => ?_)
  exact congrArg (val_main_v67_0 (F := Ideal) x0 x3) (eq_ix6 _)
end

end Cert.Attn

namespace Cert.AttnFwd

open Cert.Kernel5Ideal Cert.Kernel5Ideal.Gen Idealize.ShloMosaic Idealize.ShloMosaic.TcCoe Idealize.SL.Sem
open Cert.Reference4Ideal.Read Cert.Attn

/-! ## The reference's scores -/

section
variable (x0 : S128x256x16.Idx → EReal) (x1 : S1x16.Idx → EReal) (x3 : S4096x10752.Idx → EReal)
variable (b : Fin 2) (n : Fin 16) (q : Fin 128) (h g : Fin 4)

theorem bias_at (s : Fin 256) : val_main_v65 (F := Ideal) x0 (ix6 b h g n q s) = x0 (ix3 q s (⟨h.val * 4 + g.val, by omega⟩ : Fin 16)) := by
  rw [val_main_v65_apply, val_main_v64_apply, val_main_v63_apply, val_main_v62_apply]
  refine congrArg x0 (funext fun a => Fin.ext ?_)
  match a with
  | ⟨0, _⟩ =>
    show ((((h.val * 4 + g.val) * 1 + 0) * 128 + q.val) * 256 + s.val) / 256 % 128 = q.val
    omega
  | ⟨1, _⟩ =>
    show ((((h.val * 4 + g.val) * 1 + 0) * 128 + q.val) * 256 + s.val) % 256 = s.val
    omega
  | ⟨2, _⟩ =>
    show ((((h.val * 4 + g.val) * 1 + 0) * 128 + q.val) * 256 + s.val) / 32768 = h.val * 4 + g.val
    omega

theorem score_at (s : Fin 256) : val_main_v66 (F := Ideal) x0 x3 (ix6 b h g n q s)
    = ((∑ d : Fin 64, val_main_v17 (F := Ideal) x3 (ix5 b n s h d) * val_main_v9 (F := Ideal) x3 (ix6 b n q h g d) : EReal)
      * Ideal.ofBits .f32 0x3E000000#32 + x0 (ix3 q s (⟨h.val * 4 + g.val, by omega⟩ : Fin 16)) : EReal) := by
  rw [val_main_v66_apply, val_main_v29_apply, val_main_v27_apply, val_main_v26_apply, bias_at]
  refine congrArg (fun y : EReal => (y * Ideal.ofBits .f32 0x3E000000#32 + x0 (ix3 q s (⟨h.val * 4 + g.val, by omega⟩ : Fin 16)) : EReal)) ?_
  exact Finset.sum_congr rfl fun d _ => congrArg₂ _ (congrArg _ (eq_ix5 _)) (congrArg _ (eq_ix6 _))

theorem sink_at : val_main_v68 (F := Ideal) x1 (ix5 h g (0 : Fin 1) (0 : Fin 1) (0 : Fin 1)) = x1 (ix2 (0 : Fin 1) (⟨h.val * 4 + g.val, by omega⟩ : Fin 16)) := by
  rw [val_main_v68_apply, val_main_v8_apply]
  refine congrArg x1 (funext fun a => Fin.ext ?_)
  match a with
  | ⟨0, _⟩ => rfl
  | ⟨1, _⟩ =>
    show ((((h.val * 4 + g.val) * 1 + 0) * 1 + 0) * 1 + 0) % 16 = h.val * 4 + g.val
    omega
end

/-! ## The kernel's row -/

variable (m : (ℓ : Loc nD τ Cert.Kernel5Ideal.sig) → Buf (Elt Ideal) ℓ) (c : Dev nD)
variable (b : Fin 2) (w : Fin 16) (r : Fin 128) (h g : Fin 4)

theorem row_q (d : Fin 64) : (rowAt m c b w r h g).q d = val_main_v9 (F := Ideal) (projIn m c) (ix6 b w r h g d) := by
  rw [queriesOf]
  refine (load_q m c (pt b w) (head h g) r d).trans ((seen_q m c b w r _).trans ?_)
  exact congrArg (fun l => projIn m c (ix2 _ l)) (Fin.ext (Nat.zero_add _))

theorem row_ag (d : Fin 64) : (rowAt m c b w r h g).ag d = projIn m c (ix2 (tok b w r) ⟨1536 + ((h.val * 4 + g.val) * 64 + d.val), by omega⟩) :=
  (load_ag m c (pt b w) (head h g) r d).trans (seen_ag m c b w r _)

theorem row_bias (s : Fin 256) : (rowAt m c b w r h g).bias s = biasIn m c (ix3 r s (head h g)) :=
  (load_bias m c (pt b w) (head h g) r s).trans (seen_bias m c _ _ r s)

theorem row_sink : (rowAt m c b w r h g).sink = sinkIn m c (ix2 0 (head h g)) :=
  (load_sink m c (pt b w) (head h g)).trans (seen_sink m c _ _)

theorem row_mask (s : Fin 256) : (rowAt m c b w r h g).mask s = IntOp.andi (band r s) (side w s) := seen_mask m c b w r s

/-- A key's or value's token, inside the sequence. -/
theorem place_before (s : Fin 256) (h0 : ¬w.val * 128 + s.val < 128) (hs : s.val < 128) :
    tok b (prev w) ⟨s.val, hs⟩ = (⟨b.val * 2048 + (w.val * 128 + s.val - 128), by omega⟩ : Fin 4096) :=
  Fin.ext (by show (16 * b.val + (w.val - 1)) * 128 + s.val = b.val * 2048 + (w.val * 128 + s.val - 128); omega)
theorem place_own (s : Fin 256) (hs : ¬s.val < 128) :
    tok b w ⟨s.val - 128, by omega⟩ = (⟨b.val * 2048 + (w.val * 128 + s.val - 128), by omega⟩ : Fin 4096) :=
  Fin.ext (by show (16 * b.val + w.val) * 128 + (s.val - 128) = b.val * 2048 + (w.val * 128 + s.val - 128); omega)

theorem row_k (s : Fin 256) (h0 : ¬w.val * 128 + s.val < 128) (d : Fin 64) :
    (rowAt m c b w r h g).k s d = val_main_v17 (F := Ideal) (projIn m c) (ix5 b w s h d) := by
  rw [keys_eq, windows_apply, dif_neg h0, keyOf]
  show (if hs : s.val < 128 then (loads m c (pt b w)).kp h (ix2 ⟨s.val, hs⟩ d) else (loads m c (pt b w)).kc h (ix2 ⟨s.val - 128, by omega⟩ d)) = _
  by_cases hs : s.val < 128
  · rw [dif_pos hs, load_kp, seen_kp, place_before b w s h0 hs]
    exact congrArg (fun l => projIn m c (ix2 _ l)) (Fin.ext (by show 1024 + (h.val * 64 + d.val) = 1024 + h.val * 64 + d.val; omega))
  · rw [dif_neg hs, load_kc, seen_kc, place_own b w s hs]
    exact congrArg (fun l => projIn m c (ix2 _ l)) (Fin.ext (by show 1024 + (h.val * 64 + d.val) = 1024 + h.val * 64 + d.val; omega))

theorem row_v (s : Fin 256) (h0 : ¬w.val * 128 + s.val < 128) (d : Fin 64) :
    (rowAt m c b w r h g).v s d = val_main_v25 (F := Ideal) (projIn m c) (ix5 b w s h d) := by
  rw [values_eq, windows_apply, dif_neg h0, valueOf]
  show (if hs : s.val < 128 then (loads m c (pt b w)).vp h (ix2 ⟨s.val, hs⟩ d) else (loads m c (pt b w)).vc h (ix2 ⟨s.val - 128, by omega⟩ d)) = _
  by_cases hs : s.val < 128
  · rw [dif_pos hs, load_vp, seen_vp, place_before b w s h0 hs]
    exact congrArg (fun l => projIn m c (ix2 _ l)) (Fin.ext (by show 1280 + (h.val * 64 + d.val) = 1280 + h.val * 64 + d.val; omega))
  · rw [dif_neg hs, load_vc, seen_vc, place_own b w s hs]
    exact congrArg (fun l => projIn m c (ix2 _ l)) (Fin.ext (by show 1280 + (h.val * 64 + d.val) = 1280 + h.val * 64 + d.val; omega))

theorem first_off (s : Fin 256) (h0 : w.val * 128 + s.val < 128) : IntOp.andi (band r s) (side w s) = 0#1 := by
  obtain rfl : w = 0 := Fin.ext (by show w.val = 0; omega)
  rw [side_zero s (by omega)]
  exact (by decide : ∀ x : BitVec 1, IntOp.andi x 0#1 = 0#1) _

theorem row_score (s : Fin 256) : (rowAt m c b w r h g).score s = val_main_v67_0 (F := Ideal) (biasIn m c) (projIn m c) (ix6 b h g w r s) := by
  unfold Row.score
  rw [row_mask]
  by_cases hm : IntOp.andi (band r s) (side w s) = 0#1
  · rw [masked_off ((mask_at b h g w r s).trans hm), hm]
    rfl
  · have h1 : IntOp.andi (band r s) (side w s) = 1#1 := (by decide : ∀ x : BitVec 1, ¬x = 0#1 → x = 1#1) _ hm
    have h0 : ¬w.val * 128 + s.val < 128 := fun h0 => hm (first_off w r s h0)
    rw [val_main_v67_0_apply, mask_at, h1, score_at, row_bias]
    show ((∑ d, (rowAt m c b w r h g).q d * (rowAt m c b w r h g).k s d) * Ideal.ofBits .f32 0x3E000000#32 + _ : EReal) = _
    refine congrArg (fun y : EReal => (y * Ideal.ofBits .f32 0x3E000000#32 + biasIn m c (ix3 r s (head h g)) : EReal)) ?_
    exact Finset.sum_congr rfl fun d _ => by rw [row_q, row_k m c b w r h g s h0, mul_comm]

theorem row_top : (rowAt m c b w r h g).top = val_main_v73 (F := Ideal) (biasIn m c) (sinkIn m c) (projIn m c) (ix6 b h g w r (0 : Fin 1)) := by
  rw [val_main_v73_apply, val_main_v70_apply, val_main_v72_apply, val_main_v71_apply]
  unfold Row.top
  refine congrArg₂ (max : EReal → EReal → EReal) ?_ ?_
  · rw [rowmax_at]
    exact congrArg (fun f : Fin 256 → EReal => Finset.univ.fold max (Ideal.ofBits .f32 0xFF800000#32 : EReal) f) (funext fun s => row_score m c b w r h g s)
  · rw [row_sink, ← sink_at (sinkIn m c) h g]
    exact (congrArg (val_main_v68 (F := Ideal) (sinkIn m c)) (eq_ix5 (idx_main_v71 (idx_main_v72 (ix6 b h g w r (0 : Fin 1)))))).symm

theorem row_e (s : Fin 256) : (rowAt m c b w r h g).e s = val_main_v76 (F := Ideal) (biasIn m c) (sinkIn m c) (projIn m c) (ix6 b h g w r s) := by
  rw [val_main_v76_apply, val_main_v75_apply, val_main_v74_apply]
  unfold Row.e
  rw [row_score, row_top]
  refine congrArg (fun y : EReal => Ideal.exp (val_main_v67_0 (F := Ideal) (biasIn m c) (projIn m c) (ix6 b h g w r s) - y)) ?_
  exact (congrArg (val_main_v73 (F := Ideal) (biasIn m c) (sinkIn m c) (projIn m c)) (eq_ix6 (idx_main_v74 (ix6 b h g w r s)))).symm

theorem row_z : (rowAt m c b w r h g).z = val_main_v80 (F := Ideal) (biasIn m c) (sinkIn m c) (projIn m c) (ix6 b h g w r (0 : Fin 1)) := by
  rw [val_main_v80_apply, val_main_v79_apply, val_main_v78_apply, val_main_v77_apply]
  unfold Row.z
  rw [row_sink, row_top, ← sink_at (sinkIn m c) h g]
  refine congrArg (fun y : EReal => Ideal.exp (y - val_main_v73 (F := Ideal) (biasIn m c) (sinkIn m c) (projIn m c) (ix6 b h g w r (0 : Fin 1)))) ?_
  exact (congrArg (val_main_v68 (F := Ideal) (sinkIn m c)) (eq_ix5 (idx_main_v77 (idx_main_v78 (ix6 b h g w r (0 : Fin 1)))))).symm

/-! ## The gated output -/

/-- The finite arguments, with no gradient among them. -/
abbrev FiniteIn : Prop := Finite4 (biasIn m c) (sinkIn m c) (fun _ => 0) (projIn m c)

abbrev refIn : RRow := refRow (biasIn m c) (sinkIn m c) (fun _ => 0) (projIn m c) b w r h g

variable (hf : FiniteIn m c)
include hf

theorem row_v_real (s : Fin 256) (d : Fin 64) : IsR ((rowAt m c b w r h g).v s d) := by
  show IsR (if hs : s.val < 128 then (loads m c (pt b w)).vp h (ix2 ⟨s.val, hs⟩ d) else (loads m c (pt b w)).vc h (ix2 ⟨s.val - 128, by omega⟩ d))
  by_cases hs : s.val < 128
  · rw [dif_pos hs, load_vp, seen_vp]
    exact hf.proj _ _ (by show 1280 + (h.val * 64 + d.val) < 2560; omega)
  · rw [dif_neg hs, load_vc, seen_vc]
    exact hf.proj _ _ (by show 1280 + (h.val * 64 + d.val) < 2560; omega)

/-- A value counts with its weight: where they differ the weight is nought. -/
theorem row_weighed (s : Fin 256) (d : Fin 64) :
    (rowAt m c b w r h g).e s * (rowAt m c b w r h g).v s d = (((refIn m c b w r h g).e s * (refIn m c b w r h g).v s d : ℝ) : EReal) := by
  rw [row_e, refRow_e hf]
  by_cases h0 : w.val * 128 + s.val < 128
  · have e : (refIn m c b w r h g).e s = 0 := refRow_off hf b w r h g s (first_off w r s h0)
    obtain ⟨y, hy⟩ := row_v_real m c b w r h g hf s d
    rw [e, hy, ← EReal.coe_mul, zero_mul, zero_mul]
  · rw [row_v m c b w r h g s h0, refRow_v hf b w r h g s d, ← EReal.coe_mul]

theorem row_out (d : Fin 64) : (rowAt m c b w r h g).out d
    = (((refIn m c b w r h g).o d * ((refIn m c b w r h g).ag d * sig ((refIn m c b w r h g).ag d)) : ℝ) : EReal) := by
  unfold Row.out
  have ez : (rowAt m c b w r h g).z = ((refIn m c b w r h g).z : EReal) := (row_z m c b w r h g).trans (refRow_z hf b w r h g)
  have ee : ∀ s, (rowAt m c b w r h g).e s = ((refIn m c b w r h g).e s : EReal) := fun s => (row_e m c b w r h g s).trans (refRow_e hf b w r h g s)
  have ea : (rowAt m c b w r h g).ag d = ((refIn m c b w r h g).ag d : EReal) := (row_ag m c b w r h g d).trans (refRow_ag hf b w r h g d)
  rw [Finset.sum_congr rfl fun s _ => row_weighed m c b w r h g hf s d, Finset.sum_congr rfl fun s _ => ee s, ez, ea, coe_sum, coe_sum,
    ← EReal.coe_add, logistic_real, ← EReal.coe_mul]
  have hp : (∑ s, (refIn m c b w r h g).e s) + (refIn m c b w r h g).z ≠ 0 := (refRow_good hf b w r h g).den_pos.ne'
  rw [div_real _ hp, ← EReal.coe_mul]
  congr 1
  unfold RRow.o RRow.den
  ring

end Cert.AttnFwd
end
-- ==== Proof.FwdFinal.lean ====
/- The attention's forward kernel leaves the reference's two arrays. -/
module

public import proofs.«01_k».proof.Proof.FwdEqual

@[expose] public section

set_option maxRecDepth 16384

noncomputable section

namespace Cert.AttnFwd

open Cert.Reference5Ideal Cert.Reference5Ideal.Gen Cert.Reference5Ideal.Read Idealize.ShloMosaic Idealize.ShloMosaic.TcCoe Cert.Attn

/-! ## What the reference shares with the gradient's -/

section
variable (x0 : S128x256x16.Idx → EReal) (x1 : S1x16.Idx → EReal) (x2 : S4096x10752.Idx → EReal)

theorem shared_weights : val_main_v72 (F := Ideal) x0 x1 x2 = Cert.Reference4Ideal.Read.val_main_v76 (F := Ideal) x0 x1 x2 := rfl
theorem shared_sink : val_main_v76 (F := Ideal) x0 x1 x2 = Cert.Reference4Ideal.Read.val_main_v80 (F := Ideal) x0 x1 x2 := rfl
theorem shared_merged : val_main_v84 (F := Ideal) x0 x1 x2 = Cert.Reference4Ideal.Read.val_main_v91 (F := Ideal) x0 x1 x2 := rfl
theorem shared_gate : val_main_v5 (F := Ideal) x2 = Cert.Reference4Ideal.Read.val_main_v5 (F := Ideal) x2 := rfl

/-! ## The reference's results, element by element -/

theorem gated_apply (i : S2x2048x1024.Idx) : val_main_v91 (F := Ideal) x0 x1 x2 i
    = (val_main_v84 (F := Ideal) x0 x1 x2 i * (val_main_v5 (F := Ideal) x2 i * Ideal.logistic (val_main_v5 (F := Ideal) x2 i)) : EReal) := by
  have e : val_main_call2_v5 (F := Ideal) x2 i = Ideal.logistic (val_main_v5 (F := Ideal) x2 i) := by
    rw [val_main_call2_v5_apply, val_main_call2_v3_apply, val_main_call2_v1_apply, val_main_call2_v0_apply, val_main_call2_v2_apply, val_main_call2_v4_apply]
    show Ideal.div (Ideal.ofBits .f32 0x3F800000#32) (Ideal.ofBits .f32 0x3F800000#32 + _) = Ideal.div 1 (1 + _)
    rw [word_one]
    rfl
  rw [val_main_v91_apply, val_main_v90_apply, e]
  rfl

variable (b : Fin 2) (n : Fin 16) (q : Fin 128) (h g : Fin 4)

theorem result_at (hf : Finite4 x0 x1 (fun _ => 0) x2) (d : Fin 64) : val_main_v93 (F := Ideal) x0 x1 x2 (ix2 (tok b n q) (elt h g d))
    = (((refRow x0 x1 (fun _ => 0) x2 b n q h g).o d * ((refRow x0 x1 (fun _ => 0) x2 b n q h g).ag d * sig ((refRow x0 x1 (fun _ => 0) x2 b n q h g).ag d)) : ℝ) : EReal) := by
  have e : idx_main_v92 (ix2 (tok b n q) (elt h g d)) = ix3 b (place n q) (elt h g d) := funext fun a => Fin.ext (by
    have hh := h.isLt
    have hg := g.isLt
    have hd := d.isLt
    match a with
    | ⟨0, _⟩ =>
      show (((16 * b.val + n.val) * 128 + q.val) * 1024 + ((h.val * 4 + g.val) * 64 + d.val)) / 2097152 = b.val
      omega
    | ⟨1, _⟩ =>
      show (((16 * b.val + n.val) * 128 + q.val) * 1024 + ((h.val * 4 + g.val) * 64 + d.val)) / 1024 % 2048 = n.val * 128 + q.val
      omega
    | ⟨2, _⟩ =>
      show (((16 * b.val + n.val) * 128 + q.val) * 1024 + ((h.val * 4 + g.val) * 64 + d.val)) % 1024 = (h.val * 4 + g.val) * 64 + d.val
      omega)
  rw [val_main_v93_apply, val_main_v92_apply, e]
  refine (gated_apply x0 x1 x2 _).trans ?_
  rw [shared_merged, shared_gate, merged_at hf, gate_at, refRow_ag hf, logistic_real, ← EReal.coe_mul, ← EReal.coe_mul]

theorem kept_at (s : Fin 256) : val_main_v95 (F := Ideal) x0 x1 x2 (ix2 (tok b n q) ⟨(h.val * 4 + g.val) * 256 + s.val, by omega⟩)
    = if s.val = 0 then val_main_v76 (F := Ideal) x0 x1 x2 (ix6 b h g n q (0 : Fin 1)) else val_main_v72 (F := Ideal) x0 x1 x2 (ix6 b h g n q s) := by
  rw [val_main_v95_apply]
  refine Eq.trans (b := val_main_v89 (F := Ideal) x0 x1 x2 (ix6 b n q h g s)) ?_ ?_
  · unfold val_main_v94
    generalize val_main_v89 (F := Ideal) x0 x1 x2 = y
    refine shapeCast_apply y _ _ (ix6 b n q h g s) ?_
    rw [Shape.rowMajor_val_six, Shape.rowMajor_val_two]
    show ((((b.val * 16 + n.val) * 128 + q.val) * 4 + h.val) * 4 + g.val) * 256 + s.val
      = ((16 * b.val + n.val) * 128 + q.val) * 4096 + ((h.val * 4 + g.val) * 256 + s.val)
    omega
  · rw [val_main_v89_apply, val_main_v88_apply, val_main_call1_v0_apply, val_main_call1_v1_apply, val_main_v87_apply, val_main_v85_apply, val_main_v86_apply]
    have hs := s.isLt
    show Scalar.select (BitVec.ofBool (BitVec.ofNat 32 s.val == 0#32)) _ _ = _
    by_cases h0 : s.val = 0
    · rw [if_pos h0, h0]
      exact congrArg (val_main_v76 (F := Ideal) x0 x1 x2) (eq_ix6 (idx_main_call1_v1 (idx_main_v89 (ix6 b n q h g s))))
    · rw [if_neg h0]
      have : (BitVec.ofNat 32 s.val == 0#32) = false := by
        rw [beq_eq_false_iff_ne]
        intro hc
        have := congrArg BitVec.toNat hc
        simp only [BitVec.toNat_ofNat] at this
        omega
      rw [this]
      exact congrArg (val_main_v72 (F := Ideal) x0 x1 x2) (eq_ix6 (idx_main_v89 (ix6 b n q h g s)))
end

/-! ## The two arrays -/

section
variable (m : (ℓ : Loc Cert.Kernel5Ideal.nD Cert.Kernel5Ideal.τ Cert.Kernel5Ideal.sig) → Buf (Elt Ideal) ℓ) (c : Dev Cert.Kernel5Ideal.nD)

theorem out_eq (hf : FiniteIn m c) : (Cert.Kernel5Ideal.Gen.dats m 0 c).arrAt 8 Cert.Kernel5Ideal.cfg0.N
    = val_main_v93 (F := Ideal) (biasIn m c) (sinkIn m c) (projIn m c) := by
  funext i
  obtain ⟨t, l, rfl⟩ : ∃ (t : Fin 4096) (l : Fin 1024), i = ix2 t l := ⟨i 0, i 1, eq_ix2 i⟩
  obtain ⟨b, n, q, rfl⟩ : ∃ (b : Fin 2) (n : Fin 16) (q : Fin 128), t = tok b n q :=
    ⟨⟨t.val / 2048, by omega⟩, ⟨t.val / 128 % 16, by omega⟩, ⟨t.val % 128, by omega⟩, Fin.ext (by
      show t.val = (16 * (t.val / 2048) + t.val / 128 % 16) * 128 + t.val % 128; omega)⟩
  obtain ⟨h, g, d, rfl⟩ : ∃ (h g : Fin 4) (d : Fin 64), l = elt h g d :=
    ⟨⟨l.val / 256, by omega⟩, ⟨l.val / 64 % 4, by omega⟩, ⟨l.val % 64, by omega⟩, Fin.ext (by
      show l.val = (l.val / 256 * 4 + l.val / 64 % 4) * 64 + l.val % 64; omega)⟩
  exact (final_out m c b n q h g d).trans ((row_out m c b n q h g hf d).trans (result_at _ _ _ b n q h g hf d).symm)

theorem kept_eq : (Cert.Kernel5Ideal.Gen.dats m 0 c).arrAt 9 Cert.Kernel5Ideal.cfg0.N
    = val_main_v95 (F := Ideal) (biasIn m c) (sinkIn m c) (projIn m c) := by
  funext i
  obtain ⟨t, l, rfl⟩ : ∃ (t : Fin 4096) (l : Fin 4096), i = ix2 t l := ⟨i 0, i 1, eq_ix2 i⟩
  obtain ⟨b, n, q, rfl⟩ : ∃ (b : Fin 2) (n : Fin 16) (q : Fin 128), t = tok b n q :=
    ⟨⟨t.val / 2048, by omega⟩, ⟨t.val / 128 % 16, by omega⟩, ⟨t.val % 128, by omega⟩, Fin.ext (by
      show t.val = (16 * (t.val / 2048) + t.val / 128 % 16) * 128 + t.val % 128; omega)⟩
  obtain ⟨h, g, s, rfl⟩ : ∃ (h g : Fin 4) (s : Fin 256), l = ⟨(h.val * 4 + g.val) * 256 + s.val, by omega⟩ :=
    ⟨⟨l.val / 1024, by omega⟩, ⟨l.val / 256 % 4, by omega⟩, ⟨l.val % 256, by omega⟩, Fin.ext (by
      show l.val = (l.val / 1024 * 4 + l.val / 256 % 4) * 256 + l.val % 256; omega)⟩
  refine (final_kept m c b n q h g s).trans (Eq.trans ?_ (kept_at _ _ _ b n q h g s).symm)
  rw [row_z, row_e, shared_weights, shared_sink]
end

end Cert.AttnFwd
end
-- ==== Proof.FwdFinite.lean ====
/- The attention's forward precondition, read off the printed predicate: every element the call uses is a real number. -/
module

public import proofs.«01_k».proof.Pre_finite_inputs
public import proofs.«01_k».proof.Proof.AttnFinite

@[expose] public section

noncomputable section

namespace Cert.AttnFwd

open Idealize.ShloMosaic Cert.Attn

/-- The predicate's shape relations. -/
instance inputFacts : Cert.Pre_finite_inputs.Facts where
  bcast_S_S128x256x16 := by decide
  reducesTo_S128x256x16_S_d0_1_2 := by decide
  h_S_ := by decide
  bcast_S_S1x16 := by decide
  reducesTo_S1x16_S_d0_1 := by decide
  slices_S4096x10752_S4096x2560_0_0 := by decide
  bcast_S_S4096x2560 := by decide
  reducesTo_S4096x2560_S_d0_1 := by decide

instance : Subsingleton Cert.Pre_finite_inputs.S_.Idx := ⟨fun a b => funext fun k => k.elim0⟩

/-- The precondition says what the proof needs of the arguments. -/
theorem input_real (x0 : FVec Ideal Cert.Pre_finite_inputs.S128x256x16 .f32) (x1 : FVec Ideal Cert.Pre_finite_inputs.S1x16 .f32)
    (x2 : FVec Ideal Cert.Pre_finite_inputs.S4096x10752 .f32) (h : Cert.Pre_finite_inputs.fn (F := Ideal) x0 x1 x2 = fun _ => 1#1) :
    Finite4 x0 x1 (fun _ => 0) x2 := by
  have e := congrFun h (fun k => k.elim0)
  obtain ⟨e, e2⟩ := two_ones e
  obtain ⟨e0, e1⟩ := two_ones e
  refine ⟨real_of_all _ _ _ _ _ _ e0, real_of_all _ _ _ _ _ _ e1, fun _ => ⟨0, rfl⟩, fun t l hl => ?_⟩
  obtain ⟨y, hy⟩ := real_of_all _ _ _ _ _ _ e2 (ix2 t ⟨l.val, hl⟩)
  refine ⟨y, Eq.trans ?_ hy⟩
  pointwise

end Cert.AttnFwd
end
-- ==== Proof.FwdClaims.lean ====
/- The claims of the attention's forward call. -/
module

public import proofs.«01_k».proof.Proof.FwdFinal
public import proofs.«01_k».proof.Proof.FwdFinite
public import proofs.«01_k».proof.Proof.Gen.Kernel5.Frame
public import proofs.«01_k».proof.Proof.Gen.Kernel5Ideal.Value
public import proofs.«01_k».proof.Proof.Gen.Reference5Ideal.Run
public import proofs.«01_k».proof.Defs

@[expose] public section

set_option maxRecDepth 16384

noncomputable section

namespace Cert.Proof

open Idealize.ShloMosaic Idealize.ShloMosaic.TcCoe Idealize.SL.Sem

theorem fwd_frame_finite : Cert.quiescent_Kernel5Ideal_pre_finite_inputs (hKernel5Ideal := Cert.Kernel5Ideal.Gen.facts)
    (hPre_finite_inputs := Cert.AttnFwd.inputFacts) :=
  fun m ρ _ => Cert.Kernel5Ideal.Gen.frame m ρ

theorem fwd_reference_frame : Cert.quiescent_Reference5Ideal (hReference5Ideal := Cert.Reference5Ideal.Gen.facts) :=
  fun m ρ _ => (θ_run Cert.Reference5Ideal.defs _ _).mono
    (fun r h => ⟨fun c => (h c).2.2, Idealize.ShloMosaic.sem_eq_zero_of_no_sems (by decide) r.2⟩)
    (Cert.Reference5Ideal.Value.run (F := Ideal) m ρ)

theorem fwd_reference_frame_finite : Cert.quiescent_Reference5Ideal_pre_finite_inputs (hReference5Ideal := Cert.Reference5Ideal.Gen.facts)
    (hPre_finite_inputs := Cert.AttnFwd.inputFacts) :=
  fun m ρ _ => fwd_reference_frame m ρ trivial

/-- The masked score's word is named for the bottom of the extended reals. -/
theorem fwd_preserves : Cert.preserves_Kernel5_Kernel5Ideal :=
  IdealRules.named_const.statement Cert.Kernel5Ideal.κ "mask" .f32 0xF149F2CA#32 ⊥ rfl

theorem at_three {A B C E : Type*} {f : A → B → C → E} {a a' : A} {b b' : B} {c c' : C} (ha : a = a') (hb : b = b') (hc : c = c') :
    f a b c = f a' b' c' := by
  rw [ha, hb, hc]

/-- The kernel's two results are the reference's. -/
theorem fwd_algebraic : Cert.algebraic_Kernel5Ideal_Reference5Ideal_pre_finite_inputs (hKernel5Ideal := Cert.Kernel5Ideal.Gen.facts)
    (hReference5Ideal := Cert.Reference5Ideal.Gen.facts) (hPre_finite_inputs := Cert.AttnFwd.inputFacts) := by
  intro m ρ m' ρ' hpre hagree
  have hf : ∀ c, Cert.AttnFwd.FiniteIn m c := fun c => Cert.AttnFwd.input_real _ _ _ (hpre c)
  refine ⟨_, _, Cert.Kernel5Ideal.Value.run_blocks m ρ, ?_⟩
  refine (θ_run Cert.Reference5Ideal.defs _ _).mono
    (fun _ h c => ⟨(h c).1.trans ((Cert.Reference5Ideal.Read.val_main_v93_eq _ _).trans ?_),
      (h c).2.1.trans ((Cert.Reference5Ideal.Read.val_main_v95_eq _ _).trans ?_), (h c).2.2⟩)
    (Cert.Reference5Ideal.Value.run (F := Ideal) m' ρ')
  · refine Eq.trans ?_ (Cert.AttnFwd.out_eq m c (hf c)).symm
    exact at_three (f := Cert.Reference5Ideal.Read.val_main_v93 (F := Ideal)) (hagree c).1 (hagree c).2.1 (hagree c).2.2
  · refine Eq.trans ?_ (Cert.AttnFwd.kept_eq m c).symm
    exact at_three (f := Cert.Reference5Ideal.Read.val_main_v95 (F := Ideal)) (hagree c).1 (hagree c).2.1 (hagree c).2.2

end Cert.Proof

end
-- ==== Proof.JoinArrays.lean ====
/- What the merge's forward kernel leaves in its two result arrays. -/
module

public import proofs.«01_k».proof.Proof.MergeReference
public import proofs.«01_k».proof.Proof.Gen.Kernel6Ideal.Value

@[expose] public section

set_option maxRecDepth 16384

noncomputable section

namespace Cert.Join

open Idealize.ShloMosaic
open Cert.Kernel2Ideal Cert.Kernel2Ideal.Merge

/-- Two branches under their gates. -/
def joined (ga ua gh uh : EReal) : EReal := Ideal.logistic ga * ua + Ideal.logistic gh * uh

/-- The merged branches, of the arguments. -/
def joinArr (p : S4096x10752.Idx → EReal) (ua : S4096x2048.Idx → EReal) (yh : S4096x1024.Idx → EReal) (w : S1x1024x2048.Idx → EReal) :
    S4096x2048.Idx → EReal :=
  fun i => joined (p (ix2 (i 0) (pcol 6656 (by decide) (i 1)))) (ua i) (p (ix2 (i 0) (pcol 8704 (by decide) (i 1)))) (uhArr yh w i)

end Cert.Join

namespace Cert.Kernel6Ideal.Join

open Cert.Kernel6Ideal Cert.Kernel6Ideal.Gen Cert.Kernel6Ideal.Value Idealize.ShloMosaic Idealize.ShloMosaic.TcCoe Idealize.SL.Sem
open Idealize.ShloMosaic.Pipeline (Dat)
open Cert.Join
open Cert.Kernel2Ideal.Merge (uhArr pcol hz place)

/-! ## The payloads -/

/-- The projected branch's block. -/
abbrev uhBlk (x0 : Vec Ideal S512x1024 .bf16) (x1 : Vec Ideal S1024x1024 .bf16) : Vec Ideal S512x1024 .bf16 :=
  fun i => ∑ k : Fin 1024, (x0 (ix2 (i 0) k) : EReal) * x1 (ix2 k (i 1))

/-- The merged branches' block. -/
abbrev joinBlk (x0 : Vec Ideal S512x1024 .bf16) (x1 : Vec Ideal S1024x1024 .bf16) (x2 x3 : Vec Ideal S512x1024 .f32) (x4 : Vec Ideal S512x1024 .bf16) :
    Vec Ideal S512x1024 .bf16 :=
  fun i => joined (x2 i) (x4 i) (x3 i) (uhBlk x0 x1 i)

theorem pay1_eq (x0 : Vec Ideal S512x1024 .bf16) (x1 : Vec Ideal S1024x1024 .bf16) : k0_pay1 (F := Ideal) x0 x1 = uhBlk x0 x1 := by
  funext i
  idx_vars i
  unfold k0_pay1
  pointwise
  rfl

theorem pay2_eq (x0 : Vec Ideal S512x1024 .bf16) (x1 : Vec Ideal S1024x1024 .bf16) (x2 x3 : Vec Ideal S512x1024 .f32) (x4 : Vec Ideal S512x1024 .bf16) :
    k0_pay2 (F := Ideal) x0 x1 x2 x4 x3 = joinBlk x0 x1 x2 x3 x4 := by
  funext i
  idx_vars i
  unfold k0_pay2
  pointwise [pay1_eq]
  rfl

theorem out5_eq (x0 : Vec Ideal S512x1024 .bf16) (x1 : Vec Ideal S1024x1024 .bf16) (x2 x3 : Vec Ideal S512x1024 .f32) (x4 : Vec Ideal S512x1024 .bf16) :
    out0_5 x0 x1 x2 x3 x4 = uhBlk x0 x1 := by
  unfold out0_5
  rw [View.canon_unit_zero hz, View.ld_unit_zero (S := S512x1024) hz, View.ld_unit_zero (S := S1024x1024) hz, pay1_eq]

theorem out6_eq (x0 : Vec Ideal S512x1024 .bf16) (x1 : Vec Ideal S1024x1024 .bf16) (x2 x3 : Vec Ideal S512x1024 .f32) (x4 : Vec Ideal S512x1024 .bf16) :
    out0_6 x0 x1 x2 x3 x4 = joinBlk x0 x1 x2 x3 x4 := by
  unfold out0_6
  rw [View.canon_unit_zero hz]
  simp only [View.ld_unit_zero (S := S512x1024) hz, View.ld_unit_zero (S := S1024x1024) hz, pay2_eq]

/-! ## The blocks -/

variable (m : (ℓ : Loc nD τ sig) → Buf (Elt Ideal) ℓ) (c : Dev nD)

abbrev projIn : S4096x10752.Idx → EReal := m ((c : Thread nD τ).loc main_arg0)
abbrev uaIn : S4096x2048.Idx → EReal := m ((c : Thread nD τ).loc main_arg1)
abbrev yhIn : S4096x1024.Idx → EReal := m ((c : Thread nD τ).loc main_arg2)
abbrev wIn : S1x1024x2048.Idx → EReal := m ((c : Thread nD τ).loc main_arg3)

/-- The row of the arrays that row `r` of point `t`'s blocks is. -/
def rowOf (t : Fin cfg0.N) (r : Fin 512) : Fin 4096 :=
  ⟨512 * (t.val / 2) + r.val, by have := Nat.lt_of_lt_of_eq t.isLt N_0; omega⟩

/-- The column of a branch that column `l` of point `t`'s blocks is. -/
def colOf (t : Fin cfg0.N) (l : Fin 1024) : Fin 2048 := ⟨1024 * (t.val % 2) + l.val, by omega⟩

/-- Where each window stands at a point. -/
theorem stands (t : Fin cfg0.N) :
    (win0_0.index t 0 = t.val / 2 ∧ win0_0.index t 1 = 0) ∧ (win0_1.index t 0 = 0 ∧ win0_1.index t 1 = t.val % 2)
    ∧ (win0_2.index t 0 = 512 * (t.val / 2) ∧ win0_2.index t 1 = 6656 + 1024 * (t.val % 2))
    ∧ (win0_3.index t 0 = 512 * (t.val / 2) ∧ win0_3.index t 1 = 8704 + 1024 * (t.val % 2))
    ∧ (win0_4.index t 0 = t.val / 2 ∧ win0_4.index t 1 = t.val % 2)
    ∧ (win0_5.index t 0 = t.val / 2 ∧ win0_5.index t 1 = t.val % 2)
    ∧ (win0_6.index t 0 = t.val / 2 ∧ win0_6.index t 1 = t.val % 2) :=
  (by decide +kernel : ∀ t : Fin grid0.N,
    (win0_0.index t 0 = t.val / 2 ∧ win0_0.index t 1 = 0) ∧ (win0_1.index t 0 = 0 ∧ win0_1.index t 1 = t.val % 2)
    ∧ (win0_2.index t 0 = 512 * (t.val / 2) ∧ win0_2.index t 1 = 6656 + 1024 * (t.val % 2))
    ∧ (win0_3.index t 0 = 512 * (t.val / 2) ∧ win0_3.index t 1 = 8704 + 1024 * (t.val % 2))
    ∧ (win0_4.index t 0 = t.val / 2 ∧ win0_4.index t 1 = t.val % 2)
    ∧ (win0_5.index t 0 = t.val / 2 ∧ win0_5.index t 1 = t.val % 2)
    ∧ (win0_6.index t 0 = t.val / 2 ∧ win0_6.index t 1 = t.val % 2)) t

variable (t : Fin cfg0.N) (r : Fin 512) (l : Fin 1024)

theorem seen_yh (k : Fin 1024) : iblk m c 0 t (ix2 r k) = yhIn m c (ix2 (rowOf t r) k) := by
  unfold iblk
  show ((cfg0.win 0).blk t).view.read (Elt Ideal) (V m c main_arg2) (ix2 r k) = _
  rw [View.read_apply, V_main_arg2]
  refine congrArg (yhIn m c) (funext fun a => Fin.ext ?_)
  match a with
  | ⟨0, _⟩ => show win0_0.index t 0 * 512 + 1 * r.val = 512 * (t.val / 2) + r.val; rw [(stands t).1.1]; omega
  | ⟨1, _⟩ => show win0_0.index t 1 * 1024 + 1 * k.val = k.val; rw [(stands t).1.2]; omega

/-- The branch's weight, as the host lays it out. -/
theorem V_w (k : Fin 1024) (j : Fin 2048) : (V m c main_v1 : S1024x2048.Idx → EReal) (ix2 k j) = wIn m c (ix3 (0 : Fin 1) k j) := by
  have h : V m c main_v1 = (truncf .bf16 (shapeCast S1024x2048 (wIn m c) shapeCasts_S1x1024x2048_S1024x2048) bitsLt_bf16_f32 : FVec Ideal S1024x2048 .bf16) := by
    show StableHlo.after hostOps0 (fun b => m (c, b)) (Proc.devRef .tc main_v1) = _
    after_results
    rfl
  rw [h]
  show shapeCast S1024x2048 _ _ (ix2 k j) = _
  refine shapeCast_apply _ _ _ (ix3 (0 : Fin 1) k j) ?_
  rw [Shape.rowMajor_val_two, Shape.rowMajor_val_three]
  show (0 * 1024 + k.val) * 2048 + j.val = k.val * 2048 + j.val
  omega

theorem seen_w (k : Fin 1024) : iblk m c 1 t (ix2 k l) = wIn m c (ix3 (0 : Fin 1) k (colOf t l)) := by
  unfold iblk
  show ((cfg0.win 1).blk t).view.read (Elt Ideal) (V m c main_v1) (ix2 k l) = _
  rw [View.read_apply, ← V_w]
  refine congrArg (V m c main_v1 : S1024x2048.Idx → EReal) (funext fun a => Fin.ext ?_)
  match a with
  | ⟨0, _⟩ => show win0_1.index t 0 * 1024 + 1 * k.val = k.val; rw [(stands t).2.1.1]; omega
  | ⟨1, _⟩ => show win0_1.index t 1 * 1024 + 1 * l.val = 1024 * (t.val % 2) + l.val; rw [(stands t).2.1.2]; omega

theorem seen_ga : iblk m c 2 t (ix2 r l) = projIn m c (ix2 (rowOf t r) (pcol 6656 (by decide) (colOf t l))) := by
  unfold iblk
  show ((cfg0.win 2).blk t).view.read (Elt Ideal) (V m c main_arg0) (ix2 r l) = _
  rw [View.read_apply, V_main_arg0]
  refine congrArg (projIn m c) (place _ _ _ ?_ ?_)
  · show win0_2.index t 0 + 1 * r.val = 512 * (t.val / 2) + r.val; rw [(stands t).2.2.1.1]; omega
  · show win0_2.index t 1 + 1 * l.val = 6656 + (1024 * (t.val % 2) + l.val); rw [(stands t).2.2.1.2]; omega

theorem seen_gh : iblk m c 3 t (ix2 r l) = projIn m c (ix2 (rowOf t r) (pcol 8704 (by decide) (colOf t l))) := by
  unfold iblk
  show ((cfg0.win 3).blk t).view.read (Elt Ideal) (V m c main_arg0) (ix2 r l) = _
  rw [View.read_apply, V_main_arg0]
  refine congrArg (projIn m c) (place _ _ _ ?_ ?_)
  · show win0_3.index t 0 + 1 * r.val = 512 * (t.val / 2) + r.val; rw [(stands t).2.2.2.1.1]; omega
  · show win0_3.index t 1 + 1 * l.val = 8704 + (1024 * (t.val % 2) + l.val); rw [(stands t).2.2.2.1.2]; omega

theorem seen_ua : iblk m c 4 t (ix2 r l) = uaIn m c (ix2 (rowOf t r) (colOf t l)) := by
  unfold iblk
  show ((cfg0.win 4).blk t).view.read (Elt Ideal) (V m c main_arg1) (ix2 r l) = _
  rw [View.read_apply, V_main_arg1]
  refine congrArg (uaIn m c) (place _ _ _ ?_ ?_)
  · show win0_4.index t 0 * 512 + 1 * r.val = 512 * (t.val / 2) + r.val; rw [(stands t).2.2.2.2.1.1]; omega
  · show win0_4.index t 1 * 1024 + 1 * l.val = 1024 * (t.val % 2) + l.val; rw [(stands t).2.2.2.2.1.2]; omega

theorem uh_blk : uhBlk (iblk m c 0 t) (iblk m c 1 t) (ix2 r l) = uhArr (yhIn m c) (wIn m c) (ix2 (rowOf t r) (colOf t l)) :=
  Finset.sum_congr rfl fun k _ => congr (congrArg HMul.hMul (seen_yh m c t r k)) (seen_w m c t l k)

/-! ## The result arrays -/

/-- Every place of a result is in some point's block. -/
theorem split (i : S4096x2048.Idx) : ∃ (t : Fin cfg0.N) (r : Fin 512) (l : Fin 1024), i = ix2 (rowOf t r) (colOf t l) := by
  have hN : cfg0.N = 16 := N_0
  have hi : (i 0).val < 4096 := (i 0).isLt
  have hj : (i 1).val < 2048 := (i 1).isLt
  refine ⟨⟨2 * ((i 0).val / 512) + (i 1).val / 1024, by omega⟩, ⟨(i 0).val % 512, Nat.mod_lt _ (by decide)⟩, ⟨(i 1).val % 1024, Nat.mod_lt _ (by decide)⟩, place _ _ _ ?_ ?_⟩
  · show (i 0).val = 512 * ((2 * ((i 0).val / 512) + (i 1).val / 1024) / 2) + (i 0).val % 512; omega
  · show (i 1).val = 1024 * ((2 * ((i 0).val / 512) + (i 1).val / 1024) % 2) + (i 1).val % 1024; omega

theorem final5 : (dats m 0 c).arrAt 5 cfg0.N = uhArr (yhIn m c) (wIn m c) := by
  funext i
  obtain ⟨t, r, l, rfl⟩ := split i
  have hb := congrFun (blocks5 m c t (flush0_5 t)) (ix2 r l)
  rw [View.read_apply, flushed5, out5_eq] at hb
  have hi : ((cfg0.win 5).blk t).view.emb (ix2 r l) = ix2 (rowOf t r) (colOf t l) := place _ _ _
    (by show win0_5.index t 0 * 512 + 1 * r.val = 512 * (t.val / 2) + r.val; rw [(stands t).2.2.2.2.2.1.1]; omega)
    (by show win0_5.index t 1 * 1024 + 1 * l.val = 1024 * (t.val % 2) + l.val; rw [(stands t).2.2.2.2.2.1.2]; omega)
  rw [hi] at hb
  exact hb.trans (uh_blk m c t r l)

theorem final6 : (dats m 0 c).arrAt 6 cfg0.N = joinArr (projIn m c) (uaIn m c) (yhIn m c) (wIn m c) := by
  funext i
  obtain ⟨t, r, l, rfl⟩ := split i
  have hb := congrFun (blocks6 m c t (flush0_6 t)) (ix2 r l)
  rw [View.read_apply, flushed6, out6_eq] at hb
  have hi : ((cfg0.win 6).blk t).view.emb (ix2 r l) = ix2 (rowOf t r) (colOf t l) := place _ _ _
    (by show win0_6.index t 0 * 512 + 1 * r.val = 512 * (t.val / 2) + r.val; rw [(stands t).2.2.2.2.2.2.1]; omega)
    (by show win0_6.index t 1 * 1024 + 1 * l.val = 1024 * (t.val % 2) + l.val; rw [(stands t).2.2.2.2.2.2.2]; omega)
  rw [hi] at hb
  refine hb.trans ?_
  show joined (iblk m c 2 t (ix2 r l)) (iblk m c 4 t (ix2 r l)) (iblk m c 3 t (ix2 r l)) (uhBlk (iblk m c 0 t) (iblk m c 1 t) (ix2 r l)) = _
  rw [uh_blk, seen_ga, seen_gh, seen_ua]
  rfl

end Cert.Kernel6Ideal.Join

end
-- ==== Proof.JoinClaims.lean ====
/- The claims about the merge of the two branches. -/
module

public import proofs.«01_k».proof.Defs
public import proofs.«01_k».proof.Proof.JoinArrays
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Quiescent

@[expose] public section

set_option maxRecDepth 16384

noncomputable section

namespace Cert.Reference6Ideal.Join

open Cert.Reference6Ideal Cert.Reference6Ideal.Read Idealize.ShloMosaic Idealize.ShloMosaic.TcCoe Idealize.SL.Sem
open Cert.Join
open Cert.Kernel2Ideal.Merge (uhArr pcol)

variable (p : S4096x10752.Idx → EReal) (ua : S4096x2048.Idx → EReal) (yh : S4096x1024.Idx → EReal) (wb : S1x1024x2048.Idx → EReal)

theorem uh_eq : val_main_v4 (F := Ideal) yh wb = uhArr yh wb := by
  funext i
  idx_vars i
  rw [val_main_v4_apply]
  refine Finset.sum_congr rfl fun k _ => ?_
  rw [val_main_v3_apply]
  have hk := k.isLt
  have h1 := i1.isLt
  refine congr (congrArg HMul.hMul (congrArg yh (funext fun a => ?_))) (congrArg wb (funext fun a => Fin.ext ?_))
  · match a with
    | ⟨0, _⟩ => rfl
    | ⟨1, _⟩ => rfl
  · match a with
    | ⟨0, _⟩ => rfl
    | ⟨1, _⟩ => show (k.val * 2048 + i1.val) / 2048 % 1024 = k.val; omega
    | ⟨2, _⟩ => show (k.val * 2048 + i1.val) % 2048 = i1.val; omega

theorem kept_eq : val_main_v21 (F := Ideal) yh wb = uhArr yh wb := uh_eq yh wb

/-- The gates are the ones the backward reference reads. -/
theorem gateA_apply (i : Fin 4096) (j : Fin 2048) :
    val_main_v10 (F := Ideal) p (ix2 i j) = Ideal.logistic (p (ix2 i (pcol 6656 (by decide) j))) :=
  Cert.Reference2Ideal.Merge.sigA_apply p i j

theorem gateH_apply (i : Fin 4096) (j : Fin 2048) :
    val_main_v18 (F := Ideal) p (ix2 i j) = Ideal.logistic (p (ix2 i (pcol 8704 (by decide) j))) :=
  Cert.Reference2Ideal.Merge.sigH_apply p i j

theorem joined_eq : val_main_v22 (F := Ideal) p ua yh wb = joinArr p ua yh wb := by
  funext i
  idx_vars i
  rw [val_main_v22_apply, val_main_v20_apply, val_main_v12_apply, val_main_v19_apply, gateA_apply, gateH_apply, uh_eq]
  rfl

end Cert.Reference6Ideal.Join

namespace Cert.Proof

open Idealize.ShloMosaic Idealize.ShloMosaic.TcCoe Idealize.SL.Sem

/-- The reference runs, keeps its arguments, and leaves every semaphore at zero. -/
theorem join_reference_frame : Cert.quiescent_Reference6Ideal (hReference6Ideal := Cert.Reference6Ideal.Gen.facts) :=
  fun m ρ _ => (θ_run Cert.Reference6Ideal.defs _ _).mono
    (fun r h => ⟨fun c => (h c).2.2, Idealize.ShloMosaic.sem_eq_zero_of_no_sems (by decide) r.2⟩)
    (Cert.Reference6Ideal.Value.run (F := Ideal) m ρ)

/-- The kernel's two results are the reference's. -/
theorem join_algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨_, _, Cert.Kernel6Ideal.Value.run_blocks m ρ, ?_⟩
  refine (θ_run Cert.Reference6Ideal.defs _ _).mono
    (fun _ h c => ⟨(h c).1.trans ((Cert.Reference6Ideal.Read.val_main_v21_eq _ _).trans ?_),
      (h c).2.1.trans ((Cert.Reference6Ideal.Read.val_main_v22_eq _ _ _ _).trans ?_), (h c).2.2⟩)
    (Cert.Reference6Ideal.Value.run (F := Ideal) m' ρ')
  · rw [(hagree c).2.2.1, (hagree c).2.2.2]
    exact (Cert.Reference6Ideal.Join.kept_eq _ _).trans (Cert.Kernel6Ideal.Join.final5 m c).symm
  · rw [(hagree c).1, (hagree c).2.1, (hagree c).2.2.1, (hagree c).2.2.2]
    exact (Cert.Reference6Ideal.Join.joined_eq _ _ _ _).trans (Cert.Kernel6Ideal.Join.final6 m c).symm

end Cert.Proof

end
-- ==== Proof.HgrnHead.lean ====
/- What the recurrence's forward kernel stores at a point, as functions of the blocks it reads. -/
module

public import proofs.«01_k».proof.Proof.Gen.Kernel7Ideal.Value
public import Idealize.ShloMosaic.Lib.Pointwise
public import Idealize.ShloMosaic.Lib.Pipeline.ValueKit.Tiles
public import Idealize.ShloMosaic.Lib.WritesUnit

@[expose] public section

set_option maxRecDepth 16384

noncomputable section

namespace Cert.Hgrn

open Cert.Kernel7Ideal Cert.Kernel7Ideal.Gen Idealize.ShloMosaic Idealize.ShloMosaic.TcCoe Idealize.SL.Sem

/-- What a point loads besides the state: its blocks, and rows 15, 31, 47 and 63 of the summed logarithms. -/
structure Loads where
  q : Vec Ideal S64x1024 .f32
  f : Vec Ideal S64x1024 .f32
  v : Vec Ideal S64x1024 .f32
  hg : Vec Ideal S64x1024 .f32
  lb : Vec Ideal S1x1024 .f32
  gain : Vec Ideal S1x1024 .f32
  row : Fin 4 → Vec Ideal S1x1024 .f32

variable (A : Loads)

def rowIds : IVec S64x1024 32 := iota .tc S64x1024 32 [0] iota_S64x1024_d0_w32
def forget : Vec Ideal S64x1024 .f32 := k0_pay2 (F := Ideal) A.f A.lb
def logs : Vec Ideal S64x1024 .f32 := k0_pay3 (F := Ideal) A.f A.lb
def qs : Vec Ideal S64x1024 .f32 := k0_pay9 (F := Ideal) A.q
def ks : Vec Ideal S64x1024 .f32 := k0_pay10 (F := Ideal) (forget A)
def qg : Vec Ideal S64x1024 .f32 := k0_pay18 (F := Ideal) (qs A) (k0_pay11 (F := Ideal) (logs A))
def qd : Vec Ideal S64x1024 .f32 := k0_pay19 (F := Ideal) (qs A)
  (k0_pay12 (F := Ideal) (logs A) rowIds (A.row 1) (A.row 2) (k0_pay6 (F := Ideal)) k0_pay7 (k0_pay8 (F := Ideal) (A.row 0)))
def kd0 : Vec Ideal S64x1024 .f32 := k0_pay20 (F := Ideal) (ks A) (k0_pay13 (F := Ideal) (logs A) rowIds (k0_pay5 (F := Ideal)))
def kd1 : Vec Ideal S64x1024 .f32 := k0_pay21 (F := Ideal) (ks A) (k0_pay14 (F := Ideal) (logs A) rowIds (A.row 0))
def kd2 : Vec Ideal S64x1024 .f32 := k0_pay22 (F := Ideal) (ks A) (k0_pay15 (F := Ideal) (logs A) rowIds (A.row 1))
def kd3 : Vec Ideal S64x1024 .f32 := k0_pay23 (F := Ideal) (ks A) (k0_pay16 (F := Ideal) (logs A) rowIds (A.row 2))
def kdec : Vec Ideal S64x1024 .f32 := k0_pay24 (F := Ideal) (ks A) (k0_pay17 (F := Ideal) (logs A) (A.row 3))
def egend : Vec Ideal S1x1024 .f32 := k0_pay25 (F := Ideal) (A.row 3)
def gate : Vec Ideal S64x1024 .f32 := k0_pay26 (F := Ideal) A.gain A.hg
def mask : IVec S64x256 1 := k0_pay29 (iota .tc S64x256 32 [0] iota_S64x256_d0_w32) (iota .tc S64x256 32 [1] iota_S64x256_d1_w32)
  k0_pay27 64#32 k0_pay28 0#32

theorem sliceAt {n : ℕ} (hd : Fin 8) : (⟨2, ![n, 1024]⟩ : Shape).Slices ![0, hd.val * 128] ⟨2, ![n, 128]⟩ :=
  ⟨rfl, fun a => by
    fin_cases a
    · show 0 + n ≤ n
      omega
    · show hd.val * 128 + 128 ≤ 1024
      omega⟩

/-- The columns of head `hd`. -/
def strip {n : ℕ} (x : (⟨2, ![n, 1024]⟩ : Shape).Idx → EReal) (hd : Fin 8) : (⟨2, ![n, 128]⟩ : Shape).Idx → EReal :=
  extractStridedSlice (⟨2, ![n, 128]⟩ : Shape) ![0, hd.val * 128] x (sliceAt hd)

variable (hd : Fin 8) (st : Vec Ideal S1x128x128 .f32)

def flat : Vec Ideal S128x128 .f32 := k0_pay30 (F := Ideal) st

def keysAll : Vec Ideal S256x128 .f32 := concatenate S256x128 0 [⟨S64x128, strip (kd0 A) hd⟩, ⟨S64x128, strip (kd1 A) hd⟩, ⟨S64x128, strip (kd2 A) hd⟩,
  ⟨S64x128, strip (kd3 A) hd⟩] concatenates_S64x128_S64x128_S64x128_S64x128_S256x128_d0
def valsAll : Vec Ideal S256x128 .f32 := concatenate S256x128 0 [⟨S64x128, strip A.v hd⟩, ⟨S64x128, strip A.v hd⟩, ⟨S64x128, strip A.v hd⟩,
  ⟨S64x128, strip A.v hd⟩] concatenates_S64x128_S64x128_S64x128_S64x128_S256x128_d0

def scores : Vec Ideal S64x256 .f32 :=
  select mask (matmul dot_S64x128_S256x128_S64x256_1_1_0_0_n_n none
    (truncf (F := Ideal) (φ := .f32) .bf16 (strip (qd A) hd) bitsLt_bf16_f32)
    (truncf (F := Ideal) (φ := .f32) .bf16 (keysAll A hd) bitsLt_bf16_f32)
    (constant (F := Ideal) S64x256 .f32 0x00000000#32)) (broadcast S64x256 (Scalar.ofBits (F := Ideal) .f32 0x00000000#32))

/-- The recurrence's output for a head before its norm. -/
def outs : Vec Ideal S64x128 .f32 :=
  addf (F := Ideal) (φ := .f32) (matmul dot_S64x128_S128x128_S64x128_1_1_0_0_n_n none
      (truncf (F := Ideal) (φ := .f32) .bf16 (strip (qg A) hd) bitsLt_bf16_f32) (truncf (F := Ideal) (φ := .f32) .bf16 (flat st) bitsLt_bf16_f32)
      (constant (F := Ideal) S64x128 .f32 0x00000000#32))
    (matmul dot_S64x256_S256x128_S64x128_1_0_0_1_n_n none (truncf (F := Ideal) (φ := .f32) .bf16 (scores A hd) bitsLt_bf16_f32)
      (truncf (F := Ideal) (φ := .f32) .bf16 (valsAll A hd) bitsLt_bf16_f32)
      (constant (F := Ideal) S64x128 .f32 0x00000000#32))

def scale (o : Vec Ideal S64x128 .f32) : Vec Ideal S64x1 .f32 :=
  rsqrt (F := Ideal) (φ := .f32) (addf (F := Ideal) (φ := .f32) (divf (F := Ideal) (φ := .f32)
    (shapeCast S64x1 (multiReduction (F := Ideal) (φ := .f32) .add [1] S64 (mulf (F := Ideal) (φ := .f32) o o) 0x00000000#32 reduces_S64x128_S64 (.inl rfl) rfl)
      shapeCasts_S64_S64x1)
    (broadcast S64x1 (Scalar.ofBits (F := Ideal) .f32 0x43000000#32)))
    (broadcast S64x1 (Scalar.ofBits (F := Ideal) .f32 0x358637BD#32)))

/-- What is stored of a head: its gated and normed output, its state before the chunk, and after. -/
def outOf : Vec Ideal S64x128 .bf16 :=
  truncf (F := Ideal) (φ := .f32) .bf16 (mulf (F := Ideal) (φ := .f32) (mulf (F := Ideal) (φ := .f32) (outs A hd st)
    (broadcastTo S64x128 (scale (outs A hd st)) broadcasts_S64x1_S64x128)) (strip (gate A) hd)) bitsLt_bf16_f32
def keptOf : Vec Ideal S1x1x1x128x128 .f32 := k0_pay31 (F := Ideal) (flat st)
def next : Vec Ideal S1x128x128 .f32 :=
  shapeCast S1x128x128 (addf (F := Ideal) (φ := .f32)
    (mulf (F := Ideal) (φ := .f32) (flat st) (broadcastTo S128x128 (strip (egend A) hd) broadcasts_S1x128_S128x128))
    (matmul dot_S64x128_S64x128_S128x128_0_0_1_1_n_n none (truncf (F := Ideal) (φ := .f32) .bf16 (strip A.v hd) bitsLt_bf16_f32)
      (truncf (F := Ideal) (φ := .f32) .bf16 (strip (kdec A) hd) bitsLt_bf16_f32) (constant (F := Ideal) S128x128 .f32 0x00000000#32)))
    shapeCasts_S128x128_S1x128x128

theorem outInb (k : Fin 8) : ∀ a, (![0, k.val * 128] : Fin 2 → ℕ) a + (![64, 128] : Fin 2 → ℕ) a ≤ S64x1024.size a := by
  intro a
  fin_cases a
  · exact Nat.le_refl 64
  · show k.val * 128 + 128 ≤ 1024
    omega

theorem keptInb (k : Fin 8) : ∀ a, (![0, 0, k.val, 0, 0] : Fin 5 → ℕ) a + (![1, 1, 1, 128, 128] : Fin 5 → ℕ) a ≤ S1x1x8x128x128.size a := by
  intro a
  fin_cases a
  · exact Nat.le_refl 1
  · exact Nat.le_refl 1
  · exact k.isLt
  · exact Nat.le_refl 128
  · exact Nat.le_refl 128

theorem stateInb (k : ℕ) (hk : k + 1 ≤ 8) : ∀ a, (![k, 0, 0] : Fin 3 → ℕ) a + (![1, 128, 128] : Fin 3 → ℕ) a ≤ S8x128x128.size a := by
  intro a
  fin_cases a
  · exact hk
  · exact Nat.le_refl 128
  · exact Nat.le_refl 128

theorem rowInb (i : Fin 4) : ∀ a, (![i.val * 16 + 15, 0] : Fin 2 → ℕ) a + (![1, 1024] : Fin 2 → ℕ) a ≤ S64x1024.size a := by
  intro a
  fin_cases a
  · show i.val * 16 + 15 + 1 ≤ 64
    omega
  · exact Nat.le_refl 1024

variable (m : (ℓ : Loc nD τ sig) → Buf (Elt Ideal) ℓ) (c : Dev nD) (t : Fin cfg0.N)

def loadWhole {κ : Kind} {M : Memref sig κ .vmem S64x1024 .f32} (hM : M.IsWhole) (x : Vec Ideal S64x1024 .f32) : Vec Ideal S64x1024 .f32 :=
  View.readAt (Elt Ideal) M.view (Rect.unit (s := S64x1024) ![0, 0] S64x1024.size inb_S64x1024_S64x1024_0_0).toLoadRect (hM.unread x)
def loadRow {κ : Kind} {M : Memref sig κ .vmem S1x1024 .f32} (hM : M.IsWhole) (x : Vec Ideal S1x1024 .f32) : Vec Ideal S1x1024 .f32 :=
  View.readAt (Elt Ideal) M.view (Rect.unit (s := S1x1024) ![0, 0] S1x1024.size inb_S1x1024_S1x1024_0_0).toLoadRect (hM.unread x)

/-- What point `t` loads besides the state. -/
def loads : Loads where
  q := loadWhole (hs0_0 t) (iblk m c 0 t)
  f := loadWhole (hs0_1 t) (iblk m c 1 t)
  v := loadWhole (hs0_2 t) (iblk m c 2 t)
  hg := loadWhole (hs0_3 t) (iblk m c 3 t)
  lb := loadRow (hs0_4 t) (iblk m c 4 t)
  gain := loadRow (hs0_5 t) (iblk m c 5 t)
  row i := scM0_1.view.readCov (Val := Elt Ideal) [⟨Rect.unit (s := S64x1024) ![0, 0] S64x1024.size inb_S64x1024_S64x1024_0_0,
      k0_pay4 (F := Ideal) (loadWhole (hs0_1 t) (iblk m c 1 t)) (loadRow (hs0_4 t) (iblk m c 4 t))⟩]
    (Rect.unit (s := S64x1024) ![i.val * 16 + 15, 0] ![1, 1024] (rowInb i)).toLoadRect

/-- The state a head finds at a point that carries it on. -/
def carriedState (xs : Vec Ideal S8x128x128 .f32) (k : Fin 8) : Vec Ideal S1x128x128 .f32 :=
  View.readAt (Elt Ideal) scM0_0.view (Rect.unit (s := S8x128x128) ![k.val, 0, 0] ![1, 128, 128] (stateInb k.val k.isLt)).toLoadRect
    ((Memref.isWhole_whole _ : scM0_0.IsWhole).unread xs)

/-- The stores to the state at a sequence's first point, the last first: it is cleared, then each head's is written over what is read back. -/
def resetPieces : (n : ℕ) → n ≤ 8 → List (View.Piece (Elt Ideal) S8x128x128 .f32)
  | 0, _ => [⟨Rect.unit (s := S8x128x128) ![0, 0, 0] S8x128x128.size inb_S8x128x128_S8x128x128_0_0_0, k0_pay1 (F := Ideal)⟩]
  | n + 1, h => ⟨Rect.unit (s := S8x128x128) ![n, 0, 0] ![1, 128, 128] (stateInb n h), next A ⟨n, h⟩
      (scM0_0.view.readCov (Val := Elt Ideal) (resetPieces n (by omega)) (Rect.unit (s := S8x128x128) ![n, 0, 0] ![1, 128, 128] (stateInb n h)).toLoadRect)⟩
      :: resetPieces n (by omega)

def resetState (k : Fin 8) : Vec Ideal S1x128x128 .f32 :=
  scM0_0.view.readCov (Val := Elt Ideal) (resetPieces A k.val (by omega)) (Rect.unit (s := S8x128x128) ![k.val, 0, 0] ![1, 128, 128] (stateInb k.val k.isLt)).toLoadRect

abbrev ranA (hc : cond0_0 (grid0.coords t)) := kernelRun0_A (F := Ideal) c (grid0.coords t) (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) scM0_0 (Memref.isWhole_whole _) scM0_1 (Memref.isWhole_whole _) hc
  (iblk m c 0 t) (iblk m c 1 t) (iblk m c 2 t) (iblk m c 3 t) (iblk m c 4 t) (iblk m c 5 t)

abbrev ranB (hc : ¬ cond0_0 (grid0.coords t)) (xs : Vec Ideal S8x128x128 .f32) := kernelRun0_B (F := Ideal) c (grid0.coords t) (ms0_0 t) (hs0_0 t) (ms0_1 t) (hs0_1 t) (ms0_2 t) (hs0_2 t) (ms0_3 t) (hs0_3 t)
  (ms0_4 t) (hs0_4 t) (ms0_5 t) (hs0_5 t) (ms0_6 t) (hs0_6 t) (ms0_7 t) (hs0_7 t) scM0_0 (Memref.isWhole_whole _) scM0_1 (Memref.isWhole_whole _) hc
  (iblk m c 0 t) (iblk m c 1 t) (iblk m c 2 t) (iblk m c 3 t) (iblk m c 4 t) (iblk m c 5 t) xs

def outPieces (S : Fin 8 → Vec Ideal S1x128x128 .f32) : List (View.Piece (Elt Ideal) S64x1024 .bf16) :=
  View.tilePieces (s := S64x1024) ![64, 128] (fun k => ![0, k.val * 128]) outInb (fun k => outOf A k (S k)) 8 (le_refl 8)
def keptPieces (S : Fin 8 → Vec Ideal S1x128x128 .f32) : List (View.Piece (Elt Ideal) S1x1x8x128x128 .f32) :=
  View.tilePieces (s := S1x1x8x128x128) ![1, 1, 1, 128, 128] (fun k => ![0, 0, k.val, 0, 0]) keptInb (fun k => keptOf (S k)) 8 (le_refl 8)
def statePieces (S : Fin 8 → Vec Ideal S1x128x128 .f32) : List (View.Piece (Elt Ideal) S8x128x128 .f32) :=
  View.tilePieces (s := S8x128x128) ![1, 128, 128] (fun k => ![k.val, 0, 0]) (fun k => stateInb k.val k.isLt) (fun k => next A k (S k)) 8 (le_refl 8)

theorem carried_outs (hc) (xs) : (ranB m c t hc xs).1 = outPieces (loads m c t) (carriedState xs) := by sl_kernel_rfl
theorem carried_kept (hc) (xs) : (ranB m c t hc xs).2.1 = keptPieces (carriedState xs) := by sl_kernel_rfl
theorem carried_state (hc) (xs) : (ranB m c t hc xs).2.2.1 = statePieces (loads m c t) (carriedState xs) := by sl_kernel_rfl
theorem reset_outs (hc) : (ranA m c t hc).1 = outPieces (loads m c t) (resetState (loads m c t)) := by sl_kernel_rfl
theorem reset_kept (hc) : (ranA m c t hc).2.1 = keptPieces (resetState (loads m c t)) := by sl_kernel_rfl
theorem reset_state (hc) : (ranA m c t hc).2.2.1 = resetPieces (loads m c t) 8 (le_refl 8) := by sl_kernel_rfl

end Cert.Hgrn
end
-- ==== Proof.HgrnMask.lean ====
/- The mask of the recurrence's forward kernel: which of four copies of 64 columns counts for a row, and up to where. -/
module

public import proofs.«01_k».proof.Proof.HgrnHead

@[expose] public section

set_option maxRecDepth 16384

noncomputable section

namespace Cert.Hgrn

open Cert.Kernel7Ideal Cert.Kernel7Ideal.Gen Idealize.ShloMosaic Idealize.ShloMosaic.TcCoe Idealize.SL.Sem

/-- A number divided by a positive one, rounded down, as the kernel writes it. -/
def floorDiv (a b : BitVec 32) : BitVec 32 :=
  Scalar.select
    (IntOp.andi
      (IntOp.cmpi .ne
        (IntOp.subi (BitVec.setWidth 32 (IntOp.cmpi .sgt a 0#32)) (BitVec.setWidth 32 (IntOp.cmpi .slt a 0#32)))
        (Scalar.subi (Scalar.extui (Scalar.cmpi .sgt b 0#32)) (Scalar.extui (Scalar.cmpi .slt b 0#32))))
      (IntOp.cmpi .ne (IntOp.remsi .vector a b) 0#32))
    (IntOp.subi (IntOp.divsi .vector a b) 1#32)
    (IntOp.divsi .vector a b)

/-- The rest of a division by 64, as the kernel writes it. -/
def floorMod (a b : BitVec 32) : BitVec 32 :=
  Scalar.select
    (IntOp.andi (IntOp.xori (IntOp.cmpi .slt (IntOp.remsi .vector a b) 0#32) (Scalar.cmpi .slt b 0#32))
      (IntOp.cmpi .ne (IntOp.remsi .vector a b) 0#32))
    (IntOp.addi (IntOp.remsi .vector a b) b) (IntOp.remsi .vector a b)

theorem row_part (t : Fin 64) : floorDiv (BitVec.ofNat 32 t.val) 16#32 = BitVec.ofNat 32 (t.val / 16) :=
  (by decide +kernel : ∀ t : Fin 64, floorDiv (BitVec.ofNat 32 t.val) 16#32 = BitVec.ofNat 32 (t.val / 16)) t
theorem copy_part (c : Fin 256) : floorDiv (BitVec.ofNat 32 c.val) 64#32 = BitVec.ofNat 32 (c.val / 64) :=
  (by decide +kernel : ∀ c : Fin 256, floorDiv (BitVec.ofNat 32 c.val) 64#32 = BitVec.ofNat 32 (c.val / 64)) c
theorem place_part (c : Fin 256) : floorMod (BitVec.ofNat 32 c.val) (Scalar.select (Scalar.cmpi .eq 64#32 0#32) 1#32 64#32) = BitVec.ofNat 32 (c.val % 64) :=
  (by decide +kernel : ∀ c : Fin 256, floorMod (BitVec.ofNat 32 c.val) (Scalar.select (Scalar.cmpi .eq 64#32 0#32) 1#32 64#32) = BitVec.ofNat 32 (c.val % 64)) c
theorem same_part (a b : Fin 4) : IntOp.cmpi .eq (BitVec.ofNat 32 a.val) (BitVec.ofNat 32 b.val) = BitVec.ofBool (decide (a.val = b.val)) :=
  (by decide +kernel : ∀ a b : Fin 4, IntOp.cmpi .eq (BitVec.ofNat 32 a.val) (BitVec.ofNat 32 b.val) = BitVec.ofBool (decide (a.val = b.val))) a b
theorem place_le (s t : Fin 64) : IntOp.cmpi .sle (BitVec.ofNat 32 s.val) (BitVec.ofNat 32 t.val) = BitVec.ofBool (decide (s.val ≤ t.val)) :=
  (by decide +kernel : ∀ s t : Fin 64, IntOp.cmpi .sle (BitVec.ofNat 32 s.val) (BitVec.ofNat 32 t.val) = BitVec.ofBool (decide (s.val ≤ t.val))) s t

theorem mask_apply (t : Fin 64) (c : Fin 256) : mask (ix2 t c) = BitVec.ofBool (decide (t.val / 16 = c.val / 64 ∧ c.val % 64 ≤ t.val)) := by
  unfold mask k0_pay29 k0_pay27 k0_pay28
  pointwise
  have e := congrArg₂ IntOp.andi
    (congrArg₂ (IntOp.cmpi .eq) (row_part t) (copy_part c))
    (congrArg (fun x => IntOp.cmpi .sle x (BitVec.ofNat 32 t.val)) (place_part c))
  refine e.trans ?_
  refine (congrArg₂ IntOp.andi (same_part ⟨t.val / 16, by omega⟩ ⟨c.val / 64, by omega⟩) (place_le ⟨c.val % 64, by omega⟩ t)).trans ?_
  rw [Bool.decide_and]
  cases decide (t.val / 16 = c.val / 64) <;> cases decide (c.val % 64 ≤ t.val) <;> rfl

end Cert.Hgrn
end
-- ==== Proof.HgrnSpec.lean ====
/- The gated linear recurrence over one chunk of 64 rows of one head, and the weights the kernel splits at every 16th row. -/
module

public import Idealize.ShloMosaic.Lib.Pointwise

@[expose] public section

set_option maxRecDepth 16384

noncomputable section

namespace Cert.Hgrn

open Idealize.ShloMosaic

/-- A chunk of a head: queries, keys, values, and the sums of the forget gates' logarithms. -/
structure Chunk where
  q : Fin 64 → Fin 128 → EReal
  k : Fin 64 → Fin 128 → EReal
  v : Fin 64 → Fin 128 → EReal
  g : Fin 64 → Fin 128 → EReal

namespace Chunk

variable (w : Chunk) (S : Fin 128 → Fin 128 → EReal)

/-- The weight of row `s`'s value in row `t`'s output. -/
def attn (t s : Fin 64) : EReal := if s.val ≤ t.val then ∑ d, w.q t d * w.k s d * Ideal.exp (w.g t d - w.g s d) else 0
/-- Row `t`'s output, from the state before the chunk. -/
def out (t : Fin 64) (e : Fin 128) : EReal := (∑ d, w.q t d * Ideal.exp (w.g t d) * S d e) + ∑ s, w.attn t s * w.v s e
/-- The state after the chunk. -/
def next (d e : Fin 128) : EReal := Ideal.exp (w.g 63 d) * S d e + ∑ s, w.k s d * Ideal.exp (w.g 63 d - w.g s d) * w.v s e

end Chunk

/-- The norm's factor of a row. -/
def rms (o : Fin 128 → EReal) : EReal :=
  Ideal.rsqrt (Ideal.div (∑ e, o e * o e) (Ideal.ofBits .f32 0x43000000#32) + Ideal.ofBits .f32 0x358637BD#32)

/-- Two exponentials that meet at a reference row multiply to the weight between the two rows. -/
theorem split_weight (q k : EReal) (a b r : ℝ) :
    q * Ideal.exp ((a : EReal) - (r : EReal)) * (k * Ideal.exp ((r : EReal) - (b : EReal))) = q * k * Ideal.exp ((a : EReal) - (b : EReal)) := by
  rw [← EReal.coe_sub, ← EReal.coe_sub, ← EReal.coe_sub, Ideal.exp_coe, Ideal.exp_coe, Ideal.exp_coe, mul_mul_mul_comm, ← EReal.coe_mul, ← Real.exp_add]
  congr 3
  ring_nf

/-- A sum over four copies of 64 columns of which one counts. -/
theorem sum_copies (f : Fin 256 → EReal) (i : Fin 4) (h : ∀ (i' : Fin 4) (s : Fin 64), i' ≠ i → f ⟨i'.val * 64 + s.val, by omega⟩ = 0) :
    ∑ c : Fin 256, f c = ∑ s : Fin 64, f ⟨i.val * 64 + s.val, by omega⟩ := by
  have e : ∑ c : Fin 256, f c = ∑ i : Fin 4, ∑ s : Fin 64, f ⟨i.val * 64 + s.val, by omega⟩ := by
    rw [← Fintype.sum_prod_type']
    refine (Fintype.sum_equiv (finProdFinEquiv (m := 4) (n := 64)) _ _ fun p => congrArg f (Fin.ext ?_)).symm
    show p.1.val * 64 + p.2.val = p.2.val + 64 * p.1.val
    omega
  rw [e]
  exact Finset.sum_eq_single i (fun i' _ hi => Finset.sum_eq_zero fun s _ => h i' s hi) fun hn => absurd (Finset.mem_univ _) hn

end Cert.Hgrn
end
-- ==== Proof.HgrnRow.lean ====
/- What the recurrence's forward kernel stores of a head, element by element. -/
module

public import proofs.«01_k».proof.Proof.HgrnMask
public import proofs.«01_k».proof.Proof.HgrnSpec

@[expose] public section

set_option maxRecDepth 16384

noncomputable section

namespace Cert.Hgrn

open Cert.Kernel7Ideal Cert.Kernel7Ideal.Gen Idealize.ShloMosaic Idealize.ShloMosaic.TcCoe Idealize.SL.Sem

variable (A : Loads) (hd : Fin 8)

abbrev col (hd : Fin 8) (d : Fin 128) : Fin 1024 := ⟨hd.val * 128 + d.val, by omega⟩

theorem strip_apply {n : ℕ} (x : (⟨2, ![n, 1024]⟩ : Shape).Idx → EReal) (r : Fin n) (d : Fin 128) :
    strip x hd (ix2 r d) = x (ix2 r (col hd d)) := by
  unfold strip
  pointwise
  refine congrArg x (funext fun a => Fin.ext ?_)
  match a with
  | ⟨0, _⟩ => exact Nat.zero_add _
  | ⟨1, _⟩ => rfl

/-- The forget gate, and the sums of its logarithms. -/
def fgate (lb f : EReal) : EReal := lb + (1 - lb) * Ideal.logistic f
def sumLog (lb : EReal) (f : Fin 64 → EReal) (t : Fin 64) : EReal := ∑ s : Fin 64, if s.val ≤ t.val then Ideal.log (fgate lb (f s)) else 0

theorem forget_apply (r : Fin 64) (j : Fin 1024) : forget A (ix2 r j) = fgate (A.lb (ix2 0 j)) (A.f (ix2 r j)) := by
  unfold forget k0_pay2
  pointwise
  rfl

theorem below (t s : Fin 64) : (FloatOps.sitofp (F := Ideal) .f32 (BitVec.setWidth 32 (IntOp.cmpi .sge (BitVec.ofNat 32 t.val) (BitVec.ofNat 32 s.val))) : EReal)
    = if s.val ≤ t.val then 1 else 0 := by
  rw [(by decide +kernel : ∀ t s : Fin 64, BitVec.setWidth 32 (IntOp.cmpi .sge (BitVec.ofNat 32 t.val) (BitVec.ofNat 32 s.val)) = if s.val ≤ t.val then 1#32 else 0#32) t s]
  split
  · show (((1#32).toInt : ℝ) : EReal) = 1
    norm_num
  · show (((0#32).toInt : ℝ) : EReal) = 0
    norm_num

theorem logs_apply (t : Fin 64) (j : Fin 1024) : logs A (ix2 t j) = sumLog (A.lb (ix2 0 j)) (fun s => A.f (ix2 s j)) t := by
  unfold logs k0_pay3
  pointwise
  refine Finset.sum_congr rfl fun s _ => ?_
  rw [below]
  split
  · rw [one_mul]
    exact congrArg Ideal.log (forget_apply A s j)
  · rw [zero_mul]

theorem gate_apply (t : Fin 64) (j : Fin 1024) : gate A (ix2 t j) = A.gain (ix2 0 j) * (A.hg (ix2 t j) * Ideal.logistic (A.hg (ix2 t j))) := by
  unfold gate k0_pay26
  pointwise

theorem kdec_apply (t : Fin 64) (j : Fin 1024) : kdec A (ix2 t j) = ks A (ix2 t j) * Ideal.exp (A.row 3 (ix2 0 j) - logs A (ix2 t j)) := by
  unfold kdec k0_pay24 k0_pay17
  pointwise

theorem ks_apply (t : Fin 64) (j : Fin 1024) : ks A (ix2 t j) = 1 - fgate (A.lb (ix2 0 j)) (A.f (ix2 t j)) := by
  unfold ks k0_pay10
  pointwise
  rw [forget_apply]

theorem qs_apply (t : Fin 64) (j : Fin 1024) : qs A (ix2 t j) = A.q (ix2 t j) * Ideal.logistic (A.q (ix2 t j)) := by
  unfold qs k0_pay9
  pointwise

theorem qg_apply (t : Fin 64) (j : Fin 1024) : qg A (ix2 t j) = qs A (ix2 t j) * Ideal.exp (logs A (ix2 t j)) := by
  unfold qg k0_pay18 k0_pay11
  pointwise

/-- The reference row of the sixteen rows numbered `i`: the last row before them, and 0 for the first. -/
def before (A : Loads) (i : Fin 4) (j : Fin 1024) : EReal := if h : i.val = 0 then 0 else A.row ⟨i.val - 1, by omega⟩ (ix2 0 j)

theorem at_least (t : Fin 64) (i : Fin 4) : IntOp.cmpi .sge (BitVec.ofNat 32 t.val) (BitVec.ofNat 32 (16 * i.val)) = BitVec.ofBool (decide (16 * i.val ≤ t.val)) :=
  (by decide +kernel : ∀ (t : Fin 64) (i : Fin 4), IntOp.cmpi .sge (BitVec.ofNat 32 t.val) (BitVec.ofNat 32 (16 * i.val)) = BitVec.ofBool (decide (16 * i.val ≤ t.val))) t i
theorem less_than (t : Fin 64) (i : Fin 4) : IntOp.cmpi .slt (BitVec.ofNat 32 t.val) (BitVec.ofNat 32 (16 * (i.val + 1))) = BitVec.ofBool (decide (t.val < 16 * (i.val + 1))) :=
  (by decide +kernel : ∀ (t : Fin 64) (i : Fin 4), IntOp.cmpi .slt (BitVec.ofNat 32 t.val) (BitVec.ofNat 32 (16 * (i.val + 1))) = BitVec.ofBool (decide (t.val < 16 * (i.val + 1)))) t i

theorem select_ofBool {α : Type} (p : Prop) [Decidable p] (x y : α) : Scalar.select (BitVec.ofBool (decide p)) x y = if p then x else y := by
  by_cases h : p
  · rw [if_pos h, decide_eq_true h]
    rfl
  · rw [if_neg h, decide_eq_false h]
    rfl

theorem qd_apply (t : Fin 64) (j : Fin 1024) :
    qd A (ix2 t j) = qs A (ix2 t j) * Ideal.exp (logs A (ix2 t j) - before A ⟨t.val / 16, by omega⟩ j) := by
  unfold qd k0_pay19 k0_pay12 k0_pay8 k0_pay7 k0_pay6 rowIds
  pointwise
  refine congrArg (fun x => qs A (ix2 t j) * Ideal.exp (logs A (ix2 t j) - x)) ?_
  have e1 := at_least t 1
  have e2 := at_least t 2
  have e3 := at_least t 3
  simp only [Fin.isValue, Fin.val_one, Fin.val_two, mul_one, show ((3 : Fin 4).val) = 3 from rfl, show (16 * 2 : ℕ) = 32 from rfl, show (16 * 3 : ℕ) = 48 from rfl] at e1 e2 e3
  rw [e1, e2, e3, select_ofBool, select_ofBool, select_ofBool]
  have ht := t.isLt
  unfold before
  split
  · rw [dif_neg (by show ¬ t.val / 16 = 0; omega)]
    exact congrArg (fun i => A.row i (ix2 0 j)) (Fin.ext (by show 2 = t.val / 16 - 1; omega))
  · split
    · rw [dif_neg (by show ¬ t.val / 16 = 0; omega)]
      exact congrArg (fun i => A.row i (ix2 0 j)) (Fin.ext (by show 1 = t.val / 16 - 1; omega))
    · split
      · rw [dif_neg (by show ¬ t.val / 16 = 0; omega)]
        exact congrArg (fun i => A.row i (ix2 0 j)) (Fin.ext (by show 0 = t.val / 16 - 1; omega))
      · rw [dif_pos (by show t.val / 16 = 0; omega)]

/-- The keys scaled for the rows numbered `i`. -/
def kd (A : Loads) : Fin 4 → Vec Ideal S64x1024 .f32 := ![kd0 A, kd1 A, kd2 A, kd3 A]

theorem kd_apply (i : Fin 4) (s : Fin 64) (j : Fin 1024) :
    kd A i (ix2 s j) = ks A (ix2 s j) * Ideal.exp (if s.val < 16 * (i.val + 1) then before A i j - logs A (ix2 s j) else 0) := by
  rw [← select_ofBool (s.val < 16 * (i.val + 1)), ← less_than]
  match i with
  | 0 =>
    show kd0 A _ = _
    unfold kd0 k0_pay20 k0_pay13 rowIds k0_pay5
    pointwise
    rfl
  | 1 =>
    show kd1 A _ = _
    unfold kd1 k0_pay21 k0_pay14 rowIds
    pointwise
    rfl
  | 2 =>
    show kd2 A _ = _
    unfold kd2 k0_pay22 k0_pay15 rowIds
    pointwise
    rfl
  | 3 =>
    show kd3 A _ = _
    unfold kd3 k0_pay23 k0_pay16 rowIds
    pointwise
    rfl

theorem copy_lt (i : Fin 4) (s : Fin 64) : i.val * 64 + s.val < 256 := by omega

/-- Four arrays of 64 rows stacked, at an element. -/
theorem four_apply (a : Fin 4 → S64x128.Idx → EReal) (hc) (i : Fin 4) (s : Fin 64) (d : Fin 128) :
    concatenate S256x128 0 [⟨S64x128, a 0⟩, ⟨S64x128, a 1⟩, ⟨S64x128, a 2⟩, ⟨S64x128, a 3⟩] hc (ix2 ⟨i.val * 64 + s.val, copy_lt i s⟩ d) = a i (ix2 s d) := by
  refine concatenate_ofFn_apply (t := S256x128) (s₁ := S64x128) 0 a hc rfl 64 rfl _ i ?_ (ix2 s d) ?_ ?_
  · show (i.val * 64 + s.val) / 64 = i.val
    omega
  · show s.val = (i.val * 64 + s.val) % 64
    omega
  · intro b hb
    fin_cases b
    · exact absurd rfl hb
    · rfl

theorem keysAll_apply (i : Fin 4) (s : Fin 64) (d : Fin 128) : keysAll A hd (ix2 ⟨i.val * 64 + s.val, copy_lt i s⟩ d) = kd A i (ix2 s (col hd d)) := by
  refine (four_apply (fun i => strip (kd A i) hd) _ i s d).trans ?_
  exact strip_apply hd _ s d

theorem valsAll_apply (i : Fin 4) (s : Fin 64) (d : Fin 128) : valsAll A hd (ix2 ⟨i.val * 64 + s.val, copy_lt i s⟩ d) = A.v (ix2 s (col hd d)) := by
  refine (four_apply (fun i => strip A.v hd) _ i s d).trans ?_
  exact strip_apply hd _ s d

theorem scores_apply (t : Fin 64) (i : Fin 4) (s : Fin 64) : scores A hd (ix2 t ⟨i.val * 64 + s.val, copy_lt i s⟩)
    = if t.val / 16 = i.val ∧ s.val ≤ t.val then ∑ d, qd A (ix2 t (col hd d)) * kd A i (ix2 s (col hd d)) else 0 := by
  unfold scores
  pointwise
  simp only [keysAll_apply, strip_apply]
  rw [mask_apply, select_ofBool]
  have e1 : (i.val * 64 + s.val) / 64 = i.val := by omega
  have e2 : (i.val * 64 + s.val) % 64 = s.val := by omega
  simp only [e1, e2]

/-- The chunk a head sees. -/
def chunk (A : Loads) (hd : Fin 8) : Chunk where
  q t d := qs A (ix2 t (col hd d))
  k t d := ks A (ix2 t (col hd d))
  v t d := A.v (ix2 t (col hd d))
  g t d := logs A (ix2 t (col hd d))

/-- The rows read back are the sums' rows, and the sums are numbers. -/
structure Proper (A : Loads) : Prop where
  row : ∀ (i : Fin 4) (j : Fin 1024), A.row i (ix2 0 j) = logs A (ix2 ⟨i.val * 16 + 15, by omega⟩ j)
  real : ∀ (t : Fin 64) (j : Fin 1024), ∃ r : ℝ, logs A (ix2 t j) = (r : EReal)

variable {A} (hA : Proper A)
include hA

theorem before_real (i : Fin 4) (j : Fin 1024) : ∃ r : ℝ, before A i j = (r : EReal) := by
  unfold before
  split
  · exact ⟨0, rfl⟩
  · rw [hA.row]
    exact hA.real _ _

/-- The product of a row's scaled queries and keys is the recurrence's weight. -/
theorem weight_eq (t s : Fin 64) (h : s.val ≤ t.val) :
    (∑ d, qd A (ix2 t (col hd d)) * kd A ⟨t.val / 16, by omega⟩ (ix2 s (col hd d))) = (chunk A hd).attn t s := by
  unfold Chunk.attn
  rw [if_pos h]
  refine Finset.sum_congr rfl fun d _ => ?_
  rw [qd_apply, kd_apply, if_pos (by show s.val < 16 * (t.val / 16 + 1); omega)]
  obtain ⟨a, ha⟩ := hA.real t (col hd d)
  obtain ⟨b, hb⟩ := hA.real s (col hd d)
  obtain ⟨r, hr⟩ := before_real hA ⟨t.val / 16, by omega⟩ (col hd d)
  show _ = qs A _ * ks A _ * Ideal.exp (logs A _ - logs A _)
  rw [ha, hb, hr]
  exact split_weight _ _ a b r

theorem outs_apply (st) (t : Fin 64) (e : Fin 128) : outs A hd st (ix2 t e) = (chunk A hd).out (fun d e => st (ix3 0 e d)) t e := by
  unfold outs flat k0_pay30
  pointwise
  refine congrArg₂ (· + ·) (Finset.sum_congr rfl fun d _ => ?_) ?_
  · rw [strip_apply, qg_apply]
    rfl
  · rw [sum_copies _ ⟨t.val / 16, by omega⟩ (fun i s hi => by
      rw [scores_apply, if_neg (fun h => hi (Fin.ext h.1.symm)), zero_mul])]
    refine Finset.sum_congr rfl fun s _ => ?_
    rw [valsAll_apply, scores_apply]
    by_cases h : s.val ≤ t.val
    · rw [if_pos ⟨rfl, h⟩, weight_eq hd hA t s h]
      rfl
    · rw [if_neg (fun h' => h h'.2)]
      unfold Chunk.attn
      rw [if_neg h]
      rfl
omit hA

variable (A)
theorem outOf_apply (st) (t : Fin 64) (e : Fin 128) :
    outOf A hd st (ix2 t e) = outs A hd st (ix2 t e) * rms (fun e => outs A hd st (ix2 t e)) * gate A (ix2 t (col hd e)) := by
  unfold outOf scale
  pointwise
  rw [strip_apply]
  rfl

theorem next_apply (st) (d e : Fin 128) : next A hd st (ix3 0 e d)
    = st (ix3 0 e d) * egend A (ix2 0 (col hd d)) + ∑ s, A.v (ix2 s (col hd e)) * kdec A (ix2 s (col hd d)) := by
  unfold next flat k0_pay30
  pointwise
  simp only [strip_apply]

theorem egend_apply (j : Fin 1024) : egend A (ix2 0 j) = Ideal.exp (A.row 3 (ix2 0 j)) := by
  unfold egend k0_pay25
  pointwise

theorem next_eq {A : Loads} (hA : Proper A) (st) (d e : Fin 128) : next A hd st (ix3 0 e d) = (chunk A hd).next (fun d e => st (ix3 0 e d)) d e := by
  rw [next_apply, egend_apply, hA.row, mul_comm]
  refine congrArg₂ (· + ·) rfl (Finset.sum_congr rfl fun s _ => ?_)
  rw [kdec_apply, hA.row, mul_comm]
  rfl

theorem kept_apply (st) (e d : Fin 128) : keptOf st (ix5 0 0 0 e d) = st (ix3 0 e d) := by
  unfold keptOf flat k0_pay30 k0_pay31
  pointwise

end Cert.Hgrn
end
-- ==== Proof.HgrnRead.lean ====
/- What the recurrence's forward kernel reads back of its two scratch buffers. -/
module

public import proofs.«01_k».proof.Proof.HgrnRow
public import Idealize.ShloMosaic.Lib.VecWindow

@[expose] public section

set_option maxRecDepth 16384

noncomputable section

namespace Cert.Hgrn

open Cert.Kernel7Ideal Cert.Kernel7Ideal.Gen Idealize.ShloMosaic Idealize.ShloMosaic.TcCoe Idealize.SL.Sem

theorem origin2 : (![0, 0] : Fin 2 → ℕ) = fun _ => 0 := funext fun a => by fin_cases a <;> rfl

theorem loadWhole_eq {κ : Kind} {M : Memref sig κ .vmem S64x1024 .f32} (hM : M.IsWhole) (x : Vec Ideal S64x1024 .f32) : loadWhole hM x = x := by
  unfold loadWhole
  rw [View.readAt_eq_ld, hM.read_unread, View.ld_unit_zero (S := S64x1024) origin2]
theorem loadRow_eq {κ : Kind} {M : Memref sig κ .vmem S1x1024 .f32} (hM : M.IsWhole) (x : Vec Ideal S1x1024 .f32) : loadRow hM x = x := by
  unfold loadRow
  rw [View.readAt_eq_ld, hM.read_unread, View.ld_unit_zero (S := S1x1024) origin2]

/-! ## The rows of the sums -/

variable (m : (ℓ : Loc nD τ sig) → Buf (Elt Ideal) ℓ) (c : Dev nD) (t : Fin cfg0.N)

theorem stored_sums (x : Vec Ideal S64x1024 .f32) (y : Vec Ideal S1x1024 .f32) : k0_pay4 (F := Ideal) x y = k0_pay3 (F := Ideal) x y := by
  unfold k0_pay4
  exact shapeCast_self _ _

theorem row_of (w : Vec Ideal S64x1024 .f32) (i : Fin 4) (j : Fin 1024) :
    scM0_1.view.readCov (Val := Elt Ideal) [⟨Rect.unit (s := S64x1024) ![0, 0] S64x1024.size inb_S64x1024_S64x1024_0_0, w⟩]
      (Rect.unit (s := S64x1024) ![i.val * 16 + 15, 0] ![1, 1024] (rowInb i)).toLoadRect (ix2 0 j) = w (ix2 ⟨i.val * 16 + 15, by omega⟩ j) := by
  unfold View.readCov
  rw [View.readAt_eq_ld]
  refine (View.ld_unit_apply_of _ _ _ _ _ (ix2 (⟨i.val * 16 + 15, by omega⟩ : Fin 64) j) fun a => ?_).trans ?_
  · match a with
    | ⟨0, _⟩ => rfl
    | ⟨1, _⟩ => exact (Nat.zero_add _).symm
  · exact congrFun (View.read_writes_full (s := S64x1024) (Val := Elt Ideal) scM0_1.view _ inb_S64x1024_S64x1024_0_0 w []) _

theorem row_read (i : Fin 4) (j : Fin 1024) : (loads m c t).row i (ix2 0 j) = logs (loads m c t) (ix2 ⟨i.val * 16 + 15, by omega⟩ j) := by
  unfold logs loads
  dsimp only
  rw [row_of, stored_sums]

/-! ## The states -/

theorem carried_read (xs : Vec Ideal S8x128x128 .f32) (k : Fin 8) (e d : Fin 128) : carriedState xs k (ix3 0 e d) = xs (ix3 k e d) := by
  unfold carriedState
  rw [View.readAt_eq_ld, (Memref.isWhole_whole _ : scM0_0.IsWhole).read_unread]
  refine View.ld_unit_apply_of _ _ _ _ _ (ix3 k e d) fun a => ?_
  match a with
  | ⟨0, _⟩ => rfl
  | ⟨1, _⟩ => exact (Nat.zero_add _).symm
  | ⟨2, _⟩ => exact (Nat.zero_add _).symm

variable (A : Loads)

/-- After `n` heads: their states are new, the others still clear. -/
theorem reset_read (k : Fin 8) (e d : Fin 128) : (n : ℕ) → (h : n ≤ 8) →
    scM0_0.view.read (Elt Ideal) (scM0_0.view.writes (Elt Ideal) scM0_0.view.junk (resetPieces A n h)) (ix3 k e d)
      = if k.val < n then next A k (resetState A k) (ix3 0 e d) else 0
  | 0, h => by
    rw [if_neg (Nat.not_lt_zero _)]
    unfold resetPieces
    refine (View.read_writes_cons_unit_of_mem _ _ _ _ _ _ (ix3 k e d) rfl fun a => ?_).trans ?_
    · match a with
      | ⟨0, _⟩ => exact (Nat.zero_add _).symm
      | ⟨1, _⟩ => exact (Nat.zero_add _).symm
      | ⟨2, _⟩ => exact (Nat.zero_add _).symm
    · unfold k0_pay1
      pointwise
  | n + 1, h => by
    by_cases hk : k.val = n
    · obtain rfl : k = ⟨n, h⟩ := Fin.ext hk
      rw [if_pos (Nat.lt_succ_self n)]
      unfold resetPieces
      refine (View.read_writes_cons_unit_of_mem _ _ _ _ _ _ (ix3 (0 : Fin 1) e d) rfl fun a => ?_).trans ?_
      · match a with
        | ⟨0, _⟩ => rfl
        | ⟨1, _⟩ => exact (Nat.zero_add _).symm
        | ⟨2, _⟩ => exact (Nat.zero_add _).symm
      · unfold resetState
        rfl
    · unfold resetPieces
      refine (View.read_writes_cons_unit_of_not_mem _ _ _ _ _ _ rfl 0 ?_).trans ?_
      · show k.val < n ∨ n + 1 ≤ k.val
        omega
      · rw [reset_read k e d n (by omega)]
        by_cases hn : k.val < n
        · rw [if_pos hn, if_pos (by omega)]
        · rw [if_neg hn, if_neg (by omega)]

theorem resetState_read (k : Fin 8) (e d : Fin 128) : resetState A k (ix3 0 e d) = 0 := by
  unfold resetState View.readCov
  rw [View.readAt_eq_ld]
  refine (View.ld_unit_apply_of _ _ _ _ _ (ix3 k e d) fun a => ?_).trans ?_
  · match a with
    | ⟨0, _⟩ => rfl
    | ⟨1, _⟩ => exact (Nat.zero_add _).symm
    | ⟨2, _⟩ => exact (Nat.zero_add _).symm
  · rw [reset_read, if_neg (Nat.lt_irrefl _)]

/-! ## The stores of a point, read back -/

theorem outs_hit {v : View sig .tc .vmem S64x1024 .bf16} (f : v.ty.Contents (Elt Ideal)) (S : Fin 8 → Vec Ideal S1x128x128 .f32)
    (k : Fin 8) (r : Fin 64) (e : Fin 128) :
    v.read (Elt Ideal) (v.writes (Elt Ideal) f (outPieces A S)) (ix2 r (col k e)) = outOf A k (S k) (ix2 r e) := by
  unfold outPieces
  refine View.read_tilePieces v _ _ _ _ (fun k => outOf A k (S k)) 8 _ _ k k.isLt (ix2 r e) (fun a => ?_) 1 (fun i hi => ?_)
  · match a with
    | ⟨0, _⟩ => exact (Nat.zero_add _).symm
    | ⟨1, _⟩ => rfl
  · show k.val * 128 + e.val < i.val * 128 ∨ i.val * 128 + 128 ≤ k.val * 128 + e.val
    have : i.val ≠ k.val := fun e => hi (Fin.ext e)
    have := e.isLt
    omega

theorem kept_hit {v : View sig .tc .vmem S1x1x8x128x128 .f32} (f : v.ty.Contents (Elt Ideal)) (S : Fin 8 → Vec Ideal S1x128x128 .f32)
    (k : Fin 8) (e d : Fin 128) :
    v.read (Elt Ideal) (v.writes (Elt Ideal) f (keptPieces S)) (ix5 0 0 k e d) = S k (ix3 0 e d) := by
  unfold keptPieces
  refine (View.read_tilePieces v _ _ _ _ (fun k => keptOf (S k)) 8 _ _ k k.isLt (ix5 0 0 0 e d) (fun a => ?_) 2 (fun i hi => ?_)).trans (kept_apply _ _ _)
  · match a with
    | ⟨0, _⟩ => rfl
    | ⟨1, _⟩ => rfl
    | ⟨2, _⟩ => rfl
    | ⟨3, _⟩ => exact (Nat.zero_add _).symm
    | ⟨4, _⟩ => exact (Nat.zero_add _).symm
  · show k.val < i.val ∨ i.val + 1 ≤ k.val
    have : i.val ≠ k.val := fun e => hi (Fin.ext e)
    omega

theorem state_hit {v : View sig .tc .vmem S8x128x128 .f32} (f : v.ty.Contents (Elt Ideal)) (S : Fin 8 → Vec Ideal S1x128x128 .f32)
    (k : Fin 8) (e d : Fin 128) :
    v.read (Elt Ideal) (v.writes (Elt Ideal) f (statePieces A S)) (ix3 k e d) = next A k (S k) (ix3 0 e d) := by
  unfold statePieces
  refine View.read_tilePieces v _ _ _ _ (fun k => next A k (S k)) 8 _ _ k k.isLt (ix3 0 e d) (fun a => ?_) 0 (fun i hi => ?_)
  · match a with
    | ⟨0, _⟩ => rfl
    | ⟨1, _⟩ => exact (Nat.zero_add _).symm
    | ⟨2, _⟩ => exact (Nat.zero_add _).symm
  · show k.val < i.val ∨ i.val + 1 ≤ k.val
    have : i.val ≠ k.val := fun e => hi (Fin.ext e)
    omega

end Cert.Hgrn
end
-- ==== Proof.HgrnGoal.lean ====
/- What the recurrence's forward pass computes, as functions of its arguments' entries. -/
module

public import proofs.«01_k».proof.Proof.HgrnRow

@[expose] public section

set_option maxRecDepth 16384

noncomputable section

namespace Cert.Hgrn

open Idealize.ShloMosaic

/-- Token `t` of chunk `n` of sequence `b`. -/
abbrev tok (b : Fin 2) (n : Fin 32) (t : Fin 64) : Fin 4096 := ⟨(32 * b.val + n.val) * 64 + t.val, by omega⟩

variable (P : (⟨2, ![4096, 10752]⟩ : Shape).Idx → EReal) (L : (⟨2, ![1, 1024]⟩ : Shape).Idx → EReal) (G : (⟨3, ![1, 8, 128]⟩ : Shape).Idx → EReal)
  (b : Fin 2) (n : Fin 32) (k : Fin 8)

/-- The four parts of a token's projection that the recurrence reads. -/
def inQ (t : Fin 64) (j : Fin 1024) : EReal := P (ix2 (tok b n t) ⟨2560 + j.val, by omega⟩)
def inF (t : Fin 64) (j : Fin 1024) : EReal := P (ix2 (tok b n t) ⟨3584 + j.val, by omega⟩)
def inV (t : Fin 64) (j : Fin 1024) : EReal := P (ix2 (tok b n t) ⟨4608 + j.val, by omega⟩)
def inG (t : Fin 64) (j : Fin 1024) : EReal := P (ix2 (tok b n t) ⟨5632 + j.val, by omega⟩)

def chunkAt : Chunk where
  q t d := inQ P b n t (col k d) * Ideal.logistic (inQ P b n t (col k d))
  k t d := 1 - fgate (L (ix2 0 (col k d))) (inF P b n t (col k d))
  v t d := inV P b n t (col k d)
  g t d := sumLog (L (ix2 0 (col k d))) (fun s => inF P b n s (col k d)) t

/-- The state in front of chunk `n`. -/
def stateAt (w : Fin 32 → Chunk) : (n : ℕ) → n ≤ 32 → Fin 128 → Fin 128 → EReal
  | 0, _ => fun _ _ => 0
  | n + 1, h => (w ⟨n, h⟩).next (stateAt w n (by omega))

/-- The state of head `k` in front of chunk `n`. -/
abbrev found : Fin 128 → Fin 128 → EReal := stateAt (fun n => chunkAt P L b n k) n.val (by omega)

def gateAt (t : Fin 64) (e : Fin 128) : EReal := G (ix3 0 k e) * (inG P b n t (col k e) * Ideal.logistic (inG P b n t (col k e)))

/-- A token's gated and normed output. -/
def outAt (t : Fin 64) (e : Fin 128) : EReal :=
  (chunkAt P L b n k).out (found P L b n k) t e * rms ((chunkAt P L b n k).out (found P L b n k) t) * gateAt P G b n k t e

/-- Where every bound of the gates is above 0 and at most 1, the gates' logarithms are numbers. -/
def Bounded : Prop := ∀ j : Fin 1024, 0 < L (ix2 0 j) ∧ L (ix2 0 j) ≤ 1

theorem fgate_real {lb : EReal} (h0 : 0 < lb) (h1 : lb ≤ 1) (f : EReal) : ∃ r : ℝ, Ideal.log (fgate lb f) = (r : EReal) := by
  induction lb using EReal.rec with
  | bot => exact absurd h0 (not_lt_of_ge bot_le)
  | top => exact absurd h1 (not_le_of_gt (EReal.coe_lt_top 1))
  | coe l =>
    have hl : 0 < l := EReal.coe_pos.mp h0
    have hl' : l ≤ 1 := EReal.coe_le_coe_iff.mp h1
    obtain ⟨s, hs, e⟩ : ∃ s : ℝ, 0 ≤ s ∧ Ideal.logistic f = (s : EReal) := by
      induction f using EReal.rec with
      | bot => exact ⟨0, le_refl _, by rw [Ideal.logistic_bot]; rfl⟩
      | top => exact ⟨1, zero_le_one, by rw [Ideal.logistic_top]; rfl⟩
      | coe r => exact ⟨(1 + Real.exp (-r))⁻¹, by positivity, Ideal.logistic_coe r⟩
    have hp : 0 < l + (1 - l) * s := by nlinarith [mul_nonneg (sub_nonneg.mpr hl') hs]
    refine ⟨Real.log (l + (1 - l) * s), ?_⟩
    unfold fgate
    rw [e, ← EReal.coe_one, ← EReal.coe_sub, ← EReal.coe_mul, ← EReal.coe_add, Ideal.log_coe, if_neg (not_le_of_gt hp)]

theorem sumLog_real {lb : EReal} (h0 : 0 < lb) (h1 : lb ≤ 1) (f : Fin 64 → EReal) (t : Fin 64) : ∃ r : ℝ, sumLog lb f t = (r : EReal) := by
  choose g hg using fun s => fgate_real h0 h1 (f s)
  unfold sumLog
  refine Finset.sum_induction _ (fun x : EReal => ∃ r : ℝ, x = (r : EReal)) ?_ ⟨0, rfl⟩ fun s _ => ?_
  · rintro _ _ ⟨x, rfl⟩ ⟨y, rfl⟩
    exact ⟨x + y, (EReal.coe_add x y).symm⟩
  · rw [hg]
    split
    · exact ⟨_, rfl⟩
    · exact ⟨0, rfl⟩

end Cert.Hgrn
end
-- ==== Proof.HgrnBlock.lean ====
/- The two final arrays of the recurrence's forward kernel, element by element. -/
module

public import proofs.«01_k».proof.Proof.HgrnRead
public import proofs.«01_k».proof.Proof.HgrnGoal

@[expose] public section

set_option maxRecDepth 16384

noncomputable section

namespace Cert.Hgrn

open Cert.Kernel7Ideal Cert.Kernel7Ideal.Gen Idealize.ShloMosaic Idealize.ShloMosaic.TcCoe Idealize.SL.Sem

variable (m : (ℓ : Loc nD τ sig) → Buf (Elt Ideal) ℓ) (c : Dev nD)

abbrev projIn : S4096x10752.Idx → EReal := m ((c : Thread nD τ).loc main_arg0)
abbrev boundIn : S1x1024.Idx → EReal := m ((c : Thread nD τ).loc main_arg1)
abbrev normIn : S1x8x128.Idx → EReal := m ((c : Thread nD τ).loc main_arg2)

/-! ## What a point stores -/

theorem at_reset (t : Fin cfg0.N) (h0 : t.val % 32 = 0) :
    (∀ k r e, (outsAt0 m c t.val t.isLt).1 (ix2 r (col k e)) = outOf (loads m c t) k (resetState (loads m c t) k) (ix2 r e))
    ∧ (∀ k e d, (outsAt0 m c t.val t.isLt).2.1 (ix5 0 0 k e d) = resetState (loads m c t) k (ix3 0 e d))
    ∧ ∀ k e d, (outsAt0 m c t.val t.isLt).2.2 (ix3 k e d) = next (loads m c t) k (resetState (loads m c t) k) (ix3 0 e d) := by
  rw [outsAt0_A m c t h0]
  dsimp only
  refine ⟨fun k r e => ?_, fun k e d => ?_, fun k e d => ?_⟩
  · refine (congrArg (fun L => VO0_6.read (Elt Ideal) (VO0_6.writes (Elt Ideal) VO0_6.junk L) (ix2 r (col k e))) (reset_outs m c t _)).trans ?_
    exact outs_hit _ _ _ k r e
  · refine (congrArg (fun L => VO0_7.read (Elt Ideal) (VO0_7.writes (Elt Ideal) VO0_7.junk L) (ix5 0 0 k e d)) (reset_kept m c t _)).trans ?_
    exact kept_hit _ _ k e d
  · refine (congrArg (fun L => VS0_0.read (Elt Ideal) (VS0_0.writes (Elt Ideal) VS0_0.junk L) (ix3 k e d)) (reset_state m c t _)).trans ?_
    exact (reset_read (loads m c t) k e d 8 (le_refl 8)).trans (if_pos k.isLt)

theorem at_carried (t : Fin cfg0.N) (h0 : ¬ t.val % 32 = 0) (xs : Vec Ideal S8x128x128 .f32)
    (hxs : xs = (outsAt0 m c (t.val - 1) (Nat.lt_of_le_of_lt (Nat.sub_le _ _) t.isLt)).2.2) :
    (∀ k r e, (outsAt0 m c t.val t.isLt).1 (ix2 r (col k e)) = outOf (loads m c t) k (carriedState xs k) (ix2 r e))
    ∧ (∀ k e d, (outsAt0 m c t.val t.isLt).2.1 (ix5 0 0 k e d) = carriedState xs k (ix3 0 e d))
    ∧ ∀ k e d, (outsAt0 m c t.val t.isLt).2.2 (ix3 k e d) = next (loads m c t) k (carriedState xs k) (ix3 0 e d) := by
  subst hxs
  rw [outsAt0_B m c t h0]
  dsimp only
  refine ⟨fun k r e => ?_, fun k e d => ?_, fun k e d => ?_⟩
  · refine (congrArg (fun L => VO0_6.read (Elt Ideal) (VO0_6.writes (Elt Ideal) VO0_6.junk L) (ix2 r (col k e))) (carried_outs m c t _ _)).trans ?_
    exact outs_hit _ _ _ k r e
  · refine (congrArg (fun L => VO0_7.read (Elt Ideal) (VO0_7.writes (Elt Ideal) VO0_7.junk L) (ix5 0 0 k e d)) (carried_kept m c t _ _)).trans ?_
    exact kept_hit _ _ k e d
  · refine (congrArg (fun L => VS0_0.read (Elt Ideal) (VS0_0.writes (Elt Ideal) VS0_0.junk L) (ix3 k e d)) (carried_state m c t _ _)).trans ?_
    exact state_hit _ _ _ k e d

/-! ## What a point loads -/

/-- The point of sequence `b`, chunk `n`. -/
def pt (b : Fin 2) (n : Fin 32) : Fin cfg0.N := ⟨32 * b.val + n.val, Nat.lt_of_lt_of_eq (by omega : 32 * b.val + n.val < 64) N_0.symm⟩

theorem index0 (t : Fin cfg0.N) : win0_0.index t 0 = t.val * 64 ∧ win0_0.index t 1 = 2560 :=
  (by decide +kernel : ∀ t : Fin grid0.N, win0_0.index t 0 = t.val * 64 ∧ win0_0.index t 1 = 2560) t
theorem index1 (t : Fin cfg0.N) : win0_1.index t 0 = t.val * 64 ∧ win0_1.index t 1 = 3584 :=
  (by decide +kernel : ∀ t : Fin grid0.N, win0_1.index t 0 = t.val * 64 ∧ win0_1.index t 1 = 3584) t
theorem index2 (t : Fin cfg0.N) : win0_2.index t 0 = t.val * 64 ∧ win0_2.index t 1 = 4608 :=
  (by decide +kernel : ∀ t : Fin grid0.N, win0_2.index t 0 = t.val * 64 ∧ win0_2.index t 1 = 4608) t
theorem index3 (t : Fin cfg0.N) : win0_3.index t 0 = t.val * 64 ∧ win0_3.index t 1 = 5632 :=
  (by decide +kernel : ∀ t : Fin grid0.N, win0_3.index t 0 = t.val * 64 ∧ win0_3.index t 1 = 5632) t
theorem index4 (t : Fin cfg0.N) : ∀ a, win0_4.index t a = 0 :=
  (by decide +kernel : ∀ t : Fin grid0.N, ∀ a, win0_4.index t a = 0) t
theorem index5 (t : Fin cfg0.N) : ∀ a, win0_5.index t a = 0 :=
  (by decide +kernel : ∀ t : Fin grid0.N, ∀ a, win0_5.index t a = 0) t
theorem index6 (t : Fin cfg0.N) : win0_6.index t 0 = t.val ∧ win0_6.index t 1 = 0 :=
  (by decide +kernel : ∀ t : Fin grid0.N, win0_6.index t 0 = t.val ∧ win0_6.index t 1 = 0) t
theorem index7 (t : Fin cfg0.N) : win0_7.index t 0 = t.val / 32 ∧ win0_7.index t 1 = t.val % 32 ∧ win0_7.index t 2 = 0 ∧ win0_7.index t 3 = 0 ∧ win0_7.index t 4 = 0 :=
  (by decide +kernel : ∀ t : Fin grid0.N, win0_7.index t 0 = t.val / 32 ∧ win0_7.index t 1 = t.val % 32 ∧ win0_7.index t 2 = 0 ∧ win0_7.index t 3 = 0 ∧ win0_7.index t 4 = 0) t

variable (b : Fin 2) (n : Fin 32)

/-- Places of a block staged from column `l` on. -/
theorem placed (i : S4096x10752.Idx) (t : Fin 64) {p0 p1 : ℕ} (l : ℕ) (x : Fin 1024) (hx : l + x.val < 10752)
    (h0 : (i 0).val = p0 + 1 * t.val) (e0 : p0 = (32 * b.val + n.val) * 64) (h1 : (i 1).val = p1 + 1 * x.val) (e1 : p1 = l) :
    i = ix2 (tok b n t) ⟨l + x.val, hx⟩ := by
  funext a
  apply Fin.ext
  match a with
  | ⟨0, _⟩ =>
    show (i 0).val = (32 * b.val + n.val) * 64 + t.val
    omega
  | ⟨1, _⟩ =>
    show (i 1).val = l + x.val
    omega

theorem seen_q (t : Fin 64) (j : Fin 1024) : iblk m c 0 (pt b n) (ix2 t j) = inQ (projIn m c) b n t j := by
  unfold iblk
  show ((cfg0.win 0).blk (pt b n)).view.read (Elt Ideal) (V m c main_arg0) (ix2 t j) = _
  rw [View.read_apply, V_main_arg0]
  exact congrArg (projIn m c) (placed b n _ t 2560 j (by omega) rfl (index0 (pt b n)).1 rfl (index0 (pt b n)).2)
theorem seen_f (t : Fin 64) (j : Fin 1024) : iblk m c 1 (pt b n) (ix2 t j) = inF (projIn m c) b n t j := by
  unfold iblk
  show ((cfg0.win 1).blk (pt b n)).view.read (Elt Ideal) (V m c main_arg0) (ix2 t j) = _
  rw [View.read_apply, V_main_arg0]
  exact congrArg (projIn m c) (placed b n _ t 3584 j (by omega) rfl (index1 (pt b n)).1 rfl (index1 (pt b n)).2)
theorem seen_v (t : Fin 64) (j : Fin 1024) : iblk m c 2 (pt b n) (ix2 t j) = inV (projIn m c) b n t j := by
  unfold iblk
  show ((cfg0.win 2).blk (pt b n)).view.read (Elt Ideal) (V m c main_arg0) (ix2 t j) = _
  rw [View.read_apply, V_main_arg0]
  exact congrArg (projIn m c) (placed b n _ t 4608 j (by omega) rfl (index2 (pt b n)).1 rfl (index2 (pt b n)).2)
theorem seen_hg (t : Fin 64) (j : Fin 1024) : iblk m c 3 (pt b n) (ix2 t j) = inG (projIn m c) b n t j := by
  unfold iblk
  show ((cfg0.win 3).blk (pt b n)).view.read (Elt Ideal) (V m c main_arg0) (ix2 t j) = _
  rw [View.read_apply, V_main_arg0]
  exact congrArg (projIn m c) (placed b n _ t 5632 j (by omega) rfl (index3 (pt b n)).1 rfl (index3 (pt b n)).2)

theorem seen_bound (t : Fin cfg0.N) (j : Fin 1024) : iblk m c 4 t (ix2 0 j) = boundIn m c (ix2 0 j) := by
  unfold iblk
  show ((cfg0.win 4).blk t).view.read (Elt Ideal) (V m c main_arg1) (ix2 0 j) = _
  rw [View.read_apply, V_main_arg1]
  refine congrArg (boundIn m c) (funext fun a => Fin.ext ?_)
  match a with
  | ⟨0, _⟩ =>
    show win0_4.index _ 0 * 1 + 1 * 0 = 0
    rw [index4]
  | ⟨1, _⟩ =>
    show win0_4.index _ 1 * 1024 + 1 * j.val = j.val
    rw [index4]
    omega

theorem V_gain : (V m c main_v1 : S1x1024.Idx → EReal) = shapeCast S1x1024 (shapeCast S8x128 (normIn m c) shapeCasts_S1x8x128_S8x128) shapeCasts_S8x128_S1x1024 := by
  show StableHlo.after hostOps0 (fun b => m (c, b)) (Proc.devRef .tc main_v1) = _
  after_results
  rfl

theorem flat_gain (x : S1x8x128.Idx → EReal) (k : Fin 8) (e : Fin 128) :
    shapeCast S1x1024 (shapeCast S8x128 x shapeCasts_S1x8x128_S8x128) shapeCasts_S8x128_S1x1024 (ix2 0 (col k e)) = x (ix3 0 k e) := by
  refine (shapeCast_apply _ _ _ (ix2 k e) ?_).trans (shapeCast_apply _ _ _ (ix3 0 k e) ?_)
  · rw [Shape.rowMajor_val_two, Shape.rowMajor_val_two]
    show k.val * 128 + e.val = 0 * 1024 + (k.val * 128 + e.val)
    omega
  · rw [Shape.rowMajor_val_three, Shape.rowMajor_val_two]
    show (0 * 8 + k.val) * 128 + e.val = k.val * 128 + e.val
    omega

theorem seen_gain (t : Fin cfg0.N) (k : Fin 8) (e : Fin 128) : iblk m c 5 t (ix2 0 (col k e)) = normIn m c (ix3 0 k e) := by
  unfold iblk
  show ((cfg0.win 5).blk t).view.read (Elt Ideal) (V m c main_v1) (ix2 0 (col k e)) = _
  rw [View.read_apply, V_gain]
  have hi : ((cfg0.win 5).blk t).view.emb (ix2 0 (col k e)) = ix2 0 (col k e) := by
    funext a
    apply Fin.ext
    match a with
    | ⟨0, _⟩ =>
      show win0_5.index _ 0 * 1 + 1 * 0 = 0
      rw [index5]
    | ⟨1, _⟩ =>
      show win0_5.index _ 1 * 1024 + 1 * (k.val * 128 + e.val) = k.val * 128 + e.val
      rw [index5]
      omega
  rw [hi]
  exact flat_gain (normIn m c) k e

variable (k : Fin 8)

theorem chunk_eq : chunk (loads m c (pt b n)) k = chunkAt (projIn m c) (boundIn m c) b n k := by
  have hf : ∀ t j, (loads m c (pt b n)).f (ix2 t j) = inF (projIn m c) b n t j := fun t j =>
    (congrFun (loadWhole_eq (hs0_1 (pt b n)) (iblk m c 1 (pt b n))) _).trans (seen_f m c b n t j)
  have hq : ∀ t j, (loads m c (pt b n)).q (ix2 t j) = inQ (projIn m c) b n t j := fun t j =>
    (congrFun (loadWhole_eq (hs0_0 (pt b n)) (iblk m c 0 (pt b n))) _).trans (seen_q m c b n t j)
  have hv : ∀ t j, (loads m c (pt b n)).v (ix2 t j) = inV (projIn m c) b n t j := fun t j =>
    (congrFun (loadWhole_eq (hs0_2 (pt b n)) (iblk m c 2 (pt b n))) _).trans (seen_v m c b n t j)
  have hl : ∀ j, (loads m c (pt b n)).lb (ix2 0 j) = boundIn m c (ix2 0 j) := fun j =>
    (congrFun (loadRow_eq (hs0_4 (pt b n)) (iblk m c 4 (pt b n))) _).trans (seen_bound m c (pt b n) j)
  unfold chunk chunkAt
  simp only [qs_apply, ks_apply, logs_apply, hf, hq, hv, hl]

theorem gate_eq (t : Fin 64) (e : Fin 128) : gate (loads m c (pt b n)) (ix2 t (col k e)) = gateAt (projIn m c) (normIn m c) b n k t e := by
  have hg : ∀ t j, (loads m c (pt b n)).hg (ix2 t j) = inG (projIn m c) b n t j := fun t j =>
    (congrFun (loadWhole_eq (hs0_3 (pt b n)) (iblk m c 3 (pt b n))) _).trans (seen_hg m c b n t j)
  have hn : (loads m c (pt b n)).gain (ix2 0 (col k e)) = normIn m c (ix3 0 k e) :=
    (congrFun (loadRow_eq (hs0_5 (pt b n)) (iblk m c 5 (pt b n))) _).trans (seen_gain m c (pt b n) k e)
  rw [gate_apply, hg, hn]
  rfl

variable (hL : Bounded (boundIn m c))
include hL

theorem proper : Proper (loads m c (pt b n)) where
  row := row_read m c (pt b n)
  real t j := by
    have hl : (loads m c (pt b n)).lb (ix2 0 j) = boundIn m c (ix2 0 j) :=
      (congrFun (loadRow_eq (hs0_4 (pt b n)) (iblk m c 4 (pt b n))) _).trans (seen_bound m c (pt b n) j)
    rw [logs_apply, hl]
    exact sumLog_real (hL j).1 (hL j).2 _ t

/-! ## The chunks one after the other -/

/-- What a point stores, from the states it finds. -/
theorem stores : (n : ℕ) → (hn : n < 32) →
    (∀ k r e, (outsAt0 m c (pt b ⟨n, hn⟩).val (pt b ⟨n, hn⟩).isLt).1 (ix2 r (col k e)) = outAt (projIn m c) (boundIn m c) (normIn m c) b ⟨n, hn⟩ k r e)
    ∧ (∀ k e d, (outsAt0 m c (pt b ⟨n, hn⟩).val (pt b ⟨n, hn⟩).isLt).2.1 (ix5 0 0 k e d) = found (projIn m c) (boundIn m c) b ⟨n, hn⟩ k d e)
    ∧ ∀ k e d, (outsAt0 m c (pt b ⟨n, hn⟩).val (pt b ⟨n, hn⟩).isLt).2.2 (ix3 k e d)
        = stateAt (fun n => chunkAt (projIn m c) (boundIn m c) b n k) (n + 1) (by omega) d e := by
  have given : ∀ (n : Fin 32) (S : Fin 8 → Vec Ideal S1x128x128 .f32) (hS : ∀ k e d, S k (ix3 0 e d) = found (projIn m c) (boundIn m c) b n k d e),
      (∀ k r e, outOf (loads m c (pt b n)) k (S k) (ix2 r e) = outAt (projIn m c) (boundIn m c) (normIn m c) b n k r e)
      ∧ ∀ k e d, next (loads m c (pt b n)) k (S k) (ix3 0 e d)
          = (chunkAt (projIn m c) (boundIn m c) b n k).next (found (projIn m c) (boundIn m c) b n k) d e := by
    intro n S hS
    have hS' : ∀ k, (fun d e => S k (ix3 0 e d)) = found (projIn m c) (boundIn m c) b n k := fun k => funext fun d => funext fun e => hS k e d
    refine ⟨fun k r e => ?_, fun k e d => ?_⟩
    · rw [outOf_apply, gate_eq]
      simp only [outs_apply k (proper m c b n hL), hS', chunk_eq]
      rfl
    · rw [next_eq k (proper m c b n hL), hS', chunk_eq]
  intro n
  induction n with
  | zero =>
    intro hn
    have h := at_reset m c (pt b ⟨0, hn⟩) (by show (32 * b.val + 0) % 32 = 0; omega)
    have g := given ⟨0, hn⟩ (resetState (loads m c (pt b ⟨0, hn⟩))) fun k e d => resetState_read _ k e d
    exact ⟨fun k r e => (h.1 k r e).trans (g.1 k r e), fun k e d => (h.2.1 k e d).trans (resetState_read _ k e d),
      fun k e d => (h.2.2 k e d).trans (g.2 k e d)⟩
  | succ n ih =>
    intro hn
    have before := (ih (by omega)).2.2
    have h := at_carried m c (pt b ⟨n + 1, hn⟩) (by show ¬ (32 * b.val + (n + 1)) % 32 = 0; omega) _ rfl
    have e0 : ∀ k e d, carriedState (outsAt0 m c ((pt b ⟨n + 1, hn⟩).val - 1) (Nat.lt_of_le_of_lt (Nat.sub_le _ _) (pt b ⟨n + 1, hn⟩).isLt)).2.2 k (ix3 0 e d)
        = found (projIn m c) (boundIn m c) b ⟨n + 1, hn⟩ k d e := fun k e d => (carried_read _ k e d).trans (before k e d)
    have g := given ⟨n + 1, hn⟩ _ e0
    exact ⟨fun k r e => (h.1 k r e).trans (g.1 k r e), fun k e d => (h.2.1 k e d).trans (e0 k e d),
      fun k e d => (h.2.2 k e d).trans (g.2 k e d)⟩

theorem final_out (t : Fin 64) (e : Fin 128) :
    (dats m 0 c).arrAt 6 cfg0.N (ix2 (tok b n t) (col k e)) = outAt (projIn m c) (boundIn m c) (normIn m c) b n k t e := by
  have hb := congrFun (Value.blocks6 m c (pt b n) (flush0_6 _)) (ix2 t (col k e))
  rw [View.read_apply] at hb
  have hi : ((cfg0.win 6).blk (pt b n)).view.emb (ix2 t (col k e)) = ix2 (tok b n t) (col k e) := by
    funext a
    apply Fin.ext
    match a with
    | ⟨0, _⟩ =>
      show win0_6.index _ 0 * 64 + 1 * t.val = (32 * b.val + n.val) * 64 + t.val
      rw [(index6 _).1]
      show (32 * b.val + n.val) * 64 + 1 * t.val = (32 * b.val + n.val) * 64 + t.val
      omega
    | ⟨1, _⟩ =>
      show win0_6.index _ 1 * 1024 + 1 * (k.val * 128 + e.val) = k.val * 128 + e.val
      rw [(index6 _).2]
      omega
  rw [hi] at hb
  refine hb.trans ?_
  rw [Value.flushed6]
  exact (stores m c b hL n.val n.isLt).1 k t e

theorem final_kept (e d : Fin 128) :
    (dats m 0 c).arrAt 7 cfg0.N (ix5 b n k e d) = found (projIn m c) (boundIn m c) b n k d e := by
  have hb := congrFun (Value.blocks7 m c (pt b n) (flush0_7 _)) (ix5 0 0 k e d)
  rw [View.read_apply] at hb
  have hi : ((cfg0.win 7).blk (pt b n)).view.emb (ix5 0 0 k e d) = ix5 b n k e d := by
    have hx := index7 (pt b n)
    have h0 : (pt b n).val / 32 = b.val := by show (32 * b.val + n.val) / 32 = b.val; omega
    have h1 : (pt b n).val % 32 = n.val := by show (32 * b.val + n.val) % 32 = n.val; omega
    funext a
    apply Fin.ext
    match a with
    | ⟨0, _⟩ =>
      show win0_7.index _ 0 * 1 + 1 * 0 = b.val
      rw [hx.1, h0]
      omega
    | ⟨1, _⟩ =>
      show win0_7.index _ 1 * 1 + 1 * 0 = n.val
      rw [hx.2.1, h1]
      omega
    | ⟨2, _⟩ =>
      show win0_7.index _ 2 * 8 + 1 * k.val = k.val
      rw [hx.2.2.1]
      omega
    | ⟨3, _⟩ =>
      show win0_7.index _ 3 * 128 + 1 * e.val = e.val
      rw [hx.2.2.2.1]
      omega
    | ⟨4, _⟩ =>
      show win0_7.index _ 4 * 128 + 1 * d.val = d.val
      rw [hx.2.2.2.2]
      omega
  rw [hi] at hb
  refine hb.trans ?_
  rw [Value.flushed7]
  exact (stores m c b hL n.val n.isLt).2.1 k e d

end Cert.Hgrn
end
-- ==== Proof.HgrnTrip.lean ====
/- One trip of the reference's loop, and what it starts from, in the words of its standalone step. -/
module

public import proofs.«01_k».proof.Proof.Gen.Reference7Ideal.Run
public import proofs.«01_k».proof.Proof.Gen.Reference7Ideal.Step
public import Idealize.ShloMosaic.Lib.Pointwise

@[expose] public section

set_option maxRecDepth 16384

noncomputable section

namespace Cert.HgrnRef

open Idealize.ShloMosaic Idealize.ShloMosaic.TcCoe Idealize.SL.Sem Idealize.ShloMosaic.StableHlo
open Cert.Reference7Ideal Cert.Reference7Ideal.Gen Cert.Reference7Ideal.Value
open Cert.Reference7Ideal.Step (State step init)

variable (V : Valuation τ sig (Elt Ideal)) (j : ℕ)

/-- What the loop carries, besides its counter and its mask. -/
def carried : State Ideal where
  main_v38_6 := V (Proc.devRef .tc main_v38_6)
  main_v38_7 := V (Proc.devRef .tc main_v38_7)
  main_v38_8 := V (Proc.devRef .tc main_v38_8)
  main_v38_0 := V (Proc.devRef .tc main_v38_0)
  main_v38_1 := V (Proc.devRef .tc main_v38_1)
  main_v38_2 := V (Proc.devRef .tc main_v38_2)
  main_v38_3 := V (Proc.devRef .tc main_v38_3)

/-- The counter holds the trip's number and the mask the triangle. -/
def Ready : Prop := V (Proc.devRef .tc main_v38_5) = constantI S_ 32 (BitVec.ofNat 32 j)
  ∧ V (Proc.devRef .tc main_v38_4) = Cert.Reference7Ideal.Step.K_main_v34 (F := Ideal)

variable {V j}

theorem trip_state (h : Ready V j) : step_main_v38_6 V = Step.b59 j (carried V) := by
  unfold step_main_v38_6 res_main_while0b_v87 res_main_while0b_v66 res_main_while0b_v65 res_main_while0b_v64
  rw [h.1]
  rfl

theorem trip_out (h : Ready V j) : step_main_v38_7 V = Step.b66 j (carried V) := by
  unfold step_main_v38_7 res_main_while0b_v66 res_main_while0b_v65 res_main_while0b_v64 res_main_while0b_v63
  rw [h.1, h.2]
  rfl

theorem trip_kept (h : Ready V j) : step_main_v38_8 V = Step.b72 j (carried V) := by
  unfold step_main_v38_8
  rw [h.1]
  rfl

theorem trip_ready (h : Ready V j) : Ready (STEP V) (j + 1) := by
  refine ⟨(STEP_main_v38_5 V).trans ?_, (STEP_main_v38_4 V).trans h.2⟩
  unfold step_main_v38_5
  rw [h.1]
  funext i
  show BitVec.ofNat 32 j + 1#32 = BitVec.ofNat 32 (j + 1)
  simp only [BitVec.ofNat_add]

theorem trip (h : Ready V j) : carried (STEP V) = step j (carried V) := by
  unfold carried step
  rw [STEP_main_v38_6, STEP_main_v38_7, STEP_main_v38_8, STEP_main_v38_0, STEP_main_v38_1, STEP_main_v38_2, STEP_main_v38_3,
    trip_state h, trip_out h, trip_kept h]
  rfl

variable (m : (ℓ : Loc nD τ sig) → Buf (Elt Ideal) ℓ) (c : Dev nD)

/-- The state the first trip starts from. -/
abbrev start : State Ideal := init (m ((c.tc : Thread nD τ).loc main_arg0)) (m ((c.tc : Thread nD τ).loc main_arg1))

set_option maxRecDepth 65536 in
set_option maxHeartbeats 1000000 in
theorem entry : Ready (entryContents preI m c) 0 ∧ carried (entryContents preI m c) = start m c := by
  refine ⟨⟨?_, ?_⟩, ?_⟩
  · simp only [entryContents, afterL_cons, afterL_nil]; after_reads_simp; rfl
  · simp only [entryContents, afterL_cons, afterL_nil]; after_reads_simp; rfl
  · unfold carried
    simp only [entryContents, afterL_cons, afterL_nil]; after_reads_simp; rfl

/-- The states in front of the trips. -/
def states (P : S4096x10752.Idx → EReal) (L : S1x1024.Idx → EReal) : ℕ → State Ideal
  | 0 => init P L
  | k + 1 => step k (states P L k)

theorem after_trips : ∀ k, Ready (STEP^[k] (entryContents preI m c)) k ∧ carried (STEP^[k] (entryContents preI m c))
    = states (m ((c.tc : Thread nD τ).loc main_arg0)) (m ((c.tc : Thread nD τ).loc main_arg1)) k
  | 0 => entry m c
  | k + 1 => by
    rw [Function.iterate_succ_apply']
    have h := after_trips k
    exact ⟨trip_ready h.1, (trip h.1).trans (congrArg (step k) h.2)⟩

end Cert.HgrnRef
end
-- ==== Proof.HgrnRefInputs.lean ====
/- The chunks the reference's loop runs over, as entries of its arguments. -/
module

public import proofs.«01_k».proof.Proof.HgrnTrip
public import proofs.«01_k».proof.Proof.HgrnGoal

@[expose] public section

set_option maxRecDepth 16384

noncomputable section

namespace Cert.HgrnRef

open Idealize.ShloMosaic Idealize.ShloMosaic.TcCoe Idealize.SL.Sem
open Cert.Reference7Ideal Cert.Reference7Ideal.Gen Cert.Reference7Ideal.Step
open Cert.Hgrn (tok col inQ inF inV inG fgate sumLog chunkAt)

variable (P : S4096x10752.Idx → EReal) (L : S1x1024.Idx → EReal) (b : Fin 2) (n : Fin 32) (k : Fin 8) (t : Fin 64) (d : Fin 128) (j : Fin 1024)

abbrev seq (n : Fin 32) (t : Fin 64) : Fin 2048 := ⟨n.val * 64 + t.val, by omega⟩

/-- Tokens of the two sequences, a sequence at a time. -/
theorem tokens {w : ℕ} (y : (⟨2, ![4096, w]⟩ : Shape).Idx → EReal) (h : (⟨2, ![4096, w]⟩ : Shape).ShapeCasts ⟨3, ![2, 2048, w]⟩) (l : Fin w) :
    shapeCast (⟨3, ![2, 2048, w]⟩ : Shape) y h (ix3 b (seq n t) l) = y (ix2 (tok b n t) l) := by
  refine shapeCast_apply _ _ _ _ ?_
  rw [Shape.rowMajor_val_two, Shape.rowMajor_val_three]
  show ((32 * b.val + n.val) * 64 + t.val) * w + l.val = (b.val * 2048 + (n.val * 64 + t.val)) * w + l.val
  rw [show (32 * b.val + n.val) * 64 + t.val = b.val * 2048 + (n.val * 64 + t.val) by omega]

theorem part_q : A_main_v2 (F := Ideal) P L (ix3 b (seq n t) j) = inQ P b n t j := by
  have e : A_main_v2 (F := Ideal) P L (ix3 b (seq n t) j) = A_main_v1 (F := Ideal) P L (ix3 b (seq n t) ⟨j.val, by omega⟩) := by
    unfold A_main_v2
    generalize A_main_v1 (F := Ideal) P L = y
    pointwise
  refine e.trans ((tokens b n t _ _ _).trans ?_)
  unfold A_main_v0 inQ
  pointwise
theorem part_f : A_main_v3 (F := Ideal) P L (ix3 b (seq n t) j) = inF P b n t j := by
  have e : A_main_v3 (F := Ideal) P L (ix3 b (seq n t) j) = A_main_v1 (F := Ideal) P L (ix3 b (seq n t) ⟨1024 + j.val, by omega⟩) := by
    unfold A_main_v3
    generalize A_main_v1 (F := Ideal) P L = y
    pointwise
  refine e.trans ((tokens b n t _ _ _).trans ?_)
  unfold A_main_v0 inF
  pointwise
  exact congrArg P (congrArg₂ ix2 rfl (Fin.ext (by show 2560 + (1024 + j.val) = 3584 + j.val; omega)))
theorem part_v : A_main_v4 (F := Ideal) P L (ix3 b (seq n t) j) = inV P b n t j := by
  have e : A_main_v4 (F := Ideal) P L (ix3 b (seq n t) j) = A_main_v1 (F := Ideal) P L (ix3 b (seq n t) ⟨2048 + j.val, by omega⟩) := by
    unfold A_main_v4
    generalize A_main_v1 (F := Ideal) P L = y
    pointwise
  refine e.trans ((tokens b n t _ _ _).trans ?_)
  unfold A_main_v0 inV
  pointwise
  exact congrArg P (congrArg₂ ix2 rfl (Fin.ext (by show 2560 + (2048 + j.val) = 4608 + j.val; omega)))

theorem forget_ref : A_main_v19 (F := Ideal) P L (ix3 b (seq n t) j) = fgate (L (ix2 0 j)) (inF P b n t j) := by
  rw [← part_f P L b n t j]
  unfold A_main_v19 A_main_v18 A_main_v17 A_main_v16 A_main_v15 A_main_v14 A_main_v13 A_main_v11 A_main_v9 A_main_v8 A_main_v7 A_main_v5
    K_main_v6 K_main_cst K_main_v10 K_main_cst_0 K_main_v12 K_main_cst_1 fgate
  generalize A_main_v3 (F := Ideal) P L = y
  pointwise
  rfl

theorem query_ref : A_main_v20 (F := Ideal) P L (ix3 b (seq n t) j) = inQ P b n t j * Ideal.logistic (inQ P b n t j) := by
  rw [← part_q P L b n t j]
  unfold A_main_v20 A_main_call0_v5 A_main_call0_v3 A_main_call0_v1 A_main_call0_v0 K_main_call0_v2 K_main_call0_cst K_main_call0_v4 K_main_call0_cst_0
  generalize A_main_v2 (F := Ideal) P L = y
  pointwise
  rfl

/-- Chunks first, heads apart. -/
theorem chunks (y : S2x2048x1024.Idx → EReal) :
    transpose S32x2x8x64x128 [1, 0, 3, 2, 4] (shapeCast S2x32x64x8x128 y shapeCasts_S2x2048x1024_S2x32x64x8x128) transposes_S2x32x64x8x128_S32x2x8x64x128_1_0_3_2_4
      (ix5 n b k t d) = y (ix3 b (seq n t) (col k d)) := by
  have e : ∀ z : S2x32x64x8x128.Idx → EReal, transpose S32x2x8x64x128 [1, 0, 3, 2, 4] z transposes_S2x32x64x8x128_S32x2x8x64x128_1_0_3_2_4 (ix5 n b k t d)
      = z (ix5 b n t k d) := by
    intro z
    pointwise
  refine (e _).trans (shapeCast_apply _ _ _ _ ?_)
  rw [Shape.rowMajor_val_five, Shape.rowMajor_val_three]
  show (b.val * 2048 + (n.val * 64 + t.val)) * 1024 + (k.val * 128 + d.val) = (((b.val * 32 + n.val) * 64 + t.val) * 8 + k.val) * 128 + d.val
  omega

theorem q_ref : A_main_v22 (F := Ideal) P L (ix5 n b k t d) = (chunkAt P L b n k).q t d := (chunks b n k t d _).trans (query_ref P L b n t (col k d))
theorem v_ref : A_main_v28 (F := Ideal) P L (ix5 n b k t d) = (chunkAt P L b n k).v t d := (chunks b n k t d _).trans (part_v P L b n t (col k d))
theorem k_ref : A_main_v26 (F := Ideal) P L (ix5 n b k t d) = (chunkAt P L b n k).k t d := by
  refine (chunks b n k t d _).trans ?_
  have e : A_main_v24 (F := Ideal) P L (ix3 b (seq n t) (col k d)) = 1 - A_main_v19 (F := Ideal) P L (ix3 b (seq n t) (col k d)) := by
    unfold A_main_v24 K_main_v23 K_main_cst_2
    generalize A_main_v19 (F := Ideal) P L = y
    pointwise
  exact e.trans (congrArg (fun x => (1 : EReal) - x) (forget_ref P L b n t (col k d)))
theorem log_ref : A_main_v31 (F := Ideal) P L (ix5 n b k t d) = Ideal.log (fgate (L (ix2 0 (col k d))) (inF P b n t (col k d))) := by
  refine (chunks b n k t d _).trans ?_
  exact congrArg Ideal.log (forget_ref P L b n t (col k d))

end Cert.HgrnRef
end
-- ==== Proof.HgrnRefSums.lean ====
/- The reference's running sum down a chunk. -/
module

public import proofs.«01_k».proof.Proof.HgrnRefInputs

@[expose] public section

set_option maxRecDepth 16384

noncomputable section

namespace Cert.HgrnRef

open Idealize.ShloMosaic Idealize.ShloMosaic.TcCoe Idealize.SL.Sem
open Cert.Reference7Ideal Cert.Reference7Ideal.Gen Cert.Reference7Ideal.Step
open Cert.Hgrn (tok col inF fgate sumLog chunkAt)

/-- Adding up from 0 in order is the sum. -/
theorem foldl_sum {N : ℕ} (g : Fin N → EReal) : (List.finRange N).foldl (fun r n => r + g n) 0 = ∑ n, g n := by
  rw [Fin.sum_univ_def, List.sum_eq_foldl, List.foldl_map]

/-- The window's shape: 64 rows, one of everything else. -/
abbrev windowShape : Shape := ⟨5, ![1, 1, 1, 64, 1]⟩

/-- The places of the window are its rows. -/
def windowRows : Fin 64 ≃ windowShape.Idx where
  toFun w := ix5 0 0 0 w 0
  invFun i := i 3
  left_inv w := rfl
  right_inv i := by
    funext a
    apply Fin.ext
    match a with
    | ⟨0, _⟩ => exact (Nat.lt_one_iff.mp (i 0).isLt).symm
    | ⟨1, _⟩ => exact (Nat.lt_one_iff.mp (i 1).isLt).symm
    | ⟨2, _⟩ => exact (Nat.lt_one_iff.mp (i 2).isLt).symm
    | ⟨3, _⟩ => rfl
    | ⟨4, _⟩ => exact (Nat.lt_one_iff.mp (i 4).isLt).symm

theorem running (x : S32x2x8x64x128.Idx → EReal) (init : S_.Idx → EReal) (hi : init (Shape.Idx.first h_S_) = 0)
    (n : Fin 32) (b : Fin 2) (k : Fin 8) (t : Fin 64) (d : Fin 128) :
    Host.reduceWindowAdd (F := Ideal) (φ := .f32) ![1, 1, 1, 64, 1] ![1, 1, 1, 1, 1] ![0, 0, 0, 63, 0] ![0, 0, 0, 0, 0] x init
      reduceWindows_S32x2x8x64x128_S32x2x8x64x128_w1s1p0_0_w1s1p0_0_w1s1p0_0_w64s1p63_0_w1s1p0_0 h_S_ (ix5 n b k t d)
      = ∑ s : Fin 64, if s.val ≤ t.val then x (ix5 n b k s d) else 0 := by
  show List.foldl _ (init (Shape.Idx.first h_S_)) _ = _
  rw [hi]
  refine (foldl_sum _).trans ?_
  refine (Fintype.sum_equiv (windowRows.trans windowShape.rowMajor) _ _ fun w => rfl).symm.trans ?_
  refine Fintype.sum_equiv (Equiv.addRight (t + 1)) _ _ fun w => ?_
  have hv : ((Equiv.addRight (t + 1)) w : Fin 64).val = if 63 ≤ t.val + w.val then t.val + w.val - 63 else t.val + w.val + 1 := by
    have e : ((Equiv.addRight (t + 1)) w : Fin 64).val = (w.val + (t.val + 1) % 64) % 64 := rfl
    rw [e]
    split <;> omega
  generalize (Equiv.addRight (t + 1)) w = s at hv
  dsimp only
  have hq : windowShape.rowMajor.symm ((windowRows.trans windowShape.rowMajor) w) = ix5 0 0 0 w 0 := Equiv.symm_apply_apply _ _
  split
  · next hin =>
    have h3 : 63 ≤ t.val * 1 + (windowShape.rowMajor.symm ((windowRows.trans windowShape.rowMajor) w) 3).val := (hin 3).1
    rw [hq] at h3
    change 63 ≤ t.val * 1 + w.val at h3
    rw [if_pos (by omega)] at hv
    rw [if_pos (by omega)]
    refine congrArg x (funext fun a => Fin.ext ?_)
    match a with
    | ⟨0, _⟩ =>
      show n.val * 1 + (windowShape.rowMajor.symm ((windowRows.trans windowShape.rowMajor) w) 0).val - 0 = n.val
      rw [hq]
      show n.val * 1 + 0 - 0 = n.val
      omega
    | ⟨1, _⟩ =>
      show b.val * 1 + (windowShape.rowMajor.symm ((windowRows.trans windowShape.rowMajor) w) 1).val - 0 = b.val
      rw [hq]
      show b.val * 1 + 0 - 0 = b.val
      omega
    | ⟨2, _⟩ =>
      show k.val * 1 + (windowShape.rowMajor.symm ((windowRows.trans windowShape.rowMajor) w) 2).val - 0 = k.val
      rw [hq]
      show k.val * 1 + 0 - 0 = k.val
      omega
    | ⟨3, _⟩ =>
      show t.val * 1 + (windowShape.rowMajor.symm ((windowRows.trans windowShape.rowMajor) w) 3).val - 63 = s.val
      rw [hq]
      show t.val * 1 + w.val - 63 = s.val
      omega
    | ⟨4, _⟩ =>
      show d.val * 1 + (windowShape.rowMajor.symm ((windowRows.trans windowShape.rowMajor) w) 4).val - 0 = d.val
      rw [hq]
      show d.val * 1 + 0 - 0 = d.val
      omega
  · next hin =>
    have h3 : ¬ 63 ≤ t.val + w.val := fun hle => hin fun a => by
      have hw := w.isLt
      match a with
      | ⟨0, _⟩ =>
        show 0 ≤ n.val * 1 + (windowShape.rowMajor.symm ((windowRows.trans windowShape.rowMajor) w) 0).val
          ∧ n.val * 1 + (windowShape.rowMajor.symm ((windowRows.trans windowShape.rowMajor) w) 0).val - 0 < 32
        rw [hq]
        exact ⟨Nat.zero_le _, by show n.val * 1 + 0 - 0 < 32; omega⟩
      | ⟨1, _⟩ =>
        show 0 ≤ b.val * 1 + (windowShape.rowMajor.symm ((windowRows.trans windowShape.rowMajor) w) 1).val
          ∧ b.val * 1 + (windowShape.rowMajor.symm ((windowRows.trans windowShape.rowMajor) w) 1).val - 0 < 2
        rw [hq]
        exact ⟨Nat.zero_le _, by show b.val * 1 + 0 - 0 < 2; omega⟩
      | ⟨2, _⟩ =>
        show 0 ≤ k.val * 1 + (windowShape.rowMajor.symm ((windowRows.trans windowShape.rowMajor) w) 2).val
          ∧ k.val * 1 + (windowShape.rowMajor.symm ((windowRows.trans windowShape.rowMajor) w) 2).val - 0 < 8
        rw [hq]
        exact ⟨Nat.zero_le _, by show k.val * 1 + 0 - 0 < 8; omega⟩
      | ⟨3, _⟩ =>
        show 63 ≤ t.val * 1 + (windowShape.rowMajor.symm ((windowRows.trans windowShape.rowMajor) w) 3).val
          ∧ t.val * 1 + (windowShape.rowMajor.symm ((windowRows.trans windowShape.rowMajor) w) 3).val - 63 < 64
        rw [hq]
        show 63 ≤ t.val * 1 + w.val ∧ t.val * 1 + w.val - 63 < 64
        omega
      | ⟨4, _⟩ =>
        show 0 ≤ d.val * 1 + (windowShape.rowMajor.symm ((windowRows.trans windowShape.rowMajor) w) 4).val
          ∧ d.val * 1 + (windowShape.rowMajor.symm ((windowRows.trans windowShape.rowMajor) w) 4).val - 0 < 128
        rw [hq]
        exact ⟨Nat.zero_le _, by show d.val * 1 + 0 - 0 < 128; omega⟩
    rw [if_neg h3] at hv
    rw [if_neg (by omega)]

variable (P : S4096x10752.Idx → EReal) (L : S1x1024.Idx → EReal) (b : Fin 2) (n : Fin 32) (k : Fin 8) (t : Fin 64) (d : Fin 128)

theorem g_ref : A_main_v32 (F := Ideal) P L (ix5 n b k t d) = (chunkAt P L b n k).g t d := by
  unfold A_main_v32
  refine (running _ _ ?_ n b k t d).trans ?_
  · show Ideal.ofBits .f32 0x00000000#32 = 0
    exact Ideal.ofBits_zero_f32
  · simp only [log_ref]
    rfl

end Cert.HgrnRef
end
-- ==== Proof.HgrnRefStep.lean ====
/- One trip of the reference's loop is one chunk of the recurrence. -/
module

public import proofs.«01_k».proof.Proof.HgrnRefSums

@[expose] public section

set_option maxRecDepth 16384

noncomputable section

namespace Cert.HgrnRef

open Idealize.ShloMosaic Idealize.ShloMosaic.TcCoe Idealize.SL.Sem
open Cert.Reference7Ideal Cert.Reference7Ideal.Gen Cert.Reference7Ideal.Step
open Cert.Hgrn (Chunk select_ofBool)

variable (s : State Ideal) (n : Fin 32) (b : Fin 2) (k : Fin 8)

/-- The chunk of trip `n`. -/
def seen : Chunk where
  q t d := s.main_v38_0 (ix5 n b k t d)
  k t d := s.main_v38_1 (ix5 n b k t d)
  v t d := s.main_v38_2 (ix5 n b k t d)
  g t d := s.main_v38_3 (ix5 n b k t d)

/-- The state the trip finds. -/
def before (d e : Fin 128) : EReal := s.main_v38_6 (ix4 b k d e)

theorem number (n : Fin 32) : (BitVec.ofNat 32 n.val).toInt = n.val :=
  (by decide +kernel : ∀ n : Fin 32, (BitVec.ofNat 32 n.val).toInt = n.val) n

theorem taken (X : S32x2x8x64x128.Idx → EReal) (f : Fin 5 → ℤ) (h0 : f 0 = n.val) (h1 : f 1 = 0) (h2 : f 2 = 0) (h3 : f 3 = 0) (h4 : f 4 = 0)
    (t : Fin 64) (d : Fin 128) :
    shapeCast S2x8x64x128 (Host.dynamicSlice S1x2x8x64x128 X f sliceFits_S32x2x8x64x128_S1x2x8x64x128) shapeCasts_S1x2x8x64x128_S2x8x64x128 (ix4 b k t d)
      = X (ix5 n b k t d) := by
  refine (shapeCast_apply _ _ _ (ix5 0 b k t d) ?_).trans ?_
  · rw [Shape.rowMajor_val_five, Shape.rowMajor_val_four]
    show (((0 * 2 + b.val) * 8 + k.val) * 64 + t.val) * 128 + d.val = ((b.val * 8 + k.val) * 64 + t.val) * 128 + d.val
    omega
  · refine (Host.dynamicSlice_apply _ _ _ _).trans (congrArg X (funext fun a => Fin.ext ?_))
    have hn := n.isLt
    have start : ∀ (a : Fin 5) (v : ℕ), f a = v → v + S1x2x8x64x128.size a ≤ S32x2x8x64x128.size a →
        Host.clampedStart S32x2x8x64x128 S1x2x8x64x128 rfl f a = v := fun a v h hle =>
      Host.clampedStart_of_le (s := S32x2x8x64x128) (t := S1x2x8x64x128) rfl f a v h hle
    match a with
    | ⟨0, _⟩ => exact (congrArg (· + 0) (start 0 n.val h0 (by show n.val + 1 ≤ 32; omega))).trans (Nat.add_zero _)
    | ⟨1, _⟩ => exact (congrArg (· + b.val) (start 1 0 h1 (by decide))).trans (Nat.zero_add _)
    | ⟨2, _⟩ => exact (congrArg (· + k.val) (start 2 0 h2 (by decide))).trans (Nat.zero_add _)
    | ⟨3, _⟩ => exact (congrArg (· + t.val) (start 3 0 h3 (by decide))).trans (Nat.zero_add _)
    | ⟨4, _⟩ => exact (congrArg (· + d.val) (start 4 0 h4 (by decide))).trans (Nat.zero_add _)

variable (t : Fin 64) (d e : Fin 128)

theorem b5_apply : b5 (F := Ideal) n.val s (ix4 b k t d) = (seen s n b k).q t d := taken n b k _ _ (number n) rfl rfl rfl rfl t d
theorem b11_apply : b11 (F := Ideal) n.val s (ix4 b k t d) = (seen s n b k).k t d := taken n b k _ _ (number n) rfl rfl rfl rfl t d
theorem b17_apply : b17 (F := Ideal) n.val s (ix4 b k t d) = (seen s n b k).v t d := taken n b k _ _ (number n) rfl rfl rfl rfl t d
theorem b23_apply : b23 (F := Ideal) n.val s (ix4 b k t d) = (seen s n b k).g t d := taken n b k _ _ (number n) rfl rfl rfl rfl t d

theorem b26_apply : b26 (F := Ideal) n.val s (ix4 b k t e)
    = ∑ d, (seen s n b k).q t d * Ideal.exp ((seen s n b k).g t d) * before s b k d e := by
  unfold b26 b25 b24
  pointwise [b5_apply, b23_apply]
  rfl

theorem not_less (t r : Fin 64) : IntOp.cmpi .sge (BitVec.ofNat 32 t.val + 0#32) (BitVec.ofNat 32 r.val) = BitVec.ofBool (decide (r.val ≤ t.val)) :=
  (by decide +kernel : ∀ t r : Fin 64, IntOp.cmpi .sge (BitVec.ofNat 32 t.val + 0#32) (BitVec.ofNat 32 r.val) = BitVec.ofBool (decide (r.val ≤ t.val))) t r

theorem triangle (t r : Fin 64) : K_main_v34 (F := Ideal) (ix2 t r) = BitVec.ofBool (decide (r.val ≤ t.val)) := by
  unfold K_main_v34 K_main_call2_v4 K_main_call2_v2 K_main_call2_v0 K_main_call2_v1 K_main_call2_c K_main_call2_v3 K_main_v33 K_main_c K_main_call2_v5 K_main_call2_c_0
  pointwise
  exact (congrArg (fun x => Scalar.select x 1#1 0#1) (not_less t r)).trans (by cases decide (r.val ≤ t.val) <;> rfl)

theorem b36_apply (r : Fin 64) : b36 (F := Ideal) n.val s (ix5 b k t r d) = if r.val ≤ t.val then (seen s n b k).g t d - (seen s n b k).g r d else ⊥ := by
  rw [← select_ofBool, ← triangle]
  unfold b36 b35 b34 b33 b32 b31 b30 b29 b28 b27
  generalize K_main_v34 (F := Ideal) = M
  pointwise [b23_apply]
  congr 1

theorem b45_apply (r : Fin 64) : b45 (F := Ideal) n.val s (ix4 b k t r) = (seen s n b k).attn t r := by
  unfold b45 b44 b43 b42 b41 b40 b39 b38 b37 Chunk.attn
  pointwise [b36_apply, b5_apply, b11_apply]
  by_cases h : r.val ≤ t.val
  · simp only [if_pos h]
  · simp only [if_neg h, Ideal.exp_bot, mul_zero, Finset.sum_const_zero]

theorem b60_apply : b60 (F := Ideal) n.val s (ix4 b k t e) = (seen s n b k).out (before s b k) t e := by
  unfold b60 b46
  pointwise [b26_apply, b45_apply, b17_apply]
  rfl

theorem b48_apply : b48 (F := Ideal) n.val s (ix3 b k d) = (seen s n b k).g 63 d := by
  unfold b48 b47
  pointwise [b23_apply]

theorem b59_apply : b59 (F := Ideal) n.val s (ix4 b k d e) = (seen s n b k).next (before s b k) d e := by
  unfold b59 b58 b57 b56 b55 b54 b53 b52 b51 b50 b49
  pointwise [b48_apply, b23_apply, b11_apply, b17_apply]
  rfl

end Cert.HgrnRef
end
-- ==== Proof.HgrnRef.lean ====
/- What the reference's loop leaves, and its two results, as entries of its arguments. -/
module

public import proofs.«01_k».proof.Proof.HgrnRefSums
public import proofs.«01_k».proof.Proof.HgrnRefStep

@[expose] public section

set_option maxRecDepth 16384

noncomputable section

namespace Cert.HgrnRef

open Idealize.ShloMosaic Idealize.ShloMosaic.TcCoe Idealize.SL.Sem
open Cert.Reference7Ideal Cert.Reference7Ideal.Gen Cert.Reference7Ideal.Step
open Cert.Hgrn (Chunk tok col inG chunkAt stateAt found gateAt outAt rms)

/-- One chunk's block put into the array of all chunks: that chunk's entries are the block's, the others stay. -/
theorem put {p : ℕ} (fits : (⟨5, ![32, 2, 8, p, 128]⟩ : Shape).Slices (fun _ => 0) ⟨5, ![1, 2, 8, p, 128]⟩)
    (X : (⟨5, ![32, 2, 8, p, 128]⟩ : Shape).Idx → EReal) (U : (⟨5, ![1, 2, 8, p, 128]⟩ : Shape).Idx → EReal) (f : Fin 5 → ℤ) (n : Fin 32)
    (h0 : f 0 = n.val) (h1 : f 1 = 0) (h2 : f 2 = 0) (h3 : f 3 = 0) (h4 : f 4 = 0) (i : Fin 32) (b : Fin 2) (k : Fin 8) (t : Fin p) (d : Fin 128) :
    Host.dynamicUpdateSlice X U f fits (ix5 i b k t d) = if i = n then U (ix5 0 b k t d) else X (ix5 i b k t d) := by
  have hn := n.isLt
  have start : ∀ (a : Fin 5) (v : ℕ), f a = v → v + (⟨5, ![1, 2, 8, p, 128]⟩ : Shape).size a ≤ (⟨5, ![32, 2, 8, p, 128]⟩ : Shape).size a →
      Host.clampedStart (⟨5, ![32, 2, 8, p, 128]⟩ : Shape) ⟨5, ![1, 2, 8, p, 128]⟩ fits.1 f a = v := fun a v h hle =>
    Host.clampedStart_of_le (s := (⟨5, ![32, 2, 8, p, 128]⟩ : Shape)) (t := (⟨5, ![1, 2, 8, p, 128]⟩ : Shape)) fits.1 f a v h hle
  have s0 := start 0 n.val h0 (by show n.val + 1 ≤ 32; omega)
  have s1 := start 1 0 h1 (by show 0 + 2 ≤ 2; omega)
  have s2 := start 2 0 h2 (by show 0 + 8 ≤ 8; omega)
  have s3 := start 3 0 h3 (by show 0 + p ≤ p; omega)
  have s4 := start 4 0 h4 (by show 0 + 128 ≤ 128; omega)
  have within : ∀ {c v x z : ℕ}, c = v → v ≤ x → x < v + z → c ≤ x ∧ x < c + z := fun e h h' => by subst e; exact ⟨h, h'⟩
  have off : ∀ {c v x y : ℕ}, c = v → x - v = y → x - c = y := fun e h => by subst e; exact h
  rw [Host.dynamicUpdateSlice_apply]
  by_cases hi : i = n
  · subst hi
    rw [dif_pos (fun a => by
      match a with
      | ⟨0, _⟩ => exact within s0 (le_refl i.val) (Nat.lt_succ_self i.val)
      | ⟨1, _⟩ => exact within s1 (Nat.zero_le b.val) (by show b.val < 0 + 2; omega)
      | ⟨2, _⟩ => exact within s2 (Nat.zero_le k.val) (by show k.val < 0 + 8; omega)
      | ⟨3, _⟩ => exact within s3 (Nat.zero_le t.val) (by show t.val < 0 + p; omega)
      | ⟨4, _⟩ => exact within s4 (Nat.zero_le d.val) (by show d.val < 0 + 128; omega)), if_pos rfl]
    refine congrArg U (funext fun a => Fin.ext ?_)
    match a with
    | ⟨0, _⟩ => exact off s0 (Nat.sub_self i.val)
    | ⟨1, _⟩ => exact off s1 (Nat.sub_zero b.val)
    | ⟨2, _⟩ => exact off s2 (Nat.sub_zero k.val)
    | ⟨3, _⟩ => exact off s3 (Nat.sub_zero t.val)
    | ⟨4, _⟩ => exact off s4 (Nat.sub_zero d.val)
  · rw [dif_neg (fun hin => hi (Fin.ext ?_)), if_neg hi]
    have hle : Host.clampedStart (⟨5, ![32, 2, 8, p, 128]⟩ : Shape) ⟨5, ![1, 2, 8, p, 128]⟩ fits.1 f 0 ≤ i.val
      ∧ i.val < Host.clampedStart (⟨5, ![32, 2, 8, p, 128]⟩ : Shape) ⟨5, ![1, 2, 8, p, 128]⟩ fits.1 f 0 + 1 := hin 0
    rw [s0] at hle
    omega

variable (P : S4096x10752.Idx → EReal) (L : S1x1024.Idx → EReal) (G : S1x8x128.Idx → EReal) (b : Fin 2) (n : Fin 32) (k : Fin 8)

theorem same_chunk {u w : Chunk} (q : ∀ t d, u.q t d = w.q t d) (k : ∀ t d, u.k t d = w.k t d) (v : ∀ t d, u.v t d = w.v t d)
    (g : ∀ t d, u.g t d = w.g t d) : u = w := by
  obtain ⟨uq, uk, uv, ug⟩ := u
  obtain ⟨wq, wk, wv, wg⟩ := w
  obtain rfl : uq = wq := funext fun t => funext fun d => q t d
  obtain rfl : uk = wk := funext fun t => funext fun d => k t d
  obtain rfl : uv = wv := funext fun t => funext fun d => v t d
  obtain rfl : ug = wg := funext fun t => funext fun d => g t d
  rfl

theorem seen_states : ∀ j, seen (states P L j) n b k = chunkAt P L b n k
  | 0 => same_chunk (fun t d => q_ref P L b n k t d) (fun t d => k_ref P L b n k t d) (fun t d => v_ref P L b n k t d) (fun t d => g_ref P L b n k t d)
  | j + 1 => Eq.trans (by rfl) (seen_states j)

theorem before_states : ∀ (j : ℕ) (hj : j ≤ 32), before (states P L j) b k = stateAt (fun n => chunkAt P L b n k) j hj
  | 0, _ => funext fun d => funext fun e => Ideal.ofBits_zero_f32
  | j + 1, hj => funext fun d => funext fun e => by
    refine (b59_apply (states P L j) ⟨j, hj⟩ b k d e).trans ?_
    rw [seen_states, before_states j (by omega)]
    rfl

theorem out_states (t : Fin 64) (e : Fin 128) : ∀ (j : ℕ), j ≤ 32 → n.val < j →
    (states P L j).main_v38_7 (ix5 n b k t e) = (chunkAt P L b n k).out (found P L b n k) t e
  | j + 1, hj, hn => by
    refine (put updateFits_S32x2x8x64x128_S1x2x8x64x128 _ _ _ ⟨j, hj⟩ (number ⟨j, hj⟩) rfl rfl rfl rfl n b k t e).trans ?_
    by_cases h : n = ⟨j, hj⟩
    · rw [if_pos h]
      subst h
      have hb : b61 j (states P L j) (ix5 0 b k t e) = b60 j (states P L j) (ix4 b k t e) := by
        unfold b61
        generalize b60 j (states P L j) = y
        pointwise
      refine hb.trans ((b60_apply (states P L j) ⟨j, hj⟩ b k t e).trans ?_)
      rw [seen_states, before_states P L b k j (by omega)]
    · rw [if_neg h]
      exact out_states t e j (by omega) (by have : n.val ≠ j := fun e => h (Fin.ext e); omega)

theorem kept_states (d e : Fin 128) : ∀ (j : ℕ), j ≤ 32 → n.val < j → (states P L j).main_v38_8 (ix5 n b k d e) = found P L b n k d e
  | j + 1, hj, hn => by
    refine (put updateFits_S32x2x8x128x128_S1x2x8x128x128 _ _ _ ⟨j, hj⟩ (number ⟨j, hj⟩) rfl rfl rfl rfl n b k d e).trans ?_
    by_cases h : n = ⟨j, hj⟩
    · rw [if_pos h]
      subst h
      have hb : b67 j (states P L j) (ix5 0 b k d e) = before (states P L j) b k d e := by
        unfold b67 before
        pointwise
      rw [hb, before_states P L b k j (by omega)]
    · rw [if_neg h]
      exact kept_states d e j (by omega) (by have : n.val ≠ j := fun e => h (Fin.ext e); omega)

/-- The reference's second result: the states in front of the chunks. -/
theorem kept_ref (e d : Fin 128) : R_main_v41 (states P L 32) (ix5 b n k e d) = found P L b n k d e := by
  unfold R_main_v41
  refine Eq.trans ?_ (kept_states P L b n k d e 32 (le_refl _) n.isLt)
  pointwise

theorem flat_tokens (y : S2x2048x1024.Idx → EReal) (t : Fin 64) (l : Fin 1024) :
    shapeCast S4096x1024 y shapeCasts_S2x2048x1024_S4096x1024 (ix2 (tok b n t) l) = y (ix3 b (seq n t) l) := by
  refine shapeCast_apply _ _ _ _ ?_
  rw [Shape.rowMajor_val_two, Shape.rowMajor_val_three]
  show (b.val * 2048 + (n.val * 64 + t.val)) * 1024 + l.val = ((32 * b.val + n.val) * 64 + t.val) * 1024 + l.val
  omega

theorem flat_heads (y : S2x2048x8x128.Idx → EReal) (s : Fin 2048) (e : Fin 128) :
    shapeCast S2x2048x1024 y shapeCasts_S2x2048x8x128_S2x2048x1024 (ix3 b s (col k e)) = y (ix4 b s k e) := by
  refine shapeCast_apply _ _ _ _ ?_
  rw [Shape.rowMajor_val_three, Shape.rowMajor_val_four]
  show ((b.val * 2048 + s.val) * 8 + k.val) * 128 + e.val = (b.val * 2048 + s.val) * 1024 + (k.val * 128 + e.val)
  omega

/-- The chunks' outputs, laid out a token at a time. -/
def rows (X : S32x2x8x64x128.Idx → EReal) : S2x2048x8x128.Idx → EReal :=
  shapeCast S2x2048x8x128 (transpose S2x32x64x8x128 [1, 0, 3, 2, 4] X transposes_S32x2x8x64x128_S2x32x64x8x128_1_0_3_2_4) shapeCasts_S2x32x64x8x128_S2x2048x8x128

theorem rows_apply (X : S32x2x8x64x128.Idx → EReal) (t : Fin 64) (e : Fin 128) : rows X (ix4 b (seq n t) k e) = X (ix5 n b k t e) := by
  refine (shapeCast_apply _ _ _ (ix5 b n t k e) ?_).trans ?_
  · rw [Shape.rowMajor_val_four, Shape.rowMajor_val_five]
    show (((b.val * 32 + n.val) * 64 + t.val) * 8 + k.val) * 128 + e.val = ((b.val * 2048 + (n.val * 64 + t.val)) * 8 + k.val) * 128 + e.val
    omega
  · pointwise

/-- The tokens' gates, before their logistic. -/
def gates : S2x2048x1024.Idx → EReal :=
  shapeCast S2x2048x1024 (extractStridedSlice S4096x1024 ![0, 5632] P slices_S4096x10752_S4096x1024_0_5632) shapeCasts_S4096x1024_S2x2048x1024

theorem gates_apply (t : Fin 64) (l : Fin 1024) : gates P (ix3 b (seq n t) l) = inG P b n t l := by
  refine (tokens b n t _ _ _).trans ?_
  unfold inG
  pointwise

/-- The norm and its gain, at a row. -/
def normed (o : S2x2048x8x128.Idx → EReal) : FVec Ideal S2x2048x8x128 .f32 :=
  mulf (mulf o (broadcastInDim S2x2048x8x128 ![0, 1, 2, 3] bcast_S2x2048x8x1_S2x2048x8x128_0_1_2_3 (Host.rsqrt (addf (Host.divf (broadcastInDim S2x2048x8x1 ![0, 1, 2] bcast_S2x2048x8_S2x2048x8x1_0_1_2 (Host.reduceAdd (mulf o o) (constant (F := Ideal) S_ .f32 0x00000000#32) reducesTo_S2x2048x8x128_S2x2048x8_d3 h_S_)) (broadcastInDim S2x2048x8x1 ![] bcast_S_S2x2048x8x1 (constant (F := Ideal) S_ .f32 0x43000000#32))) (broadcastInDim S2x2048x8x1 ![] bcast_S_S2x2048x8x1 (constant (F := Ideal) S_ .f32 0x358637BD#32)))))) (broadcastInDim S2x2048x8x128 ![0, 1, 2, 3] bcast_S1x1x8x128_S2x2048x8x128_0_1_2_3 (broadcastInDim S1x1x8x128 ![2, 3] bcast_S8x128_S1x1x8x128_2_3 (shapeCast S8x128 G shapeCasts_S1x8x128_S8x128)))

theorem gain_apply (e : Fin 128) : shapeCast S8x128 G shapeCasts_S1x8x128_S8x128 (ix2 k e) = G (ix3 0 k e) := by
  refine shapeCast_apply _ _ _ _ ?_
  rw [Shape.rowMajor_val_two, Shape.rowMajor_val_three]
  show (0 * 8 + k.val) * 128 + e.val = k.val * 128 + e.val
  omega

theorem normed_apply (o : S2x2048x8x128.Idx → EReal) (s : Fin 2048) (e : Fin 128) :
    normed G o (ix4 b s k e) = o (ix4 b s k e) * rms (fun e => o (ix4 b s k e)) * G (ix3 0 k e) := by
  unfold normed
  rw [← gain_apply G k e]
  generalize shapeCast S8x128 G shapeCasts_S1x8x128_S8x128 = y
  pointwise
  rfl

/-- A gate times its logistic. -/
def gated (x : S2x2048x1024.Idx → EReal) : FVec Ideal S2x2048x1024 .f32 :=
  mulf x (Host.divf (broadcastInDim S2x2048x1024 ![] bcast_S_S2x2048x1024 (constant (F := Ideal) S_ .f32 0x3F800000#32)) (addf (broadcastInDim S2x2048x1024 ![] bcast_S_S2x2048x1024 (constant (F := Ideal) S_ .f32 0x3F800000#32)) (Host.exp (Host.negf (φ := .f32) x))))

theorem gated_apply (x : S2x2048x1024.Idx → EReal) (i : S2x2048x1024.Idx) : gated x i = x i * Ideal.logistic (x i) := by
  unfold gated
  pointwise
  rfl

theorem result_eq (s : State Ideal) : R_main_v62 s P G
    = truncf (F := Ideal) .bf16 (shapeCast S4096x1024 (mulf (φ := .f32) (shapeCast S2x2048x1024 (normed G (rows s.main_v38_7)) shapeCasts_S2x2048x8x128_S2x2048x1024) (gated (gates P)))
      shapeCasts_S2x2048x1024_S4096x1024) bitsLt_bf16_f32 := by
  unfold R_main_v62 normed rows gated gates
  rfl

theorem narrowed (y : FVec Ideal S4096x1024 .f32) (i : S4096x1024.Idx) : truncf (F := Ideal) .bf16 y bitsLt_bf16_f32 i = y i := rfl

theorem product (x y : FVec Ideal S2x2048x1024 .f32) (i : S2x2048x1024.Idx) : mulf x y i = x i * y i := rfl

/-- The reference's first result: the gated and normed outputs. -/
theorem out_ref (t : Fin 64) (e : Fin 128) : R_main_v62 (states P L 32) P G (ix2 (tok b n t) (col k e)) = outAt P L G b n k t e := by
  have h (t : Fin 64) (e : Fin 128) := out_states P L b n k t e 32 (le_refl _) n.isLt
  rw [result_eq]
  generalize (states P L 32).main_v38_7 = X at h
  refine (narrowed _ _).trans ((flat_tokens b n _ t (col k e)).trans ((product _ _ _).trans ?_))
  rw [flat_heads, gated_apply, normed_apply, gates_apply]
  simp only [rows_apply, h]
  unfold outAt gateAt
  exact mul_assoc _ _ _

end Cert.HgrnRef
end
-- ==== Proof.HgrnFinite.lean ====
/- The forward recurrence's precondition, read off the printed predicate: every bound of the gates is above 0 and at most 1. -/
module

public import proofs.«01_k».proof.Pre_gate_bounds
public import proofs.«01_k».proof.Proof.HgrnGoal
public import proofs.«01_k».proof.Proof.AttnFinite

@[expose] public section

noncomputable section

namespace Cert.Hgrn

open Idealize.ShloMosaic

/-- The predicate's shape relations. -/
instance boundFacts : Cert.Pre_gate_bounds.Facts where
  bcast_S_S1x1024 := by decide
  reducesTo_S1x1024_S_d0_1 := by decide
  h_S_ := by decide

instance : Subsingleton Cert.Pre_gate_bounds.S_.Idx := ⟨fun a b => funext fun k => k.elim0⟩

theorem decided {p : Prop} [Decidable p] (h : BitVec.ofBool (decide p) = 1#1) : p := by
  by_contra hn
  rw [decide_eq_false hn] at h
  exact absurd h (by decide)

theorem above_zero {x : EReal} (h : FloatOps.cmpf (F := Ideal) (φ := .f32) .ogt x (Ideal.ofBits .f32 0x00000000#32) = 1#1) : 0 < x := by
  rw [Ideal.ofBits_zero_f32] at h
  exact decided (p := (0 : EReal) < x) h

theorem at_most_one {x : EReal} (h : FloatOps.cmpf (F := Ideal) (φ := .f32) .ole x (Ideal.ofBits .f32 0x3F800000#32) = 1#1) : x ≤ 1 := by
  rw [Ideal.ofBits_one_f32] at h
  exact decided (p := x ≤ (1 : EReal)) h

/-- The precondition says what the proof needs of the bounds. -/
theorem bounded_of (P : FVec Ideal Cert.Pre_gate_bounds.S4096x10752 .f32) (L : FVec Ideal Cert.Pre_gate_bounds.S1x1024 .f32)
    (G : FVec Ideal Cert.Pre_gate_bounds.S1x8x128 .f32) (h : Cert.Pre_gate_bounds.fn (F := Ideal) P L G = fun _ => 1#1) : Bounded L := by
  intro j
  have e := Host.reduce_andi_all _ _ _ _ _ (congrFun h (fun k => k.elim0)) (ix2 0 j)
  obtain ⟨e0, e1⟩ := Cert.Attn.two_ones e
  exact ⟨above_zero e0, at_most_one e1⟩

end Cert.Hgrn
end
-- ==== Proof.HgrnClaims.lean ====
/- The claims about the forward recurrence. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.HgrnBlock
public import proofs.«01_k».proof.Proof.HgrnRef
public import proofs.«01_k».proof.Proof.HgrnFinite
public import proofs.«01_k».proof.Proof.FwdClaims
public import Idealize.ShloMosaic.Lib.Quiescent

@[expose] public section

set_option maxRecDepth 16384

noncomputable section

namespace Cert.Proof

open Idealize.ShloMosaic Idealize.ShloMosaic.TcCoe Idealize.SL.Sem Cert.Hgrn

theorem hgrn_frame_bounds : Cert.quiescent_Kernel7Ideal_pre_gate_bounds (hKernel7Ideal := Cert.Kernel7Ideal.Gen.facts)
    (hPre_gate_bounds := Cert.Hgrn.boundFacts) :=
  fun m ρ _ => Cert.Kernel7Ideal.Gen.frame m ρ

theorem hgrn_reference_frame : Cert.quiescent_Reference7Ideal (hReference7Ideal := Cert.Reference7Ideal.Gen.facts) :=
  fun m ρ _ => (θ_run Cert.Reference7Ideal.defs _ _).mono
    (fun r h => ⟨fun c => (h c).2.2, Idealize.ShloMosaic.sem_eq_zero_of_no_sems (by decide) r.2⟩)
    (Cert.Reference7Ideal.Value.run (F := Ideal) m ρ)

theorem hgrn_reference_frame_bounds : Cert.quiescent_Reference7Ideal_pre_gate_bounds (hReference7Ideal := Cert.Reference7Ideal.Gen.facts)
    (hPre_gate_bounds := Cert.Hgrn.boundFacts) :=
  fun m ρ _ => hgrn_reference_frame m ρ trivial

/-- Every token is one of a chunk of a sequence, and every column one of a head. -/
theorem index_out (i : (⟨2, ![4096, 1024]⟩ : Shape).Idx) : ∃ (b : Fin 2) (n : Fin 32) (t : Fin 64) (k : Fin 8) (e : Fin 128), i = ix2 (tok b n t) (col k e) := by
  have h0 : (i 0).val < 4096 := (i 0).isLt
  have h1 : (i 1).val < 1024 := (i 1).isLt
  refine ⟨⟨(i 0).val / 2048, by omega⟩, ⟨(i 0).val / 64 % 32, by omega⟩, ⟨(i 0).val % 64, by omega⟩, ⟨(i 1).val / 128, by omega⟩,
    ⟨(i 1).val % 128, by omega⟩, funext fun a => Fin.ext ?_⟩
  match a with
  | ⟨0, _⟩ =>
    show (i 0).val = (32 * ((i 0).val / 2048) + (i 0).val / 64 % 32) * 64 + (i 0).val % 64
    omega
  | ⟨1, _⟩ =>
    show (i 1).val = (i 1).val / 128 * 128 + (i 1).val % 128
    omega

theorem index_kept (i : (⟨5, ![2, 32, 8, 128, 128]⟩ : Shape).Idx) : i = ix5 (i 0) (i 1) (i 2) (i 3) (i 4) := by
  funext a
  match a with
  | ⟨0, _⟩ => rfl
  | ⟨1, _⟩ => rfl
  | ⟨2, _⟩ => rfl
  | ⟨3, _⟩ => rfl
  | ⟨4, _⟩ => rfl

section Reference

open Idealize.ShloMosaic.StableHlo Cert.Reference7Ideal Cert.Reference7Ideal.Value

variable (m : (ℓ : Loc nD τ sig) → Buf (Elt Ideal) ℓ) (c : Dev nD)

/-- The results, of any contents of the buffers, in the words of the standalone step. -/
theorem result_of (V : Valuation τ sig (Elt Ideal)) : out_main_v62 (F := Ideal) V
    = Step.R_main_v62 (HgrnRef.carried V) (V (Proc.devRef .tc main_arg0)) (V (Proc.devRef .tc main_arg2)) := by
  unfold out_main_v62 Step.R_main_v62 HgrnRef.carried
  rfl

theorem kept_of (V : Valuation τ sig (Elt Ideal)) : out_main_v41 (F := Ideal) V = Step.R_main_v41 (HgrnRef.carried V) := by
  unfold out_main_v41 Step.R_main_v41 HgrnRef.carried
  rfl

theorem hgrn_result : out_main_v62 (F := Ideal) (STEP^[32] (entryContents preI m c))
    = Step.R_main_v62 (HgrnRef.states (m ((c.tc : Thread nD τ).loc main_arg0)) (m ((c.tc : Thread nD τ).loc main_arg1)) 32)
        (m ((c.tc : Thread nD τ).loc main_arg0)) (m ((c.tc : Thread nD τ).loc main_arg2)) :=
  (result_of _).trans (at_three (f := Step.R_main_v62) (HgrnRef.after_trips m c 32).2 (iter_main_arg0 m c 32) (iter_main_arg2 m c 32))

theorem hgrn_states : out_main_v41 (F := Ideal) (STEP^[32] (entryContents preI m c))
    = Step.R_main_v41 (HgrnRef.states (m ((c.tc : Thread nD τ).loc main_arg0)) (m ((c.tc : Thread nD τ).loc main_arg1)) 32) :=
  (kept_of _).trans (congrArg Step.R_main_v41 (HgrnRef.after_trips m c 32).2)

end Reference

section Kernel

open Cert.Kernel7Ideal Cert.Kernel7Ideal.Gen

variable (m : (ℓ : Loc nD τ sig) → Buf (Elt Ideal) ℓ) (c : Dev nD) (hb : Bounded (boundIn m c))

include hb

theorem hgrn_out_eq : Cert.Reference7Ideal.Step.R_main_v62 (HgrnRef.states (projIn m c) (boundIn m c) 32) (projIn m c) (normIn m c)
    = (dats m 0 c).arrAt 6 cfg0.N := by
  funext i
  obtain ⟨b, n, t, k, e, rfl⟩ := index_out i
  exact (HgrnRef.out_ref _ _ _ b n k t e).trans (final_out m c b n k hb t e).symm

theorem hgrn_kept_eq : Cert.Reference7Ideal.Step.R_main_v41 (HgrnRef.states (projIn m c) (boundIn m c) 32) = (dats m 0 c).arrAt 7 cfg0.N := by
  funext i
  rw [index_kept i]
  exact (HgrnRef.kept_ref _ _ _ _ _ _ _).trans (final_kept m c _ _ _ hb _ _).symm

end Kernel

/-- The kernel's two results are the reference's. -/
theorem hgrn_algebraic : Cert.algebraic_Kernel7Ideal_Reference7Ideal_pre_gate_bounds (hKernel7Ideal := Cert.Kernel7Ideal.Gen.facts)
    (hReference7Ideal := Cert.Reference7Ideal.Gen.facts) (hPre_gate_bounds := Cert.Hgrn.boundFacts) := by
  intro m ρ m' ρ' hpre hagree
  have hb : ∀ c, Bounded (boundIn m c) := fun c => bounded_of _ _ _ (hpre c)
  refine ⟨_, _, Cert.Kernel7Ideal.Value.run_blocks m ρ, ?_⟩
  refine (θ_run Cert.Reference7Ideal.defs _ _).mono
    (fun _ h c => ⟨(h c).1.trans ((hgrn_result m' c).trans ?_), (h c).2.1.trans ((hgrn_states m' c).trans ?_), (h c).2.2⟩)
    (Cert.Reference7Ideal.Value.run (F := Ideal) m' ρ')
  · refine Eq.trans ?_ (hgrn_out_eq m c (hb c))
    exact at_three (f := fun P L G => Cert.Reference7Ideal.Step.R_main_v62 (HgrnRef.states P L 32) P G) (hagree c).1 (hagree c).2.1 (hagree c).2.2
  · refine Eq.trans ?_ (hgrn_kept_eq m c (hb c))
    exact congrArg₂ (fun P L => Cert.Reference7Ideal.Step.R_main_v41 (HgrnRef.states P L 32)) (hagree c).1 (hagree c).2.1

end Cert.Proof
end
-- ==== Proof.UpdateClaims.lean ====
/- The claims about the optimiser's step. -/
module

public import proofs.«01_k».proof.Defs
public import proofs.«01_k».proof.Proof.MergeKernel
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import Idealize.ShloMosaic.Lib.Quiescent

@[expose] public section

set_option maxRecDepth 16384

noncomputable section

namespace Cert.Update

open Idealize.ShloMosaic

/-- A number the program writes. -/
abbrev num (b : BitVec 32) : EReal := Ideal.ofBits .f32 b

/-- The running mean of the gradient, … -/
def mean (g m : EReal) : EReal := num 0x3F666666#32 * m + num 0x3DCCCCCD#32 * g

/-- … the running mean of its square, … -/
def square (g v : EReal) : EReal := num 0x3F7FBE77#32 * v + num 0x3A83126F#32 * (g * g)

/-- … and the weight's step. -/
def step (w g m v : EReal) : EReal :=
  num 0xBA83126F#32 * (Ideal.div (Ideal.div (mean g m) (num 0x3F26BD02#32)) (Ideal.sqrt (Ideal.div (square g v) (num 0x3C231ACC#32)) + num 0x322BCC77#32)
    + num 0x3C23D70A#32 * w)

end Cert.Update

namespace Cert.Kernel8Ideal.Update

open Cert.Kernel8Ideal Cert.Kernel8Ideal.Gen Cert.Kernel8Ideal.Value Idealize.ShloMosaic Idealize.ShloMosaic.TcCoe Idealize.SL.Sem
open Idealize.ShloMosaic.Pipeline (Dat)
open Cert.Update
open Cert.Kernel2Ideal.Merge (hz place)

/-! ## The blocks written -/

variable (x0 x1 x2 x3 : Vec Ideal S128x2688 .f32)

theorem pay1_eq : k0_pay1 (F := Ideal) x1 x2 = fun i => mean (x1 i) (x2 i) := rfl

theorem pay2_eq : k0_pay2 (F := Ideal) x1 x3 = fun i => square (x1 i) (x3 i) := rfl

theorem pay3_eq : k0_pay3 (F := Ideal) x1 x2 x3 x0 = fun i => step (x0 i) (x1 i) (x2 i) (x3 i) := rfl

theorem out4_eq : out0_4 x0 x1 x2 x3 = fun i => step (x0 i) (x1 i) (x2 i) (x3 i) := by
  unfold out0_4
  rw [View.canon_unit_zero hz]
  simp only [View.ld_unit_zero (S := S128x2688) hz, pay3_eq]

theorem out5_eq : out0_5 x0 x1 x2 x3 = fun i => mean (x1 i) (x2 i) := by
  unfold out0_5
  rw [View.canon_unit_zero hz]
  simp only [View.ld_unit_zero (S := S128x2688) hz, pay1_eq]

theorem out6_eq : out0_6 x0 x1 x2 x3 = fun i => square (x1 i) (x3 i) := by
  unfold out0_6
  rw [View.canon_unit_zero hz]
  simp only [View.ld_unit_zero (S := S128x2688) hz, pay2_eq]

theorem out7_eq : out0_7 x0 x1 x2 x3 = x1 := by
  unfold out0_7
  rw [View.canon_unit_zero hz, View.ld_unit_zero (S := S128x2688) hz]

/-! ## The arrays -/

variable (m : (ℓ : Loc nD τ sig) → Buf (Elt Ideal) ℓ) (c : Dev nD)

abbrev wIn : S2048x2688.Idx → EReal := m ((c : Thread nD τ).loc main_arg0)
abbrev gIn : S2048x2688.Idx → EReal := m ((c : Thread nD τ).loc main_arg1)
abbrev mIn : S2048x2688.Idx → EReal := m ((c : Thread nD τ).loc main_arg2)
abbrev vIn : S2048x2688.Idx → EReal := m ((c : Thread nD τ).loc main_arg3)

/-- The row of the arrays that row `r` of point `t`'s blocks is. -/
def rowOf (t : Fin cfg0.N) (r : Fin 128) : Fin 2048 :=
  ⟨128 * t.val + r.val, by have := Nat.lt_of_lt_of_eq t.isLt N_0; omega⟩

/-- Every window stands at the point's rows. -/
theorem stands (t : Fin cfg0.N) :
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0) :=
  (by decide +kernel : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0)
    ∧ (win0_7.index t 0 = t.val ∧ win0_7.index t 1 = 0)) t

variable (t : Fin cfg0.N) (r : Fin 128) (l : Fin 2688)

theorem seen_w : iblk m c 0 t (ix2 r l) = wIn m c (ix2 (rowOf t r) l) := by
  unfold iblk
  show ((cfg0.win 0).blk t).view.read (Elt Ideal) (V m c main_arg0) (ix2 r l) = _
  rw [View.read_apply, V_main_arg0]
  refine congrArg (wIn m c) (place _ _ _ ?_ ?_)
  · show win0_0.index t 0 * 128 + 1 * r.val = 128 * t.val + r.val; rw [(stands t).1.1]; omega
  · show win0_0.index t 1 * 2688 + 1 * l.val = l.val; rw [(stands t).1.2]; omega

theorem seen_g : iblk m c 1 t (ix2 r l) = gIn m c (ix2 (rowOf t r) l) := by
  unfold iblk
  show ((cfg0.win 1).blk t).view.read (Elt Ideal) (V m c main_arg1) (ix2 r l) = _
  rw [View.read_apply, V_main_arg1]
  refine congrArg (gIn m c) (place _ _ _ ?_ ?_)
  · show win0_1.index t 0 * 128 + 1 * r.val = 128 * t.val + r.val; rw [(stands t).2.1.1]; omega
  · show win0_1.index t 1 * 2688 + 1 * l.val = l.val; rw [(stands t).2.1.2]; omega

theorem seen_m : iblk m c 2 t (ix2 r l) = mIn m c (ix2 (rowOf t r) l) := by
  unfold iblk
  show ((cfg0.win 2).blk t).view.read (Elt Ideal) (V m c main_arg2) (ix2 r l) = _
  rw [View.read_apply, V_main_arg2]
  refine congrArg (mIn m c) (place _ _ _ ?_ ?_)
  · show win0_2.index t 0 * 128 + 1 * r.val = 128 * t.val + r.val; rw [(stands t).2.2.1.1]; omega
  · show win0_2.index t 1 * 2688 + 1 * l.val = l.val; rw [(stands t).2.2.1.2]; omega

theorem seen_v : iblk m c 3 t (ix2 r l) = vIn m c (ix2 (rowOf t r) l) := by
  unfold iblk
  show ((cfg0.win 3).blk t).view.read (Elt Ideal) (V m c main_arg3) (ix2 r l) = _
  rw [View.read_apply, V_main_arg3]
  refine congrArg (vIn m c) (place _ _ _ ?_ ?_)
  · show win0_3.index t 0 * 128 + 1 * r.val = 128 * t.val + r.val; rw [(stands t).2.2.2.1.1]; omega
  · show win0_3.index t 1 * 2688 + 1 * l.val = l.val; rw [(stands t).2.2.2.1.2]; omega

/-- Every place of an array is in some point's block. -/
theorem split (i : S2048x2688.Idx) : ∃ (t : Fin cfg0.N) (r : Fin 128) (l : Fin 2688), i = ix2 (rowOf t r) l := by
  have hN : cfg0.N = 16 := N_0
  have hi : (i 0).val < 2048 := (i 0).isLt
  have hj : (i 1).val < 2688 := (i 1).isLt
  refine ⟨⟨(i 0).val / 128, by omega⟩, ⟨(i 0).val % 128, Nat.mod_lt _ (by decide)⟩, ⟨(i 1).val, hj⟩, place _ _ _ ?_ rfl⟩
  show (i 0).val = 128 * ((i 0).val / 128) + (i 0).val % 128
  omega

theorem final4 : (dats m 0 c).arrAt 4 cfg0.N = fun i => step (wIn m c i) (gIn m c i) (mIn m c i) (vIn m c i) := by
  funext i
  obtain ⟨t, r, l, rfl⟩ := split i
  have hb := congrFun (blocks4 m c t (flush0_4 t)) (ix2 r l)
  rw [View.read_apply, flushed4, out4_eq] at hb
  have hi : ((cfg0.win 4).blk t).view.emb (ix2 r l) = ix2 (rowOf t r) l := place _ _ _
    (by show win0_4.index t 0 * 128 + 1 * r.val = 128 * t.val + r.val; rw [(stands t).2.2.2.2.1.1]; omega)
    (by show win0_4.index t 1 * 2688 + 1 * l.val = l.val; rw [(stands t).2.2.2.2.1.2]; omega)
  rw [hi] at hb
  refine hb.trans ?_
  show step (iblk m c 0 t (ix2 r l)) (iblk m c 1 t (ix2 r l)) (iblk m c 2 t (ix2 r l)) (iblk m c 3 t (ix2 r l)) = _
  rw [seen_w, seen_g, seen_m, seen_v]

theorem final5 : (dats m 0 c).arrAt 5 cfg0.N = fun i => mean (gIn m c i) (mIn m c i) := by
  funext i
  obtain ⟨t, r, l, rfl⟩ := split i
  have hb := congrFun (blocks5 m c t (flush0_5 t)) (ix2 r l)
  rw [View.read_apply, flushed5, out5_eq] at hb
  have hi : ((cfg0.win 5).blk t).view.emb (ix2 r l) = ix2 (rowOf t r) l := place _ _ _
    (by show win0_5.index t 0 * 128 + 1 * r.val = 128 * t.val + r.val; rw [(stands t).2.2.2.2.2.1.1]; omega)
    (by show win0_5.index t 1 * 2688 + 1 * l.val = l.val; rw [(stands t).2.2.2.2.2.1.2]; omega)
  rw [hi] at hb
  refine hb.trans ?_
  show mean (iblk m c 1 t (ix2 r l)) (iblk m c 2 t (ix2 r l)) = _
  rw [seen_g, seen_m]

theorem final6 : (dats m 0 c).arrAt 6 cfg0.N = fun i => square (gIn m c i) (vIn m c i) := by
  funext i
  obtain ⟨t, r, l, rfl⟩ := split i
  have hb := congrFun (blocks6 m c t (flush0_6 t)) (ix2 r l)
  rw [View.read_apply, flushed6, out6_eq] at hb
  have hi : ((cfg0.win 6).blk t).view.emb (ix2 r l) = ix2 (rowOf t r) l := place _ _ _
    (by show win0_6.index t 0 * 128 + 1 * r.val = 128 * t.val + r.val; rw [(stands t).2.2.2.2.2.2.1.1]; omega)
    (by show win0_6.index t 1 * 2688 + 1 * l.val = l.val; rw [(stands t).2.2.2.2.2.2.1.2]; omega)
  rw [hi] at hb
  refine hb.trans ?_
  show square (iblk m c 1 t (ix2 r l)) (iblk m c 3 t (ix2 r l)) = _
  rw [seen_g, seen_v]

theorem final7 : (dats m 0 c).arrAt 7 cfg0.N = gIn m c := by
  funext i
  obtain ⟨t, r, l, rfl⟩ := split i
  have hb := congrFun (blocks7 m c t (flush0_7 t)) (ix2 r l)
  rw [View.read_apply, flushed7, out7_eq] at hb
  have hi : ((cfg0.win 7).blk t).view.emb (ix2 r l) = ix2 (rowOf t r) l := place _ _ _
    (by show win0_7.index t 0 * 128 + 1 * r.val = 128 * t.val + r.val; rw [(stands t).2.2.2.2.2.2.2.1]; omega)
    (by show win0_7.index t 1 * 2688 + 1 * l.val = l.val; rw [(stands t).2.2.2.2.2.2.2.2]; omega)
  rw [hi] at hb
  exact hb.trans (seen_g m c t r l)

end Cert.Kernel8Ideal.Update

namespace Cert.Reference8Ideal.Update

open Cert.Reference8Ideal Cert.Reference8Ideal.Read Idealize.ShloMosaic
open Cert.Update

variable (w g m v : S2048x2688.Idx → EReal)

theorem mean_eq : val_main_v4 (F := Ideal) g m = fun i => mean (g i) (m i) := by
  funext i
  simp only [val_main_v4_apply, val_main_v1_apply, val_main_v3_apply, val_main_v0_apply, val_main_v2_apply, val_main_cst_apply, val_main_cst_0_apply]
  rfl

theorem square_eq : val_main_v10 (F := Ideal) g v = fun i => square (g i) (v i) := by
  funext i
  simp only [val_main_v10_apply, val_main_v6_apply, val_main_v9_apply, val_main_v5_apply, val_main_v8_apply, val_main_v7_apply, val_main_cst_1_apply, val_main_cst_2_apply]
  rfl

theorem step_eq : val_main_v23 (F := Ideal) w g m v = fun i => step (w i) (g i) (m i) (v i) := by
  funext i
  simp only [val_main_v23_apply, val_main_v22_apply, val_main_v21_apply, val_main_v20_apply, val_main_v19_apply, val_main_v18_apply, val_main_v17_apply,
    val_main_v16_apply, val_main_v15_apply, val_main_v14_apply, val_main_v13_apply, val_main_v12_apply, val_main_v11_apply, mean_eq, square_eq,
    val_main_cst_3_apply, val_main_cst_4_apply, val_main_cst_5_apply, val_main_cst_6_apply, val_main_cst_7_apply]
  rfl

end Cert.Reference8Ideal.Update

namespace Cert.Proof

open Idealize.ShloMosaic Idealize.ShloMosaic.TcCoe Idealize.SL.Sem

/-- The reference runs, keeps its arguments, and leaves every semaphore at zero. -/
theorem update_reference_frame : Cert.quiescent_Reference8Ideal (hReference8Ideal := Cert.Reference8Ideal.Gen.facts) :=
  fun m ρ _ => (θ_run Cert.Reference8Ideal.defs _ _).mono
    (fun r h => ⟨fun c => (h c).2.2.2.2, Idealize.ShloMosaic.sem_eq_zero_of_no_sems (by decide) r.2⟩)
    (Cert.Reference8Ideal.Value.run (F := Ideal) m ρ)

/-- The kernel's four results are the reference's. -/
theorem update_algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨_, _, _, _, Cert.Kernel8Ideal.Value.run_blocks m ρ, ?_⟩
  refine (θ_run Cert.Reference8Ideal.defs _ _).mono
    (fun _ h c => ⟨(h c).1.trans ((Cert.Reference8Ideal.Read.val_main_v23_eq _ _ _ _).trans ?_),
      (h c).2.1.trans ((Cert.Reference8Ideal.Read.val_main_v4_eq _ _).trans ?_),
      (h c).2.2.1.trans ((Cert.Reference8Ideal.Read.val_main_v10_eq _ _).trans ?_),
      (h c).2.2.2.1.trans ?_, (h c).2.2.2.2⟩)
    (Cert.Reference8Ideal.Value.run (F := Ideal) m' ρ')
  · rw [(hagree c).1, (hagree c).2.1, (hagree c).2.2.1, (hagree c).2.2.2]
    exact (Cert.Reference8Ideal.Update.step_eq _ _ _ _).trans (Cert.Kernel8Ideal.Update.final4 m c).symm
  · rw [(hagree c).2.1, (hagree c).2.2.1]
    exact (Cert.Reference8Ideal.Update.mean_eq _ _).trans (Cert.Kernel8Ideal.Update.final5 m c).symm
  · rw [(hagree c).2.1, (hagree c).2.2.2]
    exact (Cert.Reference8Ideal.Update.square_eq _ _).trans (Cert.Kernel8Ideal.Update.final6 m c).symm
  · rw [(hagree c).2.1]
    exact (Cert.Kernel8Ideal.Update.final7 m c).symm

end Cert.Proof

end
-- ==== Proof.ProductClaims.lean ====
/- The claims about the largest plain product, the projection's input gradient. -/
module

public import proofs.«01_k».proof.Defs
public import proofs.«01_k».proof.Proof.MergeKernel
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent

@[expose] public section

set_option maxRecDepth 16384

noncomputable section

namespace Cert.Product

variable {M : Type*} [AddCommMonoid M]

/-- A family over the contracted columns, continued by zero. -/
def longer (f : Fin 10752 → M) (a : ℕ) : M := if h : a < 10752 then f ⟨a, h⟩ else 0

theorem longer_of_lt (f : Fin 10752 → M) (a : ℕ) (h : a < 10752) : longer f a = f ⟨a, h⟩ := dif_pos h

/-- A sum over the contracted columns, in the three strips the kernel takes them in. -/
theorem sum_strips (f : Fin 10752 → M) :
    ∑ k : Fin 3584, f ⟨3584 * 0 + k.val, by omega⟩ + ∑ k : Fin 3584, f ⟨3584 * 1 + k.val, by omega⟩ + ∑ k : Fin 3584, f ⟨3584 * 2 + k.val, by omega⟩
      = ∑ k : Fin 10752, f k := by
  have h : ∀ n (hn : 3584 * n + 3584 ≤ 10752), ∑ k : Fin 3584, f ⟨3584 * n + k.val, by omega⟩ = ∑ k ∈ Finset.range 3584, longer f (3584 * n + k) := fun n hn => by
    rw [Finset.sum_range]
    exact Finset.sum_congr rfl fun k _ => (longer_of_lt f _ (by omega)).symm
  have hf : ∑ k : Fin 10752, f k = ∑ k ∈ Finset.range (3584 + 3584 + 3584), longer f k := by
    rw [Finset.sum_range]
    exact Finset.sum_congr rfl fun k _ => (longer_of_lt f _ k.isLt).symm
  rw [h 0 (by omega), h 1 (by omega), h 2 (by omega), hf, Finset.sum_range_add, Finset.sum_range_add]
  simp only [Nat.mul_zero, Nat.zero_add, Nat.mul_one]

end Cert.Product

namespace Cert.Kernel9Ideal.Product

open Cert.Kernel9Ideal Cert.Kernel9Ideal.Gen Cert.Kernel9Ideal.Value Idealize.ShloMosaic Idealize.ShloMosaic.TcCoe Idealize.SL.Sem
open Idealize.ShloMosaic.Pipeline (Dat)
open Cert.Product
open Cert.Kernel2Ideal.Merge (hz place)

/-! ## What a point leaves -/

/-- A strip's part of the product. -/
abbrev part (x0 x1 : Vec Ideal S1024x3584 .bf16) : S1024x1024.Idx → EReal :=
  fun i => ∑ k : Fin 3584, (x0 (ix2 (i 0) k) : EReal) * x1 (ix2 (i 1) k)

variable (x0 x1 : Vec Ideal S1024x3584 .bf16) (s : Vec Ideal S1024x1024 .f32)

theorem pay1_eq : k0_pay1 (F := Ideal) x0 x1 = part x0 x1 := by
  funext i
  idx_vars i
  unfold k0_pay1
  pointwise
  rfl

theorem pay2_eq : k0_pay2 (F := Ideal) x0 x1 = part x0 x1 := by
  unfold k0_pay2
  rw [pay1_eq]
  exact shapeCast_self _ _

theorem pay3_eq : k0_pay3 (F := Ideal) x0 x1 s = fun i => s i + part x0 x1 i := by
  unfold k0_pay3
  rw [pay1_eq]
  exact shapeCast_self _ _

theorem pay4_eq : k0_pay4 (F := Ideal) x0 x1 s = fun i => s i + part x0 x1 i := by
  unfold k0_pay4
  rw [pay1_eq]
  rfl

variable (c : Dev nD) (i : grid0.Coords) (a3 : Memref sig .tc .vmem S1024x3584 .bf16) (h3 : a3.IsWhole) (a4 : Memref sig .tc .vmem S1024x3584 .bf16)
  (h4 : a4.IsWhole) (a6 : Memref sig .tc .vmem S1024x1024 .bf16) (h6 : a6.IsWhole) (a7 : Memref sig .tc .vmem S1024x1024 .f32) (h7 : a7.IsWhole)

/-- The first strip's point leaves its part in the scratch, … -/
theorem scratch_A (hc0 : cond0_0 i) (hc1 : ¬cond0_1 i) (hc2 : ¬cond0_2 i) :
    sout0_A_0 c i a3 h3 a4 h4 a6 h6 a7 h7 hc0 hc1 hc2 x0 x1 = part x0 x1 := by
  unfold sout0_A_0
  rw [View.read_writes_eq_canon _ _ _ (scover0_A_0 c i a3 h3 a4 h4 a6 h6 a7 h7 hc0 hc1 hc2 x0 x1)]
  unfold kernelRun0_A
  dsimp only
  sl_unfold_words
  rw [View.canon_unit_zero hz]
  simp only [View.readAt_eq_ld, h3.read_unread, h4.read_unread, View.ld_unit_zero (S := S1024x3584) hz, pay2_eq]

/-- … the second's adds its own, … -/
theorem scratch_B (hc0 : ¬cond0_0 i) (hc1 : cond0_1 i) (hc2 : ¬cond0_2 i) :
    sout0_B_0 c i a3 h3 a4 h4 a6 h6 a7 h7 hc0 hc1 hc2 x0 x1 s = fun i => s i + part x0 x1 i := by
  unfold sout0_B_0
  rw [View.read_writes_eq_canon _ _ _ (scover0_B_0 c i a3 h3 a4 h4 a6 h6 a7 h7 hc0 hc1 hc2 x0 x1 s)]
  unfold kernelRun0_B
  dsimp only
  sl_unfold_words
  rw [View.canon_unit_zero hz]
  simp only [View.readAt_eq_ld, h3.read_unread, h4.read_unread, h7.read_unread, View.ld_unit_zero (S := S1024x3584) hz,
    View.ld_unit_zero (S := S1024x1024) hz, pay3_eq]

/-- … and the third's writes the whole product. -/
theorem out_C (hc0 : ¬cond0_0 i) (hc1 : ¬cond0_1 i) (hc2 : cond0_2 i) :
    out0_C_2 c i a3 h3 a4 h4 a6 h6 a7 h7 hc0 hc1 hc2 x0 x1 s = fun i => s i + part x0 x1 i := by
  unfold out0_C_2
  rw [View.read_writes_eq_canon _ _ _ (cover0_C_2 c i a3 h3 a4 h4 a6 h6 a7 h7 hc0 hc1 hc2 x0 x1 s)]
  unfold kernelRun0_C
  dsimp only
  sl_unfold_words
  rw [View.canon_unit_zero hz]
  simp only [View.readAt_eq_ld, h3.read_unread, h4.read_unread, h7.read_unread, View.ld_unit_zero (S := S1024x3584) hz,
    View.ld_unit_zero (S := S1024x1024) hz, pay4_eq]

/-! ## The array -/

variable (m : (ℓ : Loc nD τ sig) → Buf (Elt Ideal) ℓ)

abbrev gIn : S4096x10752.Idx → EReal := m ((c : Thread nD τ).loc main_arg0)
abbrev wIn : S2048x10752.Idx → EReal := m ((c : Thread nD τ).loc main_arg1)

/-- The product's element. -/
abbrev prod (g : S4096x10752.Idx → EReal) (w : S2048x10752.Idx → EReal) (r : Fin 4096) (j : Fin 2048) : EReal :=
  ∑ k : Fin 10752, g (ix2 r k) * w (ix2 j k)

/-- The row of the gradient that row `r` of point `t`'s blocks is, … -/
def rowOf (t : Fin cfg0.N) (r : Fin 1024) : Fin 4096 :=
  ⟨1024 * (t.val / 6) + r.val, by have := Nat.lt_of_lt_of_eq t.isLt N_0; omega⟩

/-- … the weight's row, … -/
def colOf (t : Fin cfg0.N) (l : Fin 1024) : Fin 2048 := ⟨1024 * (t.val / 3 % 2) + l.val, by omega⟩

/-- … and the contracted column. -/
def stripOf (n : ℕ) (k : Fin 3584) : Fin 10752 := ⟨3584 * (n % 3) + k.val, by omega⟩

/-- Where each window stands at a point. -/
theorem stands (t : Fin cfg0.N) :
    (win0_0.index t 0 = t.val / 6 ∧ win0_0.index t 1 = t.val % 3) ∧ (win0_1.index t 0 = t.val / 3 % 2 ∧ win0_1.index t 1 = t.val % 3)
    ∧ (win0_2.index t 0 = t.val / 6 ∧ win0_2.index t 1 = t.val / 3 % 2) :=
  (by decide +kernel : ∀ t : Fin grid0.N,
    (win0_0.index t 0 = t.val / 6 ∧ win0_0.index t 1 = t.val % 3) ∧ (win0_1.index t 0 = t.val / 3 % 2 ∧ win0_1.index t 1 = t.val % 3)
    ∧ (win0_2.index t 0 = t.val / 6 ∧ win0_2.index t 1 = t.val / 3 % 2)) t

theorem seen_g (t : Fin cfg0.N) (r : Fin 1024) (k : Fin 3584) : iblk m c 0 t (ix2 r k) = gIn c m (ix2 (rowOf t r) (stripOf t.val k)) := by
  unfold iblk
  show ((cfg0.win 0).blk t).view.read (Elt Ideal) (V m c main_arg0) (ix2 r k) = _
  rw [View.read_apply]
  refine congrArg (gIn c m) (place _ _ _ ?_ ?_)
  · show win0_0.index t 0 * 1024 + 1 * r.val = 1024 * (t.val / 6) + r.val; rw [(stands t).1.1]; omega
  · show win0_0.index t 1 * 3584 + 1 * k.val = 3584 * (t.val % 3) + k.val; rw [(stands t).1.2]; omega

theorem seen_w (t : Fin cfg0.N) (l : Fin 1024) (k : Fin 3584) : iblk m c 1 t (ix2 l k) = wIn c m (ix2 (colOf t l) (stripOf t.val k)) := by
  unfold iblk
  show ((cfg0.win 1).blk t).view.read (Elt Ideal) (V m c main_arg1) (ix2 l k) = _
  rw [View.read_apply]
  refine congrArg (wIn c m) (place _ _ _ ?_ ?_)
  · show win0_1.index t 0 * 1024 + 1 * l.val = 1024 * (t.val / 3 % 2) + l.val; rw [(stands t).2.1.1]; omega
  · show win0_1.index t 1 * 3584 + 1 * k.val = 3584 * (t.val % 3) + k.val; rw [(stands t).2.1.2]; omega

/-- A point's part of the product, of the arguments. -/
theorem part_blk (t : Fin cfg0.N) (r l : Fin 1024) : part (iblk m c 0 t) (iblk m c 1 t) (ix2 r l)
    = ∑ k : Fin 3584, gIn c m (ix2 (rowOf t r) (stripOf t.val k)) * wIn c m (ix2 (colOf t l) (stripOf t.val k)) :=
  Finset.sum_congr rfl fun k _ => congr (congrArg HMul.hMul (seen_g c m t r k)) (seen_w c m t l k)

/-- After a block's third point its three parts stand in the result's block. -/
theorem written (n : ℕ) (hn : n + 1 + 1 < cfg0.N) (h : n % 3 = 0) :
    (outsAt0 m c (n + 1 + 1) hn).1 = fun i =>
      part (iblk m c 0 ⟨n, by omega⟩) (iblk m c 1 ⟨n, by omega⟩) i + part (iblk m c 0 ⟨n + 1, by omega⟩) (iblk m c 1 ⟨n + 1, by omega⟩) i
        + part (iblk m c 0 ⟨n + 1 + 1, hn⟩) (iblk m c 1 ⟨n + 1 + 1, hn⟩) i := by
  have hA : (outsAt0 m c n (by omega)).2 = part (iblk m c 0 ⟨n, by omega⟩) (iblk m c 1 ⟨n, by omega⟩) := by
    have e := outsAt0_A m c ⟨n, by omega⟩ h (by show ¬n % 3 = 1; omega) (by show ¬n % 3 = 2; omega)
    refine (congrArg Prod.snd e).trans ?_
    dsimp only
    apply scratch_A
  have hB : (outsAt0 m c (n + 1) (by omega)).2
      = fun i => (outsAt0 m c n (by omega)).2 i + part (iblk m c 0 ⟨n + 1, by omega⟩) (iblk m c 1 ⟨n + 1, by omega⟩) i := by
    have e := outsAt0_B m c ⟨n + 1, by omega⟩ (by show ¬(n + 1) % 3 = 0; omega) (by show (n + 1) % 3 = 1; omega) (by show ¬(n + 1) % 3 = 2; omega)
    refine (congrArg Prod.snd e).trans ?_
    dsimp only
    apply scratch_B
  have hC : (outsAt0 m c (n + 1 + 1) hn).1
      = fun i => (outsAt0 m c (n + 1) (by omega)).2 i + part (iblk m c 0 ⟨n + 1 + 1, hn⟩) (iblk m c 1 ⟨n + 1 + 1, hn⟩) i := by
    have e := outsAt0_C m c ⟨n + 1 + 1, hn⟩ (by show ¬(n + 1 + 1) % 3 = 0; omega) (by show ¬(n + 1 + 1) % 3 = 1; omega) (by show (n + 1 + 1) % 3 = 2; omega)
    refine (congrArg Prod.fst e).trans ?_
    dsimp only
    apply out_C
  rw [hC, hB, hA]

/-- Two points that write their blocks back write different ones. -/
theorem apart (t t' : Fin cfg0.N) (hf : (cfg0.win 2).flush t = true) (hf' : (cfg0.win 2).flush t' = true) (hne : t ≠ t') :
    Disjoint ((cfg0.win 2).blk t).view.set ((cfg0.win 2).blk t').view.set := by
  refine (cfg0.win 2).disjoint_blk fun h => hne (Fin.ext ?_)
  have e0 : win0_2.index t 0 = win0_2.index t' 0 := congrFun h 0
  have e1 : win0_2.index t 1 = win0_2.index t' 1 := congrFun h 1
  rw [(stands t).2.2.1, (stands t').2.2.1] at e0
  rw [(stands t).2.2.2, (stands t').2.2.2] at e1
  have p := (flush0_2 t).mp hf
  have p' := (flush0_2 t').mp hf'
  omega

/-- Every place of the result is in the block of some third point. -/
theorem split (i : S4096x2048.Idx) : ∃ (n : ℕ) (hn : n + 1 + 1 < cfg0.N) (r l : Fin 1024), n % 3 = 0 ∧ i = ix2 (rowOf ⟨n + 1 + 1, hn⟩ r) (colOf ⟨n + 1 + 1, hn⟩ l) := by
  have hN : cfg0.N = 24 := N_0
  have hi : (i 0).val < 4096 := (i 0).isLt
  have hj : (i 1).val < 2048 := (i 1).isLt
  refine ⟨6 * ((i 0).val / 1024) + 3 * ((i 1).val / 1024), by omega, ⟨(i 0).val % 1024, Nat.mod_lt _ (by decide)⟩, ⟨(i 1).val % 1024, Nat.mod_lt _ (by decide)⟩,
    by omega, place _ _ _ ?_ ?_⟩
  · show (i 0).val = 1024 * ((6 * ((i 0).val / 1024) + 3 * ((i 1).val / 1024) + 1 + 1) / 6) + (i 0).val % 1024; omega
  · show (i 1).val = 1024 * ((6 * ((i 0).val / 1024) + 3 * ((i 1).val / 1024) + 1 + 1) / 3 % 2) + (i 1).val % 1024; omega

theorem final2 : (dats m 0 c).arrAt 2 cfg0.N = fun i => prod (gIn c m) (wIn c m) (i 0) (i 1) := by
  funext i
  obtain ⟨n, hn, r, l, h, rfl⟩ := split i
  have hf : (cfg0.win 2).flush ⟨n + 1 + 1, hn⟩ = true := (flush0_2 _).mpr (by show (n + 1 + 1) % 3 = 2; omega)
  have hb := congrFun ((dats m 0 c).read_blk_arrAt_eq_flushed 2 apart cfg0.N ⟨n + 1 + 1, hn⟩ hn hf) (ix2 r l)
  rw [View.read_apply, flushed2, written c m n hn h] at hb
  have hi : ((cfg0.win 2).blk ⟨n + 1 + 1, hn⟩).view.emb (ix2 r l) = ix2 (rowOf ⟨n + 1 + 1, hn⟩ r) (colOf ⟨n + 1 + 1, hn⟩ l) := place _ _ _
    (by show win0_2.index ⟨n + 1 + 1, hn⟩ 0 * 1024 + 1 * r.val = 1024 * ((n + 1 + 1) / 6) + r.val; rw [(stands ⟨n + 1 + 1, hn⟩).2.2.1]; dsimp only; omega)
    (by show win0_2.index ⟨n + 1 + 1, hn⟩ 1 * 1024 + 1 * l.val = 1024 * ((n + 1 + 1) / 3 % 2) + l.val; rw [(stands ⟨n + 1 + 1, hn⟩).2.2.2]; dsimp only; omega)
  rw [hi] at hb
  refine hb.trans ?_
  show part (iblk m c 0 ⟨n, by omega⟩) (iblk m c 1 ⟨n, by omega⟩) (ix2 r l) + part (iblk m c 0 ⟨n + 1, by omega⟩) (iblk m c 1 ⟨n + 1, by omega⟩) (ix2 r l)
        + part (iblk m c 0 ⟨n + 1 + 1, hn⟩) (iblk m c 1 ⟨n + 1 + 1, hn⟩) (ix2 r l) = prod (gIn c m) (wIn c m) (rowOf ⟨n + 1 + 1, hn⟩ r) (colOf ⟨n + 1 + 1, hn⟩ l)
  rw [part_blk, part_blk, part_blk]
  have r0 : rowOf ⟨n, by omega⟩ r = rowOf ⟨n + 1 + 1, hn⟩ r := Fin.ext (by show 1024 * (n / 6) + r.val = 1024 * ((n + 1 + 1) / 6) + r.val; omega)
  have r1 : rowOf ⟨n + 1, by omega⟩ r = rowOf ⟨n + 1 + 1, hn⟩ r := Fin.ext (by show 1024 * ((n + 1) / 6) + r.val = 1024 * ((n + 1 + 1) / 6) + r.val; omega)
  have l0 : colOf ⟨n, by omega⟩ l = colOf ⟨n + 1 + 1, hn⟩ l := Fin.ext (by show 1024 * (n / 3 % 2) + l.val = 1024 * ((n + 1 + 1) / 3 % 2) + l.val; omega)
  have l1 : colOf ⟨n + 1, by omega⟩ l = colOf ⟨n + 1 + 1, hn⟩ l := Fin.ext (by show 1024 * ((n + 1) / 3 % 2) + l.val = 1024 * ((n + 1 + 1) / 3 % 2) + l.val; omega)
  rw [r0, r1, l0, l1]
  have k0 : ∀ k, stripOf n k = ⟨3584 * 0 + k.val, by omega⟩ := fun k => Fin.ext (by show 3584 * (n % 3) + k.val = 3584 * 0 + k.val; omega)
  have k1 : ∀ k, stripOf (n + 1) k = ⟨3584 * 1 + k.val, by omega⟩ := fun k => Fin.ext (by show 3584 * ((n + 1) % 3) + k.val = 3584 * 1 + k.val; omega)
  have k2 : ∀ k, stripOf (n + 1 + 1) k = ⟨3584 * 2 + k.val, by omega⟩ := fun k => Fin.ext (by show 3584 * ((n + 1 + 1) % 3) + k.val = 3584 * 2 + k.val; omega)
  simp only [k0, k1, k2]
  exact sum_strips fun k => gIn c m (ix2 (rowOf ⟨n + 1 + 1, hn⟩ r) k) * wIn c m (ix2 (colOf ⟨n + 1 + 1, hn⟩ l) k)

end Cert.Kernel9Ideal.Product

namespace Cert.Reference9Ideal.Product

open Cert.Reference9Ideal Cert.Reference9Ideal.Read Idealize.ShloMosaic

theorem product_eq (g : S4096x10752.Idx → EReal) (w : S2048x10752.Idx → EReal) :
    val_main_v4 (F := Ideal) g w = fun i => Cert.Kernel9Ideal.Product.prod g w (i 0) (i 1) := by
  funext i
  refine (val_main_v4_apply (F := Ideal) g w i).trans ?_
  refine (val_main_v3_apply g w i).trans (Finset.sum_congr rfl fun k _ => ?_)
  rw [val_main_v2_apply]
  refine congr (congrArg HMul.hMul (congrArg g (funext fun a => ?_))) (congrArg w (funext fun a => ?_))
  · match a with
    | ⟨0, _⟩ => rfl
    | ⟨1, _⟩ => rfl
  · match a with
    | ⟨0, _⟩ => rfl
    | ⟨1, _⟩ => rfl

end Cert.Reference9Ideal.Product

namespace Cert.Proof

open Idealize.ShloMosaic Idealize.ShloMosaic.TcCoe Idealize.SL.Sem

/-- The reference runs, keeps its arguments, and leaves every semaphore at zero. -/
theorem product_reference_frame : Cert.quiescent_Reference9Ideal (hReference9Ideal := Cert.Reference9Ideal.Gen.facts) :=
  fun m ρ _ => (θ_run Cert.Reference9Ideal.defs _ _).mono
    (fun r h => ⟨fun c => (h c).2, Idealize.ShloMosaic.sem_eq_zero_of_no_sems (by decide) r.2⟩)
    (Cert.Reference9Ideal.Value.run (F := Ideal) m ρ)

/-- The kernel's product is the reference's. -/
theorem product_algebraic : Cert.algebraic_Kernel9Ideal_Reference9Ideal (hKernel9Ideal := Cert.Kernel9Ideal.Gen.facts)
    (hReference9Ideal := Cert.Reference9Ideal.Gen.facts) := by
  intro m ρ m' ρ' _ hagree
  refine ⟨_, Cert.Kernel9Ideal.Value.run_blocks m ρ, ?_⟩
  refine (θ_run Cert.Reference9Ideal.defs _ _).mono
    (fun _ h c => ⟨(h c).1.trans ((Cert.Reference9Ideal.Read.val_main_v4_eq _ _).trans ?_), (h c).2⟩)
    (Cert.Reference9Ideal.Value.run (F := Ideal) m' ρ')
  rw [(hagree c).1, (hagree c).2.1]
  exact (Cert.Reference9Ideal.Product.product_eq _ _).trans (Cert.Kernel9Ideal.Product.final2 c m).symm

end Cert.Proof

end
-- ==== Proof.WgradClaims.lean ====
/- The claims about one half of the projection's weight gradient. -/
module

public import proofs.«01_k».proof.Defs
public import proofs.«01_k».proof.Proof.MergeKernel
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.Value
public import Idealize.ShloMosaic.Lib.Quiescent

@[expose] public section

set_option maxRecDepth 16384

noncomputable section

namespace Cert.Wgrad

open Idealize.ShloMosaic

/-- The predicate's shape relation. -/
instance halfFacts : Cert.Pre_is_half.Facts where
  shapeCasts_S1_S_ := by decide

instance : Subsingleton Cert.Pre_is_half.S1.Idx := ⟨fun a b => funext fun k => match k with
  | ⟨0, _⟩ => Fin.ext (by have ha : (a 0).val < 1 := (a 0).isLt; have hb : (b 0).val < 1 := (b 0).isLt; show (a 0).val = (b 0).val; omega)⟩

theorem zero_or_one (y : BitVec 32) (h : IntOp.ori (IntOp.cmpi .eq y 0#32) (IntOp.cmpi .eq y 1#32) = 1#1) : y = 0#32 ∨ y = 1#32 := by
  by_cases h0 : y = 0#32
  · exact .inl h0
  by_cases h1 : y = 1#32
  · exact .inr h1
  exfalso
  have e0 : (y == 0#32) = false := beq_eq_false_iff_ne.mpr h0
  have e1 : (y == 1#32) = false := beq_eq_false_iff_ne.mpr h1
  have h' : BitVec.ofBool (y == 0#32) ||| BitVec.ofBool (y == 1#32) = 1#1 := h
  rw [e0, e1] at h'
  exact absurd h' (by decide)

/-- The precondition says which half is asked for: the lower or the upper. -/
theorem half_of {F : FTy → Type} [FloatOps F] (A : FVec F Cert.Pre_is_half.S4096x2048 .bf16) (B : FVec F Cert.Pre_is_half.S4096x10752 .bf16)
    (x : IVec Cert.Pre_is_half.S1 32) (h : Cert.Pre_is_half.fn (F := F) A B x = fun _ => 1#1) (i : Cert.Pre_is_half.S1.Idx) : x i = 0#32 ∨ x i = 1#32 := by
  have e := congrFun h (fun k => k.elim0)
  have hs : shapeCast Cert.Pre_is_half.S_ x Cert.Pre_is_half.Facts.shapeCasts_S1_S_ (fun k => k.elim0) = x i := congrArg x (Subsingleton.elim _ _)
  refine zero_or_one (x i) ?_
  rw [← hs]
  exact e

theorem below_two (y : BitVec 32) (h : y = 0#32 ∨ y = 1#32) : y.toNat < 2 := by
  rcases h with rfl | rfl
  · decide
  · decide

end Cert.Wgrad

namespace Cert.Kernel10.Wgrad

open Cert.Kernel10 Cert.Kernel10.Gen Idealize.ShloMosaic Idealize.ShloMosaic.TcCoe

/-- Under the precondition the window of the activations lies inside their array. -/
theorem inside (m : (ℓ : Loc nD τ sig) → Buf (Elt Bits) ℓ) (h : Cert.Pre_Kernel10 m) : Ok m := by
  refine fun i => ⟨fun a => ?_, .inr (Affine.block_words_dvd (of_decide_eq_true rfl) (by decide))⟩
  match a with
  | ⟨0, _⟩ => show (0 + 1) * 4096 ≤ 4096; omega
  | ⟨1, _⟩ =>
    have e := Cert.Wgrad.below_two _ (Cert.Wgrad.half_of _ _ _ (h 0) (ix1 0))
    show (_ + 1) * 1024 ≤ 2048
    have e' : cc0_transform_0 inb_S1_S1_0 numel1_S1 (tbl m) i 1 < 2 := by
      refine Nat.lt_of_le_of_lt (le_of_eq (congrArg BitVec.toNat (congrArg (tbl m 0 : S1.Idx → BitVec 32) ?_))) e
      exact @Subsingleton.elim Cert.Pre_is_half.S1.Idx _ _ _
    have e'' : cc0_transform_0 inb_S1_S1_0 numel1_S1 (tbl m) i ⟨1, by decide⟩ < 2 := e'
    omega

end Cert.Kernel10.Wgrad

namespace Cert.Kernel10Ideal.Wgrad

open Cert.Kernel10Ideal Cert.Kernel10Ideal.Gen Idealize.ShloMosaic Idealize.ShloMosaic.TcCoe Idealize.SL.Sem
open Idealize.ShloMosaic.Pipeline (Dat)
open Cert.Kernel2Ideal.Merge (hz place)

theorem hz3 : (![0, 0, 0] : Fin 3 → Nat) = fun _ => 0 := funext fun a => by fin_cases a <;> rfl

/-! ## What a point leaves -/

/-- A point's product: its half of the activations' columns with its strip of the gradient's. -/
theorem pay_apply (x0 : Vec Ideal S4096x1024 .bf16) (x1 : Vec Ideal S4096x896 .bf16) (r : Fin 1024) (q : Fin 896) :
    k0_pay1 (F := Ideal) x0 x1 (ix3 0 r q) = ∑ k : Fin 4096, (x0 (ix2 k r) : EReal) * x1 (ix2 k q) := by
  unfold k0_pay1
  pointwise

theorem out_eq (c : Dev nD) (i : grid0.Coords) (a2 : Memref sig .tc .vmem S4096x1024 .bf16) (h2 : a2.IsWhole) (a3 : Memref sig .tc .vmem S4096x896 .bf16)
    (h3 : a3.IsWhole) (a4 : Memref sig .tc .vmem S1x1024x896 .bf16) (h4 : a4.IsWhole) (x0 : Vec Ideal S4096x1024 .bf16) (x1 : Vec Ideal S4096x896 .bf16)
    (xt : TbBuf0 (F := Ideal) c tbM0_0) : out0_A_2 c i a2 h2 a3 h3 a4 h4 x0 x1 xt = k0_pay1 x0 x1 := by
  unfold out0_A_2
  rw [View.read_writes_eq_canon _ _ _ (cover0_A_2 c i a2 h2 a3 h3 a4 h4 x0 x1 xt)]
  unfold kernelRun0_A
  dsimp only
  sl_unfold_words
  rw [View.canon_unit_zero hz3]
  simp only [View.readAt_eq_ld, h2.read_unread, h3.read_unread, View.ld_unit_zero (S := S4096x1024) hz, View.ld_unit_zero (S := S4096x896) hz]

/-! ## The array -/

/-- The weight gradient's element. -/
abbrev grad (h : S4096x2048.Idx → EReal) (d : S4096x10752.Idx → EReal) (r : Fin 2048) (j : Fin 10752) : EReal :=
  ∑ k : Fin 4096, h (ix2 k r) * d (ix2 k j)

/-- The row of the whole gradient that row `r` of a half is, … -/
def rowOf (a : ℕ) (ha : a < 2) (r : Fin 1024) : Fin 2048 := ⟨1024 * a + r.val, by omega⟩

/-- … the column that column `q` of a slab is, … -/
def colOf (s : Fin 4) (q : Fin 2688) : Fin 10752 := ⟨2688 * s.val + q.val, by omega⟩

/-- … the slab a point writes, … -/
def slabOf (t : Fin grid0.N) : Fin 4 := ⟨t.val / 3, by have := Nat.lt_of_lt_of_eq t.isLt N_0; omega⟩

/-- … and the place of its strip's column there. -/
def stripOf (t : Fin grid0.N) (q : Fin 896) : Fin 2688 := ⟨896 * (t.val % 3) + q.val, by omega⟩

/-- Where the windows stand that read no table. -/
theorem stands (t : Fin grid0.N) : (cc0_transform_1 (grid0.coords t) 0 = 0 ∧ cc0_transform_1 (grid0.coords t) 1 = t.val)
    ∧ (cc0_transform_2 (grid0.coords t) 0 = t.val / 3 ∧ cc0_transform_2 (grid0.coords t) 1 = 0 ∧ cc0_transform_2 (grid0.coords t) 2 = t.val % 3) :=
  (by decide +kernel : ∀ t : Fin grid0.N, (cc0_transform_1 (grid0.coords t) 0 = 0 ∧ cc0_transform_1 (grid0.coords t) 1 = t.val)
    ∧ (cc0_transform_2 (grid0.coords t) 0 = t.val / 3 ∧ cc0_transform_2 (grid0.coords t) 1 = 0 ∧ cc0_transform_2 (grid0.coords t) 2 = t.val % 3)) t

theorem place_o (i : S4x1024x2688.Idx) (s : Fin 4) (r : Fin 1024) (q : Fin 2688) (h0 : (i 0).val = s.val) (h1 : (i 1).val = r.val)
    (h2 : (i 2).val = q.val) : i = ix3 s r q := by
  funext a
  apply Fin.ext
  match a with
  | ⟨0, _⟩ => exact h0
  | ⟨1, _⟩ => exact h1
  | ⟨2, _⟩ => exact h2

variable (m : (ℓ : Loc nD τ sig) → Buf (Elt Ideal) ℓ)

/-- The number of the half asked for. -/
abbrev halfNo : ℕ := ((m (((0 : Dev nD) : Thread nD τ).loc main_arg2) : S1.Idx → BitVec 32) (ix1 0)).toNat

theorem reads_half (i : grid0.Coords) : cc0_transform_0 inb_S1_S1_0 numel1_S1 (tbl m) i 1 = halfNo m :=
  congrArg BitVec.toNat (congrArg (tbl m 0 : S1.Idx → BitVec 32) (@Subsingleton.elim Cert.Pre_is_half.S1.Idx _ _ _))

theorem half_lt (h : Cert.Pre_Kernel10Ideal m) : halfNo m < 2 := Cert.Wgrad.below_two _ (Cert.Wgrad.half_of _ _ _ (h 0) (ix1 0))

/-- Under the precondition the window of the activations lies inside their array. -/
theorem inside (h : Cert.Pre_Kernel10Ideal m) : Ok m := by
  refine fun i => ⟨fun a => ?_, .inr (Affine.block_words_dvd (of_decide_eq_true rfl) (by decide))⟩
  match a with
  | ⟨0, _⟩ => show (0 + 1) * 4096 ≤ 4096; omega
  | ⟨1, _⟩ =>
    have e : cc0_transform_0 inb_S1_S1_0 numel1_S1 (tbl m) i ⟨1, by decide⟩ = halfNo m := reads_half m i
    have := half_lt m h
    show (_ + 1) * 1024 ≤ 2048
    omega

variable (hO : Ok m) (hh : halfNo m < 2) (c : Dev nD)

abbrev hIn : S4096x2048.Idx → EReal := m ((c : Thread nD τ).loc main_arg0)
abbrev dIn : S4096x10752.Idx → EReal := m ((c : Thread nD τ).loc main_arg1)

theorem seen_h (t : Fin (cfgM m hO).N) (k : Fin 4096) (r : Fin 1024) : iblk m hO c 0 t (ix2 k r) = hIn m c (ix2 k (rowOf (halfNo m) hh r)) := by
  unfold iblk
  refine (View.read_apply _ _).trans ?_
  refine congrArg (hIn m c) (place _ _ _ ?_ ?_)
  · show 0 * 4096 + 1 * k.val = k.val; omega
  · show cc0_transform_0 inb_S1_S1_0 numel1_S1 (tbl m) (grid0.coords t) 1 * 1024 + 1 * r.val = 1024 * halfNo m + r.val
    rw [reads_half]; omega

theorem seen_d (t : Fin (cfgM m hO).N) (k : Fin 4096) (q : Fin 896) :
    iblk m hO c 1 t (ix2 k q) = dIn m c (ix2 k (colOf (slabOf t) (stripOf t q))) := by
  unfold iblk
  refine (View.read_apply _ _).trans ?_
  refine congrArg (dIn m c) (place _ _ _ ?_ ?_)
  · show cc0_transform_1 (grid0.coords t) 0 * 4096 + 1 * k.val = k.val; rw [(stands t).1.1]; omega
  · show cc0_transform_1 (grid0.coords t) 1 * 896 + 1 * q.val = 2688 * (t.val / 3) + (896 * (t.val % 3) + q.val); rw [(stands t).1.2]; omega

/-- What a point writes back, of the arguments. -/
theorem written (t : Fin (cfgM m hO).N) (r : Fin 1024) (q : Fin 896) :
    (dats m hO 0 c).flushed 2 t (ix3 0 r q) = grad (hIn m c) (dIn m c) (rowOf (halfNo m) hh r) (colOf (slabOf t) (stripOf t q)) := by
  have e : (dats m hO 0 c).flushed 2 t = k0_pay1 (iblk m hO c 0 t) (iblk m hO c 1 t) := by
    show ((cfgM m hO).win 2).cut (grid0.coords t) ((dats m hO 0 c).after 2 t) = _
    rw [after0_2]
    unfold outsAt0
    exact out_eq c _ _ _ _ _ _ _ _ _ _
  refine (congrFun e (ix3 0 r q)).trans ((pay_apply _ _ r q).trans ?_)
  exact Finset.sum_congr rfl fun k _ => congr (congrArg HMul.hMul (seen_h m hO hh c t k r)) (seen_d m hO c t k q)

/-- Two points write different blocks. -/
theorem apart (t t' : Fin (cfgM m hO).N) (hne : t ≠ t') :
    Disjoint (((cfgM m hO).win 2).blk t).view.set (((cfgM m hO).win 2).blk t').view.set := by
  refine ((cfgM m hO).win 2).disjoint_blk fun h => hne (Fin.ext ?_)
  have e0 : cc0_transform_2 (grid0.coords t) 0 = cc0_transform_2 (grid0.coords t') 0 := congrFun h (0 : Fin 3)
  have e2 : cc0_transform_2 (grid0.coords t) 2 = cc0_transform_2 (grid0.coords t') 2 := congrFun h (2 : Fin 3)
  rw [(stands t).2.1, (stands t').2.1] at e0
  rw [(stands t).2.2.2, (stands t').2.2.2] at e2
  omega

/-- Every place of the result is in the block of some point. -/
theorem split (i : S4x1024x2688.Idx) : ∃ (t : Fin grid0.N) (r : Fin 1024) (q : Fin 896), i = ix3 (slabOf t) r (stripOf t q) := by
  have hN : grid0.N = 12 := N_0
  have h0 : (i 0).val < 4 := (i 0).isLt
  have h2 : (i 2).val < 2688 := (i 2).isLt
  refine ⟨⟨3 * (i 0).val + (i 2).val / 896, by omega⟩, i 1, ⟨(i 2).val % 896, Nat.mod_lt _ (by decide)⟩, place_o _ _ _ _ ?_ rfl ?_⟩
  · show (i 0).val = (3 * (i 0).val + (i 2).val / 896) / 3; omega
  · show (i 2).val = 896 * ((3 * (i 0).val + (i 2).val / 896) % 3) + (i 2).val % 896; omega

/-- Where an element of a point's block stands in the result. -/
theorem sits (t : Fin (cfgM m hO).N) (r : Fin 1024) (q : Fin 896) :
    (((cfgM m hO).win 2).blk t).view.emb (ix3 0 r q) = ix3 (slabOf t) r (stripOf t q) :=
  place_o _ _ _ _
    (by show cc0_transform_2 (grid0.coords t) 0 * 1 + 1 * 0 = t.val / 3; rw [(stands t).2.1]; omega)
    (by show cc0_transform_2 (grid0.coords t) 1 * 1024 + 1 * r.val = r.val; rw [(stands t).2.2.1]; omega)
    (by show cc0_transform_2 (grid0.coords t) 2 * 896 + 1 * q.val = 896 * (t.val % 3) + q.val; rw [(stands t).2.2.2]; omega)

/-- The kernel's result. -/
abbrev outArr : S4x1024x2688.Idx → EReal := (dats m hO 0 c).arrAt 2 (cfgM m hO).N

theorem at_point (t : Fin (cfgM m hO).N) :
    (((cfgM m hO).win 2).blk t).view.read (Elt Ideal) ((dats m hO 0 c).arrAt 2 (cfgM m hO).N) = (dats m hO 0 c).flushed 2 t := by
  refine (dats m hO 0 c).read_blk_arrAt_eq_flushed 2 ?_ (cfgM m hO).N t t.isLt ?_
  · exact fun t t' _ _ h => apart m hO t t' h
  · exact flush0_2 (adm m hO) t

theorem read_block (A : S4x1024x2688.Idx → EReal) (t : Fin (cfgM m hO).N) (y : S1x1024x896.Idx) :
    (((cfgM m hO).win 2).blk t).view.read (Elt Ideal) A y = A ((((cfgM m hO).win 2).blk t).view.emb y) := View.read_apply _ _

theorem at_block (A : S4x1024x2688.Idx → EReal) (t : Fin (cfgM m hO).N) (B : S1x1024x896.Idx → EReal)
    (h : (((cfgM m hO).win 2).blk t).view.read (Elt Ideal) A = B) (r : Fin 1024) (q : Fin 896) : A (ix3 (slabOf t) r (stripOf t q)) = B (ix3 0 r q) :=
  (congrArg A (sits m hO t r q)).symm.trans ((read_block m hO A t (ix3 0 r q)).symm.trans (congrFun h (ix3 0 r q)))

theorem final2 : outArr m hO c = fun i => grad (hIn m c) (dIn m c) (rowOf (halfNo m) hh (i 1)) (colOf (i 0) (i 2)) := by
  funext i
  obtain ⟨t, r, q, rfl⟩ := split i
  exact (at_block m hO (outArr m hO c) t _ (at_point m hO c t) r q).trans (written m hO hh c t r q)

end Cert.Kernel10Ideal.Wgrad

namespace Cert.Reference10Ideal.Wgrad

open Cert.Reference10Ideal Cert.Reference10Ideal.Read Idealize.ShloMosaic
open Cert.Kernel10Ideal.Wgrad (grad rowOf colOf)

variable (h : S4096x2048.Idx → EReal) (d : S4096x10752.Idx → EReal) (x : S1.Idx → BitVec 32)

theorem product_eq (i : S2048x10752.Idx) : val_main_v4 (F := Ideal) h d i = grad h d (i 0) (i 1) := by
  refine (val_main_v4_apply (F := Ideal) h d i).trans ?_
  refine (val_main_v3_apply h d i).trans (Finset.sum_congr rfl fun k _ => ?_)
  rw [val_main_v1_apply, val_main_v0_apply, val_main_v2_apply]
  refine congr (congrArg HMul.hMul (congrArg h (funext fun a => ?_))) (congrArg d (funext fun a => ?_))
  · match a with
    | ⟨0, _⟩ => rfl
    | ⟨1, _⟩ => rfl
  · match a with
    | ⟨0, _⟩ => rfl
    | ⟨1, _⟩ => rfl

/-- The compared word. -/
theorem asked (i : S_.Idx) : val_main_v6 (F := Ideal) x i = BitVec.ofBool (x (ix1 0) == 1#32) := by
  rw [val_main_v6_apply]
  exact congrArg (fun y => BitVec.ofBool (y == 1#32)) (congrArg x (@Subsingleton.elim Cert.Pre_is_half.S1.Idx _ _ _))

/-- The half asked for. -/
theorem half_rows (hx : x (ix1 0) = 0#32 ∨ x (ix1 0) = 1#32) (ha : (x (ix1 0)).toNat < 2) (i : S1024x10752.Idx) :
    val_main_v9 (F := Ideal) h d x i = grad h d (rowOf (x (ix1 0)).toNat ha (i 0)) (i 1) := by
  have e : val_main_v9 (F := Ideal) h d x i
      = if BitVec.ofBool (x (ix1 0) == 1#32) = 1#1 then val_main_v7 (F := Ideal) h d i else val_main_v8 (F := Ideal) h d i := by
    rw [← asked x (fun k => k.elim0)]
    have hb : broadcastInDim S1024x10752 ![] Gen.bcast_S_S1024x10752 (val_main_v6 (F := Ideal) x) i = val_main_v6 (F := Ideal) x (fun k => k.elim0) :=
      congrArg (val_main_v6 (F := Ideal) x) (funext fun k => k.elim0)
    rw [← hb]
    rfl
  rw [e]
  rcases hx with h0 | h1
  · have hn : (x (ix1 0)).toNat = 0 := by rw [h0]; rfl
    rw [if_neg (by rw [h0]; decide), val_main_v8_apply, product_eq]
    exact congrArg₂ (grad h d) (Fin.ext (by show (i 0).val = 1024 * (x (ix1 0)).toNat + (i 0).val; omega)) rfl
  · have hn : (x (ix1 0)).toNat = 1 := by rw [h1]; rfl
    rw [if_pos (by rw [h1]; decide), val_main_v7_apply, product_eq]
    exact congrArg₂ (grad h d) (Fin.ext (by show 1024 + (i 0).val = 1024 * (x (ix1 0)).toNat + (i 0).val; omega)) rfl

theorem result_eq (hx : x (ix1 0) = 0#32 ∨ x (ix1 0) = 1#32) (ha : (x (ix1 0)).toNat < 2) :
    val_main_v11 (F := Ideal) h d x = fun i => grad h d (rowOf (x (ix1 0)).toNat ha (i 1)) (colOf (i 0) (i 2)) := by
  funext i
  have h0 : (i 0).val < 4 := (i 0).isLt
  have h1 : (i 1).val < 1024 := (i 1).isLt
  have h2 : (i 2).val < 2688 := (i 2).isLt
  rw [val_main_v11_apply, val_main_v10_apply, half_rows h d x hx ha]
  refine congrArg₂ (grad h d) (congrArg (rowOf _ ha) (Fin.ext ?_)) (Fin.ext ?_)
  · show (((i 1).val * 4 + (i 0).val) * 2688 + (i 2).val) / 10752 = (i 1).val; omega
  · show (((i 1).val * 4 + (i 0).val) * 2688 + (i 2).val) % 10752 = 2688 * (i 0).val + (i 2).val; omega

end Cert.Reference10Ideal.Wgrad

namespace Cert.Proof

open Idealize.ShloMosaic Idealize.ShloMosaic.TcCoe Idealize.SL.Sem

theorem wgrad_frame_bits : Cert.quiescent_Kernel10 (hKernel10 := Cert.Kernel10.Gen.facts) (hPre_is_half := Cert.Wgrad.halfFacts) :=
  fun m ρ h => Cert.Kernel10.Gen.frame m ρ (Cert.Kernel10.Wgrad.inside m h)

theorem wgrad_frame_ideal : Cert.quiescent_Kernel10Ideal (hKernel10Ideal := Cert.Kernel10Ideal.Gen.facts) (hPre_is_half := Cert.Wgrad.halfFacts) :=
  fun m ρ h => Cert.Kernel10Ideal.Gen.frame m ρ (Cert.Kernel10Ideal.Wgrad.inside m h)

/-- The reference runs, keeps its arguments, and leaves every semaphore at zero. -/
theorem wgrad_reference_frame : Cert.quiescent_Reference10Ideal (hReference10Ideal := Cert.Reference10Ideal.Gen.facts) :=
  fun m ρ _ => (θ_run Cert.Reference10Ideal.defs _ _).mono
    (fun r h => ⟨fun c => (h c).2, Idealize.ShloMosaic.sem_eq_zero_of_no_sems (by decide) r.2⟩)
    (Cert.Reference10Ideal.Value.run (F := Ideal) m ρ)

theorem wgrad_reference_frame_half : Cert.quiescent_Reference10Ideal_pre_is_half (hReference10Ideal := Cert.Reference10Ideal.Gen.facts)
    (hPre_is_half := Cert.Wgrad.halfFacts) := fun m ρ _ => wgrad_reference_frame m ρ trivial

section Run

open Cert.Kernel10Ideal Cert.Kernel10Ideal.Gen

/-- The kernel's run: its result named, its arguments kept. -/
theorem wgrad_run (m : (ℓ : Loc nD τ sig) → Buf (Elt Ideal) ℓ) (ρ : Dev nD → PrngReg) (hO : Ok m) :
    θ_run defs (onTc (τ := τ) (main (F := Ideal))) ⟨m, fun _ => 0, ρ⟩ (fun r => ∀ c : Dev nD,
      r.2.mem ((c : Thread nD τ).loc main_v0) = Cert.Kernel10Ideal.Wgrad.outArr m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun r h c => ⟨(h.1 c).1 2, h.2 c⟩) (θ_run_and (run_main m ρ hO) (unchanged m ρ hO))

end Run

/-- The kernel's half of the weight gradient is the reference's. -/
theorem wgrad_algebraic : Cert.algebraic_Kernel10Ideal_Reference10Ideal (hKernel10Ideal := Cert.Kernel10Ideal.Gen.facts)
    (hReference10Ideal := Cert.Reference10Ideal.Gen.facts) (hPre_is_half := Cert.Wgrad.halfFacts) := by
  intro m ρ m' ρ' hpre hagree
  have hO := Cert.Kernel10Ideal.Wgrad.inside m hpre
  have hh := Cert.Kernel10Ideal.Wgrad.half_lt m hpre
  refine ⟨_, wgrad_run m ρ hO, ?_⟩
  refine (θ_run Cert.Reference10Ideal.defs _ _).mono
    (fun _ h c => ⟨(h c).1.trans ((Cert.Reference10Ideal.Read.val_main_v11_eq _ _ _).trans ?_), (h c).2⟩)
    (Cert.Reference10Ideal.Value.run (F := Ideal) m' ρ')
  obtain rfl : c = 0 := Subsingleton.elim _ _
  rw [(hagree 0).1, (hagree 0).2.1, (hagree 0).2.2]
  exact (Cert.Reference10Ideal.Wgrad.result_eq _ _ _ (Cert.Wgrad.half_of _ _ _ (hpre 0) (ix1 0)) hh).trans
    (Cert.Kernel10Ideal.Wgrad.final2 m hO hh 0).symm

end Cert.Proof

end
-- ==== Proof.lean ====
/- The claims of this certificate, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.PostClaims
public import proofs.«01_k».proof.Proof.MergeClaims
public import proofs.«01_k».proof.Proof.RmsClaims
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel2Ideal.Value
public import proofs.«01_k».proof.Proof.Gen.Kernel4
public import proofs.«01_k».proof.Proof.Gen.Kernel4Ideal
public import proofs.«01_k».proof.Proof.Gen.Kernel4Ideal.Frame.RunD
public import proofs.«01_k».proof.Proof.AttnFrame
public import proofs.«01_k».proof.Proof.AttnClaims
public import proofs.«01_k».proof.Proof.AttnFinite
public import proofs.«01_k».proof.Proof.AttnValueClaims
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.FwdClaims
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.JoinClaims
public import proofs.«01_k».proof.Proof.Gen.Kernel7
public import proofs.«01_k».proof.Proof.Gen.Kernel7Ideal
public import proofs.«01_k».proof.Proof.Gen.Kernel7.Frame
public import proofs.«01_k».proof.Proof.Gen.Kernel7Ideal.Frame
public import proofs.«01_k».proof.Proof.Gen.Reference7Ideal
public import proofs.«01_k».proof.Proof.HgrnClaims
public import proofs.«01_k».proof.Proof.Gen.Pre_gate_bounds
public import proofs.«01_k».proof.Proof.Gen.Kernel7Ideal.Value
public import proofs.«01_k».proof.Proof.Gen.Reference7Ideal.Step
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.UpdateClaims
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.ProductClaims
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.WgradClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts, Cert.Attn.finiteFacts, Cert.AttnFwd.inputFacts,
  Cert.Hgrn.boundFacts, Cert.Wgrad.halfFacts,
  fun m ρ _ => Cert.Kernel.Gen.frame m ρ,
  fun m ρ _ => Cert.KernelIdeal.Gen.frame m ρ,
  post_reference_frame,
  fun m ρ _ => Cert.Kernel2.Gen.frame m ρ,
  fun m ρ _ => Cert.Kernel2Ideal.Gen.frame m ρ,
  merge_reference_frame,
  fun m ρ _ => Cert.Kernel3.Gen.frame m ρ,
  fun m ρ _ => Cert.Kernel3Ideal.Gen.frame m ρ,
  rms_reference_frame,
  attn_frame_bits,
  attn_frame_ideal,
  attn_frame_finite,
  attn_reference_frame,
  attn_reference_frame_finite,
  fun m ρ _ => Cert.Kernel5.Gen.frame m ρ,
  fun m ρ _ => Cert.Kernel5Ideal.Gen.frame m ρ,
  fwd_frame_finite,
  fwd_reference_frame,
  fwd_reference_frame_finite,
  fun m ρ _ => Cert.Kernel6.Gen.frame m ρ,
  fun m ρ _ => Cert.Kernel6Ideal.Gen.frame m ρ,
  join_reference_frame,
  fun m ρ _ => Cert.Kernel7.Gen.frame m ρ,
  fun m ρ _ => Cert.Kernel7Ideal.Gen.frame m ρ,
  hgrn_frame_bounds,
  hgrn_reference_frame,
  hgrn_reference_frame_bounds,
  fun m ρ _ => Cert.Kernel8.Gen.frame m ρ,
  fun m ρ _ => Cert.Kernel8Ideal.Gen.frame m ρ,
  update_reference_frame,
  fun m ρ _ => Cert.Kernel9.Gen.frame m ρ,
  fun m ρ _ => Cert.Kernel9Ideal.Gen.frame m ρ,
  product_reference_frame,
  wgrad_frame_bits,
  wgrad_frame_ideal,
  wgrad_reference_frame,
  wgrad_reference_frame_half,
  trivial,
  post_algebraic,
  trivial,
  merge_algebraic,
  trivial,
  rms_algebraic,
  trivial,
  attn_algebraic,
  fwd_preserves,
  fwd_algebraic,
  trivial,
  join_algebraic,
  trivial,
  hgrn_algebraic,
  trivial,
  update_algebraic,
  trivial,
  product_algebraic,
  trivial,
  wgrad_algebraic⟩

end Cert.Proof

end
